-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInRefIdeal (m : (ℓ : Loc Cert.RetInRefIdeal.nD Cert.RetInRefIdeal.τ Cert.RetInRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_MlstmIn (m : (ℓ : Loc Cert.MlstmIn.nD Cert.MlstmIn.τ Cert.MlstmIn.sig) → Buf (Elt Bits) ℓ) : Prop :=
  True

def Pre_MlstmInIdeal (m : (ℓ : Loc Cert.MlstmInIdeal.nD Cert.MlstmInIdeal.τ Cert.MlstmInIdeal.sig) → Buf (Elt Ideal) ℓ) : Prop :=
  True

def Pre_MlstmInRefIdeal (m : (ℓ : Loc Cert.MlstmInRefIdeal.nD Cert.MlstmInRefIdeal.τ Cert.MlstmInRefIdeal.sig) → Buf (Elt Ideal) ℓ) : Prop :=
  True

def Pre_RwkvIn (m : (ℓ : Loc Cert.RwkvIn.nD Cert.RwkvIn.τ Cert.RwkvIn.sig) → Buf (Elt Bits) ℓ) : Prop :=
  True

def Pre_RwkvInIdeal (m : (ℓ : Loc Cert.RwkvInIdeal.nD Cert.RwkvInIdeal.τ Cert.RwkvInIdeal.sig) → Buf (Elt Ideal) ℓ) : Prop :=
  True

def Pre_RwkvInRefIdeal (m : (ℓ : Loc Cert.RwkvInRefIdeal.nD Cert.RwkvInRefIdeal.τ Cert.RwkvInRefIdeal.sig) → Buf (Elt Ideal) ℓ) : Prop :=
  True

def Pre_MlstmOut (m : (ℓ : Loc Cert.MlstmOut.nD Cert.MlstmOut.τ Cert.MlstmOut.sig) → Buf (Elt Bits) ℓ) : Prop :=
  True

def Pre_MlstmOutIdeal (m : (ℓ : Loc Cert.MlstmOutIdeal.nD Cert.MlstmOutIdeal.τ Cert.MlstmOutIdeal.sig) → Buf (Elt Ideal) ℓ) : Prop :=
  True

def Pre_MlstmOutRefIdeal (m : (ℓ : Loc Cert.MlstmOutRefIdeal.nD Cert.MlstmOutRefIdeal.τ Cert.MlstmOutRefIdeal.sig) → Buf (Elt Ideal) ℓ) : Prop :=
  True

def Pre_RwkvOut (m : (ℓ : Loc Cert.RwkvOut.nD Cert.RwkvOut.τ Cert.RwkvOut.sig) → Buf (Elt Bits) ℓ) : Prop :=
  True

def Pre_RwkvOutIdeal (m : (ℓ : Loc Cert.RwkvOutIdeal.nD Cert.RwkvOutIdeal.τ Cert.RwkvOutIdeal.sig) → Buf (Elt Ideal) ℓ) : Prop :=
  True

def Pre_RwkvOutRefIdeal (m : (ℓ : Loc Cert.RwkvOutRefIdeal.nD Cert.RwkvOutRefIdeal.τ Cert.RwkvOutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_ModVec (m : (ℓ : Loc Cert.ModVec.nD Cert.ModVec.τ Cert.ModVec.sig) → Buf (Elt Bits) ℓ) : Prop :=
  True

def Pre_ModVecIdeal (m : (ℓ : Loc Cert.ModVecIdeal.nD Cert.ModVecIdeal.τ Cert.ModVecIdeal.sig) → Buf (Elt Ideal) ℓ) : Prop :=
  True

def Pre_ModVecIdeal_below_infinity [hPre_below_infinity : Cert.Pre_below_infinity.Facts] (m : (ℓ : Loc Cert.ModVecIdeal.nD Cert.ModVecIdeal.τ Cert.ModVecIdeal.sig) → Buf (Elt Ideal) ℓ) : Prop :=
  ∀ c : Dev Cert.ModVecIdeal.nD,
    (Cert.Pre_below_infinity.fn (F := Ideal) (m ((c.tc : Thread Cert.ModVecIdeal.nD Cert.ModVecIdeal.τ).loc Cert.ModVecIdeal.main_arg0)) (m ((c.tc : Thread Cert.ModVecIdeal.nD Cert.ModVecIdeal.τ).loc Cert.ModVecIdeal.main_arg1)) (m ((c.tc : Thread Cert.ModVecIdeal.nD Cert.ModVecIdeal.τ).loc Cert.ModVecIdeal.main_arg2))) = (fun _ => 1#1)

def Pre_ModVecRefIdeal (m : (ℓ : Loc Cert.ModVecRefIdeal.nD Cert.ModVecRefIdeal.τ Cert.ModVecRefIdeal.sig) → Buf (Elt Ideal) ℓ) : Prop :=
  True

def Pre_ModVecRefIdeal_below_infinity [hPre_below_infinity : Cert.Pre_below_infinity.Facts] (m : (ℓ : Loc Cert.ModVecRefIdeal.nD Cert.ModVecRefIdeal.τ Cert.ModVecRefIdeal.sig) → Buf (Elt Ideal) ℓ) : Prop :=
  ∀ c : Dev Cert.ModVecRefIdeal.nD,
    (Cert.Pre_below_infinity.fn (F := Ideal) (m ((c.tc : Thread Cert.ModVecRefIdeal.nD Cert.ModVecRefIdeal.τ).loc Cert.ModVecRefIdeal.main_arg0)) (m ((c.tc : Thread Cert.ModVecRefIdeal.nD Cert.ModVecRefIdeal.τ).loc Cert.ModVecRefIdeal.main_arg1)) (m ((c.tc : Thread Cert.ModVecRefIdeal.nD Cert.ModVecRefIdeal.τ).loc Cert.ModVecRefIdeal.main_arg2))) = (fun _ => 1#1)

def Pre_FinMod (m : (ℓ : Loc Cert.FinMod.nD Cert.FinMod.τ Cert.FinMod.sig) → Buf (Elt Bits) ℓ) : Prop :=
  True

def Pre_FinModIdeal (m : (ℓ : Loc Cert.FinModIdeal.nD Cert.FinModIdeal.τ Cert.FinModIdeal.sig) → Buf (Elt Ideal) ℓ) : Prop :=
  True

def Pre_FinModIdeal_below_infinity_final [hPre_below_infinity_final : Cert.Pre_below_infinity_final.Facts] (m : (ℓ : Loc Cert.FinModIdeal.nD Cert.FinModIdeal.τ Cert.FinModIdeal.sig) → Buf (Elt Ideal) ℓ) : Prop :=
  ∀ c : Dev Cert.FinModIdeal.nD,
    (Cert.Pre_below_infinity_final.fn (F := Ideal) (m ((c.tc : Thread Cert.FinModIdeal.nD Cert.FinModIdeal.τ).loc Cert.FinModIdeal.main_arg0)) (m ((c.tc : Thread Cert.FinModIdeal.nD Cert.FinModIdeal.τ).loc Cert.FinModIdeal.main_arg1)) (m ((c.tc : Thread Cert.FinModIdeal.nD Cert.FinModIdeal.τ).loc Cert.FinModIdeal.main_arg2))) = (fun _ => 1#1)

def Pre_FinModRefIdeal (m : (ℓ : Loc Cert.FinModRefIdeal.nD Cert.FinModRefIdeal.τ Cert.FinModRefIdeal.sig) → Buf (Elt Ideal) ℓ) : Prop :=
  True

def Pre_FinModRefIdeal_below_infinity_final [hPre_below_infinity_final : Cert.Pre_below_infinity_final.Facts] (m : (ℓ : Loc Cert.FinModRefIdeal.nD Cert.FinModRefIdeal.τ Cert.FinModRefIdeal.sig) → Buf (Elt Ideal) ℓ) : Prop :=
  ∀ c : Dev Cert.FinModRefIdeal.nD,
    (Cert.Pre_below_infinity_final.fn (F := Ideal) (m ((c.tc : Thread Cert.FinModRefIdeal.nD Cert.FinModRefIdeal.τ).loc Cert.FinModRefIdeal.main_arg0)) (m ((c.tc : Thread Cert.FinModRefIdeal.nD Cert.FinModRefIdeal.τ).loc Cert.FinModRefIdeal.main_arg1)) (m ((c.tc : Thread Cert.FinModRefIdeal.nD Cert.FinModRefIdeal.τ).loc Cert.FinModRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1)
      ∧ r.2.mem ((c.tc : Thread Cert.RetIn.nD Cert.RetIn.τ).loc Cert.RetIn.main_arg2) = m ((c.tc : Thread Cert.RetIn.nD Cert.RetIn.τ).loc Cert.RetIn.main_arg2)
      ∧ r.2.mem ((c.tc : Thread Cert.RetIn.nD Cert.RetIn.τ).loc Cert.RetIn.main_arg3) = m ((c.tc : Thread Cert.RetIn.nD Cert.RetIn.τ).loc Cert.RetIn.main_arg3))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
      ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
      ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3))
      ∧ r.2.sem = fun _ => 0)

def quiescent_RetInRefIdeal [hRetInRefIdeal : Cert.RetInRefIdeal.Facts] : Prop :=
  ∀ (m : (ℓ : Loc Cert.RetInRefIdeal.nD Cert.RetInRefIdeal.τ Cert.RetInRefIdeal.sig) → Buf (Elt Ideal) ℓ) (g : Dev Cert.RetInRefIdeal.nD → PrngReg), Pre_RetInRefIdeal m →
    θ_run (Cert.RetInRefIdeal.defs (F := Ideal)) (onTc (τ := Cert.RetInRefIdeal.τ) (Cert.RetInRefIdeal.main (F := Ideal))) ⟨m, fun _ => 0, g⟩ (fun r => (∀ c : Dev Cert.RetInRefIdeal.nD,
      r.2.mem ((c.tc : Thread Cert.RetInRefIdeal.nD Cert.RetInRefIdeal.τ).loc Cert.RetInRefIdeal.main_arg0) = m ((c.tc : Thread Cert.RetInRefIdeal.nD Cert.RetInRefIdeal.τ).loc Cert.RetInRefIdeal.main_arg0)
      ∧ r.2.mem ((c.tc : Thread Cert.RetInRefIdeal.nD Cert.RetInRefIdeal.τ).loc Cert.RetInRefIdeal.main_arg1) = m ((c.tc : Thread Cert.RetInRefIdeal.nD Cert.RetInRefIdeal.τ).loc Cert.RetInRefIdeal.main_arg1)
      ∧ r.2.mem ((c.tc : Thread Cert.RetInRefIdeal.nD Cert.RetInRefIdeal.τ).loc Cert.RetInRefIdeal.main_arg2) = m ((c.tc : Thread Cert.RetInRefIdeal.nD Cert.RetInRefIdeal.τ).loc Cert.RetInRefIdeal.main_arg2)
      ∧ r.2.mem ((c.tc : Thread Cert.RetInRefIdeal.nD Cert.RetInRefIdeal.τ).loc Cert.RetInRefIdeal.main_arg3) = m ((c.tc : Thread Cert.RetInRefIdeal.nD Cert.RetInRefIdeal.τ).loc Cert.RetInRefIdeal.main_arg3))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3))
      ∧ r.2.sem = fun _ => 0)

def quiescent_MlstmIn [hMlstmIn : Cert.MlstmIn.Facts] : Prop :=
  ∀ (m : (ℓ : Loc Cert.MlstmIn.nD Cert.MlstmIn.τ Cert.MlstmIn.sig) → Buf (Elt Bits) ℓ) (g : Dev Cert.MlstmIn.nD → PrngReg), Pre_MlstmIn m →
    θ_run (Cert.MlstmIn.defs (F := Bits)) (onTc (τ := Cert.MlstmIn.τ) (Cert.MlstmIn.main (F := Bits))) ⟨m, fun _ => 0, g⟩ (fun r => (∀ c : Dev Cert.MlstmIn.nD,
      r.2.mem ((c.tc : Thread Cert.MlstmIn.nD Cert.MlstmIn.τ).loc Cert.MlstmIn.main_arg0) = m ((c.tc : Thread Cert.MlstmIn.nD Cert.MlstmIn.τ).loc Cert.MlstmIn.main_arg0)
      ∧ r.2.mem ((c.tc : Thread Cert.MlstmIn.nD Cert.MlstmIn.τ).loc Cert.MlstmIn.main_arg1) = m ((c.tc : Thread Cert.MlstmIn.nD Cert.MlstmIn.τ).loc Cert.MlstmIn.main_arg1)
      ∧ r.2.mem ((c.tc : Thread Cert.MlstmIn.nD Cert.MlstmIn.τ).loc Cert.MlstmIn.main_arg2) = m ((c.tc : Thread Cert.MlstmIn.nD Cert.MlstmIn.τ).loc Cert.MlstmIn.main_arg2)
      ∧ r.2.mem ((c.tc : Thread Cert.MlstmIn.nD Cert.MlstmIn.τ).loc Cert.MlstmIn.main_arg3) = m ((c.tc : Thread Cert.MlstmIn.nD Cert.MlstmIn.τ).loc Cert.MlstmIn.main_arg3))
      ∧ r.2.sem = fun _ => 0)

def quiescent_MlstmInIdeal [hMlstmInIdeal : Cert.MlstmInIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg), Pre_MlstmInIdeal m →
    θ_run (Cert.MlstmInIdeal.defs (F := Ideal)) (onTc (τ := Cert.MlstmInIdeal.τ) (Cert.MlstmInIdeal.main (F := Ideal))) ⟨m, fun _ => 0, g⟩ (fun r => (∀ c : Dev Cert.MlstmInIdeal.nD,
      r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
      ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1)
      ∧ r.2.mem ((c.tc : Thread Cert.MlstmInIdeal.nD Cert.MlstmInIdeal.τ).loc Cert.MlstmInIdeal.main_arg2) = m ((c.tc : Thread Cert.MlstmInIdeal.nD Cert.MlstmInIdeal.τ).loc Cert.MlstmInIdeal.main_arg2)
      ∧ r.2.mem ((c.tc : Thread Cert.MlstmInIdeal.nD Cert.MlstmInIdeal.τ).loc Cert.MlstmInIdeal.main_arg3) = m ((c.tc : Thread Cert.MlstmInIdeal.nD Cert.MlstmInIdeal.τ).loc Cert.MlstmInIdeal.main_arg3))
      ∧ r.2.sem = fun _ => 0)

def quiescent_MlstmInRefIdeal [hMlstmInRefIdeal : Cert.MlstmInRefIdeal.Facts] : Prop :=
  ∀ (m : (ℓ : Loc Cert.MlstmInRefIdeal.nD Cert.MlstmInRefIdeal.τ Cert.MlstmInRefIdeal.sig) → Buf (Elt Ideal) ℓ) (g : Dev Cert.MlstmInRefIdeal.nD → PrngReg), Pre_MlstmInRefIdeal m →
    θ_run (Cert.MlstmInRefIdeal.defs (F := Ideal)) (onTc (τ := Cert.MlstmInRefIdeal.τ) (Cert.MlstmInRefIdeal.main (F := Ideal))) ⟨m, fun _ => 0, g⟩ (fun r => (∀ c : Dev Cert.MlstmInRefIdeal.nD,
      r.2.mem ((c.tc : Thread Cert.MlstmInRefIdeal.nD Cert.MlstmInRefIdeal.τ).loc Cert.MlstmInRefIdeal.main_arg0) = m ((c.tc : Thread Cert.MlstmInRefIdeal.nD Cert.MlstmInRefIdeal.τ).loc Cert.MlstmInRefIdeal.main_arg0)
      ∧ r.2.mem ((c.tc : Thread Cert.MlstmInRefIdeal.nD Cert.MlstmInRefIdeal.τ).loc Cert.MlstmInRefIdeal.main_arg1) = m ((c.tc : Thread Cert.MlstmInRefIdeal.nD Cert.MlstmInRefIdeal.τ).loc Cert.MlstmInRefIdeal.main_arg1)
      ∧ r.2.mem ((c.tc : Thread Cert.MlstmInRefIdeal.nD Cert.MlstmInRefIdeal.τ).loc Cert.MlstmInRefIdeal.main_arg2) = m ((c.tc : Thread Cert.MlstmInRefIdeal.nD Cert.MlstmInRefIdeal.τ).loc Cert.MlstmInRefIdeal.main_arg2)
      ∧ r.2.mem ((c.tc : Thread Cert.MlstmInRefIdeal.nD Cert.MlstmInRefIdeal.τ).loc Cert.MlstmInRefIdeal.main_arg3) = m ((c.tc : Thread Cert.MlstmInRefIdeal.nD Cert.MlstmInRefIdeal.τ).loc Cert.MlstmInRefIdeal.main_arg3))
      ∧ r.2.sem = fun _ => 0)

def quiescent_RwkvIn [hRwkvIn : Cert.RwkvIn.Facts] : Prop :=
  ∀ (m : (ℓ : Loc Cert.RwkvIn.nD Cert.RwkvIn.τ Cert.RwkvIn.sig) → Buf (Elt Bits) ℓ) (g : Dev Cert.RwkvIn.nD → PrngReg), Pre_RwkvIn m →
    θ_run (Cert.RwkvIn.defs (F := Bits)) (onTc (τ := Cert.RwkvIn.τ) (Cert.RwkvIn.main (F := Bits))) ⟨m, fun _ => 0, g⟩ (fun r => (∀ c : Dev Cert.RwkvIn.nD,
      r.2.mem ((c.tc : Thread Cert.RwkvIn.nD Cert.RwkvIn.τ).loc Cert.RwkvIn.main_arg0) = m ((c.tc : Thread Cert.RwkvIn.nD Cert.RwkvIn.τ).loc Cert.RwkvIn.main_arg0)
      ∧ r.2.mem ((c.tc : Thread Cert.RwkvIn.nD Cert.RwkvIn.τ).loc Cert.RwkvIn.main_arg1) = m ((c.tc : Thread Cert.RwkvIn.nD Cert.RwkvIn.τ).loc Cert.RwkvIn.main_arg1)
      ∧ r.2.mem ((c.tc : Thread Cert.RwkvIn.nD Cert.RwkvIn.τ).loc Cert.RwkvIn.main_arg2) = m ((c.tc : Thread Cert.RwkvIn.nD Cert.RwkvIn.τ).loc Cert.RwkvIn.main_arg2)
      ∧ r.2.mem ((c.tc : Thread Cert.RwkvIn.nD Cert.RwkvIn.τ).loc Cert.RwkvIn.main_arg3) = m ((c.tc : Thread Cert.RwkvIn.nD Cert.RwkvIn.τ).loc Cert.RwkvIn.main_arg3))
      ∧ r.2.sem = fun _ => 0)

def quiescent_RwkvInIdeal [hRwkvInIdeal : Cert.RwkvInIdeal.Facts] : Prop :=
  ∀ (m : (ℓ : Loc Cert.RwkvInIdeal.nD Cert.RwkvInIdeal.τ Cert.RwkvInIdeal.sig) → Buf (Elt Ideal) ℓ) (g : Dev Cert.RwkvInIdeal.nD → PrngReg), Pre_RwkvInIdeal m →
    θ_run (Cert.RwkvInIdeal.defs (F := Ideal)) (onTc (τ := Cert.RwkvInIdeal.τ) (Cert.RwkvInIdeal.main (F := Ideal))) ⟨m, fun _ => 0, g⟩ (fun r => (∀ c : Dev Cert.RwkvInIdeal.nD,
      r.2.mem ((c.tc : Thread Cert.RwkvInIdeal.nD Cert.RwkvInIdeal.τ).loc Cert.RwkvInIdeal.main_arg0) = m ((c.tc : Thread Cert.RwkvInIdeal.nD Cert.RwkvInIdeal.τ).loc Cert.RwkvInIdeal.main_arg0)
      ∧ r.2.mem ((c.tc : Thread Cert.RwkvInIdeal.nD Cert.RwkvInIdeal.τ).loc Cert.RwkvInIdeal.main_arg1) = m ((c.tc : Thread Cert.RwkvInIdeal.nD Cert.RwkvInIdeal.τ).loc Cert.RwkvInIdeal.main_arg1)
      ∧ r.2.mem ((c.tc : Thread Cert.RwkvInIdeal.nD Cert.RwkvInIdeal.τ).loc Cert.RwkvInIdeal.main_arg2) = m ((c.tc : Thread Cert.RwkvInIdeal.nD Cert.RwkvInIdeal.τ).loc Cert.RwkvInIdeal.main_arg2)
      ∧ r.2.mem ((c.tc : Thread Cert.RwkvInIdeal.nD Cert.RwkvInIdeal.τ).loc Cert.RwkvInIdeal.main_arg3) = m ((c.tc : Thread Cert.RwkvInIdeal.nD Cert.RwkvInIdeal.τ).loc Cert.RwkvInIdeal.main_arg3))
      ∧ r.2.sem = fun _ => 0)

def quiescent_RwkvInRefIdeal [hRwkvInRefIdeal : Cert.RwkvInRefIdeal.Facts] : Prop :=
  ∀ (m : (ℓ : Loc Cert.RwkvInRefIdeal.nD Cert.RwkvInRefIdeal.τ Cert.RwkvInRefIdeal.sig) → Buf (Elt Ideal) ℓ) (g : Dev Cert.RwkvInRefIdeal.nD → PrngReg), Pre_RwkvInRefIdeal m →
    θ_run (Cert.RwkvInRefIdeal.defs (F := Ideal)) (onTc (τ := Cert.RwkvInRefIdeal.τ) (Cert.RwkvInRefIdeal.main (F := Ideal))) ⟨m, fun _ => 0, g⟩ (fun r => (∀ c : Dev Cert.RwkvInRefIdeal.nD,
      r.2.mem ((c.tc : Thread Cert.RwkvInRefIdeal.nD Cert.RwkvInRefIdeal.τ).loc Cert.RwkvInRefIdeal.main_arg0) = m ((c.tc : Thread Cert.RwkvInRefIdeal.nD Cert.RwkvInRefIdeal.τ).loc Cert.RwkvInRefIdeal.main_arg0)
      ∧ r.2.mem ((c.tc : Thread Cert.RwkvInRefIdeal.nD Cert.RwkvInRefIdeal.τ).loc Cert.RwkvInRefIdeal.main_arg1) = m ((c.tc : Thread Cert.RwkvInRefIdeal.nD Cert.RwkvInRefIdeal.τ).loc Cert.RwkvInRefIdeal.main_arg1)
      ∧ r.2.mem ((c.tc : Thread Cert.RwkvInRefIdeal.nD Cert.RwkvInRefIdeal.τ).loc Cert.RwkvInRefIdeal.main_arg2) = m ((c.tc : Thread Cert.RwkvInRefIdeal.nD Cert.RwkvInRefIdeal.τ).loc Cert.RwkvInRefIdeal.main_arg2)
      ∧ r.2.mem ((c.tc : Thread Cert.RwkvInRefIdeal.nD Cert.RwkvInRefIdeal.τ).loc Cert.RwkvInRefIdeal.main_arg3) = m ((c.tc : Thread Cert.RwkvInRefIdeal.nD Cert.RwkvInRefIdeal.τ).loc Cert.RwkvInRefIdeal.main_arg3))
      ∧ r.2.sem = fun _ => 0)

def quiescent_MlstmOut [hMlstmOut : Cert.MlstmOut.Facts] : Prop :=
  ∀ (m : (ℓ : Loc Cert.MlstmOut.nD Cert.MlstmOut.τ Cert.MlstmOut.sig) → Buf (Elt Bits) ℓ) (g : Dev Cert.MlstmOut.nD → PrngReg), Pre_MlstmOut m →
    θ_run (Cert.MlstmOut.defs (F := Bits)) (onTc (τ := Cert.MlstmOut.τ) (Cert.MlstmOut.main (F := Bits))) ⟨m, fun _ => 0, g⟩ (fun r => (∀ c : Dev Cert.MlstmOut.nD,
      r.2.mem ((c.tc : Thread Cert.MlstmOut.nD Cert.MlstmOut.τ).loc Cert.MlstmOut.main_arg0) = m ((c.tc : Thread Cert.MlstmOut.nD Cert.MlstmOut.τ).loc Cert.MlstmOut.main_arg0)
      ∧ r.2.mem ((c.tc : Thread Cert.MlstmOut.nD Cert.MlstmOut.τ).loc Cert.MlstmOut.main_arg1) = m ((c.tc : Thread Cert.MlstmOut.nD Cert.MlstmOut.τ).loc Cert.MlstmOut.main_arg1)
      ∧ r.2.mem ((c.tc : Thread Cert.MlstmOut.nD Cert.MlstmOut.τ).loc Cert.MlstmOut.main_arg2) = m ((c.tc : Thread Cert.MlstmOut.nD Cert.MlstmOut.τ).loc Cert.MlstmOut.main_arg2)
      ∧ r.2.mem ((c.tc : Thread Cert.MlstmOut.nD Cert.MlstmOut.τ).loc Cert.MlstmOut.main_arg3) = m ((c.tc : Thread Cert.MlstmOut.nD Cert.MlstmOut.τ).loc Cert.MlstmOut.main_arg3))
      ∧ r.2.sem = fun _ => 0)

def quiescent_MlstmOutIdeal [hMlstmOutIdeal : Cert.MlstmOutIdeal.Facts] : Prop :=
  ∀ (m : (ℓ : Loc Cert.MlstmOutIdeal.nD Cert.MlstmOutIdeal.τ Cert.MlstmOutIdeal.sig) → Buf (Elt Ideal) ℓ) (g : Dev Cert.MlstmOutIdeal.nD → PrngReg), Pre_MlstmOutIdeal m →
    θ_run (Cert.MlstmOutIdeal.defs (F := Ideal)) (onTc (τ := Cert.MlstmOutIdeal.τ) (Cert.MlstmOutIdeal.main (F := Ideal))) ⟨m, fun _ => 0, g⟩ (fun r => (∀ c : Dev Cert.MlstmOutIdeal.nD,
      r.2.mem ((c.tc : Thread Cert.MlstmOutIdeal.nD Cert.MlstmOutIdeal.τ).loc Cert.MlstmOutIdeal.main_arg0) = m ((c.tc : Thread Cert.MlstmOutIdeal.nD Cert.MlstmOutIdeal.τ).loc Cert.MlstmOutIdeal.main_arg0)
      ∧ r.2.mem ((c.tc : Thread Cert.MlstmOutIdeal.nD Cert.MlstmOutIdeal.τ).loc Cert.MlstmOutIdeal.main_arg1) = m ((c.tc : Thread Cert.MlstmOutIdeal.nD Cert.MlstmOutIdeal.τ).loc Cert.MlstmOutIdeal.main_arg1)
      ∧ r.2.mem ((c.tc : Thread Cert.MlstmOutIdeal.nD Cert.MlstmOutIdeal.τ).loc Cert.MlstmOutIdeal.main_arg2) = m ((c.tc : Thread Cert.MlstmOutIdeal.nD Cert.MlstmOutIdeal.τ).loc Cert.MlstmOutIdeal.main_arg2)
      ∧ r.2.mem ((c.tc : Thread Cert.MlstmOutIdeal.nD Cert.MlstmOutIdeal.τ).loc Cert.MlstmOutIdeal.main_arg3) = m ((c.tc : Thread Cert.MlstmOutIdeal.nD Cert.MlstmOutIdeal.τ).loc Cert.MlstmOutIdeal.main_arg3))
      ∧ r.2.sem = fun _ => 0)

def quiescent_MlstmOutRefIdeal [hMlstmOutRefIdeal : Cert.MlstmOutRefIdeal.Facts] : Prop :=
  ∀ (m : (ℓ : Loc Cert.MlstmOutRefIdeal.nD Cert.MlstmOutRefIdeal.τ Cert.MlstmOutRefIdeal.sig) → Buf (Elt Ideal) ℓ) (g : Dev Cert.MlstmOutRefIdeal.nD → PrngReg), Pre_MlstmOutRefIdeal m →
    θ_run (Cert.MlstmOutRefIdeal.defs (F := Ideal)) (onTc (τ := Cert.MlstmOutRefIdeal.τ) (Cert.MlstmOutRefIdeal.main (F := Ideal))) ⟨m, fun _ => 0, g⟩ (fun r => (∀ c : Dev Cert.MlstmOutRefIdeal.nD,
      r.2.mem ((c.tc : Thread Cert.MlstmOutRefIdeal.nD Cert.MlstmOutRefIdeal.τ).loc Cert.MlstmOutRefIdeal.main_arg0) = m ((c.tc : Thread Cert.MlstmOutRefIdeal.nD Cert.MlstmOutRefIdeal.τ).loc Cert.MlstmOutRefIdeal.main_arg0)
      ∧ r.2.mem ((c.tc : Thread Cert.MlstmOutRefIdeal.nD Cert.MlstmOutRefIdeal.τ).loc Cert.MlstmOutRefIdeal.main_arg1) = m ((c.tc : Thread Cert.MlstmOutRefIdeal.nD Cert.MlstmOutRefIdeal.τ).loc Cert.MlstmOutRefIdeal.main_arg1)
      ∧ r.2.mem ((c.tc : Thread Cert.MlstmOutRefIdeal.nD Cert.MlstmOutRefIdeal.τ).loc Cert.MlstmOutRefIdeal.main_arg2) = m ((c.tc : Thread Cert.MlstmOutRefIdeal.nD Cert.MlstmOutRefIdeal.τ).loc Cert.MlstmOutRefIdeal.main_arg2)
      ∧ r.2.mem ((c.tc : Thread Cert.MlstmOutRefIdeal.nD Cert.MlstmOutRefIdeal.τ).loc Cert.MlstmOutRefIdeal.main_arg3) = m ((c.tc : Thread Cert.MlstmOutRefIdeal.nD Cert.MlstmOutRefIdeal.τ).loc Cert.MlstmOutRefIdeal.main_arg3))
      ∧ r.2.sem = fun _ => 0)

def quiescent_RwkvOut [hRwkvOut : Cert.RwkvOut.Facts] : Prop :=
  ∀ (m : (ℓ : Loc Cert.RwkvOut.nD Cert.RwkvOut.τ Cert.RwkvOut.sig) → Buf (Elt Bits) ℓ) (g : Dev Cert.RwkvOut.nD → PrngReg), Pre_RwkvOut m →
    θ_run (Cert.RwkvOut.defs (F := Bits)) (onTc (τ := Cert.RwkvOut.τ) (Cert.RwkvOut.main (F := Bits))) ⟨m, fun _ => 0, g⟩ (fun r => (∀ c : Dev Cert.RwkvOut.nD,
      r.2.mem ((c.tc : Thread Cert.RwkvOut.nD Cert.RwkvOut.τ).loc Cert.RwkvOut.main_arg0) = m ((c.tc : Thread Cert.RwkvOut.nD Cert.RwkvOut.τ).loc Cert.RwkvOut.main_arg0)
      ∧ r.2.mem ((c.tc : Thread Cert.RwkvOut.nD Cert.RwkvOut.τ).loc Cert.RwkvOut.main_arg1) = m ((c.tc : Thread Cert.RwkvOut.nD Cert.RwkvOut.τ).loc Cert.RwkvOut.main_arg1)
      ∧ r.2.mem ((c.tc : Thread Cert.RwkvOut.nD Cert.RwkvOut.τ).loc Cert.RwkvOut.main_arg2) = m ((c.tc : Thread Cert.RwkvOut.nD Cert.RwkvOut.τ).loc Cert.RwkvOut.main_arg2)
      ∧ r.2.mem ((c.tc : Thread Cert.RwkvOut.nD Cert.RwkvOut.τ).loc Cert.RwkvOut.main_arg3) = m ((c.tc : Thread Cert.RwkvOut.nD Cert.RwkvOut.τ).loc Cert.RwkvOut.main_arg3))
      ∧ r.2.sem = fun _ => 0)

def quiescent_RwkvOutIdeal [hRwkvOutIdeal : Cert.RwkvOutIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg), Pre_RwkvOutIdeal m →
    θ_run (Cert.RwkvOutIdeal.defs (F := Ideal)) (onTc (τ := Cert.RwkvOutIdeal.τ) (Cert.RwkvOutIdeal.main (F := Ideal))) ⟨m, fun _ => 0, g⟩ (fun r => (∀ c : Dev Cert.RwkvOutIdeal.nD,
      r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
      ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
      ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
      ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3))
      ∧ r.2.sem = fun _ => 0)

def quiescent_RwkvOutRefIdeal [hRwkvOutRefIdeal : Cert.RwkvOutRefIdeal.Facts] : Prop :=
  ∀ (m : (ℓ : Loc Cert.RwkvOutRefIdeal.nD Cert.RwkvOutRefIdeal.τ Cert.RwkvOutRefIdeal.sig) → Buf (Elt Ideal) ℓ) (g : Dev Cert.RwkvOutRefIdeal.nD → PrngReg), Pre_RwkvOutRefIdeal m →
    θ_run (Cert.RwkvOutRefIdeal.defs (F := Ideal)) (onTc (τ := Cert.RwkvOutRefIdeal.τ) (Cert.RwkvOutRefIdeal.main (F := Ideal))) ⟨m, fun _ => 0, g⟩ (fun r => (∀ c : Dev Cert.RwkvOutRefIdeal.nD,
      r.2.mem ((c.tc : Thread Cert.RwkvOutRefIdeal.nD Cert.RwkvOutRefIdeal.τ).loc Cert.RwkvOutRefIdeal.main_arg0) = m ((c.tc : Thread Cert.RwkvOutRefIdeal.nD Cert.RwkvOutRefIdeal.τ).loc Cert.RwkvOutRefIdeal.main_arg0)
      ∧ r.2.mem ((c.tc : Thread Cert.RwkvOutRefIdeal.nD Cert.RwkvOutRefIdeal.τ).loc Cert.RwkvOutRefIdeal.main_arg1) = m ((c.tc : Thread Cert.RwkvOutRefIdeal.nD Cert.RwkvOutRefIdeal.τ).loc Cert.RwkvOutRefIdeal.main_arg1)
      ∧ r.2.mem ((c.tc : Thread Cert.RwkvOutRefIdeal.nD Cert.RwkvOutRefIdeal.τ).loc Cert.RwkvOutRefIdeal.main_arg2) = m ((c.tc : Thread Cert.RwkvOutRefIdeal.nD Cert.RwkvOutRefIdeal.τ).loc Cert.RwkvOutRefIdeal.main_arg2)
      ∧ r.2.mem ((c.tc : Thread Cert.RwkvOutRefIdeal.nD Cert.RwkvOutRefIdeal.τ).loc Cert.RwkvOutRefIdeal.main_arg3) = m ((c.tc : Thread Cert.RwkvOutRefIdeal.nD Cert.RwkvOutRefIdeal.τ).loc Cert.RwkvOutRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_ModVec [hModVec : Cert.ModVec.Facts] : Prop :=
  ∀ (m : (ℓ : Loc Cert.ModVec.nD Cert.ModVec.τ Cert.ModVec.sig) → Buf (Elt Bits) ℓ) (g : Dev Cert.ModVec.nD → PrngReg), Pre_ModVec m →
    θ_run (Cert.ModVec.defs (F := Bits)) (onTc (τ := Cert.ModVec.τ) (Cert.ModVec.main (F := Bits))) ⟨m, fun _ => 0, g⟩ (fun r => (∀ c : Dev Cert.ModVec.nD,
      r.2.mem ((c.tc : Thread Cert.ModVec.nD Cert.ModVec.τ).loc Cert.ModVec.main_arg0) = m ((c.tc : Thread Cert.ModVec.nD Cert.ModVec.τ).loc Cert.ModVec.main_arg0)
      ∧ r.2.mem ((c.tc : Thread Cert.ModVec.nD Cert.ModVec.τ).loc Cert.ModVec.main_arg1) = m ((c.tc : Thread Cert.ModVec.nD Cert.ModVec.τ).loc Cert.ModVec.main_arg1)
      ∧ r.2.mem ((c.tc : Thread Cert.ModVec.nD Cert.ModVec.τ).loc Cert.ModVec.main_arg2) = m ((c.tc : Thread Cert.ModVec.nD Cert.ModVec.τ).loc Cert.ModVec.main_arg2))
      ∧ r.2.sem = fun _ => 0)

def quiescent_ModVecIdeal [hModVecIdeal : Cert.ModVecIdeal.Facts] : Prop :=
  ∀ (m : (ℓ : Loc Cert.ModVecIdeal.nD Cert.ModVecIdeal.τ Cert.ModVecIdeal.sig) → Buf (Elt Ideal) ℓ) (g : Dev Cert.ModVecIdeal.nD → PrngReg), Pre_ModVecIdeal m →
    θ_run (Cert.ModVecIdeal.defs (F := Ideal)) (onTc (τ := Cert.ModVecIdeal.τ) (Cert.ModVecIdeal.main (F := Ideal))) ⟨m, fun _ => 0, g⟩ (fun r => (∀ c : Dev Cert.ModVecIdeal.nD,
      r.2.mem ((c.tc : Thread Cert.ModVecIdeal.nD Cert.ModVecIdeal.τ).loc Cert.ModVecIdeal.main_arg0) = m ((c.tc : Thread Cert.ModVecIdeal.nD Cert.ModVecIdeal.τ).loc Cert.ModVecIdeal.main_arg0)
      ∧ r.2.mem ((c.tc : Thread Cert.ModVecIdeal.nD Cert.ModVecIdeal.τ).loc Cert.ModVecIdeal.main_arg1) = m ((c.tc : Thread Cert.ModVecIdeal.nD Cert.ModVecIdeal.τ).loc Cert.ModVecIdeal.main_arg1)
      ∧ r.2.mem ((c.tc : Thread Cert.ModVecIdeal.nD Cert.ModVecIdeal.τ).loc Cert.ModVecIdeal.main_arg2) = m ((c.tc : Thread Cert.ModVecIdeal.nD Cert.ModVecIdeal.τ).loc Cert.ModVecIdeal.main_arg2))
      ∧ r.2.sem = fun _ => 0)

def quiescent_ModVecIdeal_pre_below_infinity [hModVecIdeal : Cert.ModVecIdeal.Facts] [hPre_below_infinity : Cert.Pre_below_infinity.Facts] : Prop :=
  ∀ (m : (ℓ : Loc Cert.ModVecIdeal.nD Cert.ModVecIdeal.τ Cert.ModVecIdeal.sig) → Buf (Elt Ideal) ℓ) (g : Dev Cert.ModVecIdeal.nD → PrngReg), Pre_ModVecIdeal_below_infinity m →
    θ_run (Cert.ModVecIdeal.defs (F := Ideal)) (onTc (τ := Cert.ModVecIdeal.τ) (Cert.ModVecIdeal.main (F := Ideal))) ⟨m, fun _ => 0, g⟩ (fun r => (∀ c : Dev Cert.ModVecIdeal.nD,
      r.2.mem ((c.tc : Thread Cert.ModVecIdeal.nD Cert.ModVecIdeal.τ).loc Cert.ModVecIdeal.main_arg0) = m ((c.tc : Thread Cert.ModVecIdeal.nD Cert.ModVecIdeal.τ).loc Cert.ModVecIdeal.main_arg0)
      ∧ r.2.mem ((c.tc : Thread Cert.ModVecIdeal.nD Cert.ModVecIdeal.τ).loc Cert.ModVecIdeal.main_arg1) = m ((c.tc : Thread Cert.ModVecIdeal.nD Cert.ModVecIdeal.τ).loc Cert.ModVecIdeal.main_arg1)
      ∧ r.2.mem ((c.tc : Thread Cert.ModVecIdeal.nD Cert.ModVecIdeal.τ).loc Cert.ModVecIdeal.main_arg2) = m ((c.tc : Thread Cert.ModVecIdeal.nD Cert.ModVecIdeal.τ).loc Cert.ModVecIdeal.main_arg2))
      ∧ r.2.sem = fun _ => 0)

def quiescent_ModVecRefIdeal [hModVecRefIdeal : Cert.ModVecRefIdeal.Facts] : Prop :=
  ∀ (m : (ℓ : Loc Cert.ModVecRefIdeal.nD Cert.ModVecRefIdeal.τ Cert.ModVecRefIdeal.sig) → Buf (Elt Ideal) ℓ) (g : Dev Cert.ModVecRefIdeal.nD → PrngReg), Pre_ModVecRefIdeal m →
    θ_run (Cert.ModVecRefIdeal.defs (F := Ideal)) (onTc (τ := Cert.ModVecRefIdeal.τ) (Cert.ModVecRefIdeal.main (F := Ideal))) ⟨m, fun _ => 0, g⟩ (fun r => (∀ c : Dev Cert.ModVecRefIdeal.nD,
      r.2.mem ((c.tc : Thread Cert.ModVecRefIdeal.nD Cert.ModVecRefIdeal.τ).loc Cert.ModVecRefIdeal.main_arg0) = m ((c.tc : Thread Cert.ModVecRefIdeal.nD Cert.ModVecRefIdeal.τ).loc Cert.ModVecRefIdeal.main_arg0)
      ∧ r.2.mem ((c.tc : Thread Cert.ModVecRefIdeal.nD Cert.ModVecRefIdeal.τ).loc Cert.ModVecRefIdeal.main_arg1) = m ((c.tc : Thread Cert.ModVecRefIdeal.nD Cert.ModVecRefIdeal.τ).loc Cert.ModVecRefIdeal.main_arg1)
      ∧ r.2.mem ((c.tc : Thread Cert.ModVecRefIdeal.nD Cert.ModVecRefIdeal.τ).loc Cert.ModVecRefIdeal.main_arg2) = m ((c.tc : Thread Cert.ModVecRefIdeal.nD Cert.ModVecRefIdeal.τ).loc Cert.ModVecRefIdeal.main_arg2))
      ∧ r.2.sem = fun _ => 0)

def quiescent_ModVecRefIdeal_pre_below_infinity [hModVecRefIdeal : Cert.ModVecRefIdeal.Facts] [hPre_below_infinity : Cert.Pre_below_infinity.Facts] : Prop :=
  ∀ (m : (ℓ : Loc Cert.ModVecRefIdeal.nD Cert.ModVecRefIdeal.τ Cert.ModVecRefIdeal.sig) → Buf (Elt Ideal) ℓ) (g : Dev Cert.ModVecRefIdeal.nD → PrngReg), Pre_ModVecRefIdeal_below_infinity m →
    θ_run (Cert.ModVecRefIdeal.defs (F := Ideal)) (onTc (τ := Cert.ModVecRefIdeal.τ) (Cert.ModVecRefIdeal.main (F := Ideal))) ⟨m, fun _ => 0, g⟩ (fun r => (∀ c : Dev Cert.ModVecRefIdeal.nD,
      r.2.mem ((c.tc : Thread Cert.ModVecRefIdeal.nD Cert.ModVecRefIdeal.τ).loc Cert.ModVecRefIdeal.main_arg0) = m ((c.tc : Thread Cert.ModVecRefIdeal.nD Cert.ModVecRefIdeal.τ).loc Cert.ModVecRefIdeal.main_arg0)
      ∧ r.2.mem ((c.tc : Thread Cert.ModVecRefIdeal.nD Cert.ModVecRefIdeal.τ).loc Cert.ModVecRefIdeal.main_arg1) = m ((c.tc : Thread Cert.ModVecRefIdeal.nD Cert.ModVecRefIdeal.τ).loc Cert.ModVecRefIdeal.main_arg1)
      ∧ r.2.mem ((c.tc : Thread Cert.ModVecRefIdeal.nD Cert.ModVecRefIdeal.τ).loc Cert.ModVecRefIdeal.main_arg2) = m ((c.tc : Thread Cert.ModVecRefIdeal.nD Cert.ModVecRefIdeal.τ).loc Cert.ModVecRefIdeal.main_arg2))
      ∧ r.2.sem = fun _ => 0)

def quiescent_FinMod [hFinMod : Cert.FinMod.Facts] : Prop :=
  ∀ (m : (ℓ : Loc Cert.FinMod.nD Cert.FinMod.τ Cert.FinMod.sig) → Buf (Elt Bits) ℓ) (g : Dev Cert.FinMod.nD → PrngReg), Pre_FinMod m →
    θ_run (Cert.FinMod.defs (F := Bits)) (onTc (τ := Cert.FinMod.τ) (Cert.FinMod.main (F := Bits))) ⟨m, fun _ => 0, g⟩ (fun r => (∀ c : Dev Cert.FinMod.nD,
      r.2.mem ((c.tc : Thread Cert.FinMod.nD Cert.FinMod.τ).loc Cert.FinMod.main_arg0) = m ((c.tc : Thread Cert.FinMod.nD Cert.FinMod.τ).loc Cert.FinMod.main_arg0)
      ∧ r.2.mem ((c.tc : Thread Cert.FinMod.nD Cert.FinMod.τ).loc Cert.FinMod.main_arg1) = m ((c.tc : Thread Cert.FinMod.nD Cert.FinMod.τ).loc Cert.FinMod.main_arg1)
      ∧ r.2.mem ((c.tc : Thread Cert.FinMod.nD Cert.FinMod.τ).loc Cert.FinMod.main_arg2) = m ((c.tc : Thread Cert.FinMod.nD Cert.FinMod.τ).loc Cert.FinMod.main_arg2))
      ∧ r.2.sem = fun _ => 0)

def quiescent_FinModIdeal [hFinModIdeal : Cert.FinModIdeal.Facts] : Prop :=
  ∀ (m : (ℓ : Loc Cert.FinModIdeal.nD Cert.FinModIdeal.τ Cert.FinModIdeal.sig) → Buf (Elt Ideal) ℓ) (g : Dev Cert.FinModIdeal.nD → PrngReg), Pre_FinModIdeal m →
    θ_run (Cert.FinModIdeal.defs (F := Ideal)) (onTc (τ := Cert.FinModIdeal.τ) (Cert.FinModIdeal.main (F := Ideal))) ⟨m, fun _ => 0, g⟩ (fun r => (∀ c : Dev Cert.FinModIdeal.nD,
      r.2.mem ((c.tc : Thread Cert.FinModIdeal.nD Cert.FinModIdeal.τ).loc Cert.FinModIdeal.main_arg0) = m ((c.tc : Thread Cert.FinModIdeal.nD Cert.FinModIdeal.τ).loc Cert.FinModIdeal.main_arg0)
      ∧ r.2.mem ((c.tc : Thread Cert.FinModIdeal.nD Cert.FinModIdeal.τ).loc Cert.FinModIdeal.main_arg1) = m ((c.tc : Thread Cert.FinModIdeal.nD Cert.FinModIdeal.τ).loc Cert.FinModIdeal.main_arg1)
      ∧ r.2.mem ((c.tc : Thread Cert.FinModIdeal.nD Cert.FinModIdeal.τ).loc Cert.FinModIdeal.main_arg2) = m ((c.tc : Thread Cert.FinModIdeal.nD Cert.FinModIdeal.τ).loc Cert.FinModIdeal.main_arg2))
      ∧ r.2.sem = fun _ => 0)

def quiescent_FinModIdeal_pre_below_infinity_final [hFinModIdeal : Cert.FinModIdeal.Facts] [hPre_below_infinity_final : Cert.Pre_below_infinity_final.Facts] : Prop :=
  ∀ (m : (ℓ : Loc Cert.FinModIdeal.nD Cert.FinModIdeal.τ Cert.FinModIdeal.sig) → Buf (Elt Ideal) ℓ) (g : Dev Cert.FinModIdeal.nD → PrngReg), Pre_FinModIdeal_below_infinity_final m →
    θ_run (Cert.FinModIdeal.defs (F := Ideal)) (onTc (τ := Cert.FinModIdeal.τ) (Cert.FinModIdeal.main (F := Ideal))) ⟨m, fun _ => 0, g⟩ (fun r => (∀ c : Dev Cert.FinModIdeal.nD,
      r.2.mem ((c.tc : Thread Cert.FinModIdeal.nD Cert.FinModIdeal.τ).loc Cert.FinModIdeal.main_arg0) = m ((c.tc : Thread Cert.FinModIdeal.nD Cert.FinModIdeal.τ).loc Cert.FinModIdeal.main_arg0)
      ∧ r.2.mem ((c.tc : Thread Cert.FinModIdeal.nD Cert.FinModIdeal.τ).loc Cert.FinModIdeal.main_arg1) = m ((c.tc : Thread Cert.FinModIdeal.nD Cert.FinModIdeal.τ).loc Cert.FinModIdeal.main_arg1)
      ∧ r.2.mem ((c.tc : Thread Cert.FinModIdeal.nD Cert.FinModIdeal.τ).loc Cert.FinModIdeal.main_arg2) = m ((c.tc : Thread Cert.FinModIdeal.nD Cert.FinModIdeal.τ).loc Cert.FinModIdeal.main_arg2))
      ∧ r.2.sem = fun _ => 0)

def quiescent_FinModRefIdeal [hFinModRefIdeal : Cert.FinModRefIdeal.Facts] : Prop :=
  ∀ (m : (ℓ : Loc Cert.FinModRefIdeal.nD Cert.FinModRefIdeal.τ Cert.FinModRefIdeal.sig) → Buf (Elt Ideal) ℓ) (g : Dev Cert.FinModRefIdeal.nD → PrngReg), Pre_FinModRefIdeal m →
    θ_run (Cert.FinModRefIdeal.defs (F := Ideal)) (onTc (τ := Cert.FinModRefIdeal.τ) (Cert.FinModRefIdeal.main (F := Ideal))) ⟨m, fun _ => 0, g⟩ (fun r => (∀ c : Dev Cert.FinModRefIdeal.nD,
      r.2.mem ((c.tc : Thread Cert.FinModRefIdeal.nD Cert.FinModRefIdeal.τ).loc Cert.FinModRefIdeal.main_arg0) = m ((c.tc : Thread Cert.FinModRefIdeal.nD Cert.FinModRefIdeal.τ).loc Cert.FinModRefIdeal.main_arg0)
      ∧ r.2.mem ((c.tc : Thread Cert.FinModRefIdeal.nD Cert.FinModRefIdeal.τ).loc Cert.FinModRefIdeal.main_arg1) = m ((c.tc : Thread Cert.FinModRefIdeal.nD Cert.FinModRefIdeal.τ).loc Cert.FinModRefIdeal.main_arg1)
      ∧ r.2.mem ((c.tc : Thread Cert.FinModRefIdeal.nD Cert.FinModRefIdeal.τ).loc Cert.FinModRefIdeal.main_arg2) = m ((c.tc : Thread Cert.FinModRefIdeal.nD Cert.FinModRefIdeal.τ).loc Cert.FinModRefIdeal.main_arg2))
      ∧ r.2.sem = fun _ => 0)

def quiescent_FinModRefIdeal_pre_below_infinity_final [hFinModRefIdeal : Cert.FinModRefIdeal.Facts] [hPre_below_infinity_final : Cert.Pre_below_infinity_final.Facts] : Prop :=
  ∀ (m : (ℓ : Loc Cert.FinModRefIdeal.nD Cert.FinModRefIdeal.τ Cert.FinModRefIdeal.sig) → Buf (Elt Ideal) ℓ) (g : Dev Cert.FinModRefIdeal.nD → PrngReg), Pre_FinModRefIdeal_below_infinity_final m →
    θ_run (Cert.FinModRefIdeal.defs (F := Ideal)) (onTc (τ := Cert.FinModRefIdeal.τ) (Cert.FinModRefIdeal.main (F := Ideal))) ⟨m, fun _ => 0, g⟩ (fun r => (∀ c : Dev Cert.FinModRefIdeal.nD,
      r.2.mem ((c.tc : Thread Cert.FinModRefIdeal.nD Cert.FinModRefIdeal.τ).loc Cert.FinModRefIdeal.main_arg0) = m ((c.tc : Thread Cert.FinModRefIdeal.nD Cert.FinModRefIdeal.τ).loc Cert.FinModRefIdeal.main_arg0)
      ∧ r.2.mem ((c.tc : Thread Cert.FinModRefIdeal.nD Cert.FinModRefIdeal.τ).loc Cert.FinModRefIdeal.main_arg1) = m ((c.tc : Thread Cert.FinModRefIdeal.nD Cert.FinModRefIdeal.τ).loc Cert.FinModRefIdeal.main_arg1)
      ∧ r.2.mem ((c.tc : Thread Cert.FinModRefIdeal.nD Cert.FinModRefIdeal.τ).loc Cert.FinModRefIdeal.main_arg2) = m ((c.tc : Thread Cert.FinModRefIdeal.nD Cert.FinModRefIdeal.τ).loc Cert.FinModRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)) →
    ∃ (v0 : (c : Dev Cert.FfnUpIdeal.nD) → Buf (Elt Ideal) ((c.tc : Thread Cert.FfnUpIdeal.nD Cert.FfnUpIdeal.τ).loc Cert.FfnUpIdeal.main_v6)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v6) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v67) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v17) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_RetIn_RetInIdeal : Prop :=
  True

def algebraic_RetInIdeal_RetInRefIdeal [hRetInIdeal : Cert.RetInIdeal.Facts] [hRetInRefIdeal : Cert.RetInRefIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInRefIdeal.nD Cert.RetInRefIdeal.τ Cert.RetInRefIdeal.sig) → Buf (Elt Ideal) ℓ) (g' : Dev Cert.RetInRefIdeal.nD → PrngReg), Pre_RetInIdeal m →
    (∀ c : Dev Cert.RetInIdeal.nD,
      m' ((c.tc : Thread Cert.RetInRefIdeal.nD Cert.RetInRefIdeal.τ).loc Cert.RetInRefIdeal.main_arg0) = m ((c.tc : Thread Cert.RetInIdeal.nD Cert.RetInIdeal.τ).loc Cert.RetInIdeal.main_arg0)
      ∧ m' ((c.tc : Thread Cert.RetInRefIdeal.nD Cert.RetInRefIdeal.τ).loc Cert.RetInRefIdeal.main_arg1) = m ((c.tc : Thread Cert.RetInIdeal.nD Cert.RetInIdeal.τ).loc Cert.RetInIdeal.main_arg1)
      ∧ m' ((c.tc : Thread Cert.RetInRefIdeal.nD Cert.RetInRefIdeal.τ).loc Cert.RetInRefIdeal.main_arg2) = m ((c.tc : Thread Cert.RetInIdeal.nD Cert.RetInIdeal.τ).loc Cert.RetInIdeal.main_arg2)
      ∧ m' ((c.tc : Thread Cert.RetInRefIdeal.nD Cert.RetInRefIdeal.τ).loc Cert.RetInRefIdeal.main_arg3) = m ((c.tc : Thread Cert.RetInIdeal.nD Cert.RetInIdeal.τ).loc Cert.RetInIdeal.main_arg3)) →
    ∃ (v0 : (c : Dev Cert.RetInIdeal.nD) → Buf (Elt Ideal) ((c.tc : Thread Cert.RetInIdeal.nD Cert.RetInIdeal.τ).loc Cert.RetInIdeal.main_v5)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v5) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
          ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
          ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3))
      ∧ θ_run (Cert.RetInRefIdeal.defs (F := Ideal)) (onTc (τ := Cert.RetInRefIdeal.τ) (Cert.RetInRefIdeal.main (F := Ideal))) ⟨m', fun _ => 0, g'⟩ (fun r => ∀ c : Dev Cert.RetInRefIdeal.nD,
          r.2.mem ((c.tc : Thread Cert.RetInRefIdeal.nD Cert.RetInRefIdeal.τ).loc Cert.RetInRefIdeal.main_v35) = v0 c
          ∧ r.2.mem ((c.tc : Thread Cert.RetInRefIdeal.nD Cert.RetInRefIdeal.τ).loc Cert.RetInRefIdeal.main_arg0) = m' ((c.tc : Thread Cert.RetInRefIdeal.nD Cert.RetInRefIdeal.τ).loc Cert.RetInRefIdeal.main_arg0)
          ∧ r.2.mem ((c.tc : Thread Cert.RetInRefIdeal.nD Cert.RetInRefIdeal.τ).loc Cert.RetInRefIdeal.main_arg1) = m' ((c.tc : Thread Cert.RetInRefIdeal.nD Cert.RetInRefIdeal.τ).loc Cert.RetInRefIdeal.main_arg1)
          ∧ r.2.mem ((c.tc : Thread Cert.RetInRefIdeal.nD Cert.RetInRefIdeal.τ).loc Cert.RetInRefIdeal.main_arg2) = m' ((c.tc : Thread Cert.RetInRefIdeal.nD Cert.RetInRefIdeal.τ).loc Cert.RetInRefIdeal.main_arg2)
          ∧ r.2.mem ((c.tc : Thread Cert.RetInRefIdeal.nD Cert.RetInRefIdeal.τ).loc Cert.RetInRefIdeal.main_arg3) = m' ((c.tc : Thread Cert.RetInRefIdeal.nD Cert.RetInRefIdeal.τ).loc Cert.RetInRefIdeal.main_arg3))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)) →
    ∃ (v0 : (c : Dev Cert.RetOutIdeal.nD) → Buf (Elt Ideal) ((c.tc : Thread Cert.RetOutIdeal.nD Cert.RetOutIdeal.τ).loc Cert.RetOutIdeal.main_v3)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v3) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v17) = v0 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3))

def preserves_MlstmIn_MlstmInIdeal : Prop :=
  True

def algebraic_MlstmInIdeal_MlstmInRefIdeal [hMlstmInIdeal : Cert.MlstmInIdeal.Facts] [hMlstmInRefIdeal : Cert.MlstmInRefIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg)
    (m' : (ℓ : Loc Cert.MlstmInRefIdeal.nD Cert.MlstmInRefIdeal.τ Cert.MlstmInRefIdeal.sig) → Buf (Elt Ideal) ℓ) (g' : Dev Cert.MlstmInRefIdeal.nD → PrngReg), Pre_MlstmInIdeal m →
    (∀ c : Dev Cert.MlstmInIdeal.nD,
      m' ((c.tc : Thread Cert.MlstmInRefIdeal.nD Cert.MlstmInRefIdeal.τ).loc Cert.MlstmInRefIdeal.main_arg0) = m ((c.tc : Thread Cert.MlstmInIdeal.nD Cert.MlstmInIdeal.τ).loc Cert.MlstmInIdeal.main_arg0)
      ∧ m' ((c.tc : Thread Cert.MlstmInRefIdeal.nD Cert.MlstmInRefIdeal.τ).loc Cert.MlstmInRefIdeal.main_arg1) = m ((c.tc : Thread Cert.MlstmInIdeal.nD Cert.MlstmInIdeal.τ).loc Cert.MlstmInIdeal.main_arg1)
      ∧ m' ((c.tc : Thread Cert.MlstmInRefIdeal.nD Cert.MlstmInRefIdeal.τ).loc Cert.MlstmInRefIdeal.main_arg2) = m ((c.tc : Thread Cert.MlstmInIdeal.nD Cert.MlstmInIdeal.τ).loc Cert.MlstmInIdeal.main_arg2)
      ∧ m' ((c.tc : Thread Cert.MlstmInRefIdeal.nD Cert.MlstmInRefIdeal.τ).loc Cert.MlstmInRefIdeal.main_arg3) = m ((c.tc : Thread Cert.MlstmInIdeal.nD Cert.MlstmInIdeal.τ).loc Cert.MlstmInIdeal.main_arg3)) →
    ∃ (v0 : (c : Dev Cert.MlstmInIdeal.nD) → Buf (Elt Ideal) ((c.tc : Thread Cert.MlstmInIdeal.nD Cert.MlstmInIdeal.τ).loc Cert.MlstmInIdeal.main_v9)),
      θ_run (Cert.MlstmInIdeal.defs (F := Ideal)) (onTc (τ := Cert.MlstmInIdeal.τ) (Cert.MlstmInIdeal.main (F := Ideal))) ⟨m, fun _ => 0, g⟩ (fun r => ∀ c : Dev Cert.MlstmInIdeal.nD,
          r.2.mem ((c.tc : Thread Cert.MlstmInIdeal.nD Cert.MlstmInIdeal.τ).loc Cert.MlstmInIdeal.main_v9) = v0 c
          ∧ r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
          ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1)
          ∧ r.2.mem ((c.tc : Thread Cert.MlstmInIdeal.nD Cert.MlstmInIdeal.τ).loc Cert.MlstmInIdeal.main_arg2) = m ((c.tc : Thread Cert.MlstmInIdeal.nD Cert.MlstmInIdeal.τ).loc Cert.MlstmInIdeal.main_arg2)
          ∧ r.2.mem ((c.tc : Thread Cert.MlstmInIdeal.nD Cert.MlstmInIdeal.τ).loc Cert.MlstmInIdeal.main_arg3) = m ((c.tc : Thread Cert.MlstmInIdeal.nD Cert.MlstmInIdeal.τ).loc Cert.MlstmInIdeal.main_arg3))
      ∧ θ_run (Cert.MlstmInRefIdeal.defs (F := Ideal)) (onTc (τ := Cert.MlstmInRefIdeal.τ) (Cert.MlstmInRefIdeal.main (F := Ideal))) ⟨m', fun _ => 0, g'⟩ (fun r => ∀ c : Dev Cert.MlstmInRefIdeal.nD,
          r.2.mem ((c.tc : Thread Cert.MlstmInRefIdeal.nD Cert.MlstmInRefIdeal.τ).loc Cert.MlstmInRefIdeal.main_v34) = v0 c
          ∧ r.2.mem ((c.tc : Thread Cert.MlstmInRefIdeal.nD Cert.MlstmInRefIdeal.τ).loc Cert.MlstmInRefIdeal.main_arg0) = m' ((c.tc : Thread Cert.MlstmInRefIdeal.nD Cert.MlstmInRefIdeal.τ).loc Cert.MlstmInRefIdeal.main_arg0)
          ∧ r.2.mem ((c.tc : Thread Cert.MlstmInRefIdeal.nD Cert.MlstmInRefIdeal.τ).loc Cert.MlstmInRefIdeal.main_arg1) = m' ((c.tc : Thread Cert.MlstmInRefIdeal.nD Cert.MlstmInRefIdeal.τ).loc Cert.MlstmInRefIdeal.main_arg1)
          ∧ r.2.mem ((c.tc : Thread Cert.MlstmInRefIdeal.nD Cert.MlstmInRefIdeal.τ).loc Cert.MlstmInRefIdeal.main_arg2) = m' ((c.tc : Thread Cert.MlstmInRefIdeal.nD Cert.MlstmInRefIdeal.τ).loc Cert.MlstmInRefIdeal.main_arg2)
          ∧ r.2.mem ((c.tc : Thread Cert.MlstmInRefIdeal.nD Cert.MlstmInRefIdeal.τ).loc Cert.MlstmInRefIdeal.main_arg3) = m' ((c.tc : Thread Cert.MlstmInRefIdeal.nD Cert.MlstmInRefIdeal.τ).loc Cert.MlstmInRefIdeal.main_arg3))

def preserves_RwkvIn_RwkvInIdeal : Prop :=
  True

def algebraic_RwkvInIdeal_RwkvInRefIdeal [hRwkvInIdeal : Cert.RwkvInIdeal.Facts] [hRwkvInRefIdeal : Cert.RwkvInRefIdeal.Facts] : Prop :=
  ∀ (m : (ℓ : Loc Cert.RwkvInIdeal.nD Cert.RwkvInIdeal.τ Cert.RwkvInIdeal.sig) → Buf (Elt Ideal) ℓ) (g : Dev Cert.RwkvInIdeal.nD → PrngReg)
    (m' : (ℓ : Loc Cert.RwkvInRefIdeal.nD Cert.RwkvInRefIdeal.τ Cert.RwkvInRefIdeal.sig) → Buf (Elt Ideal) ℓ) (g' : Dev Cert.RwkvInRefIdeal.nD → PrngReg), Pre_RwkvInIdeal m →
    (∀ c : Dev Cert.RwkvInIdeal.nD,
      m' ((c.tc : Thread Cert.RwkvInRefIdeal.nD Cert.RwkvInRefIdeal.τ).loc Cert.RwkvInRefIdeal.main_arg0) = m ((c.tc : Thread Cert.RwkvInIdeal.nD Cert.RwkvInIdeal.τ).loc Cert.RwkvInIdeal.main_arg0)
      ∧ m' ((c.tc : Thread Cert.RwkvInRefIdeal.nD Cert.RwkvInRefIdeal.τ).loc Cert.RwkvInRefIdeal.main_arg1) = m ((c.tc : Thread Cert.RwkvInIdeal.nD Cert.RwkvInIdeal.τ).loc Cert.RwkvInIdeal.main_arg1)
      ∧ m' ((c.tc : Thread Cert.RwkvInRefIdeal.nD Cert.RwkvInRefIdeal.τ).loc Cert.RwkvInRefIdeal.main_arg2) = m ((c.tc : Thread Cert.RwkvInIdeal.nD Cert.RwkvInIdeal.τ).loc Cert.RwkvInIdeal.main_arg2)
      ∧ m' ((c.tc : Thread Cert.RwkvInRefIdeal.nD Cert.RwkvInRefIdeal.τ).loc Cert.RwkvInRefIdeal.main_arg3) = m ((c.tc : Thread Cert.RwkvInIdeal.nD Cert.RwkvInIdeal.τ).loc Cert.RwkvInIdeal.main_arg3)) →
    ∃ (v0 : (c : Dev Cert.RwkvInIdeal.nD) → Buf (Elt Ideal) ((c.tc : Thread Cert.RwkvInIdeal.nD Cert.RwkvInIdeal.τ).loc Cert.RwkvInIdeal.main_v14)),
      θ_run (Cert.RwkvInIdeal.defs (F := Ideal)) (onTc (τ := Cert.RwkvInIdeal.τ) (Cert.RwkvInIdeal.main (F := Ideal))) ⟨m, fun _ => 0, g⟩ (fun r => ∀ c : Dev Cert.RwkvInIdeal.nD,
          r.2.mem ((c.tc : Thread Cert.RwkvInIdeal.nD Cert.RwkvInIdeal.τ).loc Cert.RwkvInIdeal.main_v14) = v0 c
          ∧ r.2.mem ((c.tc : Thread Cert.RwkvInIdeal.nD Cert.RwkvInIdeal.τ).loc Cert.RwkvInIdeal.main_arg0) = m ((c.tc : Thread Cert.RwkvInIdeal.nD Cert.RwkvInIdeal.τ).loc Cert.RwkvInIdeal.main_arg0)
          ∧ r.2.mem ((c.tc : Thread Cert.RwkvInIdeal.nD Cert.RwkvInIdeal.τ).loc Cert.RwkvInIdeal.main_arg1) = m ((c.tc : Thread Cert.RwkvInIdeal.nD Cert.RwkvInIdeal.τ).loc Cert.RwkvInIdeal.main_arg1)
          ∧ r.2.mem ((c.tc : Thread Cert.RwkvInIdeal.nD Cert.RwkvInIdeal.τ).loc Cert.RwkvInIdeal.main_arg2) = m ((c.tc : Thread Cert.RwkvInIdeal.nD Cert.RwkvInIdeal.τ).loc Cert.RwkvInIdeal.main_arg2)
          ∧ r.2.mem ((c.tc : Thread Cert.RwkvInIdeal.nD Cert.RwkvInIdeal.τ).loc Cert.RwkvInIdeal.main_arg3) = m ((c.tc : Thread Cert.RwkvInIdeal.nD Cert.RwkvInIdeal.τ).loc Cert.RwkvInIdeal.main_arg3))
      ∧ θ_run (Cert.RwkvInRefIdeal.defs (F := Ideal)) (onTc (τ := Cert.RwkvInRefIdeal.τ) (Cert.RwkvInRefIdeal.main (F := Ideal))) ⟨m', fun _ => 0, g'⟩ (fun r => ∀ c : Dev Cert.RwkvInRefIdeal.nD,
          r.2.mem ((c.tc : Thread Cert.RwkvInRefIdeal.nD Cert.RwkvInRefIdeal.τ).loc Cert.RwkvInRefIdeal.main_v40) = v0 c
          ∧ r.2.mem ((c.tc : Thread Cert.RwkvInRefIdeal.nD Cert.RwkvInRefIdeal.τ).loc Cert.RwkvInRefIdeal.main_arg0) = m' ((c.tc : Thread Cert.RwkvInRefIdeal.nD Cert.RwkvInRefIdeal.τ).loc Cert.RwkvInRefIdeal.main_arg0)
          ∧ r.2.mem ((c.tc : Thread Cert.RwkvInRefIdeal.nD Cert.RwkvInRefIdeal.τ).loc Cert.RwkvInRefIdeal.main_arg1) = m' ((c.tc : Thread Cert.RwkvInRefIdeal.nD Cert.RwkvInRefIdeal.τ).loc Cert.RwkvInRefIdeal.main_arg1)
          ∧ r.2.mem ((c.tc : Thread Cert.RwkvInRefIdeal.nD Cert.RwkvInRefIdeal.τ).loc Cert.RwkvInRefIdeal.main_arg2) = m' ((c.tc : Thread Cert.RwkvInRefIdeal.nD Cert.RwkvInRefIdeal.τ).loc Cert.RwkvInRefIdeal.main_arg2)
          ∧ r.2.mem ((c.tc : Thread Cert.RwkvInRefIdeal.nD Cert.RwkvInRefIdeal.τ).loc Cert.RwkvInRefIdeal.main_arg3) = m' ((c.tc : Thread Cert.RwkvInRefIdeal.nD Cert.RwkvInRefIdeal.τ).loc Cert.RwkvInRefIdeal.main_arg3))

def preserves_MlstmOut_MlstmOutIdeal : Prop :=
  True

def algebraic_MlstmOutIdeal_MlstmOutRefIdeal [hMlstmOutIdeal : Cert.MlstmOutIdeal.Facts] [hMlstmOutRefIdeal : Cert.MlstmOutRefIdeal.Facts] : Prop :=
  ∀ (m : (ℓ : Loc Cert.MlstmOutIdeal.nD Cert.MlstmOutIdeal.τ Cert.MlstmOutIdeal.sig) → Buf (Elt Ideal) ℓ) (g : Dev Cert.MlstmOutIdeal.nD → PrngReg)
    (m' : (ℓ : Loc Cert.MlstmOutRefIdeal.nD Cert.MlstmOutRefIdeal.τ Cert.MlstmOutRefIdeal.sig) → Buf (Elt Ideal) ℓ) (g' : Dev Cert.MlstmOutRefIdeal.nD → PrngReg), Pre_MlstmOutIdeal m →
    (∀ c : Dev Cert.MlstmOutIdeal.nD,
      m' ((c.tc : Thread Cert.MlstmOutRefIdeal.nD Cert.MlstmOutRefIdeal.τ).loc Cert.MlstmOutRefIdeal.main_arg0) = m ((c.tc : Thread Cert.MlstmOutIdeal.nD Cert.MlstmOutIdeal.τ).loc Cert.MlstmOutIdeal.main_arg0)
      ∧ m' ((c.tc : Thread Cert.MlstmOutRefIdeal.nD Cert.MlstmOutRefIdeal.τ).loc Cert.MlstmOutRefIdeal.main_arg1) = m ((c.tc : Thread Cert.MlstmOutIdeal.nD Cert.MlstmOutIdeal.τ).loc Cert.MlstmOutIdeal.main_arg1)
      ∧ m' ((c.tc : Thread Cert.MlstmOutRefIdeal.nD Cert.MlstmOutRefIdeal.τ).loc Cert.MlstmOutRefIdeal.main_arg2) = m ((c.tc : Thread Cert.MlstmOutIdeal.nD Cert.MlstmOutIdeal.τ).loc Cert.MlstmOutIdeal.main_arg2)
      ∧ m' ((c.tc : Thread Cert.MlstmOutRefIdeal.nD Cert.MlstmOutRefIdeal.τ).loc Cert.MlstmOutRefIdeal.main_arg3) = m ((c.tc : Thread Cert.MlstmOutIdeal.nD Cert.MlstmOutIdeal.τ).loc Cert.MlstmOutIdeal.main_arg3)) →
    ∃ (v0 : (c : Dev Cert.MlstmOutIdeal.nD) → Buf (Elt Ideal) ((c.tc : Thread Cert.MlstmOutIdeal.nD Cert.MlstmOutIdeal.τ).loc Cert.MlstmOutIdeal.main_v3)),
      θ_run (Cert.MlstmOutIdeal.defs (F := Ideal)) (onTc (τ := Cert.MlstmOutIdeal.τ) (Cert.MlstmOutIdeal.main (F := Ideal))) ⟨m, fun _ => 0, g⟩ (fun r => ∀ c : Dev Cert.MlstmOutIdeal.nD,
          r.2.mem ((c.tc : Thread Cert.MlstmOutIdeal.nD Cert.MlstmOutIdeal.τ).loc Cert.MlstmOutIdeal.main_v3) = v0 c
          ∧ r.2.mem ((c.tc : Thread Cert.MlstmOutIdeal.nD Cert.MlstmOutIdeal.τ).loc Cert.MlstmOutIdeal.main_arg0) = m ((c.tc : Thread Cert.MlstmOutIdeal.nD Cert.MlstmOutIdeal.τ).loc Cert.MlstmOutIdeal.main_arg0)
          ∧ r.2.mem ((c.tc : Thread Cert.MlstmOutIdeal.nD Cert.MlstmOutIdeal.τ).loc Cert.MlstmOutIdeal.main_arg1) = m ((c.tc : Thread Cert.MlstmOutIdeal.nD Cert.MlstmOutIdeal.τ).loc Cert.MlstmOutIdeal.main_arg1)
          ∧ r.2.mem ((c.tc : Thread Cert.MlstmOutIdeal.nD Cert.MlstmOutIdeal.τ).loc Cert.MlstmOutIdeal.main_arg2) = m ((c.tc : Thread Cert.MlstmOutIdeal.nD Cert.MlstmOutIdeal.τ).loc Cert.MlstmOutIdeal.main_arg2)
          ∧ r.2.mem ((c.tc : Thread Cert.MlstmOutIdeal.nD Cert.MlstmOutIdeal.τ).loc Cert.MlstmOutIdeal.main_arg3) = m ((c.tc : Thread Cert.MlstmOutIdeal.nD Cert.MlstmOutIdeal.τ).loc Cert.MlstmOutIdeal.main_arg3))
      ∧ θ_run (Cert.MlstmOutRefIdeal.defs (F := Ideal)) (onTc (τ := Cert.MlstmOutRefIdeal.τ) (Cert.MlstmOutRefIdeal.main (F := Ideal))) ⟨m', fun _ => 0, g'⟩ (fun r => ∀ c : Dev Cert.MlstmOutRefIdeal.nD,
          r.2.mem ((c.tc : Thread Cert.MlstmOutRefIdeal.nD Cert.MlstmOutRefIdeal.τ).loc Cert.MlstmOutRefIdeal.main_v16) = v0 c
          ∧ r.2.mem ((c.tc : Thread Cert.MlstmOutRefIdeal.nD Cert.MlstmOutRefIdeal.τ).loc Cert.MlstmOutRefIdeal.main_arg0) = m' ((c.tc : Thread Cert.MlstmOutRefIdeal.nD Cert.MlstmOutRefIdeal.τ).loc Cert.MlstmOutRefIdeal.main_arg0)
          ∧ r.2.mem ((c.tc : Thread Cert.MlstmOutRefIdeal.nD Cert.MlstmOutRefIdeal.τ).loc Cert.MlstmOutRefIdeal.main_arg1) = m' ((c.tc : Thread Cert.MlstmOutRefIdeal.nD Cert.MlstmOutRefIdeal.τ).loc Cert.MlstmOutRefIdeal.main_arg1)
          ∧ r.2.mem ((c.tc : Thread Cert.MlstmOutRefIdeal.nD Cert.MlstmOutRefIdeal.τ).loc Cert.MlstmOutRefIdeal.main_arg2) = m' ((c.tc : Thread Cert.MlstmOutRefIdeal.nD Cert.MlstmOutRefIdeal.τ).loc Cert.MlstmOutRefIdeal.main_arg2)
          ∧ r.2.mem ((c.tc : Thread Cert.MlstmOutRefIdeal.nD Cert.MlstmOutRefIdeal.τ).loc Cert.MlstmOutRefIdeal.main_arg3) = m' ((c.tc : Thread Cert.MlstmOutRefIdeal.nD Cert.MlstmOutRefIdeal.τ).loc Cert.MlstmOutRefIdeal.main_arg3))

def preserves_RwkvOut_RwkvOutIdeal : Prop :=
  True

def algebraic_RwkvOutIdeal_RwkvOutRefIdeal [hRwkvOutIdeal : Cert.RwkvOutIdeal.Facts] [hRwkvOutRefIdeal : Cert.RwkvOutRefIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg)
    (m' : (ℓ : Loc Cert.RwkvOutRefIdeal.nD Cert.RwkvOutRefIdeal.τ Cert.RwkvOutRefIdeal.sig) → Buf (Elt Ideal) ℓ) (g' : Dev Cert.RwkvOutRefIdeal.nD → PrngReg), Pre_RwkvOutIdeal m →
    (∀ c : Dev Cert.RwkvOutIdeal.nD,
      m' ((c.tc : Thread Cert.RwkvOutRefIdeal.nD Cert.RwkvOutRefIdeal.τ).loc Cert.RwkvOutRefIdeal.main_arg0) = m ((c.tc : Thread Cert.RwkvOutIdeal.nD Cert.RwkvOutIdeal.τ).loc Cert.RwkvOutIdeal.main_arg0)
      ∧ m' ((c.tc : Thread Cert.RwkvOutRefIdeal.nD Cert.RwkvOutRefIdeal.τ).loc Cert.RwkvOutRefIdeal.main_arg1) = m ((c.tc : Thread Cert.RwkvOutIdeal.nD Cert.RwkvOutIdeal.τ).loc Cert.RwkvOutIdeal.main_arg1)
      ∧ m' ((c.tc : Thread Cert.RwkvOutRefIdeal.nD Cert.RwkvOutRefIdeal.τ).loc Cert.RwkvOutRefIdeal.main_arg2) = m ((c.tc : Thread Cert.RwkvOutIdeal.nD Cert.RwkvOutIdeal.τ).loc Cert.RwkvOutIdeal.main_arg2)
      ∧ m' ((c.tc : Thread Cert.RwkvOutRefIdeal.nD Cert.RwkvOutRefIdeal.τ).loc Cert.RwkvOutRefIdeal.main_arg3) = m ((c.tc : Thread Cert.RwkvOutIdeal.nD Cert.RwkvOutIdeal.τ).loc Cert.RwkvOutIdeal.main_arg3)) →
    ∃ (v0 : (c : Dev Cert.RwkvOutIdeal.nD) → Buf (Elt Ideal) ((c.tc : Thread Cert.RwkvOutIdeal.nD Cert.RwkvOutIdeal.τ).loc Cert.RwkvOutIdeal.main_v3)),
      θ_run (Cert.RwkvOutIdeal.defs (F := Ideal)) (onTc (τ := Cert.RwkvOutIdeal.τ) (Cert.RwkvOutIdeal.main (F := Ideal))) ⟨m, fun _ => 0, g⟩ (fun r => ∀ c : Dev Cert.RwkvOutIdeal.nD,
          r.2.mem ((c.tc : Thread Cert.RwkvOutIdeal.nD Cert.RwkvOutIdeal.τ).loc Cert.RwkvOutIdeal.main_v3) = v0 c
          ∧ r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
          ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
          ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
          ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3))
      ∧ θ_run (Cert.RwkvOutRefIdeal.defs (F := Ideal)) (onTc (τ := Cert.RwkvOutRefIdeal.τ) (Cert.RwkvOutRefIdeal.main (F := Ideal))) ⟨m', fun _ => 0, g'⟩ (fun r => ∀ c : Dev Cert.RwkvOutRefIdeal.nD,
          r.2.mem ((c.tc : Thread Cert.RwkvOutRefIdeal.nD Cert.RwkvOutRefIdeal.τ).loc Cert.RwkvOutRefIdeal.main_v16) = v0 c
          ∧ r.2.mem ((c.tc : Thread Cert.RwkvOutRefIdeal.nD Cert.RwkvOutRefIdeal.τ).loc Cert.RwkvOutRefIdeal.main_arg0) = m' ((c.tc : Thread Cert.RwkvOutRefIdeal.nD Cert.RwkvOutRefIdeal.τ).loc Cert.RwkvOutRefIdeal.main_arg0)
          ∧ r.2.mem ((c.tc : Thread Cert.RwkvOutRefIdeal.nD Cert.RwkvOutRefIdeal.τ).loc Cert.RwkvOutRefIdeal.main_arg1) = m' ((c.tc : Thread Cert.RwkvOutRefIdeal.nD Cert.RwkvOutRefIdeal.τ).loc Cert.RwkvOutRefIdeal.main_arg1)
          ∧ r.2.mem ((c.tc : Thread Cert.RwkvOutRefIdeal.nD Cert.RwkvOutRefIdeal.τ).loc Cert.RwkvOutRefIdeal.main_arg2) = m' ((c.tc : Thread Cert.RwkvOutRefIdeal.nD Cert.RwkvOutRefIdeal.τ).loc Cert.RwkvOutRefIdeal.main_arg2)
          ∧ r.2.mem ((c.tc : Thread Cert.RwkvOutRefIdeal.nD Cert.RwkvOutRefIdeal.τ).loc Cert.RwkvOutRefIdeal.main_arg3) = m' ((c.tc : Thread Cert.RwkvOutRefIdeal.nD Cert.RwkvOutRefIdeal.τ).loc Cert.RwkvOutRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v25) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_ModVec_ModVecIdeal : Prop :=
  True

def algebraic_ModVecIdeal_ModVecRefIdeal_pre_below_infinity [hModVecIdeal : Cert.ModVecIdeal.Facts] [hModVecRefIdeal : Cert.ModVecRefIdeal.Facts] [hPre_below_infinity : Cert.Pre_below_infinity.Facts] : Prop :=
  ∀ (m : (ℓ : Loc Cert.ModVecIdeal.nD Cert.ModVecIdeal.τ Cert.ModVecIdeal.sig) → Buf (Elt Ideal) ℓ) (g : Dev Cert.ModVecIdeal.nD → PrngReg)
    (m' : (ℓ : Loc Cert.ModVecRefIdeal.nD Cert.ModVecRefIdeal.τ Cert.ModVecRefIdeal.sig) → Buf (Elt Ideal) ℓ) (g' : Dev Cert.ModVecRefIdeal.nD → PrngReg), Pre_ModVecIdeal_below_infinity m →
    (∀ c : Dev Cert.ModVecIdeal.nD,
      m' ((c.tc : Thread Cert.ModVecRefIdeal.nD Cert.ModVecRefIdeal.τ).loc Cert.ModVecRefIdeal.main_arg0) = m ((c.tc : Thread Cert.ModVecIdeal.nD Cert.ModVecIdeal.τ).loc Cert.ModVecIdeal.main_arg0)
      ∧ m' ((c.tc : Thread Cert.ModVecRefIdeal.nD Cert.ModVecRefIdeal.τ).loc Cert.ModVecRefIdeal.main_arg1) = m ((c.tc : Thread Cert.ModVecIdeal.nD Cert.ModVecIdeal.τ).loc Cert.ModVecIdeal.main_arg1)
      ∧ m' ((c.tc : Thread Cert.ModVecRefIdeal.nD Cert.ModVecRefIdeal.τ).loc Cert.ModVecRefIdeal.main_arg2) = m ((c.tc : Thread Cert.ModVecIdeal.nD Cert.ModVecIdeal.τ).loc Cert.ModVecIdeal.main_arg2)) →
    ∃ (v0 : (c : Dev Cert.ModVecIdeal.nD) → Buf (Elt Ideal) ((c.tc : Thread Cert.ModVecIdeal.nD Cert.ModVecIdeal.τ).loc Cert.ModVecIdeal.main_v2)),
      θ_run (Cert.ModVecIdeal.defs (F := Ideal)) (onTc (τ := Cert.ModVecIdeal.τ) (Cert.ModVecIdeal.main (F := Ideal))) ⟨m, fun _ => 0, g⟩ (fun r => ∀ c : Dev Cert.ModVecIdeal.nD,
          r.2.mem ((c.tc : Thread Cert.ModVecIdeal.nD Cert.ModVecIdeal.τ).loc Cert.ModVecIdeal.main_v2) = v0 c
          ∧ r.2.mem ((c.tc : Thread Cert.ModVecIdeal.nD Cert.ModVecIdeal.τ).loc Cert.ModVecIdeal.main_arg0) = m ((c.tc : Thread Cert.ModVecIdeal.nD Cert.ModVecIdeal.τ).loc Cert.ModVecIdeal.main_arg0)
          ∧ r.2.mem ((c.tc : Thread Cert.ModVecIdeal.nD Cert.ModVecIdeal.τ).loc Cert.ModVecIdeal.main_arg1) = m ((c.tc : Thread Cert.ModVecIdeal.nD Cert.ModVecIdeal.τ).loc Cert.ModVecIdeal.main_arg1)
          ∧ r.2.mem ((c.tc : Thread Cert.ModVecIdeal.nD Cert.ModVecIdeal.τ).loc Cert.ModVecIdeal.main_arg2) = m ((c.tc : Thread Cert.ModVecIdeal.nD Cert.ModVecIdeal.τ).loc Cert.ModVecIdeal.main_arg2))
      ∧ θ_run (Cert.ModVecRefIdeal.defs (F := Ideal)) (onTc (τ := Cert.ModVecRefIdeal.τ) (Cert.ModVecRefIdeal.main (F := Ideal))) ⟨m', fun _ => 0, g'⟩ (fun r => ∀ c : Dev Cert.ModVecRefIdeal.nD,
          r.2.mem ((c.tc : Thread Cert.ModVecRefIdeal.nD Cert.ModVecRefIdeal.τ).loc Cert.ModVecRefIdeal.main_v6) = v0 c
          ∧ r.2.mem ((c.tc : Thread Cert.ModVecRefIdeal.nD Cert.ModVecRefIdeal.τ).loc Cert.ModVecRefIdeal.main_arg0) = m' ((c.tc : Thread Cert.ModVecRefIdeal.nD Cert.ModVecRefIdeal.τ).loc Cert.ModVecRefIdeal.main_arg0)
          ∧ r.2.mem ((c.tc : Thread Cert.ModVecRefIdeal.nD Cert.ModVecRefIdeal.τ).loc Cert.ModVecRefIdeal.main_arg1) = m' ((c.tc : Thread Cert.ModVecRefIdeal.nD Cert.ModVecRefIdeal.τ).loc Cert.ModVecRefIdeal.main_arg1)
          ∧ r.2.mem ((c.tc : Thread Cert.ModVecRefIdeal.nD Cert.ModVecRefIdeal.τ).loc Cert.ModVecRefIdeal.main_arg2) = m' ((c.tc : Thread Cert.ModVecRefIdeal.nD Cert.ModVecRefIdeal.τ).loc Cert.ModVecRefIdeal.main_arg2))

def preserves_FinMod_FinModIdeal : Prop :=
  True

def algebraic_FinModIdeal_FinModRefIdeal_pre_below_infinity_final [hFinModIdeal : Cert.FinModIdeal.Facts] [hFinModRefIdeal : Cert.FinModRefIdeal.Facts] [hPre_below_infinity_final : Cert.Pre_below_infinity_final.Facts] : Prop :=
  ∀ (m : (ℓ : Loc Cert.FinModIdeal.nD Cert.FinModIdeal.τ Cert.FinModIdeal.sig) → Buf (Elt Ideal) ℓ) (g : Dev Cert.FinModIdeal.nD → PrngReg)
    (m' : (ℓ : Loc Cert.FinModRefIdeal.nD Cert.FinModRefIdeal.τ Cert.FinModRefIdeal.sig) → Buf (Elt Ideal) ℓ) (g' : Dev Cert.FinModRefIdeal.nD → PrngReg), Pre_FinModIdeal_below_infinity_final m →
    (∀ c : Dev Cert.FinModIdeal.nD,
      m' ((c.tc : Thread Cert.FinModRefIdeal.nD Cert.FinModRefIdeal.τ).loc Cert.FinModRefIdeal.main_arg0) = m ((c.tc : Thread Cert.FinModIdeal.nD Cert.FinModIdeal.τ).loc Cert.FinModIdeal.main_arg0)
      ∧ m' ((c.tc : Thread Cert.FinModRefIdeal.nD Cert.FinModRefIdeal.τ).loc Cert.FinModRefIdeal.main_arg1) = m ((c.tc : Thread Cert.FinModIdeal.nD Cert.FinModIdeal.τ).loc Cert.FinModIdeal.main_arg1)
      ∧ m' ((c.tc : Thread Cert.FinModRefIdeal.nD Cert.FinModRefIdeal.τ).loc Cert.FinModRefIdeal.main_arg2) = m ((c.tc : Thread Cert.FinModIdeal.nD Cert.FinModIdeal.τ).loc Cert.FinModIdeal.main_arg2)) →
    ∃ (v0 : (c : Dev Cert.FinModIdeal.nD) → Buf (Elt Ideal) ((c.tc : Thread Cert.FinModIdeal.nD Cert.FinModIdeal.τ).loc Cert.FinModIdeal.main_v4)),
      θ_run (Cert.FinModIdeal.defs (F := Ideal)) (onTc (τ := Cert.FinModIdeal.τ) (Cert.FinModIdeal.main (F := Ideal))) ⟨m, fun _ => 0, g⟩ (fun r => ∀ c : Dev Cert.FinModIdeal.nD,
          r.2.mem ((c.tc : Thread Cert.FinModIdeal.nD Cert.FinModIdeal.τ).loc Cert.FinModIdeal.main_v4) = v0 c
          ∧ r.2.mem ((c.tc : Thread Cert.FinModIdeal.nD Cert.FinModIdeal.τ).loc Cert.FinModIdeal.main_arg0) = m ((c.tc : Thread Cert.FinModIdeal.nD Cert.FinModIdeal.τ).loc Cert.FinModIdeal.main_arg0)
          ∧ r.2.mem ((c.tc : Thread Cert.FinModIdeal.nD Cert.FinModIdeal.τ).loc Cert.FinModIdeal.main_arg1) = m ((c.tc : Thread Cert.FinModIdeal.nD Cert.FinModIdeal.τ).loc Cert.FinModIdeal.main_arg1)
          ∧ r.2.mem ((c.tc : Thread Cert.FinModIdeal.nD Cert.FinModIdeal.τ).loc Cert.FinModIdeal.main_arg2) = m ((c.tc : Thread Cert.FinModIdeal.nD Cert.FinModIdeal.τ).loc Cert.FinModIdeal.main_arg2))
      ∧ θ_run (Cert.FinModRefIdeal.defs (F := Ideal)) (onTc (τ := Cert.FinModRefIdeal.τ) (Cert.FinModRefIdeal.main (F := Ideal))) ⟨m', fun _ => 0, g'⟩ (fun r => ∀ c : Dev Cert.FinModRefIdeal.nD,
          r.2.mem ((c.tc : Thread Cert.FinModRefIdeal.nD Cert.FinModRefIdeal.τ).loc Cert.FinModRefIdeal.main_v6) = v0 c
          ∧ r.2.mem ((c.tc : Thread Cert.FinModRefIdeal.nD Cert.FinModRefIdeal.τ).loc Cert.FinModRefIdeal.main_arg0) = m' ((c.tc : Thread Cert.FinModRefIdeal.nD Cert.FinModRefIdeal.τ).loc Cert.FinModRefIdeal.main_arg0)
          ∧ r.2.mem ((c.tc : Thread Cert.FinModRefIdeal.nD Cert.FinModRefIdeal.τ).loc Cert.FinModRefIdeal.main_arg1) = m' ((c.tc : Thread Cert.FinModRefIdeal.nD Cert.FinModRefIdeal.τ).loc Cert.FinModRefIdeal.main_arg1)
          ∧ r.2.mem ((c.tc : Thread Cert.FinModRefIdeal.nD Cert.FinModRefIdeal.τ).loc Cert.FinModRefIdeal.main_arg2) = m' ((c.tc : Thread Cert.FinModRefIdeal.nD Cert.FinModRefIdeal.τ).loc Cert.FinModRefIdeal.main_arg2))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hRetIn : Cert.RetIn.Facts) (hRetInIdeal : Cert.RetInIdeal.Facts) (hRetInRefIdeal : Cert.RetInRefIdeal.Facts) (hRetOut : Cert.RetOut.Facts) (hRetOutIdeal : Cert.RetOutIdeal.Facts) (hRetOutRefIdeal : Cert.RetOutRefIdeal.Facts) (hMlstmIn : Cert.MlstmIn.Facts) (hMlstmInIdeal : Cert.MlstmInIdeal.Facts) (hMlstmInRefIdeal : Cert.MlstmInRefIdeal.Facts) (hRwkvIn : Cert.RwkvIn.Facts) (hRwkvInIdeal : Cert.RwkvInIdeal.Facts) (hRwkvInRefIdeal : Cert.RwkvInRefIdeal.Facts) (hMlstmOut : Cert.MlstmOut.Facts) (hMlstmOutIdeal : Cert.MlstmOutIdeal.Facts) (hMlstmOutRefIdeal : Cert.MlstmOutRefIdeal.Facts) (hRwkvOut : Cert.RwkvOut.Facts) (hRwkvOutIdeal : Cert.RwkvOutIdeal.Facts) (hRwkvOutRefIdeal : Cert.RwkvOutRefIdeal.Facts) (hFinal : Cert.Final.Facts) (hFinalIdeal : Cert.FinalIdeal.Facts) (hFinalRefIdeal : Cert.FinalRefIdeal.Facts) (hModVec : Cert.ModVec.Facts) (hModVecIdeal : Cert.ModVecIdeal.Facts) (hModVecRefIdeal : Cert.ModVecRefIdeal.Facts) (hFinMod : Cert.FinMod.Facts) (hFinModIdeal : Cert.FinModIdeal.Facts) (hFinModRefIdeal : Cert.FinModRefIdeal.Facts) (hPre_below_infinity : Cert.Pre_below_infinity.Facts) (hPre_below_infinity_final : Cert.Pre_below_infinity_final.Facts),
    quiescent_Kernel (hKernel := hKernel)
    ∧ quiescent_KernelIdeal (hKernelIdeal := hKernelIdeal)
    ∧ quiescent_ReferenceIdeal (hReferenceIdeal := hReferenceIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_RetIn (hRetIn := hRetIn)
    ∧ quiescent_RetInIdeal (hRetInIdeal := hRetInIdeal)
    ∧ quiescent_RetInRefIdeal (hRetInRefIdeal := hRetInRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_MlstmIn (hMlstmIn := hMlstmIn)
    ∧ quiescent_MlstmInIdeal (hMlstmInIdeal := hMlstmInIdeal)
    ∧ quiescent_MlstmInRefIdeal (hMlstmInRefIdeal := hMlstmInRefIdeal)
    ∧ quiescent_RwkvIn (hRwkvIn := hRwkvIn)
    ∧ quiescent_RwkvInIdeal (hRwkvInIdeal := hRwkvInIdeal)
    ∧ quiescent_RwkvInRefIdeal (hRwkvInRefIdeal := hRwkvInRefIdeal)
    ∧ quiescent_MlstmOut (hMlstmOut := hMlstmOut)
    ∧ quiescent_MlstmOutIdeal (hMlstmOutIdeal := hMlstmOutIdeal)
    ∧ quiescent_MlstmOutRefIdeal (hMlstmOutRefIdeal := hMlstmOutRefIdeal)
    ∧ quiescent_RwkvOut (hRwkvOut := hRwkvOut)
    ∧ quiescent_RwkvOutIdeal (hRwkvOutIdeal := hRwkvOutIdeal)
    ∧ quiescent_RwkvOutRefIdeal (hRwkvOutRefIdeal := hRwkvOutRefIdeal)
    ∧ quiescent_Final (hFinal := hFinal)
    ∧ quiescent_FinalIdeal (hFinalIdeal := hFinalIdeal)
    ∧ quiescent_FinalRefIdeal (hFinalRefIdeal := hFinalRefIdeal)
    ∧ quiescent_ModVec (hModVec := hModVec)
    ∧ quiescent_ModVecIdeal (hModVecIdeal := hModVecIdeal)
    ∧ quiescent_ModVecIdeal_pre_below_infinity (hModVecIdeal := hModVecIdeal) (hPre_below_infinity := hPre_below_infinity)
    ∧ quiescent_ModVecRefIdeal (hModVecRefIdeal := hModVecRefIdeal)
    ∧ quiescent_ModVecRefIdeal_pre_below_infinity (hModVecRefIdeal := hModVecRefIdeal) (hPre_below_infinity := hPre_below_infinity)
    ∧ quiescent_FinMod (hFinMod := hFinMod)
    ∧ quiescent_FinModIdeal (hFinModIdeal := hFinModIdeal)
    ∧ quiescent_FinModIdeal_pre_below_infinity_final (hFinModIdeal := hFinModIdeal) (hPre_below_infinity_final := hPre_below_infinity_final)
    ∧ quiescent_FinModRefIdeal (hFinModRefIdeal := hFinModRefIdeal)
    ∧ quiescent_FinModRefIdeal_pre_below_infinity_final (hFinModRefIdeal := hFinModRefIdeal) (hPre_below_infinity_final := hPre_below_infinity_final)
    ∧ preserves_Kernel_KernelIdeal
    ∧ algebraic_KernelIdeal_ReferenceIdeal (hKernelIdeal := hKernelIdeal) (hReferenceIdeal := hReferenceIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_RetIn_RetInIdeal
    ∧ algebraic_RetInIdeal_RetInRefIdeal (hRetInIdeal := hRetInIdeal) (hRetInRefIdeal := hRetInRefIdeal)
    ∧ preserves_RetOut_RetOutIdeal
    ∧ algebraic_RetOutIdeal_RetOutRefIdeal (hRetOutIdeal := hRetOutIdeal) (hRetOutRefIdeal := hRetOutRefIdeal)
    ∧ preserves_MlstmIn_MlstmInIdeal
    ∧ algebraic_MlstmInIdeal_MlstmInRefIdeal (hMlstmInIdeal := hMlstmInIdeal) (hMlstmInRefIdeal := hMlstmInRefIdeal)
    ∧ preserves_RwkvIn_RwkvInIdeal
    ∧ algebraic_RwkvInIdeal_RwkvInRefIdeal (hRwkvInIdeal := hRwkvInIdeal) (hRwkvInRefIdeal := hRwkvInRefIdeal)
    ∧ preserves_MlstmOut_MlstmOutIdeal
    ∧ algebraic_MlstmOutIdeal_MlstmOutRefIdeal (hMlstmOutIdeal := hMlstmOutIdeal) (hMlstmOutRefIdeal := hMlstmOutRefIdeal)
    ∧ preserves_RwkvOut_RwkvOutIdeal
    ∧ algebraic_RwkvOutIdeal_RwkvOutRefIdeal (hRwkvOutIdeal := hRwkvOutIdeal) (hRwkvOutRefIdeal := hRwkvOutRefIdeal)
    ∧ preserves_Final_FinalIdeal
    ∧ algebraic_FinalIdeal_FinalRefIdeal (hFinalIdeal := hFinalIdeal) (hFinalRefIdeal := hFinalRefIdeal)
    ∧ preserves_ModVec_ModVecIdeal
    ∧ algebraic_ModVecIdeal_ModVecRefIdeal_pre_below_infinity (hModVecIdeal := hModVecIdeal) (hModVecRefIdeal := hModVecRefIdeal) (hPre_below_infinity := hPre_below_infinity)
    ∧ preserves_FinMod_FinModIdeal
    ∧ algebraic_FinModIdeal_FinModRefIdeal_pre_below_infinity_final (hFinModIdeal := hFinModIdeal) (hFinModRefIdeal := hFinModRefIdeal) (hPre_below_infinity_final := hPre_below_infinity_final)
-- ==== Pre_below_infinity.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩

class Facts : Prop where
  bcast_S_S4x2048 : S_.BroadcastsInDim S4x2048 (![] : Fin 0 → Fin S4x2048.rank)

variable [Facts]

def fn {F : FTy → Type} [FloatOps F] (main_arg0 : FVec F S4x2048 .f32) (main_arg1 : FVec F S4x2048x12288 .f32) (main_arg2 : FVec F S4x12288 .f32) : IVec S4x2048 1 :=
  let main_cst : FVec F S_ .f32 := constant S_ .f32 0x7F800000#32
  let main_v0 : FVec F S4x2048 .f32 := broadcastInDim S4x2048 ![] bcast_S_S4x2048 main_cst
  let main_v1 : IVec S4x2048 1 := cmpf .olt main_arg0 main_v0
  main_v1
-- ==== Pre_below_infinity_final.lean ====
abbrev S4x2048 : Shape := ⟨2, ![4, 2048]⟩
abbrev S2048x4096 : Shape := ⟨2, ![2048, 4096]⟩
abbrev S4096 : Shape := ⟨1, ![4096]⟩
abbrev S_ : Shape := ⟨0, ![]⟩

class Facts : Prop where
  bcast_S_S4x2048 : S_.BroadcastsInDim S4x2048 (![] : Fin 0 → Fin S4x2048.rank)

variable [Facts]

def fn {F : FTy → Type} [FloatOps F] (main_arg0 : FVec F S4x2048 .f32) (main_arg1 : FVec F S2048x4096 .f32) (main_arg2 : FVec F S4096 .f32) : IVec S4x2048 1 :=
  let main_cst : FVec F S_ .f32 := constant S_ .f32 0x7F800000#32
  let main_v0 : FVec F S4x2048 .f32 := broadcastInDim S4x2048 ![] bcast_S_S4x2048 main_cst
  let main_v1 : IVec S4x2048 1 := cmpf .olt main_arg0 main_v0
  main_v1
-- ==== Kernel.lean ====
abbrev S4x4096x6152 : Shape := ⟨3, ![4, 4096, 6152]⟩
abbrev S1x4x2048 : Shape := ⟨3, ![1, 4, 2048]⟩
abbrev S1x2048 : Shape := ⟨2, ![1, 2048]⟩
abbrev S1x8 : Shape := ⟨2, ![1, 8]⟩
abbrev S128x128 : Shape := ⟨2, ![128, 128]⟩
abbrev S16384x6152 : Shape := ⟨2, ![16384, 6152]⟩
abbrev S_ : Shape := ⟨0, ![]⟩
abbrev S16384x6656 : Shape := ⟨2, ![16384, 6656]⟩
abbrev S4x2048 : Shape := ⟨2, ![4, 2048]⟩
abbrev S2048 : Shape := ⟨1, ![2048]⟩
abbrev S8 : Shape := ⟨1, ![8]⟩
abbrev S1x128 : Shape := ⟨2, ![1, 128]⟩
abbrev S1 : Shape := ⟨1, ![1]⟩
abbrev S2 : Shape := ⟨1, ![2]⟩
abbrev S16384x2048 : Shape := ⟨2, ![16384, 2048]⟩
abbrev S128x1024 : Shape := ⟨2, ![128, 1024]⟩
abbrev S128x2048 : Shape := ⟨2, ![128, 2048]⟩
abbrev S136x1024 : Shape := ⟨2, ![136, 1024]⟩
abbrev S4x256x512 : Shape := ⟨3, ![4, 256, 512]⟩
abbrev S4x1x256 : Shape := ⟨3, ![4, 1, 256]⟩
abbrev S4x1x1 : Shape := ⟨3, ![4, 1, 1]⟩
abbrev S8x1024 : Shape := ⟨2, ![8, 1024]⟩
abbrev S1x1024 : Shape := ⟨2, ![1, 1024]⟩
abbrev S128x256 : Shape := ⟨2, ![128, 256]⟩
abbrev S128x512 : Shape := ⟨2, ![128, 512]⟩
abbrev S128 : Shape := ⟨1, ![128]⟩
abbrev S128x1 : Shape := ⟨2, ![128, 1]⟩
abbrev S1x1x1 : Shape := ⟨3, ![1, 1, 1]⟩
abbrev S1x1 : Shape := ⟨2, ![1, 1]⟩
abbrev S1x256x512 : Shape := ⟨3, ![1, 256, 512]⟩
abbrev S256x512 : Shape := ⟨2, ![256, 512]⟩
abbrev S1x1x256 : Shape := ⟨3, ![1, 1, 256]⟩
abbrev S1x256 : Shape := ⟨2, ![1, 256]⟩
abbrev S256x128 : Shape := ⟨2, ![256, 128]⟩
abbrev S256 : Shape := ⟨1, ![256]⟩
abbrev S1x512 : Shape := ⟨2, ![1, 512]⟩

abbrev nBuf : Space → Nat
  | .hbm => 25
  | .vmem => 22
  | .smem => 0
  | _ => 0

abbrev bufTy : (tb : Table) → Fin (tcTables nBuf tb) → BufTy
  | .hbm, ⟨0, _⟩ => ⟨S4x4096x6152, .f32⟩
  | .hbm, ⟨1, _⟩ => ⟨S1x4x2048, .f32⟩
  | .hbm, ⟨2, _⟩ => ⟨S1x2048, .f32⟩
  | .hbm, ⟨3, _⟩ => ⟨S1x8, .f32⟩
  | .hbm, ⟨4, _⟩ => ⟨S1x2048, .f32⟩
  | .hbm, ⟨5, _⟩ => ⟨S128x128, .bf16⟩
  | .hbm, ⟨6, _⟩ => ⟨S16384x6152, .f32⟩
  | .hbm, ⟨7, _⟩ => ⟨S_, .i32⟩
  | .hbm, ⟨8, _⟩ => ⟨S_, .f32⟩
  | .hbm, ⟨9, _⟩ => ⟨S16384x6656, .f32⟩
  | .hbm, ⟨10, _⟩ => ⟨S4x2048, .f32⟩
  | .hbm, ⟨11, _⟩ => ⟨S2048, .f32⟩
  | .hbm, ⟨12, _⟩ => ⟨S8, .f32⟩
  | .hbm, ⟨13, _⟩ => ⟨S2048, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1x2048, .f32⟩
  | .hbm, ⟨23, _⟩ => ⟨S1x2048, .f32⟩
  | .hbm, ⟨24, _⟩ => ⟨S16384x2048, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S4x2048, .f32⟩
  | .local _ .vmem, ⟨11, _⟩ => ⟨S1x2048, .f32⟩
  | .local _ .vmem, ⟨12, _⟩ => ⟨S1x128, .f32⟩
  | .local _ .vmem, ⟨13, _⟩ => ⟨S1x2048, .f32⟩
  | .local _ .vmem, ⟨14, _⟩ => ⟨S128x128, .bf16⟩
  | .local _ .vmem, ⟨15, _⟩ => ⟨S128x2048, .bf16⟩
  | .local _ .vmem, ⟨16, _⟩ => ⟨S128x2048, .bf16⟩
  | .local _ .vmem, ⟨17, _⟩ => ⟨S136x1024, .f32⟩
  | .local _ .vmem, ⟨18, _⟩ => ⟨S136x1024, .f32⟩
  | .local _ .vmem, ⟨19, _⟩ => ⟨S4x256x512, .f32⟩
  | .local _ .vmem, ⟨20, _⟩ => ⟨S4x1x256, .f32⟩
  | .local _ .vmem, ⟨21, _⟩ => ⟨S4x1x1, .f32⟩
  | _, _ => ⟨S4x4096x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c48_i32 : BitVec 32 := 48#32
  let c0_i32 : BitVec 32 := 0#32
  ![v1.toNat, c48_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x6152 : Shape := ⟨3, ![4, 4096, 6152]⟩
abbrev S1x4x2048 : Shape := ⟨3, ![1, 4, 2048]⟩
abbrev S1x2048 : Shape := ⟨2, ![1, 2048]⟩
abbrev S1x8 : Shape := ⟨2, ![1, 8]⟩
abbrev S4x4096x2048 : Shape := ⟨3, ![4, 4096, 2048]⟩
abbrev S4x4096x8 : Shape := ⟨3, ![4, 4096, 8]⟩
abbrev S4x4093x2048 : Shape := ⟨3, ![4, 4093, 2048]⟩
abbrev S_ : Shape := ⟨0, ![]⟩
abbrev S1x1x2048 : Shape := ⟨3, ![1, 1, 2048]⟩
abbrev S2048 : Shape := ⟨1, ![2048]⟩
abbrev S4x4094x2048 : Shape := ⟨3, ![4, 4094, 2048]⟩
abbrev S4x4095x2048 : Shape := ⟨3, ![4, 4095, 2048]⟩
abbrev S4x4096x1024 : Shape := ⟨3, ![4, 4096, 1024]⟩
abbrev S4x4096x4x256 : Shape := ⟨4, ![4, 4096, 4, 256]⟩
abbrev S4x4096x4x512 : Shape := ⟨4, ![4, 4096, 4, 512]⟩
abbrev S8 : Shape := ⟨1, ![8]⟩
abbrev S1x1x8 : Shape := ⟨3, ![1, 1, 8]⟩
abbrev S4x4096x4 : Shape := ⟨3, ![4, 4096, 4]⟩
abbrev S128x128 : Shape := ⟨2, ![128, 128]⟩
abbrev S4x4x512x256 : Shape := ⟨4, ![4, 4, 512, 256]⟩
abbrev S4x4x256 : Shape := ⟨3, ![4, 4, 256]⟩
abbrev S4x4 : Shape := ⟨2, ![4, 4]⟩
abbrev S4x32x128x4x256 : Shape := ⟨5, ![4, 32, 128, 4, 256]⟩
abbrev S32x4x128x4x256 : Shape := ⟨5, ![32, 4, 128, 4, 256]⟩
abbrev S32x4x4x128x256 : Shape := ⟨5, ![32, 4, 4, 128, 256]⟩
abbrev S4x32x128x4x512 : Shape := ⟨5, ![4, 32, 128, 4, 512]⟩
abbrev S32x4x128x4x512 : Shape := ⟨5, ![32, 4, 128, 4, 512]⟩
abbrev S32x4x4x128x512 : Shape := ⟨5, ![32, 4, 4, 128, 512]⟩
abbrev S4x32x128x4 : Shape := ⟨4, ![4, 32, 128, 4]⟩
abbrev S32x4x128x4 : Shape := ⟨4, ![32, 4, 128, 4]⟩
abbrev S32x4x4x128 : Shape := ⟨4, ![32, 4, 4, 128]⟩
abbrev S1x4x4x128x256 : Shape := ⟨5, ![1, 4, 4, 128, 256]⟩
abbrev S4x4x128x256 : Shape := ⟨4, ![4, 4, 128, 256]⟩
abbrev S1x4x4x128x512 : Shape := ⟨5, ![1, 4, 4, 128, 512]⟩
abbrev S4x4x128x512 : Shape := ⟨4, ![4, 4, 128, 512]⟩
abbrev S1x4x4x128 : Shape := ⟨4, ![1, 4, 4, 128]⟩
abbrev S4x4x128 : Shape := ⟨3, ![4, 4, 128]⟩
abbrev S4x4x128x1 : Shape := ⟨4, ![4, 4, 128, 1]⟩
abbrev S4x4x1x128 : Shape := ⟨4, ![4, 4, 1, 128]⟩
abbrev S4x4x128x128 : Shape := ⟨4, ![4, 4, 128, 128]⟩
abbrev S4x4x1 : Shape := ⟨3, ![4, 4, 1]⟩
abbrev S4x4x1x1 : Shape := ⟨4, ![4, 4, 1, 1]⟩
abbrev S4x4096x4x1 : Shape := ⟨4, ![4, 4096, 4, 1]⟩
abbrev S4x512 : Shape := ⟨2, ![4, 512]⟩
abbrev S1x1x4x512 : Shape := ⟨4, ![1, 1, 4, 512]⟩
abbrev S16384x2048 : Shape := ⟨2, ![16384, 2048]⟩

abbrev nBuf : Space → Nat
  | .hbm => 299
  | .vmem => 0
  | .smem => 0
  | _ => 0

abbrev hbmTy0_0 (i : Nat) : BufTy := match i % 128 with
  | 0 => ⟨S4x4096x6152, .f32⟩
  | 1 => ⟨S1x4x2048, .f32⟩
  | 2 => ⟨S1x2048, .f32⟩
  | 3 => ⟨S1x8, .f32⟩
  | 4 => ⟨S1x2048, .f32⟩
  | 5 => ⟨S4x4096x2048, .f32⟩
  | 6 => ⟨S4x4096x2048, .f32⟩
  | 7 => ⟨S4x4096x8, .f32⟩
  | 8 => ⟨S4x4093x2048, .f32⟩
  | 9 => ⟨S_, .i32⟩
  | 10 => ⟨S_, .f32⟩
  | 11 => ⟨S4x4096x2048, .f32⟩
  | 12 => ⟨S1x1x2048, .f32⟩
  | 13 => ⟨S2048, .f32⟩
  | 14 => ⟨S1x1x2048, .f32⟩
  | 15 => ⟨S4x4096x2048, .f32⟩
  | 16 => ⟨S4x4096x2048, .f32⟩
  | 17 => ⟨S_, .f32⟩
  | 18 => ⟨S4x4096x2048, .f32⟩
  | 19 => ⟨S4x4096x2048, .f32⟩
  | 20 => ⟨S4x4094x2048, .f32⟩
  | 21 => ⟨S_, .i32⟩
  | 22 => ⟨S_, .f32⟩
  | 23 => ⟨S4x4096x2048, .f32⟩
  | 24 => ⟨S1x1x2048, .f32⟩
  | 25 => ⟨S2048, .f32⟩
  | 26 => ⟨S1x1x2048, .f32⟩
  | 27 => ⟨S4x4096x2048, .f32⟩
  | 28 => ⟨S4x4096x2048, .f32⟩
  | 29 => ⟨S4x4096x2048, .f32⟩
  | 30 => ⟨S4x4095x2048, .f32⟩
  | 31 => ⟨S_, .i32⟩
  | 32 => ⟨S_, .f32⟩
  | 33 => ⟨S4x4096x2048, .f32⟩
  | 34 => ⟨S1x1x2048, .f32⟩
  | 35 => ⟨S2048, .f32⟩
  | 36 => ⟨S1x1x2048, .f32⟩
  | 37 => ⟨S4x4096x2048, .f32⟩
  | 38 => ⟨S4x4096x2048, .f32⟩
  | 39 => ⟨S4x4096x2048, .f32⟩
  | 40 => ⟨S1x1x2048, .f32⟩
  | 41 => ⟨S2048, .f32⟩
  | 42 => ⟨S1x1x2048, .f32⟩
  | 43 => ⟨S4x4096x2048, .f32⟩
  | 44 => ⟨S4x4096x2048, .f32⟩
  | 45 => ⟨S4x4096x2048, .f32⟩
  | 46 => ⟨S2048, .f32⟩
  | 47 => ⟨S1x1x2048, .f32⟩
  | 48 => ⟨S4x4096x2048, .f32⟩
  | 49 => ⟨S4x4096x2048, .f32⟩
  | 50 => ⟨S4x4096x2048, .f32⟩
  | 51 => ⟨S4x4096x2048, .f32⟩
  | 52 => ⟨S_, .f32⟩
  | 53 => ⟨S4x4096x2048, .f32⟩
  | 54 => ⟨S4x4096x2048, .f32⟩
  | 55 => ⟨S_, .f32⟩
  | 56 => ⟨S4x4096x2048, .f32⟩
  | 57 => ⟨S4x4096x2048, .f32⟩
  | 58 => ⟨S4x4096x2048, .f32⟩
  | 59 => ⟨S4x4096x1024, .f32⟩
  | 60 => ⟨S4x4096x1024, .f32⟩
  | 61 => ⟨S4x4096x4x256, .f32⟩
  | 62 => ⟨S4x4096x4x256, .f32⟩
  | 63 => ⟨S_, .f32⟩
  | 64 => ⟨S4x4096x4x256, .f32⟩
  | 65 => ⟨S4x4096x4x256, .f32⟩
  | 66 => ⟨S4x4096x4x512, .f32⟩
  | 67 => ⟨S8, .f32⟩
  | 68 => ⟨S1x1x8, .f32⟩
  | 69 => ⟨S4x4096x8, .f32⟩
  | 70 => ⟨S4x4096x8, .f32⟩
  | 71 => ⟨S4x4096x4, .f32⟩
  | 72 => ⟨S4x4096x4, .f32⟩
  | 73 => ⟨S_, .f32⟩
  | 74 => ⟨S4x4096x4, .f32⟩
  | 75 => ⟨S4x4096x4, .f32⟩
  | 76 => ⟨S4x4096x4, .f32⟩
  | 77 => ⟨S_, .f32⟩
  | 78 => ⟨S4x4096x4, .f32⟩
  | 79 => ⟨S4x4096x4, .f32⟩
  | 80 => ⟨S_, .f32⟩
  | 81 => ⟨S4x4096x4, .f32⟩
  | 82 => ⟨S4x4096x4, .f32⟩
  | 83 => ⟨S4x4096x4, .f32⟩
  | 84 => ⟨S_, .f32⟩
  | 85 => ⟨S4x4096x4, .f32⟩
  | 86 => ⟨S4x4096x4, .f32⟩
  | 87 => ⟨S4x4096x4, .f32⟩
  | 88 => ⟨S_, .f32⟩
  | 89 => ⟨S4x4096x4, .f32⟩
  | 90 => ⟨S4x4096x4, .f32⟩
  | 91 => ⟨S4x4096x4, .f32⟩
  | 92 => ⟨S4x4096x4, .f32⟩
  | 93 => ⟨S4x4096x4, .i1⟩
  | 94 => ⟨S4x4096x4, .f32⟩
  | 95 => ⟨S4x4096x4, .f32⟩
  | 96 => ⟨S4x4096x4, .f32⟩
  | 97 => ⟨S4x4096x4, .f32⟩
  | 98 => ⟨S4x4096x4, .f32⟩
  | 99 => ⟨S4x4096x4, .f32⟩
  | 100 => ⟨S4x4096x4, .f32⟩
  | 101 => ⟨S4x4096x4, .f32⟩
  | 102 => ⟨S4x4096x4, .f32⟩
  | 103 => ⟨S_, .i1⟩
  | 104 => ⟨S128x128, .i1⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i1⟩
  | 111 => ⟨S_, .i1⟩
  | 112 => ⟨S128x128, .i1⟩
  | 113 => ⟨S128x128, .i1⟩
  | 114 => ⟨S_, .f32⟩
  | 115 => ⟨S4x4x512x256, .f32⟩
  | 116 => ⟨S_, .f32⟩
  | 117 => ⟨S4x4x256, .f32⟩
  | 118 => ⟨S_, .f32⟩
  | 119 => ⟨S4x4, .f32⟩
  | 120 => ⟨S4x32x128x4x256, .f32⟩
  | 121 => ⟨S32x4x128x4x256, .f32⟩
  | 122 => ⟨S32x4x4x128x256, .f32⟩
  | 123 => ⟨S4x32x128x4x256, .f32⟩
  | 124 => ⟨S32x4x128x4x256, .f32⟩
  | 125 => ⟨S32x4x4x128x256, .f32⟩
  | 126 => ⟨S4x32x128x4x512, .f32⟩
  | 127 => ⟨S32x4x128x4x512, .f32⟩
  | _ => ⟨S4x4096x6152, .f32⟩

abbrev hbmTy0_1 (i : Nat) : BufTy := match i % 128 with
  | 0 => ⟨S32x4x4x128x512, .f32⟩
  | 1 => ⟨S4x32x128x4, .f32⟩
  | 2 => ⟨S32x4x128x4, .f32⟩
  | 3 => ⟨S32x4x4x128, .f32⟩
  | 4 => ⟨S4x32x128x4, .f32⟩
  | 5 => ⟨S32x4x128x4, .f32⟩
  | 6 => ⟨S32x4x4x128, .f32⟩
  | 7 => ⟨S_, .f32⟩
  | 8 => ⟨S32x4x4x128x512, .f32⟩
  | 9 => ⟨S_, .i32⟩
  | 10 => ⟨S32x4x4x128x256, .f32⟩
  | 11 => ⟨S32x4x4x128x256, .f32⟩
  | 12 => ⟨S32x4x4x128x512, .f32⟩
  | 13 => ⟨S32x4x4x128, .f32⟩
  | 14 => ⟨S32x4x4x128, .f32⟩
  | 15 => ⟨S128x128, .i1⟩
  | 16 => ⟨S_, .i32⟩
  | 17 => ⟨S4x4x512x256, .f32⟩
  | 18 => ⟨S4x4x256, .f32⟩
  | 19 => ⟨S4x4, .f32⟩
  | 20 => ⟨S32x4x4x128x512, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S1x4x4x128x256, .f32⟩
  | 28 => ⟨S4x4x128x256, .f32⟩
  | 29 => ⟨S_, .i32⟩
  | 30 => ⟨S_, .i32⟩
  | 31 => ⟨S_, .i32⟩
  | 32 => ⟨S_, .i32⟩
  | 33 => ⟨S1x4x4x128x256, .f32⟩
  | 34 => ⟨S4x4x128x256, .f32⟩
  | 35 => ⟨S_, .i32⟩
  | 36 => ⟨S_, .i32⟩
  | 37 => ⟨S_, .i32⟩
  | 38 => ⟨S_, .i32⟩
  | 39 => ⟨S1x4x4x128x512, .f32⟩
  | 40 => ⟨S4x4x128x512, .f32⟩
  | 41 => ⟨S_, .i32⟩
  | 42 => ⟨S_, .i32⟩
  | 43 => ⟨S_, .i32⟩
  | 44 => ⟨S1x4x4x128, .f32⟩
  | 45 => ⟨S4x4x128, .f32⟩
  | 46 => ⟨S_, .i32⟩
  | 47 => ⟨S_, .i32⟩
  | 48 => ⟨S_, .i32⟩
  | 49 => ⟨S1x4x4x128, .f32⟩
  | 50 => ⟨S4x4x128, .f32⟩
  | 51 => ⟨S_, .f32⟩
  | 52 => ⟨S_, .f32⟩
  | 53 => ⟨S4x4x128, .f32⟩
  | 54 => ⟨S4x4x128x1, .f32⟩
  | 55 => ⟨S4x4x1x128, .f32⟩
  | 56 => ⟨S4x4x128x128, .f32⟩
  | 57 => ⟨S4x4x128x128, .f32⟩
  | 58 => ⟨S4x4x128x128, .f32⟩
  | 59 => ⟨S4x4x1x128, .f32⟩
  | 60 => ⟨S4x4x128x128, .f32⟩
  | 61 => ⟨S4x4x128x128, .f32⟩
  | 62 => ⟨S_, .f32⟩
  | 63 => ⟨S_, .f32⟩
  | 64 => ⟨S4x4x128x128, .i1⟩
  | 65 => ⟨S4x4x128x128, .f32⟩
  | 66 => ⟨S4x4x128x128, .f32⟩
  | 67 => ⟨S4x4x1, .f32⟩
  | 68 => ⟨S4x4x128, .f32⟩
  | 69 => ⟨S4x4x128, .f32⟩
  | 70 => ⟨S_, .f32⟩
  | 71 => ⟨S4x4x128, .f32⟩
  | 72 => ⟨S4x4x128, .f32⟩
  | 73 => ⟨S4x4x128x128, .f32⟩
  | 74 => ⟨S4x4x128x1, .f32⟩
  | 75 => ⟨S4x4x128x128, .f32⟩
  | 76 => ⟨S4x4x128x128, .f32⟩
  | 77 => ⟨S4x4x128x128, .f32⟩
  | 78 => ⟨S4x4x128x128, .f32⟩
  | 79 => ⟨S4x4x128, .f32⟩
  | 80 => ⟨S4x4x128, .f32⟩
  | 81 => ⟨S4x4x128x512, .f32⟩
  | 82 => ⟨S4x4x128x1, .f32⟩
  | 83 => ⟨S4x4x128x512, .f32⟩
  | 84 => ⟨S4x4x128x512, .f32⟩
  | 85 => ⟨S4x4x128x512, .f32⟩
  | 86 => ⟨S4x4x128x512, .f32⟩
  | 87 => ⟨S_, .f32⟩
  | 88 => ⟨S4x4x128, .f32⟩
  | 89 => ⟨S4x4x128, .f32⟩
  | 90 => ⟨S4x4x128, .f32⟩
  | 91 => ⟨S4x4x128, .f32⟩
  | 92 => ⟨S4x4x128, .f32⟩
  | 93 => ⟨S4x4x128, .f32⟩
  | 94 => ⟨S4x4x128, .f32⟩
  | 95 => ⟨S4x4x128, .f32⟩
  | 96 => ⟨S4x4x128x1, .f32⟩
  | 97 => ⟨S4x4x128x512, .f32⟩
  | 98 => ⟨S4x4x128x512, .f32⟩
  | 99 => ⟨S4x4x1, .f32⟩
  | 100 => ⟨S4x4, .f32⟩
  | 101 => ⟨S4x4x1, .f32⟩
  | 102 => ⟨S4x4x128, .f32⟩
  | 103 => ⟨S4x4x128, .f32⟩
  | 104 => ⟨S4x4x128, .f32⟩
  | 105 => ⟨S4x4, .f32⟩
  | 106 => ⟨S_, .f32⟩
  | 107 => ⟨S4x4, .f32⟩
  | 108 => ⟨S4x4, .f32⟩
  | 109 => ⟨S4x4x1, .f32⟩
  | 110 => ⟨S4x4x128, .f32⟩
  | 111 => ⟨S4x4x128, .f32⟩
  | 112 => ⟨S4x4x128, .f32⟩
  | 113 => ⟨S4x4, .f32⟩
  | 114 => ⟨S4x4, .f32⟩
  | 115 => ⟨S4x4, .f32⟩
  | 116 => ⟨S4x4x1x1, .f32⟩
  | 117 => ⟨S4x4x512x256, .f32⟩
  | 118 => ⟨S4x4x512x256, .f32⟩
  | 119 => ⟨S4x4x128x1, .f32⟩
  | 120 => ⟨S4x4x128x512, .f32⟩
  | 121 => ⟨S4x4x128x512, .f32⟩
  | 122 => ⟨S4x4x512x256, .f32⟩
  | 123 => ⟨S4x4x512x256, .f32⟩
  | 124 => ⟨S4x4x1, .f32⟩
  | 125 => ⟨S4x4x256, .f32⟩
  | 126 => ⟨S4x4x256, .f32⟩
  | 127 => ⟨S4x4x256, .f32⟩
  | _ => ⟨S4x4096x6152, .f32⟩

abbrev hbmTy0_2 (i : Nat) : BufTy := match i % 128 with
  | 0 => ⟨S4x4x256, .f32⟩
  | 1 => ⟨S1x4x4x128x512, .f32⟩
  | 2 => ⟨S_, .i32⟩
  | 3 => ⟨S_, .i32⟩
  | 4 => ⟨S_, .i32⟩
  | 5 => ⟨S_, .i32⟩
  | 6 => ⟨S32x4x4x128x512, .f32⟩
  | 7 => ⟨S_, .i32⟩
  | 8 => ⟨S_, .i32⟩
  | 9 => ⟨S32x4x128x4x512, .f32⟩
  | 10 => ⟨S4x32x128x4x512, .f32⟩
  | 11 => ⟨S4x4096x4x512, .f32⟩
  | 12 => ⟨S4x4096x4x512, .f32⟩
  | 13 => ⟨S_, .f32⟩
  | 14 => ⟨S4x4096x4, .f32⟩
  | 15 => ⟨S4x4096x4x1, .f32⟩
  | 16 => ⟨S_, .f32⟩
  | 17 => ⟨S4x4096x4x1, .f32⟩
  | 18 => ⟨S4x4096x4x1, .f32⟩
  | 19 => ⟨S_, .f32⟩
  | 20 => ⟨S4x4096x4x1, .f32⟩
  | 21 => ⟨S4x4096x4x1, .f32⟩
  | 22 => ⟨S4x4096x4x1, .f32⟩
  | 23 => ⟨S4x4096x4x512, .f32⟩
  | 24 => ⟨S4x4096x4x512, .f32⟩
  | 25 => ⟨S2048, .f32⟩
  | 26 => ⟨S4x512, .f32⟩
  | 27 => ⟨S1x1x4x512, .f32⟩
  | 28 => ⟨S4x4096x4x512, .f32⟩
  | 29 => ⟨S4x4096x4x512, .f32⟩
  | 30 => ⟨S4x4096x2048, .f32⟩
  | 31 => ⟨S4x4096x2048, .f32⟩
  | 32 => ⟨S4x4096x2048, .f32⟩
  | 33 => ⟨S4x4096x2048, .f32⟩
  | 34 => ⟨S_, .f32⟩
  | 35 => ⟨S4x4096x2048, .f32⟩
  | 36 => ⟨S4x4096x2048, .f32⟩
  | 37 => ⟨S_, .f32⟩
  | 38 => ⟨S4x4096x2048, .f32⟩
  | 39 => ⟨S4x4096x2048, .f32⟩
  | 40 => ⟨S4x4096x2048, .f32⟩
  | 41 => ⟨S16384x2048, .f32⟩
  | 42 => ⟨S16384x2048, .bf16⟩
  | _ => ⟨S4x4096x6152, .f32⟩

abbrev hbmTy (i : Nat) : BufTy := match i / 128 with
  | 0 => hbmTy0_0 i
  | 1 => hbmTy0_1 i
  | 2 => hbmTy0_2 i
  | _ => ⟨S4x4096x6152, .f32⟩

abbrev bufTy : (tb : Table) → Fin (tcTables nBuf tb) → BufTy
  | .hbm, ⟨i, _⟩ => hbmTy i
  | _, _ => ⟨S4x4096x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_call2_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call3_v0 : Ref sig .tc := ⟨.hbm, 50, rfl⟩
abbrev main_call3_v1 : Ref sig .tc := ⟨.hbm, 51, rfl⟩
abbrev main_call3_cst : Ref sig .tc := ⟨.hbm, 52, rfl⟩
abbrev main_call3_v2 : Ref sig .tc := ⟨.hbm, 53, rfl⟩
abbrev main_call3_v3 : Ref sig .tc := ⟨.hbm, 54, rfl⟩
abbrev main_call3_cst_0 : Ref sig .tc := ⟨.hbm, 55, rfl⟩
abbrev main_call3_v4 : Ref sig .tc := ⟨.hbm, 56, rfl⟩
abbrev main_call3_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_2 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_4 : Ref sig .tc := ⟨.hbm, 77, rfl⟩
abbrev main_v55 : Ref sig .tc := ⟨.hbm, 78, rfl⟩
abbrev main_v56 : Ref sig .tc := ⟨.hbm, 79, rfl⟩
abbrev main_cst_5 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_6 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call4_cst : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_v63 : Ref sig .tc := ⟨.hbm, 101, rfl⟩
abbrev main_v64 : Ref sig .tc := ⟨.hbm, 102, rfl⟩
abbrev main_c_7 : Ref sig .tc := ⟨.hbm, 103, rfl⟩
abbrev main_v65 : Ref sig .tc := ⟨.hbm, 104, rfl⟩
abbrev main_call5_v0 : Ref sig .tc := ⟨.hbm, 105, rfl⟩
abbrev main_call5_c : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_c_0 : Ref sig .tc := ⟨.hbm, 111, rfl⟩
abbrev main_call5_v5 : Ref sig .tc := ⟨.hbm, 112, rfl⟩
abbrev main_v66 : Ref sig .tc := ⟨.hbm, 113, rfl⟩
abbrev main_cst_8 : Ref sig .tc := ⟨.hbm, 114, rfl⟩
abbrev main_v67 : Ref sig .tc := ⟨.hbm, 115, rfl⟩
abbrev main_cst_9 : Ref sig .tc := ⟨.hbm, 116, rfl⟩
abbrev main_v68 : Ref sig .tc := ⟨.hbm, 117, rfl⟩
abbrev main_cst_10 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_11 : Ref sig .tc := ⟨.hbm, 135, rfl⟩
abbrev main_v85 : Ref sig .tc := ⟨.hbm, 136, rfl⟩
abbrev main_c_12 : Ref sig .tc := ⟨.hbm, 137, rfl⟩
abbrev main_v86_0 : Ref sig .tc := ⟨.hbm, 138, rfl⟩
abbrev main_v86_1 : Ref sig .tc := ⟨.hbm, 139, rfl⟩
abbrev main_v86_2 : Ref sig .tc := ⟨.hbm, 140, rfl⟩
abbrev main_v86_3 : Ref sig .tc := ⟨.hbm, 141, rfl⟩
abbrev main_v86_4 : Ref sig .tc := ⟨.hbm, 142, rfl⟩
abbrev main_v86_5 : Ref sig .tc := ⟨.hbm, 143, rfl⟩
abbrev main_v86_6 : Ref sig .tc := ⟨.hbm, 144, rfl⟩
abbrev main_v86_7 : Ref sig .tc := ⟨.hbm, 145, rfl⟩
abbrev main_v86_8 : Ref sig .tc := ⟨.hbm, 146, rfl⟩
abbrev main_v86_9 : Ref sig .tc := ⟨.hbm, 147, rfl⟩
abbrev main_v86_10 : Ref sig .tc := ⟨.hbm, 148, rfl⟩
abbrev main_while0c_c_28 : Ref sig .tc := ⟨.hbm, 149, rfl⟩
abbrev main_while0c_v116 : Ref sig .tc := ⟨.hbm, 150, rfl⟩
abbrev main_while0b_call6_c : Ref sig .tc := ⟨.hbm, 151, rfl⟩
abbrev main_while0b_call6_c_0 : Ref sig .tc := ⟨.hbm, 152, rfl⟩
abbrev main_while0b_call6_c_1 : Ref sig .tc := ⟨.hbm, 153, rfl⟩
abbrev main_while0b_call6_c_2 : Ref sig .tc := ⟨.hbm, 154, rfl⟩
abbrev main_while0b_call6_v0 : Ref sig .tc := ⟨.hbm, 155, rfl⟩
abbrev main_while0b_v116 : Ref sig .tc := ⟨.hbm, 156, rfl⟩
abbrev main_while0b_call7_c : Ref sig .tc := ⟨.hbm, 157, rfl⟩
abbrev main_while0b_call7_c_0 : Ref sig .tc := ⟨.hbm, 158, rfl⟩
abbrev main_while0b_call7_c_1 : Ref sig .tc := ⟨.hbm, 159, rfl⟩
abbrev main_while0b_call7_c_2 : Ref sig .tc := ⟨.hbm, 160, rfl⟩
abbrev main_while0b_call7_v0 : Ref sig .tc := ⟨.hbm, 161, rfl⟩
abbrev main_while0b_v117 : Ref sig .tc := ⟨.hbm, 162, rfl⟩
abbrev main_while0b_call8_c : Ref sig .tc := ⟨.hbm, 163, rfl⟩
abbrev main_while0b_call8_c_0 : Ref sig .tc := ⟨.hbm, 164, rfl⟩
abbrev main_while0b_call8_c_1 : Ref sig .tc := ⟨.hbm, 165, rfl⟩
abbrev main_while0b_call8_c_2 : Ref sig .tc := ⟨.hbm, 166, rfl⟩
abbrev main_while0b_call8_v0 : Ref sig .tc := ⟨.hbm, 167, rfl⟩
abbrev main_while0b_v118 : Ref sig .tc := ⟨.hbm, 168, rfl⟩
abbrev main_while0b_call9_c : Ref sig .tc := ⟨.hbm, 169, rfl⟩
abbrev main_while0b_call9_c_0 : Ref sig .tc := ⟨.hbm, 170, rfl⟩
abbrev main_while0b_call9_c_1 : Ref sig .tc := ⟨.hbm, 171, rfl⟩
abbrev main_while0b_call9_v0 : Ref sig .tc := ⟨.hbm, 172, rfl⟩
abbrev main_while0b_v119 : Ref sig .tc := ⟨.hbm, 173, rfl⟩
abbrev main_while0b_call10_c : Ref sig .tc := ⟨.hbm, 174, rfl⟩
abbrev main_while0b_call10_c_0 : Ref sig .tc := ⟨.hbm, 175, rfl⟩
abbrev main_while0b_call10_c_1 : Ref sig .tc := ⟨.hbm, 176, rfl⟩
abbrev main_while0b_call10_v0 : Ref sig .tc := ⟨.hbm, 177, rfl⟩
abbrev main_while0b_v120 : Ref sig .tc := ⟨.hbm, 178, rfl⟩
abbrev main_while0b_call11_call0_cst : Ref sig .tc := ⟨.hbm, 179, rfl⟩
abbrev main_while0b_call11_call0_v0 : Ref sig .tc := ⟨.hbm, 180, rfl⟩
abbrev main_while0b_v121 : Ref sig .tc := ⟨.hbm, 181, rfl⟩
abbrev main_while0b_v122 : Ref sig .tc := ⟨.hbm, 182, rfl⟩
abbrev main_while0b_v123 : Ref sig .tc := ⟨.hbm, 183, rfl⟩
abbrev main_while0b_v124 : Ref sig .tc := ⟨.hbm, 184, rfl⟩
abbrev main_while0b_v125 : Ref sig .tc := ⟨.hbm, 185, rfl⟩
abbrev main_while0b_v126 : Ref sig .tc := ⟨.hbm, 186, rfl⟩
abbrev main_while0b_v127 : Ref sig .tc := ⟨.hbm, 187, rfl⟩
abbrev main_while0b_v128 : Ref sig .tc := ⟨.hbm, 188, rfl⟩
abbrev main_while0b_v129 : Ref sig .tc := ⟨.hbm, 189, rfl⟩
abbrev main_while0b_cst_28 : Ref sig .tc := ⟨.hbm, 190, rfl⟩
abbrev main_while0b_call12_v0 : Ref sig .tc := ⟨.hbm, 191, rfl⟩
abbrev main_while0b_call12_v1 : Ref sig .tc := ⟨.hbm, 192, rfl⟩
abbrev main_while0b_call12_v2 : Ref sig .tc := ⟨.hbm, 193, rfl⟩
abbrev main_while0b_v130 : Ref sig .tc := ⟨.hbm, 194, rfl⟩
abbrev main_while0b_v131 : Ref sig .tc := ⟨.hbm, 195, rfl⟩
abbrev main_while0b_v132 : Ref sig .tc := ⟨.hbm, 196, rfl⟩
abbrev main_while0b_v133 : Ref sig .tc := ⟨.hbm, 197, rfl⟩
abbrev main_while0b_cst_29 : Ref sig .tc := ⟨.hbm, 198, rfl⟩
abbrev main_while0b_v134 : Ref sig .tc := ⟨.hbm, 199, rfl⟩
abbrev main_while0b_v135 : Ref sig .tc := ⟨.hbm, 200, rfl⟩
abbrev main_while0b_v136 : Ref sig .tc := ⟨.hbm, 201, rfl⟩
abbrev main_while0b_v137 : Ref sig .tc := ⟨.hbm, 202, rfl⟩
abbrev main_while0b_v138 : Ref sig .tc := ⟨.hbm, 203, rfl⟩
abbrev main_while0b_v139 : Ref sig .tc := ⟨.hbm, 204, rfl⟩
abbrev main_while0b_v140 : Ref sig .tc := ⟨.hbm, 205, rfl⟩
abbrev main_while0b_v141 : Ref sig .tc := ⟨.hbm, 206, rfl⟩
abbrev main_while0b_v142 : Ref sig .tc := ⟨.hbm, 207, rfl⟩
abbrev main_while0b_v143 : Ref sig .tc := ⟨.hbm, 208, rfl⟩
abbrev main_while0b_v144 : Ref sig .tc := ⟨.hbm, 209, rfl⟩
abbrev main_while0b_v145 : Ref sig .tc := ⟨.hbm, 210, rfl⟩
abbrev main_while0b_v146 : Ref sig .tc := ⟨.hbm, 211, rfl⟩
abbrev main_while0b_v147 : Ref sig .tc := ⟨.hbm, 212, rfl⟩
abbrev main_while0b_v148 : Ref sig .tc := ⟨.hbm, 213, rfl⟩
abbrev main_while0b_v149 : Ref sig .tc := ⟨.hbm, 214, rfl⟩
abbrev main_while0b_cst_30 : Ref sig .tc := ⟨.hbm, 215, rfl⟩
abbrev main_while0b_v150 : Ref sig .tc := ⟨.hbm, 216, rfl⟩
abbrev main_while0b_v151 : Ref sig .tc := ⟨.hbm, 217, rfl⟩
abbrev main_while0b_v152 : Ref sig .tc := ⟨.hbm, 218, rfl⟩
abbrev main_while0b_v153 : Ref sig .tc := ⟨.hbm, 219, rfl⟩
abbrev main_while0b_v154 : Ref sig .tc := ⟨.hbm, 220, rfl⟩
abbrev main_while0b_v155 : Ref sig .tc := ⟨.hbm, 221, rfl⟩
abbrev main_while0b_v156 : Ref sig .tc := ⟨.hbm, 222, rfl⟩
abbrev main_while0b_v157 : Ref sig .tc := ⟨.hbm, 223, rfl⟩
abbrev main_while0b_v158 : Ref sig .tc := ⟨.hbm, 224, rfl⟩
abbrev main_while0b_v159 : Ref sig .tc := ⟨.hbm, 225, rfl⟩
abbrev main_while0b_v160 : Ref sig .tc := ⟨.hbm, 226, rfl⟩
abbrev main_while0b_v161 : Ref sig .tc := ⟨.hbm, 227, rfl⟩
abbrev main_while0b_v162 : Ref sig .tc := ⟨.hbm, 228, rfl⟩
abbrev main_while0b_v163 : Ref sig .tc := ⟨.hbm, 229, rfl⟩
abbrev main_while0b_v164 : Ref sig .tc := ⟨.hbm, 230, rfl⟩
abbrev main_while0b_v165 : Ref sig .tc := ⟨.hbm, 231, rfl⟩
abbrev main_while0b_v166 : Ref sig .tc := ⟨.hbm, 232, rfl⟩
abbrev main_while0b_v167 : Ref sig .tc := ⟨.hbm, 233, rfl⟩
abbrev main_while0b_cst_31 : Ref sig .tc := ⟨.hbm, 234, rfl⟩
abbrev main_while0b_v168 : Ref sig .tc := ⟨.hbm, 235, rfl⟩
abbrev main_while0b_v169 : Ref sig .tc := ⟨.hbm, 236, rfl⟩
abbrev main_while0b_v170 : Ref sig .tc := ⟨.hbm, 237, rfl⟩
abbrev main_while0b_v171 : Ref sig .tc := ⟨.hbm, 238, rfl⟩
abbrev main_while0b_v172 : Ref sig .tc := ⟨.hbm, 239, rfl⟩
abbrev main_while0b_v173 : Ref sig .tc := ⟨.hbm, 240, rfl⟩
abbrev main_while0b_v174 : Ref sig .tc := ⟨.hbm, 241, rfl⟩
abbrev main_while0b_v175 : Ref sig .tc := ⟨.hbm, 242, rfl⟩
abbrev main_while0b_v176 : Ref sig .tc := ⟨.hbm, 243, rfl⟩
abbrev main_while0b_v177 : Ref sig .tc := ⟨.hbm, 244, rfl⟩
abbrev main_while0b_v178 : Ref sig .tc := ⟨.hbm, 245, rfl⟩
abbrev main_while0b_v179 : Ref sig .tc := ⟨.hbm, 246, rfl⟩
abbrev main_while0b_v180 : Ref sig .tc := ⟨.hbm, 247, rfl⟩
abbrev main_while0b_v181 : Ref sig .tc := ⟨.hbm, 248, rfl⟩
abbrev main_while0b_v182 : Ref sig .tc := ⟨.hbm, 249, rfl⟩
abbrev main_while0b_v183 : Ref sig .tc := ⟨.hbm, 250, rfl⟩
abbrev main_while0b_v184 : Ref sig .tc := ⟨.hbm, 251, rfl⟩
abbrev main_while0b_v185 : Ref sig .tc := ⟨.hbm, 252, rfl⟩
abbrev main_while0b_v186 : Ref sig .tc := ⟨.hbm, 253, rfl⟩
abbrev main_while0b_v187 : Ref sig .tc := ⟨.hbm, 254, rfl⟩
abbrev main_while0b_v188 : Ref sig .tc := ⟨.hbm, 255, rfl⟩
abbrev main_while0b_v189 : Ref sig .tc := ⟨.hbm, 256, rfl⟩
abbrev main_while0b_call13_v0 : Ref sig .tc := ⟨.hbm, 257, rfl⟩
abbrev main_while0b_call13_c : Ref sig .tc := ⟨.hbm, 258, rfl⟩
abbrev main_while0b_call13_c_0 : Ref sig .tc := ⟨.hbm, 259, rfl⟩
abbrev main_while0b_call13_c_1 : Ref sig .tc := ⟨.hbm, 260, rfl⟩
abbrev main_while0b_call13_c_2 : Ref sig .tc := ⟨.hbm, 261, rfl⟩
abbrev main_while0b_v190 : Ref sig .tc := ⟨.hbm, 262, rfl⟩
abbrev main_while0b_c_32 : Ref sig .tc := ⟨.hbm, 263, rfl⟩
abbrev main_while0b_v191 : Ref sig .tc := ⟨.hbm, 264, rfl⟩
abbrev main_v87 : Ref sig .tc := ⟨.hbm, 265, rfl⟩
abbrev main_v88 : Ref sig .tc := ⟨.hbm, 266, rfl⟩
abbrev main_v89 : Ref sig .tc := ⟨.hbm, 267, rfl⟩
abbrev main_v90 : Ref sig .tc := ⟨.hbm, 268, rfl⟩
abbrev main_cst_13 : Ref sig .tc := ⟨.hbm, 269, rfl⟩
abbrev main_v91 : Ref sig .tc := ⟨.hbm, 270, rfl⟩
abbrev main_v92 : Ref sig .tc := ⟨.hbm, 271, rfl⟩
abbrev main_cst_14 : Ref sig .tc := ⟨.hbm, 272, rfl⟩
abbrev main_v93 : Ref sig .tc := ⟨.hbm, 273, rfl⟩
abbrev main_v94 : Ref sig .tc := ⟨.hbm, 274, rfl⟩
abbrev main_cst_15 : Ref sig .tc := ⟨.hbm, 275, rfl⟩
abbrev main_v95 : Ref sig .tc := ⟨.hbm, 276, rfl⟩
abbrev main_v96 : Ref sig .tc := ⟨.hbm, 277, rfl⟩
abbrev main_v97 : Ref sig .tc := ⟨.hbm, 278, rfl⟩
abbrev main_v98 : Ref sig .tc := ⟨.hbm, 279, rfl⟩
abbrev main_v99 : Ref sig .tc := ⟨.hbm, 280, rfl⟩
abbrev main_v100 : Ref sig .tc := ⟨.hbm, 281, rfl⟩
abbrev main_v101 : Ref sig .tc := ⟨.hbm, 282, rfl⟩
abbrev main_v102 : Ref sig .tc := ⟨.hbm, 283, rfl⟩
abbrev main_v103 : Ref sig .tc := ⟨.hbm, 284, rfl⟩
abbrev main_v104 : Ref sig .tc := ⟨.hbm, 285, rfl⟩
abbrev main_v105 : Ref sig .tc := ⟨.hbm, 286, rfl⟩
abbrev main_v106 : Ref sig .tc := ⟨.hbm, 287, rfl⟩
abbrev main_v107 : Ref sig .tc := ⟨.hbm, 288, rfl⟩
abbrev main_v108 : Ref sig .tc := ⟨.hbm, 289, rfl⟩
abbrev main_cst_16 : Ref sig .tc := ⟨.hbm, 290, rfl⟩
abbrev main_v109 : Ref sig .tc := ⟨.hbm, 291, rfl⟩
abbrev main_v110 : Ref sig .tc := ⟨.hbm, 292, rfl⟩
abbrev main_cst_17 : Ref sig .tc := ⟨.hbm, 293, rfl⟩
abbrev main_v111 : Ref sig .tc := ⟨.hbm, 294, rfl⟩
abbrev main_v112 : Ref sig .tc := ⟨.hbm, 295, rfl⟩
abbrev main_v113 : Ref sig .tc := ⟨.hbm, 296, rfl⟩
abbrev main_v114 : Ref sig .tc := ⟨.hbm, 297, rfl⟩
abbrev main_v115 : Ref sig .tc := ⟨.hbm, 298, rfl⟩

abbrev nD : Nat := 1
abbrev τ : Topo := Topo.v7x

variable {F : FTy → Type} [FloatOps F]

abbrev main_while0_count : Scf.Loop 32 := ⟨0#32, 32#32, 1#32⟩
-- ==== FfnUp.lean ====
abbrev S4x4096x2048 : Shape := ⟨3, ![4, 4096, 2048]⟩
abbrev S4x2048 : Shape := ⟨2, ![4, 2048]⟩
abbrev S4x8x12288 : Shape := ⟨3, ![4, 8, 12288]⟩
abbrev S4x2048x11264 : Shape := ⟨3, ![4, 2048, 11264]⟩
abbrev S4x3x5632 : Shape := ⟨3, ![4, 3, 5632]⟩
abbrev S4x5632 : Shape := ⟨2, ![4, 5632]⟩
abbrev S4x8x6x1x2048 : Shape := ⟨5, ![4, 8, 6, 1, 2048]⟩
abbrev S16384x2048 : Shape := ⟨2, ![16384, 2048]⟩
abbrev S1x2048 : Shape := ⟨2, ![1, 2048]⟩
abbrev S2048 : Shape := ⟨1, ![2048]⟩
abbrev S4x1x5632 : Shape := ⟨3, ![4, 1, 5632]⟩
abbrev S16384x5632 : Shape := ⟨2, ![16384, 5632]⟩
abbrev S1024x2048 : Shape := ⟨2, ![1024, 2048]⟩
abbrev S16x2048 : Shape := ⟨2, ![16, 2048]⟩
abbrev S1x1x1x1x2048 : Shape := ⟨5, ![1, 1, 1, 1, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1024x512 : Shape := ⟨2, ![1024, 512]⟩
abbrev S1040x2048 : Shape := ⟨2, ![1040, 2048]⟩
abbrev S1040x512 : Shape := ⟨2, ![1040, 512]⟩
abbrev S16 : Shape := ⟨1, ![16]⟩
abbrev S16x1 : Shape := ⟨2, ![16, 1]⟩
abbrev S2048x512 : Shape := ⟨2, ![2048, 512]⟩
abbrev S16x512 : Shape := ⟨2, ![16, 512]⟩
abbrev S1x512 : Shape := ⟨2, ![1, 512]⟩
abbrev S256x512 : Shape := ⟨2, ![256, 512]⟩

abbrev nBuf : Space → Nat
  | .hbm => 13
  | .vmem => 21
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x8x12288, .f32⟩
  | .hbm, ⟨3, _⟩ => ⟨S4x2048x11264, .f32⟩
  | .hbm, ⟨4, _⟩ => ⟨S4x3x5632, .f32⟩
  | .hbm, ⟨5, _⟩ => ⟨S4x5632, .f32⟩
  | .hbm, ⟨6, _⟩ => ⟨S4x8x6x1x2048, .f32⟩
  | .hbm, ⟨7, _⟩ => ⟨S16384x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S4x1x5632, .f32⟩
  | .hbm, ⟨12, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S1x1x1x1x2048, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S1x2048x512, .f32⟩
  | .local _ .vmem, ⟨13, _⟩ => ⟨S1x3x512, .f32⟩
  | .local _ .vmem, ⟨14, _⟩ => ⟨S1x3x512, .f32⟩
  | .local _ .vmem, ⟨15, _⟩ => ⟨S1x1x512, .f32⟩
  | .local _ .vmem, ⟨16, _⟩ => ⟨S1x1x512, .f32⟩
  | .local _ .vmem, ⟨17, _⟩ => ⟨S1024x512, .bf16⟩
  | .local _ .vmem, ⟨18, _⟩ => ⟨S1024x512, .bf16⟩
  | .local _ .vmem, ⟨19, _⟩ => ⟨S1040x2048, .bf16⟩
  | .local _ .vmem, ⟨20, _⟩ => ⟨S1040x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  let c0_i32_6 : BitVec 32 := 0#32
  let c0_i32_7 : BitVec 32 := 0#32
  ![c0_i32_4.toNat, v16.toNat, c3_i32.toNat, c0_i32_5.toNat, c0_i32_6.toNat]

def cc0_transform_4 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  let c0_i32_7 : BitVec 32 := 0#32
  let c0_i32_8 : BitVec 32 := 0#32
  ![c0_i32_4.toNat, v16.toNat, c4_i32_5.toNat, c0_i32_6.toNat, c0_i32_7.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnUpRefIdeal.lean ====
abbrev S4x4096x2048 : Shape := ⟨3, ![4, 4096, 2048]⟩
abbrev S4x2048 : Shape := ⟨2, ![4, 2048]⟩
abbrev S4x8x12288 : Shape := ⟨3, ![4, 8, 12288]⟩
abbrev S4x2048x11264 : Shape := ⟨3, ![4, 2048, 11264]⟩
abbrev S4x3x5632 : Shape := ⟨3, ![4, 3, 5632]⟩
abbrev S4x5632 : Shape := ⟨2, ![4, 5632]⟩
abbrev S1x4x12288 : Shape := ⟨3, ![1, 4, 12288]⟩
abbrev S4x12288 : Shape := ⟨2, ![4, 12288]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S4x4096x5632 : Shape := ⟨3, ![4, 4096, 5632]⟩
abbrev S4x4094x5632 : Shape := ⟨3, ![4, 4094, 5632]⟩
abbrev S1x1x5632 : Shape := ⟨3, ![1, 1, 5632]⟩
abbrev S5632 : Shape := ⟨1, ![5632]⟩
abbrev S4x4095x5632 : Shape := ⟨3, ![4, 4095, 5632]⟩
abbrev S1x5632 : Shape := ⟨2, ![1, 5632]⟩
abbrev S16384x5632 : Shape := ⟨2, ![16384, 5632]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x8x12288, .f32⟩
  | .hbm, ⟨3, _⟩ => ⟨S4x2048x11264, .f32⟩
  | .hbm, ⟨4, _⟩ => ⟨S4x3x5632, .f32⟩
  | .hbm, ⟨5, _⟩ => ⟨S4x5632, .f32⟩
  | .hbm, ⟨6, _⟩ => ⟨S1x4x12288, .f32⟩
  | .hbm, ⟨7, _⟩ => ⟨S4x12288, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S1x2048, .f32⟩
  | .hbm, ⟨15, _⟩ => ⟨S2048, .f32⟩
  | .hbm, ⟨16, _⟩ => ⟨S4x4096x2048, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x2048, .f32⟩
  | .hbm, ⟨28, _⟩ => ⟨S4x4096x2048, .f32⟩
  | .hbm, ⟨29, _⟩ => ⟨S1x1x2048, .f32⟩
  | .hbm, ⟨30, _⟩ => ⟨S4x4096x2048, .f32⟩
  | .hbm, ⟨31, _⟩ => ⟨S4x4096x2048, .f32⟩
  | .hbm, ⟨32, _⟩ => ⟨S4x1x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x4096x2048, .f32⟩
  | .hbm, ⟨37, _⟩ => ⟨S4x4096x2048, .f32⟩
  | .hbm, ⟨38, _⟩ => ⟨S4x1x2048, .f32⟩
  | .hbm, ⟨39, _⟩ => ⟨S4x4096x2048, .f32⟩
  | .hbm, ⟨40, _⟩ => ⟨S4x4096x2048, .f32⟩
  | .hbm, ⟨41, _⟩ => ⟨S1x2048x11264, .f32⟩
  | .hbm, ⟨42, _⟩ => ⟨S2048x11264, .f32⟩
  | .hbm, ⟨43, _⟩ => ⟨S4x4096x11264, .f32⟩
  | .hbm, ⟨44, _⟩ => ⟨S4x4096x5632, .f32⟩
  | .hbm, ⟨45, _⟩ => ⟨S4x4096x5632, .f32⟩
  | .hbm, ⟨46, _⟩ => ⟨S4x4094x5632, .f32⟩
  | .hbm, ⟨47, _⟩ => ⟨S_, .i32⟩
  | .hbm, ⟨48, _⟩ => ⟨S_, .f32⟩
  | .hbm, ⟨49, _⟩ => ⟨S4x4096x5632, .f32⟩
  | .hbm, ⟨50, _⟩ => ⟨S1x1x5632, .f32⟩
  | .hbm, ⟨51, _⟩ => ⟨S5632, .f32⟩
  | .hbm, ⟨52, _⟩ => ⟨S1x1x5632, .f32⟩
  | .hbm, ⟨53, _⟩ => ⟨S4x4096x5632, .f32⟩
  | .hbm, ⟨54, _⟩ => ⟨S4x4096x5632, .f32⟩
  | .hbm, ⟨55, _⟩ => ⟨S_, .f32⟩
  | .hbm, ⟨56, _⟩ => ⟨S4x4096x5632, .f32⟩
  | .hbm, ⟨57, _⟩ => ⟨S4x4096x5632, .f32⟩
  | .hbm, ⟨58, _⟩ => ⟨S4x4095x5632, .f32⟩
  | .hbm, ⟨59, _⟩ => ⟨S_, .i32⟩
  | .hbm, ⟨60, _⟩ => ⟨S_, .f32⟩
  | .hbm, ⟨61, _⟩ => ⟨S4x4096x5632, .f32⟩
  | .hbm, ⟨62, _⟩ => ⟨S1x1x5632, .f32⟩
  | .hbm, ⟨63, _⟩ => ⟨S5632, .f32⟩
  | .hbm, ⟨64, _⟩ => ⟨S1x1x5632, .f32⟩
  | .hbm, ⟨65, _⟩ => ⟨S4x4096x5632, .f32⟩
  | .hbm, ⟨66, _⟩ => ⟨S4x4096x5632, .f32⟩
  | .hbm, ⟨67, _⟩ => ⟨S4x4096x5632, .f32⟩
  | .hbm, ⟨68, _⟩ => ⟨S1x1x5632, .f32⟩
  | .hbm, ⟨69, _⟩ => ⟨S5632, .f32⟩
  | .hbm, ⟨70, _⟩ => ⟨S1x1x5632, .f32⟩
  | .hbm, ⟨71, _⟩ => ⟨S4x4096x5632, .f32⟩
  | .hbm, ⟨72, _⟩ => ⟨S4x4096x5632, .f32⟩
  | .hbm, ⟨73, _⟩ => ⟨S4x4096x5632, .f32⟩
  | .hbm, ⟨74, _⟩ => ⟨S1x5632, .f32⟩
  | .hbm, ⟨75, _⟩ => ⟨S5632, .f32⟩
  | .hbm, ⟨76, _⟩ => ⟨S1x1x5632, .f32⟩
  | .hbm, ⟨77, _⟩ => ⟨S4x4096x5632, .f32⟩
  | .hbm, ⟨78, _⟩ => ⟨S4x4096x5632, .f32⟩
  | .hbm, ⟨79, _⟩ => ⟨S4x4096x5632, .f32⟩
  | .hbm, ⟨80, _⟩ => ⟨S4x4096x5632, .f32⟩
  | .hbm, ⟨81, _⟩ => ⟨S_, .f32⟩
  | .hbm, ⟨82, _⟩ => ⟨S4x4096x5632, .f32⟩
  | .hbm, ⟨83, _⟩ => ⟨S4x4096x5632, .f32⟩
  | .hbm, ⟨84, _⟩ => ⟨S_, .f32⟩
  | .hbm, ⟨85, _⟩ => ⟨S4x4096x5632, .f32⟩
  | .hbm, ⟨86, _⟩ => ⟨S4x4096x5632, .f32⟩
  | .hbm, ⟨87, _⟩ => ⟨S4x4096x5632, .f32⟩
  | .hbm, ⟨88, _⟩ => ⟨S4x4096x5632, .f32⟩
  | .hbm, ⟨89, _⟩ => ⟨S16384x5632, .f32⟩
  | .hbm, ⟨90, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_call0_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_call1_v0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== FfnDown.lean ====
abbrev S16384x5632 : Shape := ⟨2, ![16384, 5632]⟩
abbrev S4x5632x2048 : Shape := ⟨3, ![4, 5632, 2048]⟩
abbrev S4x4096x2048 : Shape := ⟨3, ![4, 4096, 2048]⟩
abbrev S4x8x12288 : Shape := ⟨3, ![4, 8, 12288]⟩
abbrev S4x8x6x1x2048 : Shape := ⟨5, ![4, 8, 6, 1, 2048]⟩
abbrev S16384x2048 : Shape := ⟨2, ![16384, 2048]⟩
abbrev S1024x5632 : Shape := ⟨2, ![1024, 5632]⟩
abbrev S1x5632x512 : Shape := ⟨3, ![1, 5632, 512]⟩
abbrev S1024x512 : Shape := ⟨2, ![1024, 512]⟩
abbrev S1x1x1x1x512 : Shape := ⟨5, ![1, 1, 1, 1, 512]⟩
abbrev S5632x512 : Shape := ⟨2, ![5632, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S4x5632x2048, .f32⟩
  | .hbm, ⟨2, _⟩ => ⟨S4x4096x2048, .f32⟩
  | .hbm, ⟨3, _⟩ => ⟨S4x8x12288, .f32⟩
  | .hbm, ⟨4, _⟩ => ⟨S4x8x6x1x2048, .f32⟩
  | .hbm, ⟨5, _⟩ => ⟨S4x5632x2048, .bf16⟩
  | .hbm, ⟨6, _⟩ => ⟨S16384x2048, .f32⟩
  | .hbm, ⟨7, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1x1x1x1x512, .f32⟩
  | .local _ .vmem, ⟨7, _⟩ => ⟨S1x1x1x1x512, .f32⟩
  | .local _ .vmem, ⟨8, _⟩ => ⟨S1024x512, .f32⟩
  | .local _ .vmem, ⟨9, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  let c0_i32_6 : BitVec 32 := 0#32
  ![c0_i32_4.toNat, v16.toNat, c5_i32.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnDownRefIdeal.lean ====
abbrev S16384x5632 : Shape := ⟨2, ![16384, 5632]⟩
abbrev S4x5632x2048 : Shape := ⟨3, ![4, 5632, 2048]⟩
abbrev S4x4096x2048 : Shape := ⟨3, ![4, 4096, 2048]⟩
abbrev S4x8x12288 : Shape := ⟨3, ![4, 8, 12288]⟩
abbrev S1x4x12288 : Shape := ⟨3, ![1, 4, 12288]⟩
abbrev S4x12288 : Shape := ⟨2, ![4, 12288]⟩
abbrev S4x2048 : Shape := ⟨2, ![4, 2048]⟩
abbrev S1x5632x2048 : Shape := ⟨3, ![1, 5632, 2048]⟩
abbrev S5632x2048 : Shape := ⟨2, ![5632, 2048]⟩
abbrev S16384x2048 : Shape := ⟨2, ![16384, 2048]⟩
abbrev S4x1x2048 : Shape := ⟨3, ![4, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S4x5632x2048, .f32⟩
  | .hbm, ⟨2, _⟩ => ⟨S4x4096x2048, .f32⟩
  | .hbm, ⟨3, _⟩ => ⟨S4x8x12288, .f32⟩
  | .hbm, ⟨4, _⟩ => ⟨S1x4x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S16384x5632, .f32⟩
  | .hbm, ⟨13, _⟩ => ⟨S1x5632x2048, .f32⟩
  | .hbm, ⟨14, _⟩ => ⟨S5632x2048, .f32⟩
  | .hbm, ⟨15, _⟩ => ⟨S16384x2048, .f32⟩
  | .hbm, ⟨16, _⟩ => ⟨S4x1x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== RetIn.lean ====
abbrev S4x4096x2048 : Shape := ⟨3, ![4, 4096, 2048]⟩
abbrev S4x2048 : Shape := ⟨2, ![4, 2048]⟩
abbrev S4x8x12288 : Shape := ⟨3, ![4, 8, 12288]⟩
abbrev S2x2048x12288 : Shape := ⟨3, ![2, 2048, 12288]⟩
abbrev S4x8x6x1x2048 : Shape := ⟨5, ![4, 8, 6, 1, 2048]⟩
abbrev S16384x2048 : Shape := ⟨2, ![16384, 2048]⟩
abbrev S1x2048 : Shape := ⟨2, ![1, 2048]⟩
abbrev S2048 : Shape := ⟨1, ![2048]⟩
abbrev S16384x12288 : Shape := ⟨2, ![16384, 12288]⟩
abbrev S1024x2048 : Shape := ⟨2, ![1024, 2048]⟩
abbrev S1x1x1x1x2048 : Shape := ⟨5, ![1, 1, 1, 1, 2048]⟩
abbrev S1x2048x1024 : Shape := ⟨3, ![1, 2048, 1024]⟩
abbrev S1024x1024 : Shape := ⟨2, ![1024, 1024]⟩
abbrev S16x2048 : Shape := ⟨2, ![16, 2048]⟩
abbrev S16 : Shape := ⟨1, ![16]⟩
abbrev S16x1 : Shape := ⟨2, ![16, 1]⟩
abbrev S2048x1024 : Shape := ⟨2, ![2048, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x8x12288, .f32⟩
  | .hbm, ⟨3, _⟩ => ⟨S2x2048x12288, .f32⟩
  | .hbm, ⟨4, _⟩ => ⟨S4x8x6x1x2048, .f32⟩
  | .hbm, ⟨5, _⟩ => ⟨S16384x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S16384x12288, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x2048x1024, .f32⟩
  | .local _ .vmem, ⟨8, _⟩ => ⟨S1x2048x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v16.toNat, c1_i32_5.toNat, c0_i32_6.toNat, c0_i32_7.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetInRefIdeal.lean ====
abbrev S4x4096x2048 : Shape := ⟨3, ![4, 4096, 2048]⟩
abbrev S4x2048 : Shape := ⟨2, ![4, 2048]⟩
abbrev S4x8x12288 : Shape := ⟨3, ![4, 8, 12288]⟩
abbrev S2x2048x12288 : Shape := ⟨3, ![2, 2048, 12288]⟩
abbrev S1x4x12288 : Shape := ⟨3, ![1, 4, 12288]⟩
abbrev S4x12288 : Shape := ⟨2, ![4, 12288]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S1x2048x12288 : Shape := ⟨3, ![1, 2048, 12288]⟩
abbrev S2048x12288 : Shape := ⟨2, ![2048, 12288]⟩
abbrev S4x4096x12288 : Shape := ⟨3, ![4, 4096, 12288]⟩
abbrev S16384x12288 : Shape := ⟨2, ![16384, 12288]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x8x12288, .f32⟩
  | .hbm, ⟨3, _⟩ => ⟨S2x2048x12288, .f32⟩
  | .hbm, ⟨4, _⟩ => ⟨S1x4x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S1x2048, .f32⟩
  | .hbm, ⟨13, _⟩ => ⟨S2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S4x1x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S1x2048x12288, .f32⟩
  | .hbm, ⟨40, _⟩ => ⟨S2048x12288, .f32⟩
  | .hbm, ⟨41, _⟩ => ⟨S4x4096x12288, .f32⟩
  | .hbm, ⟨42, _⟩ => ⟨S16384x12288, .f32⟩
  | .hbm, ⟨43, _⟩ => ⟨S16384x12288, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== RetOut.lean ====
abbrev S16384x4096 : Shape := ⟨2, ![16384, 4096]⟩
abbrev S2x4096x2048 : Shape := ⟨3, ![2, 4096, 2048]⟩
abbrev S4x4096x2048 : Shape := ⟨3, ![4, 4096, 2048]⟩
abbrev S4x8x12288 : Shape := ⟨3, ![4, 8, 12288]⟩
abbrev S4x8x6x1x2048 : Shape := ⟨5, ![4, 8, 6, 1, 2048]⟩
abbrev S16384x2048 : Shape := ⟨2, ![16384, 2048]⟩
abbrev S1024x4096 : Shape := ⟨2, ![1024, 4096]⟩
abbrev S1x4096x512 : Shape := ⟨3, ![1, 4096, 512]⟩
abbrev S1024x512 : Shape := ⟨2, ![1024, 512]⟩
abbrev S1x1x1x1x512 : Shape := ⟨5, ![1, 1, 1, 1, 512]⟩
abbrev S4096x512 : Shape := ⟨2, ![4096, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S2x4096x2048, .f32⟩
  | .hbm, ⟨2, _⟩ => ⟨S4x4096x2048, .f32⟩
  | .hbm, ⟨3, _⟩ => ⟨S4x8x12288, .f32⟩
  | .hbm, ⟨4, _⟩ => ⟨S4x8x6x1x2048, .f32⟩
  | .hbm, ⟨5, _⟩ => ⟨S2x4096x2048, .bf16⟩
  | .hbm, ⟨6, _⟩ => ⟨S16384x2048, .f32⟩
  | .hbm, ⟨7, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x1x1x512, .f32⟩
  | .local _ .vmem, ⟨7, _⟩ => ⟨S1x1x1x1x512, .f32⟩
  | .local _ .vmem, ⟨8, _⟩ => ⟨S1024x512, .f32⟩
  | .local _ .vmem, ⟨9, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  let c0_i32_6 : BitVec 32 := 0#32
  ![c0_i32_4.toNat, v16.toNat, c2_i32.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RetOutRefIdeal.lean ====
abbrev S16384x4096 : Shape := ⟨2, ![16384, 4096]⟩
abbrev S2x4096x2048 : Shape := ⟨3, ![2, 4096, 2048]⟩
abbrev S4x4096x2048 : Shape := ⟨3, ![4, 4096, 2048]⟩
abbrev S4x8x12288 : Shape := ⟨3, ![4, 8, 12288]⟩
abbrev S1x4x12288 : Shape := ⟨3, ![1, 4, 12288]⟩
abbrev S4x12288 : Shape := ⟨2, ![4, 12288]⟩
abbrev S4x2048 : Shape := ⟨2, ![4, 2048]⟩
abbrev S1x4096x2048 : Shape := ⟨3, ![1, 4096, 2048]⟩
abbrev S4096x2048 : Shape := ⟨2, ![4096, 2048]⟩
abbrev S16384x2048 : Shape := ⟨2, ![16384, 2048]⟩
abbrev S4x1x2048 : Shape := ⟨3, ![4, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x2048, .f32⟩
  | .hbm, ⟨2, _⟩ => ⟨S4x4096x2048, .f32⟩
  | .hbm, ⟨3, _⟩ => ⟨S4x8x12288, .f32⟩
  | .hbm, ⟨4, _⟩ => ⟨S1x4x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S16384x4096, .f32⟩
  | .hbm, ⟨13, _⟩ => ⟨S1x4096x2048, .f32⟩
  | .hbm, ⟨14, _⟩ => ⟨S4096x2048, .f32⟩
  | .hbm, ⟨15, _⟩ => ⟨S16384x2048, .f32⟩
  | .hbm, ⟨16, _⟩ => ⟨S4x1x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== MlstmIn.lean ====
abbrev S4x4096x2048 : Shape := ⟨3, ![4, 4096, 2048]⟩
abbrev S4x2048 : Shape := ⟨2, ![4, 2048]⟩
abbrev S4x8x12288 : Shape := ⟨3, ![4, 8, 12288]⟩
abbrev S1x2048x6152 : Shape := ⟨3, ![1, 2048, 6152]⟩
abbrev S4x8x6x1x2048 : Shape := ⟨5, ![4, 8, 6, 1, 2048]⟩
abbrev S1x2048x8 : Shape := ⟨3, ![1, 2048, 8]⟩
abbrev S2048x8 : Shape := ⟨2, ![2048, 8]⟩
abbrev S_ : Shape := ⟨0, ![]⟩
abbrev S2048x512 : Shape := ⟨2, ![2048, 512]⟩
abbrev S16384x2048 : Shape := ⟨2, ![16384, 2048]⟩
abbrev S1x2048 : Shape := ⟨2, ![1, 2048]⟩
abbrev S2048 : Shape := ⟨1, ![2048]⟩
abbrev S16384x6656 : Shape := ⟨2, ![16384, 6656]⟩
abbrev S1024x2048 : Shape := ⟨2, ![1024, 2048]⟩
abbrev S1x1x1x1x2048 : Shape := ⟨5, ![1, 1, 1, 1, 2048]⟩
abbrev S1x2048x512 : Shape := ⟨3, ![1, 2048, 512]⟩
abbrev S1024x512 : Shape := ⟨2, ![1024, 512]⟩
abbrev S16x2048 : Shape := ⟨2, ![16, 2048]⟩
abbrev S16 : Shape := ⟨1, ![16]⟩
abbrev S16x1 : Shape := ⟨2, ![16, 1]⟩

abbrev nBuf : Space → Nat
  | .hbm => 16
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x8x12288, .f32⟩
  | .hbm, ⟨3, _⟩ => ⟨S1x2048x6152, .f32⟩
  | .hbm, ⟨4, _⟩ => ⟨S4x8x6x1x2048, .f32⟩
  | .hbm, ⟨5, _⟩ => ⟨S1x2048x6152, .bf16⟩
  | .hbm, ⟨6, _⟩ => ⟨S1x2048x8, .bf16⟩
  | .hbm, ⟨7, _⟩ => ⟨S2048x8, .bf16⟩
  | .hbm, ⟨8, _⟩ => ⟨S_, .i32⟩
  | .hbm, ⟨9, _⟩ => ⟨S_, .bf16⟩
  | .hbm, ⟨10, _⟩ => ⟨S2048x512, .bf16⟩
  | .hbm, ⟨11, _⟩ => ⟨S16384x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S16384x6656, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S2048x512, .bf16⟩
  | .local _ .vmem, ⟨10, _⟩ => ⟨S2048x512, .bf16⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 13], ![false, false]⟩

def k0_cond2 (i : grid0.Coords) : BitVec 1 :=
  let arg1 : BitVec 32 := BitVec.ofNat 32 (i 1).val
  let c12_i32 : BitVec 32 := 12#32
  let v3 : BitVec 1 := Scalar.cmpi .slt arg1 c12_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c12_i32_2 : BitVec 32 := 12#32
  let v6 : BitVec 1 := Scalar.cmpi .eq arg1 c12_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  let c0_i32_7 : BitVec 32 := 0#32
  ![c2_i32.toNat, v16.toNat, c0_i32_4.toNat, c0_i32_5.toNat, c0_i32_6.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c1_i32_4 : BitVec 32 := 1#32
  let c0_i32_5 : BitVec 32 := 0#32
  let c0_i32_6 : BitVec 32 := 0#32
  let c0_i32_7 : BitVec 32 := 0#32
  ![c2_i32.toNat, v16.toNat, c1_i32_4.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MlstmInRefIdeal.lean ====
abbrev S4x4096x2048 : Shape := ⟨3, ![4, 4096, 2048]⟩
abbrev S4x2048 : Shape := ⟨2, ![4, 2048]⟩
abbrev S4x8x12288 : Shape := ⟨3, ![4, 8, 12288]⟩
abbrev S1x2048x6152 : Shape := ⟨3, ![1, 2048, 6152]⟩
abbrev S1x4x12288 : Shape := ⟨3, ![1, 4, 12288]⟩
abbrev S4x12288 : Shape := ⟨2, ![4, 12288]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S2048x6152 : Shape := ⟨2, ![2048, 6152]⟩
abbrev S4x4096x6152 : Shape := ⟨3, ![4, 4096, 6152]⟩
abbrev S16384x6152 : Shape := ⟨2, ![16384, 6152]⟩
abbrev S16384x6656 : Shape := ⟨2, ![16384, 6656]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x8x12288, .f32⟩
  | .hbm, ⟨3, _⟩ => ⟨S1x2048x6152, .f32⟩
  | .hbm, ⟨4, _⟩ => ⟨S1x4x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S1x2048, .f32⟩
  | .hbm, ⟨13, _⟩ => ⟨S2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S4x1x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S2048x6152, .f32⟩
  | .hbm, ⟨40, _⟩ => ⟨S4x4096x6152, .f32⟩
  | .hbm, ⟨41, _⟩ => ⟨S16384x6152, .f32⟩
  | .hbm, ⟨42, _⟩ => ⟨S_, .i32⟩
  | .hbm, ⟨43, _⟩ => ⟨S_, .f32⟩
  | .hbm, ⟨44, _⟩ => ⟨S16384x6656, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c : Ref sig .tc := ⟨.hbm, 42, rfl⟩
abbrev main_call0_v0 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== RwkvIn.lean ====
abbrev S4x4096x2048 : Shape := ⟨3, ![4, 4096, 2048]⟩
abbrev S4x2048 : Shape := ⟨2, ![4, 2048]⟩
abbrev S4x8x12288 : Shape := ⟨3, ![4, 8, 12288]⟩
abbrev S1x2048x6592 : Shape := ⟨3, ![1, 2048, 6592]⟩
abbrev S4x8x6x1x2048 : Shape := ⟨5, ![4, 8, 6, 1, 2048]⟩
abbrev S1x2048x448 : Shape := ⟨3, ![1, 2048, 448]⟩
abbrev S2048x448 : Shape := ⟨2, ![2048, 448]⟩
abbrev S2048x96 : Shape := ⟨2, ![2048, 96]⟩
abbrev S_ : Shape := ⟨0, ![]⟩
abbrev S2048x128 : Shape := ⟨2, ![2048, 128]⟩
abbrev S2048x256 : Shape := ⟨2, ![2048, 256]⟩
abbrev S2048x512 : Shape := ⟨2, ![2048, 512]⟩
abbrev S16384x2048 : Shape := ⟨2, ![16384, 2048]⟩
abbrev S1x2048 : Shape := ⟨2, ![1, 2048]⟩
abbrev S2048 : Shape := ⟨1, ![2048]⟩
abbrev S16384x6656 : Shape := ⟨2, ![16384, 6656]⟩
abbrev S1024x2048 : Shape := ⟨2, ![1024, 2048]⟩
abbrev S1x1x1x1x2048 : Shape := ⟨5, ![1, 1, 1, 1, 2048]⟩
abbrev S1x2048x512 : Shape := ⟨3, ![1, 2048, 512]⟩
abbrev S1024x512 : Shape := ⟨2, ![1024, 512]⟩
abbrev S16x2048 : Shape := ⟨2, ![16, 2048]⟩
abbrev S16 : Shape := ⟨1, ![16]⟩
abbrev S16x1 : Shape := ⟨2, ![16, 1]⟩

abbrev nBuf : Space → Nat
  | .hbm => 23
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x8x12288, .f32⟩
  | .hbm, ⟨3, _⟩ => ⟨S1x2048x6592, .f32⟩
  | .hbm, ⟨4, _⟩ => ⟨S4x8x6x1x2048, .f32⟩
  | .hbm, ⟨5, _⟩ => ⟨S1x2048x6592, .bf16⟩
  | .hbm, ⟨6, _⟩ => ⟨S1x2048x448, .bf16⟩
  | .hbm, ⟨7, _⟩ => ⟨S2048x448, .bf16⟩
  | .hbm, ⟨8, _⟩ => ⟨S2048x96, .bf16⟩
  | .hbm, ⟨9, _⟩ => ⟨S_, .i32⟩
  | .hbm, ⟨10, _⟩ => ⟨S_, .bf16⟩
  | .hbm, ⟨11, _⟩ => ⟨S2048x128, .bf16⟩
  | .hbm, ⟨12, _⟩ => ⟨S2048x96, .bf16⟩
  | .hbm, ⟨13, _⟩ => ⟨S_, .i32⟩
  | .hbm, ⟨14, _⟩ => ⟨S_, .bf16⟩
  | .hbm, ⟨15, _⟩ => ⟨S2048x128, .bf16⟩
  | .hbm, ⟨16, _⟩ => ⟨S2048x256, .bf16⟩
  | .hbm, ⟨17, _⟩ => ⟨S2048x512, .bf16⟩
  | .hbm, ⟨18, _⟩ => ⟨S16384x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S16384x6656, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S2048x512, .bf16⟩
  | .local _ .vmem, ⟨10, _⟩ => ⟨S2048x512, .bf16⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 13], ![false, false]⟩

def k0_cond2 (i : grid0.Coords) : BitVec 1 :=
  let arg1 : BitVec 32 := BitVec.ofNat 32 (i 1).val
  let c12_i32 : BitVec 32 := 12#32
  let v3 : BitVec 1 := Scalar.cmpi .slt arg1 c12_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c12_i32_2 : BitVec 32 := 12#32
  let v6 : BitVec 1 := Scalar.cmpi .eq arg1 c12_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  let c0_i32_8 : BitVec 32 := 0#32
  ![c1_i32_4.toNat, v16.toNat, c0_i32_5.toNat, c0_i32_6.toNat, c0_i32_7.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c1_i32_5 : BitVec 32 := 1#32
  let c0_i32_6 : BitVec 32 := 0#32
  let c0_i32_7 : BitVec 32 := 0#32
  let c0_i32_8 : BitVec 32 := 0#32
  ![c1_i32_4.toNat, v16.toNat, c1_i32_5.toNat, c0_i32_6.toNat, c0_i32_7.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RwkvInRefIdeal.lean ====
abbrev S4x4096x2048 : Shape := ⟨3, ![4, 4096, 2048]⟩
abbrev S4x2048 : Shape := ⟨2, ![4, 2048]⟩
abbrev S4x8x12288 : Shape := ⟨3, ![4, 8, 12288]⟩
abbrev S1x2048x6592 : Shape := ⟨3, ![1, 2048, 6592]⟩
abbrev S1x4x12288 : Shape := ⟨3, ![1, 4, 12288]⟩
abbrev S4x12288 : Shape := ⟨2, ![4, 12288]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S2048x6592 : Shape := ⟨2, ![2048, 6592]⟩
abbrev S4x4096x6592 : Shape := ⟨3, ![4, 4096, 6592]⟩
abbrev S16384x6592 : Shape := ⟨2, ![16384, 6592]⟩
abbrev S16384x6144 : Shape := ⟨2, ![16384, 6144]⟩
abbrev S16384x96 : Shape := ⟨2, ![16384, 96]⟩
abbrev S16384x256 : Shape := ⟨2, ![16384, 256]⟩
abbrev S16384x128 : Shape := ⟨2, ![16384, 128]⟩
abbrev S16384x6656 : Shape := ⟨2, ![16384, 6656]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x8x12288, .f32⟩
  | .hbm, ⟨3, _⟩ => ⟨S1x2048x6592, .f32⟩
  | .hbm, ⟨4, _⟩ => ⟨S1x4x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S1x2048, .f32⟩
  | .hbm, ⟨13, _⟩ => ⟨S2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S4x1x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S2048x6592, .f32⟩
  | .hbm, ⟨40, _⟩ => ⟨S4x4096x6592, .f32⟩
  | .hbm, ⟨41, _⟩ => ⟨S16384x6592, .f32⟩
  | .hbm, ⟨42, _⟩ => ⟨S16384x6144, .f32⟩
  | .hbm, ⟨43, _⟩ => ⟨S16384x96, .f32⟩
  | .hbm, ⟨44, _⟩ => ⟨S16384x96, .f32⟩
  | .hbm, ⟨45, _⟩ => ⟨S16384x256, .f32⟩
  | .hbm, ⟨46, _⟩ => ⟨S_, .i32⟩
  | .hbm, ⟨47, _⟩ => ⟨S_, .f32⟩
  | .hbm, ⟨48, _⟩ => ⟨S16384x128, .f32⟩
  | .hbm, ⟨49, _⟩ => ⟨S_, .i32⟩
  | .hbm, ⟨50, _⟩ => ⟨S_, .f32⟩
  | .hbm, ⟨51, _⟩ => ⟨S16384x128, .f32⟩
  | .hbm, ⟨52, _⟩ => ⟨S16384x6656, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_call0_v0 : Ref sig .tc := ⟨.hbm, 47, rfl⟩
abbrev main_v38 : Ref sig .tc := ⟨.hbm, 48, rfl⟩
abbrev main_c_3 : Ref sig .tc := ⟨.hbm, 49, rfl⟩
abbrev main_call1_v0 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== MlstmOut.lean ====
abbrev S16384x2048 : Shape := ⟨2, ![16384, 2048]⟩
abbrev S1x2048x2048 : Shape := ⟨3, ![1, 2048, 2048]⟩
abbrev S4x4096x2048 : Shape := ⟨3, ![4, 4096, 2048]⟩
abbrev S4x8x12288 : Shape := ⟨3, ![4, 8, 12288]⟩
abbrev S4x8x6x1x2048 : Shape := ⟨5, ![4, 8, 6, 1, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1x1x1024 : Shape := ⟨5, ![1, 1, 1, 1, 1024]⟩
abbrev S2048x1024 : Shape := ⟨2, ![2048, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S4x4096x2048, .f32⟩
  | .hbm, ⟨3, _⟩ => ⟨S4x8x12288, .f32⟩
  | .hbm, ⟨4, _⟩ => ⟨S4x8x6x1x2048, .f32⟩
  | .hbm, ⟨5, _⟩ => ⟨S1x2048x2048, .bf16⟩
  | .hbm, ⟨6, _⟩ => ⟨S16384x2048, .f32⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1024x1024, .f32⟩
  | .local _ .vmem, ⟨9, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c2_i32_4 : BitVec 32 := 2#32
  let c0_i32_5 : BitVec 32 := 0#32
  let c0_i32_6 : BitVec 32 := 0#32
  ![c2_i32.toNat, v16.toNat, c2_i32_4.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlstmOutRefIdeal.lean ====
abbrev S16384x2048 : Shape := ⟨2, ![16384, 2048]⟩
abbrev S1x2048x2048 : Shape := ⟨3, ![1, 2048, 2048]⟩
abbrev S4x4096x2048 : Shape := ⟨3, ![4, 4096, 2048]⟩
abbrev S4x8x12288 : Shape := ⟨3, ![4, 8, 12288]⟩
abbrev S1x4x12288 : Shape := ⟨3, ![1, 4, 12288]⟩
abbrev S4x12288 : Shape := ⟨2, ![4, 12288]⟩
abbrev S4x2048 : Shape := ⟨2, ![4, 2048]⟩
abbrev S2048x2048 : Shape := ⟨2, ![2048, 2048]⟩
abbrev S4x1x2048 : Shape := ⟨3, ![4, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S4x4096x2048, .f32⟩
  | .hbm, ⟨3, _⟩ => ⟨S4x8x12288, .f32⟩
  | .hbm, ⟨4, _⟩ => ⟨S1x4x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S16384x2048, .f32⟩
  | .hbm, ⟨13, _⟩ => ⟨S2048x2048, .f32⟩
  | .hbm, ⟨14, _⟩ => ⟨S16384x2048, .f32⟩
  | .hbm, ⟨15, _⟩ => ⟨S4x1x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== RwkvOut.lean ====
abbrev S16384x2048 : Shape := ⟨2, ![16384, 2048]⟩
abbrev S1x2048x2048 : Shape := ⟨3, ![1, 2048, 2048]⟩
abbrev S4x4096x2048 : Shape := ⟨3, ![4, 4096, 2048]⟩
abbrev S4x8x12288 : Shape := ⟨3, ![4, 8, 12288]⟩
abbrev S4x8x6x1x2048 : Shape := ⟨5, ![4, 8, 6, 1, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1x1x1024 : Shape := ⟨5, ![1, 1, 1, 1, 1024]⟩
abbrev S2048x1024 : Shape := ⟨2, ![2048, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S4x4096x2048, .f32⟩
  | .hbm, ⟨3, _⟩ => ⟨S4x8x12288, .f32⟩
  | .hbm, ⟨4, _⟩ => ⟨S4x8x6x1x2048, .f32⟩
  | .hbm, ⟨5, _⟩ => ⟨S1x2048x2048, .bf16⟩
  | .hbm, ⟨6, _⟩ => ⟨S16384x2048, .f32⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1024x1024, .f32⟩
  | .local _ .vmem, ⟨9, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c2_i32 : BitVec 32 := 2#32
  let c0_i32_5 : BitVec 32 := 0#32
  let c0_i32_6 : BitVec 32 := 0#32
  ![c1_i32_4.toNat, v16.toNat, c2_i32.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RwkvOutRefIdeal.lean ====
abbrev S16384x2048 : Shape := ⟨2, ![16384, 2048]⟩
abbrev S1x2048x2048 : Shape := ⟨3, ![1, 2048, 2048]⟩
abbrev S4x4096x2048 : Shape := ⟨3, ![4, 4096, 2048]⟩
abbrev S4x8x12288 : Shape := ⟨3, ![4, 8, 12288]⟩
abbrev S1x4x12288 : Shape := ⟨3, ![1, 4, 12288]⟩
abbrev S4x12288 : Shape := ⟨2, ![4, 12288]⟩
abbrev S4x2048 : Shape := ⟨2, ![4, 2048]⟩
abbrev S2048x2048 : Shape := ⟨2, ![2048, 2048]⟩
abbrev S4x1x2048 : Shape := ⟨3, ![4, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S4x4096x2048, .f32⟩
  | .hbm, ⟨3, _⟩ => ⟨S4x8x12288, .f32⟩
  | .hbm, ⟨4, _⟩ => ⟨S1x4x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S16384x2048, .f32⟩
  | .hbm, ⟨13, _⟩ => ⟨S2048x2048, .f32⟩
  | .hbm, ⟨14, _⟩ => ⟨S16384x2048, .f32⟩
  | .hbm, ⟨15, _⟩ => ⟨S4x1x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Final.lean ====
abbrev S4x4096x2048 : Shape := ⟨3, ![4, 4096, 2048]⟩
abbrev S2048 : Shape := ⟨1, ![2048]⟩
abbrev S1x8x4096 : Shape := ⟨3, ![1, 8, 4096]⟩
abbrev S1x8x2x1x2048 : Shape := ⟨5, ![1, 8, 2, 1, 2048]⟩
abbrev S16384x2048 : Shape := ⟨2, ![16384, 2048]⟩
abbrev S1x2048 : Shape := ⟨2, ![1, 2048]⟩
abbrev S256x2048 : Shape := ⟨2, ![256, 2048]⟩
abbrev S1x1x1x1x2048 : Shape := ⟨5, ![1, 1, 1, 1, 2048]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S1x8x4096, .f32⟩
  | .hbm, ⟨3, _⟩ => ⟨S1x8x2x1x2048, .f32⟩
  | .hbm, ⟨4, _⟩ => ⟨S16384x2048, .f32⟩
  | .hbm, ⟨5, _⟩ => ⟨S1x2048, .f32⟩
  | .hbm, ⟨6, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S256x2048, .f32⟩
  | .local _ .vmem, ⟨8, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_3 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v16.toNat, c1_i32_5.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S4x4096x2048 : Shape := ⟨3, ![4, 4096, 2048]⟩
abbrev S2048 : Shape := ⟨1, ![2048]⟩
abbrev S1x8x4096 : Shape := ⟨3, ![1, 8, 4096]⟩
abbrev S1x4x4096 : Shape := ⟨3, ![1, 4, 4096]⟩
abbrev S4x4096 : Shape := ⟨2, ![4, 4096]⟩
abbrev S4x2048 : Shape := ⟨2, ![4, 2048]⟩
abbrev S_ : Shape := ⟨0, ![]⟩
abbrev S4x4096x1 : Shape := ⟨3, ![4, 4096, 1]⟩
abbrev S1x1x2048 : Shape := ⟨3, ![1, 1, 2048]⟩
abbrev S4x1x2048 : Shape := ⟨3, ![4, 1, 2048]⟩
abbrev S16384x2048 : Shape := ⟨2, ![16384, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S1x8x4096, .f32⟩
  | .hbm, ⟨3, _⟩ => ⟨S1x4x4096, .f32⟩
  | .hbm, ⟨4, _⟩ => ⟨S4x4096, .f32⟩
  | .hbm, ⟨5, _⟩ => ⟨S4x2048, .f32⟩
  | .hbm, ⟨6, _⟩ => ⟨S4x2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S4x1x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x4096x2048, .f32⟩
  | .hbm, ⟨28, _⟩ => ⟨S4x4096x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== ModVec.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S4x1x12288 : Shape := ⟨3, ![4, 1, 12288]⟩
abbrev S4x8x12288 : Shape := ⟨3, ![4, 8, 12288]⟩
abbrev S1x2048x2048 : Shape := ⟨3, ![1, 2048, 2048]⟩
abbrev S1x1x2048 : Shape := ⟨3, ![1, 1, 2048]⟩
abbrev S1x8x2048 : Shape := ⟨3, ![1, 8, 2048]⟩
abbrev S2048x2048 : Shape := ⟨2, ![2048, 2048]⟩
abbrev S1x2048 : Shape := ⟨2, ![1, 2048]⟩

abbrev nBuf : Space → Nat
  | .hbm => 8
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048x12288, .f32⟩
  | .hbm, ⟨2, _⟩ => ⟨S4x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S4x1x12288, .f32⟩
  | .hbm, ⟨7, _⟩ => ⟨S4x8x12288, .f32⟩
  | .local _ .vmem, ⟨0, _⟩ => ⟨S8x2048, .f32⟩
  | .local _ .vmem, ⟨1, _⟩ => ⟨S1x2048x2048, .f32⟩
  | .local _ .vmem, ⟨2, _⟩ => ⟨S1x2048x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x8x2048, .f32⟩
  | .local _ .vmem, ⟨6, _⟩ => ⟨S1x8x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModVecRefIdeal.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 20
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048x12288, .f32⟩
  | .hbm, ⟨2, _⟩ => ⟨S4x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S4x12288x8, .f32⟩
  | .hbm, ⟨16, _⟩ => ⟨S4x8x12288, .f32⟩
  | .hbm, ⟨17, _⟩ => ⟨S4x1x12288, .f32⟩
  | .hbm, ⟨18, _⟩ => ⟨S4x8x12288, .f32⟩
  | .hbm, ⟨19, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== FinMod.lean ====
abbrev S4x2048 : Shape := ⟨2, ![4, 2048]⟩
abbrev S2048x4096 : Shape := ⟨2, ![2048, 4096]⟩
abbrev S4096 : Shape := ⟨1, ![4096]⟩
abbrev S_ : Shape := ⟨0, ![]⟩
abbrev S8x2048 : Shape := ⟨2, ![8, 2048]⟩
abbrev S1x2048x4096 : Shape := ⟨3, ![1, 2048, 4096]⟩
abbrev S1x4096 : Shape := ⟨2, ![1, 4096]⟩
abbrev S1x1x4096 : Shape := ⟨3, ![1, 1, 4096]⟩
abbrev S1x8x4096 : Shape := ⟨3, ![1, 8, 4096]⟩
abbrev S1x2048x2048 : Shape := ⟨3, ![1, 2048, 2048]⟩
abbrev S1x1x2048 : Shape := ⟨3, ![1, 1, 2048]⟩
abbrev S1x8x2048 : Shape := ⟨3, ![1, 8, 2048]⟩
abbrev S2048x2048 : Shape := ⟨2, ![2048, 2048]⟩
abbrev S1x2048 : Shape := ⟨2, ![1, 2048]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048x4096, .f32⟩
  | .hbm, ⟨2, _⟩ => ⟨S4096, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S1x2048x4096, .f32⟩
  | .hbm, ⟨7, _⟩ => ⟨S1x4096, .f32⟩
  | .hbm, ⟨8, _⟩ => ⟨S1x1x4096, .f32⟩
  | .hbm, ⟨9, _⟩ => ⟨S1x8x4096, .f32⟩
  | .local _ .vmem, ⟨0, _⟩ => ⟨S8x2048, .f32⟩
  | .local _ .vmem, ⟨1, _⟩ => ⟨S1x2048x2048, .f32⟩
  | .local _ .vmem, ⟨2, _⟩ => ⟨S1x2048x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x8x2048, .f32⟩
  | .local _ .vmem, ⟨6, _⟩ => ⟨S1x8x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FinModRefIdeal.lean ====
abbrev S4x2048 : Shape := ⟨2, ![4, 2048]⟩
abbrev S2048x4096 : Shape := ⟨2, ![2048, 4096]⟩
abbrev S4096 : Shape := ⟨1, ![4096]⟩
abbrev S_ : Shape := ⟨0, ![]⟩
abbrev S8x2048 : Shape := ⟨2, ![8, 2048]⟩
abbrev S8x4096 : Shape := ⟨2, ![8, 4096]⟩
abbrev S1x4096 : Shape := ⟨2, ![1, 4096]⟩
abbrev S1x8x4096 : Shape := ⟨3, ![1, 8, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048x4096, .f32⟩
  | .hbm, ⟨2, _⟩ => ⟨S4096, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x4096, .f32⟩
  | .hbm, ⟨16, _⟩ => ⟨S1x4096, .f32⟩
  | .hbm, ⟨17, _⟩ => ⟨S8x4096, .f32⟩
  | .hbm, ⟨18, _⟩ => ⟨S8x4096, .f32⟩
  | .hbm, ⟨19, _⟩ => ⟨S1x8x4096, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Proof.KernelSpec.lean ====
module

public import proofs.«01_k».proof.Defs
public import Idealize.ShloMosaic.Lib.Pointwise

@[expose] public section

set_option maxRecDepth 16384

noncomputable section

/-! One step of the recurrence for one head, written on plain functions: a step takes 128 positions' queries, keys, values and
    gates, and the carried matrix, vector and exponent. Both the kernel's block and the reference's trip are shown to be it. -/

namespace Cert.Mlstm

open Idealize.ShloMosaic

/-- What one step of one head reads: queries, keys, values, log input gates, running sums of the log forget gates, and the
    carried matrix, vector and exponent. -/
structure Hd where
  q : Fin 128 → Fin 256 → EReal
  k : Fin 128 → Fin 256 → EReal
  v : Fin 128 → Fin 512 → EReal
  l : Fin 128 → EReal
  b : Fin 128 → EReal
  c : Fin 256 → Fin 512 → EReal
  n : Fin 256 → EReal
  m : EReal

/-- Minus infinity as it is printed. -/
def ninf : EReal := Ideal.ofBits FTy.f32 4286578688#32

/-- A gate softly capped at fifteen. -/
def cap (x : EReal) : EReal :=
  Ideal.ofBits FTy.f32 1097859072#32 * Ideal.tanh (Ideal.div x (Ideal.ofBits FTy.f32 1097859072#32))

/-- The log forget gate: minus the softplus of minus the capped gate. -/
def lfg (x : EReal) : EReal :=
  0 - (max (0 - cap x) 0 + Ideal.log (1 + Ideal.exp (0 - FloatOps.absf (F := Ideal) (φ := .f32) (0 - cap x))))

/-- `x · logistic x`. -/
def silu (x : EReal) : EReal := x * Ideal.logistic x

namespace Hd
variable (H : Hd)

/-- The log weight of position `s` at position `p`. -/
def D (p s : Fin 128) : EReal := if s ≤ p then H.b p - H.b s + H.l s else ⊥
/-- The exponent taken out of row `p`. -/
def M (p : Fin 128) : EReal := max (H.b p + H.m) (Finset.fold max ninf (fun s => H.D p s) Finset.univ)
/-- The weighted scores. -/
def sc (p s : Fin 128) : EReal := (∑ d, H.q p d * H.k s d) * Ideal.exp (H.D p s - H.M p)
/-- The weight of the carried state at row `p`. -/
def wi (p : Fin 128) : EReal := Ideal.exp (H.b p + H.m - H.M p)
/-- The numerator. -/
def num (p : Fin 128) (e : Fin 512) : EReal := ∑ s, H.sc p s * H.v s e + H.wi p * ∑ d, H.q p d * H.c d e
/-- The denominator. -/
def den (p : Fin 128) : EReal := ∑ s, H.sc p s + H.wi p * ∑ d, H.q p d * H.n d
/-- The step's result. -/
def h (p : Fin 128) (e : Fin 512) : EReal :=
  Ideal.div (H.num p e) (max (FloatOps.absf (F := Ideal) (φ := .f32) (H.den p)) (Ideal.exp (0 - H.M p)))
/-- The log weight of position `s` in the state left. -/
def g (s : Fin 128) : EReal := H.b 127 - H.b s + H.l s
/-- The exponent left. -/
def m' : EReal := max (H.b 127 + H.m) (Finset.fold max ninf (fun s => H.g s) Finset.univ)
/-- The weight of the carried state in the state left. -/
def car : EReal := Ideal.exp (H.b 127 + H.m - H.m')
/-- The weighted keys. -/
def kw (s : Fin 128) (d : Fin 256) : EReal := H.k s d * Ideal.exp (H.g s - H.m')
/-- The matrix left. -/
def c' (d : Fin 256) (e : Fin 512) : EReal := H.car * H.c d e + ∑ s, H.kw s d * H.v s e
/-- The vector left. -/
def n' (d : Fin 256) : EReal := H.car * H.n d + ∑ s, H.kw s d
/-- The result normalised, scaled and gated. -/
def out (w : Fin 512 → EReal) (o : Fin 128 → Fin 512 → EReal) (p : Fin 128) (e : Fin 512) : EReal :=
  H.h p e * Ideal.rsqrt (Ideal.div (∑ j, H.h p j * H.h p j) (Ideal.ofBits FTy.f32 1140850688#32) + Ideal.ofBits FTy.f32 897988541#32)
    * w e * Ideal.logistic (o p e)

end Hd

/-- A sum over lanes that keeps one lane is that lane. -/
theorem lane (f : Fin 128 → EReal) (h : ℕ) (hh : h < 128) :
    ∑ x : Fin 128, Scalar.select (IntOp.cmpi CmpIPredicate.eq (BitVec.ofNat 32 x.val) (BitVec.ofNat 32 h)) (f x) 0 = f ⟨h, hh⟩ := by
  rw [Finset.sum_eq_single (⟨h, hh⟩ : Fin 128)]
  · simp [Scalar.select, IntOp.cmpi]
  · intro x _ hx
    have : (BitVec.ofNat 32 x.val == BitVec.ofNat 32 h) = false := by
      rw [beq_eq_false_iff_ne]
      intro he
      have := congrArg BitVec.toNat he
      simp only [BitVec.toNat_ofNat] at this
      apply hx; apply Fin.ext; show x.val = h
      have hx2 := x.isLt
      omega
    simp [Scalar.select, IntOp.cmpi, this]
  · intro hx; exact absurd (Finset.mem_univ _) hx

/-- A choice by position keeps the lower triangle. -/
theorem tri (p s : Fin 128) (a b : EReal) :
    Scalar.select (IntOp.cmpi CmpIPredicate.sge (BitVec.ofNat 32 p.val) (BitVec.ofNat 32 s.val)) a b = if s ≤ p then a else b := by
  have hp := p.isLt
  have hs := s.isLt
  have e1 : (BitVec.ofNat 32 p.val).toInt = p.val := by
    rw [BitVec.toInt_eq_toNat_cond]; simp only [BitVec.toNat_ofNat]; omega
  have e2 : (BitVec.ofNat 32 s.val).toInt = s.val := by
    rw [BitVec.toInt_eq_toNat_cond]; simp only [BitVec.toNat_ofNat]; omega
  by_cases h : s ≤ p
  · have h' : s.val ≤ p.val := h
    simp [Scalar.select, IntOp.cmpi, BitVec.sle, e1, e2, h, h']
  · have h' : ¬ s.val ≤ p.val := h
    simp [Scalar.select, IntOp.cmpi, BitVec.sle, e1, e2, h, h']

end Cert.Mlstm
-- ==== Proof.KernelTrip.lean ====
module

public import proofs.«01_k».proof.Proof.KernelSpec
public import proofs.«01_k».proof.Proof.Gen.ReferenceIdeal
public import Idealize.ShloMosaic.Lib.Pointwise
public import Idealize.ShloMosaic.Lib.DynamicIndex

@[expose] public section

set_option maxRecDepth 16384

noncomputable section

/-! The operations of the reference's trip, each read at one entry, on arrays that hold the heads' values. -/

namespace Cert.ReferenceIdeal.Own

open Idealize.ShloMosaic Cert.ReferenceIdeal Cert.ReferenceIdeal.Gen Cert.Mlstm

theorem toInt_small (n : ℕ) (hn : n < 33) : (BitVec.ofNat 32 n).toInt = n := by
  rw [BitVec.toInt_eq_toNat_cond]; simp only [BitVec.toNat_ofNat]; omega

/-- A trip's queries or keys. -/
theorem cut_key (x : FVec Ideal S32x4x4x128x256 .f32) (k : IVec S_ 32) (n : ℕ) (hn : n < 32) (hk : k = fun _ => BitVec.ofNat 32 n)
    (b : Fin 4) (h : Fin 4) (p : Fin 128) (d : Fin 256) :
    shapeCast S4x4x128x256 (Host.dynamicSlice S1x4x4x128x256 x (fun i => (((![k, constantI S_ 32 0#32, constantI S_ 32 0#32, constantI S_ 32 0#32, constantI S_ 32 0#32] : Fin 5 → IVec S_ 32)) i (Shape.Idx.first h_S_)).toInt) sliceFits_S32x4x4x128x256_S1x4x4x128x256) shapeCasts_S1x4x4x128x256_S4x4x128x256 (ix4 b h p d)
      = x (ix5 (⟨n, hn⟩ : Fin 32) b h p d) := by
  rw [Host.dynamicSlice_eq_extractStridedSlice S1x4x4x128x256 x _ (![n, 0, 0, 0, 0] : Fin 5 → ℕ) _ (by
    refine ⟨rfl, fun a => ?_⟩
    fin_cases a <;> simp [S1x4x4x128x256, S32x4x4x128x256] <;> omega) (by
    intro a
    fin_cases a
    · show (k _).toInt = _
      rw [hk]; exact toInt_small n (by omega)
    all_goals rfl)]
  pointwise []

/-- A trip's values. -/
theorem cut_val (x : FVec Ideal S32x4x4x128x512 .f32) (k : IVec S_ 32) (n : ℕ) (hn : n < 32) (hk : k = fun _ => BitVec.ofNat 32 n)
    (b : Fin 4) (h : Fin 4) (p : Fin 128) (e : Fin 512) :
    shapeCast S4x4x128x512 (Host.dynamicSlice S1x4x4x128x512 x (fun i => (((![k, constantI S_ 32 0#32, constantI S_ 32 0#32, constantI S_ 32 0#32, constantI S_ 32 0#32] : Fin 5 → IVec S_ 32)) i (Shape.Idx.first h_S_)).toInt) sliceFits_S32x4x4x128x512_S1x4x4x128x512) shapeCasts_S1x4x4x128x512_S4x4x128x512 (ix4 b h p e)
      = x (ix5 (⟨n, hn⟩ : Fin 32) b h p e) := by
  rw [Host.dynamicSlice_eq_extractStridedSlice S1x4x4x128x512 x _ (![n, 0, 0, 0, 0] : Fin 5 → ℕ) _ (by
    refine ⟨rfl, fun a => ?_⟩
    fin_cases a <;> simp [S1x4x4x128x512, S32x4x4x128x512] <;> omega) (by
    intro a
    fin_cases a
    · show (k _).toInt = _
      rw [hk]; exact toInt_small n (by omega)
    all_goals rfl)]
  pointwise []

/-- A trip's gates. -/
theorem cut_gate (x : FVec Ideal S32x4x4x128 .f32) (k : IVec S_ 32) (n : ℕ) (hn : n < 32) (hk : k = fun _ => BitVec.ofNat 32 n)
    (b : Fin 4) (h : Fin 4) (p : Fin 128) :
    shapeCast S4x4x128 (Host.dynamicSlice S1x4x4x128 x (fun i => (((![k, constantI S_ 32 0#32, constantI S_ 32 0#32, constantI S_ 32 0#32] : Fin 4 → IVec S_ 32)) i (Shape.Idx.first h_S_)).toInt) sliceFits_S32x4x4x128_S1x4x4x128) shapeCasts_S1x4x4x128_S4x4x128 (ix3 b h p)
      = x (ix4 (⟨n, hn⟩ : Fin 32) b h p) := by
  rw [Host.dynamicSlice_eq_extractStridedSlice S1x4x4x128 x _ (![n, 0, 0, 0] : Fin 4 → ℕ) _ (by
    refine ⟨rfl, fun a => ?_⟩
    fin_cases a <;> simp [S1x4x4x128, S32x4x4x128] <;> omega) (by
    intro a
    fin_cases a
    · show (k _).toInt = _
      rw [hk]; exact toInt_small n (by omega)
    all_goals rfl)]
  pointwise []

section
variable (H : Fin 4 → Fin 4 → Hd)

theorem at_D (mask : IVec S128x128 1) (B L : FVec Ideal S4x4x128 .f32)
    (hm : ∀ (p s : Fin 128) (x y : EReal), Scalar.select (mask (ix2 p s)) x y = if s ≤ p then x else y)
    (hB : ∀ b h p, B (ix3 b h p) = (H b h).b p) (hL : ∀ b h p, L (ix3 b h p) = (H b h).l p) (b h : Fin 4) (p s : Fin 128) :
    select (broadcastInDim S4x4x128x128 ![2, 3] bcast_S128x128_S4x4x128x128_2_3 mask) (addf (subf (broadcastInDim S4x4x128x128 ![0, 1, 2, 3] bcast_S4x4x128x1_S4x4x128x128_0_1_2_3 (broadcastInDim S4x4x128x1 ![0, 1, 2] bcast_S4x4x128_S4x4x128x1_0_1_2 B)) (broadcastInDim S4x4x128x128 ![0, 1, 2, 3] bcast_S4x4x1x128_S4x4x128x128_0_1_2_3 (broadcastInDim S4x4x1x128 ![0, 1, 3] bcast_S4x4x128_S4x4x1x128_0_1_3 B))) (broadcastInDim S4x4x128x128 ![0, 1, 2, 3] bcast_S4x4x1x128_S4x4x128x128_0_1_2_3 (broadcastInDim S4x4x1x128 ![0, 1, 3] bcast_S4x4x128_S4x4x1x128_0_1_3 L))) (broadcastInDim S4x4x128x128 ![] bcast_S_S4x4x128x128 (id (constant (F := Ideal) S_ .f32 0xFF800000#32))) (ix4 b h p s)
      = (H b h).D p s := by
  pointwise []
  simp only [hm, hB, hL]
  rfl

theorem at_M (V : FVec Ideal S4x4x128 .f32) (D : FVec Ideal S4x4x128x128 .f32) (hV : ∀ b h p, V (ix3 b h p) = (H b h).b p + (H b h).m)
    (hD : ∀ b h p s, D (ix4 b h p s) = (H b h).D p s) (b h : Fin 4) (p : Fin 128) :
    maximumf V (Host.reduce FloatOps.maximumf D (constant (F := Ideal) S_ .f32 0xFF800000#32) reducesTo_S4x4x128x128_S4x4x128_d3 h_S_) (ix3 b h p)
      = (H b h).M p := by
  pointwise []
  simp only [hV, hD]
  rfl

theorem at_sc (Q K : FVec Ideal S4x4x128x256 .f32) (D : FVec Ideal S4x4x128x128 .f32) (M : FVec Ideal S4x4x128 .f32)
    (hQ : ∀ b h p d, Q (ix4 b h p d) = (H b h).q p d) (hK : ∀ b h p d, K (ix4 b h p d) = (H b h).k p d)
    (hD : ∀ b h p s, D (ix4 b h p s) = (H b h).D p s) (hM : ∀ b h p, M (ix3 b h p) = (H b h).M p) (b h : Fin 4) (p s : Fin 128) :
    mulf (Host.dotGeneral dot_S4x4x128x256_S4x4x128x256_S4x4x128x128_3_3_2_2_01_01 none Q K) (Host.exp (subf D (broadcastInDim S4x4x128x128 ![0, 1, 2, 3] bcast_S4x4x128x1_S4x4x128x128_0_1_2_3 (broadcastInDim S4x4x128x1 ![0, 1, 2] bcast_S4x4x128_S4x4x128x1_0_1_2 M)))) (ix4 b h p s)
      = (H b h).sc p s := by
  pointwise []
  simp only [hQ, hK, hD, hM]
  rfl

theorem at_last (B : FVec Ideal S4x4x128 .f32) (b h : Fin 4) :
    shapeCast S4x4 (extractStridedSlice S4x4x1 ![0, 0, 127] B slices_S4x4x128_S4x4x1_0_0_127) shapeCasts_S4x4x1_S4x4 (ix2 b h) = B (ix3 b h 127) := by
  pointwise []

theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

theorem at_sum (x : FVec Ideal S4x4x128 .f32) (b h : Fin 4) (p : Fin 128) :
    Host.reduceWindowAdd ![1, 1, 128] ![1, 1, 1] ![0, 0, 127] ![0, 0, 0] x (broadcastInDim S_ ![] bcast_S_S_ (constant (F := Ideal) S_ .f32 0x00000000#32)) reduceWindows_S4x4x128_S4x4x128_w1s1p0_0_w1s1p0_0_w128s1p127_0 h_S_ (ix3 b h p)
      = ∑ s : Fin 128, if s ≤ p then x (ix3 b h s) else 0 := by
  have hv : (broadcastInDim S_ ![] bcast_S_S_ (constant (F := Ideal) S_ .f32 0x00000000#32)) (Shape.Idx.first h_S_) = (0 : EReal) := by
    show Ideal.ofBits FTy.f32 0#32 = 0
    simp [Ideal.ofBits, Ideal.ieee]
  show Ideal.hostReduceWindowAdd (![1, 1, 128] : Fin 3 → ℕ) ![1, 1, 1] ![0, 0, 127] ![0, 0, 0]
    reduceWindows_S4x4x128_S4x4x128_w1s1p0_0_w1s1p0_0_w128s1p127_0 x _ (ix3 b h p) = _
  rw [hv]
  unfold Ideal.hostReduceWindowAdd Host.reduceWindow
  dsimp only
  rw [foldl_add, zero_add, ← Fin.sum_univ_def]
  have hp := p.isLt
  let f : (⟨3, ![1, 1, 128]⟩ : Shape).Idx → EReal := fun w =>
    if hw : 127 ≤ p.val + (w 2).val then x (ix3 b h (⟨p.val + (w 2).val - 127, by have h2 : (w 2).val < 128 := (w 2).isLt; omega⟩ : Fin 128)) else 0
  refine (Finset.sum_congr rfl fun n _ => ?_ : _ = ∑ n, f ((Shape.rowMajor ⟨3, ![1, 1, 128]⟩).symm n)).trans ?_
  · have h0 : ((Shape.rowMajor ⟨3, ![1, 1, 128]⟩).symm n 0).val < 1 := ((Shape.rowMajor ⟨3, ![1, 1, 128]⟩).symm n 0).isLt
    have h1 : ((Shape.rowMajor ⟨3, ![1, 1, 128]⟩).symm n 1).val < 1 := ((Shape.rowMajor ⟨3, ![1, 1, 128]⟩).symm n 1).isLt
    have h2 : ((Shape.rowMajor ⟨3, ![1, 1, 128]⟩).symm n 2).val < 128 := ((Shape.rowMajor ⟨3, ![1, 1, 128]⟩).symm n 2).isLt
    by_cases hw : 127 ≤ p.val + ((Shape.rowMajor ⟨3, ![1, 1, 128]⟩).symm n 2).val
    · rw [dif_pos]
      · show _ = if hw : 127 ≤ p.val + ((Shape.rowMajor ⟨3, ![1, 1, 128]⟩).symm n 2).val then x (ix3 b h (⟨p.val + ((Shape.rowMajor ⟨3, ![1, 1, 128]⟩).symm n 2).val - 127, by omega⟩ : Fin 128)) else 0
        rw [dif_pos hw]
        congr 1
        funext a
        apply Fin.ext
        fin_cases a
        · show b.val * 1 + ((Shape.rowMajor ⟨3, ![1, 1, 128]⟩).symm n 0).val - 0 = b.val
          omega
        · show h.val * 1 + ((Shape.rowMajor ⟨3, ![1, 1, 128]⟩).symm n 1).val - 0 = h.val
          omega
        · show p.val * 1 + ((Shape.rowMajor ⟨3, ![1, 1, 128]⟩).symm n 2).val - 127 = p.val + ((Shape.rowMajor ⟨3, ![1, 1, 128]⟩).symm n 2).val - 127
          omega
      · intro a
        have hb := b.isLt
        have hh := h.isLt
        fin_cases a
        · show 0 ≤ b.val * 1 + ((Shape.rowMajor ⟨3, ![1, 1, 128]⟩).symm n 0).val ∧ b.val * 1 + ((Shape.rowMajor ⟨3, ![1, 1, 128]⟩).symm n 0).val - 0 < 4
          omega
        · show 0 ≤ h.val * 1 + ((Shape.rowMajor ⟨3, ![1, 1, 128]⟩).symm n 1).val ∧ h.val * 1 + ((Shape.rowMajor ⟨3, ![1, 1, 128]⟩).symm n 1).val - 0 < 4
          omega
        · show 127 ≤ p.val * 1 + ((Shape.rowMajor ⟨3, ![1, 1, 128]⟩).symm n 2).val ∧ p.val * 1 + ((Shape.rowMajor ⟨3, ![1, 1, 128]⟩).symm n 2).val - 127 < 128
          omega
    · rw [dif_neg]
      · show _ = if hw : 127 ≤ p.val + ((Shape.rowMajor ⟨3, ![1, 1, 128]⟩).symm n 2).val then x (ix3 b h (⟨p.val + ((Shape.rowMajor ⟨3, ![1, 1, 128]⟩).symm n 2).val - 127, by omega⟩ : Fin 128)) else 0
        rw [dif_neg hw]
      · intro hin
        have h3 : 127 ≤ p.val * 1 + ((Shape.rowMajor ⟨3, ![1, 1, 128]⟩).symm n 2).val ∧ p.val * 1 + ((Shape.rowMajor ⟨3, ![1, 1, 128]⟩).symm n 2).val - 127 < 128 := hin 2
        omega
  · rw [Equiv.sum_comp (Shape.rowMajor ⟨3, ![1, 1, 128]⟩).symm f]
    have e1 : ∑ w, f w = ∑ t : Fin 128, f (ix3 (0 : Fin 1) (0 : Fin 1) t) := by
      refine Finset.sum_nbij' (fun w => (w 2 : Fin 128)) (fun t => ix3 (0 : Fin 1) (0 : Fin 1) t) (fun _ _ => Finset.mem_univ _)
        (fun _ _ => Finset.mem_univ _) (fun w _ => ?_) (fun t _ => rfl) (fun w _ => ?_)
      · funext a
        fin_cases a
        · exact Subsingleton.elim (α := Fin 1) _ _
        · exact Subsingleton.elim (α := Fin 1) _ _
        · rfl
      · rfl
    rw [e1]
    have e2 : ∀ t : Fin 128, f (ix3 (0 : Fin 1) (0 : Fin 1) t)
        = if hw : 127 ≤ p.val + t.val then x (ix3 b h (⟨p.val + t.val - 127, by omega⟩ : Fin 128)) else 0 := fun t => rfl
    simp only [e2]
    rw [Finset.sum_dite, Finset.sum_const_zero, add_zero, ← Finset.sum_filter]
    refine Finset.sum_bij (fun t _ => (⟨p.val + t.val.val - 127, by have := t.val.isLt; omega⟩ : Fin 128)) (fun t _ => ?_) (fun t _ t' _ he => ?_)
      (fun s hs => ?_) (fun t _ => rfl)
    · rw [Finset.mem_filter]
      refine ⟨Finset.mem_univ _, ?_⟩
      have := t.val.isLt
      show p.val + t.val.val - 127 ≤ p.val
      omega
    · have h1 := (Finset.mem_filter.1 t.2).2
      have h2 := (Finset.mem_filter.1 t'.2).2
      have h3 : p.val + t.val.val - 127 = p.val + t'.val.val - 127 := congrArg Fin.val he
      apply Subtype.ext; apply Fin.ext; omega
    · have hs' : s.val ≤ p.val := (Finset.mem_filter.1 hs).2
      refine ⟨⟨(⟨s.val + 127 - p.val, by omega⟩ : Fin 128), Finset.mem_filter.2 ⟨Finset.mem_univ _, ?_⟩⟩, Finset.mem_attach _ _, ?_⟩
      · show 127 ≤ p.val + (s.val + 127 - p.val)
        omega
      · apply Fin.ext
        show p.val + (s.val + 127 - p.val) - 127 = s.val
        omega

theorem at_V (B : FVec Ideal S4x4x128 .f32) (m : FVec Ideal S4x4 .f32) (hB : ∀ b h p, B (ix3 b h p) = (H b h).b p)
    (hm : ∀ b h, m (ix2 b h) = (H b h).m) (b h : Fin 4) (p : Fin 128) :
    addf B (broadcastInDim S4x4x128 ![0, 1, 2] bcast_S4x4x1_S4x4x128_0_1_2 (broadcastInDim S4x4x1 ![0, 1] bcast_S4x4_S4x4x1_0_1 m)) (ix3 b h p)
      = (H b h).b p + (H b h).m := by
  pointwise []
  simp only [hB, hm]

theorem at_wi (V M : FVec Ideal S4x4x128 .f32) (hV : ∀ b h p, V (ix3 b h p) = (H b h).b p + (H b h).m)
    (hM : ∀ b h p, M (ix3 b h p) = (H b h).M p) (b h : Fin 4) (p : Fin 128) :
    Host.exp (subf V M) (ix3 b h p) = (H b h).wi p := by
  pointwise []
  simp only [hV, hM]
  rfl

theorem at_g (z : FVec Ideal S4x4 .f32) (B L : FVec Ideal S4x4x128 .f32) (hz : ∀ b h, z (ix2 b h) = (H b h).b 127)
    (hB : ∀ b h p, B (ix3 b h p) = (H b h).b p) (hL : ∀ b h p, L (ix3 b h p) = (H b h).l p) (b h : Fin 4) (p : Fin 128) :
    addf (subf (broadcastInDim S4x4x128 ![0, 1, 2] bcast_S4x4x1_S4x4x128_0_1_2 (broadcastInDim S4x4x1 ![0, 1] bcast_S4x4_S4x4x1_0_1 z)) B) L (ix3 b h p)
      = (H b h).g p := by
  pointwise []
  simp only [hz, hB, hL]
  rfl

theorem at_m' (z m : FVec Ideal S4x4 .f32) (G : FVec Ideal S4x4x128 .f32) (hz : ∀ b h, z (ix2 b h) = (H b h).b 127)
    (hm : ∀ b h, m (ix2 b h) = (H b h).m) (hG : ∀ b h p, G (ix3 b h p) = (H b h).g p) (b h : Fin 4) :
    maximumf (addf z m) (Host.reduce FloatOps.maximumf G (constant (F := Ideal) S_ .f32 0xFF800000#32) reducesTo_S4x4x128_S4x4_d2 h_S_) (ix2 b h)
      = (H b h).m' := by
  pointwise []
  simp only [hz, hm, hG]
  rfl

theorem at_wk (G : FVec Ideal S4x4x128 .f32) (m' : FVec Ideal S4x4 .f32) (hG : ∀ b h p, G (ix3 b h p) = (H b h).g p)
    (hm' : ∀ b h, m' (ix2 b h) = (H b h).m') (b h : Fin 4) (p : Fin 128) :
    Host.exp (subf G (broadcastInDim S4x4x128 ![0, 1, 2] bcast_S4x4x1_S4x4x128_0_1_2 (broadcastInDim S4x4x1 ![0, 1] bcast_S4x4_S4x4x1_0_1 m'))) (ix3 b h p)
      = Ideal.exp ((H b h).g p - (H b h).m') := by
  pointwise []
  simp only [hG, hm']

theorem at_car (z m m' : FVec Ideal S4x4 .f32) (hz : ∀ b h, z (ix2 b h) = (H b h).b 127)
    (hm : ∀ b h, m (ix2 b h) = (H b h).m) (hm' : ∀ b h, m' (ix2 b h) = (H b h).m') (b h : Fin 4) :
    Host.exp (subf (addf z m) m') (ix2 b h) = (H b h).car := by
  pointwise []
  simp only [hz, hm, hm']
  rfl

theorem at_c' (r : FVec Ideal S4x4 .f32) (c : FVec Ideal S4x4x512x256 .f32) (W : FVec Ideal S4x4x128x512 .f32) (w : FVec Ideal S4x4x128 .f32)
    (K : FVec Ideal S4x4x128x256 .f32) (hr : ∀ b h, r (ix2 b h) = (H b h).car) (hc : ∀ b h e d, c (ix4 b h e d) = (H b h).c d e)
    (hW : ∀ b h p e, W (ix4 b h p e) = (H b h).v p e) (hw : ∀ b h p, w (ix3 b h p) = Ideal.exp ((H b h).g p - (H b h).m'))
    (hK : ∀ b h p d, K (ix4 b h p d) = (H b h).k p d) (b h : Fin 4) (e : Fin 512) (d : Fin 256) :
    addf (mulf (broadcastInDim S4x4x512x256 ![0, 1, 2, 3] bcast_S4x4x1x1_S4x4x512x256_0_1_2_3 (broadcastInDim S4x4x1x1 ![0, 1] bcast_S4x4_S4x4x1x1_0_1 r)) c) (Host.dotGeneral dot_S4x4x128x512_S4x4x128x256_S4x4x512x256_2_2_3_3_01_01 none (mulf W (broadcastInDim S4x4x128x512 ![0, 1, 2, 3] bcast_S4x4x128x1_S4x4x128x512_0_1_2_3 (broadcastInDim S4x4x128x1 ![0, 1, 2] bcast_S4x4x128_S4x4x128x1_0_1_2 w))) K) (ix4 b h e d)
      = (H b h).c' d e := by
  pointwise []
  simp only [hr, hc, hW, hw, hK]
  unfold Hd.c' Hd.kw
  congr 1
  refine Finset.sum_congr rfl fun s _ => ?_
  ac_rfl

theorem at_n' (r : FVec Ideal S4x4 .f32) (n : FVec Ideal S4x4x256 .f32) (w : FVec Ideal S4x4x128 .f32)
    (K : FVec Ideal S4x4x128x256 .f32) (hr : ∀ b h, r (ix2 b h) = (H b h).car) (hn : ∀ b h d, n (ix3 b h d) = (H b h).n d)
    (hw : ∀ b h p, w (ix3 b h p) = Ideal.exp ((H b h).g p - (H b h).m'))
    (hK : ∀ b h p d, K (ix4 b h p d) = (H b h).k p d) (b h : Fin 4) (d : Fin 256) :
    addf (mulf (broadcastInDim S4x4x256 ![0, 1, 2] bcast_S4x4x1_S4x4x256_0_1_2 (broadcastInDim S4x4x1 ![0, 1] bcast_S4x4_S4x4x1_0_1 r)) n) (Host.dotGeneral dot_S4x4x128_S4x4x128x256_S4x4x256_2_2_n_3_01_01 none w K) (ix3 b h d)
      = (H b h).n' d := by
  pointwise []
  simp only [hr, hn, hw, hK]
  unfold Hd.n' Hd.kw
  congr 1
  refine Finset.sum_congr rfl fun s _ => ?_
  ac_rfl

theorem at_h (Q : FVec Ideal S4x4x128x256 .f32) (S : FVec Ideal S4x4x128x128 .f32) (W : FVec Ideal S4x4x128x512 .f32) (I M : FVec Ideal S4x4x128 .f32)
    (c : FVec Ideal S4x4x512x256 .f32) (n : FVec Ideal S4x4x256 .f32) (hQ : ∀ b h p d, Q (ix4 b h p d) = (H b h).q p d)
    (hS : ∀ b h p s, S (ix4 b h p s) = (H b h).sc p s) (hW : ∀ b h p e, W (ix4 b h p e) = (H b h).v p e)
    (hI : ∀ b h p, I (ix3 b h p) = (H b h).wi p) (hM : ∀ b h p, M (ix3 b h p) = (H b h).M p)
    (hc : ∀ b h e d, c (ix4 b h e d) = (H b h).c d e) (hn : ∀ b h d, n (ix3 b h d) = (H b h).n d)
    (b h : Fin 4) (p : Fin 128) (e : Fin 512) :
    broadcastInDim S1x4x4x128x512 ![1, 2, 3, 4] bcast_S4x4x128x512_S1x4x4x128x512_1_2_3_4 (Host.divf (addf (Host.dotGeneral dot_S4x4x128x128_S4x4x128x512_S4x4x128x512_3_2_2_3_01_01 none S W) (mulf (broadcastInDim S4x4x128x512 ![0, 1, 2, 3] bcast_S4x4x128x1_S4x4x128x512_0_1_2_3 (broadcastInDim S4x4x128x1 ![0, 1, 2] bcast_S4x4x128_S4x4x128x1_0_1_2 I)) (Host.dotGeneral dot_S4x4x128x256_S4x4x512x256_S4x4x128x512_3_3_2_2_01_01 none Q c))) (broadcastInDim S4x4x128x512 ![0, 1, 2, 3] bcast_S4x4x128x1_S4x4x128x512_0_1_2_3 (broadcastInDim S4x4x128x1 ![0, 1, 2] bcast_S4x4x128_S4x4x128x1_0_1_2 (maximumf (Host.absf (addf (Host.reduceAdd S (constant (F := Ideal) S_ .f32 0x00000000#32) reducesTo_S4x4x128x128_S4x4x128_d3 h_S_) (mulf I (Host.dotGeneral dot_S4x4x128x256_S4x4x256_S4x4x128_3_2_2_n_01_01 none Q n)))) (Host.exp (Host.negf M)))))) (ix5 (0 : Fin 1) b h p e)
      = (H b h).h p e := by
  pointwise []
  simp only [hQ, hS, hW, hI, hM, hc, hn]
  unfold Hd.h Hd.num Hd.den
  rw [zero_sub]

/-- The entry array after a trip's block is written. -/
theorem put_out (x : FVec Ideal S32x4x4x128x512 .f32) (u : FVec Ideal S1x4x4x128x512 .f32) (k : IVec S_ 32) (n : ℕ) (hn : n < 32) (hk : k = fun _ => BitVec.ofNat 32 n)
    (t : Fin 32) (b : Fin 4) (h : Fin 4) (p : Fin 128) (e : Fin 512) :
    Host.dynamicUpdateSlice x u (fun i => (((![k, constantI S_ 32 0#32, constantI S_ 32 0#32, constantI S_ 32 0#32, constantI S_ 32 0#32] : Fin 5 → IVec S_ 32)) i (Shape.Idx.first h_S_)).toInt) updateFits_S32x4x4x128x512_S1x4x4x128x512 (ix5 t b h p e)
      = if t.val = n then u (ix5 (0 : Fin 1) b h p e) else x (ix5 t b h p e) := by
  have hc : ∀ a : Fin 5, Host.clampedStart S32x4x4x128x512 S1x4x4x128x512 rfl (fun i => (((![k, constantI S_ 32 0#32, constantI S_ 32 0#32, constantI S_ 32 0#32, constantI S_ 32 0#32] : Fin 5 → IVec S_ 32)) i (Shape.Idx.first h_S_)).toInt) a
      = (![n, 0, 0, 0, 0] : Fin 5 → ℕ) a := by
    intro a
    refine Host.clampedStart_of_le (s := S32x4x4x128x512) (t := S1x4x4x128x512) rfl _ a _ ?_ ?_
    · fin_cases a
      · show (k _).toInt = _
        rw [hk]; exact toInt_small n (by omega)
      all_goals rfl
    · fin_cases a <;> simp [S1x4x4x128x512, S32x4x4x128x512] <;> omega
  rw [Host.dynamicUpdateSlice_apply]
  have ht := t.isLt
  have hb := b.isLt
  have hh := h.isLt
  have hp := p.isLt
  have he := e.isLt
  by_cases hn' : t.val = n
  · rw [if_pos hn', dif_pos]
    · refine congrArg u (funext fun a => Fin.ext ?_)
      fin_cases a
      · show t.val - Host.clampedStart S32x4x4x128x512 S1x4x4x128x512 rfl _ (0 : Fin 5) = 0
        rw [hc]
        show t.val - n = 0
        omega
      · show b.val - Host.clampedStart S32x4x4x128x512 S1x4x4x128x512 rfl _ (1 : Fin 5) = b.val
        rw [hc]
        show b.val - 0 = b.val
        omega
      · show h.val - Host.clampedStart S32x4x4x128x512 S1x4x4x128x512 rfl _ (2 : Fin 5) = h.val
        rw [hc]
        show h.val - 0 = h.val
        omega
      · show p.val - Host.clampedStart S32x4x4x128x512 S1x4x4x128x512 rfl _ (3 : Fin 5) = p.val
        rw [hc]
        show p.val - 0 = p.val
        omega
      · show e.val - Host.clampedStart S32x4x4x128x512 S1x4x4x128x512 rfl _ (4 : Fin 5) = e.val
        rw [hc]
        show e.val - 0 = e.val
        omega
    · intro a
      rw [hc]
      fin_cases a
      · show n ≤ t.val ∧ t.val < n + 1
        omega
      · show 0 ≤ b.val ∧ b.val < 0 + 4
        omega
      · show 0 ≤ h.val ∧ h.val < 0 + 4
        omega
      · show 0 ≤ p.val ∧ p.val < 0 + 128
        omega
      · show 0 ≤ e.val ∧ e.val < 0 + 512
        omega
  · rw [if_neg hn', dif_neg]
    intro hin
    have h0 := hin 0
    rw [hc] at h0
    have h1 : n ≤ t.val ∧ t.val < n + 1 := h0
    omega
end

end Cert.ReferenceIdeal.Own

end
-- ==== Proof.KernelSeq.lean ====
module

public import proofs.«01_k».proof.Proof.KernelSpec

@[expose] public section

set_option maxRecDepth 16384

noncomputable section

/-! The whole layer part on the arguments: the convolved queries and keys, the gates, and the recurrence over a sequence's
    blocks of 128 positions. -/

namespace Cert.Mlstm

open Idealize.ShloMosaic

/-- The arguments. -/
structure Args where
  z : Fin 4 → Fin 4096 → Fin 6152 → EReal
  cw : Fin 4 → Fin 2048 → EReal
  cb : Fin 2048 → EReal
  gb : Fin 8 → EReal
  ng : Fin 2048 → EReal

/-- A position by its number. -/
def at_ (s : ℕ) : Fin 4096 := ⟨s % 4096, Nat.mod_lt _ (by decide)⟩

/-- A position of a block. -/
def pos (n : ℕ) (p : Fin 128) : Fin 4096 := at_ (128 * n + p.val)

/-- A carried matrix, vector and exponent. -/
structure Cr where
  c : Fin 256 → Fin 512 → EReal
  n : Fin 256 → EReal
  m : EReal

namespace Args
variable (A : Args)

/-- A column with three zeros in front. -/
def row (b : Fin 4) (s : ℕ) (j : Fin 2048) : EReal :=
  if 3 ≤ s then A.z b (at_ (s - 3)) (⟨j.val, by omega⟩ : Fin 6152) else 0

/-- The convolution at position `s`. -/
def cv (b : Fin 4) (s : ℕ) (j : Fin 2048) : EReal :=
  A.cb j + A.cw 0 j * A.row b s j + A.cw 1 j * A.row b (s + 1) j + A.cw 2 j * A.row b (s + 2) j + A.cw 3 j * A.row b (s + 3) j

/-- An input gate before the cap, and a forget gate. -/
def gi (b : Fin 4) (h : Fin 4) (t : Fin 4096) : EReal :=
  A.z b t (⟨6144 + h.val, by omega⟩ : Fin 6152) + A.gb (⟨h.val, by omega⟩ : Fin 8)
def gf (b : Fin 4) (h : Fin 4) (t : Fin 4096) : EReal :=
  A.z b t (⟨6144 + (4 + h.val), by omega⟩ : Fin 6152) + A.gb (⟨4 + h.val, by omega⟩ : Fin 8)

/-- A head's step over block `n`. -/
def hd (b : Fin 4) (h : Fin 4) (n : ℕ) (S : Cr) : Hd where
  q := fun p d => silu (A.cv b (128 * n + p.val) (⟨256 * h.val + d.val, by omega⟩ : Fin 2048))
  k := fun p d => silu (A.cv b (128 * n + p.val) (⟨1024 + (256 * h.val + d.val), by omega⟩ : Fin 2048)) * Ideal.ofBits FTy.f32 1031798784#32
  v := fun p e => A.z b (pos n p) (⟨2048 + (512 * h.val + e.val), by omega⟩ : Fin 6152)
  l := fun p => cap (A.gi b h (pos n p))
  b := fun p => ∑ x : Fin 128, if x ≤ p then lfg (A.gf b h (pos n x)) else 0
  c := S.c
  n := S.n
  m := S.m

/-- The state before block `n`. -/
def st (b : Fin 4) (h : Fin 4) : ℕ → Cr
  | 0 => ⟨fun _ _ => 0, fun _ => 0, 0⟩
  | n + 1 => ⟨(A.hd b h n (st b h n)).c', (A.hd b h n (st b h n)).n', (A.hd b h n (st b h n)).m'⟩

/-- The result of block `n`. -/
def res (b : Fin 4) (h : Fin 4) (n : ℕ) (p : Fin 128) (e : Fin 512) : EReal :=
  (A.hd b h n (A.st b h n)).out (fun e => A.ng (⟨512 * h.val + e.val, by omega⟩ : Fin 2048))
    (fun p e => A.z b (pos n p) (⟨4096 + (512 * h.val + e.val), by omega⟩ : Fin 6152)) p e

/-- The result as one array. -/
def out (r : Fin 16384) (j : Fin 2048) : EReal :=
  A.res (⟨r.val / 4096, by omega⟩ : Fin 4) (⟨j.val / 512, by omega⟩ : Fin 4) (r.val % 4096 / 128)
    (⟨r.val % 128, by omega⟩ : Fin 128) (⟨j.val % 512, by omega⟩ : Fin 512)
end Args

theorem tanh_real (x : EReal) : ∃ r : ℝ, Ideal.tanh x = r := by
  induction x using EReal.rec with
  | bot => exact ⟨-1, show (-1 : EReal) = ((-1 : ℝ) : EReal) by rw [EReal.coe_neg, EReal.coe_one]⟩
  | top => exact ⟨1, EReal.coe_one.symm⟩
  | coe r => exact ⟨_, rfl⟩

/-- A capped gate is a real number. -/
theorem cap_real (x : EReal) : ∃ r : ℝ, cap x = r := by
  unfold cap
  obtain ⟨r, hr⟩ := tanh_real (Ideal.div x (Ideal.ofBits FTy.f32 1097859072#32))
  have h15 : Ideal.ofBits FTy.f32 1097859072#32 = ((15 : ℝ) : EReal) := by
    simp [Ideal.ofBits, Ideal.ieee, -EReal.coe_mul]; norm_num
  rw [hr, h15, ← EReal.coe_mul]
  exact ⟨_, rfl⟩

/-- The log forget gate of a capped gate is a real number. -/
theorem lfg_real (x : EReal) : ∃ r : ℝ, lfg x = r := by
  unfold lfg
  obtain ⟨r, hr⟩ := cap_real x
  rw [hr]
  have e0 : (0 : EReal) - (r : EReal) = ((-r : ℝ) : EReal) := by rw [zero_sub]; rfl
  have mx : ∀ a b : ℝ, ((max a b : ℝ) : EReal) = max (a : EReal) (b : EReal) := fun a b => EReal.coe_strictMono.monotone.map_max
  have e1 : FloatOps.absf (F := Ideal) (φ := .f32) ((-r : ℝ) : EReal) = ((|r| : ℝ) : EReal) := by
    show max ((-r : ℝ) : EReal) (-((-r : ℝ) : EReal)) = _
    rw [← EReal.coe_neg, ← mx, neg_neg, max_comm]
    rfl
  have e4 : (0 : EReal) - ((|r| : ℝ) : EReal) = ((-|r| : ℝ) : EReal) := by rw [zero_sub]; rfl
  rw [e0, e1, e4]
  have e2 : Ideal.exp ((-|r| : ℝ) : EReal) = ((Real.exp (-|r|) : ℝ) : EReal) := rfl
  rw [e2, ← EReal.coe_one, ← EReal.coe_add]
  have e3 : Ideal.log ((1 + Real.exp (-|r|) : ℝ) : EReal) = ((Real.log (1 + Real.exp (-|r|)) : ℝ) : EReal) := by
    show (if (1 + Real.exp (-|r|)) ≤ 0 then (⊥ : EReal) else _) = _
    rw [if_neg (by have := Real.exp_pos (-|r|); linarith)]
  rw [e3, ← EReal.coe_zero, ← mx, ← EReal.coe_add, ← EReal.coe_sub]
  exact ⟨_, rfl⟩

theorem lfg_sub (x : EReal) : lfg x - lfg x = 0 := by
  obtain ⟨r, hr⟩ := lfg_real x
  rw [hr, ← EReal.coe_sub, sub_self, EReal.coe_zero]

end Cert.Mlstm
-- ==== Proof.KernelLoop.lean ====
module

public import proofs.«01_k».proof.Proof.KernelTrip
public import proofs.«01_k».proof.Proof.KernelSeq
public import proofs.«01_k».proof.Proof.Gen.ReferenceIdeal.Run

@[expose] public section

set_option maxRecDepth 16384

noncomputable section

/-! The reference's loop: before trip `n` the carried arrays hold the recurrence's state before block `n`, and the first `n` blocks of the
    result are written. -/

namespace Cert.ReferenceIdeal.Own

open Idealize.ShloMosaic Cert.ReferenceIdeal Cert.ReferenceIdeal.Gen Cert.ReferenceIdeal.Value Cert.Mlstm

/-- What the buffers hold. -/
abbrev Mem := Valuation τ sig (Elt Ideal)

/-! The carried arrays. -/

def w0 (V : Mem) : FVec Ideal S32x4x4x128x256 .f32 := V (Proc.devRef .tc main_v86_0)
def w1 (V : Mem) : FVec Ideal S32x4x4x128x256 .f32 := V (Proc.devRef .tc main_v86_1)
def w2 (V : Mem) : FVec Ideal S32x4x4x128x512 .f32 := V (Proc.devRef .tc main_v86_2)
def w3 (V : Mem) : FVec Ideal S32x4x4x128 .f32 := V (Proc.devRef .tc main_v86_3)
def w4 (V : Mem) : FVec Ideal S32x4x4x128 .f32 := V (Proc.devRef .tc main_v86_4)
def w7 (V : Mem) : FVec Ideal S4x4x512x256 .f32 := V (Proc.devRef .tc main_v86_7)
def w8 (V : Mem) : FVec Ideal S4x4x256 .f32 := V (Proc.devRef .tc main_v86_8)
def w9 (V : Mem) : FVec Ideal S4x4 .f32 := V (Proc.devRef .tc main_v86_9)
def w10 (V : Mem) : FVec Ideal S32x4x4x128x512 .f32 := V (Proc.devRef .tc main_v86_10)
def w5 (V : Mem) : IVec S128x128 1 := V (Proc.devRef .tc main_v86_5)
def w6 (V : Mem) : IVec S_ 32 := V (Proc.devRef .tc main_v86_6)

/-- The arrays a trip does not change. -/
structure Still (A : Args) (V : Mem) : Prop where
  q : ∀ t b h p d, w0 V (ix5 t b h p d) = silu (A.cv b (128 * t.val + p.val) (⟨256 * h.val + d.val, by omega⟩ : Fin 2048))
  k : ∀ t b h p d, w1 V (ix5 t b h p d)
    = silu (A.cv b (128 * t.val + p.val) (⟨1024 + (256 * h.val + d.val), by omega⟩ : Fin 2048)) * Ideal.ofBits FTy.f32 1031798784#32
  v : ∀ t b h p e, w2 V (ix5 t b h p e) = A.z b (pos t.val p) (⟨2048 + (512 * h.val + e.val), by omega⟩ : Fin 6152)
  l : ∀ t b h p, w3 V (ix4 t b h p) = cap (A.gi b h (pos t.val p))
  f : ∀ t b h p, w4 V (ix4 t b h p) = lfg (A.gf b h (pos t.val p))
  mask : ∀ (p s : Fin 128) (x y : EReal), Scalar.select (w5 V (ix2 p s)) x y = if s ≤ p then x else y

/-- The arrays before trip `n`. -/
structure Holds (A : Args) (V : Mem) (n : ℕ) : Prop extends Still A V where
  cnt : w6 V = fun _ => BitVec.ofNat 32 n
  mat : ∀ b h e d, w7 V (ix4 b h e d) = (A.st b h n).c d e
  vec : ∀ b h d, w8 V (ix3 b h d) = (A.st b h n).n d
  m : ∀ b h, w9 V (ix2 b h) = (A.st b h n).m
  out : ∀ t b h p e, t.val < n → w10 V (ix5 t b h p e) = (A.hd b h t.val (A.st b h t.val)).h p e

section
variable {A : Args} {V : Mem} {n : ℕ} (hV : Holds A V n) (hn : n < 32)
include hV hn

/-- The heads of trip `n`. -/
def hds (A : Args) (n : ℕ) (b h : Fin 4) : Hd := A.hd b h n (A.st b h n)

def r116 (V : Mem) : FVec Ideal S4x4x128x256 .f32 := res_main_while0b_v116 V
def r117 (V : Mem) : FVec Ideal S4x4x128x256 .f32 := res_main_while0b_v117 V
def r118 (V : Mem) : FVec Ideal S4x4x128x512 .f32 := res_main_while0b_v118 V
def r119 (V : Mem) : FVec Ideal S4x4x128 .f32 := res_main_while0b_v119 V
def r121 (V : Mem) : FVec Ideal S4x4x128 .f32 := res_main_while0b_v121 V
def r130 (V : Mem) : FVec Ideal S4x4x128x128 .f32 := res_main_while0b_v130 V
def r133 (V : Mem) : FVec Ideal S4x4x128 .f32 := res_main_while0b_v133 V
def r135 (V : Mem) : FVec Ideal S4x4x128 .f32 := res_main_while0b_v135 V
def r141 (V : Mem) : FVec Ideal S4x4x128x128 .f32 := res_main_while0b_v141 V
def r143 (V : Mem) : FVec Ideal S4x4x128 .f32 := res_main_while0b_v143 V
def r162 (V : Mem) : FVec Ideal S4x4 .f32 := res_main_while0b_v162 V
def r166 (V : Mem) : FVec Ideal S4x4x128 .f32 := res_main_while0b_v166 V
def r169 (V : Mem) : FVec Ideal S4x4 .f32 := res_main_while0b_v169 V
def r173 (V : Mem) : FVec Ideal S4x4x128 .f32 := res_main_while0b_v173 V
def r176 (V : Mem) : FVec Ideal S4x4 .f32 := res_main_while0b_v176 V

theorem e116 (b h : Fin 4) (p : Fin 128) (d : Fin 256) : r116 V (ix4 b h p d) = (hds A n b h).q p d :=
  (cut_key (w0 V) (w6 V) n hn hV.cnt b h p d).trans (hV.q ⟨n, hn⟩ b h p d)
theorem e117 (b h : Fin 4) (p : Fin 128) (d : Fin 256) : r117 V (ix4 b h p d) = (hds A n b h).k p d :=
  (cut_key (w1 V) (w6 V) n hn hV.cnt b h p d).trans (hV.k ⟨n, hn⟩ b h p d)
theorem e118 (b h : Fin 4) (p : Fin 128) (e : Fin 512) : r118 V (ix4 b h p e) = (hds A n b h).v p e :=
  (cut_val (w2 V) (w6 V) n hn hV.cnt b h p e).trans (hV.v ⟨n, hn⟩ b h p e)
theorem e119 (b h : Fin 4) (p : Fin 128) : r119 V (ix3 b h p) = (hds A n b h).l p :=
  (cut_gate (w3 V) (w6 V) n hn hV.cnt b h p).trans (hV.l ⟨n, hn⟩ b h p)
theorem e121 (b h : Fin 4) (p : Fin 128) : r121 V (ix3 b h p) = (hds A n b h).b p := by
  refine (at_sum _ b h p).trans (Finset.sum_congr rfl fun s _ => ?_ : _ = ∑ s : Fin 128, if s ≤ p then lfg (A.gf b h (pos n s)) else 0)
  by_cases hs : s ≤ p
  · rw [if_pos hs, if_pos hs]
    exact (cut_gate (w4 V) (w6 V) n hn hV.cnt b h s).trans (hV.f ⟨n, hn⟩ b h s)
  · rw [if_neg hs, if_neg hs]
theorem e130 (b h : Fin 4) (p s : Fin 128) : r130 V (ix4 b h p s) = (hds A n b h).D p s :=
  at_D (hds A n) (w5 V) (r121 V) (r119 V) hV.mask (e121 hV hn) (e119 hV hn) b h p s
theorem e133 (b h : Fin 4) (p : Fin 128) : r133 V (ix3 b h p) = (hds A n b h).b p + (hds A n b h).m :=
  at_V (hds A n) (r121 V) (w9 V) (e121 hV hn) hV.m b h p
theorem e135 (b h : Fin 4) (p : Fin 128) : r135 V (ix3 b h p) = (hds A n b h).M p :=
  at_M (hds A n) (r133 V) (r130 V) (e133 hV hn) (e130 hV hn) b h p
theorem e141 (b h : Fin 4) (p s : Fin 128) : r141 V (ix4 b h p s) = (hds A n b h).sc p s :=
  at_sc (hds A n) (r116 V) (r117 V) (r130 V) (r135 V) (e116 hV hn) (e117 hV hn) (e130 hV hn) (e135 hV hn) b h p s
theorem e143 (b h : Fin 4) (p : Fin 128) : r143 V (ix3 b h p) = (hds A n b h).wi p :=
  at_wi (hds A n) (r133 V) (r135 V) (e133 hV hn) (e135 hV hn) b h p
theorem e162 (b h : Fin 4) : r162 V (ix2 b h) = (hds A n b h).b 127 :=
  (at_last (r121 V) b h).trans (e121 hV hn b h 127)
theorem e166 (b h : Fin 4) (p : Fin 128) : r166 V (ix3 b h p) = (hds A n b h).g p :=
  at_g (hds A n) (r162 V) (r121 V) (r119 V) (e162 hV hn) (e121 hV hn) (e119 hV hn) b h p
theorem e169 (b h : Fin 4) : r169 V (ix2 b h) = (hds A n b h).m' :=
  at_m' (hds A n) (r162 V) (w9 V) (r166 V) (e162 hV hn) hV.m (e166 hV hn) b h
theorem e173 (b h : Fin 4) (p : Fin 128) : r173 V (ix3 b h p) = Ideal.exp ((hds A n b h).g p - (hds A n b h).m') :=
  at_wk (hds A n) (r166 V) (r169 V) (e166 hV hn) (e169 hV hn) b h p
theorem e176 (b h : Fin 4) : r176 V (ix2 b h) = (hds A n b h).car :=
  at_car (hds A n) (r162 V) (w9 V) (r169 V) (e162 hV hn) hV.m (e169 hV hn) b h

theorem new_c (b h : Fin 4) (e : Fin 512) (d : Fin 256) : w7 (STEP V) (ix4 b h e d) = (A.st b h (n + 1)).c d e :=
  (congrFun (STEP_main_v86_7 V) (ix4 b h e d)).trans
    (at_c' (hds A n) (r176 V) (w7 V) (r118 V) (r173 V) (r117 V) (e176 hV hn) hV.mat (e118 hV hn) (e173 hV hn) (e117 hV hn) b h e d)
theorem new_n (b h : Fin 4) (d : Fin 256) : w8 (STEP V) (ix3 b h d) = (A.st b h (n + 1)).n d :=
  (congrFun (STEP_main_v86_8 V) (ix3 b h d)).trans
    (at_n' (hds A n) (r176 V) (w8 V) (r173 V) (r117 V) (e176 hV hn) hV.vec (e173 hV hn) (e117 hV hn) b h d)
theorem new_m (b h : Fin 4) : w9 (STEP V) (ix2 b h) = (A.st b h (n + 1)).m :=
  (congrFun (STEP_main_v86_9 V) (ix2 b h)).trans (e169 hV hn b h)
theorem new_cnt : w6 (STEP V) = fun _ => BitVec.ofNat 32 (n + 1) := by
  refine (STEP_main_v86_6 V).trans ?_
  show addi (w6 V) (constantI S_ 32 1#32) = _
  rw [hV.cnt]
  funext i
  show BitVec.ofNat 32 n + 1#32 = BitVec.ofNat 32 (n + 1)
  rw [BitVec.ofNat_add]
theorem new_out (t : Fin 32) (b h : Fin 4) (p : Fin 128) (e : Fin 512) (ht : t.val < n + 1) :
    w10 (STEP V) (ix5 t b h p e) = (A.hd b h t.val (A.st b h t.val)).h p e := by
  refine (congrFun (STEP_main_v86_10 V) (ix5 t b h p e)).trans ?_
  refine (put_out (w10 V) _ (w6 V) n hn hV.cnt t b h p e).trans ?_
  by_cases h0 : t.val = n
  · rw [if_pos h0, h0]
    exact at_h (hds A n) (r116 V) (r141 V) (r118 V) (r143 V) (r135 V) (w7 V) (w8 V) (e116 hV hn) (e141 hV hn) (e118 hV hn) (e143 hV hn)
      (e135 hV hn) hV.mat hV.vec b h p e
  · rw [if_neg h0]
    exact hV.out t b h p e (by omega)

/-- A trip takes the state before block `n` to the state before block `n + 1`. -/
theorem Holds.next : Holds A (STEP V) (n + 1) where
  q t b h p d := (congrFun (STEP_main_v86_0 V) (ix5 t b h p d)).trans (hV.q t b h p d)
  k t b h p d := (congrFun (STEP_main_v86_1 V) (ix5 t b h p d)).trans (hV.k t b h p d)
  v t b h p e := (congrFun (STEP_main_v86_2 V) (ix5 t b h p e)).trans (hV.v t b h p e)
  l t b h p := (congrFun (STEP_main_v86_3 V) (ix4 t b h p)).trans (hV.l t b h p)
  f t b h p := (congrFun (STEP_main_v86_4 V) (ix4 t b h p)).trans (hV.f t b h p)
  mask p s x y := (congrArg (fun i => Scalar.select i x y) (congrFun (STEP_main_v86_5 V) (ix2 p s))).trans (hV.mask p s x y)
  cnt := new_cnt hV hn
  mat := new_c hV hn
  vec := new_n hV hn
  m := new_m hV hn
  out := new_out hV hn
end

/-- After all trips. -/
theorem Holds.all {A : Args} {V : Mem} (hV : Holds A V 0) : ∀ n : ℕ, n ≤ 32 → Holds A (STEP^[n] V) n
  | 0, _ => hV
  | n + 1, h => by
    rw [Function.iterate_succ_apply']
    exact (Holds.all hV n (by omega)).next (by omega)

end Cert.ReferenceIdeal.Own

end
-- ==== Proof.KernelEntry.lean ====
module

public import proofs.«01_k».proof.Proof.KernelSeq
public import proofs.«01_k».proof.Proof.Gen.ReferenceIdeal.Step
public import Idealize.ShloMosaic.Lib.Pointwise
public import Idealize.ShloMosaic.Lib.KernelVsHost

@[expose] public section

set_option maxRecDepth 16384

noncomputable section

/-! What the reference hands its loop, read at one entry: the convolved queries and keys, the values and the gates, in blocks. -/

namespace Cert.ReferenceIdeal.Own

open Idealize.ShloMosaic Cert.ReferenceIdeal Cert.ReferenceIdeal.Gen Cert.Mlstm
open Cert.ReferenceIdeal.Step hiding State

section
variable (z : FVec Ideal S4x4096x6152 .f32) (cw : FVec Ideal S1x4x2048 .f32) (cb : FVec Ideal S1x2048 .f32)
  (gb : FVec Ideal S1x8 .f32) (ng : FVec Ideal S1x2048 .f32)

/-- The arguments read index by index. -/
def argsR : Args where
  z := fun b t j => z (ix3 b t j)
  cw := fun k j => cw (ix3 (0 : Fin 1) k j)
  cb := fun j => cb (ix2 (0 : Fin 1) j)
  gb := fun j => gb (ix2 (0 : Fin 1) j)
  ng := fun j => ng (ix2 (0 : Fin 1) j)

theorem zero_at : sitofp (F := Ideal) .f32 (constantI S_ 32 0#32) (Shape.Idx.first h_S_) = (0 : EReal) := by
  show (((0#32 : BitVec 32).toInt : ℝ) : EReal) = 0
  simp

theorem back3 (b : Fin 4) (s : Fin 4096) (j : Fin 2048) : A_main_v4 (F := Ideal) z cw cb gb (ix3 b s j) = (argsR z cw cb gb ng).row b s.val j := by
  unfold A_main_v4 K_main_call0_v0 K_main_c
  have hs := s.isLt
  by_cases h : 3 ≤ s.val
  · refine (pad_apply_of_inside _ _ _ _ _ _ _ _ (ix3 b (⟨s.val - 3, by omega⟩ : Fin 4093) j) (fun a => ?_)).trans ?_
    · match a with
      | ⟨0, _⟩ => show b.val = 0 + b.val * (0 + 1); omega
      | ⟨1, _⟩ => show s.val = 3 + (s.val - 3) * (0 + 1); omega
      | ⟨2, _⟩ => show j.val = 0 + j.val * (0 + 1); omega
    · unfold Args.row
      rw [if_pos h]
      unfold A_main_v3 A_main_v0
      pointwise []
      refine congrArg z ?_
      congr 1
      apply Fin.ext
      show s.val - 3 = (s.val - 3) % 4096
      omega
  · refine (pad_apply_of_not_inside _ _ _ _ _ _ _ _ (1 : Fin 3) (fun hh => ?_)).trans ?_
    · have : 3 ≤ s.val := hh.1
      omega
    · unfold Args.row; rw [if_neg h]; exact zero_at

theorem back2 (b : Fin 4) (s : Fin 4096) (j : Fin 2048) : A_main_v13 (F := Ideal) z cw cb gb (ix3 b s j) = (argsR z cw cb gb ng).row b (s.val + 1) j := by
  unfold A_main_v13 K_main_call1_v0 K_main_c_0
  have hs := s.isLt
  by_cases h : 2 ≤ s.val
  · refine (pad_apply_of_inside _ _ _ _ _ _ _ _ (ix3 b (⟨s.val - 2, by omega⟩ : Fin 4094) j) (fun a => ?_)).trans ?_
    · match a with
      | ⟨0, _⟩ => show b.val = 0 + b.val * (0 + 1); omega
      | ⟨1, _⟩ => show s.val = 2 + (s.val - 2) * (0 + 1); omega
      | ⟨2, _⟩ => show j.val = 0 + j.val * (0 + 1); omega
    · unfold Args.row
      rw [if_pos (by omega)]
      unfold A_main_v12 A_main_v0
      pointwise []
      refine congrArg z ?_
      congr 1
      apply Fin.ext
      show s.val - 2 = (s.val + 1 - 3) % 4096
      omega
  · refine (pad_apply_of_not_inside _ _ _ _ _ _ _ _ (1 : Fin 3) (fun hh => ?_)).trans ?_
    · have : 2 ≤ s.val := hh.1
      omega
    · unfold Args.row; rw [if_neg (by omega)]; exact zero_at

theorem back1 (b : Fin 4) (s : Fin 4096) (j : Fin 2048) : A_main_v21 (F := Ideal) z cw cb gb (ix3 b s j) = (argsR z cw cb gb ng).row b (s.val + 2) j := by
  unfold A_main_v21 K_main_call2_v0 K_main_c_1
  have hs := s.isLt
  by_cases h : 1 ≤ s.val
  · refine (pad_apply_of_inside _ _ _ _ _ _ _ _ (ix3 b (⟨s.val - 1, by omega⟩ : Fin 4095) j) (fun a => ?_)).trans ?_
    · match a with
      | ⟨0, _⟩ => show b.val = 0 + b.val * (0 + 1); omega
      | ⟨1, _⟩ => show s.val = 1 + (s.val - 1) * (0 + 1); omega
      | ⟨2, _⟩ => show j.val = 0 + j.val * (0 + 1); omega
    · unfold Args.row
      rw [if_pos (by omega)]
      unfold A_main_v20 A_main_v0
      pointwise []
      refine congrArg z ?_
      congr 1
      apply Fin.ext
      show s.val - 1 = (s.val + 2 - 3) % 4096
      omega
  · refine (pad_apply_of_not_inside _ _ _ _ _ _ _ _ (1 : Fin 3) (fun hh => ?_)).trans ?_
    · have : 1 ≤ s.val := hh.1
      omega
    · unfold Args.row; rw [if_neg (by omega)]; exact zero_at

theorem back0 (b : Fin 4) (s : Fin 4096) (j : Fin 2048) : A_main_v0 (F := Ideal) z cw cb gb (ix3 b s j) = (argsR z cw cb gb ng).row b (s.val + 3) j := by
  unfold Args.row
  rw [if_pos (by omega)]
  unfold A_main_v0
  pointwise []
  have hs := s.isLt
  refine congrArg z ?_
  congr 1
  apply Fin.ext
  show s.val = (s.val + 3 - 3) % 4096
  omega

theorem conv_ac (c w0 w1 w2 w3 r0 r1 r2 r3 : EReal) :
    r0 * w0 + r1 * w1 + r2 * w2 + r3 * w3 + c = c + w0 * r0 + w1 * r1 + w2 * r2 + w3 * r3 := by
  ac_rfl

theorem conv_at (b : Fin 4) (s : Fin 4096) (j : Fin 2048) : A_main_v37 (F := Ideal) z cw cb gb (ix3 b s j) = (argsR z cw cb gb ng).cv b s.val j := by
  unfold A_main_v37 A_main_v36 A_main_v35 A_main_v34 A_main_v33 A_main_v32 A_main_v31 A_main_v30 A_main_v29 A_main_v28 A_main_v27 A_main_v26 A_main_v25 A_main_v24 A_main_v23 A_main_v22 A_main_v19 A_main_v18 A_main_v17 A_main_v16 A_main_v15 A_main_v14 A_main_v11 A_main_v9 A_main_v8 A_main_v7 A_main_v6 A_main_v5 K_main_v10 K_main_cst
  pointwise []
  rw [back3 z cw cb gb ng, back2 z cw cb gb ng, back1 z cw cb gb ng, back0 z cw cb gb ng]
  unfold Args.cv
  exact conv_ac _ _ _ _ _ _ _ _ _

/-- Blocks of the queries and keys. -/
theorem blk_key (x : FVec Ideal S4x4096x4x256 .f32) (t : Fin 32) (b h : Fin 4) (p : Fin 128) (d : Fin 256) :
    transpose S32x4x4x128x256 [0, 1, 3, 2, 4] (transpose S32x4x128x4x256 [1, 0, 2, 3, 4] (shapeCast S4x32x128x4x256 x shapeCasts_S4x4096x4x256_S4x32x128x4x256) transposes_S4x32x128x4x256_S32x4x128x4x256_1_0_2_3_4) transposes_S32x4x128x4x256_S32x4x4x128x256_0_1_3_2_4 (ix5 t b h p d)
      = x (ix4 b (⟨128 * t.val + p.val, by omega⟩ : Fin 4096) h d) := by
  pointwise []
  simp only [Nat.mul_comm]

theorem blk_val (x : FVec Ideal S4x4096x4x512 .f32) (t : Fin 32) (b h : Fin 4) (p : Fin 128) (d : Fin 512) :
    transpose S32x4x4x128x512 [0, 1, 3, 2, 4] (transpose S32x4x128x4x512 [1, 0, 2, 3, 4] (shapeCast S4x32x128x4x512 x shapeCasts_S4x4096x4x512_S4x32x128x4x512) transposes_S4x32x128x4x512_S32x4x128x4x512_1_0_2_3_4) transposes_S32x4x128x4x512_S32x4x4x128x512_0_1_3_2_4 (ix5 t b h p d)
      = x (ix4 b (⟨128 * t.val + p.val, by omega⟩ : Fin 4096) h d) := by
  pointwise []
  simp only [Nat.mul_comm]

theorem blk_gate (x : FVec Ideal S4x4096x4 .f32) (t : Fin 32) (b h : Fin 4) (p : Fin 128) :
    transpose S32x4x4x128 [0, 1, 3, 2] (transpose S32x4x128x4 [1, 0, 2, 3] (shapeCast S4x32x128x4 x shapeCasts_S4x4096x4_S4x32x128x4) transposes_S4x32x128x4_S32x4x128x4_1_0_2_3) transposes_S32x4x128x4_S32x4x4x128_0_1_3_2 (ix4 t b h p)
      = x (ix3 b (⟨128 * t.val + p.val, by omega⟩ : Fin 4096) h) := by
  pointwise []
  simp only [Nat.mul_comm]

theorem heads_key (x : FVec Ideal S4x4096x1024 .f32) (b : Fin 4) (s : Fin 4096) (h : Fin 4) (d : Fin 256) :
    shapeCast S4x4096x4x256 x shapeCasts_S4x4096x1024_S4x4096x4x256 (ix4 b s h d) = x (ix3 b s (⟨256 * h.val + d.val, by omega⟩ : Fin 1024)) := by
  pointwise []
  simp only [Nat.mul_comm]

theorem heads_val (x : FVec Ideal S4x4096x2048 .f32) (b : Fin 4) (s : Fin 4096) (h : Fin 4) (e : Fin 512) :
    shapeCast S4x4096x4x512 x shapeCasts_S4x4096x2048_S4x4096x4x512 (ix4 b s h e) = x (ix3 b s (⟨512 * h.val + e.val, by omega⟩ : Fin 2048)) := by
  pointwise []
  simp only [Nat.mul_comm]

theorem silu_at (b : Fin 4) (s : Fin 4096) (j : Fin 2048) : A_main_v38 (F := Ideal) z cw cb gb (ix3 b s j) = silu ((argsR z cw cb gb ng).cv b s.val j) := by
  rw [← conv_at z cw cb gb ng]
  unfold A_main_v38 A_main_call3_v5 A_main_call3_v3 A_main_call3_v1 A_main_call3_v0 K_main_call3_v4 K_main_call3_v2 K_main_call3_cst K_main_call3_cst_0
  pointwise []
  rfl

theorem gate_at (b : Fin 4) (s : Fin 4096) (j : Fin 8) : A_main_v49 (F := Ideal) z cw cb gb (ix3 b s j) = z (ix3 b s (⟨6144 + j.val, by omega⟩ : Fin 6152)) + gb (ix2 (0 : Fin 1) j) := by
  unfold A_main_v49 A_main_v48 A_main_v47 A_main_v46 A_main_v2
  pointwise []

theorem gi_at (b : Fin 4) (s : Fin 4096) (h : Fin 4) : A_main_v56 (F := Ideal) z cw cb gb (ix3 b s h) = cap ((argsR z cw cb gb ng).gi b h s) := by
  unfold A_main_v56 A_main_v54 A_main_v53 A_main_v50 K_main_v52 K_main_v55 K_main_cst_3 K_main_cst_4
  pointwise []
  rw [gate_at]
  rfl

theorem gfc_at (b : Fin 4) (s : Fin 4096) (h : Fin 4) : A_main_v61 (F := Ideal) z cw cb gb (ix3 b s h) = cap ((argsR z cw cb gb ng).gf b h s) := by
  unfold A_main_v61 A_main_v59 A_main_v58 A_main_v51 K_main_v57 K_main_v60 K_main_cst_5 K_main_cst_6
  pointwise []
  rw [gate_at]
  rfl

theorem gf_at (b : Fin 4) (s : Fin 4096) (h : Fin 4) : A_main_v64 (F := Ideal) z cw cb gb (ix3 b s h) = lfg ((argsR z cw cb gb ng).gf b h s) := by
  unfold A_main_v64 A_main_v63 A_main_call4_v11 A_main_call4_v10 A_main_call4_v9 A_main_call4_v8 A_main_call4_v7 A_main_call4_v6 A_main_call4_v4 A_main_call4_v3 A_main_call4_v1 A_main_v62 K_main_call4_v0 K_main_call4_v2 K_main_call4_v5 K_main_call4_cst
  pointwise []
  rw [gfc_at z cw cb gb ng]
  unfold lfg
  generalize cap _ = g
  simp
  rfl

/-- The blocks put side by side again. -/
theorem unblk (Y : FVec Ideal S32x4x4x128x512 .f32) (b : Fin 4) (s : Fin 4096) (h : Fin 4) (e : Fin 512) :
    shapeCast S4x4096x4x512 (transpose S4x32x128x4x512 [1, 0, 2, 3, 4] (transpose S32x4x128x4x512 [0, 1, 3, 2, 4] (Y) transposes_S32x4x4x128x512_S32x4x128x4x512_0_1_3_2_4) transposes_S32x4x128x4x512_S4x32x128x4x512_1_0_2_3_4) shapeCasts_S4x32x128x4x512_S4x4096x4x512 (ix4 b s h e)
      = Y (ix5 (⟨s.val / 128, by omega⟩ : Fin 32) b h (⟨s.val % 128, by omega⟩ : Fin 128) e) := by
  pointwise []

/-- What the reference makes of the rows after the loop. -/
def tailOf (X : FVec Ideal S4x4096x4x512 .f32) : FVec Ideal S16384x2048 .bf16 :=
  truncf .bf16 (shapeCast _ (mulf (shapeCast _ (mulf (mulf X (broadcastInDim S4x4096x4x512 ![0, 1, 2, 3] bcast_S4x4096x4x1_S4x4096x4x512_0_1_2_3 (Host.rsqrt (addf (Host.divf (broadcastInDim S4x4096x4x1 ![0, 1, 2] bcast_S4x4096x4_S4x4096x4x1_0_1_2 (Host.reduceAdd (mulf X X) (constant (F := Ideal) S_ .f32 0x00000000#32) reducesTo_S4x4096x4x512_S4x4096x4_d3 h_S_)) (broadcastInDim S4x4096x4x1 ![] bcast_S_S4x4096x4x1 (constant (F := Ideal) S_ .f32 0x44000000#32))) (broadcastInDim S4x4096x4x1 ![] bcast_S_S4x4096x4x1 (constant (F := Ideal) S_ .f32 0x358637BD#32)))))) (broadcastInDim S4x4096x4x512 ![0, 1, 2, 3] bcast_S1x1x4x512_S4x4096x4x512_0_1_2_3 (broadcastInDim S1x1x4x512 ![2, 3] bcast_S4x512_S1x1x4x512_2_3 (shapeCast _ (shapeCast _ (ng) shapeCasts_S1x2048_S2048) shapeCasts_S2048_S4x512)))) shapeCasts_S4x4096x4x512_S4x4096x2048) (Host.divf (broadcastInDim S4x4096x2048 ![] bcast_S_S4x4096x2048 (constant (F := Ideal) S_ .f32 0x3F800000#32)) (addf (broadcastInDim S4x4096x2048 ![] bcast_S_S4x4096x2048 (constant (F := Ideal) S_ .f32 0x3F800000#32)) (Host.exp (Host.negf (extractStridedSlice S4x4096x2048 ![0, 0, 4096] (z) slices_S4x4096x6152_S4x4096x2048_0_0_4096)))))) shapeCasts_S4x4096x2048_S16384x2048) bitsLt_bf16_f32

theorem tail_at (X : FVec Ideal S4x4096x4x512 .f32) (r : Fin 16384) (j : Fin 2048) :
    tailOf z ng X (ix2 r j)
      = X (ix4 (⟨r.val / 4096, by omega⟩ : Fin 4) (⟨r.val % 4096, by omega⟩ : Fin 4096) (⟨j.val / 512, by omega⟩ : Fin 4) (⟨j.val % 512, by omega⟩ : Fin 512))
        * Ideal.rsqrt (Ideal.div (∑ k : Fin 512, X (ix4 (⟨r.val / 4096, by omega⟩ : Fin 4) (⟨r.val % 4096, by omega⟩ : Fin 4096) (⟨j.val / 512, by omega⟩ : Fin 4) k)
            * X (ix4 (⟨r.val / 4096, by omega⟩ : Fin 4) (⟨r.val % 4096, by omega⟩ : Fin 4096) (⟨j.val / 512, by omega⟩ : Fin 4) k)) (Ideal.ofBits FTy.f32 1140850688#32) + Ideal.ofBits FTy.f32 897988541#32)
        * ng (ix2 (0 : Fin 1) j)
        * Ideal.logistic (z (ix3 (⟨r.val / 4096, by omega⟩ : Fin 4) (⟨r.val % 4096, by omega⟩ : Fin 4096) (⟨4096 + j.val, by omega⟩ : Fin 6152))) := by
  unfold tailOf
  pointwise []
  rfl
end

end Cert.ReferenceIdeal.Own

end
-- ==== Proof.KernelEnter.lean ====
module

public import proofs.«01_k».proof.Proof.KernelLoop
public import proofs.«01_k».proof.Proof.KernelEntry

@[expose] public section

set_option maxRecDepth 65536

noncomputable section

/-! The reference's loop starts on the convolved queries and keys, the values and the gates, and the zero state. -/

namespace Cert.ReferenceIdeal.Own

open Idealize.ShloMosaic Idealize.ShloMosaic.StableHlo Cert.ReferenceIdeal Cert.ReferenceIdeal.Gen Cert.ReferenceIdeal.Value Cert.Mlstm
open Cert.ReferenceIdeal.Step hiding State
open Idealize.ShloMosaic.TcCoe

variable (m : (ℓ : Loc nD τ sig) → Buf (Elt Ideal) ℓ) (c : Dev nD)

def b0 : FVec Ideal S4x4096x6152 .f32 := m ((c.tc : Thread nD τ).loc main_arg0)
def b1 : FVec Ideal S1x4x2048 .f32 := m ((c.tc : Thread nD τ).loc main_arg1)
def b2 : FVec Ideal S1x2048 .f32 := m ((c.tc : Thread nD τ).loc main_arg2)
def b3 : FVec Ideal S1x8 .f32 := m ((c.tc : Thread nD τ).loc main_arg3)
def b4 : FVec Ideal S1x2048 .f32 := m ((c.tc : Thread nD τ).loc main_arg4)

/-- What the buffers hold at the loop's entry. -/
def ent : Mem := entryContents preI m c

set_option maxHeartbeats 1000000

theorem ent0 : w0 (ent m c) = A_main_v72 (F := Ideal) (b0 m c) (b1 m c) (b2 m c) (b3 m c) := by
  show entryContents preI m c (Proc.devRef .tc main_v86_0) = _
  simp only [entryContents, afterL_cons, afterL_nil]
  after_reads_simp
  rfl

theorem ent1 : w1 (ent m c) = A_main_v75 (F := Ideal) (b0 m c) (b1 m c) (b2 m c) (b3 m c) := by
  show entryContents preI m c (Proc.devRef .tc main_v86_1) = _
  simp only [entryContents, afterL_cons, afterL_nil]
  after_reads_simp
  rfl

theorem ent2 : w2 (ent m c) = A_main_v78 (F := Ideal) (b0 m c) (b1 m c) (b2 m c) (b3 m c) := by
  show entryContents preI m c (Proc.devRef .tc main_v86_2) = _
  simp only [entryContents, afterL_cons, afterL_nil]
  after_reads_simp
  rfl

theorem ent3 : w3 (ent m c) = A_main_v81 (F := Ideal) (b0 m c) (b1 m c) (b2 m c) (b3 m c) := by
  show entryContents preI m c (Proc.devRef .tc main_v86_3) = _
  simp only [entryContents, afterL_cons, afterL_nil]
  after_reads_simp
  rfl

theorem ent4 : w4 (ent m c) = A_main_v84 (F := Ideal) (b0 m c) (b1 m c) (b2 m c) (b3 m c) := by
  show entryContents preI m c (Proc.devRef .tc main_v86_4) = _
  simp only [entryContents, afterL_cons, afterL_nil]
  after_reads_simp
  rfl

theorem ent5 : w5 (ent m c) = K_main_v66 (F := Ideal) := by
  show entryContents preI m c (Proc.devRef .tc main_v86_5) = _
  simp only [entryContents, afterL_cons, afterL_nil]
  after_reads_simp
  rfl

theorem ent7 : w7 (ent m c) = K_main_v67 (F := Ideal) := by
  show entryContents preI m c (Proc.devRef .tc main_v86_7) = _
  simp only [entryContents, afterL_cons, afterL_nil]
  after_reads_simp
  rfl

theorem ent8 : w8 (ent m c) = K_main_v68 (F := Ideal) := by
  show entryContents preI m c (Proc.devRef .tc main_v86_8) = _
  simp only [entryContents, afterL_cons, afterL_nil]
  after_reads_simp
  rfl

theorem ent9 : w9 (ent m c) = K_main_v69 (F := Ideal) := by
  show entryContents preI m c (Proc.devRef .tc main_v86_9) = _
  simp only [entryContents, afterL_cons, afterL_nil]
  after_reads_simp
  rfl

theorem ent10 : w10 (ent m c) = K_main_v85 (F := Ideal) := by
  show entryContents preI m c (Proc.devRef .tc main_v86_10) = _
  simp only [entryContents, afterL_cons, afterL_nil]
  after_reads_simp
  rfl

end Cert.ReferenceIdeal.Own

end
-- ==== Proof.KernelTri.lean ====
module

public import proofs.«01_k».proof.KernelIdeal

@[expose] public section

set_option maxRecDepth 65536

noncomputable section

/-! The kernel's triangle literal. -/

namespace Cert.KernelIdeal.Own

open Cert.KernelIdeal Idealize.ShloMosaic

/-- The literal is one on and below the diagonal, zero above. -/
theorem lit0_eq : ∀ (p : Fin 128) (q : Fin 128), lit0 ⟨p.val * 128 + q.val, by have := p.isLt; have := q.isLt; show _ < 16384; omega⟩
    = if q.val ≤ p.val then 0x3F80#16 else 0x0000#16 := by
  decide +kernel

end Cert.KernelIdeal.Own

end
-- ==== Proof.KernelRead.lean ====
module

public import proofs.«01_k».proof.Defs
public import proofs.«01_k».proof.Proof.KernelTri
public import proofs.«01_k».proof.Proof.KernelSeq
public import proofs.«01_k».proof.Proof.Gen.KernelIdeal.Value
public import Idealize.ShloMosaic.Lib.Pipeline.Value
public import Idealize.ShloMosaic.Lib.Pointwise
public import Idealize.ShloMosaic.Lib.KernelVsHost
public import Idealize.ShloMosaic.Lib.Routing.OpsOrder

@[expose] public section

set_option maxRecDepth 16384

noncomputable section

/-! What the mLSTM kernel's windows hold at each point of the grid. -/

namespace Cert.KernelIdeal.Own

open Cert Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The arguments as the run finds them. -/
abbrev a0 (c : Dev nD) : FVec Ideal S4x4096x6152 .f32 := m ((c : Thread nD τ).loc main_arg0)
abbrev a1 (c : Dev nD) : FVec Ideal S1x4x2048 .f32 := m ((c : Thread nD τ).loc main_arg1)
abbrev a2 (c : Dev nD) : FVec Ideal S1x2048 .f32 := m ((c : Thread nD τ).loc main_arg2)
abbrev a3 (c : Dev nD) : FVec Ideal S1x8 .f32 := m ((c : Thread nD τ).loc main_arg3)
abbrev a4 (c : Dev nD) : FVec Ideal S1x2048 .f32 := m ((c : Thread nD τ).loc main_arg4)

/-- … read index by index. -/
def argsOf (z : FVec Ideal S4x4096x6152 .f32) (cw : FVec Ideal S1x4x2048 .f32) (cb : FVec Ideal S1x2048 .f32)
    (gb : FVec Ideal S1x8 .f32) (ng : FVec Ideal S1x2048 .f32) : Mlstm.Args where
  z := fun b t j => z (ix3 b t j)
  cw := fun k j => cw (ix3 (0 : Fin 1) k j)
  cb := fun j => cb (ix2 (0 : Fin 1) j)
  gb := fun j => gb (ix2 (0 : Fin 1) j)
  ng := fun j => ng (ix2 (0 : Fin 1) j)

theorem V_v1 (c : Dev nD) : V (F := Ideal) m c main_v1 = pad S16384x6656 ![0, 0] ![0, 504] ![0, 0]
    (shapeCast S16384x6152 (a0 m c) shapeCasts_S4x4096x6152_S16384x6152 : FVec Ideal S16384x6152 .f32)
    (sitofp (F := Ideal) .f32 (constantI S_ 32 0#32)) pads_S16384x6152_S16384x6656_000_05040 h_S_ := by
  show StableHlo.after (List.flatten [hostOps0 (F := Ideal), hostOps0_1, hostOps0_2]) _ (Proc.devRef .tc main_v1) = _
  simp only [hostOps0, hostOps0_1, hostOps0_2, List.flatten_cons, List.flatten_nil, List.append_nil, List.cons_append, List.nil_append]
  after_results
  rfl
theorem V_v2 (c : Dev nD) : V (F := Ideal) m c main_v2 = shapeCast S4x2048 (a1 m c) shapeCasts_S1x4x2048_S4x2048 := by
  show StableHlo.after (List.flatten [hostOps0 (F := Ideal), hostOps0_1, hostOps0_2]) _ (Proc.devRef .tc main_v2) = _
  simp only [hostOps0, hostOps0_1, hostOps0_2, List.flatten_cons, List.flatten_nil, List.append_nil, List.cons_append, List.nil_append]
  after_results
  rfl
theorem V_v11 (c : Dev nD) : V (F := Ideal) m c main_v11 = shapeCast S1x2048 (shapeCast S2048 (a2 m c) shapeCasts_S1x2048_S2048) shapeCasts_S2048_S1x2048 := by
  show StableHlo.after (List.flatten [hostOps0 (F := Ideal), hostOps0_1, hostOps0_2]) _ (Proc.devRef .tc main_v11) = _
  simp only [hostOps0, hostOps0_1, hostOps0_2, List.flatten_cons, List.flatten_nil, List.append_nil, List.cons_append, List.nil_append]
  after_results
  rfl
theorem V_v12 (c : Dev nD) : V (F := Ideal) m c main_v12 = shapeCast S1x2048 (shapeCast S2048 (a4 m c) shapeCasts_S1x2048_S2048) shapeCasts_S2048_S1x2048 := by
  show StableHlo.after (List.flatten [hostOps0 (F := Ideal), hostOps0_1, hostOps0_2]) _ (Proc.devRef .tc main_v12) = _
  simp only [hostOps0, hostOps0_1, hostOps0_2, List.flatten_cons, List.flatten_nil, List.append_nil, List.cons_append, List.nil_append]
  after_results
  rfl
theorem V_cst (c : Dev nD) : V (F := Ideal) m c main_cst = fun i => (FloatOps.ofBits (F := Ideal) .bf16 (lit0 (S128x128.rowMajor i)) : Ideal .bf16) := by
  show StableHlo.after (List.flatten [hostOps0 (F := Ideal), hostOps0_1, hostOps0_2]) _ (Proc.devRef .tc main_cst) = _
  simp only [hostOps0, hostOps0_1, hostOps0_2, List.flatten_cons, List.flatten_nil, List.append_nil, List.cons_append, List.nil_append]
  after_results
  rfl
theorem V_v10 (c : Dev nD) : V (F := Ideal) m c main_v10 = Host.scatter scatter_S1x128_S2_S8_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩]
      concatenates_S1_S1_S2_d0 : IVec S2 32)
    (shapeCast S8 (a3 m c) shapeCasts_S1x8_S8 : FVec Ideal S8 .f32) := by
  show StableHlo.after (List.flatten [hostOps0 (F := Ideal), hostOps0_1, hostOps0_2]) _ (Proc.devRef .tc main_v10) = _
  simp only [hostOps0, hostOps0_1, hostOps0_2, List.flatten_cons, List.flatten_nil, List.append_nil, List.cons_append, List.nil_append]
  after_results
  rfl

theorem start0 : (concatenate S2 0 [⟨S1, broadcastInDim S1 ![] bcast_S_S1 (constantI S_ 32 0#32)⟩, ⟨S1, broadcastInDim S1 ![] bcast_S_S1 (constantI S_ 32 0#32)⟩]
      concatenates_S1_S1_S2_d0 : IVec S2 32) = fun _ => 0#32 := by
  funext i
  obtain ⟨k, rfl⟩ : ∃ k : Fin 2, i = fun a => match a with | ⟨0, _⟩ => k := ⟨i 0, by funext a; match a with | ⟨0, _⟩ => rfl⟩
  match k with
  | ⟨0, _⟩ => rfl
  | ⟨1, _⟩ => rfl

theorem lands : ∀ n : Fin S8.numel, scatter_S1x128_S2_S8_0_0_01_0.resultIdx? (S8.rowMajor.symm n) (fun _ => 0#32 : IVec S2 32)
    = some (ix2 (0 : Fin 1) (⟨n.val, lt_of_lt_of_le n.isLt (by decide)⟩ : Fin 128)) := by
  decide +kernel

/-- The first eight lanes of the gates' row are the biases. -/
theorem gates_at (c : Dev nD) (l : Fin 8) : V (F := Ideal) m c main_v10 (ix2 (0 : Fin 1) (⟨l.val, by omega⟩ : Fin 128))
    = a3 m c (ix2 (0 : Fin 1) l) := by
  rw [V_v10, start0, ← Routing.scatterIn_finRange, Routing.scatterIn_at]
  have hn : S8.numel = 8 := by decide
  have key : ∀ (L : List (Fin S8.numel)) (u : S8.Idx → Ideal .f32) (a : Ideal .f32) (q : Fin S8.numel), q.val = l.val → L.Nodup →
      L.foldl (fun a n => if scatter_S1x128_S2_S8_0_0_01_0.resultIdx? (S8.rowMajor.symm n) (fun _ => 0#32 : IVec S2 32)
        = some (ix2 (0 : Fin 1) (⟨l.val, by omega⟩ : Fin 128)) then u (S8.rowMajor.symm n) else a) a
      = if q ∈ L then u (S8.rowMajor.symm q) else a := by
    intro L u
    induction L with
    | nil => intro a q _ _; simp
    | cons x L ih =>
      intro a q hq hL
      rw [List.nodup_cons] at hL
      rw [List.foldl_cons, ih _ q hq hL.2, lands]
      by_cases hx : x = q
      · subst hx
        rw [if_neg hL.1, if_pos (by congr 2; exact Fin.ext hq), if_pos (List.mem_cons_self)]
      · rw [if_neg (c := some _ = some _) (fun h => hx (Fin.ext (by
          have h2 := congrArg (fun i : S1x128.Idx => (i 1).val) (Option.some.inj h)
          exact (show x.val = l.val from h2).trans hq.symm)))]
        by_cases hL2 : q ∈ L
        · rw [if_pos hL2, if_pos (List.mem_cons_of_mem _ hL2)]
        · rw [if_neg hL2, if_neg (fun h => (List.mem_cons.mp h).elim (fun h => hx h.symm) hL2)]
  refine (key (List.finRange S8.numel) _ _ ⟨l.val, by rw [hn]; exact l.isLt⟩ rfl (List.nodup_finRange _)).trans ?_
  rw [if_pos (List.mem_finRange _)]
  refine shapeCast_apply _ _ _ _ ?_
  rw [Equiv.apply_symm_apply, Shape.rowMajor_val_two]
  show 0 * 8 + l.val = l.val
  omega

/-- The padded array is the argument on its columns. -/
theorem z_at (c : Dev nD) (b : Fin 4) (s : Fin 4096) (j : Fin 6152) (i : S16384x6656.Idx) (h0 : (i 0).val = b.val * 4096 + s.val)
    (h1 : (i 1).val = j.val) : V (F := Ideal) m c main_v1 i = a0 m c (ix3 b s j) := by
  rw [V_v1]
  refine (pad_apply_of_inside _ _ _ _ _ _ _ _ (ix2 (⟨b.val * 4096 + s.val, by omega⟩ : Fin 16384) j) (fun a => ?_)).trans ?_
  · match a with
    | ⟨0, _⟩ => show (i 0).val = 0 + (b.val * 4096 + s.val) * (0 + 1); omega
    | ⟨1, _⟩ => show (i 1).val = 0 + j.val * (0 + 1); omega
  · refine shapeCast_apply _ _ _ _ ?_
    rw [Shape.rowMajor_val_three, Shape.rowMajor_val_two]
    show (b.val * 4096 + s.val) * 6152 + j.val = (b.val * 4096 + s.val) * 6152 + j.val
    rfl

theorem idx_facts : ∀ t : Fin cfg0.N,
    (win0_0.index t (0 : Fin 2) = t.val ∧ win0_0.index t (1 : Fin 2) = 0) ∧ (win0_1.index t (0 : Fin 2) = t.val ∧ win0_1.index t (1 : Fin 2) = 1)
    ∧ (win0_2.index t (0 : Fin 2) = t.val ∧ win0_2.index t (1 : Fin 2) = 1) ∧ (win0_3.index t (0 : Fin 2) = t.val ∧ win0_3.index t (1 : Fin 2) = 2)
    ∧ (win0_4.index t (0 : Fin 2) = t.val ∧ win0_4.index t (1 : Fin 2) = 48) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0) :=
  (by decide +kernel : ∀ t : Fin grid0.N, _)

theorem lt_t (t : Fin cfg0.N) : t.val < 128 := lt_of_lt_of_eq t.isLt (show cfg0.N = 128 from N_0)

/-- A point's sequence, and its position in it. -/
def sq (t : ℕ) (h : t < 128) : Fin 4 := ⟨t / 32, by omega⟩

theorem row_eq (t : ℕ) (h : t < 128) (p : Fin 128) : (sq t h).val * 4096 + (Mlstm.pos (t % 32) p).val = t * 128 + p.val := by
  show t / 32 * 4096 + (128 * (t % 32) + p.val) % 4096 = t * 128 + p.val
  have := p.isLt
  omega

theorem win0 (c : Dev nD) (t : Fin cfg0.N) (p : Fin 128) (j : Fin 1024) : (X0_0 (F := Ideal) m c t : Vec Ideal S128x1024 .f32) (ix2 p j)
    = a0 m c (ix3 (sq t.val (lt_t t)) (Mlstm.pos (t.val % 32) p) (⟨j.val, by omega⟩ : Fin 6152)) := by
  obtain ⟨e0, e1⟩ := (idx_facts t).1
  unfold X0_0 Pipeline.Window.fill
  rw [dif_pos (moved0_0 t _)]
  unfold iblk
  rw [View.read_apply]
  refine z_at m c _ _ _ _ ?_ ?_
  · show win0_0.index t 0 * 128 + 1 * p.val = _
    rw [e0, row_eq]; omega
  · show win0_0.index t 1 * 1024 + 1 * j.val = _
    rw [e1]; show 0 * 1024 + 1 * j.val = j.val; omega

theorem win1 (c : Dev nD) (t : Fin cfg0.N) (p : Fin 128) (j : Fin 1024) : (X0_1 (F := Ideal) m c t : Vec Ideal S128x1024 .f32) (ix2 p j)
    = a0 m c (ix3 (sq t.val (lt_t t)) (Mlstm.pos (t.val % 32) p) (⟨1024 + j.val, by omega⟩ : Fin 6152)) := by
  obtain ⟨e0, e1⟩ := (idx_facts t).2.1
  unfold X0_1 Pipeline.Window.fill
  rw [dif_pos (moved0_1 t _)]
  unfold iblk
  rw [View.read_apply]
  refine z_at m c _ _ _ _ ?_ ?_
  · show win0_1.index t 0 * 128 + 1 * p.val = _
    rw [e0, row_eq]; omega
  · show win0_1.index t 1 * 1024 + 1 * j.val = _
    rw [e1]; show 1 * 1024 + 1 * j.val = 1024 + j.val; omega

theorem win2 (c : Dev nD) (t : Fin cfg0.N) (p : Fin 128) (j : Fin 2048) : (X0_2 (F := Ideal) m c t : Vec Ideal S128x2048 .f32) (ix2 p j)
    = a0 m c (ix3 (sq t.val (lt_t t)) (Mlstm.pos (t.val % 32) p) (⟨2048 + j.val, by omega⟩ : Fin 6152)) := by
  obtain ⟨e0, e1⟩ := (idx_facts t).2.2.1
  unfold X0_2 Pipeline.Window.fill
  rw [dif_pos (moved0_2 t _)]
  unfold iblk
  rw [View.read_apply]
  refine z_at m c _ _ _ _ ?_ ?_
  · show win0_2.index t 0 * 128 + 1 * p.val = _
    rw [e0, row_eq]; omega
  · show win0_2.index t 1 * 2048 + 1 * j.val = _
    rw [e1]; show 1 * 2048 + 1 * j.val = 2048 + j.val; omega

theorem win3 (c : Dev nD) (t : Fin cfg0.N) (p : Fin 128) (j : Fin 2048) : (X0_3 (F := Ideal) m c t : Vec Ideal S128x2048 .f32) (ix2 p j)
    = a0 m c (ix3 (sq t.val (lt_t t)) (Mlstm.pos (t.val % 32) p) (⟨4096 + j.val, by omega⟩ : Fin 6152)) := by
  obtain ⟨e0, e1⟩ := (idx_facts t).2.2.2.1
  unfold X0_3 Pipeline.Window.fill
  rw [dif_pos (moved0_3 t _)]
  unfold iblk
  rw [View.read_apply]
  refine z_at m c _ _ _ _ ?_ ?_
  · show win0_3.index t 0 * 128 + 1 * p.val = _
    rw [e0, row_eq]; omega
  · show win0_3.index t 1 * 2048 + 1 * j.val = _
    rw [e1]; show 2 * 2048 + 1 * j.val = 4096 + j.val; omega

/-- The gates' columns, of which a block uses the first eight. -/
theorem win4 (c : Dev nD) (t : Fin cfg0.N) (p : Fin 128) (j : Fin 8) : (iblk (F := Ideal) m c 4 t : Vec Ideal S128x128 .f32) (ix2 p (⟨j.val, by omega⟩ : Fin 128))
    = a0 m c (ix3 (sq t.val (lt_t t)) (Mlstm.pos (t.val % 32) p) (⟨6144 + j.val, by omega⟩ : Fin 6152)) := by
  obtain ⟨e0, e1⟩ := (idx_facts t).2.2.2.2.1
  unfold iblk
  rw [View.read_apply]
  refine z_at m c _ _ _ _ ?_ ?_
  · show win0_4.index t 0 * 128 + 1 * p.val = _
    rw [e0, row_eq]; omega
  · show win0_4.index t 1 * 128 + 1 * j.val = _
    rw [e1]; show 48 * 128 + 1 * j.val = 6144 + j.val; omega

theorem win5 (c : Dev nD) (t : Fin cfg0.N) (k : Fin 4) (j : Fin 2048) : (iblk (F := Ideal) m c 5 t : Vec Ideal S4x2048 .f32) (ix2 k j)
    = a1 m c (ix3 (0 : Fin 1) k j) := by
  obtain ⟨e0, e1⟩ := (idx_facts t).2.2.2.2.2.1
  unfold iblk
  rw [View.read_apply]
  show V (F := Ideal) m c main_v2 _ = _
  rw [V_v2]
  refine shapeCast_apply _ _ _ _ ?_
  rw [Shape.rowMajor_val_three, Shape.rowMajor_val_two]
  show (0 * 4 + k.val) * 2048 + j.val = (win0_5.index t 0 * 4 + 1 * k.val) * 2048 + (win0_5.index t 1 * 2048 + 1 * j.val)
  rw [e0, e1]; omega

theorem win6 (c : Dev nD) (t : Fin cfg0.N) (j : Fin 2048) : (iblk (F := Ideal) m c 6 t : Vec Ideal S1x2048 .f32) (ix2 (0 : Fin 1) j)
    = a2 m c (ix2 (0 : Fin 1) j) := by
  obtain ⟨e0, e1⟩ := (idx_facts t).2.2.2.2.2.2.1
  unfold iblk
  rw [View.read_apply]
  show V (F := Ideal) m c main_v11 _ = _
  rw [V_v11, shapeCast_shapeCast]
  congr 1
  funext a
  apply Fin.ext
  match a with
  | ⟨0, _⟩ => show win0_6.index t 0 * 1 + 1 * 0 = 0; rw [e0]
  | ⟨1, _⟩ => show win0_6.index t 1 * 2048 + 1 * j.val = j.val; rw [e1]; omega

theorem win7 (c : Dev nD) (t : Fin cfg0.N) (j : Fin 8) : (iblk (F := Ideal) m c 7 t : Vec Ideal S1x128 .f32) (ix2 (0 : Fin 1) (⟨j.val, by omega⟩ : Fin 128))
    = a3 m c (ix2 (0 : Fin 1) j) := by
  obtain ⟨e0, e1⟩ := (idx_facts t).2.2.2.2.2.2.2.1
  refine Eq.trans ?_ (gates_at m c j)
  unfold iblk
  rw [View.read_apply]
  show V (F := Ideal) m c main_v10 _ = V (F := Ideal) m c main_v10 _
  congr 1
  funext a
  apply Fin.ext
  match a with
  | ⟨0, _⟩ => show win0_7.index t 0 * 1 + 1 * 0 = 0; rw [e0]
  | ⟨1, _⟩ => show win0_7.index t 1 * 128 + 1 * j.val = j.val; rw [e1]; omega

theorem win8 (c : Dev nD) (t : Fin cfg0.N) (j : Fin 2048) : (iblk (F := Ideal) m c 8 t : Vec Ideal S1x2048 .f32) (ix2 (0 : Fin 1) j)
    = a4 m c (ix2 (0 : Fin 1) j) := by
  obtain ⟨e0, e1⟩ := (idx_facts t).2.2.2.2.2.2.2.2.1
  unfold iblk
  rw [View.read_apply]
  show V (F := Ideal) m c main_v12 _ = _
  rw [V_v12, shapeCast_shapeCast]
  congr 1
  funext a
  apply Fin.ext
  match a with
  | ⟨0, _⟩ => show win0_8.index t 0 * 1 + 1 * 0 = 0; rw [e0]
  | ⟨1, _⟩ => show win0_8.index t 1 * 2048 + 1 * j.val = j.val; rw [e1]; omega

theorem win9 (c : Dev nD) (t : Fin cfg0.N) (p q : Fin 128) : (iblk (F := Ideal) m c 9 t : Vec Ideal S128x128 .bf16) (ix2 p q)
    = if q ≤ p then (1 : EReal) else 0 := by
  obtain ⟨e0, e1⟩ := (idx_facts t).2.2.2.2.2.2.2.2.2
  unfold iblk
  rw [View.read_apply]
  show V (F := Ideal) m c main_cst _ = _
  rw [V_cst]
  have hk : ∀ k : Fin 16384, k.val = p.val * 128 + q.val → (FloatOps.ofBits (F := Ideal) .bf16 (lit0 k) : EReal) = if q ≤ p then (1 : EReal) else 0 := by
    intro k hk
    have e : k = ⟨p.val * 128 + q.val, by omega⟩ := Fin.ext hk
    rw [e, lit0_eq p q]
    by_cases h : q ≤ p
    · rw [if_pos h, if_pos (show q.val ≤ p.val from h)]
      have h1 : Ideal.ofBits FTy.bf16 0x3F80#16 = ((1 : ℝ) : EReal) := by
        simp [Ideal.ofBits, Ideal.ieee, -EReal.coe_mul, -EReal.coe_one]
        norm_num
      exact h1.trans EReal.coe_one
    · rw [if_neg h, if_neg (show ¬ q.val ≤ p.val from h)]
      show Ideal.ofBits FTy.bf16 _ = _
      simp [Ideal.ofBits, Ideal.ieee, -EReal.coe_mul]
  refine hk _ ?_
  rw [Shape.rowMajor_val_two]
  show (win0_9.index t 0 * 128 + 1 * p.val) * 128 + (win0_9.index t 1 * 128 + 1 * q.val) = _
  rw [e0, e1]; omega

end Cert.KernelIdeal.Own

end
-- ==== Proof.KernelHead.lean ====
module

public import proofs.«01_k».proof.Proof.KernelSpec
public import proofs.«01_k».proof.Proof.Gen.KernelIdeal.Value
public import Idealize.ShloMosaic.Lib.Pipeline.Value
public import Idealize.ShloMosaic.Lib.Pointwise

@[expose] public section

set_option maxRecDepth 16384

noncomputable section

/-! The mLSTM kernel's values of one block, read entry by entry: each head's are one step of the recurrence. -/

namespace Cert.KernelIdeal.Own

open Cert Cert.KernelIdeal Cert.KernelIdeal.Gen Idealize.ShloMosaic Idealize.ShloMosaic.TcCoe Idealize.SL.Sem

/-- What the arithmetic of a block reads: the convolved queries, what the convolved keys are made of, the gates, the triangle,
    and each head's values, state, weights and output gates. -/
structure Blk where
  q : FVec Ideal S128x1024 .f32
  k3 : FVec Ideal S128x1024 .f32
  kw : FVec Ideal S1x1024 .f32
  ke : FVec Ideal S128x1024 .f32
  g : FVec Ideal S128x128 .f32
  tr : FVec Ideal S128x128 .bf16
  v0 : FVec Ideal S128x512 .f32
  m0 : FVec Ideal S1x1x1 .f32
  c0 : FVec Ideal S1x256x512 .f32
  n0 : FVec Ideal S1x1x256 .f32
  w0 : FVec Ideal S1x512 .f32
  o0 : FVec Ideal S128x512 .f32
  v1 : FVec Ideal S128x512 .f32
  m1 : FVec Ideal S1x1x1 .f32
  c1 : FVec Ideal S1x256x512 .f32
  n1 : FVec Ideal S1x1x256 .f32
  w1 : FVec Ideal S1x512 .f32
  o1 : FVec Ideal S128x512 .f32
  v2 : FVec Ideal S128x512 .f32
  m2 : FVec Ideal S1x1x1 .f32
  c2 : FVec Ideal S1x256x512 .f32
  n2 : FVec Ideal S1x1x256 .f32
  w2 : FVec Ideal S1x512 .f32
  o2 : FVec Ideal S128x512 .f32
  v3 : FVec Ideal S128x512 .f32
  m3 : FVec Ideal S1x1x1 .f32
  c3 : FVec Ideal S1x256x512 .f32
  n3 : FVec Ideal S1x1x256 .f32
  w3 : FVec Ideal S1x512 .f32
  o3 : FVec Ideal S128x512 .f32

/-- The lane numbers. -/
def lanes : IVec S128x128 32 := iota .tc S128x128 32 [1] iota_S128x128_d1_w32
/-- Zero as it is printed. -/
def zero : EReal := Scalar.ofBits (F := Ideal) .f32 0x00000000#32

/-- The mask's value is minus infinity. -/
theorem mask_eq : (Named.named (F := Ideal) (φ := .f32) κ "mask" 0xF149F2CA#32) = (⊥ : EReal) :=
  (IdealRules.named_const.ideal_named_scalar _ _ _ _ rfl).trans (by rfl)

variable (X : Blk)

namespace Blk
/-- A column of the queries. -/
def qc (h : Fin 4) (p : Fin 128) (d : Fin 256) : EReal := X.q (ix2 p (⟨256 * h.val + d.val, by omega⟩ : Fin 1024))
/-- A column of the keys. -/
def kc (h : Fin 4) (p : Fin 128) (d : Fin 256) : EReal :=
  Mlstm.silu (X.k3 (ix2 p (⟨256 * h.val + d.val, by omega⟩ : Fin 1024)) + X.kw (ix2 0 (⟨256 * h.val + d.val, by omega⟩ : Fin 1024)) * X.ke (ix2 p (⟨256 * h.val + d.val, by omega⟩ : Fin 1024)))
    * Ideal.ofBits FTy.f32 1031798784#32
/-- A head's values. -/
def vc : Fin 4 → Fin 128 → Fin 512 → EReal
  | 0 => fun p e => X.v0 (ix2 p e)
  | 1 => fun p e => X.v1 (ix2 p e)
  | 2 => fun p e => X.v2 (ix2 p e)
  | 3 => fun p e => X.v3 (ix2 p e)
/-- A head's carried matrix. -/
def cc : Fin 4 → Fin 256 → Fin 512 → EReal
  | 0 => fun d e => X.c0 (ix3 0 d e)
  | 1 => fun d e => X.c1 (ix3 0 d e)
  | 2 => fun d e => X.c2 (ix3 0 d e)
  | 3 => fun d e => X.c3 (ix3 0 d e)
/-- A head's carried vector. -/
def nc : Fin 4 → Fin 256 → EReal
  | 0 => fun d => X.n0 (ix3 0 0 d)
  | 1 => fun d => X.n1 (ix3 0 0 d)
  | 2 => fun d => X.n2 (ix3 0 0 d)
  | 3 => fun d => X.n3 (ix3 0 0 d)
/-- A head's carried exponent. -/
def mc : Fin 4 → EReal
  | 0 => X.m0 (ix3 0 0 0)
  | 1 => X.m1 (ix3 0 0 0)
  | 2 => X.m2 (ix3 0 0 0)
  | 3 => X.m3 (ix3 0 0 0)

/-- A head's running sum of log forget gates, as the kernel takes it. -/
def bc (h : Fin 4) (p : Fin 128) : EReal :=
  ∑ x, X.tr (ix2 p x) * Mlstm.lfg (X.g (ix2 x (⟨4 + h.val, by omega⟩ : Fin 128)))
    + ∑ x, X.tr (ix2 p x) * (Mlstm.lfg (X.g (ix2 x (⟨4 + h.val, by omega⟩ : Fin 128))) - Mlstm.lfg (X.g (ix2 x (⟨4 + h.val, by omega⟩ : Fin 128))))
/-- What a head's step reads. -/
def hd (h : Fin 4) : Mlstm.Hd where
  q := X.qc h
  k := X.kc h
  v := X.vc h
  l := fun p => Mlstm.cap (X.g (ix2 p (⟨h.val, by omega⟩ : Fin 128)))
  b := X.bc h
  c := X.cc h
  n := X.nc h
  m := X.mc h
end Blk

/-- The kernel's value 6 of a block. -/
def s6 : FVec Ideal S128x256 .f32 := k0_pay18 X.q
/-- The kernel's value 7 of a block. -/
def s7 : FVec Ideal S128x256 .f32 := k0_pay19 X.q
/-- The kernel's value 8 of a block. -/
def s8 : FVec Ideal S128x256 .f32 := k0_pay20 X.q
/-- The kernel's value 9 of a block. -/
def s9 : FVec Ideal S128x256 .f32 := k0_pay21 X.q
/-- The kernel's value 10 of a block. -/
def s10 : FVec Ideal S128x256 .f32 := k0_pay22 X.k3 X.kw X.ke
/-- The kernel's value 11 of a block. -/
def s11 : FVec Ideal S128x256 .f32 := k0_pay23 X.k3 X.kw X.ke
/-- The kernel's value 12 of a block. -/
def s12 : FVec Ideal S128x256 .f32 := k0_pay24 X.k3 X.kw X.ke
/-- The kernel's value 13 of a block. -/
def s13 : FVec Ideal S128x256 .f32 := k0_pay25 X.k3 X.kw X.ke
/-- The kernel's value 14 of a block. -/
def s14 : FVec Ideal S128x512 .f32 := k0_pay26 X.v0
/-- The kernel's value 15 of a block. -/
def s15 : FVec Ideal S128x512 .f32 := k0_pay27 X.v1
/-- The kernel's value 16 of a block. -/
def s16 : FVec Ideal S128x512 .f32 := k0_pay28 X.v2
/-- The kernel's value 17 of a block. -/
def s17 : FVec Ideal S128x512 .f32 := k0_pay29 X.v3
/-- The kernel's value 18 of a block. -/
def s18 : FVec Ideal S128x1 .f32 := k0_pay30 X.g lanes
/-- The kernel's value 19 of a block. -/
def s19 : FVec Ideal S128x1 .f32 := k0_pay31 X.g lanes
/-- The kernel's value 20 of a block. -/
def s20 : FVec Ideal S128x1 .f32 := k0_pay32 X.g lanes
/-- The kernel's value 21 of a block. -/
def s21 : FVec Ideal S128x1 .f32 := k0_pay33 X.g lanes
/-- The kernel's value 22 of a block. -/
def s22 : FVec Ideal S128x1 .f32 := k0_pay34 X.g lanes
/-- The kernel's value 23 of a block. -/
def s23 : FVec Ideal S128x1 .f32 := k0_pay35 X.g lanes
/-- The kernel's value 24 of a block. -/
def s24 : FVec Ideal S128x1 .f32 := k0_pay37 X.g lanes k0_pay36
/-- The kernel's value 25 of a block. -/
def s25 : FVec Ideal S128x1 .f32 := k0_pay38 X.g lanes
/-- The kernel's value 26 of a block. -/
def s26 : FVec Ideal S128x1 .f32 := k0_pay39 (s18 X)
/-- The kernel's value 27 of a block. -/
def s27 : FVec Ideal S128x1 .f32 := k0_pay40 (s19 X)
/-- The kernel's value 28 of a block. -/
def s28 : FVec Ideal S128x1 .f32 := k0_pay41 (s20 X)
/-- The kernel's value 29 of a block. -/
def s29 : FVec Ideal S128x1 .f32 := k0_pay42 (s21 X)
/-- The kernel's value 30 of a block. -/
def s30 : FVec Ideal S128x1 .f32 := k0_pay44 (s22 X)
/-- The kernel's value 31 of a block. -/
def s31 : FVec Ideal S128x1 .f32 := k0_pay45 (s22 X)
/-- The kernel's value 32 of a block. -/
def s32 : FVec Ideal S128x1 .f32 := k0_pay47 (s30 X) (s31 X) k0_pay46
/-- The kernel's value 33 of a block. -/
def s33 : FVec Ideal S128x1 .f32 := k0_pay48 (s23 X)
/-- The kernel's value 34 of a block. -/
def s34 : FVec Ideal S128x1 .f32 := k0_pay49 (s24 X)
/-- The kernel's value 35 of a block. -/
def s35 : FVec Ideal S128x1 .f32 := k0_pay50 (s25 X)
/-- The kernel's value 36 of a block. -/
def s36 : FVec Ideal S128x128 .f32 := k0_pay51 X.tr (s32 X)
/-- The kernel's value 37 of a block. -/
def s37 : FVec Ideal S128x128 .f32 := k0_pay52 X.tr (s33 X)
/-- The kernel's value 38 of a block. -/
def s38 : FVec Ideal S128x128 .f32 := k0_pay55 X.tr (s34 X) zero
/-- The kernel's value 39 of a block. -/
def s39 : FVec Ideal S128x128 .f32 := k0_pay56 X.tr (s34 X) zero
/-- The kernel's value 40 of a block. -/
def s40 : FVec Ideal S128x1 .f32 := k0_pay59 (s36 X)
/-- The kernel's value 41 of a block. -/
def s41 : FVec Ideal S128x1 .f32 := k0_pay60 (s37 X)
/-- The kernel's value 42 of a block. -/
def s42 : FVec Ideal S128x1 .f32 := k0_pay61 (s38 X) (s39 X)
/-- The kernel's value 43 of a block. -/
def s43 : FVec Ideal S128x1 .f32 := k0_pay62 X.tr (s35 X)
/-- The kernel's value 44 of a block. -/
def s44 : FVec Ideal S128x128 .f32 := k0_pay63 k0_pay17 (s26 X) (s36 X)
/-- The kernel's value 45 of a block. -/
def s45 : FVec Ideal S128x128 .f32 := k0_pay64 k0_pay17 (s27 X) (s37 X)
/-- The kernel's value 46 of a block. -/
def s46 : FVec Ideal S128x128 .f32 := k0_pay65 k0_pay17 (s28 X) (s38 X) (s39 X)
/-- The kernel's value 47 of a block. -/
def s47 : FVec Ideal S128x128 .f32 := k0_pay66 X.tr k0_pay17 (s29 X) (s35 X)
/-- The kernel's value 48 of a block. -/
def s48 : FVec Ideal S1x1 .f32 := k0_pay67 X.m0
/-- The kernel's value 49 of a block. -/
def s49 : FVec Ideal S1x1 .f32 := k0_pay68 X.m1
/-- The kernel's value 50 of a block. -/
def s50 : FVec Ideal S1x1 .f32 := k0_pay69 X.m2
/-- The kernel's value 51 of a block. -/
def s51 : FVec Ideal S1x1 .f32 := k0_pay70 X.m3
/-- The kernel's value 52 of a block. -/
def s52 : FVec Ideal S128x1 .f32 := k0_pay71 (s40 X) (s48 X)
/-- The kernel's value 53 of a block. -/
def s53 : FVec Ideal S128x1 .f32 := k0_pay72 (s41 X) X.m1
/-- The kernel's value 54 of a block. -/
def s54 : FVec Ideal S128x1 .f32 := k0_pay73 (s42 X) X.m2
/-- The kernel's value 55 of a block. -/
def s55 : FVec Ideal S128x1 .f32 := k0_pay74 (s43 X) X.m3
/-- The kernel's value 56 of a block. -/
def s56 : FVec Ideal S128x1 .f32 := k0_pay75 (s40 X) (s44 X) (s48 X)
/-- The kernel's value 57 of a block. -/
def s57 : FVec Ideal S128x1 .f32 := k0_pay76 (s41 X) (s45 X) X.m1
/-- The kernel's value 58 of a block. -/
def s58 : FVec Ideal S128x1 .f32 := k0_pay77 (s42 X) (s46 X) X.m2
/-- The kernel's value 59 of a block. -/
def s59 : FVec Ideal S128x1 .f32 := k0_pay78 (s43 X) (s47 X) X.m3
/-- The kernel's value 60 of a block. -/
def s60 : FVec Ideal S128x128 .f32 := k0_pay79 (s6 X) (s10 X) (s40 X) (s44 X) (s48 X)
/-- The kernel's value 61 of a block. -/
def s61 : FVec Ideal S128x128 .f32 := k0_pay80 (s7 X) (s11 X) (s41 X) (s45 X) X.m1
/-- The kernel's value 62 of a block. -/
def s62 : FVec Ideal S128x128 .f32 := k0_pay81 (s8 X) (s12 X) (s42 X) (s46 X) X.m2
/-- The kernel's value 63 of a block. -/
def s63 : FVec Ideal S128x128 .f32 := k0_pay82 (s9 X) (s13 X) (s47 X) (s59 X)
/-- The kernel's value 64 of a block. -/
def s64 : FVec Ideal S128x1 .f32 := k0_pay83 (s52 X) (s56 X)
/-- The kernel's value 65 of a block. -/
def s65 : FVec Ideal S128x1 .f32 := k0_pay84 (s53 X) (s57 X)
/-- The kernel's value 66 of a block. -/
def s66 : FVec Ideal S128x1 .f32 := k0_pay85 (s54 X) (s58 X)
/-- The kernel's value 67 of a block. -/
def s67 : FVec Ideal S128x1 .f32 := k0_pay86 (s55 X) (s59 X)
/-- The kernel's value 68 of a block. -/
def s68 : FVec Ideal S256x512 .f32 := k0_pay87 X.c0
/-- The kernel's value 69 of a block. -/
def s69 : FVec Ideal S256x512 .f32 := k0_pay88 X.c1
/-- The kernel's value 70 of a block. -/
def s70 : FVec Ideal S256x512 .f32 := k0_pay89 X.c2
/-- The kernel's value 71 of a block. -/
def s71 : FVec Ideal S256x512 .f32 := k0_pay90 X.c3
/-- The kernel's value 72 of a block. -/
def s72 : FVec Ideal S1x256 .f32 := k0_pay91 X.n0
/-- The kernel's value 73 of a block. -/
def s73 : FVec Ideal S1x256 .f32 := k0_pay92 X.n1
/-- The kernel's value 74 of a block. -/
def s74 : FVec Ideal S1x256 .f32 := k0_pay93 X.n2
/-- The kernel's value 75 of a block. -/
def s75 : FVec Ideal S1x256 .f32 := k0_pay94 X.n3
/-- The kernel's value 76 of a block. -/
def s76 : FVec Ideal S128x512 .f32 := k0_pay95 (s14 X) (s60 X)
/-- The kernel's value 77 of a block. -/
def s77 : FVec Ideal S128x512 .f32 := k0_pay96 (s6 X) (s64 X) (s68 X) (s76 X)
/-- The kernel's value 78 of a block. -/
def s78 : FVec Ideal S128x512 .f32 := k0_pay97 (s7 X) (s15 X) (s61 X) (s65 X) (s69 X)
/-- The kernel's value 79 of a block. -/
def s79 : FVec Ideal S128x512 .f32 := k0_pay98 (s8 X) (s16 X) (s62 X) (s66 X) (s70 X)
/-- The kernel's value 80 of a block. -/
def s80 : FVec Ideal S128x512 .f32 := k0_pay99 (s9 X) (s17 X) (s63 X) (s67 X) (s71 X)
/-- The kernel's value 81 of a block. -/
def s81 : FVec Ideal S128x1 .f32 := k0_pay100 (s6 X) (s60 X) (s64 X) (s72 X)
/-- The kernel's value 82 of a block. -/
def s82 : FVec Ideal S128x1 .f32 := k0_pay101 (s7 X) (s61 X) (s65 X) (s73 X)
/-- The kernel's value 83 of a block. -/
def s83 : FVec Ideal S128x1 .f32 := k0_pay102 (s8 X) (s62 X) (s66 X) (s74 X)
/-- The kernel's value 84 of a block. -/
def s84 : FVec Ideal S128x1 .f32 := k0_pay103 (s9 X) (s63 X) (s67 X) (s75 X)
/-- The kernel's value 85 of a block. -/
def s85 : FVec Ideal S1x1 .f32 := k0_pay106 (s26 X) (s40 X) (s48 X)
/-- The kernel's value 86 of a block. -/
def s86 : FVec Ideal S1x256 .f32 := k0_pay110 (s10 X) (s26 X) (s40 X) (s48 X) (s72 X)
/-- The kernel's value 87 of a block. -/
def s87 : FVec Ideal S1x1 .f32 := k0_pay115 (s27 X) (s41 X) (s49 X)
/-- The kernel's value 88 of a block. -/
def s88 : FVec Ideal S1x1 .f32 := k0_pay129 (s43 X)
/-- The kernel's value 89 of a block. -/
def s89 : FVec Ideal S128x1 .f32 := k0_pay130 (s29 X) (s43 X)
/-- The kernel's value 90 of a block. -/
def s90 : FVec Ideal S128x512 .f32 := k0_pay137 (s56 X) (s77 X) (s81 X)
/-- The kernel's value 91 of a block. -/
def s91 : FVec Ideal S128x1 .f32 := k0_pay138 (s56 X) (s77 X) (s81 X)
/-- The kernel's value 92 of a block. -/
def s92 : FVec Ideal S128x512 .bf16 := k0_pay140 (s57 X) (s78 X) (s82 X) X.w1 X.o1
/-- The kernel's value 93 of a block. -/
def s93 : FVec Ideal S128x512 .f32 := k0_pay142 (s59 X) (s80 X) (s84 X)
/-- The kernel's value 94 of a block. -/
def s94 : FVec Ideal S128x1 .f32 := k0_pay143 (s59 X) (s80 X) (s84 X)

theorem q0_at (p : Fin 128) (d : Fin 256) : s6 X (ix2 p d) = (X.hd 0).q p d := by
  unfold s6
  pointwise [k0_pay18, Blk.hd, Blk.qc]

theorem k0_at (p : Fin 128) (d : Fin 256) : s10 X (ix2 p d) = (X.hd 0).k p d := by
  unfold s10
  pointwise [k0_pay22, k0_pay15, Blk.hd, Blk.kc, Mlstm.silu]

theorem v0_at (p : Fin 128) (d : Fin 512) : s14 X (ix2 p d) = (X.hd 0).v p d := by
  unfold s14
  pointwise [k0_pay26, Blk.hd, Blk.vc]

theorem i0_at (p : Fin 128) : s18 X (ix2 p 0) = X.g (ix2 p 0) := by
  unfold s18 lanes
  pointwise [k0_pay30]
  exact Mlstm.lane (fun x => X.g (ix2 p x)) 0 (by decide)

theorem f0_at (p : Fin 128) : s22 X (ix2 p 0) = X.g (ix2 p 4) := by
  unfold s22 lanes
  pointwise [k0_pay34]
  exact Mlstm.lane (fun x => X.g (ix2 p x)) 4 (by decide)

theorem l0_at (p : Fin 128) : s26 X (ix2 p 0) = (X.hd 0).l p := by
  unfold s26
  pointwise [k0_pay39]
  simp only [i0_at]
  rfl

theorem lf0_at (p : Fin 128) : s32 X (ix2 p 0) = Mlstm.lfg (X.g (ix2 p 4)) := by
  unfold s32 s31 s30
  pointwise [k0_pay47, k0_pay46, k0_pay45, k0_pay44, k0_pay43]
  simp only [f0_at]
  rfl

theorem bf0_at (p s : Fin 128) : (s36 X : FVec Ideal S128x128 .f32) (ix2 p s) = (X.hd 0).b p := by
  unfold s36
  pointwise [k0_pay51]
  simp only [lf0_at]
  rfl

theorem b0_at (p : Fin 128) : s40 X (ix2 p 0) = (X.hd 0).b p := by
  unfold s40
  refine Eq.trans ?_ (bf0_at X p 0)
  pointwise [k0_pay59]

theorem d0_at (p s : Fin 128) : s44 X (ix2 p s) = (X.hd 0).D p s := by
  unfold s44 Mlstm.Hd.D
  have e1 := bf0_at X p s
  have e2 := bf0_at X s p
  have e3 := l0_at X s
  generalize s36 X = A at e1 e2 ⊢
  generalize s26 X = B at e3 ⊢
  rw [← e1, ← e2, ← e3, ← mask_eq, ← Mlstm.tri]
  pointwise [k0_pay63, k0_pay17]

theorem M0_at (p : Fin 128) : s56 X (ix2 p 0) = (X.hd 0).M p := by
  unfold s56 s48 Mlstm.Hd.M
  pointwise [k0_pay75, k0_pay71, k0_pay67]
  simp only [b0_at, d0_at]
  rfl

theorem sc0_at (p s : Fin 128) : s60 X (ix2 p s) = (X.hd 0).sc p s := by
  have eM := M0_at X p
  unfold s56 at eM
  unfold s60 Mlstm.Hd.sc
  rw [← eM]
  pointwise [k0_pay79]
  simp only [q0_at, k0_at, d0_at]
  try rfl

theorem wi0_at (p : Fin 128) : s64 X (ix2 p 0) = (X.hd 0).wi p := by
  unfold s64 s52 s48 Mlstm.Hd.wi
  pointwise [k0_pay83, k0_pay71, k0_pay67]
  simp only [b0_at, M0_at]
  rfl

theorem c0_at (p : Fin 256) (e : Fin 512) : s68 X (ix2 p e) = (X.hd 0).c p e := by
  unfold s68
  pointwise [k0_pay87, Blk.hd, Blk.cc]

theorem n0_at (p : Fin 256) : s72 X (ix2 0 p) = (X.hd 0).n p := by
  unfold s72
  pointwise [k0_pay91, Blk.hd, Blk.nc]

theorem num0_at (p : Fin 128) (e : Fin 512) : s77 X (ix2 p e) = (X.hd 0).num p e := by
  unfold s77 s76 Mlstm.Hd.num
  pointwise [k0_pay96, k0_pay95]
  simp only [q0_at, v0_at, sc0_at, wi0_at, c0_at]
  try rfl

theorem den0_at (p : Fin 128) : s81 X (ix2 p 0) = (X.hd 0).den p := by
  unfold s81 Mlstm.Hd.den
  pointwise [k0_pay100]
  simp only [q0_at, sc0_at, wi0_at, n0_at]
  try rfl

theorem out0_at (p : Fin 128) (e : Fin 512) : (k0_pay139 (s90 X) (s91 X) X.w0 X.o0 : FVec Ideal S128x512 .bf16) (ix2 p e) = (X.hd 0).out (fun j => X.w0 (ix2 0 j)) (fun p e => X.o0 (ix2 p e)) p e := by
  unfold s90 s91
  unfold Mlstm.Hd.out Mlstm.Hd.h
  pointwise [k0_pay139, k0_pay138, k0_pay137]
  simp only [num0_at, den0_at, M0_at]
  try rfl

theorem cn0_at (d : Fin 256) (e : Fin 512) : (k0_pay109 (s10 X) (s14 X) (s26 X) (s40 X) (s48 X) (s68 X) : FVec Ideal S1x256x512 .f32) (ix3 0 d e) = (X.hd 0).c' d e := by
  unfold s48 Mlstm.Hd.c' Mlstm.Hd.kw Mlstm.Hd.car Mlstm.Hd.m' Mlstm.Hd.g
  pointwise [k0_pay109, k0_pay108, k0_pay107, k0_pay106, k0_pay105, k0_pay104, k0_pay67]
  simp only [k0_at, v0_at, l0_at, b0_at, c0_at]
  try rfl

theorem nn0_at (d : Fin 256) : (k0_pay111 (s86 X) : FVec Ideal S1x1x256 .f32) (ix3 0 0 d) = (X.hd 0).n' d := by
  unfold s86 s48 Mlstm.Hd.n' Mlstm.Hd.kw Mlstm.Hd.car Mlstm.Hd.m' Mlstm.Hd.g
  pointwise [k0_pay111, k0_pay110, k0_pay108, k0_pay107, k0_pay106, k0_pay105, k0_pay104, k0_pay67]
  simp only [k0_at, l0_at, b0_at, n0_at]
  try rfl

theorem mn0_at : (k0_pay112 (s85 X) : FVec Ideal S1x1x1 .f32) (ix3 0 0 0) = (X.hd 0).m' := by
  unfold s85 s48 Mlstm.Hd.m' Mlstm.Hd.g
  pointwise [k0_pay112, k0_pay108, k0_pay107, k0_pay106, k0_pay105, k0_pay104, k0_pay67]
  simp only [l0_at, b0_at]
  try rfl

theorem q1_at (p : Fin 128) (d : Fin 256) : s7 X (ix2 p d) = (X.hd 1).q p d := by
  unfold s7
  pointwise [k0_pay19, Blk.hd, Blk.qc]

theorem k1_at (p : Fin 128) (d : Fin 256) : s11 X (ix2 p d) = (X.hd 1).k p d := by
  unfold s11
  pointwise [k0_pay23, k0_pay15, Blk.hd, Blk.kc, Mlstm.silu]

theorem v1_at (p : Fin 128) (d : Fin 512) : s15 X (ix2 p d) = (X.hd 1).v p d := by
  unfold s15
  pointwise [k0_pay27, Blk.hd, Blk.vc]

theorem i1_at (p : Fin 128) : s19 X (ix2 p 0) = X.g (ix2 p 1) := by
  unfold s19 lanes
  pointwise [k0_pay31]
  exact Mlstm.lane (fun x => X.g (ix2 p x)) 1 (by decide)

theorem f1_at (p : Fin 128) : s23 X (ix2 p 0) = X.g (ix2 p 5) := by
  unfold s23 lanes
  pointwise [k0_pay35]
  exact Mlstm.lane (fun x => X.g (ix2 p x)) 5 (by decide)

theorem l1_at (p : Fin 128) : s27 X (ix2 p 0) = (X.hd 1).l p := by
  unfold s27
  pointwise [k0_pay40]
  simp only [i1_at]
  rfl

theorem lf1_at (p : Fin 128) : s33 X (ix2 p 0) = Mlstm.lfg (X.g (ix2 p 5)) := by
  unfold s33
  pointwise [k0_pay48]
  simp only [f1_at]
  rfl

theorem bf1_at (p s : Fin 128) : (s37 X : FVec Ideal S128x128 .f32) (ix2 p s) = (X.hd 1).b p := by
  unfold s37
  pointwise [k0_pay52]
  simp only [lf1_at]
  rfl

theorem b1_at (p : Fin 128) : s41 X (ix2 p 0) = (X.hd 1).b p := by
  unfold s41
  refine Eq.trans ?_ (bf1_at X p 0)
  pointwise [k0_pay60]

theorem d1_at (p s : Fin 128) : s45 X (ix2 p s) = (X.hd 1).D p s := by
  unfold s45 Mlstm.Hd.D
  have e1 := bf1_at X p s
  have e2 := bf1_at X s p
  have e3 := l1_at X s
  generalize s37 X = A at e1 e2 ⊢
  generalize s27 X = B at e3 ⊢
  rw [← e1, ← e2, ← e3, ← mask_eq, ← Mlstm.tri]
  pointwise [k0_pay64, k0_pay17]

theorem M1_at (p : Fin 128) : s57 X (ix2 p 0) = (X.hd 1).M p := by
  unfold s57  Mlstm.Hd.M
  pointwise [k0_pay76, k0_pay72, k0_pay68]
  simp only [b1_at, d1_at]
  rfl

theorem sc1_at (p s : Fin 128) : s61 X (ix2 p s) = (X.hd 1).sc p s := by
  have eM := M1_at X p
  unfold s57 at eM
  unfold s61 Mlstm.Hd.sc
  rw [← eM]
  pointwise [k0_pay80]
  simp only [q1_at, k1_at, d1_at]
  try rfl

theorem wi1_at (p : Fin 128) : s65 X (ix2 p 0) = (X.hd 1).wi p := by
  unfold s65 s53  Mlstm.Hd.wi
  pointwise [k0_pay84, k0_pay72, k0_pay68]
  simp only [b1_at, M1_at]
  rfl

theorem c1_at (p : Fin 256) (e : Fin 512) : s69 X (ix2 p e) = (X.hd 1).c p e := by
  unfold s69
  pointwise [k0_pay88, Blk.hd, Blk.cc]

theorem n1_at (p : Fin 256) : s73 X (ix2 0 p) = (X.hd 1).n p := by
  unfold s73
  pointwise [k0_pay92, Blk.hd, Blk.nc]

theorem num1_at (p : Fin 128) (e : Fin 512) : s78 X (ix2 p e) = (X.hd 1).num p e := by
  unfold s78  Mlstm.Hd.num
  pointwise [k0_pay97]
  simp only [q1_at, v1_at, sc1_at, wi1_at, c1_at]
  try rfl

theorem den1_at (p : Fin 128) : s82 X (ix2 p 0) = (X.hd 1).den p := by
  unfold s82 Mlstm.Hd.den
  pointwise [k0_pay101]
  simp only [q1_at, sc1_at, wi1_at, n1_at]
  try rfl

theorem out1_at (p : Fin 128) (e : Fin 512) : (s92 X : FVec Ideal S128x512 .bf16) (ix2 p e) = (X.hd 1).out (fun j => X.w1 (ix2 0 j)) (fun p e => X.o1 (ix2 p e)) p e := by
  unfold s92
  unfold Mlstm.Hd.out Mlstm.Hd.h
  pointwise [k0_pay140]
  simp only [num1_at, den1_at, M1_at]
  try rfl

theorem cn1_at (d : Fin 256) (e : Fin 512) : (k0_pay118 (s11 X) (s15 X) (s27 X) (s41 X) (s49 X) (s69 X) : FVec Ideal S1x256x512 .f32) (ix3 0 d e) = (X.hd 1).c' d e := by
  unfold s49 Mlstm.Hd.c' Mlstm.Hd.kw Mlstm.Hd.car Mlstm.Hd.m' Mlstm.Hd.g
  pointwise [k0_pay118, k0_pay117, k0_pay116, k0_pay115, k0_pay114, k0_pay113, k0_pay68]
  simp only [k1_at, v1_at, l1_at, b1_at, c1_at]
  try rfl

theorem nn1_at (d : Fin 256) : (k0_pay119 (s11 X) (s27 X) (s41 X) (s49 X) (s73 X) : FVec Ideal S1x1x256 .f32) (ix3 0 0 d) = (X.hd 1).n' d := by
  unfold s49 Mlstm.Hd.n' Mlstm.Hd.kw Mlstm.Hd.car Mlstm.Hd.m' Mlstm.Hd.g
  pointwise [k0_pay119, k0_pay110, k0_pay117, k0_pay116, k0_pay115, k0_pay114, k0_pay113, k0_pay68]
  simp only [k1_at, l1_at, b1_at, n1_at]
  try rfl

theorem mn1_at : (k0_pay120 (s87 X) : FVec Ideal S1x1x1 .f32) (ix3 0 0 0) = (X.hd 1).m' := by
  unfold s87 s49 Mlstm.Hd.m' Mlstm.Hd.g
  pointwise [k0_pay120, k0_pay117, k0_pay116, k0_pay115, k0_pay114, k0_pay113, k0_pay68]
  simp only [l1_at, b1_at]
  try rfl

theorem q2_at (p : Fin 128) (d : Fin 256) : s8 X (ix2 p d) = (X.hd 2).q p d := by
  unfold s8
  pointwise [k0_pay20, Blk.hd, Blk.qc]

theorem k2_at (p : Fin 128) (d : Fin 256) : s12 X (ix2 p d) = (X.hd 2).k p d := by
  unfold s12
  pointwise [k0_pay24, k0_pay15, Blk.hd, Blk.kc, Mlstm.silu]

theorem v2_at (p : Fin 128) (d : Fin 512) : s16 X (ix2 p d) = (X.hd 2).v p d := by
  unfold s16
  pointwise [k0_pay28, Blk.hd, Blk.vc]

theorem i2_at (p : Fin 128) : s20 X (ix2 p 0) = X.g (ix2 p 2) := by
  unfold s20 lanes
  pointwise [k0_pay32]
  exact Mlstm.lane (fun x => X.g (ix2 p x)) 2 (by decide)

theorem f2_at (p : Fin 128) : s24 X (ix2 p 0) = X.g (ix2 p 6) := by
  unfold s24 lanes
  pointwise [k0_pay37, k0_pay36]
  exact Mlstm.lane (fun x => X.g (ix2 p x)) 6 (by decide)

theorem l2_at (p : Fin 128) : s28 X (ix2 p 0) = (X.hd 2).l p := by
  unfold s28
  pointwise [k0_pay41]
  simp only [i2_at]
  rfl

theorem lf2_at (p : Fin 128) : zero - s34 X (ix2 p 0) = Mlstm.lfg (X.g (ix2 p 6)) := by
  unfold s34
  pointwise [k0_pay49, zero]
  simp only [f2_at]
  rfl

theorem bf2_at (p s : Fin 128) : (addf (s38 X) (s39 X) : FVec Ideal S128x128 .f32) (ix2 p s) = (X.hd 2).b p := by
  unfold s38 s39
  pointwise [k0_pay55, k0_pay56, k0_pay54, k0_pay53]
  simp only [lf2_at]
  rfl

theorem b2_at (p : Fin 128) : s42 X (ix2 p 0) = (X.hd 2).b p := by
  unfold s42
  refine Eq.trans ?_ (bf2_at X p 0)
  pointwise [k0_pay61, k0_pay57]

theorem d2_at (p s : Fin 128) : s46 X (ix2 p s) = (X.hd 2).D p s := by
  unfold s46 Mlstm.Hd.D
  have e1 := bf2_at X p s
  have e2 := bf2_at X s p
  have e3 := l2_at X s
  unfold k0_pay65 k0_pay57
  generalize addf (s38 X) (s39 X) = A at e1 e2 ⊢
  generalize s28 X = B at e3 ⊢
  rw [← e1, ← e2, ← e3, ← mask_eq, ← Mlstm.tri]
  pointwise [k0_pay65, k0_pay17]

theorem M2_at (p : Fin 128) : s58 X (ix2 p 0) = (X.hd 2).M p := by
  unfold s58  Mlstm.Hd.M
  pointwise [k0_pay77, k0_pay73, k0_pay69]
  simp only [b2_at, d2_at]
  rfl

theorem sc2_at (p s : Fin 128) : s62 X (ix2 p s) = (X.hd 2).sc p s := by
  have eM := M2_at X p
  unfold s58 at eM
  unfold s62 Mlstm.Hd.sc
  rw [← eM]
  pointwise [k0_pay81]
  simp only [q2_at, k2_at, d2_at]
  try rfl

theorem wi2_at (p : Fin 128) : s66 X (ix2 p 0) = (X.hd 2).wi p := by
  unfold s66 s54  Mlstm.Hd.wi
  pointwise [k0_pay85, k0_pay73, k0_pay69]
  simp only [b2_at, M2_at]
  rfl

theorem c2_at (p : Fin 256) (e : Fin 512) : s70 X (ix2 p e) = (X.hd 2).c p e := by
  unfold s70
  pointwise [k0_pay89, Blk.hd, Blk.cc]

theorem n2_at (p : Fin 256) : s74 X (ix2 0 p) = (X.hd 2).n p := by
  unfold s74
  pointwise [k0_pay93, Blk.hd, Blk.nc]

theorem num2_at (p : Fin 128) (e : Fin 512) : s79 X (ix2 p e) = (X.hd 2).num p e := by
  unfold s79  Mlstm.Hd.num
  pointwise [k0_pay98]
  simp only [q2_at, v2_at, sc2_at, wi2_at, c2_at]
  try rfl

theorem den2_at (p : Fin 128) : s83 X (ix2 p 0) = (X.hd 2).den p := by
  unfold s83 Mlstm.Hd.den
  pointwise [k0_pay102]
  simp only [q2_at, sc2_at, wi2_at, n2_at]
  try rfl

theorem out2_at (p : Fin 128) (e : Fin 512) : (k0_pay141 (s58 X) (s79 X) (s83 X) X.w2 X.o2 : FVec Ideal S128x512 .bf16) (ix2 p e) = (X.hd 2).out (fun j => X.w2 (ix2 0 j)) (fun p e => X.o2 (ix2 p e)) p e := by
  unfold Mlstm.Hd.out Mlstm.Hd.h
  pointwise [k0_pay141]
  simp only [num2_at, den2_at, M2_at]
  try rfl

theorem cn2_at (d : Fin 256) (e : Fin 512) : (k0_pay126 (s12 X) (s16 X) (s28 X) (s42 X) (s50 X) (s70 X) : FVec Ideal S1x256x512 .f32) (ix3 0 d e) = (X.hd 2).c' d e := by
  unfold s50 Mlstm.Hd.c' Mlstm.Hd.kw Mlstm.Hd.car Mlstm.Hd.m' Mlstm.Hd.g
  pointwise [k0_pay126, k0_pay125, k0_pay124, k0_pay123, k0_pay122, k0_pay121, k0_pay69]
  simp only [k2_at, v2_at, l2_at, b2_at, c2_at]
  try rfl

theorem nn2_at (d : Fin 256) : (k0_pay127 (s12 X) (s28 X) (s42 X) (s50 X) (s74 X) : FVec Ideal S1x1x256 .f32) (ix3 0 0 d) = (X.hd 2).n' d := by
  unfold s50 Mlstm.Hd.n' Mlstm.Hd.kw Mlstm.Hd.car Mlstm.Hd.m' Mlstm.Hd.g
  pointwise [k0_pay127, k0_pay110, k0_pay125, k0_pay124, k0_pay123, k0_pay122, k0_pay121, k0_pay69]
  simp only [k2_at, l2_at, b2_at, n2_at]
  try rfl

theorem mn2_at : (k0_pay128 (s28 X) (s42 X) (s50 X) : FVec Ideal S1x1x1 .f32) (ix3 0 0 0) = (X.hd 2).m' := by
  unfold s50 Mlstm.Hd.m' Mlstm.Hd.g
  pointwise [k0_pay128, k0_pay125, k0_pay124, k0_pay123, k0_pay122, k0_pay121, k0_pay69]
  simp only [l2_at, b2_at]
  try rfl

theorem q3_at (p : Fin 128) (d : Fin 256) : s9 X (ix2 p d) = (X.hd 3).q p d := by
  unfold s9
  pointwise [k0_pay21, Blk.hd, Blk.qc]

theorem k3_at (p : Fin 128) (d : Fin 256) : s13 X (ix2 p d) = (X.hd 3).k p d := by
  unfold s13
  pointwise [k0_pay25, k0_pay15, Blk.hd, Blk.kc, Mlstm.silu]

theorem v3_at (p : Fin 128) (d : Fin 512) : s17 X (ix2 p d) = (X.hd 3).v p d := by
  unfold s17
  pointwise [k0_pay29, Blk.hd, Blk.vc]

theorem i3_at (p : Fin 128) : s21 X (ix2 p 0) = X.g (ix2 p 3) := by
  unfold s21 lanes
  pointwise [k0_pay33]
  exact Mlstm.lane (fun x => X.g (ix2 p x)) 3 (by decide)

theorem f3_at (p : Fin 128) : s25 X (ix2 p 0) = X.g (ix2 p 7) := by
  unfold s25 lanes
  pointwise [k0_pay38]
  exact Mlstm.lane (fun x => X.g (ix2 p x)) 7 (by decide)

theorem l3_at (p : Fin 128) : s29 X (ix2 p 0) = (X.hd 3).l p := by
  unfold s29
  pointwise [k0_pay42]
  simp only [i3_at]
  rfl

theorem lf3_at (p : Fin 128) : s35 X (ix2 p 0) = Mlstm.lfg (X.g (ix2 p 7)) := by
  unfold s35
  pointwise [k0_pay50]
  simp only [f3_at]
  rfl

theorem bf3_at (p s : Fin 128) : (k0_pay58 X.tr (s35 X) : FVec Ideal S128x128 .f32) (ix2 p s) = (X.hd 3).b p := by
  pointwise [k0_pay58]
  simp only [lf3_at]
  rfl

theorem b3_at (p : Fin 128) : s43 X (ix2 p 0) = (X.hd 3).b p := by
  unfold s43
  refine Eq.trans ?_ (bf3_at X p 0)
  pointwise [k0_pay62]

theorem d3_at (p s : Fin 128) : s47 X (ix2 p s) = (X.hd 3).D p s := by
  unfold s47 Mlstm.Hd.D
  have e1 := bf3_at X p s
  have e2 := bf3_at X s p
  have e3 := l3_at X s
  unfold k0_pay66
  generalize k0_pay58 X.tr (s35 X) = A at e1 e2 ⊢
  generalize s29 X = B at e3 ⊢
  rw [← e1, ← e2, ← e3, ← mask_eq, ← Mlstm.tri]
  pointwise [k0_pay66, k0_pay17]

theorem M3_at (p : Fin 128) : s59 X (ix2 p 0) = (X.hd 3).M p := by
  unfold s59  Mlstm.Hd.M
  pointwise [k0_pay78, k0_pay74, k0_pay70]
  simp only [b3_at, d3_at]
  rfl

theorem sc3_at (p s : Fin 128) : s63 X (ix2 p s) = (X.hd 3).sc p s := by
  unfold s63 Mlstm.Hd.sc
  pointwise [k0_pay82]
  simp only [q3_at, k3_at, d3_at, M3_at]
  try rfl

theorem wi3_at (p : Fin 128) : s67 X (ix2 p 0) = (X.hd 3).wi p := by
  unfold s67 s55  Mlstm.Hd.wi
  pointwise [k0_pay86, k0_pay74, k0_pay70]
  simp only [b3_at, M3_at]
  rfl

theorem c3_at (p : Fin 256) (e : Fin 512) : s71 X (ix2 p e) = (X.hd 3).c p e := by
  unfold s71
  pointwise [k0_pay90, Blk.hd, Blk.cc]

theorem n3_at (p : Fin 256) : s75 X (ix2 0 p) = (X.hd 3).n p := by
  unfold s75
  pointwise [k0_pay94, Blk.hd, Blk.nc]

theorem num3_at (p : Fin 128) (e : Fin 512) : s80 X (ix2 p e) = (X.hd 3).num p e := by
  unfold s80  Mlstm.Hd.num
  pointwise [k0_pay99]
  simp only [q3_at, v3_at, sc3_at, wi3_at, c3_at]
  try rfl

theorem den3_at (p : Fin 128) : s84 X (ix2 p 0) = (X.hd 3).den p := by
  unfold s84 Mlstm.Hd.den
  pointwise [k0_pay103]
  simp only [q3_at, sc3_at, wi3_at, n3_at]
  try rfl

theorem out3_at (p : Fin 128) (e : Fin 512) : (k0_pay1 (s93 X) (s94 X) X.w3 X.o3 : FVec Ideal S128x512 .bf16) (ix2 p e) = (X.hd 3).out (fun j => X.w3 (ix2 0 j)) (fun p e => X.o3 (ix2 p e)) p e := by
  unfold s93 s94
  unfold Mlstm.Hd.out Mlstm.Hd.h
  pointwise [k0_pay1, k0_pay143, k0_pay142]
  simp only [num3_at, den3_at, M3_at]
  try rfl

theorem cn3_at (d : Fin 256) (e : Fin 512) : (k0_pay134 (s13 X) (s17 X) (s51 X) (s71 X) (s88 X) (s89 X) : FVec Ideal S1x256x512 .f32) (ix3 0 d e) = (X.hd 3).c' d e := by
  unfold s51 s88 s89 Mlstm.Hd.c' Mlstm.Hd.kw Mlstm.Hd.car Mlstm.Hd.m' Mlstm.Hd.g
  pointwise [k0_pay134, k0_pay133, k0_pay132, k0_pay131, k0_pay130, k0_pay129, k0_pay70]
  simp only [k3_at, v3_at, l3_at, b3_at, c3_at]
  try rfl

theorem nn3_at (d : Fin 256) : (k0_pay135 (s13 X) (s51 X) (s75 X) (s88 X) (s89 X) : FVec Ideal S1x1x256 .f32) (ix3 0 0 d) = (X.hd 3).n' d := by
  unfold s51 s88 s89 Mlstm.Hd.n' Mlstm.Hd.kw Mlstm.Hd.car Mlstm.Hd.m' Mlstm.Hd.g
  pointwise [k0_pay135, k0_pay110, k0_pay133, k0_pay132, k0_pay131, k0_pay130, k0_pay129, k0_pay70]
  simp only [k3_at, l3_at, b3_at, n3_at]
  try rfl

theorem mn3_at : (k0_pay136 (s51 X) (s88 X) (s89 X) : FVec Ideal S1x1x1 .f32) (ix3 0 0 0) = (X.hd 3).m' := by
  unfold s51 s88 s89 Mlstm.Hd.m' Mlstm.Hd.g
  pointwise [k0_pay136, k0_pay133, k0_pay132, k0_pay131, k0_pay130, k0_pay129, k0_pay70]
  simp only [l3_at, b3_at]
  try rfl

end Cert.KernelIdeal.Own
-- ==== Proof.KernelLoad.lean ====
module

public import proofs.«01_k».proof.Proof.KernelHead
public import Idealize.ShloMosaic.Lib.VecWindow
public import Idealize.ShloMosaic.Lib.WholeRead

@[expose] public section

set_option maxRecDepth 16384

noncomputable section

/-! What the mLSTM kernel's loads read, and what its carried buffers hold after a block's stores. -/

namespace Cert.Mlstm

open Idealize.ShloMosaic

/-- What a block carries to the next: the last eight rows of the queries and keys before the convolution, and each head's
    matrix, vector and exponent. -/
structure St where
  qp : Fin 8 → Fin 1024 → EReal
  kp : Fin 8 → Fin 1024 → EReal
  c : Fin 4 → Fin 256 → Fin 512 → EReal
  n : Fin 4 → Fin 256 → EReal
  m : Fin 4 → EReal

/-- The rows of a block with eight rows in front. -/
def ext (pr : Fin 8 → Fin 1024 → EReal) (x : Fin 128 → Fin 1024 → EReal) (r : Fin 136) (j : Fin 1024) : EReal :=
  if h : r.val < 8 then pr ⟨r.val, h⟩ j else x ⟨r.val - 8, by omega⟩ j

/-- The convolution over four rows. -/
def conv (w : Fin 4 → Fin 1024 → EReal) (b : Fin 1024 → EReal) (pr : Fin 8 → Fin 1024 → EReal) (x : Fin 128 → Fin 1024 → EReal)
    (p : Fin 128) (j : Fin 1024) : EReal :=
  b j + w 0 j * ext pr x (⟨5 + p.val, by omega⟩ : Fin 136) j + w 1 j * ext pr x (⟨6 + p.val, by omega⟩ : Fin 136) j
    + w 2 j * ext pr x (⟨7 + p.val, by omega⟩ : Fin 136) j + w 3 j * ext pr x (⟨8 + p.val, by omega⟩ : Fin 136) j

/-- A running sum taken as two products with a triangle. -/
def tsum (t : Fin 128 → Fin 128 → EReal) (f : Fin 128 → EReal) (p : Fin 128) : EReal :=
  ∑ x, t p x * f x + ∑ x, t p x * (f x - f x)

/-- What a block reads from the arrays. -/
structure In where
  x0 : Fin 128 → Fin 1024 → EReal
  x1 : Fin 128 → Fin 1024 → EReal
  x2 : Fin 128 → Fin 2048 → EReal
  x3 : Fin 128 → Fin 2048 → EReal
  g : Fin 128 → Fin 128 → EReal
  wq : Fin 4 → Fin 1024 → EReal
  wk : Fin 4 → Fin 1024 → EReal
  bq : Fin 1024 → EReal
  bk : Fin 1024 → EReal
  w : Fin 2048 → EReal
  t : Fin 128 → Fin 128 → EReal

/-- The head's step of a block. -/
def In.hd (I : In) (S : St) (h : Fin 4) : Hd where
  q := fun p d => silu (conv I.wq I.bq S.qp I.x0 p (⟨256 * h.val + d.val, by omega⟩ : Fin 1024))
  k := fun p d => silu (conv I.wk I.bk S.kp I.x1 p (⟨256 * h.val + d.val, by omega⟩ : Fin 1024)) * Ideal.ofBits FTy.f32 1031798784#32
  v := fun p e => I.x2 p (⟨512 * h.val + e.val, by omega⟩ : Fin 2048)
  l := fun p => cap (I.g p (⟨h.val, by omega⟩ : Fin 128))
  b := tsum I.t (fun x => lfg (I.g x (⟨4 + h.val, by omega⟩ : Fin 128)))
  c := S.c h
  n := S.n h
  m := S.m h

/-- What a block leaves. -/
def In.next (I : In) (S : St) : St where
  qp := fun r j => I.x0 (⟨120 + r.val, by omega⟩ : Fin 128) j
  kp := fun r j => I.x1 (⟨120 + r.val, by omega⟩ : Fin 128) j
  c := fun h => (I.hd S h).c'
  n := fun h => (I.hd S h).n'
  m := fun h => (I.hd S h).m'

/-- A block's results. -/
def In.out (I : In) (S : St) (h : Fin 4) (p : Fin 128) (e : Fin 512) : EReal :=
  (I.hd S h).out (fun e => I.w (⟨512 * h.val + e.val, by omega⟩ : Fin 2048)) (fun p e => I.x3 p (⟨512 * h.val + e.val, by omega⟩ : Fin 2048)) p e

end Cert.Mlstm

namespace Cert.KernelIdeal.Own

open Cert Cert.KernelIdeal Cert.KernelIdeal.Gen Idealize.ShloMosaic Idealize.ShloMosaic.TcCoe Idealize.SL.Sem

theorem lt2 {A B a b o0 o1 : ℕ} (inb : ∀ i, (![o0, o1] : Fin 2 → ℕ) i + (![a, b] : Fin 2 → ℕ) i ≤ (![A, B] : Fin 2 → ℕ) i) : o0 + a ≤ A ∧ o1 + b ≤ B :=
  ⟨inb 0, inb 1⟩
theorem lt3 {A B C a b c o0 o1 o2 : ℕ} (inb : ∀ i, (![o0, o1, o2] : Fin 3 → ℕ) i + (![a, b, c] : Fin 3 → ℕ) i ≤ (![A, B, C] : Fin 3 → ℕ) i) :
    o0 + a ≤ A ∧ o1 + b ≤ B ∧ o2 + c ≤ C :=
  ⟨inb 0, inb 1, inb 2⟩

/-- Where a rectangle of a matrix puts an entry. -/
theorem emb2 {A B a b o0 o1 : ℕ} (inb : ∀ i, (![o0, o1] : Fin 2 → ℕ) i + (![a, b] : Fin 2 → ℕ) i ≤ (![A, B] : Fin 2 → ℕ) i) (p : Fin a) (q : Fin b) :
    (Rect.unit (s := ⟨2, ![A, B]⟩) ![o0, o1] ![a, b] inb).emb (ix2 p q)
      = ix2 (⟨o0 + p.val, by have := (lt2 inb).1; omega⟩ : Fin A) (⟨o1 + q.val, by have := (lt2 inb).2; omega⟩ : Fin B) := by
  funext i; apply Fin.ext
  match i with
  | ⟨0, _⟩ => show o0 + 1 * p.val = o0 + p.val; omega
  | ⟨1, _⟩ => show o1 + 1 * q.val = o1 + q.val; omega
/-- Where a rectangle of a stack of matrices puts an entry. -/
theorem emb3 {A B C a b c o0 o1 o2 : ℕ} (inb : ∀ i, (![o0, o1, o2] : Fin 3 → ℕ) i + (![a, b, c] : Fin 3 → ℕ) i ≤ (![A, B, C] : Fin 3 → ℕ) i) (p : Fin a) (q : Fin b) (r : Fin c) :
    (Rect.unit (s := ⟨3, ![A, B, C]⟩) ![o0, o1, o2] ![a, b, c] inb).emb (ix3 p q r)
      = ix3 (⟨o0 + p.val, by have := (lt3 inb).1; omega⟩ : Fin A) (⟨o1 + q.val, by have := (lt3 inb).2.1; omega⟩ : Fin B) (⟨o2 + r.val, by have := (lt3 inb).2.2; omega⟩ : Fin C) := by
  funext i; apply Fin.ext
  match i with
  | ⟨0, _⟩ => show o0 + 1 * p.val = o0 + p.val; omega
  | ⟨1, _⟩ => show o1 + 1 * q.val = o1 + q.val; omega
  | ⟨2, _⟩ => show o2 + 1 * r.val = o2 + r.val; omega

/-- A load of a rectangle of a matrix. -/
theorem at2 {e : EltTy} {A B a b o0 o1 : ℕ} (v : View sig .tc .vmem ⟨2, ![A, B]⟩ e) (f : v.ty.Contents (Elt Ideal)) (inb : ∀ i, (![o0, o1] : Fin 2 → ℕ) i + (![a, b] : Fin 2 → ℕ) i ≤ (![A, B] : Fin 2 → ℕ) i) (p : Fin a) (q : Fin b) :
    View.readAt (Elt Ideal) v (Rect.unit (s := ⟨2, ![A, B]⟩) ![o0, o1] ![a, b] inb).toLoadRect f (ix2 p q)
      = v.read (Elt Ideal) f (ix2 (⟨o0 + p.val, by have := (lt2 inb).1; omega⟩ : Fin A) (⟨o1 + q.val, by have := (lt2 inb).2; omega⟩ : Fin B)) := by
  show v.read (Elt Ideal) f ((Rect.unit (s := ⟨2, ![A, B]⟩) ![o0, o1] ![a, b] inb).emb (ix2 p q)) = _
  rw [emb2]
theorem at3 {e : EltTy} {A B C a b c o0 o1 o2 : ℕ} (v : View sig .tc .vmem ⟨3, ![A, B, C]⟩ e) (f : v.ty.Contents (Elt Ideal)) (inb : ∀ i, (![o0, o1, o2] : Fin 3 → ℕ) i + (![a, b, c] : Fin 3 → ℕ) i ≤ (![A, B, C] : Fin 3 → ℕ) i) (p : Fin a) (q : Fin b) (r : Fin c) :
    View.readAt (Elt Ideal) v (Rect.unit (s := ⟨3, ![A, B, C]⟩) ![o0, o1, o2] ![a, b, c] inb).toLoadRect f (ix3 p q r)
      = v.read (Elt Ideal) f (ix3 (⟨o0 + p.val, by have := (lt3 inb).1; omega⟩ : Fin A) (⟨o1 + q.val, by have := (lt3 inb).2.1; omega⟩ : Fin B) (⟨o2 + r.val, by have := (lt3 inb).2.2; omega⟩ : Fin C)) := by
  show v.read (Elt Ideal) f ((Rect.unit (s := ⟨3, ![A, B, C]⟩) ![o0, o1, o2] ![a, b, c] inb).emb (ix3 p q r)) = _
  rw [emb3]
/-- A load of a rectangle of a whole buffer. -/
theorem ld2 {e : EltTy} {A B a b o0 o1 : ℕ} {v : Memref sig .tc .vmem ⟨2, ![A, B]⟩ e} (h : v.IsWhole) (x : (⟨2, ![A, B]⟩ : Shape).Idx → Elt Ideal e) (inb : ∀ i, (![o0, o1] : Fin 2 → ℕ) i + (![a, b] : Fin 2 → ℕ) i ≤ (![A, B] : Fin 2 → ℕ) i) (p : Fin a) (q : Fin b) :
    View.readAt (Elt Ideal) v.view (Rect.unit (s := ⟨2, ![A, B]⟩) ![o0, o1] ![a, b] inb).toLoadRect (h.unread x) (ix2 p q)
      = x (ix2 (⟨o0 + p.val, by have := (lt2 inb).1; omega⟩ : Fin A) (⟨o1 + q.val, by have := (lt2 inb).2; omega⟩ : Fin B)) :=
  (at2 _ _ _ _ _).trans (by rw [h.read_unread])
theorem ld3 {e : EltTy} {A B C a b c o0 o1 o2 : ℕ} {v : Memref sig .tc .vmem ⟨3, ![A, B, C]⟩ e} (h : v.IsWhole) (x : (⟨3, ![A, B, C]⟩ : Shape).Idx → Elt Ideal e) (inb : ∀ i, (![o0, o1, o2] : Fin 3 → ℕ) i + (![a, b, c] : Fin 3 → ℕ) i ≤ (![A, B, C] : Fin 3 → ℕ) i) (p : Fin a) (q : Fin b) (r : Fin c) :
    View.readAt (Elt Ideal) v.view (Rect.unit (s := ⟨3, ![A, B, C]⟩) ![o0, o1, o2] ![a, b, c] inb).toLoadRect (h.unread x) (ix3 p q r)
      = x (ix3 (⟨o0 + p.val, by have := (lt3 inb).1; omega⟩ : Fin A) (⟨o1 + q.val, by have := (lt3 inb).2.1; omega⟩ : Fin B) (⟨o2 + r.val, by have := (lt3 inb).2.2; omega⟩ : Fin C)) :=
  (at3 _ _ _ _ _ _).trans (by rw [h.read_unread])

/-- What a store over a rectangle leaves inside it. -/
theorem hit2 {e : EltTy} {A B a b o0 o1 : ℕ} (v : View sig .tc .vmem ⟨2, ![A, B]⟩ e) (f : v.ty.Contents (Elt Ideal)) (inb : ∀ i, (![o0, o1] : Fin 2 → ℕ) i + (![a, b] : Fin 2 → ℕ) i ≤ (![A, B] : Fin 2 → ℕ) i)
    (w : (⟨2, ![a, b]⟩ : Shape).Idx → Elt Ideal e) (L : List (View.Piece (Elt Ideal) ⟨2, ![A, B]⟩ e)) (p : Fin a) (q : Fin b) (P : Fin A) (Q : Fin B) (hP : o0 + p.val = P.val) (hQ : o1 + q.val = Q.val) :
    v.read (Elt Ideal) (v.writes (Elt Ideal) f ((⟨Rect.unit (s := ⟨2, ![A, B]⟩) ![o0, o1] ![a, b] inb, w⟩ : View.Piece (Elt Ideal) ⟨2, ![A, B]⟩ e) :: L)) (ix2 P Q) = w (ix2 p q) := by
  have h0 : (Rect.unit (s := ⟨2, ![A, B]⟩) ![o0, o1] ![a, b] inb).emb (ix2 p q) = ix2 P Q := by
    rw [emb2]; congr 1 <;> exact Fin.ext (by assumption)
  exact View.read_writes_cons_hit _ _ _ _ _ _ _ h0
theorem hit3 {e : EltTy} {A B C a b c o0 o1 o2 : ℕ} (v : View sig .tc .vmem ⟨3, ![A, B, C]⟩ e) (f : v.ty.Contents (Elt Ideal)) (inb : ∀ i, (![o0, o1, o2] : Fin 3 → ℕ) i + (![a, b, c] : Fin 3 → ℕ) i ≤ (![A, B, C] : Fin 3 → ℕ) i)
    (w : (⟨3, ![a, b, c]⟩ : Shape).Idx → Elt Ideal e) (L : List (View.Piece (Elt Ideal) ⟨3, ![A, B, C]⟩ e)) (p : Fin a) (q : Fin b) (r : Fin c) (P : Fin A) (Q : Fin B) (R : Fin C) (hP : o0 + p.val = P.val) (hQ : o1 + q.val = Q.val) (hR : o2 + r.val = R.val) :
    v.read (Elt Ideal) (v.writes (Elt Ideal) f ((⟨Rect.unit (s := ⟨3, ![A, B, C]⟩) ![o0, o1, o2] ![a, b, c] inb, w⟩ : View.Piece (Elt Ideal) ⟨3, ![A, B, C]⟩ e) :: L)) (ix3 P Q R) = w (ix3 p q r) := by
  have h0 : (Rect.unit (s := ⟨3, ![A, B, C]⟩) ![o0, o1, o2] ![a, b, c] inb).emb (ix3 p q r) = ix3 P Q R := by
    rw [emb3]; congr 1 <;> exact Fin.ext (by assumption)
  exact View.read_writes_cons_hit _ _ _ _ _ _ _ h0

/-- A store over rows leaves the rows before it, and those after it, as they were. -/
theorem miss20 {e : EltTy} {A B a b o0 o1 : ℕ} (v : View sig .tc .vmem ⟨2, ![A, B]⟩ e) (f : v.ty.Contents (Elt Ideal)) (inb : ∀ i, (![o0, o1] : Fin 2 → ℕ) i + (![a, b] : Fin 2 → ℕ) i ≤ (![A, B] : Fin 2 → ℕ) i)
    (w : (⟨2, ![a, b]⟩ : Shape).Idx → Elt Ideal e) (L : List (View.Piece (Elt Ideal) ⟨2, ![A, B]⟩ e)) (P : Fin A) (Q : Fin B) (h : P.val < o0 ∨ o0 + a ≤ P.val) :
    v.read (Elt Ideal) (v.writes (Elt Ideal) f ((⟨Rect.unit (s := ⟨2, ![A, B]⟩) ![o0, o1] ![a, b] inb, w⟩ : View.Piece (Elt Ideal) ⟨2, ![A, B]⟩ e) :: L)) (ix2 P Q)
      = v.read (Elt Ideal) (v.writes (Elt Ideal) f L) (ix2 P Q) :=
  View.read_writes_cons_miss_of_axis _ _ _ _ _ (0 : Fin 2) o0 a rfl rfl rfl h
/-- The same by columns. -/
theorem miss21 {e : EltTy} {A B a b o0 o1 : ℕ} (v : View sig .tc .vmem ⟨2, ![A, B]⟩ e) (f : v.ty.Contents (Elt Ideal)) (inb : ∀ i, (![o0, o1] : Fin 2 → ℕ) i + (![a, b] : Fin 2 → ℕ) i ≤ (![A, B] : Fin 2 → ℕ) i)
    (w : (⟨2, ![a, b]⟩ : Shape).Idx → Elt Ideal e) (L : List (View.Piece (Elt Ideal) ⟨2, ![A, B]⟩ e)) (P : Fin A) (Q : Fin B) (h : Q.val < o1 ∨ o1 + b ≤ Q.val) :
    v.read (Elt Ideal) (v.writes (Elt Ideal) f ((⟨Rect.unit (s := ⟨2, ![A, B]⟩) ![o0, o1] ![a, b] inb, w⟩ : View.Piece (Elt Ideal) ⟨2, ![A, B]⟩ e) :: L)) (ix2 P Q)
      = v.read (Elt Ideal) (v.writes (Elt Ideal) f L) (ix2 P Q) :=
  View.read_writes_cons_miss_of_axis _ _ _ _ _ (1 : Fin 2) o1 b rfl rfl rfl h
/-- The same in a stack of matrices. -/
theorem miss30 {e : EltTy} {A B C a b c o0 o1 o2 : ℕ} (v : View sig .tc .vmem ⟨3, ![A, B, C]⟩ e) (f : v.ty.Contents (Elt Ideal)) (inb : ∀ i, (![o0, o1, o2] : Fin 3 → ℕ) i + (![a, b, c] : Fin 3 → ℕ) i ≤ (![A, B, C] : Fin 3 → ℕ) i)
    (w : (⟨3, ![a, b, c]⟩ : Shape).Idx → Elt Ideal e) (L : List (View.Piece (Elt Ideal) ⟨3, ![A, B, C]⟩ e)) (P : Fin A) (Q : Fin B) (R : Fin C) (h : P.val < o0 ∨ o0 + a ≤ P.val) :
    v.read (Elt Ideal) (v.writes (Elt Ideal) f ((⟨Rect.unit (s := ⟨3, ![A, B, C]⟩) ![o0, o1, o2] ![a, b, c] inb, w⟩ : View.Piece (Elt Ideal) ⟨3, ![A, B, C]⟩ e) :: L)) (ix3 P Q R)
      = v.read (Elt Ideal) (v.writes (Elt Ideal) f L) (ix3 P Q R) :=
  View.read_writes_cons_miss_of_axis _ _ _ _ _ (0 : Fin 3) o0 a rfl rfl rfl h

end Cert.KernelIdeal.Own
-- ==== Proof.KernelStep.lean ====
module

public import proofs.«01_k».proof.Proof.KernelLoad

@[expose] public section

set_option maxRecDepth 16384

noncomputable section

/-! What a block reads from its windows and from what is carried, and what the two buffers with eight rows in front hold. -/

namespace Cert.Mlstm

/-- Steps that read the same are the same. -/
theorem Hd.eq {H H' : Hd} (q : ∀ p d, H.q p d = H'.q p d) (k : ∀ p d, H.k p d = H'.k p d) (v : ∀ p e, H.v p e = H'.v p e)
    (l : ∀ p, H.l p = H'.l p) (b : ∀ p, H.b p = H'.b p) (c : ∀ d e, H.c d e = H'.c d e) (n : ∀ d, H.n d = H'.n d) (m : H.m = H'.m) : H = H' := by
  obtain ⟨q1, k1, v1, l1, b1, c1, n1, m1⟩ := H
  obtain ⟨q2, k2, v2, l2, b2, c2, n2, m2⟩ := H'
  have e1 : q1 = q2 := funext fun p => funext fun d => q p d
  have e2 : k1 = k2 := funext fun p => funext fun d => k p d
  have e3 : v1 = v2 := funext fun p => funext fun d => v p d
  have e4 : l1 = l2 := funext l
  have e5 : b1 = b2 := funext b
  have e6 : c1 = c2 := funext fun p => funext fun d => c p d
  have e7 : n1 = n2 := funext n
  have e8 : m1 = m2 := m
  rw [e1, e2, e3, e4, e5, e6, e7, e8]

/-- States that hold the same are the same. -/
theorem St.eq {S S' : St} (q : ∀ r j, S.qp r j = S'.qp r j) (k : ∀ r j, S.kp r j = S'.kp r j) (c : ∀ h d e, S.c h d e = S'.c h d e)
    (n : ∀ h d, S.n h d = S'.n h d) (m : ∀ h, S.m h = S'.m h) : S = S' := by
  obtain ⟨q1, k1, c1, n1, m1⟩ := S
  obtain ⟨q2, k2, c2, n2, m2⟩ := S'
  have e1 : q1 = q2 := funext fun p => funext fun d => q p d
  have e2 : k1 = k2 := funext fun p => funext fun d => k p d
  have e3 : c1 = c2 := funext fun h => funext fun p => funext fun d => c h p d
  have e4 : n1 = n2 := funext fun h => funext fun d => n h d
  have e5 : m1 = m2 := funext m
  rw [e1, e2, e3, e4, e5]

/-- The state a sequence starts from. -/
def St.zero : St where
  qp := fun _ _ => 0
  kp := fun _ _ => 0
  c := fun _ _ _ => 0
  n := fun _ _ => 0
  m := fun _ => 0

end Cert.Mlstm

namespace Cert.KernelIdeal.Own

open Cert Cert.KernelIdeal Cert.KernelIdeal.Gen Idealize.ShloMosaic Idealize.ShloMosaic.TcCoe Idealize.SL.Sem

/-- A block's windows. -/
def inOf (x0 : Vec Ideal S128x1024 .f32) (x1 : Vec Ideal S128x1024 .f32) (x2 : Vec Ideal S128x2048 .f32) (x3 : Vec Ideal S128x2048 .f32)
    (x4 : Vec Ideal S128x128 .f32) (x5 : Vec Ideal S4x2048 .f32) (x6 : Vec Ideal S1x2048 .f32) (x7 : Vec Ideal S1x128 .f32)
    (x8 : Vec Ideal S1x2048 .f32) (x9 : Vec Ideal S128x128 .bf16) : Mlstm.In where
  x0 := fun p j => x0 (ix2 p j)
  x1 := fun p j => x1 (ix2 p j)
  x2 := fun p j => x2 (ix2 p j)
  x3 := fun p j => x3 (ix2 p j)
  g := fun p j => (x4 (ix2 p j) : EReal) + x7 (ix2 0 j)
  wq := fun i j => x5 (ix2 i (⟨j.val, by omega⟩ : Fin 2048))
  wk := fun i j => x5 (ix2 i (⟨1024 + j.val, by omega⟩ : Fin 2048))
  bq := fun j => x6 (ix2 0 (⟨j.val, by omega⟩ : Fin 2048))
  bk := fun j => x6 (ix2 0 (⟨1024 + j.val, by omega⟩ : Fin 2048))
  w := fun j => x8 (ix2 0 j)
  t := fun p x => x9 (ix2 p x)

/-- What the carried buffers hold. -/
def stOf (q : Vec Ideal S136x1024 .f32) (k : Vec Ideal S136x1024 .f32) (c : Vec Ideal S4x256x512 .f32) (n : Vec Ideal S4x1x256 .f32)
    (m : Vec Ideal S4x1x1 .f32) : Mlstm.St where
  qp := fun r j => q (ix2 (⟨r.val, by omega⟩ : Fin 136) j)
  kp := fun r j => k (ix2 (⟨r.val, by omega⟩ : Fin 136) j)
  c := fun h d e => c (ix3 h d e)
  n := fun h d => n (ix3 h 0 d)
  m := fun h => m (ix3 h 0 0)

/-- Buffers that hold a state entry for entry. -/
theorem stOf_eq (q : Vec Ideal S136x1024 .f32) (k : Vec Ideal S136x1024 .f32) (c : Vec Ideal S4x256x512 .f32) (n : Vec Ideal S4x1x256 .f32)
    (m : Vec Ideal S4x1x1 .f32) (S : Mlstm.St) (hq : ∀ (r : Fin 8) (j : Fin 1024), q (ix2 (⟨r.val, by omega⟩ : Fin 136) j) = S.qp r j)
    (hk : ∀ (r : Fin 8) (j : Fin 1024), k (ix2 (⟨r.val, by omega⟩ : Fin 136) j) = S.kp r j) (hc : ∀ (h : Fin 4) (d : Fin 256) (e : Fin 512), c (ix3 h d e) = S.c h d e)
    (hn : ∀ (h : Fin 4) (d : Fin 256), n (ix3 h 0 d) = S.n h d) (hm : ∀ h : Fin 4, m (ix3 h 0 0) = S.m h) : stOf q k c n m = S :=
  Mlstm.St.eq hq hk hc hn hm

/-- A load of a whole buffer's rectangle, by where it starts. -/
theorem ldw {e : EltTy} {A B a b o0 o1 : ℕ} {v : Memref sig .tc .vmem ⟨2, ![A, B]⟩ e} (h : v.IsWhole) (x : (⟨2, ![A, B]⟩ : Shape).Idx → Elt Ideal e) (inb : ∀ i, (![o0, o1] : Fin 2 → ℕ) i + (![a, b] : Fin 2 → ℕ) i ≤ (![A, B] : Fin 2 → ℕ) i)
    (p : Fin a) (q : Fin b) (P : Fin A) (Q : Fin B) (hP : o0 + p.val = P.val) (hQ : o1 + q.val = Q.val) :
    View.readAt (Elt Ideal) v.view (Rect.unit (s := ⟨2, ![A, B]⟩) ![o0, o1] ![a, b] inb).toLoadRect (h.unread x) (ix2 p q) = x (ix2 P Q) :=
  (ld2 h x inb p q).trans (congrArg x (by congr 1 <;> exact Fin.ext (by assumption)))
/-- The same of a stack of matrices. -/
theorem ldw3 {e : EltTy} {A B C a b c o0 o1 o2 : ℕ} {v : Memref sig .tc .vmem ⟨3, ![A, B, C]⟩ e} (h : v.IsWhole) (x : (⟨3, ![A, B, C]⟩ : Shape).Idx → Elt Ideal e) (inb : ∀ i, (![o0, o1, o2] : Fin 3 → ℕ) i + (![a, b, c] : Fin 3 → ℕ) i ≤ (![A, B, C] : Fin 3 → ℕ) i)
    (p : Fin a) (q : Fin b) (r : Fin c) (P : Fin A) (Q : Fin B) (R : Fin C) (hP : o0 + p.val = P.val) (hQ : o1 + q.val = Q.val) (hR : o2 + r.val = R.val) :
    View.readAt (Elt Ideal) v.view (Rect.unit (s := ⟨3, ![A, B, C]⟩) ![o0, o1, o2] ![a, b, c] inb).toLoadRect (h.unread x) (ix3 p q r) = x (ix3 P Q R) :=
  (ld3 h x inb p q r).trans (congrArg x (by congr 1 <;> exact Fin.ext (by assumption)))
/-- A load of a stack over which one value was stored. -/
theorem ldc3 {e : EltTy} {A B C a b c o0 o1 o2 : ℕ} (v : View sig .tc .vmem ⟨3, ![A, B, C]⟩ e) (x : (⟨3, ![A, B, C]⟩ : Shape).Idx → Elt Ideal e) (inb : ∀ i, (![o0, o1, o2] : Fin 3 → ℕ) i + (![a, b, c] : Fin 3 → ℕ) i ≤ (![A, B, C] : Fin 3 → ℕ) i)
    (inb' : ∀ i, (![0, 0, 0] : Fin 3 → ℕ) i + (![A, B, C] : Fin 3 → ℕ) i ≤ (![A, B, C] : Fin 3 → ℕ) i)
    (p : Fin a) (q : Fin b) (r : Fin c) (P : Fin A) (Q : Fin B) (R : Fin C) (hP : o0 + p.val = P.val) (hQ : o1 + q.val = Q.val) (hR : o2 + r.val = R.val) :
    v.readCov (Val := Elt Ideal) [⟨Rect.unit (s := ⟨3, ![A, B, C]⟩) ![0, 0, 0] ![A, B, C] inb', x⟩] (Rect.unit (s := ⟨3, ![A, B, C]⟩) ![o0, o1, o2] ![a, b, c] inb).toLoadRect (ix3 p q r) = x (ix3 P Q R) :=
  (at3 v _ inb p q r).trans (hit3 v _ inb' x [] P Q R _ _ _ (by show 0 + P.val = o0 + p.val; omega) (by show 0 + Q.val = o1 + q.val; omega) (by show 0 + R.val = o2 + r.val; omega))

section
variable (v : View sig .tc .vmem S136x1024 .f32) (f : v.ty.Contents (Elt Ideal)) (x : Vec Ideal S128x1024 .f32) (z : Vec Ideal S8x1024 .f32)

/-- The buffer with eight rows in front after both its stores. -/
theorem extA (r : Fin 136) (j : Fin 1024) :
    v.read (Elt Ideal) (v.writes (Elt Ideal) f [⟨Rect.unit (s := S136x1024) ![8, 0] S128x1024.size inb_S136x1024_S128x1024_8_0, x⟩, ⟨Rect.unit (s := S136x1024) ![0, 0] S8x1024.size inb_S136x1024_S8x1024_0_0, z⟩]) (ix2 r j)
      = Mlstm.ext (fun r j => z (ix2 r j)) (fun p j => x (ix2 p j)) r j := by
  unfold Mlstm.ext
  split
  · next h =>
    exact (miss20 v f inb_S136x1024_S128x1024_8_0 x _ r j (Or.inl h)).trans (hit2 v f inb_S136x1024_S8x1024_0_0 z [] _ j r j (Nat.zero_add _) (Nat.zero_add _))
  · next h =>
    exact hit2 v f inb_S136x1024_S128x1024_8_0 x _ _ j r j (by show 8 + (r.val - 8) = r.val; omega) (Nat.zero_add _)

/-- The same after the one store of the block's rows. -/
theorem extB (r : Fin 136) (j : Fin 1024) :
    v.read (Elt Ideal) (v.writes (Elt Ideal) f [⟨Rect.unit (s := S136x1024) ![8, 0] S128x1024.size inb_S136x1024_S128x1024_8_0, x⟩]) (ix2 r j)
      = Mlstm.ext (fun r j => v.read (Elt Ideal) f (ix2 (⟨r.val, by omega⟩ : Fin 136) j)) (fun p j => x (ix2 p j)) r j := by
  unfold Mlstm.ext
  split
  · next h =>
    exact miss20 v f inb_S136x1024_S128x1024_8_0 x [] r j (Or.inl h)
  · next h =>
    exact hit2 v f inb_S136x1024_S128x1024_8_0 x _ _ j r j (by show 8 + (r.val - 8) = r.val; omega) (Nat.zero_add _)
end

/-- Past the eight rows it holds the block's rows whatever stands in front. -/
theorem ext_past (pr : Fin 8 → Fin 1024 → EReal) (x : Fin 128 → Fin 1024 → EReal) (r : Fin 136) (j : Fin 1024) (p : Fin 128) (h : 8 + p.val = r.val) :
    Mlstm.ext pr x r j = x p j := by
  unfold Mlstm.ext
  rw [dif_neg (by omega)]
  exact congrArg (fun p => x p j) (Fin.ext (by show r.val - 8 = p.val; omega))

theorem pay7_at (x : Vec Ideal S128x1024 .f32) (p : Fin 128) (j : Fin 1024) : (k0_pay7 x : FVec Ideal S128x1024 .f32) (ix2 p j) = x (ix2 p j) := by
  pointwise [k0_pay7]
theorem pay12_at (x : Vec Ideal S128x1024 .f32) (p : Fin 128) (j : Fin 1024) : (k0_pay12 x : FVec Ideal S128x1024 .f32) (ix2 p j) = x (ix2 p j) := by
  pointwise [k0_pay12]
theorem pay10_at (x : Vec Ideal S8x1024 .f32) (p : Fin 8) (j : Fin 1024) : (k0_pay10 x : FVec Ideal S8x1024 .f32) (ix2 p j) = x (ix2 p j) := by
  pointwise [k0_pay10]
theorem pay14_at (x : Vec Ideal S8x1024 .f32) (p : Fin 8) (j : Fin 1024) : (k0_pay14 x : FVec Ideal S8x1024 .f32) (ix2 p j) = x (ix2 p j) := by
  pointwise [k0_pay14]
theorem pay2_at (p : Fin 8) (j : Fin 1024) : (k0_pay2 : FVec Ideal S8x1024 .f32) (ix2 p j) = (0 : EReal) := by
  pointwise [k0_pay2]
theorem pay3_at (p : Fin 8) (j : Fin 1024) : (k0_pay3 : FVec Ideal S8x1024 .f32) (ix2 p j) = (0 : EReal) := by
  pointwise [k0_pay3]
theorem pay4_at (h : Fin 4) (d : Fin 256) (e : Fin 512) : (k0_pay4 : FVec Ideal S4x256x512 .f32) (ix3 h d e) = (0 : EReal) := by
  pointwise [k0_pay4]
theorem pay5_at (h : Fin 4) (d : Fin 256) : (k0_pay5 : FVec Ideal S4x1x256 .f32) (ix3 h 0 d) = (0 : EReal) := by
  pointwise [k0_pay5]
theorem pay6_at (h : Fin 4) : (k0_pay6 : FVec Ideal S4x1x1 .f32) (ix3 h 0 0) = (0 : EReal) := by
  pointwise [k0_pay6]

/-- The convolution's four products, each factor read. -/
theorem conv_eq {w : Fin 4 → Fin 1024 → EReal} {b : Fin 1024 → EReal} {pr : Fin 8 → Fin 1024 → EReal} {x : Fin 128 → Fin 1024 → EReal} {p : Fin 128} {j : Fin 1024}
    {b' w0 w1 w2 w3 y0 y1 y2 y3 : EReal} (hb : b' = b j) (h0 : w0 = w 0 j) (h1 : w1 = w 1 j) (h2 : w2 = w 2 j) (h3 : w3 = w 3 j)
    (k0 : y0 = Mlstm.ext pr x (⟨5 + p.val, by omega⟩ : Fin 136) j) (k1 : y1 = Mlstm.ext pr x (⟨6 + p.val, by omega⟩ : Fin 136) j)
    (k2 : y2 = Mlstm.ext pr x (⟨7 + p.val, by omega⟩ : Fin 136) j) (k3 : y3 = Mlstm.ext pr x (⟨8 + p.val, by omega⟩ : Fin 136) j) :
    b' + w0 * y0 + w1 * y1 + w2 * y2 + w3 * y3 = Mlstm.conv w b pr x p j := by
  subst hb h0 h1 h2 h3 k0 k1 k2 k3
  rfl

/-- The convolved rows. -/
theorem conv_at (b w0 w1 w2 w3 : Vec Ideal S1x1024 .f32) (y0 y1 y2 y3 : Vec Ideal S128x1024 .f32) (p : Fin 128) (j : Fin 1024) :
    (k0_pay11 (k0_pay8 b w0 y0 w1 y1 w2 y2) (k0_pay9 w3) y3 : FVec Ideal S128x1024 .f32) (ix2 p j)
      = Mlstm.silu (b (ix2 0 j) + w0 (ix2 0 j) * y0 (ix2 p j) + w1 (ix2 0 j) * y1 (ix2 p j) + w2 (ix2 0 j) * y2 (ix2 p j) + w3 (ix2 0 j) * y3 (ix2 p j) : EReal) := by
  unfold Mlstm.silu
  pointwise [k0_pay11, k0_pay8, k0_pay9]
/-- The convolved rows but for the last. -/
theorem conv3_at (b w0 w1 w2 : Vec Ideal S1x1024 .f32) (y0 y1 y2 : Vec Ideal S128x1024 .f32) (p : Fin 128) (j : Fin 1024) :
    (k0_pay13 b w0 y0 w1 y1 w2 y2 : FVec Ideal S128x1024 .f32) (ix2 p j)
      = (b (ix2 0 j) + w0 (ix2 0 j) * y0 (ix2 p j) + w1 (ix2 0 j) * y1 (ix2 p j) + w2 (ix2 0 j) * y2 (ix2 p j) : EReal) := by
  pointwise [k0_pay13]
theorem pay16_at (x : Vec Ideal S128x128 .f32) (b : Vec Ideal S1x128 .f32) (p : Fin 128) (j : Fin 128) :
    (k0_pay16 x b : FVec Ideal S128x128 .f32) (ix2 p j) = (x (ix2 p j) + b (ix2 0 j) : EReal) := by
  pointwise [k0_pay16]

end Cert.KernelIdeal.Own
-- ==== Proof.KernelBlock.lean ====
module

public import proofs.«01_k».proof.Proof.KernelStep
public import proofs.«01_k».proof.Proof.KernelSeq

@[expose] public section

set_option maxRecDepth 16384

noncomputable section

/-! A block's step on its windows is the sequence's step on the arguments. -/

namespace Cert.Mlstm

open Idealize.ShloMosaic

namespace Args
variable (A : Args)

/-- What is carried into block `n` of a sequence. -/
def stt (b : Fin 4) : ℕ → St
  | 0 => St.zero
  | n + 1 =>
    { qp := fun r j => A.z b (at_ (128 * n + 120 + r.val)) (⟨j.val, by omega⟩ : Fin 6152)
      kp := fun r j => A.z b (at_ (128 * n + 120 + r.val)) (⟨1024 + j.val, by omega⟩ : Fin 6152)
      c := fun h => (A.st b h (n + 1)).c
      n := fun h => (A.st b h (n + 1)).n
      m := fun h => (A.st b h (n + 1)).m }

theorem stt_c (b h : Fin 4) (n : ℕ) : (A.stt b n).c h = (A.st b h n).c := by cases n <;> rfl
theorem stt_n (b h : Fin 4) (n : ℕ) : (A.stt b n).n h = (A.st b h n).n := by cases n <;> rfl
theorem stt_m (b h : Fin 4) (n : ℕ) : (A.stt b n).m h = (A.st b h n).m := by cases n <;> rfl

/-- What it is for a block to have read the arguments. -/
structure Reads (I : In) (b : Fin 4) (n : ℕ) : Prop where
  x0 : ∀ (p : Fin 128) (j : Fin 1024), I.x0 p j = A.z b (pos n p) (⟨j.val, by omega⟩ : Fin 6152)
  x1 : ∀ (p : Fin 128) (j : Fin 1024), I.x1 p j = A.z b (pos n p) (⟨1024 + j.val, by omega⟩ : Fin 6152)
  x2 : ∀ (p : Fin 128) (j : Fin 2048), I.x2 p j = A.z b (pos n p) (⟨2048 + j.val, by omega⟩ : Fin 6152)
  x3 : ∀ (p : Fin 128) (j : Fin 2048), I.x3 p j = A.z b (pos n p) (⟨4096 + j.val, by omega⟩ : Fin 6152)
  g : ∀ (p : Fin 128) (l : Fin 8), I.g p (⟨l.val, by omega⟩ : Fin 128) = A.z b (pos n p) (⟨6144 + l.val, by omega⟩ : Fin 6152) + A.gb l
  wq : ∀ (k : Fin 4) (j : Fin 1024), I.wq k j = A.cw k (⟨j.val, by omega⟩ : Fin 2048)
  wk : ∀ (k : Fin 4) (j : Fin 1024), I.wk k j = A.cw k (⟨1024 + j.val, by omega⟩ : Fin 2048)
  bq : ∀ j : Fin 1024, I.bq j = A.cb (⟨j.val, by omega⟩ : Fin 2048)
  bk : ∀ j : Fin 1024, I.bk j = A.cb (⟨1024 + j.val, by omega⟩ : Fin 2048)
  w : ∀ j : Fin 2048, I.w j = A.ng j
  t : ∀ p x : Fin 128, I.t p x = if x ≤ p then 1 else 0

theorem ext_row (b : Fin 4) (n : ℕ) (pr : Fin 8 → Fin 1024 → EReal) (x : Fin 128 → Fin 1024 → EReal) (j : Fin 1024) (J : Fin 2048)
    (h0 : n = 0 → ∀ r, pr r j = 0) (h1 : ∀ k, n = k + 1 → ∀ r, pr r j = A.z b (at_ (128 * k + 120 + r.val)) (⟨J.val, by omega⟩ : Fin 6152))
    (hx : ∀ p, x p j = A.z b (pos n p) (⟨J.val, by omega⟩ : Fin 6152)) (R : Fin 136) (s : ℕ) (hR : 128 * n + R.val = 5 + s) (h5 : 5 ≤ R.val) :
    ext pr x R j = A.row b s J := by
  unfold ext row
  by_cases h : R.val < 8
  · rw [dif_pos h]
    rcases Nat.eq_zero_or_pos n with hn | hn
    · rw [h0 hn, if_neg (by subst hn; omega)]
    · obtain ⟨k, hk⟩ : ∃ k, n = k + 1 := ⟨n - 1, by omega⟩
      rw [h1 k hk, if_pos (by omega)]
      exact congrArg (fun u => A.z b (at_ u) _) (by show 128 * k + 120 + R.val = s - 3; omega)
  · rw [dif_neg h, hx, if_pos (by omega)]
    exact congrArg (fun u => A.z b (at_ u) _) (by show 128 * n + (R.val - 8) = s - 3; omega)

variable {A} {I : In} {b : Fin 4} {n : ℕ} (H : A.Reads I b n)
include H

theorem convq (p : Fin 128) (j : Fin 1024) :
    conv I.wq I.bq (A.stt b n).qp I.x0 p j = A.cv b (128 * n + p.val) (⟨j.val, by omega⟩ : Fin 2048) := by
  have e := fun (R : Fin 136) (s : ℕ) => A.ext_row b n (A.stt b n).qp I.x0 j (⟨j.val, by omega⟩ : Fin 2048) (fun hn r => by subst hn; rfl)
    (fun k hk r => by subst hk; rfl) (fun p => H.x0 p j) R s
  unfold conv cv
  rw [e (⟨5 + p.val, by omega⟩ : Fin 136) (128 * n + p.val) (by show 128 * n + (5 + p.val) = _; omega) (by show 5 ≤ 5 + p.val; omega),
    e (⟨6 + p.val, by omega⟩ : Fin 136) (128 * n + p.val + 1) (by show 128 * n + (6 + p.val) = _; omega) (by show 5 ≤ 6 + p.val; omega),
    e (⟨7 + p.val, by omega⟩ : Fin 136) (128 * n + p.val + 2) (by show 128 * n + (7 + p.val) = _; omega) (by show 5 ≤ 7 + p.val; omega),
    e (⟨8 + p.val, by omega⟩ : Fin 136) (128 * n + p.val + 3) (by show 128 * n + (8 + p.val) = _; omega) (by show 5 ≤ 8 + p.val; omega),
    H.bq, H.wq, H.wq, H.wq, H.wq]

theorem convk (p : Fin 128) (j : Fin 1024) :
    conv I.wk I.bk (A.stt b n).kp I.x1 p j = A.cv b (128 * n + p.val) (⟨1024 + j.val, by omega⟩ : Fin 2048) := by
  have e := fun (R : Fin 136) (s : ℕ) => A.ext_row b n (A.stt b n).kp I.x1 j (⟨1024 + j.val, by omega⟩ : Fin 2048) (fun hn r => by subst hn; rfl)
    (fun k hk r => by subst hk; rfl) (fun p => H.x1 p j) R s
  unfold conv cv
  rw [e (⟨5 + p.val, by omega⟩ : Fin 136) (128 * n + p.val) (by show 128 * n + (5 + p.val) = _; omega) (by show 5 ≤ 5 + p.val; omega),
    e (⟨6 + p.val, by omega⟩ : Fin 136) (128 * n + p.val + 1) (by show 128 * n + (6 + p.val) = _; omega) (by show 5 ≤ 6 + p.val; omega),
    e (⟨7 + p.val, by omega⟩ : Fin 136) (128 * n + p.val + 2) (by show 128 * n + (7 + p.val) = _; omega) (by show 5 ≤ 7 + p.val; omega),
    e (⟨8 + p.val, by omega⟩ : Fin 136) (128 * n + p.val + 3) (by show 128 * n + (8 + p.val) = _; omega) (by show 5 ≤ 8 + p.val; omega),
    H.bk, H.wk, H.wk, H.wk, H.wk]

theorem gate_i (h : Fin 4) (p : Fin 128) : I.g p (⟨h.val, by omega⟩ : Fin 128) = A.gi b h (pos n p) := H.g p ⟨h.val, by omega⟩
theorem gate_f (h : Fin 4) (p : Fin 128) : I.g p (⟨4 + h.val, by omega⟩ : Fin 128) = A.gf b h (pos n p) := H.g p ⟨4 + h.val, by omega⟩

theorem tsum_eq (h : Fin 4) (p : Fin 128) : tsum I.t (fun x => lfg (I.g x (⟨4 + h.val, by omega⟩ : Fin 128))) p
    = ∑ x : Fin 128, if x ≤ p then lfg (A.gf b h (pos n x)) else 0 := by
  unfold tsum
  have e : ∑ x : Fin 128, I.t p x * (lfg (I.g x (⟨4 + h.val, by omega⟩ : Fin 128)) - lfg (I.g x (⟨4 + h.val, by omega⟩ : Fin 128))) = 0 :=
    Finset.sum_eq_zero fun x _ => by rw [lfg_sub, mul_zero]
  refine (congrArg (fun u => _ + u) e).trans ((add_zero _).trans (Finset.sum_congr rfl fun x _ => ?_))
  show I.t p x * lfg (I.g x (⟨4 + h.val, by omega⟩ : Fin 128)) = _
  rw [H.t, gate_f H]
  by_cases hx : x ≤ p
  · rw [if_pos hx, if_pos hx, one_mul]
  · rw [if_neg hx, if_neg hx, zero_mul]

/-- The head's step. -/
theorem hd_eq (h : Fin 4) : I.hd (A.stt b n) h = A.hd b h n (A.st b h n) :=
  Hd.eq (fun p d => congrArg silu (convq H p ⟨256 * h.val + d.val, by omega⟩))
    (fun p d => congrArg (fun u => silu u * Ideal.ofBits FTy.f32 1031798784#32) (convk H p ⟨256 * h.val + d.val, by omega⟩))
    (fun p e => H.x2 p ⟨512 * h.val + e.val, by omega⟩)
    (fun p => congrArg cap (gate_i H h p)) (fun p => tsum_eq H h p)
    (fun d e => congrFun (congrFun (A.stt_c b h n) d) e) (fun d => congrFun (A.stt_n b h n) d) (A.stt_m b h n)

/-- What a block leaves is what the next one finds. -/
theorem next_eq : I.next (A.stt b n) = A.stt b (n + 1) :=
  St.eq (fun r j => (H.x0 ⟨120 + r.val, by omega⟩ j).trans (congrArg (fun u => A.z b (at_ u) _) (Nat.add_assoc _ _ _).symm))
    (fun r j => (H.x1 ⟨120 + r.val, by omega⟩ j).trans (congrArg (fun u => A.z b (at_ u) _) (Nat.add_assoc _ _ _).symm))
    (fun h d e => by show (I.hd (A.stt b n) h).c' d e = (A.hd b h n (A.st b h n)).c' d e; rw [hd_eq H])
    (fun h d => by show (I.hd (A.stt b n) h).n' d = (A.hd b h n (A.st b h n)).n' d; rw [hd_eq H])
    (fun h => by show (I.hd (A.stt b n) h).m' = (A.hd b h n (A.st b h n)).m'; rw [hd_eq H])

/-- The block's results. -/
theorem out_eq (h : Fin 4) (p : Fin 128) (e : Fin 512) : I.out (A.stt b n) h p e = A.res b h n p e := by
  unfold In.out res
  rw [hd_eq H]
  have e1 : (fun e : Fin 512 => I.w (⟨512 * h.val + e.val, by omega⟩ : Fin 2048)) = fun e => A.ng (⟨512 * h.val + e.val, by omega⟩ : Fin 2048) :=
    funext fun e => H.w _
  have e2 : (fun (p : Fin 128) (e : Fin 512) => I.x3 p (⟨512 * h.val + e.val, by omega⟩ : Fin 2048))
      = fun p e => A.z b (pos n p) (⟨4096 + (512 * h.val + e.val), by omega⟩ : Fin 6152) := funext fun p => funext fun e => H.x3 p _
  rw [e1, e2]

end Args

end Cert.Mlstm

end
-- ==== Proof.KernelBlockA.lean ====
module

public import proofs.«01_k».proof.Proof.KernelLoad

@[expose] public section

set_option maxRecDepth 16384

noncomputable section

/-! The mLSTM kernel's block that starts a sequence: what its arithmetic reads, and the stores it leaves. -/

namespace Cert.KernelIdeal.Own

open Cert Cert.KernelIdeal Cert.KernelIdeal.Gen Idealize.ShloMosaic Idealize.ShloMosaic.TcCoe Idealize.SL.Sem

variable (c : Dev nD) (i : grid0.Coords) (a2 : Memref sig .tc .vmem S128x1024 .f32) (h2 : a2.IsWhole) (a3 : Memref sig .tc .vmem S128x1024 .f32) (h3 : a3.IsWhole) (a4 : Memref sig .tc .vmem S128x2048 .f32) (h4 : a4.IsWhole) (a5 : Memref sig .tc .vmem S128x2048 .f32) (h5 : a5.IsWhole) (a6 : Memref sig .tc .vmem S128x128 .f32) (h6 : a6.IsWhole) (a7 : Memref sig .tc .vmem S4x2048 .f32) (h7 : a7.IsWhole) (a8 : Memref sig .tc .vmem S1x2048 .f32) (h8 : a8.IsWhole) (a9 : Memref sig .tc .vmem S1x128 .f32) (h9 : a9.IsWhole) (a10 : Memref sig .tc .vmem S1x2048 .f32) (h10 : a10.IsWhole) (a11 : Memref sig .tc .vmem S128x128 .bf16) (h11 : a11.IsWhole) (a12 : Memref sig .tc .vmem S128x2048 .bf16) (h12 : a12.IsWhole) (a13 : Memref sig .tc .vmem S136x1024 .f32) (h13 : a13.IsWhole) (a14 : Memref sig .tc .vmem S136x1024 .f32) (h14 : a14.IsWhole) (a15 : Memref sig .tc .vmem S4x256x512 .f32) (h15 : a15.IsWhole) (a16 : Memref sig .tc .vmem S4x1x256 .f32) (h16 : a16.IsWhole) (a17 : Memref sig .tc .vmem S4x1x1 .f32) (h17 : a17.IsWhole)
  (x0 : Vec Ideal S128x1024 .f32) (x1 : Vec Ideal S128x1024 .f32) (x2 : Vec Ideal S128x2048 .f32) (x3 : Vec Ideal S128x2048 .f32) (x4 : Vec Ideal S128x128 .f32) (x5 : Vec Ideal S4x2048 .f32) (x6 : Vec Ideal S1x2048 .f32) (x7 : Vec Ideal S1x128 .f32) (x8 : Vec Ideal S1x2048 .f32) (x9 : Vec Ideal S128x128 .bf16)

/-- What the arithmetic of such a block reads. -/
def blkA : Blk where
  q := (kernelRun0_A.sl.r_2 c a2 h2 a7 h7 a8 h8 a13 x0 x5 x6)
  k3 := (kernelRun0_A.sl.r_3 c a3 h3 a7 h7 a8 h8 a14 x1 x5 x6)
  kw := (View.readAt (Elt Ideal) a7.view (Rect.unit (s := S4x2048) ![3, 1024] S1x1024.size inb_S4x2048_S1x1024_3_1024).toLoadRect (h7.unread x5))
  ke := (kernelRun0_A.sl.v69 c a3 h3 a14 x1)
  g := (kernelRun0_A.sl.r_4 c a6 h6 a9 h9 x4 x7)
  tr := (kernelRun0_A.sl.r_5 c a11 h11 x9)
  v0 := (View.readAt (Elt Ideal) a4.view (Rect.unit (s := S128x2048) ![0, 0] S128x512.size inb_S128x2048_S128x512_0_0).toLoadRect (h4.unread x2))
  m0 := (kernelRun0_A.sl.v324 (F := Ideal) c a17)
  c0 := (kernelRun0_A.sl.v388 (F := Ideal) c a15)
  n0 := (kernelRun0_A.sl.v396 (F := Ideal) c a16)
  v1 := (View.readAt (Elt Ideal) a4.view (Rect.unit (s := S128x2048) ![0, 512] S128x512.size inb_S128x2048_S128x512_0_512).toLoadRect (h4.unread x2))
  m1 := (kernelRun0_A.sl.v326 (F := Ideal) c a17)
  c1 := (kernelRun0_A.sl.v390 (F := Ideal) c a15)
  n1 := (kernelRun0_A.sl.v398 (F := Ideal) c a16)
  v2 := (View.readAt (Elt Ideal) a4.view (Rect.unit (s := S128x2048) ![0, 1024] S128x512.size inb_S128x2048_S128x512_0_1024).toLoadRect (h4.unread x2))
  m2 := (kernelRun0_A.sl.v328 (F := Ideal) c a17)
  c2 := (kernelRun0_A.sl.v392 (F := Ideal) c a15)
  n2 := (kernelRun0_A.sl.v400 (F := Ideal) c a16)
  v3 := (View.readAt (Elt Ideal) a4.view (Rect.unit (s := S128x2048) ![0, 1536] S128x512.size inb_S128x2048_S128x512_0_1536).toLoadRect (h4.unread x2))
  m3 := (kernelRun0_A.sl.v330 (F := Ideal) c a17)
  c3 := (kernelRun0_A.sl.v394 (F := Ideal) c a15)
  n3 := (kernelRun0_A.sl.v402 (F := Ideal) c a16)
  w3 := (View.readAt (Elt Ideal) a10.view (Rect.unit (s := S1x2048) ![0, 1536] S1x512.size inb_S1x2048_S1x512_0_1536).toLoadRect (h10.unread x8))
  o3 := (View.readAt (Elt Ideal) a5.view (Rect.unit (s := S128x2048) ![0, 1536] S128x512.size inb_S128x2048_S128x512_0_1536).toLoadRect (h5.unread x3))
  w2 := (View.readAt (Elt Ideal) a10.view (Rect.unit (s := S1x2048) ![0, 1024] S1x512.size inb_S1x2048_S1x512_0_1024).toLoadRect (h10.unread x8))
  o2 := (View.readAt (Elt Ideal) a5.view (Rect.unit (s := S128x2048) ![0, 1024] S128x512.size inb_S128x2048_S128x512_0_1024).toLoadRect (h5.unread x3))
  w0 := (View.readAt (Elt Ideal) a10.view (Rect.unit (s := S1x2048) ![0, 0] S1x512.size inb_S1x2048_S1x512_0_0).toLoadRect (h10.unread x8))
  o0 := (View.readAt (Elt Ideal) a5.view (Rect.unit (s := S128x2048) ![0, 0] S128x512.size inb_S128x2048_S128x512_0_0).toLoadRect (h5.unread x3))
  w1 := (View.readAt (Elt Ideal) a10.view (Rect.unit (s := S1x2048) ![0, 512] S1x512.size inb_S1x2048_S1x512_0_512).toLoadRect (h10.unread x8))
  o1 := (View.readAt (Elt Ideal) a5.view (Rect.unit (s := S128x2048) ![0, 512] S128x512.size inb_S128x2048_S128x512_0_512).toLoadRect (h5.unread x3))
theorem eA6 : kernelRun0_A.sl.r_6 c a2 h2 a7 h7 a8 h8 a13 x0 x5 x6 = s6 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_6 s6
  rfl
theorem eA7 : kernelRun0_A.sl.r_7 c a2 h2 a7 h7 a8 h8 a13 x0 x5 x6 = s7 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_7 s7
  rfl
theorem eA8 : kernelRun0_A.sl.r_8 c a2 h2 a7 h7 a8 h8 a13 x0 x5 x6 = s8 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_8 s8
  rfl
theorem eA9 : kernelRun0_A.sl.r_9 c a2 h2 a7 h7 a8 h8 a13 x0 x5 x6 = s9 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_9 s9
  rfl
theorem eA10 : kernelRun0_A.sl.r_10 c a3 h3 a7 h7 a8 h8 a14 x1 x5 x6 = s10 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_10 s10
  rfl
theorem eA11 : kernelRun0_A.sl.r_11 c a3 h3 a7 h7 a8 h8 a14 x1 x5 x6 = s11 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_11 s11
  rfl
theorem eA12 : kernelRun0_A.sl.r_12 c a3 h3 a7 h7 a8 h8 a14 x1 x5 x6 = s12 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_12 s12
  rfl
theorem eA13 : kernelRun0_A.sl.r_13 c a3 h3 a7 h7 a8 h8 a14 x1 x5 x6 = s13 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_13 s13
  rfl
theorem eA14 : kernelRun0_A.sl.r_14 c a4 h4 x2 = s14 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_14 s14
  rfl
theorem eA15 : kernelRun0_A.sl.r_15 c a4 h4 x2 = s15 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_15 s15
  rfl
theorem eA16 : kernelRun0_A.sl.r_16 c a4 h4 x2 = s16 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_16 s16
  rfl
theorem eA17 : kernelRun0_A.sl.r_17 c a4 h4 x2 = s17 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_17 s17
  rfl
theorem eA18 : kernelRun0_A.sl.r_18 c a6 h6 a9 h9 x4 x7 = s18 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_18 s18
  rfl
theorem eA19 : kernelRun0_A.sl.r_19 c a6 h6 a9 h9 x4 x7 = s19 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_19 s19
  rfl
theorem eA20 : kernelRun0_A.sl.r_20 c a6 h6 a9 h9 x4 x7 = s20 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_20 s20
  rfl
theorem eA21 : kernelRun0_A.sl.r_21 c a6 h6 a9 h9 x4 x7 = s21 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_21 s21
  rfl
theorem eA22 : kernelRun0_A.sl.r_22 c a6 h6 a9 h9 x4 x7 = s22 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_22 s22
  rfl
theorem eA23 : kernelRun0_A.sl.r_23 c a6 h6 a9 h9 x4 x7 = s23 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_23 s23
  rfl
theorem eA24 : kernelRun0_A.sl.r_24 c a6 h6 a9 h9 x4 x7 = s24 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_24 s24
  rfl
theorem eA25 : kernelRun0_A.sl.r_25 c a6 h6 a9 h9 x4 x7 = s25 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_25 s25
  rfl
theorem eA26 : kernelRun0_A.sl.r_26 c a6 h6 a9 h9 x4 x7 = s26 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_26 s26
  rw [eA18]
  all_goals rfl
theorem eA27 : kernelRun0_A.sl.r_27 c a6 h6 a9 h9 x4 x7 = s27 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_27 s27
  rw [eA19]
  all_goals rfl
theorem eA28 : kernelRun0_A.sl.r_28 c a6 h6 a9 h9 x4 x7 = s28 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_28 s28
  rw [eA20]
  all_goals rfl
theorem eA29 : kernelRun0_A.sl.r_29 c a6 h6 a9 h9 x4 x7 = s29 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_29 s29
  rw [eA21]
  all_goals rfl
theorem eA30 : kernelRun0_A.sl.r_30 c a6 h6 a9 h9 x4 x7 = s30 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_30 s30
  rw [eA22]
  all_goals rfl
theorem eA31 : kernelRun0_A.sl.r_31 c a6 h6 a9 h9 x4 x7 = s31 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_31 s31
  rw [eA22]
  all_goals rfl
theorem eA32 : kernelRun0_A.sl.r_32 c a6 h6 a9 h9 x4 x7 = s32 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_32 s32
  rw [eA30, eA31]
  all_goals rfl
theorem eA33 : kernelRun0_A.sl.r_33 c a6 h6 a9 h9 x4 x7 = s33 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_33 s33
  rw [eA23]
  all_goals rfl
theorem eA34 : kernelRun0_A.sl.r_34 c a6 h6 a9 h9 x4 x7 = s34 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_34 s34
  rw [eA24]
  all_goals rfl
theorem eA35 : kernelRun0_A.sl.r_35 c a6 h6 a9 h9 x4 x7 = s35 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_35 s35
  rw [eA25]
  all_goals rfl
theorem eA36 : kernelRun0_A.sl.r_36 c a6 h6 a9 h9 a11 h11 x4 x7 x9 = s36 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_36 s36
  rw [eA32]
  all_goals rfl
theorem eA37 : kernelRun0_A.sl.r_37 c a6 h6 a9 h9 a11 h11 x4 x7 x9 = s37 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_37 s37
  rw [eA33]
  all_goals rfl
theorem eA38 : kernelRun0_A.sl.r_38 c a6 h6 a9 h9 a11 h11 x4 x7 x9 = s38 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_38 s38
  rw [eA34]
  all_goals rfl
theorem eA39 : kernelRun0_A.sl.r_39 c a6 h6 a9 h9 a11 h11 x4 x7 x9 = s39 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_39 s39
  rw [eA34]
  all_goals rfl
theorem eA40 : kernelRun0_A.sl.r_40 c a6 h6 a9 h9 a11 h11 x4 x7 x9 = s40 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_40 s40
  rw [eA36]
  all_goals rfl
theorem eA41 : kernelRun0_A.sl.r_41 c a6 h6 a9 h9 a11 h11 x4 x7 x9 = s41 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_41 s41
  rw [eA37]
  all_goals rfl
theorem eA42 : kernelRun0_A.sl.r_42 c a6 h6 a9 h9 a11 h11 x4 x7 x9 = s42 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_42 s42
  rw [eA38, eA39]
  all_goals rfl
theorem eA43 : kernelRun0_A.sl.r_43 c a6 h6 a9 h9 a11 h11 x4 x7 x9 = s43 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_43 s43
  rw [eA35]
  all_goals rfl
theorem eA44 : kernelRun0_A.sl.r_44 c a6 h6 a9 h9 a11 h11 x4 x7 x9 = s44 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_44 s44
  rw [eA26, eA36]
  all_goals rfl
theorem eA45 : kernelRun0_A.sl.r_45 c a6 h6 a9 h9 a11 h11 x4 x7 x9 = s45 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_45 s45
  rw [eA27, eA37]
  all_goals rfl
theorem eA46 : kernelRun0_A.sl.r_46 c a6 h6 a9 h9 a11 h11 x4 x7 x9 = s46 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_46 s46
  rw [eA28, eA38, eA39]
  all_goals rfl
theorem eA47 : kernelRun0_A.sl.r_47 c a6 h6 a9 h9 a11 h11 x4 x7 x9 = s47 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_47 s47
  rw [eA29, eA35]
  all_goals rfl
theorem eA48 : kernelRun0_A.sl.r_48 c a17 = s48 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_48 s48
  rfl
theorem eA49 : kernelRun0_A.sl.r_49 c a17 = s49 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_49 s49
  rfl
theorem eA50 : kernelRun0_A.sl.r_50 c a17 = s50 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_50 s50
  rfl
theorem eA51 : kernelRun0_A.sl.r_51 c a17 = s51 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_51 s51
  rfl
theorem eA52 : kernelRun0_A.sl.r_52 c a6 h6 a9 h9 a11 h11 a17 x4 x7 x9 = s52 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_52 s52
  rw [eA40, eA48]
  all_goals rfl
theorem eA53 : kernelRun0_A.sl.r_53 c a6 h6 a9 h9 a11 h11 a17 x4 x7 x9 = s53 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_53 s53
  rw [eA41]
  all_goals rfl
theorem eA54 : kernelRun0_A.sl.r_54 c a6 h6 a9 h9 a11 h11 a17 x4 x7 x9 = s54 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_54 s54
  rw [eA42]
  all_goals rfl
theorem eA55 : kernelRun0_A.sl.r_55 c a6 h6 a9 h9 a11 h11 a17 x4 x7 x9 = s55 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_55 s55
  rw [eA43]
  all_goals rfl
theorem eA56 : kernelRun0_A.sl.r_56 c a6 h6 a9 h9 a11 h11 a17 x4 x7 x9 = s56 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_56 s56
  rw [eA40, eA44, eA48]
  all_goals rfl
theorem eA57 : kernelRun0_A.sl.r_57 c a6 h6 a9 h9 a11 h11 a17 x4 x7 x9 = s57 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_57 s57
  rw [eA41, eA45]
  all_goals rfl
theorem eA58 : kernelRun0_A.sl.r_58 c a6 h6 a9 h9 a11 h11 a17 x4 x7 x9 = s58 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_58 s58
  rw [eA42, eA46]
  all_goals rfl
theorem eA59 : kernelRun0_A.sl.r_59 c a6 h6 a9 h9 a11 h11 a17 x4 x7 x9 = s59 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_59 s59
  rw [eA43, eA47]
  all_goals rfl
theorem eA60 : kernelRun0_A.sl.r_60 c a2 h2 a3 h3 a6 h6 a7 h7 a8 h8 a9 h9 a11 h11 a13 a14 a17 x0 x1 x4 x5 x6 x7 x9 = s60 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_60 s60
  rw [eA6, eA10, eA40, eA44, eA48]
  all_goals rfl
theorem eA61 : kernelRun0_A.sl.r_61 c a2 h2 a3 h3 a6 h6 a7 h7 a8 h8 a9 h9 a11 h11 a13 a14 a17 x0 x1 x4 x5 x6 x7 x9 = s61 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_61 s61
  rw [eA7, eA11, eA41, eA45]
  all_goals rfl
theorem eA62 : kernelRun0_A.sl.r_62 c a2 h2 a3 h3 a6 h6 a7 h7 a8 h8 a9 h9 a11 h11 a13 a14 a17 x0 x1 x4 x5 x6 x7 x9 = s62 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_62 s62
  rw [eA8, eA12, eA42, eA46]
  all_goals rfl
theorem eA63 : kernelRun0_A.sl.r_63 c a2 h2 a3 h3 a6 h6 a7 h7 a8 h8 a9 h9 a11 h11 a13 a14 a17 x0 x1 x4 x5 x6 x7 x9 = s63 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_63 s63
  rw [eA9, eA13, eA47, eA59]
  all_goals rfl
theorem eA64 : kernelRun0_A.sl.r_64 c a6 h6 a9 h9 a11 h11 a17 x4 x7 x9 = s64 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_64 s64
  rw [eA52, eA56]
  all_goals rfl
theorem eA65 : kernelRun0_A.sl.r_65 c a6 h6 a9 h9 a11 h11 a17 x4 x7 x9 = s65 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_65 s65
  rw [eA53, eA57]
  all_goals rfl
theorem eA66 : kernelRun0_A.sl.r_66 c a6 h6 a9 h9 a11 h11 a17 x4 x7 x9 = s66 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_66 s66
  rw [eA54, eA58]
  all_goals rfl
theorem eA67 : kernelRun0_A.sl.r_67 c a6 h6 a9 h9 a11 h11 a17 x4 x7 x9 = s67 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_67 s67
  rw [eA55, eA59]
  all_goals rfl
theorem eA68 : kernelRun0_A.sl.r_68 c a15 = s68 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_68 s68
  rfl
theorem eA69 : kernelRun0_A.sl.r_69 c a15 = s69 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_69 s69
  rfl
theorem eA70 : kernelRun0_A.sl.r_70 c a15 = s70 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_70 s70
  rfl
theorem eA71 : kernelRun0_A.sl.r_71 c a15 = s71 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_71 s71
  rfl
theorem eA72 : kernelRun0_A.sl.r_72 c a16 = s72 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_72 s72
  rfl
theorem eA73 : kernelRun0_A.sl.r_73 c a16 = s73 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_73 s73
  rfl
theorem eA74 : kernelRun0_A.sl.r_74 c a16 = s74 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_74 s74
  rfl
theorem eA75 : kernelRun0_A.sl.r_75 c a16 = s75 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_75 s75
  rfl
theorem eA76 : kernelRun0_A.sl.r_76 c a2 h2 a3 h3 a4 h4 a6 h6 a7 h7 a8 h8 a9 h9 a11 h11 a13 a14 a17 x0 x1 x2 x4 x5 x6 x7 x9 = s76 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_76 s76
  rw [eA14, eA60]
  all_goals rfl
theorem eA77 : kernelRun0_A.sl.r_77 c a2 h2 a3 h3 a4 h4 a6 h6 a7 h7 a8 h8 a9 h9 a11 h11 a13 a14 a15 a17 x0 x1 x2 x4 x5 x6 x7 x9 = s77 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_77 s77
  rw [eA6, eA64, eA68, eA76]
  all_goals rfl
theorem eA78 : kernelRun0_A.sl.r_78 c a2 h2 a3 h3 a4 h4 a6 h6 a7 h7 a8 h8 a9 h9 a11 h11 a13 a14 a15 a17 x0 x1 x2 x4 x5 x6 x7 x9 = s78 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_78 s78
  rw [eA7, eA15, eA61, eA65, eA69]
  all_goals rfl
theorem eA79 : kernelRun0_A.sl.r_79 c a2 h2 a3 h3 a4 h4 a6 h6 a7 h7 a8 h8 a9 h9 a11 h11 a13 a14 a15 a17 x0 x1 x2 x4 x5 x6 x7 x9 = s79 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_79 s79
  rw [eA8, eA16, eA62, eA66, eA70]
  all_goals rfl
theorem eA80 : kernelRun0_A.sl.r_80 c a2 h2 a3 h3 a4 h4 a6 h6 a7 h7 a8 h8 a9 h9 a11 h11 a13 a14 a15 a17 x0 x1 x2 x4 x5 x6 x7 x9 = s80 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_80 s80
  rw [eA9, eA17, eA63, eA67, eA71]
  all_goals rfl
theorem eA81 : kernelRun0_A.sl.r_81 c a2 h2 a3 h3 a6 h6 a7 h7 a8 h8 a9 h9 a11 h11 a13 a14 a16 a17 x0 x1 x4 x5 x6 x7 x9 = s81 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_81 s81
  rw [eA6, eA60, eA64, eA72]
  all_goals rfl
theorem eA82 : kernelRun0_A.sl.r_82 c a2 h2 a3 h3 a6 h6 a7 h7 a8 h8 a9 h9 a11 h11 a13 a14 a16 a17 x0 x1 x4 x5 x6 x7 x9 = s82 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_82 s82
  rw [eA7, eA61, eA65, eA73]
  all_goals rfl
theorem eA83 : kernelRun0_A.sl.r_83 c a2 h2 a3 h3 a6 h6 a7 h7 a8 h8 a9 h9 a11 h11 a13 a14 a16 a17 x0 x1 x4 x5 x6 x7 x9 = s83 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_83 s83
  rw [eA8, eA62, eA66, eA74]
  all_goals rfl
theorem eA84 : kernelRun0_A.sl.r_84 c a2 h2 a3 h3 a6 h6 a7 h7 a8 h8 a9 h9 a11 h11 a13 a14 a16 a17 x0 x1 x4 x5 x6 x7 x9 = s84 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_84 s84
  rw [eA9, eA63, eA67, eA75]
  all_goals rfl
theorem eA85 : kernelRun0_A.sl.r_85 c a6 h6 a9 h9 a11 h11 a17 x4 x7 x9 = s85 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_85 s85
  rw [eA26, eA40, eA48]
  all_goals rfl
theorem eA86 : kernelRun0_A.sl.r_86 c a3 h3 a6 h6 a7 h7 a8 h8 a9 h9 a11 h11 a14 a16 a17 x1 x4 x5 x6 x7 x9 = s86 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_86 s86
  rw [eA10, eA26, eA40, eA48, eA72]
  all_goals rfl
theorem eA87 : kernelRun0_A.sl.r_87 c a6 h6 a9 h9 a11 h11 a17 x4 x7 x9 = s87 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_87 s87
  rw [eA27, eA41, eA49]
  all_goals rfl
theorem eA88 : kernelRun0_A.sl.r_88 c a6 h6 a9 h9 a11 h11 x4 x7 x9 = s88 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_88 s88
  rw [eA43]
  all_goals rfl
theorem eA89 : kernelRun0_A.sl.r_89 c a6 h6 a9 h9 a11 h11 x4 x7 x9 = s89 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_89 s89
  rw [eA29, eA43]
  all_goals rfl
theorem eA90 : kernelRun0_A.sl.r_90 c a2 h2 a3 h3 a4 h4 a6 h6 a7 h7 a8 h8 a9 h9 a11 h11 a13 a14 a15 a16 a17 x0 x1 x2 x4 x5 x6 x7 x9 = s90 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_90 s90
  rw [eA56, eA77, eA81]
  all_goals rfl
theorem eA91 : kernelRun0_A.sl.r_91 c a2 h2 a3 h3 a4 h4 a6 h6 a7 h7 a8 h8 a9 h9 a11 h11 a13 a14 a15 a16 a17 x0 x1 x2 x4 x5 x6 x7 x9 = s91 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_91 s91
  rw [eA56, eA77, eA81]
  all_goals rfl
theorem eA92 : kernelRun0_A.sl.r_92 c a2 h2 a3 h3 a4 h4 a5 h5 a6 h6 a7 h7 a8 h8 a9 h9 a10 h10 a11 h11 a13 a14 a15 a16 a17 x0 x1 x2 x3 x4 x5 x6 x7 x8 x9 = s92 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_92 s92
  rw [eA57, eA78, eA82]
  all_goals rfl
theorem eA93 : kernelRun0_A.sl.r_93 c a2 h2 a3 h3 a4 h4 a6 h6 a7 h7 a8 h8 a9 h9 a11 h11 a13 a14 a15 a16 a17 x0 x1 x2 x4 x5 x6 x7 x9 = s93 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_93 s93
  rw [eA59, eA80, eA84]
  all_goals rfl
theorem eA94 : kernelRun0_A.sl.r_94 c a2 h2 a3 h3 a4 h4 a6 h6 a7 h7 a8 h8 a9 h9 a11 h11 a13 a14 a15 a16 a17 x0 x1 x2 x4 x5 x6 x7 x9 = s94 (blkA c a2 h2 a3 h3 a4 h4 a5 h5 a6 h6 a7 h7 a8 h8 a9 h9 a10 h10 a11 h11 a13 a14 a15 a16 a17 x0 x1 x2 x3 x4 x5 x6 x7 x8 x9) := by
  unfold kernelRun0_A.sl.r_94 s94
  rw [eA59, eA80, eA84]
  all_goals rfl

theorem listA_out (hc0 : cond0_0 i) : (kernelRun0_A c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9).1 = ([⟨Rect.unit (s := S128x2048) ![0, 1536] S128x512.size inb_S128x2048_S128x512_0_1536, k0_pay1 (s93 (blkA c a2 h2 a3 h3 a4 h4 a5 h5 a6 h6 a7 h7 a8 h8 a9 h9 a10 h10 a11 h11 a13 a14 a15 a16 a17 x0 x1 x2 x3 x4 x5 x6 x7 x8 x9)) (s94 (blkA c a2 h2 a3 h3 a4 h4 a5 h5 a6 h6 a7 h7 a8 h8 a9 h9 a10 h10 a11 h11 a13 a14 a15 a16 a17 x0 x1 x2 x3 x4 x5 x6 x7 x8 x9)) (blkA c a2 h2 a3 h3 a4 h4 a5 h5 a6 h6 a7 h7 a8 h8 a9 h9 a10 h10 a11 h11 a13 a14 a15 a16 a17 x0 x1 x2 x3 x4 x5 x6 x7 x8 x9).w3 (blkA c a2 h2 a3 h3 a4 h4 a5 h5 a6 h6 a7 h7 a8 h8 a9 h9 a10 h10 a11 h11 a13 a14 a15 a16 a17 x0 x1 x2 x3 x4 x5 x6 x7 x8 x9).o3⟩, ⟨Rect.unit (s := S128x2048) ![0, 1024] S128x512.size inb_S128x2048_S128x512_0_1024, k0_pay141 (s58 (blkA c a2 h2 a3 h3 a4 h4 a5 h5 a6 h6 a7 h7 a8 h8 a9 h9 a10 h10 a11 h11 a13 a14 a15 a16 a17 x0 x1 x2 x3 x4 x5 x6 x7 x8 x9)) (s79 (blkA c a2 h2 a3 h3 a4 h4 a5 h5 a6 h6 a7 h7 a8 h8 a9 h9 a10 h10 a11 h11 a13 a14 a15 a16 a17 x0 x1 x2 x3 x4 x5 x6 x7 x8 x9)) (s83 (blkA c a2 h2 a3 h3 a4 h4 a5 h5 a6 h6 a7 h7 a8 h8 a9 h9 a10 h10 a11 h11 a13 a14 a15 a16 a17 x0 x1 x2 x3 x4 x5 x6 x7 x8 x9)) (blkA c a2 h2 a3 h3 a4 h4 a5 h5 a6 h6 a7 h7 a8 h8 a9 h9 a10 h10 a11 h11 a13 a14 a15 a16 a17 x0 x1 x2 x3 x4 x5 x6 x7 x8 x9).w2 (blkA c a2 h2 a3 h3 a4 h4 a5 h5 a6 h6 a7 h7 a8 h8 a9 h9 a10 h10 a11 h11 a13 a14 a15 a16 a17 x0 x1 x2 x3 x4 x5 x6 x7 x8 x9).o2⟩, ⟨Rect.unit (s := S128x2048) ![0, 512] S128x512.size inb_S128x2048_S128x512_0_512, s92 (blkA c a2 h2 a3 h3 a4 h4 a5 h5 a6 h6 a7 h7 a8 h8 a9 h9 a10 h10 a11 h11 a13 a14 a15 a16 a17 x0 x1 x2 x3 x4 x5 x6 x7 x8 x9)⟩, ⟨Rect.unit (s := S128x2048) ![0, 0] S128x512.size inb_S128x2048_S128x512_0_0, k0_pay139 (s90 (blkA c a2 h2 a3 h3 a4 h4 a5 h5 a6 h6 a7 h7 a8 h8 a9 h9 a10 h10 a11 h11 a13 a14 a15 a16 a17 x0 x1 x2 x3 x4 x5 x6 x7 x8 x9)) (s91 (blkA c a2 h2 a3 h3 a4 h4 a5 h5 a6 h6 a7 h7 a8 h8 a9 h9 a10 h10 a11 h11 a13 a14 a15 a16 a17 x0 x1 x2 x3 x4 x5 x6 x7 x8 x9)) (blkA c a2 h2 a3 h3 a4 h4 a5 h5 a6 h6 a7 h7 a8 h8 a9 h9 a10 h10 a11 h11 a13 a14 a15 a16 a17 x0 x1 x2 x3 x4 x5 x6 x7 x8 x9).w0 (blkA c a2 h2 a3 h3 a4 h4 a5 h5 a6 h6 a7 h7 a8 h8 a9 h9 a10 h10 a11 h11 a13 a14 a15 a16 a17 x0 x1 x2 x3 x4 x5 x6 x7 x8 x9).o0⟩] : List (View.Piece (Elt Ideal) S128x2048 .bf16)) :=
  (show (kernelRun0_A c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9).1 = ([⟨Rect.unit (s := S128x2048) ![0, 1536] S128x512.size inb_S128x2048_S128x512_0_1536, k0_pay1 (kernelRun0_A.sl.r_93 c a2 h2 a3 h3 a4 h4 a6 h6 a7 h7 a8 h8 a9 h9 a11 h11 a13 a14 a15 a16 a17 x0 x1 x2 x4 x5 x6 x7 x9) (kernelRun0_A.sl.r_94 c a2 h2 a3 h3 a4 h4 a6 h6 a7 h7 a8 h8 a9 h9 a11 h11 a13 a14 a15 a16 a17 x0 x1 x2 x4 x5 x6 x7 x9) (View.readAt (Elt Ideal) a10.view (Rect.unit (s := S1x2048) ![0, 1536] S1x512.size inb_S1x2048_S1x512_0_1536).toLoadRect (h10.unread x8)) (View.readAt (Elt Ideal) a5.view (Rect.unit (s := S128x2048) ![0, 1536] S128x512.size inb_S128x2048_S128x512_0_1536).toLoadRect (h5.unread x3))⟩, ⟨Rect.unit (s := S128x2048) ![0, 1024] S128x512.size inb_S128x2048_S128x512_0_1024, k0_pay141 (kernelRun0_A.sl.r_58 c a6 h6 a9 h9 a11 h11 a17 x4 x7 x9) (kernelRun0_A.sl.r_79 c a2 h2 a3 h3 a4 h4 a6 h6 a7 h7 a8 h8 a9 h9 a11 h11 a13 a14 a15 a17 x0 x1 x2 x4 x5 x6 x7 x9) (kernelRun0_A.sl.r_83 c a2 h2 a3 h3 a6 h6 a7 h7 a8 h8 a9 h9 a11 h11 a13 a14 a16 a17 x0 x1 x4 x5 x6 x7 x9) (View.readAt (Elt Ideal) a10.view (Rect.unit (s := S1x2048) ![0, 1024] S1x512.size inb_S1x2048_S1x512_0_1024).toLoadRect (h10.unread x8)) (View.readAt (Elt Ideal) a5.view (Rect.unit (s := S128x2048) ![0, 1024] S128x512.size inb_S128x2048_S128x512_0_1024).toLoadRect (h5.unread x3))⟩, ⟨Rect.unit (s := S128x2048) ![0, 512] S128x512.size inb_S128x2048_S128x512_0_512, kernelRun0_A.sl.r_92 c a2 h2 a3 h3 a4 h4 a5 h5 a6 h6 a7 h7 a8 h8 a9 h9 a10 h10 a11 h11 a13 a14 a15 a16 a17 x0 x1 x2 x3 x4 x5 x6 x7 x8 x9⟩, ⟨Rect.unit (s := S128x2048) ![0, 0] S128x512.size inb_S128x2048_S128x512_0_0, k0_pay139 (kernelRun0_A.sl.r_90 c a2 h2 a3 h3 a4 h4 a6 h6 a7 h7 a8 h8 a9 h9 a11 h11 a13 a14 a15 a16 a17 x0 x1 x2 x4 x5 x6 x7 x9) (kernelRun0_A.sl.r_91 c a2 h2 a3 h3 a4 h4 a6 h6 a7 h7 a8 h8 a9 h9 a11 h11 a13 a14 a15 a16 a17 x0 x1 x2 x4 x5 x6 x7 x9) (View.readAt (Elt Ideal) a10.view (Rect.unit (s := S1x2048) ![0, 0] S1x512.size inb_S1x2048_S1x512_0_0).toLoadRect (h10.unread x8)) (View.readAt (Elt Ideal) a5.view (Rect.unit (s := S128x2048) ![0, 0] S128x512.size inb_S128x2048_S128x512_0_0).toLoadRect (h5.unread x3))⟩] : List (View.Piece (Elt Ideal) S128x2048 .bf16)) from rfl).trans (by
    rw [eA58, eA79, eA83, eA90, eA91, eA92, eA93, eA94]
    all_goals rfl)

theorem listA_c (hc0 : cond0_0 i) : (kernelRun0_A c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9).2.2.2.1 = (⟨Rect.unit (s := S4x256x512) ![3, 0, 0] S1x256x512.size inb_S4x256x512_S1x256x512_3_0_0, k0_pay134 (s13 (blkA c a2 h2 a3 h3 a4 h4 a5 h5 a6 h6 a7 h7 a8 h8 a9 h9 a10 h10 a11 h11 a13 a14 a15 a16 a17 x0 x1 x2 x3 x4 x5 x6 x7 x8 x9)) (s17 (blkA c a2 h2 a3 h3 a4 h4 a5 h5 a6 h6 a7 h7 a8 h8 a9 h9 a10 h10 a11 h11 a13 a14 a15 a16 a17 x0 x1 x2 x3 x4 x5 x6 x7 x8 x9)) (s51 (blkA c a2 h2 a3 h3 a4 h4 a5 h5 a6 h6 a7 h7 a8 h8 a9 h9 a10 h10 a11 h11 a13 a14 a15 a16 a17 x0 x1 x2 x3 x4 x5 x6 x7 x8 x9)) (s71 (blkA c a2 h2 a3 h3 a4 h4 a5 h5 a6 h6 a7 h7 a8 h8 a9 h9 a10 h10 a11 h11 a13 a14 a15 a16 a17 x0 x1 x2 x3 x4 x5 x6 x7 x8 x9)) (s88 (blkA c a2 h2 a3 h3 a4 h4 a5 h5 a6 h6 a7 h7 a8 h8 a9 h9 a10 h10 a11 h11 a13 a14 a15 a16 a17 x0 x1 x2 x3 x4 x5 x6 x7 x8 x9)) (s89 (blkA c a2 h2 a3 h3 a4 h4 a5 h5 a6 h6 a7 h7 a8 h8 a9 h9 a10 h10 a11 h11 a13 a14 a15 a16 a17 x0 x1 x2 x3 x4 x5 x6 x7 x8 x9))⟩ :: ⟨Rect.unit (s := S4x256x512) ![2, 0, 0] S1x256x512.size inb_S4x256x512_S1x256x512_2_0_0, k0_pay126 (s12 (blkA c a2 h2 a3 h3 a4 h4 a5 h5 a6 h6 a7 h7 a8 h8 a9 h9 a10 h10 a11 h11 a13 a14 a15 a16 a17 x0 x1 x2 x3 x4 x5 x6 x7 x8 x9)) (s16 (blkA c a2 h2 a3 h3 a4 h4 a5 h5 a6 h6 a7 h7 a8 h8 a9 h9 a10 h10 a11 h11 a13 a14 a15 a16 a17 x0 x1 x2 x3 x4 x5 x6 x7 x8 x9)) (s28 (blkA c a2 h2 a3 h3 a4 h4 a5 h5 a6 h6 a7 h7 a8 h8 a9 h9 a10 h10 a11 h11 a13 a14 a15 a16 a17 x0 x1 x2 x3 x4 x5 x6 x7 x8 x9)) (s42 (blkA c a2 h2 a3 h3 a4 h4 a5 h5 a6 h6 a7 h7 a8 h8 a9 h9 a10 h10 a11 h11 a13 a14 a15 a16 a17 x0 x1 x2 x3 x4 x5 x6 x7 x8 x9)) (s50 (blkA c a2 h2 a3 h3 a4 h4 a5 h5 a6 h6 a7 h7 a8 h8 a9 h9 a10 h10 a11 h11 a13 a14 a15 a16 a17 x0 x1 x2 x3 x4 x5 x6 x7 x8 x9)) (s70 (blkA c a2 h2 a3 h3 a4 h4 a5 h5 a6 h6 a7 h7 a8 h8 a9 h9 a10 h10 a11 h11 a13 a14 a15 a16 a17 x0 x1 x2 x3 x4 x5 x6 x7 x8 x9))⟩ :: ⟨Rect.unit (s := S4x256x512) ![1, 0, 0] S1x256x512.size inb_S4x256x512_S1x256x512_1_0_0, k0_pay118 (s11 (blkA c a2 h2 a3 h3 a4 h4 a5 h5 a6 h6 a7 h7 a8 h8 a9 h9 a10 h10 a11 h11 a13 a14 a15 a16 a17 x0 x1 x2 x3 x4 x5 x6 x7 x8 x9)) (s15 (blkA c a2 h2 a3 h3 a4 h4 a5 h5 a6 h6 a7 h7 a8 h8 a9 h9 a10 h10 a11 h11 a13 a14 a15 a16 a17 x0 x1 x2 x3 x4 x5 x6 x7 x8 x9)) (s27 (blkA c a2 h2 a3 h3 a4 h4 a5 h5 a6 h6 a7 h7 a8 h8 a9 h9 a10 h10 a11 h11 a13 a14 a15 a16 a17 x0 x1 x2 x3 x4 x5 x6 x7 x8 x9)) (s41 (blkA c a2 h2 a3 h3 a4 h4 a5 h5 a6 h6 a7 h7 a8 h8 a9 h9 a10 h10 a11 h11 a13 a14 a15 a16 a17 x0 x1 x2 x3 x4 x5 x6 x7 x8 x9)) (s49 (blkA c a2 h2 a3 h3 a4 h4 a5 h5 a6 h6 a7 h7 a8 h8 a9 h9 a10 h10 a11 h11 a13 a14 a15 a16 a17 x0 x1 x2 x3 x4 x5 x6 x7 x8 x9)) (s69 (blkA c a2 h2 a3 h3 a4 h4 a5 h5 a6 h6 a7 h7 a8 h8 a9 h9 a10 h10 a11 h11 a13 a14 a15 a16 a17 x0 x1 x2 x3 x4 x5 x6 x7 x8 x9))⟩ :: ⟨Rect.unit (s := S4x256x512) ![0, 0, 0] S1x256x512.size inb_S4x256x512_S1x256x512_0_0_0, k0_pay109 (s10 (blkA c a2 h2 a3 h3 a4 h4 a5 h5 a6 h6 a7 h7 a8 h8 a9 h9 a10 h10 a11 h11 a13 a14 a15 a16 a17 x0 x1 x2 x3 x4 x5 x6 x7 x8 x9)) (s14 (blkA c a2 h2 a3 h3 a4 h4 a5 h5 a6 h6 a7 h7 a8 h8 a9 h9 a10 h10 a11 h11 a13 a14 a15 a16 a17 x0 x1 x2 x3 x4 x5 x6 x7 x8 x9)) (s26 (blkA c a2 h2 a3 h3 a4 h4 a5 h5 a6 h6 a7 h7 a8 h8 a9 h9 a10 h10 a11 h11 a13 a14 a15 a16 a17 x0 x1 x2 x3 x4 x5 x6 x7 x8 x9)) (s40 (blkA c a2 h2 a3 h3 a4 h4 a5 h5 a6 h6 a7 h7 a8 h8 a9 h9 a10 h10 a11 h11 a13 a14 a15 a16 a17 x0 x1 x2 x3 x4 x5 x6 x7 x8 x9)) (s48 (blkA c a2 h2 a3 h3 a4 h4 a5 h5 a6 h6 a7 h7 a8 h8 a9 h9 a10 h10 a11 h11 a13 a14 a15 a16 a17 x0 x1 x2 x3 x4 x5 x6 x7 x8 x9)) (s68 (blkA c a2 h2 a3 h3 a4 h4 a5 h5 a6 h6 a7 h7 a8 h8 a9 h9 a10 h10 a11 h11 a13 a14 a15 a16 a17 x0 x1 x2 x3 x4 x5 x6 x7 x8 x9))⟩ :: kernelRun0_A.sl.HS2_1 : List (View.Piece (Elt Ideal) S4x256x512 .f32)) :=
  (show (kernelRun0_A c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9).2.2.2.1 = (⟨Rect.unit (s := S4x256x512) ![3, 0, 0] S1x256x512.size inb_S4x256x512_S1x256x512_3_0_0, k0_pay134 (kernelRun0_A.sl.r_13 c a3 h3 a7 h7 a8 h8 a14 x1 x5 x6) (kernelRun0_A.sl.r_17 c a4 h4 x2) (kernelRun0_A.sl.r_51 c a17) (kernelRun0_A.sl.r_71 c a15) (kernelRun0_A.sl.r_88 c a6 h6 a9 h9 a11 h11 x4 x7 x9) (kernelRun0_A.sl.r_89 c a6 h6 a9 h9 a11 h11 x4 x7 x9)⟩ :: ⟨Rect.unit (s := S4x256x512) ![2, 0, 0] S1x256x512.size inb_S4x256x512_S1x256x512_2_0_0, k0_pay126 (kernelRun0_A.sl.r_12 c a3 h3 a7 h7 a8 h8 a14 x1 x5 x6) (kernelRun0_A.sl.r_16 c a4 h4 x2) (kernelRun0_A.sl.r_28 c a6 h6 a9 h9 x4 x7) (kernelRun0_A.sl.r_42 c a6 h6 a9 h9 a11 h11 x4 x7 x9) (kernelRun0_A.sl.r_50 c a17) (kernelRun0_A.sl.r_70 c a15)⟩ :: ⟨Rect.unit (s := S4x256x512) ![1, 0, 0] S1x256x512.size inb_S4x256x512_S1x256x512_1_0_0, k0_pay118 (kernelRun0_A.sl.r_11 c a3 h3 a7 h7 a8 h8 a14 x1 x5 x6) (kernelRun0_A.sl.r_15 c a4 h4 x2) (kernelRun0_A.sl.r_27 c a6 h6 a9 h9 x4 x7) (kernelRun0_A.sl.r_41 c a6 h6 a9 h9 a11 h11 x4 x7 x9) (kernelRun0_A.sl.r_49 c a17) (kernelRun0_A.sl.r_69 c a15)⟩ :: ⟨Rect.unit (s := S4x256x512) ![0, 0, 0] S1x256x512.size inb_S4x256x512_S1x256x512_0_0_0, k0_pay109 (kernelRun0_A.sl.r_10 c a3 h3 a7 h7 a8 h8 a14 x1 x5 x6) (kernelRun0_A.sl.r_14 c a4 h4 x2) (kernelRun0_A.sl.r_26 c a6 h6 a9 h9 x4 x7) (kernelRun0_A.sl.r_40 c a6 h6 a9 h9 a11 h11 x4 x7 x9) (kernelRun0_A.sl.r_48 c a17) (kernelRun0_A.sl.r_68 c a15)⟩ :: kernelRun0_A.sl.HS2_1 : List (View.Piece (Elt Ideal) S4x256x512 .f32)) from rfl).trans (by
    rw [eA10, eA11, eA12, eA13, eA14, eA15, eA16, eA17, eA26, eA27, eA28, eA40, eA41, eA42, eA48, eA49, eA50, eA51, eA68, eA69, eA70, eA71, eA88, eA89]
    all_goals rfl)

theorem listA_n (hc0 : cond0_0 i) : (kernelRun0_A c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9).2.2.2.2.1 = (⟨Rect.unit (s := S4x1x256) ![3, 0, 0] S1x1x256.size inb_S4x1x256_S1x1x256_3_0_0, k0_pay135 (s13 (blkA c a2 h2 a3 h3 a4 h4 a5 h5 a6 h6 a7 h7 a8 h8 a9 h9 a10 h10 a11 h11 a13 a14 a15 a16 a17 x0 x1 x2 x3 x4 x5 x6 x7 x8 x9)) (s51 (blkA c a2 h2 a3 h3 a4 h4 a5 h5 a6 h6 a7 h7 a8 h8 a9 h9 a10 h10 a11 h11 a13 a14 a15 a16 a17 x0 x1 x2 x3 x4 x5 x6 x7 x8 x9)) (s75 (blkA c a2 h2 a3 h3 a4 h4 a5 h5 a6 h6 a7 h7 a8 h8 a9 h9 a10 h10 a11 h11 a13 a14 a15 a16 a17 x0 x1 x2 x3 x4 x5 x6 x7 x8 x9)) (s88 (blkA c a2 h2 a3 h3 a4 h4 a5 h5 a6 h6 a7 h7 a8 h8 a9 h9 a10 h10 a11 h11 a13 a14 a15 a16 a17 x0 x1 x2 x3 x4 x5 x6 x7 x8 x9)) (s89 (blkA c a2 h2 a3 h3 a4 h4 a5 h5 a6 h6 a7 h7 a8 h8 a9 h9 a10 h10 a11 h11 a13 a14 a15 a16 a17 x0 x1 x2 x3 x4 x5 x6 x7 x8 x9))⟩ :: ⟨Rect.unit (s := S4x1x256) ![2, 0, 0] S1x1x256.size inb_S4x1x256_S1x1x256_2_0_0, k0_pay127 (s12 (blkA c a2 h2 a3 h3 a4 h4 a5 h5 a6 h6 a7 h7 a8 h8 a9 h9 a10 h10 a11 h11 a13 a14 a15 a16 a17 x0 x1 x2 x3 x4 x5 x6 x7 x8 x9)) (s28 (blkA c a2 h2 a3 h3 a4 h4 a5 h5 a6 h6 a7 h7 a8 h8 a9 h9 a10 h10 a11 h11 a13 a14 a15 a16 a17 x0 x1 x2 x3 x4 x5 x6 x7 x8 x9)) (s42 (blkA c a2 h2 a3 h3 a4 h4 a5 h5 a6 h6 a7 h7 a8 h8 a9 h9 a10 h10 a11 h11 a13 a14 a15 a16 a17 x0 x1 x2 x3 x4 x5 x6 x7 x8 x9)) (s50 (blkA c a2 h2 a3 h3 a4 h4 a5 h5 a6 h6 a7 h7 a8 h8 a9 h9 a10 h10 a11 h11 a13 a14 a15 a16 a17 x0 x1 x2 x3 x4 x5 x6 x7 x8 x9)) (s74 (blkA c a2 h2 a3 h3 a4 h4 a5 h5 a6 h6 a7 h7 a8 h8 a9 h9 a10 h10 a11 h11 a13 a14 a15 a16 a17 x0 x1 x2 x3 x4 x5 x6 x7 x8 x9))⟩ :: ⟨Rect.unit (s := S4x1x256) ![1, 0, 0] S1x1x256.size inb_S4x1x256_S1x1x256_1_0_0, k0_pay119 (s11 (blkA c a2 h2 a3 h3 a4 h4 a5 h5 a6 h6 a7 h7 a8 h8 a9 h9 a10 h10 a11 h11 a13 a14 a15 a16 a17 x0 x1 x2 x3 x4 x5 x6 x7 x8 x9)) (s27 (blkA c a2 h2 a3 h3 a4 h4 a5 h5 a6 h6 a7 h7 a8 h8 a9 h9 a10 h10 a11 h11 a13 a14 a15 a16 a17 x0 x1 x2 x3 x4 x5 x6 x7 x8 x9)) (s41 (blkA c a2 h2 a3 h3 a4 h4 a5 h5 a6 h6 a7 h7 a8 h8 a9 h9 a10 h10 a11 h11 a13 a14 a15 a16 a17 x0 x1 x2 x3 x4 x5 x6 x7 x8 x9)) (s49 (blkA c a2 h2 a3 h3 a4 h4 a5 h5 a6 h6 a7 h7 a8 h8 a9 h9 a10 h10 a11 h11 a13 a14 a15 a16 a17 x0 x1 x2 x3 x4 x5 x6 x7 x8 x9)) (s73 (blkA c a2 h2 a3 h3 a4 h4 a5 h5 a6 h6 a7 h7 a8 h8 a9 h9 a10 h10 a11 h11 a13 a14 a15 a16 a17 x0 x1 x2 x3 x4 x5 x6 x7 x8 x9))⟩ :: ⟨Rect.unit (s := S4x1x256) ![0, 0, 0] S1x1x256.size inb_S4x1x256_S1x1x256_0_0_0, k0_pay111 (s86 (blkA c a2 h2 a3 h3 a4 h4 a5 h5 a6 h6 a7 h7 a8 h8 a9 h9 a10 h10 a11 h11 a13 a14 a15 a16 a17 x0 x1 x2 x3 x4 x5 x6 x7 x8 x9))⟩ :: kernelRun0_A.sl.HS3_1 : List (View.Piece (Elt Ideal) S4x1x256 .f32)) :=
  (show (kernelRun0_A c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9).2.2.2.2.1 = (⟨Rect.unit (s := S4x1x256) ![3, 0, 0] S1x1x256.size inb_S4x1x256_S1x1x256_3_0_0, k0_pay135 (kernelRun0_A.sl.r_13 c a3 h3 a7 h7 a8 h8 a14 x1 x5 x6) (kernelRun0_A.sl.r_51 c a17) (kernelRun0_A.sl.r_75 c a16) (kernelRun0_A.sl.r_88 c a6 h6 a9 h9 a11 h11 x4 x7 x9) (kernelRun0_A.sl.r_89 c a6 h6 a9 h9 a11 h11 x4 x7 x9)⟩ :: ⟨Rect.unit (s := S4x1x256) ![2, 0, 0] S1x1x256.size inb_S4x1x256_S1x1x256_2_0_0, k0_pay127 (kernelRun0_A.sl.r_12 c a3 h3 a7 h7 a8 h8 a14 x1 x5 x6) (kernelRun0_A.sl.r_28 c a6 h6 a9 h9 x4 x7) (kernelRun0_A.sl.r_42 c a6 h6 a9 h9 a11 h11 x4 x7 x9) (kernelRun0_A.sl.r_50 c a17) (kernelRun0_A.sl.r_74 c a16)⟩ :: ⟨Rect.unit (s := S4x1x256) ![1, 0, 0] S1x1x256.size inb_S4x1x256_S1x1x256_1_0_0, k0_pay119 (kernelRun0_A.sl.r_11 c a3 h3 a7 h7 a8 h8 a14 x1 x5 x6) (kernelRun0_A.sl.r_27 c a6 h6 a9 h9 x4 x7) (kernelRun0_A.sl.r_41 c a6 h6 a9 h9 a11 h11 x4 x7 x9) (kernelRun0_A.sl.r_49 c a17) (kernelRun0_A.sl.r_73 c a16)⟩ :: ⟨Rect.unit (s := S4x1x256) ![0, 0, 0] S1x1x256.size inb_S4x1x256_S1x1x256_0_0_0, k0_pay111 (kernelRun0_A.sl.r_86 c a3 h3 a6 h6 a7 h7 a8 h8 a9 h9 a11 h11 a14 a16 a17 x1 x4 x5 x6 x7 x9)⟩ :: kernelRun0_A.sl.HS3_1 : List (View.Piece (Elt Ideal) S4x1x256 .f32)) from rfl).trans (by
    rw [eA11, eA12, eA13, eA27, eA28, eA41, eA42, eA49, eA50, eA51, eA73, eA74, eA75, eA86, eA88, eA89]
    all_goals rfl)

theorem listA_m (hc0 : cond0_0 i) : (kernelRun0_A c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9).2.2.2.2.2.1 = (⟨Rect.unit (s := S4x1x1) ![3, 0, 0] S1x1x1.size inb_S4x1x1_S1x1x1_3_0_0, k0_pay136 (s51 (blkA c a2 h2 a3 h3 a4 h4 a5 h5 a6 h6 a7 h7 a8 h8 a9 h9 a10 h10 a11 h11 a13 a14 a15 a16 a17 x0 x1 x2 x3 x4 x5 x6 x7 x8 x9)) (s88 (blkA c a2 h2 a3 h3 a4 h4 a5 h5 a6 h6 a7 h7 a8 h8 a9 h9 a10 h10 a11 h11 a13 a14 a15 a16 a17 x0 x1 x2 x3 x4 x5 x6 x7 x8 x9)) (s89 (blkA c a2 h2 a3 h3 a4 h4 a5 h5 a6 h6 a7 h7 a8 h8 a9 h9 a10 h10 a11 h11 a13 a14 a15 a16 a17 x0 x1 x2 x3 x4 x5 x6 x7 x8 x9))⟩ :: ⟨Rect.unit (s := S4x1x1) ![2, 0, 0] S1x1x1.size inb_S4x1x1_S1x1x1_2_0_0, k0_pay128 (s28 (blkA c a2 h2 a3 h3 a4 h4 a5 h5 a6 h6 a7 h7 a8 h8 a9 h9 a10 h10 a11 h11 a13 a14 a15 a16 a17 x0 x1 x2 x3 x4 x5 x6 x7 x8 x9)) (s42 (blkA c a2 h2 a3 h3 a4 h4 a5 h5 a6 h6 a7 h7 a8 h8 a9 h9 a10 h10 a11 h11 a13 a14 a15 a16 a17 x0 x1 x2 x3 x4 x5 x6 x7 x8 x9)) (s50 (blkA c a2 h2 a3 h3 a4 h4 a5 h5 a6 h6 a7 h7 a8 h8 a9 h9 a10 h10 a11 h11 a13 a14 a15 a16 a17 x0 x1 x2 x3 x4 x5 x6 x7 x8 x9))⟩ :: ⟨Rect.unit (s := S4x1x1) ![1, 0, 0] S1x1x1.size inb_S4x1x1_S1x1x1_1_0_0, k0_pay120 (s87 (blkA c a2 h2 a3 h3 a4 h4 a5 h5 a6 h6 a7 h7 a8 h8 a9 h9 a10 h10 a11 h11 a13 a14 a15 a16 a17 x0 x1 x2 x3 x4 x5 x6 x7 x8 x9))⟩ :: ⟨Rect.unit (s := S4x1x1) ![0, 0, 0] S1x1x1.size inb_S4x1x1_S1x1x1_0_0_0, k0_pay112 (s85 (blkA c a2 h2 a3 h3 a4 h4 a5 h5 a6 h6 a7 h7 a8 h8 a9 h9 a10 h10 a11 h11 a13 a14 a15 a16 a17 x0 x1 x2 x3 x4 x5 x6 x7 x8 x9))⟩ :: kernelRun0_A.sl.HS4_1 : List (View.Piece (Elt Ideal) S4x1x1 .f32)) :=
  (show (kernelRun0_A c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9).2.2.2.2.2.1 = (⟨Rect.unit (s := S4x1x1) ![3, 0, 0] S1x1x1.size inb_S4x1x1_S1x1x1_3_0_0, k0_pay136 (kernelRun0_A.sl.r_51 c a17) (kernelRun0_A.sl.r_88 c a6 h6 a9 h9 a11 h11 x4 x7 x9) (kernelRun0_A.sl.r_89 c a6 h6 a9 h9 a11 h11 x4 x7 x9)⟩ :: ⟨Rect.unit (s := S4x1x1) ![2, 0, 0] S1x1x1.size inb_S4x1x1_S1x1x1_2_0_0, k0_pay128 (kernelRun0_A.sl.r_28 c a6 h6 a9 h9 x4 x7) (kernelRun0_A.sl.r_42 c a6 h6 a9 h9 a11 h11 x4 x7 x9) (kernelRun0_A.sl.r_50 c a17)⟩ :: ⟨Rect.unit (s := S4x1x1) ![1, 0, 0] S1x1x1.size inb_S4x1x1_S1x1x1_1_0_0, k0_pay120 (kernelRun0_A.sl.r_87 c a6 h6 a9 h9 a11 h11 a17 x4 x7 x9)⟩ :: ⟨Rect.unit (s := S4x1x1) ![0, 0, 0] S1x1x1.size inb_S4x1x1_S1x1x1_0_0_0, k0_pay112 (kernelRun0_A.sl.r_85 c a6 h6 a9 h9 a11 h11 a17 x4 x7 x9)⟩ :: kernelRun0_A.sl.HS4_1 : List (View.Piece (Elt Ideal) S4x1x1 .f32)) from rfl).trans (by
    rw [eA28, eA42, eA50, eA51, eA85, eA87, eA88, eA89]
    all_goals rfl)

theorem listA_q (hc0 : cond0_0 i) : (kernelRun0_A c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9).2.1 = (⟨Rect.unit (s := S136x1024) ![0, 0] S8x1024.size inb_S136x1024_S8x1024_0_0, k0_pay10 (kernelRun0_A.sl.v35 c a2 h2 a13 x0)⟩ :: kernelRun0_A.sl.HS0_2 c a2 h2 x0 : List (View.Piece (Elt Ideal) S136x1024 .f32)) := rfl

theorem listA_k (hc0 : cond0_0 i) : (kernelRun0_A c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9).2.2.1 = (⟨Rect.unit (s := S136x1024) ![0, 0] S8x1024.size inb_S136x1024_S8x1024_0_0, k0_pay14 (kernelRun0_A.sl.v73 c a3 h3 a14 x1)⟩ :: kernelRun0_A.sl.HS1_2 c a3 h3 x1 : List (View.Piece (Elt Ideal) S136x1024 .f32)) := rfl

end Cert.KernelIdeal.Own
-- ==== Proof.KernelStepA.lean ====
module

public import proofs.«01_k».proof.Proof.KernelStep
public import proofs.«01_k».proof.Proof.KernelBlockA

@[expose] public section

set_option maxRecDepth 16384

noncomputable section

/-! The block that starts a sequence is one step from the empty state. -/

namespace Cert.KernelIdeal.Own

open Cert Cert.KernelIdeal Cert.KernelIdeal.Gen Idealize.ShloMosaic Idealize.ShloMosaic.TcCoe Idealize.SL.Sem

variable (c : Dev nD) (i : grid0.Coords) (a2 : Memref sig .tc .vmem S128x1024 .f32) (h2 : a2.IsWhole) (a3 : Memref sig .tc .vmem S128x1024 .f32) (h3 : a3.IsWhole) (a4 : Memref sig .tc .vmem S128x2048 .f32) (h4 : a4.IsWhole) (a5 : Memref sig .tc .vmem S128x2048 .f32) (h5 : a5.IsWhole) (a6 : Memref sig .tc .vmem S128x128 .f32) (h6 : a6.IsWhole) (a7 : Memref sig .tc .vmem S4x2048 .f32) (h7 : a7.IsWhole) (a8 : Memref sig .tc .vmem S1x2048 .f32) (h8 : a8.IsWhole) (a9 : Memref sig .tc .vmem S1x128 .f32) (h9 : a9.IsWhole) (a10 : Memref sig .tc .vmem S1x2048 .f32) (h10 : a10.IsWhole) (a11 : Memref sig .tc .vmem S128x128 .bf16) (h11 : a11.IsWhole) (a12 : Memref sig .tc .vmem S128x2048 .bf16) (h12 : a12.IsWhole) (a13 : Memref sig .tc .vmem S136x1024 .f32) (h13 : a13.IsWhole) (a14 : Memref sig .tc .vmem S136x1024 .f32) (h14 : a14.IsWhole) (a15 : Memref sig .tc .vmem S4x256x512 .f32) (h15 : a15.IsWhole) (a16 : Memref sig .tc .vmem S4x1x256 .f32) (h16 : a16.IsWhole) (a17 : Memref sig .tc .vmem S4x1x1 .f32) (h17 : a17.IsWhole)
  (x0 : Vec Ideal S128x1024 .f32) (x1 : Vec Ideal S128x1024 .f32) (x2 : Vec Ideal S128x2048 .f32) (x3 : Vec Ideal S128x2048 .f32) (x4 : Vec Ideal S128x128 .f32) (x5 : Vec Ideal S4x2048 .f32) (x6 : Vec Ideal S1x2048 .f32) (x7 : Vec Ideal S1x128 .f32) (x8 : Vec Ideal S1x2048 .f32) (x9 : Vec Ideal S128x128 .bf16)

/-- The queries buffer when the convolution reads it. -/
theorem extqA (v : View sig .tc .vmem S136x1024 .f32) (f : v.ty.Contents (Elt Ideal)) (r : Fin 136) (j : Fin 1024) :
    v.read (Elt Ideal) (v.writes (Elt Ideal) f (kernelRun0_A.sl.HS0_2 c a2 h2 x0)) (ix2 r j) = Mlstm.ext Mlstm.St.zero.qp (inOf x0 x1 x2 x3 x4 x5 x6 x7 x8 x9).x0 r j := by
  refine (extA v f _ _ r j).trans ?_
  have e1 : (fun r j => (k0_pay2 : FVec Ideal S8x1024 .f32) (ix2 r j)) = Mlstm.St.zero.qp := funext fun r => funext fun j => pay2_at r j
  have e2 : (fun p j => (k0_pay7 (View.readAt (Elt Ideal) a2.view (Rect.unit (s := S128x1024) ![0, 0] S128x1024.size inb_S128x1024_S128x1024_0_0).toLoadRect (h2.unread x0)) : FVec Ideal S128x1024 .f32) (ix2 p j)) = (inOf x0 x1 x2 x3 x4 x5 x6 x7 x8 x9).x0 :=
    funext fun p => funext fun j => (pay7_at _ p j).trans (ldw h2 x0 inb_S128x1024_S128x1024_0_0 p j p j (Nat.zero_add _) (Nat.zero_add _))
  exact congrArg₂ (fun y z => Mlstm.ext y z r j) e1 e2

/-- The keys buffer when the convolution reads it. -/
theorem extkA (v : View sig .tc .vmem S136x1024 .f32) (f : v.ty.Contents (Elt Ideal)) (r : Fin 136) (j : Fin 1024) :
    v.read (Elt Ideal) (v.writes (Elt Ideal) f (kernelRun0_A.sl.HS1_2 c a3 h3 x1)) (ix2 r j) = Mlstm.ext Mlstm.St.zero.kp (inOf x0 x1 x2 x3 x4 x5 x6 x7 x8 x9).x1 r j := by
  refine (extA v f _ _ r j).trans ?_
  have e1 : (fun r j => (k0_pay3 : FVec Ideal S8x1024 .f32) (ix2 r j)) = Mlstm.St.zero.kp := funext fun r => funext fun j => pay3_at r j
  have e2 : (fun p j => (k0_pay12 (View.readAt (Elt Ideal) a3.view (Rect.unit (s := S128x1024) ![0, 0] S128x1024.size inb_S128x1024_S128x1024_0_0).toLoadRect (h3.unread x1)) : FVec Ideal S128x1024 .f32) (ix2 p j)) = (inOf x0 x1 x2 x3 x4 x5 x6 x7 x8 x9).x1 :=
    funext fun p => funext fun j => (pay12_at _ p j).trans (ldw h3 x1 inb_S128x1024_S128x1024_0_0 p j p j (Nat.zero_add _) (Nat.zero_add _))
  exact congrArg₂ (fun y z => Mlstm.ext y z r j) e1 e2

/-- The convolved queries. -/
theorem qA_at (p : Fin 128) (j : Fin 1024) : (blkA c a2 h2 a3 h3 a4 h4 a5 h5 a6 h6 a7 h7 a8 h8 a9 h9 a10 h10 a11 h11 a13 a14 a15 a16 a17 x0 x1 x2 x3 x4 x5 x6 x7 x8 x9).q (ix2 p j) = Mlstm.silu (Mlstm.conv (inOf x0 x1 x2 x3 x4 x5 x6 x7 x8 x9).wq (inOf x0 x1 x2 x3 x4 x5 x6 x7 x8 x9).bq Mlstm.St.zero.qp (inOf x0 x1 x2 x3 x4 x5 x6 x7 x8 x9).x0 p j) := by
  refine (conv_at _ _ _ _ _ _ _ _ _ p j).trans (congrArg Mlstm.silu ?_)
  have b := ldw h8 x6 inb_S1x2048_S1x1024_0_0 0 j (0 : Fin 1) (⟨j.val, by omega⟩ : Fin 2048) rfl (Nat.zero_add _)
  have w0 := ldw h7 x5 inb_S4x2048_S1x1024_0_0 0 j (0 : Fin 4) (⟨j.val, by omega⟩ : Fin 2048) rfl (Nat.zero_add _)
  have w1 := ldw h7 x5 inb_S4x2048_S1x1024_1_0 0 j (1 : Fin 4) (⟨j.val, by omega⟩ : Fin 2048) rfl (Nat.zero_add _)
  have w2 := ldw h7 x5 inb_S4x2048_S1x1024_2_0 0 j (2 : Fin 4) (⟨j.val, by omega⟩ : Fin 2048) rfl (Nat.zero_add _)
  have w3 := ldw h7 x5 inb_S4x2048_S1x1024_3_0 0 j (3 : Fin 4) (⟨j.val, by omega⟩ : Fin 2048) rfl (Nat.zero_add _)
  have y0 := (at2 a13.view (a13.view.writes (Elt Ideal) a13.view.junk (kernelRun0_A.sl.HS0_2 c a2 h2 x0)) inb_S136x1024_S128x1024_5_0 p j).trans ((extqA (v := a13.view) (f := a13.view.junk) (x0 := x0) (x1 := x1) (x2 := x2) (x3 := x3) (x4 := x4) (x5 := x5) (x6 := x6) (x7 := x7) (x8 := x8) (x9 := x9) ..).trans (congrArg (Mlstm.ext _ _ _) (Fin.ext (Nat.zero_add _))))
  have y1 := (at2 a13.view (a13.view.writes (Elt Ideal) a13.view.junk (kernelRun0_A.sl.HS0_2 c a2 h2 x0)) inb_S136x1024_S128x1024_6_0 p j).trans ((extqA (v := a13.view) (f := a13.view.junk) (x0 := x0) (x1 := x1) (x2 := x2) (x3 := x3) (x4 := x4) (x5 := x5) (x6 := x6) (x7 := x7) (x8 := x8) (x9 := x9) ..).trans (congrArg (Mlstm.ext _ _ _) (Fin.ext (Nat.zero_add _))))
  have y2 := (at2 a13.view (a13.view.writes (Elt Ideal) a13.view.junk (kernelRun0_A.sl.HS0_2 c a2 h2 x0)) inb_S136x1024_S128x1024_7_0 p j).trans ((extqA (v := a13.view) (f := a13.view.junk) (x0 := x0) (x1 := x1) (x2 := x2) (x3 := x3) (x4 := x4) (x5 := x5) (x6 := x6) (x7 := x7) (x8 := x8) (x9 := x9) ..).trans (congrArg (Mlstm.ext _ _ _) (Fin.ext (Nat.zero_add _))))
  have y3 := (at2 a13.view (a13.view.writes (Elt Ideal) a13.view.junk (kernelRun0_A.sl.HS0_2 c a2 h2 x0)) inb_S136x1024_S128x1024_8_0 p j).trans ((extqA (v := a13.view) (f := a13.view.junk) (x0 := x0) (x1 := x1) (x2 := x2) (x3 := x3) (x4 := x4) (x5 := x5) (x6 := x6) (x7 := x7) (x8 := x8) (x9 := x9) ..).trans (congrArg (Mlstm.ext _ _ _) (Fin.ext (Nat.zero_add _))))
  exact conv_eq b w0 w1 w2 w3 y0 y1 y2 y3
/-- The convolved keys. -/
theorem kA_at (p : Fin 128) (j : Fin 1024) : (blkA c a2 h2 a3 h3 a4 h4 a5 h5 a6 h6 a7 h7 a8 h8 a9 h9 a10 h10 a11 h11 a13 a14 a15 a16 a17 x0 x1 x2 x3 x4 x5 x6 x7 x8 x9).k3 (ix2 p j) + (blkA c a2 h2 a3 h3 a4 h4 a5 h5 a6 h6 a7 h7 a8 h8 a9 h9 a10 h10 a11 h11 a13 a14 a15 a16 a17 x0 x1 x2 x3 x4 x5 x6 x7 x8 x9).kw (ix2 0 j) * (blkA c a2 h2 a3 h3 a4 h4 a5 h5 a6 h6 a7 h7 a8 h8 a9 h9 a10 h10 a11 h11 a13 a14 a15 a16 a17 x0 x1 x2 x3 x4 x5 x6 x7 x8 x9).ke (ix2 p j) = Mlstm.conv (inOf x0 x1 x2 x3 x4 x5 x6 x7 x8 x9).wk (inOf x0 x1 x2 x3 x4 x5 x6 x7 x8 x9).bk Mlstm.St.zero.kp (inOf x0 x1 x2 x3 x4 x5 x6 x7 x8 x9).x1 p j := by
  have b := ldw h8 x6 inb_S1x2048_S1x1024_0_1024 0 j (0 : Fin 1) (⟨1024 + j.val, by omega⟩ : Fin 2048) rfl rfl
  have w0 := ldw h7 x5 inb_S4x2048_S1x1024_0_1024 0 j (0 : Fin 4) (⟨1024 + j.val, by omega⟩ : Fin 2048) rfl rfl
  have w1 := ldw h7 x5 inb_S4x2048_S1x1024_1_1024 0 j (1 : Fin 4) (⟨1024 + j.val, by omega⟩ : Fin 2048) rfl rfl
  have w2 := ldw h7 x5 inb_S4x2048_S1x1024_2_1024 0 j (2 : Fin 4) (⟨1024 + j.val, by omega⟩ : Fin 2048) rfl rfl
  have w3 := ldw h7 x5 inb_S4x2048_S1x1024_3_1024 0 j (3 : Fin 4) (⟨1024 + j.val, by omega⟩ : Fin 2048) rfl rfl
  have y0 := (at2 a14.view (a14.view.writes (Elt Ideal) a14.view.junk (kernelRun0_A.sl.HS1_2 c a3 h3 x1)) inb_S136x1024_S128x1024_5_0 p j).trans ((extkA (v := a14.view) (f := a14.view.junk) (x0 := x0) (x1 := x1) (x2 := x2) (x3 := x3) (x4 := x4) (x5 := x5) (x6 := x6) (x7 := x7) (x8 := x8) (x9 := x9) ..).trans (congrArg (Mlstm.ext _ _ _) (Fin.ext (Nat.zero_add _))))
  have y1 := (at2 a14.view (a14.view.writes (Elt Ideal) a14.view.junk (kernelRun0_A.sl.HS1_2 c a3 h3 x1)) inb_S136x1024_S128x1024_6_0 p j).trans ((extkA (v := a14.view) (f := a14.view.junk) (x0 := x0) (x1 := x1) (x2 := x2) (x3 := x3) (x4 := x4) (x5 := x5) (x6 := x6) (x7 := x7) (x8 := x8) (x9 := x9) ..).trans (congrArg (Mlstm.ext _ _ _) (Fin.ext (Nat.zero_add _))))
  have y2 := (at2 a14.view (a14.view.writes (Elt Ideal) a14.view.junk (kernelRun0_A.sl.HS1_2 c a3 h3 x1)) inb_S136x1024_S128x1024_7_0 p j).trans ((extkA (v := a14.view) (f := a14.view.junk) (x0 := x0) (x1 := x1) (x2 := x2) (x3 := x3) (x4 := x4) (x5 := x5) (x6 := x6) (x7 := x7) (x8 := x8) (x9 := x9) ..).trans (congrArg (Mlstm.ext _ _ _) (Fin.ext (Nat.zero_add _))))
  have y3 := (at2 a14.view (a14.view.writes (Elt Ideal) a14.view.junk (kernelRun0_A.sl.HS1_2 c a3 h3 x1)) inb_S136x1024_S128x1024_8_0 p j).trans ((extkA (v := a14.view) (f := a14.view.junk) (x0 := x0) (x1 := x1) (x2 := x2) (x3 := x3) (x4 := x4) (x5 := x5) (x6 := x6) (x7 := x7) (x8 := x8) (x9 := x9) ..).trans (congrArg (Mlstm.ext _ _ _) (Fin.ext (Nat.zero_add _))))
  exact (congrArg (fun z : EReal => z + (blkA c a2 h2 a3 h3 a4 h4 a5 h5 a6 h6 a7 h7 a8 h8 a9 h9 a10 h10 a11 h11 a13 a14 a15 a16 a17 x0 x1 x2 x3 x4 x5 x6 x7 x8 x9).kw (ix2 0 j) * (blkA c a2 h2 a3 h3 a4 h4 a5 h5 a6 h6 a7 h7 a8 h8 a9 h9 a10 h10 a11 h11 a13 a14 a15 a16 a17 x0 x1 x2 x3 x4 x5 x6 x7 x8 x9).ke (ix2 p j)) (conv3_at _ _ _ _ _ _ _ p j)).trans (conv_eq b w0 w1 w2 w3 y0 y1 y2 y3)
/-- The gates. -/
theorem gA_at (p j : Fin 128) : (blkA c a2 h2 a3 h3 a4 h4 a5 h5 a6 h6 a7 h7 a8 h8 a9 h9 a10 h10 a11 h11 a13 a14 a15 a16 a17 x0 x1 x2 x3 x4 x5 x6 x7 x8 x9).g (ix2 p j) = (inOf x0 x1 x2 x3 x4 x5 x6 x7 x8 x9).g p j :=
  (pay16_at _ _ p j).trans (congrArg₂ (fun y z : EReal => y + z) (ldw h6 x4 inb_S128x128_S128x128_0_0 p j p j (Nat.zero_add _) (Nat.zero_add _))
    (ldw h9 x7 inb_S1x128_S1x128_0_0 0 j 0 j rfl (Nat.zero_add _)))
/-- The triangle. -/
theorem tA_at (p j : Fin 128) : (blkA c a2 h2 a3 h3 a4 h4 a5 h5 a6 h6 a7 h7 a8 h8 a9 h9 a10 h10 a11 h11 a13 a14 a15 a16 a17 x0 x1 x2 x3 x4 x5 x6 x7 x8 x9).tr (ix2 p j) = (inOf x0 x1 x2 x3 x4 x5 x6 x7 x8 x9).t p j :=
  ldw h11 x9 inb_S128x128_S128x128_0_0 p j p j (Nat.zero_add _) (Nat.zero_add _)
theorem vA0_at (p : Fin 128) (e : Fin 512) : (blkA c a2 h2 a3 h3 a4 h4 a5 h5 a6 h6 a7 h7 a8 h8 a9 h9 a10 h10 a11 h11 a13 a14 a15 a16 a17 x0 x1 x2 x3 x4 x5 x6 x7 x8 x9).v0 (ix2 p e) = (inOf x0 x1 x2 x3 x4 x5 x6 x7 x8 x9).x2 p (⟨512 * (0 : Fin 4).val + e.val, by omega⟩ : Fin 2048) :=
  ldw h4 x2 inb_S128x2048_S128x512_0_0 p e p _ (Nat.zero_add _) rfl
theorem oA0_at (p : Fin 128) (e : Fin 512) : (blkA c a2 h2 a3 h3 a4 h4 a5 h5 a6 h6 a7 h7 a8 h8 a9 h9 a10 h10 a11 h11 a13 a14 a15 a16 a17 x0 x1 x2 x3 x4 x5 x6 x7 x8 x9).o0 (ix2 p e) = (inOf x0 x1 x2 x3 x4 x5 x6 x7 x8 x9).x3 p (⟨512 * (0 : Fin 4).val + e.val, by omega⟩ : Fin 2048) :=
  ldw h5 x3 inb_S128x2048_S128x512_0_0 p e p _ (Nat.zero_add _) rfl
theorem wA0_at (e : Fin 512) : (blkA c a2 h2 a3 h3 a4 h4 a5 h5 a6 h6 a7 h7 a8 h8 a9 h9 a10 h10 a11 h11 a13 a14 a15 a16 a17 x0 x1 x2 x3 x4 x5 x6 x7 x8 x9).w0 (ix2 0 e) = (inOf x0 x1 x2 x3 x4 x5 x6 x7 x8 x9).w (⟨512 * (0 : Fin 4).val + e.val, by omega⟩ : Fin 2048) :=
  ldw h10 x8 inb_S1x2048_S1x512_0_0 0 e 0 _ rfl rfl
theorem cA0_at (d : Fin 256) (e : Fin 512) : (blkA c a2 h2 a3 h3 a4 h4 a5 h5 a6 h6 a7 h7 a8 h8 a9 h9 a10 h10 a11 h11 a13 a14 a15 a16 a17 x0 x1 x2 x3 x4 x5 x6 x7 x8 x9).c0 (ix3 0 d e) = Mlstm.St.zero.c 0 d e :=
  (ldc3 a15.view _ inb_S4x256x512_S1x256x512_0_0_0 _ 0 d e 0 d e rfl (Nat.zero_add _) (Nat.zero_add _)).trans (pay4_at 0 d e)
theorem nA0_at (d : Fin 256) : (blkA c a2 h2 a3 h3 a4 h4 a5 h5 a6 h6 a7 h7 a8 h8 a9 h9 a10 h10 a11 h11 a13 a14 a15 a16 a17 x0 x1 x2 x3 x4 x5 x6 x7 x8 x9).n0 (ix3 0 0 d) = Mlstm.St.zero.n 0 d :=
  (ldc3 a16.view _ inb_S4x1x256_S1x1x256_0_0_0 _ 0 0 d 0 0 d rfl rfl (Nat.zero_add _)).trans (pay5_at 0 d)
theorem mA0_at : (blkA c a2 h2 a3 h3 a4 h4 a5 h5 a6 h6 a7 h7 a8 h8 a9 h9 a10 h10 a11 h11 a13 a14 a15 a16 a17 x0 x1 x2 x3 x4 x5 x6 x7 x8 x9).m0 (ix3 0 0 0) = Mlstm.St.zero.m 0 :=
  (ldc3 a17.view _ inb_S4x1x1_S1x1x1_0_0_0 _ 0 0 0 0 0 0 rfl rfl rfl).trans (pay6_at 0)
theorem vA1_at (p : Fin 128) (e : Fin 512) : (blkA c a2 h2 a3 h3 a4 h4 a5 h5 a6 h6 a7 h7 a8 h8 a9 h9 a10 h10 a11 h11 a13 a14 a15 a16 a17 x0 x1 x2 x3 x4 x5 x6 x7 x8 x9).v1 (ix2 p e) = (inOf x0 x1 x2 x3 x4 x5 x6 x7 x8 x9).x2 p (⟨512 * (1 : Fin 4).val + e.val, by omega⟩ : Fin 2048) :=
  ldw h4 x2 inb_S128x2048_S128x512_0_512 p e p _ (Nat.zero_add _) rfl
theorem oA1_at (p : Fin 128) (e : Fin 512) : (blkA c a2 h2 a3 h3 a4 h4 a5 h5 a6 h6 a7 h7 a8 h8 a9 h9 a10 h10 a11 h11 a13 a14 a15 a16 a17 x0 x1 x2 x3 x4 x5 x6 x7 x8 x9).o1 (ix2 p e) = (inOf x0 x1 x2 x3 x4 x5 x6 x7 x8 x9).x3 p (⟨512 * (1 : Fin 4).val + e.val, by omega⟩ : Fin 2048) :=
  ldw h5 x3 inb_S128x2048_S128x512_0_512 p e p _ (Nat.zero_add _) rfl
theorem wA1_at (e : Fin 512) : (blkA c a2 h2 a3 h3 a4 h4 a5 h5 a6 h6 a7 h7 a8 h8 a9 h9 a10 h10 a11 h11 a13 a14 a15 a16 a17 x0 x1 x2 x3 x4 x5 x6 x7 x8 x9).w1 (ix2 0 e) = (inOf x0 x1 x2 x3 x4 x5 x6 x7 x8 x9).w (⟨512 * (1 : Fin 4).val + e.val, by omega⟩ : Fin 2048) :=
  ldw h10 x8 inb_S1x2048_S1x512_0_512 0 e 0 _ rfl rfl
theorem cA1_at (d : Fin 256) (e : Fin 512) : (blkA c a2 h2 a3 h3 a4 h4 a5 h5 a6 h6 a7 h7 a8 h8 a9 h9 a10 h10 a11 h11 a13 a14 a15 a16 a17 x0 x1 x2 x3 x4 x5 x6 x7 x8 x9).c1 (ix3 0 d e) = Mlstm.St.zero.c 1 d e :=
  (ldc3 a15.view _ inb_S4x256x512_S1x256x512_1_0_0 _ 0 d e 1 d e rfl (Nat.zero_add _) (Nat.zero_add _)).trans (pay4_at 1 d e)
theorem nA1_at (d : Fin 256) : (blkA c a2 h2 a3 h3 a4 h4 a5 h5 a6 h6 a7 h7 a8 h8 a9 h9 a10 h10 a11 h11 a13 a14 a15 a16 a17 x0 x1 x2 x3 x4 x5 x6 x7 x8 x9).n1 (ix3 0 0 d) = Mlstm.St.zero.n 1 d :=
  (ldc3 a16.view _ inb_S4x1x256_S1x1x256_1_0_0 _ 0 0 d 1 0 d rfl rfl (Nat.zero_add _)).trans (pay5_at 1 d)
theorem mA1_at : (blkA c a2 h2 a3 h3 a4 h4 a5 h5 a6 h6 a7 h7 a8 h8 a9 h9 a10 h10 a11 h11 a13 a14 a15 a16 a17 x0 x1 x2 x3 x4 x5 x6 x7 x8 x9).m1 (ix3 0 0 0) = Mlstm.St.zero.m 1 :=
  (ldc3 a17.view _ inb_S4x1x1_S1x1x1_1_0_0 _ 0 0 0 1 0 0 rfl rfl rfl).trans (pay6_at 1)
theorem vA2_at (p : Fin 128) (e : Fin 512) : (blkA c a2 h2 a3 h3 a4 h4 a5 h5 a6 h6 a7 h7 a8 h8 a9 h9 a10 h10 a11 h11 a13 a14 a15 a16 a17 x0 x1 x2 x3 x4 x5 x6 x7 x8 x9).v2 (ix2 p e) = (inOf x0 x1 x2 x3 x4 x5 x6 x7 x8 x9).x2 p (⟨512 * (2 : Fin 4).val + e.val, by omega⟩ : Fin 2048) :=
  ldw h4 x2 inb_S128x2048_S128x512_0_1024 p e p _ (Nat.zero_add _) rfl
theorem oA2_at (p : Fin 128) (e : Fin 512) : (blkA c a2 h2 a3 h3 a4 h4 a5 h5 a6 h6 a7 h7 a8 h8 a9 h9 a10 h10 a11 h11 a13 a14 a15 a16 a17 x0 x1 x2 x3 x4 x5 x6 x7 x8 x9).o2 (ix2 p e) = (inOf x0 x1 x2 x3 x4 x5 x6 x7 x8 x9).x3 p (⟨512 * (2 : Fin 4).val + e.val, by omega⟩ : Fin 2048) :=
  ldw h5 x3 inb_S128x2048_S128x512_0_1024 p e p _ (Nat.zero_add _) rfl
theorem wA2_at (e : Fin 512) : (blkA c a2 h2 a3 h3 a4 h4 a5 h5 a6 h6 a7 h7 a8 h8 a9 h9 a10 h10 a11 h11 a13 a14 a15 a16 a17 x0 x1 x2 x3 x4 x5 x6 x7 x8 x9).w2 (ix2 0 e) = (inOf x0 x1 x2 x3 x4 x5 x6 x7 x8 x9).w (⟨512 * (2 : Fin 4).val + e.val, by omega⟩ : Fin 2048) :=
  ldw h10 x8 inb_S1x2048_S1x512_0_1024 0 e 0 _ rfl rfl
theorem cA2_at (d : Fin 256) (e : Fin 512) : (blkA c a2 h2 a3 h3 a4 h4 a5 h5 a6 h6 a7 h7 a8 h8 a9 h9 a10 h10 a11 h11 a13 a14 a15 a16 a17 x0 x1 x2 x3 x4 x5 x6 x7 x8 x9).c2 (ix3 0 d e) = Mlstm.St.zero.c 2 d e :=
  (ldc3 a15.view _ inb_S4x256x512_S1x256x512_2_0_0 _ 0 d e 2 d e rfl (Nat.zero_add _) (Nat.zero_add _)).trans (pay4_at 2 d e)
theorem nA2_at (d : Fin 256) : (blkA c a2 h2 a3 h3 a4 h4 a5 h5 a6 h6 a7 h7 a8 h8 a9 h9 a10 h10 a11 h11 a13 a14 a15 a16 a17 x0 x1 x2 x3 x4 x5 x6 x7 x8 x9).n2 (ix3 0 0 d) = Mlstm.St.zero.n 2 d :=
  (ldc3 a16.view _ inb_S4x1x256_S1x1x256_2_0_0 _ 0 0 d 2 0 d rfl rfl (Nat.zero_add _)).trans (pay5_at 2 d)
theorem mA2_at : (blkA c a2 h2 a3 h3 a4 h4 a5 h5 a6 h6 a7 h7 a8 h8 a9 h9 a10 h10 a11 h11 a13 a14 a15 a16 a17 x0 x1 x2 x3 x4 x5 x6 x7 x8 x9).m2 (ix3 0 0 0) = Mlstm.St.zero.m 2 :=
  (ldc3 a17.view _ inb_S4x1x1_S1x1x1_2_0_0 _ 0 0 0 2 0 0 rfl rfl rfl).trans (pay6_at 2)
theorem vA3_at (p : Fin 128) (e : Fin 512) : (blkA c a2 h2 a3 h3 a4 h4 a5 h5 a6 h6 a7 h7 a8 h8 a9 h9 a10 h10 a11 h11 a13 a14 a15 a16 a17 x0 x1 x2 x3 x4 x5 x6 x7 x8 x9).v3 (ix2 p e) = (inOf x0 x1 x2 x3 x4 x5 x6 x7 x8 x9).x2 p (⟨512 * (3 : Fin 4).val + e.val, by omega⟩ : Fin 2048) :=
  ldw h4 x2 inb_S128x2048_S128x512_0_1536 p e p _ (Nat.zero_add _) rfl
theorem oA3_at (p : Fin 128) (e : Fin 512) : (blkA c a2 h2 a3 h3 a4 h4 a5 h5 a6 h6 a7 h7 a8 h8 a9 h9 a10 h10 a11 h11 a13 a14 a15 a16 a17 x0 x1 x2 x3 x4 x5 x6 x7 x8 x9).o3 (ix2 p e) = (inOf x0 x1 x2 x3 x4 x5 x6 x7 x8 x9).x3 p (⟨512 * (3 : Fin 4).val + e.val, by omega⟩ : Fin 2048) :=
  ldw h5 x3 inb_S128x2048_S128x512_0_1536 p e p _ (Nat.zero_add _) rfl
theorem wA3_at (e : Fin 512) : (blkA c a2 h2 a3 h3 a4 h4 a5 h5 a6 h6 a7 h7 a8 h8 a9 h9 a10 h10 a11 h11 a13 a14 a15 a16 a17 x0 x1 x2 x3 x4 x5 x6 x7 x8 x9).w3 (ix2 0 e) = (inOf x0 x1 x2 x3 x4 x5 x6 x7 x8 x9).w (⟨512 * (3 : Fin 4).val + e.val, by omega⟩ : Fin 2048) :=
  ldw h10 x8 inb_S1x2048_S1x512_0_1536 0 e 0 _ rfl rfl
theorem cA3_at (d : Fin 256) (e : Fin 512) : (blkA c a2 h2 a3 h3 a4 h4 a5 h5 a6 h6 a7 h7 a8 h8 a9 h9 a10 h10 a11 h11 a13 a14 a15 a16 a17 x0 x1 x2 x3 x4 x5 x6 x7 x8 x9).c3 (ix3 0 d e) = Mlstm.St.zero.c 3 d e :=
  (ldc3 a15.view _ inb_S4x256x512_S1x256x512_3_0_0 _ 0 d e 3 d e rfl (Nat.zero_add _) (Nat.zero_add _)).trans (pay4_at 3 d e)
theorem nA3_at (d : Fin 256) : (blkA c a2 h2 a3 h3 a4 h4 a5 h5 a6 h6 a7 h7 a8 h8 a9 h9 a10 h10 a11 h11 a13 a14 a15 a16 a17 x0 x1 x2 x3 x4 x5 x6 x7 x8 x9).n3 (ix3 0 0 d) = Mlstm.St.zero.n 3 d :=
  (ldc3 a16.view _ inb_S4x1x256_S1x1x256_3_0_0 _ 0 0 d 3 0 d rfl rfl (Nat.zero_add _)).trans (pay5_at 3 d)
theorem mA3_at : (blkA c a2 h2 a3 h3 a4 h4 a5 h5 a6 h6 a7 h7 a8 h8 a9 h9 a10 h10 a11 h11 a13 a14 a15 a16 a17 x0 x1 x2 x3 x4 x5 x6 x7 x8 x9).m3 (ix3 0 0 0) = Mlstm.St.zero.m 3 :=
  (ldc3 a17.view _ inb_S4x1x1_S1x1x1_3_0_0 _ 0 0 0 3 0 0 rfl rfl rfl).trans (pay6_at 3)

/-- A head's step. -/
theorem hdA (h : Fin 4) : (blkA c a2 h2 a3 h3 a4 h4 a5 h5 a6 h6 a7 h7 a8 h8 a9 h9 a10 h10 a11 h11 a13 a14 a15 a16 a17 x0 x1 x2 x3 x4 x5 x6 x7 x8 x9).hd h = (inOf x0 x1 x2 x3 x4 x5 x6 x7 x8 x9).hd Mlstm.St.zero h := by
  refine Mlstm.Hd.eq (fun p d => qA_at c a2 h2 a3 h3 a4 h4 a5 h5 a6 h6 a7 h7 a8 h8 a9 h9 a10 h10 a11 h11 a13 a14 a15 a16 a17 x0 x1 x2 x3 x4 x5 x6 x7 x8 x9 p _) (fun p d => ?_) (fun p e => ?_) (fun p => congrArg Mlstm.cap (gA_at c a2 h2 a3 h3 a4 h4 a5 h5 a6 h6 a7 h7 a8 h8 a9 h9 a10 h10 a11 h11 a13 a14 a15 a16 a17 x0 x1 x2 x3 x4 x5 x6 x7 x8 x9 _ _)) (fun p => ?_) (fun d e => ?_) (fun d => ?_) ?_
  · exact congrArg (fun z => Mlstm.silu z * Ideal.ofBits FTy.f32 1031798784#32) (kA_at c a2 h2 a3 h3 a4 h4 a5 h5 a6 h6 a7 h7 a8 h8 a9 h9 a10 h10 a11 h11 a13 a14 a15 a16 a17 x0 x1 x2 x3 x4 x5 x6 x7 x8 x9 _ _)
  · match h with
    | 0 => exact vA0_at c a2 h2 a3 h3 a4 h4 a5 h5 a6 h6 a7 h7 a8 h8 a9 h9 a10 h10 a11 h11 a13 a14 a15 a16 a17 x0 x1 x2 x3 x4 x5 x6 x7 x8 x9 p e
    | 1 => exact vA1_at c a2 h2 a3 h3 a4 h4 a5 h5 a6 h6 a7 h7 a8 h8 a9 h9 a10 h10 a11 h11 a13 a14 a15 a16 a17 x0 x1 x2 x3 x4 x5 x6 x7 x8 x9 p e
    | 2 => exact vA2_at c a2 h2 a3 h3 a4 h4 a5 h5 a6 h6 a7 h7 a8 h8 a9 h9 a10 h10 a11 h11 a13 a14 a15 a16 a17 x0 x1 x2 x3 x4 x5 x6 x7 x8 x9 p e
    | 3 => exact vA3_at c a2 h2 a3 h3 a4 h4 a5 h5 a6 h6 a7 h7 a8 h8 a9 h9 a10 h10 a11 h11 a13 a14 a15 a16 a17 x0 x1 x2 x3 x4 x5 x6 x7 x8 x9 p e
  · show (∑ x, (blkA c a2 h2 a3 h3 a4 h4 a5 h5 a6 h6 a7 h7 a8 h8 a9 h9 a10 h10 a11 h11 a13 a14 a15 a16 a17 x0 x1 x2 x3 x4 x5 x6 x7 x8 x9).tr (ix2 p x) * Mlstm.lfg ((blkA c a2 h2 a3 h3 a4 h4 a5 h5 a6 h6 a7 h7 a8 h8 a9 h9 a10 h10 a11 h11 a13 a14 a15 a16 a17 x0 x1 x2 x3 x4 x5 x6 x7 x8 x9).g (ix2 x (⟨4 + h.val, by omega⟩ : Fin 128)))
      + ∑ x, (blkA c a2 h2 a3 h3 a4 h4 a5 h5 a6 h6 a7 h7 a8 h8 a9 h9 a10 h10 a11 h11 a13 a14 a15 a16 a17 x0 x1 x2 x3 x4 x5 x6 x7 x8 x9).tr (ix2 p x) * (Mlstm.lfg ((blkA c a2 h2 a3 h3 a4 h4 a5 h5 a6 h6 a7 h7 a8 h8 a9 h9 a10 h10 a11 h11 a13 a14 a15 a16 a17 x0 x1 x2 x3 x4 x5 x6 x7 x8 x9).g (ix2 x (⟨4 + h.val, by omega⟩ : Fin 128))) - Mlstm.lfg ((blkA c a2 h2 a3 h3 a4 h4 a5 h5 a6 h6 a7 h7 a8 h8 a9 h9 a10 h10 a11 h11 a13 a14 a15 a16 a17 x0 x1 x2 x3 x4 x5 x6 x7 x8 x9).g (ix2 x (⟨4 + h.val, by omega⟩ : Fin 128)))) : EReal)
      = ∑ x, (inOf x0 x1 x2 x3 x4 x5 x6 x7 x8 x9).t p x * Mlstm.lfg ((inOf x0 x1 x2 x3 x4 x5 x6 x7 x8 x9).g x (⟨4 + h.val, by omega⟩ : Fin 128))
      + ∑ x, (inOf x0 x1 x2 x3 x4 x5 x6 x7 x8 x9).t p x * (Mlstm.lfg ((inOf x0 x1 x2 x3 x4 x5 x6 x7 x8 x9).g x (⟨4 + h.val, by omega⟩ : Fin 128)) - Mlstm.lfg ((inOf x0 x1 x2 x3 x4 x5 x6 x7 x8 x9).g x (⟨4 + h.val, by omega⟩ : Fin 128)))
    simp only [gA_at, tA_at]
  · match h with
    | 0 => exact cA0_at c a2 h2 a3 h3 a4 h4 a5 h5 a6 h6 a7 h7 a8 h8 a9 h9 a10 h10 a11 h11 a13 a14 a15 a16 a17 x0 x1 x2 x3 x4 x5 x6 x7 x8 x9 d e
    | 1 => exact cA1_at c a2 h2 a3 h3 a4 h4 a5 h5 a6 h6 a7 h7 a8 h8 a9 h9 a10 h10 a11 h11 a13 a14 a15 a16 a17 x0 x1 x2 x3 x4 x5 x6 x7 x8 x9 d e
    | 2 => exact cA2_at c a2 h2 a3 h3 a4 h4 a5 h5 a6 h6 a7 h7 a8 h8 a9 h9 a10 h10 a11 h11 a13 a14 a15 a16 a17 x0 x1 x2 x3 x4 x5 x6 x7 x8 x9 d e
    | 3 => exact cA3_at c a2 h2 a3 h3 a4 h4 a5 h5 a6 h6 a7 h7 a8 h8 a9 h9 a10 h10 a11 h11 a13 a14 a15 a16 a17 x0 x1 x2 x3 x4 x5 x6 x7 x8 x9 d e
  · match h with
    | 0 => exact nA0_at c a2 h2 a3 h3 a4 h4 a5 h5 a6 h6 a7 h7 a8 h8 a9 h9 a10 h10 a11 h11 a13 a14 a15 a16 a17 x0 x1 x2 x3 x4 x5 x6 x7 x8 x9 d
    | 1 => exact nA1_at c a2 h2 a3 h3 a4 h4 a5 h5 a6 h6 a7 h7 a8 h8 a9 h9 a10 h10 a11 h11 a13 a14 a15 a16 a17 x0 x1 x2 x3 x4 x5 x6 x7 x8 x9 d
    | 2 => exact nA2_at c a2 h2 a3 h3 a4 h4 a5 h5 a6 h6 a7 h7 a8 h8 a9 h9 a10 h10 a11 h11 a13 a14 a15 a16 a17 x0 x1 x2 x3 x4 x5 x6 x7 x8 x9 d
    | 3 => exact nA3_at c a2 h2 a3 h3 a4 h4 a5 h5 a6 h6 a7 h7 a8 h8 a9 h9 a10 h10 a11 h11 a13 a14 a15 a16 a17 x0 x1 x2 x3 x4 x5 x6 x7 x8 x9 d
  · match h with
    | 0 => exact mA0_at c a2 h2 a3 h3 a4 h4 a5 h5 a6 h6 a7 h7 a8 h8 a9 h9 a10 h10 a11 h11 a13 a14 a15 a16 a17 x0 x1 x2 x3 x4 x5 x6 x7 x8 x9
    | 1 => exact mA1_at c a2 h2 a3 h3 a4 h4 a5 h5 a6 h6 a7 h7 a8 h8 a9 h9 a10 h10 a11 h11 a13 a14 a15 a16 a17 x0 x1 x2 x3 x4 x5 x6 x7 x8 x9
    | 2 => exact mA2_at c a2 h2 a3 h3 a4 h4 a5 h5 a6 h6 a7 h7 a8 h8 a9 h9 a10 h10 a11 h11 a13 a14 a15 a16 a17 x0 x1 x2 x3 x4 x5 x6 x7 x8 x9
    | 3 => exact mA3_at c a2 h2 a3 h3 a4 h4 a5 h5 a6 h6 a7 h7 a8 h8 a9 h9 a10 h10 a11 h11 a13 a14 a15 a16 a17 x0 x1 x2 x3 x4 x5 x6 x7 x8 x9

/-- The block's results. -/
theorem outA (hc0 : cond0_0 i) (h : Fin 4) (p : Fin 128) (e : Fin 512) :
    out0_A_10 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 (ix2 p (⟨512 * h.val + e.val, by omega⟩ : Fin 2048)) = (inOf x0 x1 x2 x3 x4 x5 x6 x7 x8 x9).out Mlstm.St.zero h p e := by
  unfold out0_A_10
  rw [listA_out]
  unfold Mlstm.In.out
  rw [← hdA c a2 h2 a3 h3 a4 h4 a5 h5 a6 h6 a7 h7 a8 h8 a9 h9 a10 h10 a11 h11 a13 a14 a15 a16 a17 x0 x1 x2 x3 x4 x5 x6 x7 x8 x9]
  match h with
  | 0 =>
      refine (miss21 VO0_10 _ inb_S128x2048_S128x512_0_1536 _ _ _ _ (Or.inl (by show 512 * 0 + e.val < 1536; omega))).trans ?_
      refine (miss21 VO0_10 _ inb_S128x2048_S128x512_0_1024 _ _ _ _ (Or.inl (by show 512 * 0 + e.val < 1024; omega))).trans ?_
      refine (miss21 VO0_10 _ inb_S128x2048_S128x512_0_512 _ _ _ _ (Or.inl (by show 512 * 0 + e.val < 512; omega))).trans ?_
      refine (hit2 VO0_10 _ inb_S128x2048_S128x512_0_0 _ _ p e p _ (Nat.zero_add _) rfl).trans ((out0_at (blkA c a2 h2 a3 h3 a4 h4 a5 h5 a6 h6 a7 h7 a8 h8 a9 h9 a10 h10 a11 h11 a13 a14 a15 a16 a17 x0 x1 x2 x3 x4 x5 x6 x7 x8 x9) p e).trans ?_)
      have e1 : (fun j => (blkA c a2 h2 a3 h3 a4 h4 a5 h5 a6 h6 a7 h7 a8 h8 a9 h9 a10 h10 a11 h11 a13 a14 a15 a16 a17 x0 x1 x2 x3 x4 x5 x6 x7 x8 x9).w0 (ix2 0 j)) = fun e => (inOf x0 x1 x2 x3 x4 x5 x6 x7 x8 x9).w (⟨512 * (0 : Fin 4).val + e.val, by omega⟩ : Fin 2048) := funext fun e => wA0_at c a2 h2 a3 h3 a4 h4 a5 h5 a6 h6 a7 h7 a8 h8 a9 h9 a10 h10 a11 h11 a13 a14 a15 a16 a17 x0 x1 x2 x3 x4 x5 x6 x7 x8 x9 e
      have e2 : (fun p e => (blkA c a2 h2 a3 h3 a4 h4 a5 h5 a6 h6 a7 h7 a8 h8 a9 h9 a10 h10 a11 h11 a13 a14 a15 a16 a17 x0 x1 x2 x3 x4 x5 x6 x7 x8 x9).o0 (ix2 p e)) = fun p e => (inOf x0 x1 x2 x3 x4 x5 x6 x7 x8 x9).x3 p (⟨512 * (0 : Fin 4).val + e.val, by omega⟩ : Fin 2048) := funext fun p => funext fun e => oA0_at c a2 h2 a3 h3 a4 h4 a5 h5 a6 h6 a7 h7 a8 h8 a9 h9 a10 h10 a11 h11 a13 a14 a15 a16 a17 x0 x1 x2 x3 x4 x5 x6 x7 x8 x9 p e
      rw [e1, e2]
  | 1 =>
      refine (miss21 VO0_10 _ inb_S128x2048_S128x512_0_1536 _ _ _ _ (Or.inl (by show 512 * 1 + e.val < 1536; omega))).trans ?_
      refine (miss21 VO0_10 _ inb_S128x2048_S128x512_0_1024 _ _ _ _ (Or.inl (by show 512 * 1 + e.val < 1024; omega))).trans ?_
      refine (hit2 VO0_10 _ inb_S128x2048_S128x512_0_512 _ _ p e p _ (Nat.zero_add _) rfl).trans ((out1_at (blkA c a2 h2 a3 h3 a4 h4 a5 h5 a6 h6 a7 h7 a8 h8 a9 h9 a10 h10 a11 h11 a13 a14 a15 a16 a17 x0 x1 x2 x3 x4 x5 x6 x7 x8 x9) p e).trans ?_)
      have e1 : (fun j => (blkA c a2 h2 a3 h3 a4 h4 a5 h5 a6 h6 a7 h7 a8 h8 a9 h9 a10 h10 a11 h11 a13 a14 a15 a16 a17 x0 x1 x2 x3 x4 x5 x6 x7 x8 x9).w1 (ix2 0 j)) = fun e => (inOf x0 x1 x2 x3 x4 x5 x6 x7 x8 x9).w (⟨512 * (1 : Fin 4).val + e.val, by omega⟩ : Fin 2048) := funext fun e => wA1_at c a2 h2 a3 h3 a4 h4 a5 h5 a6 h6 a7 h7 a8 h8 a9 h9 a10 h10 a11 h11 a13 a14 a15 a16 a17 x0 x1 x2 x3 x4 x5 x6 x7 x8 x9 e
      have e2 : (fun p e => (blkA c a2 h2 a3 h3 a4 h4 a5 h5 a6 h6 a7 h7 a8 h8 a9 h9 a10 h10 a11 h11 a13 a14 a15 a16 a17 x0 x1 x2 x3 x4 x5 x6 x7 x8 x9).o1 (ix2 p e)) = fun p e => (inOf x0 x1 x2 x3 x4 x5 x6 x7 x8 x9).x3 p (⟨512 * (1 : Fin 4).val + e.val, by omega⟩ : Fin 2048) := funext fun p => funext fun e => oA1_at c a2 h2 a3 h3 a4 h4 a5 h5 a6 h6 a7 h7 a8 h8 a9 h9 a10 h10 a11 h11 a13 a14 a15 a16 a17 x0 x1 x2 x3 x4 x5 x6 x7 x8 x9 p e
      rw [e1, e2]
  | 2 =>
      refine (miss21 VO0_10 _ inb_S128x2048_S128x512_0_1536 _ _ _ _ (Or.inl (by show 512 * 2 + e.val < 1536; omega))).trans ?_
      refine (hit2 VO0_10 _ inb_S128x2048_S128x512_0_1024 _ _ p e p _ (Nat.zero_add _) rfl).trans ((out2_at (blkA c a2 h2 a3 h3 a4 h4 a5 h5 a6 h6 a7 h7 a8 h8 a9 h9 a10 h10 a11 h11 a13 a14 a15 a16 a17 x0 x1 x2 x3 x4 x5 x6 x7 x8 x9) p e).trans ?_)
      have e1 : (fun j => (blkA c a2 h2 a3 h3 a4 h4 a5 h5 a6 h6 a7 h7 a8 h8 a9 h9 a10 h10 a11 h11 a13 a14 a15 a16 a17 x0 x1 x2 x3 x4 x5 x6 x7 x8 x9).w2 (ix2 0 j)) = fun e => (inOf x0 x1 x2 x3 x4 x5 x6 x7 x8 x9).w (⟨512 * (2 : Fin 4).val + e.val, by omega⟩ : Fin 2048) := funext fun e => wA2_at c a2 h2 a3 h3 a4 h4 a5 h5 a6 h6 a7 h7 a8 h8 a9 h9 a10 h10 a11 h11 a13 a14 a15 a16 a17 x0 x1 x2 x3 x4 x5 x6 x7 x8 x9 e
      have e2 : (fun p e => (blkA c a2 h2 a3 h3 a4 h4 a5 h5 a6 h6 a7 h7 a8 h8 a9 h9 a10 h10 a11 h11 a13 a14 a15 a16 a17 x0 x1 x2 x3 x4 x5 x6 x7 x8 x9).o2 (ix2 p e)) = fun p e => (inOf x0 x1 x2 x3 x4 x5 x6 x7 x8 x9).x3 p (⟨512 * (2 : Fin 4).val + e.val, by omega⟩ : Fin 2048) := funext fun p => funext fun e => oA2_at c a2 h2 a3 h3 a4 h4 a5 h5 a6 h6 a7 h7 a8 h8 a9 h9 a10 h10 a11 h11 a13 a14 a15 a16 a17 x0 x1 x2 x3 x4 x5 x6 x7 x8 x9 p e
      rw [e1, e2]
  | 3 =>
      refine (hit2 VO0_10 _ inb_S128x2048_S128x512_0_1536 _ _ p e p _ (Nat.zero_add _) rfl).trans ((out3_at (blkA c a2 h2 a3 h3 a4 h4 a5 h5 a6 h6 a7 h7 a8 h8 a9 h9 a10 h10 a11 h11 a13 a14 a15 a16 a17 x0 x1 x2 x3 x4 x5 x6 x7 x8 x9) p e).trans ?_)
      have e1 : (fun j => (blkA c a2 h2 a3 h3 a4 h4 a5 h5 a6 h6 a7 h7 a8 h8 a9 h9 a10 h10 a11 h11 a13 a14 a15 a16 a17 x0 x1 x2 x3 x4 x5 x6 x7 x8 x9).w3 (ix2 0 j)) = fun e => (inOf x0 x1 x2 x3 x4 x5 x6 x7 x8 x9).w (⟨512 * (3 : Fin 4).val + e.val, by omega⟩ : Fin 2048) := funext fun e => wA3_at c a2 h2 a3 h3 a4 h4 a5 h5 a6 h6 a7 h7 a8 h8 a9 h9 a10 h10 a11 h11 a13 a14 a15 a16 a17 x0 x1 x2 x3 x4 x5 x6 x7 x8 x9 e
      have e2 : (fun p e => (blkA c a2 h2 a3 h3 a4 h4 a5 h5 a6 h6 a7 h7 a8 h8 a9 h9 a10 h10 a11 h11 a13 a14 a15 a16 a17 x0 x1 x2 x3 x4 x5 x6 x7 x8 x9).o3 (ix2 p e)) = fun p e => (inOf x0 x1 x2 x3 x4 x5 x6 x7 x8 x9).x3 p (⟨512 * (3 : Fin 4).val + e.val, by omega⟩ : Fin 2048) := funext fun p => funext fun e => oA3_at c a2 h2 a3 h3 a4 h4 a5 h5 a6 h6 a7 h7 a8 h8 a9 h9 a10 h10 a11 h11 a13 a14 a15 a16 a17 x0 x1 x2 x3 x4 x5 x6 x7 x8 x9 p e
      rw [e1, e2]

/-- The carried matrices it leaves. -/
theorem soutA_c (hc0 : cond0_0 i) (h : Fin 4) (d : Fin 256) (e : Fin 512) : sout0_A_2 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 (ix3 h d e) = ((inOf x0 x1 x2 x3 x4 x5 x6 x7 x8 x9).next Mlstm.St.zero).c h d e := by
  unfold sout0_A_2
  rw [listA_c]
  show _ = ((inOf x0 x1 x2 x3 x4 x5 x6 x7 x8 x9).hd Mlstm.St.zero h).c' d e
  rw [← hdA c a2 h2 a3 h3 a4 h4 a5 h5 a6 h6 a7 h7 a8 h8 a9 h9 a10 h10 a11 h11 a13 a14 a15 a16 a17 x0 x1 x2 x3 x4 x5 x6 x7 x8 x9]
  match h with
  | 0 =>
      refine (miss30 VS0_2 _ inb_S4x256x512_S1x256x512_3_0_0 _ _ _ _ _ (Or.inl (by show 0 < 3; omega))).trans ?_
      refine (miss30 VS0_2 _ inb_S4x256x512_S1x256x512_2_0_0 _ _ _ _ _ (Or.inl (by show 0 < 2; omega))).trans ?_
      refine (miss30 VS0_2 _ inb_S4x256x512_S1x256x512_1_0_0 _ _ _ _ _ (Or.inl (by show 0 < 1; omega))).trans ?_
      exact (hit3 VS0_2 _ inb_S4x256x512_S1x256x512_0_0_0 _ _ 0 d e 0 d e rfl (Nat.zero_add _) (Nat.zero_add _)).trans (cn0_at (blkA c a2 h2 a3 h3 a4 h4 a5 h5 a6 h6 a7 h7 a8 h8 a9 h9 a10 h10 a11 h11 a13 a14 a15 a16 a17 x0 x1 x2 x3 x4 x5 x6 x7 x8 x9) d e)
  | 1 =>
      refine (miss30 VS0_2 _ inb_S4x256x512_S1x256x512_3_0_0 _ _ _ _ _ (Or.inl (by show 1 < 3; omega))).trans ?_
      refine (miss30 VS0_2 _ inb_S4x256x512_S1x256x512_2_0_0 _ _ _ _ _ (Or.inl (by show 1 < 2; omega))).trans ?_
      exact (hit3 VS0_2 _ inb_S4x256x512_S1x256x512_1_0_0 _ _ 0 d e 1 d e rfl (Nat.zero_add _) (Nat.zero_add _)).trans (cn1_at (blkA c a2 h2 a3 h3 a4 h4 a5 h5 a6 h6 a7 h7 a8 h8 a9 h9 a10 h10 a11 h11 a13 a14 a15 a16 a17 x0 x1 x2 x3 x4 x5 x6 x7 x8 x9) d e)
  | 2 =>
      refine (miss30 VS0_2 _ inb_S4x256x512_S1x256x512_3_0_0 _ _ _ _ _ (Or.inl (by show 2 < 3; omega))).trans ?_
      exact (hit3 VS0_2 _ inb_S4x256x512_S1x256x512_2_0_0 _ _ 0 d e 2 d e rfl (Nat.zero_add _) (Nat.zero_add _)).trans (cn2_at (blkA c a2 h2 a3 h3 a4 h4 a5 h5 a6 h6 a7 h7 a8 h8 a9 h9 a10 h10 a11 h11 a13 a14 a15 a16 a17 x0 x1 x2 x3 x4 x5 x6 x7 x8 x9) d e)
  | 3 =>
      exact (hit3 VS0_2 _ inb_S4x256x512_S1x256x512_3_0_0 _ _ 0 d e 3 d e rfl (Nat.zero_add _) (Nat.zero_add _)).trans (cn3_at (blkA c a2 h2 a3 h3 a4 h4 a5 h5 a6 h6 a7 h7 a8 h8 a9 h9 a10 h10 a11 h11 a13 a14 a15 a16 a17 x0 x1 x2 x3 x4 x5 x6 x7 x8 x9) d e)

/-- The carried vectors it leaves. -/
theorem soutA_n (hc0 : cond0_0 i) (h : Fin 4) (d : Fin 256) : sout0_A_3 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 (ix3 h 0 d) = ((inOf x0 x1 x2 x3 x4 x5 x6 x7 x8 x9).next Mlstm.St.zero).n h d := by
  unfold sout0_A_3
  rw [listA_n]
  show _ = ((inOf x0 x1 x2 x3 x4 x5 x6 x7 x8 x9).hd Mlstm.St.zero h).n' d
  rw [← hdA c a2 h2 a3 h3 a4 h4 a5 h5 a6 h6 a7 h7 a8 h8 a9 h9 a10 h10 a11 h11 a13 a14 a15 a16 a17 x0 x1 x2 x3 x4 x5 x6 x7 x8 x9]
  match h with
  | 0 =>
      refine (miss30 VS0_3 _ inb_S4x1x256_S1x1x256_3_0_0 _ _ _ _ _ (Or.inl (by show 0 < 3; omega))).trans ?_
      refine (miss30 VS0_3 _ inb_S4x1x256_S1x1x256_2_0_0 _ _ _ _ _ (Or.inl (by show 0 < 2; omega))).trans ?_
      refine (miss30 VS0_3 _ inb_S4x1x256_S1x1x256_1_0_0 _ _ _ _ _ (Or.inl (by show 0 < 1; omega))).trans ?_
      exact (hit3 VS0_3 _ inb_S4x1x256_S1x1x256_0_0_0 _ _ 0 0 d 0 0 d rfl rfl (Nat.zero_add _)).trans (nn0_at (blkA c a2 h2 a3 h3 a4 h4 a5 h5 a6 h6 a7 h7 a8 h8 a9 h9 a10 h10 a11 h11 a13 a14 a15 a16 a17 x0 x1 x2 x3 x4 x5 x6 x7 x8 x9) d)
  | 1 =>
      refine (miss30 VS0_3 _ inb_S4x1x256_S1x1x256_3_0_0 _ _ _ _ _ (Or.inl (by show 1 < 3; omega))).trans ?_
      refine (miss30 VS0_3 _ inb_S4x1x256_S1x1x256_2_0_0 _ _ _ _ _ (Or.inl (by show 1 < 2; omega))).trans ?_
      exact (hit3 VS0_3 _ inb_S4x1x256_S1x1x256_1_0_0 _ _ 0 0 d 1 0 d rfl rfl (Nat.zero_add _)).trans (nn1_at (blkA c a2 h2 a3 h3 a4 h4 a5 h5 a6 h6 a7 h7 a8 h8 a9 h9 a10 h10 a11 h11 a13 a14 a15 a16 a17 x0 x1 x2 x3 x4 x5 x6 x7 x8 x9) d)
  | 2 =>
      refine (miss30 VS0_3 _ inb_S4x1x256_S1x1x256_3_0_0 _ _ _ _ _ (Or.inl (by show 2 < 3; omega))).trans ?_
      exact (hit3 VS0_3 _ inb_S4x1x256_S1x1x256_2_0_0 _ _ 0 0 d 2 0 d rfl rfl (Nat.zero_add _)).trans (nn2_at (blkA c a2 h2 a3 h3 a4 h4 a5 h5 a6 h6 a7 h7 a8 h8 a9 h9 a10 h10 a11 h11 a13 a14 a15 a16 a17 x0 x1 x2 x3 x4 x5 x6 x7 x8 x9) d)
  | 3 =>
      exact (hit3 VS0_3 _ inb_S4x1x256_S1x1x256_3_0_0 _ _ 0 0 d 3 0 d rfl rfl (Nat.zero_add _)).trans (nn3_at (blkA c a2 h2 a3 h3 a4 h4 a5 h5 a6 h6 a7 h7 a8 h8 a9 h9 a10 h10 a11 h11 a13 a14 a15 a16 a17 x0 x1 x2 x3 x4 x5 x6 x7 x8 x9) d)

/-- The carried exponents it leaves. -/
theorem soutA_m (hc0 : cond0_0 i) (h : Fin 4)  : sout0_A_4 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 (ix3 h 0 0) = ((inOf x0 x1 x2 x3 x4 x5 x6 x7 x8 x9).next Mlstm.St.zero).m h  := by
  unfold sout0_A_4
  rw [listA_m]
  show _ = ((inOf x0 x1 x2 x3 x4 x5 x6 x7 x8 x9).hd Mlstm.St.zero h).m'
  rw [← hdA c a2 h2 a3 h3 a4 h4 a5 h5 a6 h6 a7 h7 a8 h8 a9 h9 a10 h10 a11 h11 a13 a14 a15 a16 a17 x0 x1 x2 x3 x4 x5 x6 x7 x8 x9]
  match h with
  | 0 =>
      refine (miss30 VS0_4 _ inb_S4x1x1_S1x1x1_3_0_0 _ _ _ _ _ (Or.inl (by show 0 < 3; omega))).trans ?_
      refine (miss30 VS0_4 _ inb_S4x1x1_S1x1x1_2_0_0 _ _ _ _ _ (Or.inl (by show 0 < 2; omega))).trans ?_
      refine (miss30 VS0_4 _ inb_S4x1x1_S1x1x1_1_0_0 _ _ _ _ _ (Or.inl (by show 0 < 1; omega))).trans ?_
      exact (hit3 VS0_4 _ inb_S4x1x1_S1x1x1_0_0_0 _ _ 0 0 0 0 0 0 rfl rfl rfl).trans (mn0_at (blkA c a2 h2 a3 h3 a4 h4 a5 h5 a6 h6 a7 h7 a8 h8 a9 h9 a10 h10 a11 h11 a13 a14 a15 a16 a17 x0 x1 x2 x3 x4 x5 x6 x7 x8 x9) )
  | 1 =>
      refine (miss30 VS0_4 _ inb_S4x1x1_S1x1x1_3_0_0 _ _ _ _ _ (Or.inl (by show 1 < 3; omega))).trans ?_
      refine (miss30 VS0_4 _ inb_S4x1x1_S1x1x1_2_0_0 _ _ _ _ _ (Or.inl (by show 1 < 2; omega))).trans ?_
      exact (hit3 VS0_4 _ inb_S4x1x1_S1x1x1_1_0_0 _ _ 0 0 0 1 0 0 rfl rfl rfl).trans (mn1_at (blkA c a2 h2 a3 h3 a4 h4 a5 h5 a6 h6 a7 h7 a8 h8 a9 h9 a10 h10 a11 h11 a13 a14 a15 a16 a17 x0 x1 x2 x3 x4 x5 x6 x7 x8 x9) )
  | 2 =>
      refine (miss30 VS0_4 _ inb_S4x1x1_S1x1x1_3_0_0 _ _ _ _ _ (Or.inl (by show 2 < 3; omega))).trans ?_
      exact (hit3 VS0_4 _ inb_S4x1x1_S1x1x1_2_0_0 _ _ 0 0 0 2 0 0 rfl rfl rfl).trans (mn2_at (blkA c a2 h2 a3 h3 a4 h4 a5 h5 a6 h6 a7 h7 a8 h8 a9 h9 a10 h10 a11 h11 a13 a14 a15 a16 a17 x0 x1 x2 x3 x4 x5 x6 x7 x8 x9) )
  | 3 =>
      exact (hit3 VS0_4 _ inb_S4x1x1_S1x1x1_3_0_0 _ _ 0 0 0 3 0 0 rfl rfl rfl).trans (mn3_at (blkA c a2 h2 a3 h3 a4 h4 a5 h5 a6 h6 a7 h7 a8 h8 a9 h9 a10 h10 a11 h11 a13 a14 a15 a16 a17 x0 x1 x2 x3 x4 x5 x6 x7 x8 x9) )

/-- The last queries it leaves. -/
theorem soutA_q (hc0 : cond0_0 i) (r : Fin 8) (j : Fin 1024) : sout0_A_0 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 (ix2 (⟨r.val, by omega⟩ : Fin 136) j) = ((inOf x0 x1 x2 x3 x4 x5 x6 x7 x8 x9).next Mlstm.St.zero).qp r j := by
  unfold sout0_A_0
  rw [listA_q]
  refine (hit2 VS0_0 _ inb_S136x1024_S8x1024_0_0 _ _ r j _ j (Nat.zero_add _) (Nat.zero_add _)).trans ?_
  refine (pay10_at _ r j).trans ?_
  refine (at2 a13.view (a13.view.writes (Elt Ideal) a13.view.junk (kernelRun0_A.sl.HS0_2 c a2 h2 x0)) inb_S136x1024_S8x1024_128_0 r j).trans ((extqA (v := a13.view) (f := a13.view.junk) (x0 := x0) (x1 := x1) (x2 := x2) (x3 := x3) (x4 := x4) (x5 := x5) (x6 := x6) (x7 := x7) (x8 := x8) (x9 := x9) ..).trans ?_)
  refine (ext_past _ _ _ _ (⟨120 + r.val, by omega⟩ : Fin 128) (by show 8 + (120 + r.val) = 128 + r.val; omega)).trans ?_
  exact congrArg ((inOf x0 x1 x2 x3 x4 x5 x6 x7 x8 x9).x0 _) (Fin.ext (Nat.zero_add _))

/-- The last keys it leaves. -/
theorem soutA_k (hc0 : cond0_0 i) (r : Fin 8) (j : Fin 1024) : sout0_A_1 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 (ix2 (⟨r.val, by omega⟩ : Fin 136) j) = ((inOf x0 x1 x2 x3 x4 x5 x6 x7 x8 x9).next Mlstm.St.zero).kp r j := by
  unfold sout0_A_1
  rw [listA_k]
  refine (hit2 VS0_1 _ inb_S136x1024_S8x1024_0_0 _ _ r j _ j (Nat.zero_add _) (Nat.zero_add _)).trans ?_
  refine (pay14_at _ r j).trans ?_
  refine (at2 a14.view (a14.view.writes (Elt Ideal) a14.view.junk (kernelRun0_A.sl.HS1_2 c a3 h3 x1)) inb_S136x1024_S8x1024_128_0 r j).trans ((extkA (v := a14.view) (f := a14.view.junk) (x0 := x0) (x1 := x1) (x2 := x2) (x3 := x3) (x4 := x4) (x5 := x5) (x6 := x6) (x7 := x7) (x8 := x8) (x9 := x9) ..).trans ?_)
  refine (ext_past _ _ _ _ (⟨120 + r.val, by omega⟩ : Fin 128) (by show 8 + (120 + r.val) = 128 + r.val; omega)).trans ?_
  exact congrArg ((inOf x0 x1 x2 x3 x4 x5 x6 x7 x8 x9).x1 _) (Fin.ext (Nat.zero_add _))

/-- The state it leaves. -/
theorem nextA (hc0 : cond0_0 i) : stOf (sout0_A_0 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9) (sout0_A_1 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9) (sout0_A_2 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9) (sout0_A_3 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9) (sout0_A_4 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9) = (inOf x0 x1 x2 x3 x4 x5 x6 x7 x8 x9).next Mlstm.St.zero :=
  stOf_eq _ _ _ _ _ _ (soutA_q c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 hc0) (soutA_k c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 hc0) (soutA_c c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 hc0) (soutA_n c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 hc0) (soutA_m c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 hc0)

end Cert.KernelIdeal.Own
-- ==== Proof.KernelBlockB.lean ====
module

public import proofs.«01_k».proof.Proof.KernelLoad

@[expose] public section

set_option maxRecDepth 16384

noncomputable section

/-! The mLSTM kernel's block that goes on with a sequence: what its arithmetic reads, and the stores it leaves. -/

namespace Cert.KernelIdeal.Own

open Cert Cert.KernelIdeal Cert.KernelIdeal.Gen Idealize.ShloMosaic Idealize.ShloMosaic.TcCoe Idealize.SL.Sem

variable (c : Dev nD) (i : grid0.Coords) (a2 : Memref sig .tc .vmem S128x1024 .f32) (h2 : a2.IsWhole) (a3 : Memref sig .tc .vmem S128x1024 .f32) (h3 : a3.IsWhole) (a4 : Memref sig .tc .vmem S128x2048 .f32) (h4 : a4.IsWhole) (a5 : Memref sig .tc .vmem S128x2048 .f32) (h5 : a5.IsWhole) (a6 : Memref sig .tc .vmem S128x128 .f32) (h6 : a6.IsWhole) (a7 : Memref sig .tc .vmem S4x2048 .f32) (h7 : a7.IsWhole) (a8 : Memref sig .tc .vmem S1x2048 .f32) (h8 : a8.IsWhole) (a9 : Memref sig .tc .vmem S1x128 .f32) (h9 : a9.IsWhole) (a10 : Memref sig .tc .vmem S1x2048 .f32) (h10 : a10.IsWhole) (a11 : Memref sig .tc .vmem S128x128 .bf16) (h11 : a11.IsWhole) (a12 : Memref sig .tc .vmem S128x2048 .bf16) (h12 : a12.IsWhole) (a13 : Memref sig .tc .vmem S136x1024 .f32) (h13 : a13.IsWhole) (a14 : Memref sig .tc .vmem S136x1024 .f32) (h14 : a14.IsWhole) (a15 : Memref sig .tc .vmem S4x256x512 .f32) (h15 : a15.IsWhole) (a16 : Memref sig .tc .vmem S4x1x256 .f32) (h16 : a16.IsWhole) (a17 : Memref sig .tc .vmem S4x1x1 .f32) (h17 : a17.IsWhole)
  (x0 : Vec Ideal S128x1024 .f32) (x1 : Vec Ideal S128x1024 .f32) (x2 : Vec Ideal S128x2048 .f32) (x3 : Vec Ideal S128x2048 .f32) (x4 : Vec Ideal S128x128 .f32) (x5 : Vec Ideal S4x2048 .f32) (x6 : Vec Ideal S1x2048 .f32) (x7 : Vec Ideal S1x128 .f32) (x8 : Vec Ideal S1x2048 .f32) (x9 : Vec Ideal S128x128 .bf16)
  (xs0 : Vec Ideal S136x1024 .f32) (xs1 : Vec Ideal S136x1024 .f32) (xs2 : Vec Ideal S4x256x512 .f32) (xs3 : Vec Ideal S4x1x256 .f32) (xs4 : Vec Ideal S4x1x1 .f32)

/-- What the arithmetic of such a block reads. -/
def blkB : Blk where
  q := (kernelRun0_B.sl.r_2 c a2 h2 a7 h7 a8 h8 a13 h13 x0 x5 x6 xs0)
  k3 := (kernelRun0_B.sl.r_3 c a3 h3 a7 h7 a8 h8 a14 h14 x1 x5 x6 xs1)
  kw := (View.readAt (Elt Ideal) a7.view (Rect.unit (s := S4x2048) ![3, 1024] S1x1024.size inb_S4x2048_S1x1024_3_1024).toLoadRect (h7.unread x5))
  ke := (kernelRun0_B.sl.v69 c a3 h3 a14 x1)
  g := (kernelRun0_B.sl.r_4 c a6 h6 a9 h9 x4 x7)
  tr := (kernelRun0_B.sl.r_5 c a11 h11 x9)
  v0 := (View.readAt (Elt Ideal) a4.view (Rect.unit (s := S128x2048) ![0, 0] S128x512.size inb_S128x2048_S128x512_0_0).toLoadRect (h4.unread x2))
  m0 := (View.readAt (Elt Ideal) a17.view (Rect.unit (s := S4x1x1) ![0, 0, 0] S1x1x1.size inb_S4x1x1_S1x1x1_0_0_0).toLoadRect (h17.unread xs4))
  c0 := (View.readAt (Elt Ideal) a15.view (Rect.unit (s := S4x256x512) ![0, 0, 0] S1x256x512.size inb_S4x256x512_S1x256x512_0_0_0).toLoadRect (h15.unread xs2))
  n0 := (View.readAt (Elt Ideal) a16.view (Rect.unit (s := S4x1x256) ![0, 0, 0] S1x1x256.size inb_S4x1x256_S1x1x256_0_0_0).toLoadRect (h16.unread xs3))
  v1 := (View.readAt (Elt Ideal) a4.view (Rect.unit (s := S128x2048) ![0, 512] S128x512.size inb_S128x2048_S128x512_0_512).toLoadRect (h4.unread x2))
  m1 := (View.readAt (Elt Ideal) a17.view (Rect.unit (s := S4x1x1) ![1, 0, 0] S1x1x1.size inb_S4x1x1_S1x1x1_1_0_0).toLoadRect (h17.unread xs4))
  c1 := (View.readAt (Elt Ideal) a15.view (Rect.unit (s := S4x256x512) ![1, 0, 0] S1x256x512.size inb_S4x256x512_S1x256x512_1_0_0).toLoadRect (h15.unread xs2))
  n1 := (View.readAt (Elt Ideal) a16.view (Rect.unit (s := S4x1x256) ![1, 0, 0] S1x1x256.size inb_S4x1x256_S1x1x256_1_0_0).toLoadRect (h16.unread xs3))
  v2 := (View.readAt (Elt Ideal) a4.view (Rect.unit (s := S128x2048) ![0, 1024] S128x512.size inb_S128x2048_S128x512_0_1024).toLoadRect (h4.unread x2))
  m2 := (View.readAt (Elt Ideal) a17.view (Rect.unit (s := S4x1x1) ![2, 0, 0] S1x1x1.size inb_S4x1x1_S1x1x1_2_0_0).toLoadRect (h17.unread xs4))
  c2 := (View.readAt (Elt Ideal) a15.view (Rect.unit (s := S4x256x512) ![2, 0, 0] S1x256x512.size inb_S4x256x512_S1x256x512_2_0_0).toLoadRect (h15.unread xs2))
  n2 := (View.readAt (Elt Ideal) a16.view (Rect.unit (s := S4x1x256) ![2, 0, 0] S1x1x256.size inb_S4x1x256_S1x1x256_2_0_0).toLoadRect (h16.unread xs3))
  v3 := (View.readAt (Elt Ideal) a4.view (Rect.unit (s := S128x2048) ![0, 1536] S128x512.size inb_S128x2048_S128x512_0_1536).toLoadRect (h4.unread x2))
  m3 := (View.readAt (Elt Ideal) a17.view (Rect.unit (s := S4x1x1) ![3, 0, 0] S1x1x1.size inb_S4x1x1_S1x1x1_3_0_0).toLoadRect (h17.unread xs4))
  c3 := (View.readAt (Elt Ideal) a15.view (Rect.unit (s := S4x256x512) ![3, 0, 0] S1x256x512.size inb_S4x256x512_S1x256x512_3_0_0).toLoadRect (h15.unread xs2))
  n3 := (View.readAt (Elt Ideal) a16.view (Rect.unit (s := S4x1x256) ![3, 0, 0] S1x1x256.size inb_S4x1x256_S1x1x256_3_0_0).toLoadRect (h16.unread xs3))
  w3 := (View.readAt (Elt Ideal) a10.view (Rect.unit (s := S1x2048) ![0, 1536] S1x512.size inb_S1x2048_S1x512_0_1536).toLoadRect (h10.unread x8))
  o3 := (View.readAt (Elt Ideal) a5.view (Rect.unit (s := S128x2048) ![0, 1536] S128x512.size inb_S128x2048_S128x512_0_1536).toLoadRect (h5.unread x3))
  w2 := (View.readAt (Elt Ideal) a10.view (Rect.unit (s := S1x2048) ![0, 1024] S1x512.size inb_S1x2048_S1x512_0_1024).toLoadRect (h10.unread x8))
  o2 := (View.readAt (Elt Ideal) a5.view (Rect.unit (s := S128x2048) ![0, 1024] S128x512.size inb_S128x2048_S128x512_0_1024).toLoadRect (h5.unread x3))
  w0 := (View.readAt (Elt Ideal) a10.view (Rect.unit (s := S1x2048) ![0, 0] S1x512.size inb_S1x2048_S1x512_0_0).toLoadRect (h10.unread x8))
  o0 := (View.readAt (Elt Ideal) a5.view (Rect.unit (s := S128x2048) ![0, 0] S128x512.size inb_S128x2048_S128x512_0_0).toLoadRect (h5.unread x3))
  w1 := (View.readAt (Elt Ideal) a10.view (Rect.unit (s := S1x2048) ![0, 512] S1x512.size inb_S1x2048_S1x512_0_512).toLoadRect (h10.unread x8))
  o1 := (View.readAt (Elt Ideal) a5.view (Rect.unit (s := S128x2048) ![0, 512] S128x512.size inb_S128x2048_S128x512_0_512).toLoadRect (h5.unread x3))
theorem eB6 : kernelRun0_B.sl.r_6 c a2 h2 a7 h7 a8 h8 a13 h13 x0 x5 x6 xs0 = s6 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_6 s6
  rfl
theorem eB7 : kernelRun0_B.sl.r_7 c a2 h2 a7 h7 a8 h8 a13 h13 x0 x5 x6 xs0 = s7 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_7 s7
  rfl
theorem eB8 : kernelRun0_B.sl.r_8 c a2 h2 a7 h7 a8 h8 a13 h13 x0 x5 x6 xs0 = s8 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_8 s8
  rfl
theorem eB9 : kernelRun0_B.sl.r_9 c a2 h2 a7 h7 a8 h8 a13 h13 x0 x5 x6 xs0 = s9 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_9 s9
  rfl
theorem eB10 : kernelRun0_B.sl.r_10 c a3 h3 a7 h7 a8 h8 a14 h14 x1 x5 x6 xs1 = s10 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_10 s10
  rfl
theorem eB11 : kernelRun0_B.sl.r_11 c a3 h3 a7 h7 a8 h8 a14 h14 x1 x5 x6 xs1 = s11 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_11 s11
  rfl
theorem eB12 : kernelRun0_B.sl.r_12 c a3 h3 a7 h7 a8 h8 a14 h14 x1 x5 x6 xs1 = s12 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_12 s12
  rfl
theorem eB13 : kernelRun0_B.sl.r_13 c a3 h3 a7 h7 a8 h8 a14 h14 x1 x5 x6 xs1 = s13 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_13 s13
  rfl
theorem eB14 : kernelRun0_B.sl.r_14 c a4 h4 x2 = s14 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_14 s14
  rfl
theorem eB15 : kernelRun0_B.sl.r_15 c a4 h4 x2 = s15 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_15 s15
  rfl
theorem eB16 : kernelRun0_B.sl.r_16 c a4 h4 x2 = s16 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_16 s16
  rfl
theorem eB17 : kernelRun0_B.sl.r_17 c a4 h4 x2 = s17 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_17 s17
  rfl
theorem eB18 : kernelRun0_B.sl.r_18 c a6 h6 a9 h9 x4 x7 = s18 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_18 s18
  rfl
theorem eB19 : kernelRun0_B.sl.r_19 c a6 h6 a9 h9 x4 x7 = s19 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_19 s19
  rfl
theorem eB20 : kernelRun0_B.sl.r_20 c a6 h6 a9 h9 x4 x7 = s20 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_20 s20
  rfl
theorem eB21 : kernelRun0_B.sl.r_21 c a6 h6 a9 h9 x4 x7 = s21 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_21 s21
  rfl
theorem eB22 : kernelRun0_B.sl.r_22 c a6 h6 a9 h9 x4 x7 = s22 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_22 s22
  rfl
theorem eB23 : kernelRun0_B.sl.r_23 c a6 h6 a9 h9 x4 x7 = s23 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_23 s23
  rfl
theorem eB24 : kernelRun0_B.sl.r_24 c a6 h6 a9 h9 x4 x7 = s24 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_24 s24
  rfl
theorem eB25 : kernelRun0_B.sl.r_25 c a6 h6 a9 h9 x4 x7 = s25 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_25 s25
  rfl
theorem eB26 : kernelRun0_B.sl.r_26 c a6 h6 a9 h9 x4 x7 = s26 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_26 s26
  rw [eB18]
  all_goals rfl
theorem eB27 : kernelRun0_B.sl.r_27 c a6 h6 a9 h9 x4 x7 = s27 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_27 s27
  rw [eB19]
  all_goals rfl
theorem eB28 : kernelRun0_B.sl.r_28 c a6 h6 a9 h9 x4 x7 = s28 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_28 s28
  rw [eB20]
  all_goals rfl
theorem eB29 : kernelRun0_B.sl.r_29 c a6 h6 a9 h9 x4 x7 = s29 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_29 s29
  rw [eB21]
  all_goals rfl
theorem eB30 : kernelRun0_B.sl.r_30 c a6 h6 a9 h9 x4 x7 = s30 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_30 s30
  rw [eB22]
  all_goals rfl
theorem eB31 : kernelRun0_B.sl.r_31 c a6 h6 a9 h9 x4 x7 = s31 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_31 s31
  rw [eB22]
  all_goals rfl
theorem eB32 : kernelRun0_B.sl.r_32 c a6 h6 a9 h9 x4 x7 = s32 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_32 s32
  rw [eB30, eB31]
  all_goals rfl
theorem eB33 : kernelRun0_B.sl.r_33 c a6 h6 a9 h9 x4 x7 = s33 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_33 s33
  rw [eB23]
  all_goals rfl
theorem eB34 : kernelRun0_B.sl.r_34 c a6 h6 a9 h9 x4 x7 = s34 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_34 s34
  rw [eB24]
  all_goals rfl
theorem eB35 : kernelRun0_B.sl.r_35 c a6 h6 a9 h9 x4 x7 = s35 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_35 s35
  rw [eB25]
  all_goals rfl
theorem eB36 : kernelRun0_B.sl.r_36 c a6 h6 a9 h9 a11 h11 x4 x7 x9 = s36 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_36 s36
  rw [eB32]
  all_goals rfl
theorem eB37 : kernelRun0_B.sl.r_37 c a6 h6 a9 h9 a11 h11 x4 x7 x9 = s37 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_37 s37
  rw [eB33]
  all_goals rfl
theorem eB38 : kernelRun0_B.sl.r_38 c a6 h6 a9 h9 a11 h11 x4 x7 x9 = s38 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_38 s38
  rw [eB34]
  all_goals rfl
theorem eB39 : kernelRun0_B.sl.r_39 c a6 h6 a9 h9 a11 h11 x4 x7 x9 = s39 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_39 s39
  rw [eB34]
  all_goals rfl
theorem eB40 : kernelRun0_B.sl.r_40 c a6 h6 a9 h9 a11 h11 x4 x7 x9 = s40 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_40 s40
  rw [eB36]
  all_goals rfl
theorem eB41 : kernelRun0_B.sl.r_41 c a6 h6 a9 h9 a11 h11 x4 x7 x9 = s41 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_41 s41
  rw [eB37]
  all_goals rfl
theorem eB42 : kernelRun0_B.sl.r_42 c a6 h6 a9 h9 a11 h11 x4 x7 x9 = s42 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_42 s42
  rw [eB38, eB39]
  all_goals rfl
theorem eB43 : kernelRun0_B.sl.r_43 c a6 h6 a9 h9 a11 h11 x4 x7 x9 = s43 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_43 s43
  rw [eB35]
  all_goals rfl
theorem eB44 : kernelRun0_B.sl.r_44 c a6 h6 a9 h9 a11 h11 x4 x7 x9 = s44 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_44 s44
  rw [eB26, eB36]
  all_goals rfl
theorem eB45 : kernelRun0_B.sl.r_45 c a6 h6 a9 h9 a11 h11 x4 x7 x9 = s45 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_45 s45
  rw [eB27, eB37]
  all_goals rfl
theorem eB46 : kernelRun0_B.sl.r_46 c a6 h6 a9 h9 a11 h11 x4 x7 x9 = s46 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_46 s46
  rw [eB28, eB38, eB39]
  all_goals rfl
theorem eB47 : kernelRun0_B.sl.r_47 c a6 h6 a9 h9 a11 h11 x4 x7 x9 = s47 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_47 s47
  rw [eB29, eB35]
  all_goals rfl
theorem eB48 : kernelRun0_B.sl.r_48 c a17 h17 xs4 = s48 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_48 s48
  rfl
theorem eB49 : kernelRun0_B.sl.r_49 c a17 h17 xs4 = s49 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_49 s49
  rfl
theorem eB50 : kernelRun0_B.sl.r_50 c a17 h17 xs4 = s50 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_50 s50
  rfl
theorem eB51 : kernelRun0_B.sl.r_51 c a17 h17 xs4 = s51 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_51 s51
  rfl
theorem eB52 : kernelRun0_B.sl.r_52 c a6 h6 a9 h9 a11 h11 a17 h17 x4 x7 x9 xs4 = s52 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_52 s52
  rw [eB40, eB48]
  all_goals rfl
theorem eB53 : kernelRun0_B.sl.r_53 c a6 h6 a9 h9 a11 h11 a17 h17 x4 x7 x9 xs4 = s53 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_53 s53
  rw [eB41]
  all_goals rfl
theorem eB54 : kernelRun0_B.sl.r_54 c a6 h6 a9 h9 a11 h11 a17 h17 x4 x7 x9 xs4 = s54 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_54 s54
  rw [eB42]
  all_goals rfl
theorem eB55 : kernelRun0_B.sl.r_55 c a6 h6 a9 h9 a11 h11 a17 h17 x4 x7 x9 xs4 = s55 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_55 s55
  rw [eB43]
  all_goals rfl
theorem eB56 : kernelRun0_B.sl.r_56 c a6 h6 a9 h9 a11 h11 a17 h17 x4 x7 x9 xs4 = s56 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_56 s56
  rw [eB40, eB44, eB48]
  all_goals rfl
theorem eB57 : kernelRun0_B.sl.r_57 c a6 h6 a9 h9 a11 h11 a17 h17 x4 x7 x9 xs4 = s57 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_57 s57
  rw [eB41, eB45]
  all_goals rfl
theorem eB58 : kernelRun0_B.sl.r_58 c a6 h6 a9 h9 a11 h11 a17 h17 x4 x7 x9 xs4 = s58 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_58 s58
  rw [eB42, eB46]
  all_goals rfl
theorem eB59 : kernelRun0_B.sl.r_59 c a6 h6 a9 h9 a11 h11 a17 h17 x4 x7 x9 xs4 = s59 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_59 s59
  rw [eB43, eB47]
  all_goals rfl
theorem eB60 : kernelRun0_B.sl.r_60 c a2 h2 a3 h3 a6 h6 a7 h7 a8 h8 a9 h9 a11 h11 a13 h13 a14 h14 a17 h17 x0 x1 x4 x5 x6 x7 x9 xs0 xs1 xs4 = s60 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_60 s60
  rw [eB6, eB10, eB40, eB44, eB48]
  all_goals rfl
theorem eB61 : kernelRun0_B.sl.r_61 c a2 h2 a3 h3 a6 h6 a7 h7 a8 h8 a9 h9 a11 h11 a13 h13 a14 h14 a17 h17 x0 x1 x4 x5 x6 x7 x9 xs0 xs1 xs4 = s61 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_61 s61
  rw [eB7, eB11, eB41, eB45]
  all_goals rfl
theorem eB62 : kernelRun0_B.sl.r_62 c a2 h2 a3 h3 a6 h6 a7 h7 a8 h8 a9 h9 a11 h11 a13 h13 a14 h14 a17 h17 x0 x1 x4 x5 x6 x7 x9 xs0 xs1 xs4 = s62 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_62 s62
  rw [eB8, eB12, eB42, eB46]
  all_goals rfl
theorem eB63 : kernelRun0_B.sl.r_63 c a2 h2 a3 h3 a6 h6 a7 h7 a8 h8 a9 h9 a11 h11 a13 h13 a14 h14 a17 h17 x0 x1 x4 x5 x6 x7 x9 xs0 xs1 xs4 = s63 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_63 s63
  rw [eB9, eB13, eB47, eB59]
  all_goals rfl
theorem eB64 : kernelRun0_B.sl.r_64 c a6 h6 a9 h9 a11 h11 a17 h17 x4 x7 x9 xs4 = s64 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_64 s64
  rw [eB52, eB56]
  all_goals rfl
theorem eB65 : kernelRun0_B.sl.r_65 c a6 h6 a9 h9 a11 h11 a17 h17 x4 x7 x9 xs4 = s65 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_65 s65
  rw [eB53, eB57]
  all_goals rfl
theorem eB66 : kernelRun0_B.sl.r_66 c a6 h6 a9 h9 a11 h11 a17 h17 x4 x7 x9 xs4 = s66 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_66 s66
  rw [eB54, eB58]
  all_goals rfl
theorem eB67 : kernelRun0_B.sl.r_67 c a6 h6 a9 h9 a11 h11 a17 h17 x4 x7 x9 xs4 = s67 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_67 s67
  rw [eB55, eB59]
  all_goals rfl
theorem eB68 : kernelRun0_B.sl.r_68 c a15 h15 xs2 = s68 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_68 s68
  rfl
theorem eB69 : kernelRun0_B.sl.r_69 c a15 h15 xs2 = s69 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_69 s69
  rfl
theorem eB70 : kernelRun0_B.sl.r_70 c a15 h15 xs2 = s70 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_70 s70
  rfl
theorem eB71 : kernelRun0_B.sl.r_71 c a15 h15 xs2 = s71 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_71 s71
  rfl
theorem eB72 : kernelRun0_B.sl.r_72 c a16 h16 xs3 = s72 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_72 s72
  rfl
theorem eB73 : kernelRun0_B.sl.r_73 c a16 h16 xs3 = s73 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_73 s73
  rfl
theorem eB74 : kernelRun0_B.sl.r_74 c a16 h16 xs3 = s74 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_74 s74
  rfl
theorem eB75 : kernelRun0_B.sl.r_75 c a16 h16 xs3 = s75 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_75 s75
  rfl
theorem eB76 : kernelRun0_B.sl.r_76 c a2 h2 a3 h3 a4 h4 a6 h6 a7 h7 a8 h8 a9 h9 a11 h11 a13 h13 a14 h14 a17 h17 x0 x1 x2 x4 x5 x6 x7 x9 xs0 xs1 xs4 = s76 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_76 s76
  rw [eB14, eB60]
  all_goals rfl
theorem eB77 : kernelRun0_B.sl.r_77 c a2 h2 a3 h3 a4 h4 a6 h6 a7 h7 a8 h8 a9 h9 a11 h11 a13 h13 a14 h14 a15 h15 a17 h17 x0 x1 x2 x4 x5 x6 x7 x9 xs0 xs1 xs2 xs4 = s77 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_77 s77
  rw [eB6, eB64, eB68, eB76]
  all_goals rfl
theorem eB78 : kernelRun0_B.sl.r_78 c a2 h2 a3 h3 a4 h4 a6 h6 a7 h7 a8 h8 a9 h9 a11 h11 a13 h13 a14 h14 a15 h15 a17 h17 x0 x1 x2 x4 x5 x6 x7 x9 xs0 xs1 xs2 xs4 = s78 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_78 s78
  rw [eB7, eB15, eB61, eB65, eB69]
  all_goals rfl
theorem eB79 : kernelRun0_B.sl.r_79 c a2 h2 a3 h3 a4 h4 a6 h6 a7 h7 a8 h8 a9 h9 a11 h11 a13 h13 a14 h14 a15 h15 a17 h17 x0 x1 x2 x4 x5 x6 x7 x9 xs0 xs1 xs2 xs4 = s79 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_79 s79
  rw [eB8, eB16, eB62, eB66, eB70]
  all_goals rfl
theorem eB80 : kernelRun0_B.sl.r_80 c a2 h2 a3 h3 a4 h4 a6 h6 a7 h7 a8 h8 a9 h9 a11 h11 a13 h13 a14 h14 a15 h15 a17 h17 x0 x1 x2 x4 x5 x6 x7 x9 xs0 xs1 xs2 xs4 = s80 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_80 s80
  rw [eB9, eB17, eB63, eB67, eB71]
  all_goals rfl
theorem eB81 : kernelRun0_B.sl.r_81 c a2 h2 a3 h3 a6 h6 a7 h7 a8 h8 a9 h9 a11 h11 a13 h13 a14 h14 a16 h16 a17 h17 x0 x1 x4 x5 x6 x7 x9 xs0 xs1 xs3 xs4 = s81 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_81 s81
  rw [eB6, eB60, eB64, eB72]
  all_goals rfl
theorem eB82 : kernelRun0_B.sl.r_82 c a2 h2 a3 h3 a6 h6 a7 h7 a8 h8 a9 h9 a11 h11 a13 h13 a14 h14 a16 h16 a17 h17 x0 x1 x4 x5 x6 x7 x9 xs0 xs1 xs3 xs4 = s82 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_82 s82
  rw [eB7, eB61, eB65, eB73]
  all_goals rfl
theorem eB83 : kernelRun0_B.sl.r_83 c a2 h2 a3 h3 a6 h6 a7 h7 a8 h8 a9 h9 a11 h11 a13 h13 a14 h14 a16 h16 a17 h17 x0 x1 x4 x5 x6 x7 x9 xs0 xs1 xs3 xs4 = s83 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_83 s83
  rw [eB8, eB62, eB66, eB74]
  all_goals rfl
theorem eB84 : kernelRun0_B.sl.r_84 c a2 h2 a3 h3 a6 h6 a7 h7 a8 h8 a9 h9 a11 h11 a13 h13 a14 h14 a16 h16 a17 h17 x0 x1 x4 x5 x6 x7 x9 xs0 xs1 xs3 xs4 = s84 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_84 s84
  rw [eB9, eB63, eB67, eB75]
  all_goals rfl
theorem eB85 : kernelRun0_B.sl.r_85 c a6 h6 a9 h9 a11 h11 a17 h17 x4 x7 x9 xs4 = s85 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_85 s85
  rw [eB26, eB40, eB48]
  all_goals rfl
theorem eB86 : kernelRun0_B.sl.r_86 c a3 h3 a6 h6 a7 h7 a8 h8 a9 h9 a11 h11 a14 h14 a16 h16 a17 h17 x1 x4 x5 x6 x7 x9 xs1 xs3 xs4 = s86 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_86 s86
  rw [eB10, eB26, eB40, eB48, eB72]
  all_goals rfl
theorem eB87 : kernelRun0_B.sl.r_87 c a6 h6 a9 h9 a11 h11 a17 h17 x4 x7 x9 xs4 = s87 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_87 s87
  rw [eB27, eB41, eB49]
  all_goals rfl
theorem eB88 : kernelRun0_B.sl.r_88 c a6 h6 a9 h9 a11 h11 x4 x7 x9 = s88 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_88 s88
  rw [eB43]
  all_goals rfl
theorem eB89 : kernelRun0_B.sl.r_89 c a6 h6 a9 h9 a11 h11 x4 x7 x9 = s89 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_89 s89
  rw [eB29, eB43]
  all_goals rfl
theorem eB90 : kernelRun0_B.sl.r_90 c a2 h2 a3 h3 a4 h4 a6 h6 a7 h7 a8 h8 a9 h9 a11 h11 a13 h13 a14 h14 a15 h15 a16 h16 a17 h17 x0 x1 x2 x4 x5 x6 x7 x9 xs0 xs1 xs2 xs3 xs4 = s90 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_90 s90
  rw [eB56, eB77, eB81]
  all_goals rfl
theorem eB91 : kernelRun0_B.sl.r_91 c a2 h2 a3 h3 a4 h4 a6 h6 a7 h7 a8 h8 a9 h9 a11 h11 a13 h13 a14 h14 a15 h15 a16 h16 a17 h17 x0 x1 x2 x4 x5 x6 x7 x9 xs0 xs1 xs2 xs3 xs4 = s91 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_91 s91
  rw [eB56, eB77, eB81]
  all_goals rfl
theorem eB92 : kernelRun0_B.sl.r_92 c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 = s92 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_92 s92
  rw [eB57, eB78, eB82]
  all_goals rfl
theorem eB93 : kernelRun0_B.sl.r_93 c a2 h2 a3 h3 a4 h4 a6 h6 a7 h7 a8 h8 a9 h9 a11 h11 a13 h13 a14 h14 a15 h15 a16 h16 a17 h17 x0 x1 x2 x4 x5 x6 x7 x9 xs0 xs1 xs2 xs3 xs4 = s93 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_93 s93
  rw [eB59, eB80, eB84]
  all_goals rfl
theorem eB94 : kernelRun0_B.sl.r_94 c a2 h2 a3 h3 a4 h4 a6 h6 a7 h7 a8 h8 a9 h9 a11 h11 a13 h13 a14 h14 a15 h15 a16 h16 a17 h17 x0 x1 x2 x4 x5 x6 x7 x9 xs0 xs1 xs2 xs3 xs4 = s94 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) := by
  unfold kernelRun0_B.sl.r_94 s94
  rw [eB59, eB80, eB84]
  all_goals rfl

theorem listB_out (hc0 : ¬cond0_0 i) : (kernelRun0_B c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4).1 = ([⟨Rect.unit (s := S128x2048) ![0, 1536] S128x512.size inb_S128x2048_S128x512_0_1536, k0_pay1 (s93 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s94 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).w3 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).o3⟩, ⟨Rect.unit (s := S128x2048) ![0, 1024] S128x512.size inb_S128x2048_S128x512_0_1024, k0_pay141 (s58 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s79 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s83 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).w2 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).o2⟩, ⟨Rect.unit (s := S128x2048) ![0, 512] S128x512.size inb_S128x2048_S128x512_0_512, s92 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)⟩, ⟨Rect.unit (s := S128x2048) ![0, 0] S128x512.size inb_S128x2048_S128x512_0_0, k0_pay139 (s90 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s91 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).w0 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).o0⟩] : List (View.Piece (Elt Ideal) S128x2048 .bf16)) :=
  (show (kernelRun0_B c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4).1 = ([⟨Rect.unit (s := S128x2048) ![0, 1536] S128x512.size inb_S128x2048_S128x512_0_1536, k0_pay1 (kernelRun0_B.sl.r_93 c a2 h2 a3 h3 a4 h4 a6 h6 a7 h7 a8 h8 a9 h9 a11 h11 a13 h13 a14 h14 a15 h15 a16 h16 a17 h17 x0 x1 x2 x4 x5 x6 x7 x9 xs0 xs1 xs2 xs3 xs4) (kernelRun0_B.sl.r_94 c a2 h2 a3 h3 a4 h4 a6 h6 a7 h7 a8 h8 a9 h9 a11 h11 a13 h13 a14 h14 a15 h15 a16 h16 a17 h17 x0 x1 x2 x4 x5 x6 x7 x9 xs0 xs1 xs2 xs3 xs4) (View.readAt (Elt Ideal) a10.view (Rect.unit (s := S1x2048) ![0, 1536] S1x512.size inb_S1x2048_S1x512_0_1536).toLoadRect (h10.unread x8)) (View.readAt (Elt Ideal) a5.view (Rect.unit (s := S128x2048) ![0, 1536] S128x512.size inb_S128x2048_S128x512_0_1536).toLoadRect (h5.unread x3))⟩, ⟨Rect.unit (s := S128x2048) ![0, 1024] S128x512.size inb_S128x2048_S128x512_0_1024, k0_pay141 (kernelRun0_B.sl.r_58 c a6 h6 a9 h9 a11 h11 a17 h17 x4 x7 x9 xs4) (kernelRun0_B.sl.r_79 c a2 h2 a3 h3 a4 h4 a6 h6 a7 h7 a8 h8 a9 h9 a11 h11 a13 h13 a14 h14 a15 h15 a17 h17 x0 x1 x2 x4 x5 x6 x7 x9 xs0 xs1 xs2 xs4) (kernelRun0_B.sl.r_83 c a2 h2 a3 h3 a6 h6 a7 h7 a8 h8 a9 h9 a11 h11 a13 h13 a14 h14 a16 h16 a17 h17 x0 x1 x4 x5 x6 x7 x9 xs0 xs1 xs3 xs4) (View.readAt (Elt Ideal) a10.view (Rect.unit (s := S1x2048) ![0, 1024] S1x512.size inb_S1x2048_S1x512_0_1024).toLoadRect (h10.unread x8)) (View.readAt (Elt Ideal) a5.view (Rect.unit (s := S128x2048) ![0, 1024] S128x512.size inb_S128x2048_S128x512_0_1024).toLoadRect (h5.unread x3))⟩, ⟨Rect.unit (s := S128x2048) ![0, 512] S128x512.size inb_S128x2048_S128x512_0_512, kernelRun0_B.sl.r_92 c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4⟩, ⟨Rect.unit (s := S128x2048) ![0, 0] S128x512.size inb_S128x2048_S128x512_0_0, k0_pay139 (kernelRun0_B.sl.r_90 c a2 h2 a3 h3 a4 h4 a6 h6 a7 h7 a8 h8 a9 h9 a11 h11 a13 h13 a14 h14 a15 h15 a16 h16 a17 h17 x0 x1 x2 x4 x5 x6 x7 x9 xs0 xs1 xs2 xs3 xs4) (kernelRun0_B.sl.r_91 c a2 h2 a3 h3 a4 h4 a6 h6 a7 h7 a8 h8 a9 h9 a11 h11 a13 h13 a14 h14 a15 h15 a16 h16 a17 h17 x0 x1 x2 x4 x5 x6 x7 x9 xs0 xs1 xs2 xs3 xs4) (View.readAt (Elt Ideal) a10.view (Rect.unit (s := S1x2048) ![0, 0] S1x512.size inb_S1x2048_S1x512_0_0).toLoadRect (h10.unread x8)) (View.readAt (Elt Ideal) a5.view (Rect.unit (s := S128x2048) ![0, 0] S128x512.size inb_S128x2048_S128x512_0_0).toLoadRect (h5.unread x3))⟩] : List (View.Piece (Elt Ideal) S128x2048 .bf16)) from rfl).trans (by
    rw [eB58, eB79, eB83, eB90, eB91, eB92, eB93, eB94]
    all_goals rfl)

theorem listB_c (hc0 : ¬cond0_0 i) : (kernelRun0_B c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4).2.2.2.1 = ([⟨Rect.unit (s := S4x256x512) ![3, 0, 0] S1x256x512.size inb_S4x256x512_S1x256x512_3_0_0, k0_pay134 (s13 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s17 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s51 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s71 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s88 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s89 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩, ⟨Rect.unit (s := S4x256x512) ![2, 0, 0] S1x256x512.size inb_S4x256x512_S1x256x512_2_0_0, k0_pay126 (s12 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s16 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s28 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s42 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s50 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s70 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩, ⟨Rect.unit (s := S4x256x512) ![1, 0, 0] S1x256x512.size inb_S4x256x512_S1x256x512_1_0_0, k0_pay118 (s11 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s15 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s27 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s41 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s49 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s69 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩, ⟨Rect.unit (s := S4x256x512) ![0, 0, 0] S1x256x512.size inb_S4x256x512_S1x256x512_0_0_0, k0_pay109 (s10 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s14 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s26 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s40 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s48 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s68 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩] : List (View.Piece (Elt Ideal) S4x256x512 .f32)) :=
  (show (kernelRun0_B c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4).2.2.2.1 = ([⟨Rect.unit (s := S4x256x512) ![3, 0, 0] S1x256x512.size inb_S4x256x512_S1x256x512_3_0_0, k0_pay134 (kernelRun0_B.sl.r_13 c a3 h3 a7 h7 a8 h8 a14 h14 x1 x5 x6 xs1) (kernelRun0_B.sl.r_17 c a4 h4 x2) (kernelRun0_B.sl.r_51 c a17 h17 xs4) (kernelRun0_B.sl.r_71 c a15 h15 xs2) (kernelRun0_B.sl.r_88 c a6 h6 a9 h9 a11 h11 x4 x7 x9) (kernelRun0_B.sl.r_89 c a6 h6 a9 h9 a11 h11 x4 x7 x9)⟩, ⟨Rect.unit (s := S4x256x512) ![2, 0, 0] S1x256x512.size inb_S4x256x512_S1x256x512_2_0_0, k0_pay126 (kernelRun0_B.sl.r_12 c a3 h3 a7 h7 a8 h8 a14 h14 x1 x5 x6 xs1) (kernelRun0_B.sl.r_16 c a4 h4 x2) (kernelRun0_B.sl.r_28 c a6 h6 a9 h9 x4 x7) (kernelRun0_B.sl.r_42 c a6 h6 a9 h9 a11 h11 x4 x7 x9) (kernelRun0_B.sl.r_50 c a17 h17 xs4) (kernelRun0_B.sl.r_70 c a15 h15 xs2)⟩, ⟨Rect.unit (s := S4x256x512) ![1, 0, 0] S1x256x512.size inb_S4x256x512_S1x256x512_1_0_0, k0_pay118 (kernelRun0_B.sl.r_11 c a3 h3 a7 h7 a8 h8 a14 h14 x1 x5 x6 xs1) (kernelRun0_B.sl.r_15 c a4 h4 x2) (kernelRun0_B.sl.r_27 c a6 h6 a9 h9 x4 x7) (kernelRun0_B.sl.r_41 c a6 h6 a9 h9 a11 h11 x4 x7 x9) (kernelRun0_B.sl.r_49 c a17 h17 xs4) (kernelRun0_B.sl.r_69 c a15 h15 xs2)⟩, ⟨Rect.unit (s := S4x256x512) ![0, 0, 0] S1x256x512.size inb_S4x256x512_S1x256x512_0_0_0, k0_pay109 (kernelRun0_B.sl.r_10 c a3 h3 a7 h7 a8 h8 a14 h14 x1 x5 x6 xs1) (kernelRun0_B.sl.r_14 c a4 h4 x2) (kernelRun0_B.sl.r_26 c a6 h6 a9 h9 x4 x7) (kernelRun0_B.sl.r_40 c a6 h6 a9 h9 a11 h11 x4 x7 x9) (kernelRun0_B.sl.r_48 c a17 h17 xs4) (kernelRun0_B.sl.r_68 c a15 h15 xs2)⟩] : List (View.Piece (Elt Ideal) S4x256x512 .f32)) from rfl).trans (by
    rw [eB10, eB11, eB12, eB13, eB14, eB15, eB16, eB17, eB26, eB27, eB28, eB40, eB41, eB42, eB48, eB49, eB50, eB51, eB68, eB69, eB70, eB71, eB88, eB89]
    all_goals rfl)

theorem listB_n (hc0 : ¬cond0_0 i) : (kernelRun0_B c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4).2.2.2.2.1 = ([⟨Rect.unit (s := S4x1x256) ![3, 0, 0] S1x1x256.size inb_S4x1x256_S1x1x256_3_0_0, k0_pay135 (s13 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s51 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s75 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s88 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s89 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩, ⟨Rect.unit (s := S4x1x256) ![2, 0, 0] S1x1x256.size inb_S4x1x256_S1x1x256_2_0_0, k0_pay127 (s12 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s28 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s42 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s50 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s74 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩, ⟨Rect.unit (s := S4x1x256) ![1, 0, 0] S1x1x256.size inb_S4x1x256_S1x1x256_1_0_0, k0_pay119 (s11 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s27 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s41 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s49 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s73 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩, ⟨Rect.unit (s := S4x1x256) ![0, 0, 0] S1x1x256.size inb_S4x1x256_S1x1x256_0_0_0, k0_pay111 (s86 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩] : List (View.Piece (Elt Ideal) S4x1x256 .f32)) :=
  (show (kernelRun0_B c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4).2.2.2.2.1 = ([⟨Rect.unit (s := S4x1x256) ![3, 0, 0] S1x1x256.size inb_S4x1x256_S1x1x256_3_0_0, k0_pay135 (kernelRun0_B.sl.r_13 c a3 h3 a7 h7 a8 h8 a14 h14 x1 x5 x6 xs1) (kernelRun0_B.sl.r_51 c a17 h17 xs4) (kernelRun0_B.sl.r_75 c a16 h16 xs3) (kernelRun0_B.sl.r_88 c a6 h6 a9 h9 a11 h11 x4 x7 x9) (kernelRun0_B.sl.r_89 c a6 h6 a9 h9 a11 h11 x4 x7 x9)⟩, ⟨Rect.unit (s := S4x1x256) ![2, 0, 0] S1x1x256.size inb_S4x1x256_S1x1x256_2_0_0, k0_pay127 (kernelRun0_B.sl.r_12 c a3 h3 a7 h7 a8 h8 a14 h14 x1 x5 x6 xs1) (kernelRun0_B.sl.r_28 c a6 h6 a9 h9 x4 x7) (kernelRun0_B.sl.r_42 c a6 h6 a9 h9 a11 h11 x4 x7 x9) (kernelRun0_B.sl.r_50 c a17 h17 xs4) (kernelRun0_B.sl.r_74 c a16 h16 xs3)⟩, ⟨Rect.unit (s := S4x1x256) ![1, 0, 0] S1x1x256.size inb_S4x1x256_S1x1x256_1_0_0, k0_pay119 (kernelRun0_B.sl.r_11 c a3 h3 a7 h7 a8 h8 a14 h14 x1 x5 x6 xs1) (kernelRun0_B.sl.r_27 c a6 h6 a9 h9 x4 x7) (kernelRun0_B.sl.r_41 c a6 h6 a9 h9 a11 h11 x4 x7 x9) (kernelRun0_B.sl.r_49 c a17 h17 xs4) (kernelRun0_B.sl.r_73 c a16 h16 xs3)⟩, ⟨Rect.unit (s := S4x1x256) ![0, 0, 0] S1x1x256.size inb_S4x1x256_S1x1x256_0_0_0, k0_pay111 (kernelRun0_B.sl.r_86 c a3 h3 a6 h6 a7 h7 a8 h8 a9 h9 a11 h11 a14 h14 a16 h16 a17 h17 x1 x4 x5 x6 x7 x9 xs1 xs3 xs4)⟩] : List (View.Piece (Elt Ideal) S4x1x256 .f32)) from rfl).trans (by
    rw [eB11, eB12, eB13, eB27, eB28, eB41, eB42, eB49, eB50, eB51, eB73, eB74, eB75, eB86, eB88, eB89]
    all_goals rfl)

theorem listB_m (hc0 : ¬cond0_0 i) : (kernelRun0_B c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4).2.2.2.2.2.1 = ([⟨Rect.unit (s := S4x1x1) ![3, 0, 0] S1x1x1.size inb_S4x1x1_S1x1x1_3_0_0, k0_pay136 (s51 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s88 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s89 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩, ⟨Rect.unit (s := S4x1x1) ![2, 0, 0] S1x1x1.size inb_S4x1x1_S1x1x1_2_0_0, k0_pay128 (s28 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s42 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4)) (s50 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩, ⟨Rect.unit (s := S4x1x1) ![1, 0, 0] S1x1x1.size inb_S4x1x1_S1x1x1_1_0_0, k0_pay120 (s87 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩, ⟨Rect.unit (s := S4x1x1) ![0, 0, 0] S1x1x1.size inb_S4x1x1_S1x1x1_0_0_0, k0_pay112 (s85 (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4))⟩] : List (View.Piece (Elt Ideal) S4x1x1 .f32)) :=
  (show (kernelRun0_B c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4).2.2.2.2.2.1 = ([⟨Rect.unit (s := S4x1x1) ![3, 0, 0] S1x1x1.size inb_S4x1x1_S1x1x1_3_0_0, k0_pay136 (kernelRun0_B.sl.r_51 c a17 h17 xs4) (kernelRun0_B.sl.r_88 c a6 h6 a9 h9 a11 h11 x4 x7 x9) (kernelRun0_B.sl.r_89 c a6 h6 a9 h9 a11 h11 x4 x7 x9)⟩, ⟨Rect.unit (s := S4x1x1) ![2, 0, 0] S1x1x1.size inb_S4x1x1_S1x1x1_2_0_0, k0_pay128 (kernelRun0_B.sl.r_28 c a6 h6 a9 h9 x4 x7) (kernelRun0_B.sl.r_42 c a6 h6 a9 h9 a11 h11 x4 x7 x9) (kernelRun0_B.sl.r_50 c a17 h17 xs4)⟩, ⟨Rect.unit (s := S4x1x1) ![1, 0, 0] S1x1x1.size inb_S4x1x1_S1x1x1_1_0_0, k0_pay120 (kernelRun0_B.sl.r_87 c a6 h6 a9 h9 a11 h11 a17 h17 x4 x7 x9 xs4)⟩, ⟨Rect.unit (s := S4x1x1) ![0, 0, 0] S1x1x1.size inb_S4x1x1_S1x1x1_0_0_0, k0_pay112 (kernelRun0_B.sl.r_85 c a6 h6 a9 h9 a11 h11 a17 h17 x4 x7 x9 xs4)⟩] : List (View.Piece (Elt Ideal) S4x1x1 .f32)) from rfl).trans (by
    rw [eB28, eB42, eB50, eB51, eB85, eB87, eB88, eB89]
    all_goals rfl)

theorem listB_q (hc0 : ¬cond0_0 i) : (kernelRun0_B c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4).2.1 = (⟨Rect.unit (s := S136x1024) ![0, 0] S8x1024.size inb_S136x1024_S8x1024_0_0, k0_pay10 (kernelRun0_B.sl.v35 c a2 h2 a13 x0)⟩ :: kernelRun0_B.sl.HS0_1 c a2 h2 x0 : List (View.Piece (Elt Ideal) S136x1024 .f32)) := rfl

theorem listB_k (hc0 : ¬cond0_0 i) : (kernelRun0_B c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4).2.2.1 = (⟨Rect.unit (s := S136x1024) ![0, 0] S8x1024.size inb_S136x1024_S8x1024_0_0, k0_pay14 (kernelRun0_B.sl.v73 c a3 h3 a14 x1)⟩ :: kernelRun0_B.sl.HS1_1 c a3 h3 x1 : List (View.Piece (Elt Ideal) S136x1024 .f32)) := rfl

end Cert.KernelIdeal.Own
-- ==== Proof.KernelStepB.lean ====
module

public import proofs.«01_k».proof.Proof.KernelStep
public import proofs.«01_k».proof.Proof.KernelBlockB

@[expose] public section

set_option maxRecDepth 16384

noncomputable section

/-! A later block is one step from the state carried. -/

namespace Cert.KernelIdeal.Own

open Cert Cert.KernelIdeal Cert.KernelIdeal.Gen Idealize.ShloMosaic Idealize.ShloMosaic.TcCoe Idealize.SL.Sem

variable (c : Dev nD) (i : grid0.Coords) (a2 : Memref sig .tc .vmem S128x1024 .f32) (h2 : a2.IsWhole) (a3 : Memref sig .tc .vmem S128x1024 .f32) (h3 : a3.IsWhole) (a4 : Memref sig .tc .vmem S128x2048 .f32) (h4 : a4.IsWhole) (a5 : Memref sig .tc .vmem S128x2048 .f32) (h5 : a5.IsWhole) (a6 : Memref sig .tc .vmem S128x128 .f32) (h6 : a6.IsWhole) (a7 : Memref sig .tc .vmem S4x2048 .f32) (h7 : a7.IsWhole) (a8 : Memref sig .tc .vmem S1x2048 .f32) (h8 : a8.IsWhole) (a9 : Memref sig .tc .vmem S1x128 .f32) (h9 : a9.IsWhole) (a10 : Memref sig .tc .vmem S1x2048 .f32) (h10 : a10.IsWhole) (a11 : Memref sig .tc .vmem S128x128 .bf16) (h11 : a11.IsWhole) (a12 : Memref sig .tc .vmem S128x2048 .bf16) (h12 : a12.IsWhole) (a13 : Memref sig .tc .vmem S136x1024 .f32) (h13 : a13.IsWhole) (a14 : Memref sig .tc .vmem S136x1024 .f32) (h14 : a14.IsWhole) (a15 : Memref sig .tc .vmem S4x256x512 .f32) (h15 : a15.IsWhole) (a16 : Memref sig .tc .vmem S4x1x256 .f32) (h16 : a16.IsWhole) (a17 : Memref sig .tc .vmem S4x1x1 .f32) (h17 : a17.IsWhole)
  (x0 : Vec Ideal S128x1024 .f32) (x1 : Vec Ideal S128x1024 .f32) (x2 : Vec Ideal S128x2048 .f32) (x3 : Vec Ideal S128x2048 .f32) (x4 : Vec Ideal S128x128 .f32) (x5 : Vec Ideal S4x2048 .f32) (x6 : Vec Ideal S1x2048 .f32) (x7 : Vec Ideal S1x128 .f32) (x8 : Vec Ideal S1x2048 .f32) (x9 : Vec Ideal S128x128 .bf16)
  (xs0 : Vec Ideal S136x1024 .f32) (xs1 : Vec Ideal S136x1024 .f32) (xs2 : Vec Ideal S4x256x512 .f32) (xs3 : Vec Ideal S4x1x256 .f32) (xs4 : Vec Ideal S4x1x1 .f32)

theorem extqX (v : View sig .tc .vmem S136x1024 .f32) (f : v.ty.Contents (Elt Ideal)) (r : Fin 136) (j : Fin 1024) :
    v.read (Elt Ideal) (v.writes (Elt Ideal) f (kernelRun0_B.sl.HS0_1 c a2 h2 x0)) (ix2 r j) = Mlstm.ext (fun r j => v.read (Elt Ideal) f (ix2 (⟨r.val, by omega⟩ : Fin 136) j)) (inOf x0 x1 x2 x3 x4 x5 x6 x7 x8 x9).x0 r j := by
  refine (extB v f _ r j).trans ?_
  have e2 : (fun p j => (k0_pay7 (View.readAt (Elt Ideal) a2.view (Rect.unit (s := S128x1024) ![0, 0] S128x1024.size inb_S128x1024_S128x1024_0_0).toLoadRect (h2.unread x0)) : FVec Ideal S128x1024 .f32) (ix2 p j)) = (inOf x0 x1 x2 x3 x4 x5 x6 x7 x8 x9).x0 :=
    funext fun p => funext fun j => (pay7_at _ p j).trans (ldw h2 x0 inb_S128x1024_S128x1024_0_0 p j p j (Nat.zero_add _) (Nat.zero_add _))
  exact congrArg (fun z => Mlstm.ext _ z r j) e2
/-- The queries buffer when the convolution reads it. -/
theorem extqB (r : Fin 136) (j : Fin 1024) :
    a13.view.read (Elt Ideal) (a13.view.writes (Elt Ideal) (h13.unread xs0) (kernelRun0_B.sl.HS0_1 c a2 h2 x0)) (ix2 r j) = Mlstm.ext (stOf xs0 xs1 xs2 xs3 xs4).qp (inOf x0 x1 x2 x3 x4 x5 x6 x7 x8 x9).x0 r j := by
  refine (extqX (v := a13.view) (f := h13.unread xs0) (r := r) (j := j) (x0 := x0) (x1 := x1) (x2 := x2) (x3 := x3) (x4 := x4) (x5 := x5) (x6 := x6) (x7 := x7) (x8 := x8) (x9 := x9) ..).trans ?_
  rw [h13.read_unread]
  rfl

theorem extkX (v : View sig .tc .vmem S136x1024 .f32) (f : v.ty.Contents (Elt Ideal)) (r : Fin 136) (j : Fin 1024) :
    v.read (Elt Ideal) (v.writes (Elt Ideal) f (kernelRun0_B.sl.HS1_1 c a3 h3 x1)) (ix2 r j) = Mlstm.ext (fun r j => v.read (Elt Ideal) f (ix2 (⟨r.val, by omega⟩ : Fin 136) j)) (inOf x0 x1 x2 x3 x4 x5 x6 x7 x8 x9).x1 r j := by
  refine (extB v f _ r j).trans ?_
  have e2 : (fun p j => (k0_pay12 (View.readAt (Elt Ideal) a3.view (Rect.unit (s := S128x1024) ![0, 0] S128x1024.size inb_S128x1024_S128x1024_0_0).toLoadRect (h3.unread x1)) : FVec Ideal S128x1024 .f32) (ix2 p j)) = (inOf x0 x1 x2 x3 x4 x5 x6 x7 x8 x9).x1 :=
    funext fun p => funext fun j => (pay12_at _ p j).trans (ldw h3 x1 inb_S128x1024_S128x1024_0_0 p j p j (Nat.zero_add _) (Nat.zero_add _))
  exact congrArg (fun z => Mlstm.ext _ z r j) e2
/-- The keys buffer when the convolution reads it. -/
theorem extkB (r : Fin 136) (j : Fin 1024) :
    a14.view.read (Elt Ideal) (a14.view.writes (Elt Ideal) (h14.unread xs1) (kernelRun0_B.sl.HS1_1 c a3 h3 x1)) (ix2 r j) = Mlstm.ext (stOf xs0 xs1 xs2 xs3 xs4).kp (inOf x0 x1 x2 x3 x4 x5 x6 x7 x8 x9).x1 r j := by
  refine (extkX (v := a14.view) (f := h14.unread xs1) (r := r) (j := j) (x0 := x0) (x1 := x1) (x2 := x2) (x3 := x3) (x4 := x4) (x5 := x5) (x6 := x6) (x7 := x7) (x8 := x8) (x9 := x9) ..).trans ?_
  rw [h14.read_unread]
  rfl

/-- The convolved queries. -/
theorem qB_at (p : Fin 128) (j : Fin 1024) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).q (ix2 p j) = Mlstm.silu (Mlstm.conv (inOf x0 x1 x2 x3 x4 x5 x6 x7 x8 x9).wq (inOf x0 x1 x2 x3 x4 x5 x6 x7 x8 x9).bq (stOf xs0 xs1 xs2 xs3 xs4).qp (inOf x0 x1 x2 x3 x4 x5 x6 x7 x8 x9).x0 p j) := by
  refine (conv_at _ _ _ _ _ _ _ _ _ p j).trans (congrArg Mlstm.silu ?_)
  have b := ldw h8 x6 inb_S1x2048_S1x1024_0_0 0 j (0 : Fin 1) (⟨j.val, by omega⟩ : Fin 2048) rfl (Nat.zero_add _)
  have w0 := ldw h7 x5 inb_S4x2048_S1x1024_0_0 0 j (0 : Fin 4) (⟨j.val, by omega⟩ : Fin 2048) rfl (Nat.zero_add _)
  have w1 := ldw h7 x5 inb_S4x2048_S1x1024_1_0 0 j (1 : Fin 4) (⟨j.val, by omega⟩ : Fin 2048) rfl (Nat.zero_add _)
  have w2 := ldw h7 x5 inb_S4x2048_S1x1024_2_0 0 j (2 : Fin 4) (⟨j.val, by omega⟩ : Fin 2048) rfl (Nat.zero_add _)
  have w3 := ldw h7 x5 inb_S4x2048_S1x1024_3_0 0 j (3 : Fin 4) (⟨j.val, by omega⟩ : Fin 2048) rfl (Nat.zero_add _)
  have y0 := (at2 a13.view (a13.view.writes (Elt Ideal) (h13.unread xs0) (kernelRun0_B.sl.HS0_1 c a2 h2 x0)) inb_S136x1024_S128x1024_5_0 p j).trans ((extqB (x0 := x0) (x1 := x1) (x2 := x2) (x3 := x3) (x4 := x4) (x5 := x5) (x6 := x6) (x7 := x7) (x8 := x8) (x9 := x9) (xs0 := xs0) (xs1 := xs1) (xs2 := xs2) (xs3 := xs3) (xs4 := xs4) ..).trans (congrArg (Mlstm.ext _ _ _) (Fin.ext (Nat.zero_add _))))
  have y1 := (at2 a13.view (a13.view.writes (Elt Ideal) (h13.unread xs0) (kernelRun0_B.sl.HS0_1 c a2 h2 x0)) inb_S136x1024_S128x1024_6_0 p j).trans ((extqB (x0 := x0) (x1 := x1) (x2 := x2) (x3 := x3) (x4 := x4) (x5 := x5) (x6 := x6) (x7 := x7) (x8 := x8) (x9 := x9) (xs0 := xs0) (xs1 := xs1) (xs2 := xs2) (xs3 := xs3) (xs4 := xs4) ..).trans (congrArg (Mlstm.ext _ _ _) (Fin.ext (Nat.zero_add _))))
  have y2 := (at2 a13.view (a13.view.writes (Elt Ideal) (h13.unread xs0) (kernelRun0_B.sl.HS0_1 c a2 h2 x0)) inb_S136x1024_S128x1024_7_0 p j).trans ((extqB (x0 := x0) (x1 := x1) (x2 := x2) (x3 := x3) (x4 := x4) (x5 := x5) (x6 := x6) (x7 := x7) (x8 := x8) (x9 := x9) (xs0 := xs0) (xs1 := xs1) (xs2 := xs2) (xs3 := xs3) (xs4 := xs4) ..).trans (congrArg (Mlstm.ext _ _ _) (Fin.ext (Nat.zero_add _))))
  have y3 := (at2 a13.view (a13.view.writes (Elt Ideal) a13.view.junk (kernelRun0_B.sl.HS0_1 c a2 h2 x0)) inb_S136x1024_S128x1024_8_0 p j).trans (((extqX (v := a13.view) (f := a13.view.junk) (x0 := x0) (x1 := x1) (x2 := x2) (x3 := x3) (x4 := x4) (x5 := x5) (x6 := x6) (x7 := x7) (x8 := x8) (x9 := x9) ..).trans ((ext_past _ _ _ _ p rfl).trans (ext_past (stOf xs0 xs1 xs2 xs3 xs4).qp _ (⟨8 + p.val, by omega⟩ : Fin 136) _ p rfl).symm)).trans (congrArg (Mlstm.ext _ _ _) (Fin.ext (Nat.zero_add _))))
  exact conv_eq b w0 w1 w2 w3 y0 y1 y2 y3
/-- The convolved keys. -/
theorem kB_at (p : Fin 128) (j : Fin 1024) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).k3 (ix2 p j) + (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).kw (ix2 0 j) * (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).ke (ix2 p j) = Mlstm.conv (inOf x0 x1 x2 x3 x4 x5 x6 x7 x8 x9).wk (inOf x0 x1 x2 x3 x4 x5 x6 x7 x8 x9).bk (stOf xs0 xs1 xs2 xs3 xs4).kp (inOf x0 x1 x2 x3 x4 x5 x6 x7 x8 x9).x1 p j := by
  have b := ldw h8 x6 inb_S1x2048_S1x1024_0_1024 0 j (0 : Fin 1) (⟨1024 + j.val, by omega⟩ : Fin 2048) rfl rfl
  have w0 := ldw h7 x5 inb_S4x2048_S1x1024_0_1024 0 j (0 : Fin 4) (⟨1024 + j.val, by omega⟩ : Fin 2048) rfl rfl
  have w1 := ldw h7 x5 inb_S4x2048_S1x1024_1_1024 0 j (1 : Fin 4) (⟨1024 + j.val, by omega⟩ : Fin 2048) rfl rfl
  have w2 := ldw h7 x5 inb_S4x2048_S1x1024_2_1024 0 j (2 : Fin 4) (⟨1024 + j.val, by omega⟩ : Fin 2048) rfl rfl
  have w3 := ldw h7 x5 inb_S4x2048_S1x1024_3_1024 0 j (3 : Fin 4) (⟨1024 + j.val, by omega⟩ : Fin 2048) rfl rfl
  have y0 := (at2 a14.view (a14.view.writes (Elt Ideal) (h14.unread xs1) (kernelRun0_B.sl.HS1_1 c a3 h3 x1)) inb_S136x1024_S128x1024_5_0 p j).trans ((extkB (x0 := x0) (x1 := x1) (x2 := x2) (x3 := x3) (x4 := x4) (x5 := x5) (x6 := x6) (x7 := x7) (x8 := x8) (x9 := x9) (xs0 := xs0) (xs1 := xs1) (xs2 := xs2) (xs3 := xs3) (xs4 := xs4) ..).trans (congrArg (Mlstm.ext _ _ _) (Fin.ext (Nat.zero_add _))))
  have y1 := (at2 a14.view (a14.view.writes (Elt Ideal) (h14.unread xs1) (kernelRun0_B.sl.HS1_1 c a3 h3 x1)) inb_S136x1024_S128x1024_6_0 p j).trans ((extkB (x0 := x0) (x1 := x1) (x2 := x2) (x3 := x3) (x4 := x4) (x5 := x5) (x6 := x6) (x7 := x7) (x8 := x8) (x9 := x9) (xs0 := xs0) (xs1 := xs1) (xs2 := xs2) (xs3 := xs3) (xs4 := xs4) ..).trans (congrArg (Mlstm.ext _ _ _) (Fin.ext (Nat.zero_add _))))
  have y2 := (at2 a14.view (a14.view.writes (Elt Ideal) (h14.unread xs1) (kernelRun0_B.sl.HS1_1 c a3 h3 x1)) inb_S136x1024_S128x1024_7_0 p j).trans ((extkB (x0 := x0) (x1 := x1) (x2 := x2) (x3 := x3) (x4 := x4) (x5 := x5) (x6 := x6) (x7 := x7) (x8 := x8) (x9 := x9) (xs0 := xs0) (xs1 := xs1) (xs2 := xs2) (xs3 := xs3) (xs4 := xs4) ..).trans (congrArg (Mlstm.ext _ _ _) (Fin.ext (Nat.zero_add _))))
  have y3 := (at2 a14.view (a14.view.writes (Elt Ideal) a14.view.junk (kernelRun0_B.sl.HS1_1 c a3 h3 x1)) inb_S136x1024_S128x1024_8_0 p j).trans (((extkX (v := a14.view) (f := a14.view.junk) (x0 := x0) (x1 := x1) (x2 := x2) (x3 := x3) (x4 := x4) (x5 := x5) (x6 := x6) (x7 := x7) (x8 := x8) (x9 := x9) ..).trans ((ext_past _ _ _ _ p rfl).trans (ext_past (stOf xs0 xs1 xs2 xs3 xs4).kp _ (⟨8 + p.val, by omega⟩ : Fin 136) _ p rfl).symm)).trans (congrArg (Mlstm.ext _ _ _) (Fin.ext (Nat.zero_add _))))
  exact (congrArg (fun z : EReal => z + (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).kw (ix2 0 j) * (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).ke (ix2 p j)) (conv3_at _ _ _ _ _ _ _ p j)).trans (conv_eq b w0 w1 w2 w3 y0 y1 y2 y3)
/-- The gates. -/
theorem gB_at (p j : Fin 128) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).g (ix2 p j) = (inOf x0 x1 x2 x3 x4 x5 x6 x7 x8 x9).g p j :=
  (pay16_at _ _ p j).trans (congrArg₂ (fun y z : EReal => y + z) (ldw h6 x4 inb_S128x128_S128x128_0_0 p j p j (Nat.zero_add _) (Nat.zero_add _))
    (ldw h9 x7 inb_S1x128_S1x128_0_0 0 j 0 j rfl (Nat.zero_add _)))
/-- The triangle. -/
theorem tB_at (p j : Fin 128) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).tr (ix2 p j) = (inOf x0 x1 x2 x3 x4 x5 x6 x7 x8 x9).t p j :=
  ldw h11 x9 inb_S128x128_S128x128_0_0 p j p j (Nat.zero_add _) (Nat.zero_add _)
theorem vB0_at (p : Fin 128) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).v0 (ix2 p e) = (inOf x0 x1 x2 x3 x4 x5 x6 x7 x8 x9).x2 p (⟨512 * (0 : Fin 4).val + e.val, by omega⟩ : Fin 2048) :=
  ldw h4 x2 inb_S128x2048_S128x512_0_0 p e p _ (Nat.zero_add _) rfl
theorem oB0_at (p : Fin 128) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).o0 (ix2 p e) = (inOf x0 x1 x2 x3 x4 x5 x6 x7 x8 x9).x3 p (⟨512 * (0 : Fin 4).val + e.val, by omega⟩ : Fin 2048) :=
  ldw h5 x3 inb_S128x2048_S128x512_0_0 p e p _ (Nat.zero_add _) rfl
theorem wB0_at (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).w0 (ix2 0 e) = (inOf x0 x1 x2 x3 x4 x5 x6 x7 x8 x9).w (⟨512 * (0 : Fin 4).val + e.val, by omega⟩ : Fin 2048) :=
  ldw h10 x8 inb_S1x2048_S1x512_0_0 0 e 0 _ rfl rfl
theorem cB0_at (d : Fin 256) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).c0 (ix3 0 d e) = (stOf xs0 xs1 xs2 xs3 xs4).c 0 d e :=
  ldw3 h15 xs2 inb_S4x256x512_S1x256x512_0_0_0 0 d e 0 d e rfl (Nat.zero_add _) (Nat.zero_add _)
theorem nB0_at (d : Fin 256) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).n0 (ix3 0 0 d) = (stOf xs0 xs1 xs2 xs3 xs4).n 0 d :=
  ldw3 h16 xs3 inb_S4x1x256_S1x1x256_0_0_0 0 0 d 0 0 d rfl rfl (Nat.zero_add _)
theorem mB0_at : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).m0 (ix3 0 0 0) = (stOf xs0 xs1 xs2 xs3 xs4).m 0 :=
  ldw3 h17 xs4 inb_S4x1x1_S1x1x1_0_0_0 0 0 0 0 0 0 rfl rfl rfl
theorem vB1_at (p : Fin 128) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).v1 (ix2 p e) = (inOf x0 x1 x2 x3 x4 x5 x6 x7 x8 x9).x2 p (⟨512 * (1 : Fin 4).val + e.val, by omega⟩ : Fin 2048) :=
  ldw h4 x2 inb_S128x2048_S128x512_0_512 p e p _ (Nat.zero_add _) rfl
theorem oB1_at (p : Fin 128) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).o1 (ix2 p e) = (inOf x0 x1 x2 x3 x4 x5 x6 x7 x8 x9).x3 p (⟨512 * (1 : Fin 4).val + e.val, by omega⟩ : Fin 2048) :=
  ldw h5 x3 inb_S128x2048_S128x512_0_512 p e p _ (Nat.zero_add _) rfl
theorem wB1_at (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).w1 (ix2 0 e) = (inOf x0 x1 x2 x3 x4 x5 x6 x7 x8 x9).w (⟨512 * (1 : Fin 4).val + e.val, by omega⟩ : Fin 2048) :=
  ldw h10 x8 inb_S1x2048_S1x512_0_512 0 e 0 _ rfl rfl
theorem cB1_at (d : Fin 256) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).c1 (ix3 0 d e) = (stOf xs0 xs1 xs2 xs3 xs4).c 1 d e :=
  ldw3 h15 xs2 inb_S4x256x512_S1x256x512_1_0_0 0 d e 1 d e rfl (Nat.zero_add _) (Nat.zero_add _)
theorem nB1_at (d : Fin 256) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).n1 (ix3 0 0 d) = (stOf xs0 xs1 xs2 xs3 xs4).n 1 d :=
  ldw3 h16 xs3 inb_S4x1x256_S1x1x256_1_0_0 0 0 d 1 0 d rfl rfl (Nat.zero_add _)
theorem mB1_at : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).m1 (ix3 0 0 0) = (stOf xs0 xs1 xs2 xs3 xs4).m 1 :=
  ldw3 h17 xs4 inb_S4x1x1_S1x1x1_1_0_0 0 0 0 1 0 0 rfl rfl rfl
theorem vB2_at (p : Fin 128) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).v2 (ix2 p e) = (inOf x0 x1 x2 x3 x4 x5 x6 x7 x8 x9).x2 p (⟨512 * (2 : Fin 4).val + e.val, by omega⟩ : Fin 2048) :=
  ldw h4 x2 inb_S128x2048_S128x512_0_1024 p e p _ (Nat.zero_add _) rfl
theorem oB2_at (p : Fin 128) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).o2 (ix2 p e) = (inOf x0 x1 x2 x3 x4 x5 x6 x7 x8 x9).x3 p (⟨512 * (2 : Fin 4).val + e.val, by omega⟩ : Fin 2048) :=
  ldw h5 x3 inb_S128x2048_S128x512_0_1024 p e p _ (Nat.zero_add _) rfl
theorem wB2_at (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).w2 (ix2 0 e) = (inOf x0 x1 x2 x3 x4 x5 x6 x7 x8 x9).w (⟨512 * (2 : Fin 4).val + e.val, by omega⟩ : Fin 2048) :=
  ldw h10 x8 inb_S1x2048_S1x512_0_1024 0 e 0 _ rfl rfl
theorem cB2_at (d : Fin 256) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).c2 (ix3 0 d e) = (stOf xs0 xs1 xs2 xs3 xs4).c 2 d e :=
  ldw3 h15 xs2 inb_S4x256x512_S1x256x512_2_0_0 0 d e 2 d e rfl (Nat.zero_add _) (Nat.zero_add _)
theorem nB2_at (d : Fin 256) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).n2 (ix3 0 0 d) = (stOf xs0 xs1 xs2 xs3 xs4).n 2 d :=
  ldw3 h16 xs3 inb_S4x1x256_S1x1x256_2_0_0 0 0 d 2 0 d rfl rfl (Nat.zero_add _)
theorem mB2_at : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).m2 (ix3 0 0 0) = (stOf xs0 xs1 xs2 xs3 xs4).m 2 :=
  ldw3 h17 xs4 inb_S4x1x1_S1x1x1_2_0_0 0 0 0 2 0 0 rfl rfl rfl
theorem vB3_at (p : Fin 128) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).v3 (ix2 p e) = (inOf x0 x1 x2 x3 x4 x5 x6 x7 x8 x9).x2 p (⟨512 * (3 : Fin 4).val + e.val, by omega⟩ : Fin 2048) :=
  ldw h4 x2 inb_S128x2048_S128x512_0_1536 p e p _ (Nat.zero_add _) rfl
theorem oB3_at (p : Fin 128) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).o3 (ix2 p e) = (inOf x0 x1 x2 x3 x4 x5 x6 x7 x8 x9).x3 p (⟨512 * (3 : Fin 4).val + e.val, by omega⟩ : Fin 2048) :=
  ldw h5 x3 inb_S128x2048_S128x512_0_1536 p e p _ (Nat.zero_add _) rfl
theorem wB3_at (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).w3 (ix2 0 e) = (inOf x0 x1 x2 x3 x4 x5 x6 x7 x8 x9).w (⟨512 * (3 : Fin 4).val + e.val, by omega⟩ : Fin 2048) :=
  ldw h10 x8 inb_S1x2048_S1x512_0_1536 0 e 0 _ rfl rfl
theorem cB3_at (d : Fin 256) (e : Fin 512) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).c3 (ix3 0 d e) = (stOf xs0 xs1 xs2 xs3 xs4).c 3 d e :=
  ldw3 h15 xs2 inb_S4x256x512_S1x256x512_3_0_0 0 d e 3 d e rfl (Nat.zero_add _) (Nat.zero_add _)
theorem nB3_at (d : Fin 256) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).n3 (ix3 0 0 d) = (stOf xs0 xs1 xs2 xs3 xs4).n 3 d :=
  ldw3 h16 xs3 inb_S4x1x256_S1x1x256_3_0_0 0 0 d 3 0 d rfl rfl (Nat.zero_add _)
theorem mB3_at : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).m3 (ix3 0 0 0) = (stOf xs0 xs1 xs2 xs3 xs4).m 3 :=
  ldw3 h17 xs4 inb_S4x1x1_S1x1x1_3_0_0 0 0 0 3 0 0 rfl rfl rfl

/-- A head's step. -/
theorem hdB (h : Fin 4) : (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).hd h = (inOf x0 x1 x2 x3 x4 x5 x6 x7 x8 x9).hd (stOf xs0 xs1 xs2 xs3 xs4) h := by
  refine Mlstm.Hd.eq (fun p d => qB_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 p _) (fun p d => ?_) (fun p e => ?_) (fun p => congrArg Mlstm.cap (gB_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 _ _)) (fun p => ?_) (fun d e => ?_) (fun d => ?_) ?_
  · exact congrArg (fun z => Mlstm.silu z * Ideal.ofBits FTy.f32 1031798784#32) (kB_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 _ _)
  · match h with
    | 0 => exact vB0_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 p e
    | 1 => exact vB1_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 p e
    | 2 => exact vB2_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 p e
    | 3 => exact vB3_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 p e
  · show (∑ x, (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).tr (ix2 p x) * Mlstm.lfg ((blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).g (ix2 x (⟨4 + h.val, by omega⟩ : Fin 128)))
      + ∑ x, (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).tr (ix2 p x) * (Mlstm.lfg ((blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).g (ix2 x (⟨4 + h.val, by omega⟩ : Fin 128))) - Mlstm.lfg ((blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).g (ix2 x (⟨4 + h.val, by omega⟩ : Fin 128)))) : EReal)
      = ∑ x, (inOf x0 x1 x2 x3 x4 x5 x6 x7 x8 x9).t p x * Mlstm.lfg ((inOf x0 x1 x2 x3 x4 x5 x6 x7 x8 x9).g x (⟨4 + h.val, by omega⟩ : Fin 128))
      + ∑ x, (inOf x0 x1 x2 x3 x4 x5 x6 x7 x8 x9).t p x * (Mlstm.lfg ((inOf x0 x1 x2 x3 x4 x5 x6 x7 x8 x9).g x (⟨4 + h.val, by omega⟩ : Fin 128)) - Mlstm.lfg ((inOf x0 x1 x2 x3 x4 x5 x6 x7 x8 x9).g x (⟨4 + h.val, by omega⟩ : Fin 128)))
    simp only [gB_at, tB_at]
  · match h with
    | 0 => exact cB0_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 d e
    | 1 => exact cB1_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 d e
    | 2 => exact cB2_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 d e
    | 3 => exact cB3_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 d e
  · match h with
    | 0 => exact nB0_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 d
    | 1 => exact nB1_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 d
    | 2 => exact nB2_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 d
    | 3 => exact nB3_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 d
  · match h with
    | 0 => exact mB0_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4
    | 1 => exact mB1_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4
    | 2 => exact mB2_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4
    | 3 => exact mB3_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4

/-- The block's results. -/
theorem outB (hc0 : ¬cond0_0 i) (h : Fin 4) (p : Fin 128) (e : Fin 512) :
    out0_B_10 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4 (ix2 p (⟨512 * h.val + e.val, by omega⟩ : Fin 2048)) = (inOf x0 x1 x2 x3 x4 x5 x6 x7 x8 x9).out (stOf xs0 xs1 xs2 xs3 xs4) h p e := by
  unfold out0_B_10
  rw [listB_out]
  unfold Mlstm.In.out
  rw [← hdB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4]
  match h with
  | 0 =>
      refine (miss21 VO0_10 _ inb_S128x2048_S128x512_0_1536 _ _ _ _ (Or.inl (by show 512 * 0 + e.val < 1536; omega))).trans ?_
      refine (miss21 VO0_10 _ inb_S128x2048_S128x512_0_1024 _ _ _ _ (Or.inl (by show 512 * 0 + e.val < 1024; omega))).trans ?_
      refine (miss21 VO0_10 _ inb_S128x2048_S128x512_0_512 _ _ _ _ (Or.inl (by show 512 * 0 + e.val < 512; omega))).trans ?_
      refine (hit2 VO0_10 _ inb_S128x2048_S128x512_0_0 _ _ p e p _ (Nat.zero_add _) rfl).trans ((out0_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) p e).trans ?_)
      have e1 : (fun j => (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).w0 (ix2 0 j)) = fun e => (inOf x0 x1 x2 x3 x4 x5 x6 x7 x8 x9).w (⟨512 * (0 : Fin 4).val + e.val, by omega⟩ : Fin 2048) := funext fun e => wB0_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 e
      have e2 : (fun p e => (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).o0 (ix2 p e)) = fun p e => (inOf x0 x1 x2 x3 x4 x5 x6 x7 x8 x9).x3 p (⟨512 * (0 : Fin 4).val + e.val, by omega⟩ : Fin 2048) := funext fun p => funext fun e => oB0_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 p e
      rw [e1, e2]
  | 1 =>
      refine (miss21 VO0_10 _ inb_S128x2048_S128x512_0_1536 _ _ _ _ (Or.inl (by show 512 * 1 + e.val < 1536; omega))).trans ?_
      refine (miss21 VO0_10 _ inb_S128x2048_S128x512_0_1024 _ _ _ _ (Or.inl (by show 512 * 1 + e.val < 1024; omega))).trans ?_
      refine (hit2 VO0_10 _ inb_S128x2048_S128x512_0_512 _ _ p e p _ (Nat.zero_add _) rfl).trans ((out1_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) p e).trans ?_)
      have e1 : (fun j => (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).w1 (ix2 0 j)) = fun e => (inOf x0 x1 x2 x3 x4 x5 x6 x7 x8 x9).w (⟨512 * (1 : Fin 4).val + e.val, by omega⟩ : Fin 2048) := funext fun e => wB1_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 e
      have e2 : (fun p e => (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).o1 (ix2 p e)) = fun p e => (inOf x0 x1 x2 x3 x4 x5 x6 x7 x8 x9).x3 p (⟨512 * (1 : Fin 4).val + e.val, by omega⟩ : Fin 2048) := funext fun p => funext fun e => oB1_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 p e
      rw [e1, e2]
  | 2 =>
      refine (miss21 VO0_10 _ inb_S128x2048_S128x512_0_1536 _ _ _ _ (Or.inl (by show 512 * 2 + e.val < 1536; omega))).trans ?_
      refine (hit2 VO0_10 _ inb_S128x2048_S128x512_0_1024 _ _ p e p _ (Nat.zero_add _) rfl).trans ((out2_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) p e).trans ?_)
      have e1 : (fun j => (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).w2 (ix2 0 j)) = fun e => (inOf x0 x1 x2 x3 x4 x5 x6 x7 x8 x9).w (⟨512 * (2 : Fin 4).val + e.val, by omega⟩ : Fin 2048) := funext fun e => wB2_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 e
      have e2 : (fun p e => (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).o2 (ix2 p e)) = fun p e => (inOf x0 x1 x2 x3 x4 x5 x6 x7 x8 x9).x3 p (⟨512 * (2 : Fin 4).val + e.val, by omega⟩ : Fin 2048) := funext fun p => funext fun e => oB2_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 p e
      rw [e1, e2]
  | 3 =>
      refine (hit2 VO0_10 _ inb_S128x2048_S128x512_0_1536 _ _ p e p _ (Nat.zero_add _) rfl).trans ((out3_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) p e).trans ?_)
      have e1 : (fun j => (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).w3 (ix2 0 j)) = fun e => (inOf x0 x1 x2 x3 x4 x5 x6 x7 x8 x9).w (⟨512 * (3 : Fin 4).val + e.val, by omega⟩ : Fin 2048) := funext fun e => wB3_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 e
      have e2 : (fun p e => (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4).o3 (ix2 p e)) = fun p e => (inOf x0 x1 x2 x3 x4 x5 x6 x7 x8 x9).x3 p (⟨512 * (3 : Fin 4).val + e.val, by omega⟩ : Fin 2048) := funext fun p => funext fun e => oB3_at c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4 p e
      rw [e1, e2]

/-- The carried matrices it leaves. -/
theorem soutB_c (hc0 : ¬cond0_0 i) (h : Fin 4) (d : Fin 256) (e : Fin 512) : sout0_B_2 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4 (ix3 h d e) = ((inOf x0 x1 x2 x3 x4 x5 x6 x7 x8 x9).next (stOf xs0 xs1 xs2 xs3 xs4)).c h d e := by
  unfold sout0_B_2
  rw [listB_c]
  show _ = ((inOf x0 x1 x2 x3 x4 x5 x6 x7 x8 x9).hd (stOf xs0 xs1 xs2 xs3 xs4) h).c' d e
  rw [← hdB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4]
  match h with
  | 0 =>
      refine (miss30 VS0_2 _ inb_S4x256x512_S1x256x512_3_0_0 _ _ _ _ _ (Or.inl (by show 0 < 3; omega))).trans ?_
      refine (miss30 VS0_2 _ inb_S4x256x512_S1x256x512_2_0_0 _ _ _ _ _ (Or.inl (by show 0 < 2; omega))).trans ?_
      refine (miss30 VS0_2 _ inb_S4x256x512_S1x256x512_1_0_0 _ _ _ _ _ (Or.inl (by show 0 < 1; omega))).trans ?_
      exact (hit3 VS0_2 _ inb_S4x256x512_S1x256x512_0_0_0 _ _ 0 d e 0 d e rfl (Nat.zero_add _) (Nat.zero_add _)).trans (cn0_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) d e)
  | 1 =>
      refine (miss30 VS0_2 _ inb_S4x256x512_S1x256x512_3_0_0 _ _ _ _ _ (Or.inl (by show 1 < 3; omega))).trans ?_
      refine (miss30 VS0_2 _ inb_S4x256x512_S1x256x512_2_0_0 _ _ _ _ _ (Or.inl (by show 1 < 2; omega))).trans ?_
      exact (hit3 VS0_2 _ inb_S4x256x512_S1x256x512_1_0_0 _ _ 0 d e 1 d e rfl (Nat.zero_add _) (Nat.zero_add _)).trans (cn1_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) d e)
  | 2 =>
      refine (miss30 VS0_2 _ inb_S4x256x512_S1x256x512_3_0_0 _ _ _ _ _ (Or.inl (by show 2 < 3; omega))).trans ?_
      exact (hit3 VS0_2 _ inb_S4x256x512_S1x256x512_2_0_0 _ _ 0 d e 2 d e rfl (Nat.zero_add _) (Nat.zero_add _)).trans (cn2_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) d e)
  | 3 =>
      exact (hit3 VS0_2 _ inb_S4x256x512_S1x256x512_3_0_0 _ _ 0 d e 3 d e rfl (Nat.zero_add _) (Nat.zero_add _)).trans (cn3_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) d e)

/-- The carried vectors it leaves. -/
theorem soutB_n (hc0 : ¬cond0_0 i) (h : Fin 4) (d : Fin 256) : sout0_B_3 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4 (ix3 h 0 d) = ((inOf x0 x1 x2 x3 x4 x5 x6 x7 x8 x9).next (stOf xs0 xs1 xs2 xs3 xs4)).n h d := by
  unfold sout0_B_3
  rw [listB_n]
  show _ = ((inOf x0 x1 x2 x3 x4 x5 x6 x7 x8 x9).hd (stOf xs0 xs1 xs2 xs3 xs4) h).n' d
  rw [← hdB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4]
  match h with
  | 0 =>
      refine (miss30 VS0_3 _ inb_S4x1x256_S1x1x256_3_0_0 _ _ _ _ _ (Or.inl (by show 0 < 3; omega))).trans ?_
      refine (miss30 VS0_3 _ inb_S4x1x256_S1x1x256_2_0_0 _ _ _ _ _ (Or.inl (by show 0 < 2; omega))).trans ?_
      refine (miss30 VS0_3 _ inb_S4x1x256_S1x1x256_1_0_0 _ _ _ _ _ (Or.inl (by show 0 < 1; omega))).trans ?_
      exact (hit3 VS0_3 _ inb_S4x1x256_S1x1x256_0_0_0 _ _ 0 0 d 0 0 d rfl rfl (Nat.zero_add _)).trans (nn0_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) d)
  | 1 =>
      refine (miss30 VS0_3 _ inb_S4x1x256_S1x1x256_3_0_0 _ _ _ _ _ (Or.inl (by show 1 < 3; omega))).trans ?_
      refine (miss30 VS0_3 _ inb_S4x1x256_S1x1x256_2_0_0 _ _ _ _ _ (Or.inl (by show 1 < 2; omega))).trans ?_
      exact (hit3 VS0_3 _ inb_S4x1x256_S1x1x256_1_0_0 _ _ 0 0 d 1 0 d rfl rfl (Nat.zero_add _)).trans (nn1_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) d)
  | 2 =>
      refine (miss30 VS0_3 _ inb_S4x1x256_S1x1x256_3_0_0 _ _ _ _ _ (Or.inl (by show 2 < 3; omega))).trans ?_
      exact (hit3 VS0_3 _ inb_S4x1x256_S1x1x256_2_0_0 _ _ 0 0 d 2 0 d rfl rfl (Nat.zero_add _)).trans (nn2_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) d)
  | 3 =>
      exact (hit3 VS0_3 _ inb_S4x1x256_S1x1x256_3_0_0 _ _ 0 0 d 3 0 d rfl rfl (Nat.zero_add _)).trans (nn3_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) d)

/-- The carried exponents it leaves. -/
theorem soutB_m (hc0 : ¬cond0_0 i) (h : Fin 4)  : sout0_B_4 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4 (ix3 h 0 0) = ((inOf x0 x1 x2 x3 x4 x5 x6 x7 x8 x9).next (stOf xs0 xs1 xs2 xs3 xs4)).m h  := by
  unfold sout0_B_4
  rw [listB_m]
  show _ = ((inOf x0 x1 x2 x3 x4 x5 x6 x7 x8 x9).hd (stOf xs0 xs1 xs2 xs3 xs4) h).m'
  rw [← hdB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4]
  match h with
  | 0 =>
      refine (miss30 VS0_4 _ inb_S4x1x1_S1x1x1_3_0_0 _ _ _ _ _ (Or.inl (by show 0 < 3; omega))).trans ?_
      refine (miss30 VS0_4 _ inb_S4x1x1_S1x1x1_2_0_0 _ _ _ _ _ (Or.inl (by show 0 < 2; omega))).trans ?_
      refine (miss30 VS0_4 _ inb_S4x1x1_S1x1x1_1_0_0 _ _ _ _ _ (Or.inl (by show 0 < 1; omega))).trans ?_
      exact (hit3 VS0_4 _ inb_S4x1x1_S1x1x1_0_0_0 _ _ 0 0 0 0 0 0 rfl rfl rfl).trans (mn0_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) )
  | 1 =>
      refine (miss30 VS0_4 _ inb_S4x1x1_S1x1x1_3_0_0 _ _ _ _ _ (Or.inl (by show 1 < 3; omega))).trans ?_
      refine (miss30 VS0_4 _ inb_S4x1x1_S1x1x1_2_0_0 _ _ _ _ _ (Or.inl (by show 1 < 2; omega))).trans ?_
      exact (hit3 VS0_4 _ inb_S4x1x1_S1x1x1_1_0_0 _ _ 0 0 0 1 0 0 rfl rfl rfl).trans (mn1_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) )
  | 2 =>
      refine (miss30 VS0_4 _ inb_S4x1x1_S1x1x1_3_0_0 _ _ _ _ _ (Or.inl (by show 2 < 3; omega))).trans ?_
      exact (hit3 VS0_4 _ inb_S4x1x1_S1x1x1_2_0_0 _ _ 0 0 0 2 0 0 rfl rfl rfl).trans (mn2_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) )
  | 3 =>
      exact (hit3 VS0_4 _ inb_S4x1x1_S1x1x1_3_0_0 _ _ 0 0 0 3 0 0 rfl rfl rfl).trans (mn3_at (blkB c a2 h2 a3 h3 a4 h4 a5 h5 a6 h6 a7 h7 a8 h8 a9 h9 a10 h10 a11 h11 a13 h13 a14 h14 a15 h15 a16 h16 a17 h17 x0 x1 x2 x3 x4 x5 x6 x7 x8 x9 xs0 xs1 xs2 xs3 xs4) )

/-- The last queries it leaves. -/
theorem soutB_q (hc0 : ¬cond0_0 i) (r : Fin 8) (j : Fin 1024) : sout0_B_0 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4 (ix2 (⟨r.val, by omega⟩ : Fin 136) j) = ((inOf x0 x1 x2 x3 x4 x5 x6 x7 x8 x9).next (stOf xs0 xs1 xs2 xs3 xs4)).qp r j := by
  unfold sout0_B_0
  rw [listB_q]
  refine (hit2 VS0_0 _ inb_S136x1024_S8x1024_0_0 _ _ r j _ j (Nat.zero_add _) (Nat.zero_add _)).trans ?_
  refine (pay10_at _ r j).trans ?_
  refine (at2 a13.view (a13.view.writes (Elt Ideal) a13.view.junk (kernelRun0_B.sl.HS0_1 c a2 h2 x0)) inb_S136x1024_S8x1024_128_0 r j).trans ((extqX (v := a13.view) (f := a13.view.junk) (x0 := x0) (x1 := x1) (x2 := x2) (x3 := x3) (x4 := x4) (x5 := x5) (x6 := x6) (x7 := x7) (x8 := x8) (x9 := x9) ..).trans ?_)
  refine (ext_past _ _ _ _ (⟨120 + r.val, by omega⟩ : Fin 128) (by show 8 + (120 + r.val) = 128 + r.val; omega)).trans ?_
  exact congrArg ((inOf x0 x1 x2 x3 x4 x5 x6 x7 x8 x9).x0 _) (Fin.ext (Nat.zero_add _))

/-- The last keys it leaves. -/
theorem soutB_k (hc0 : ¬cond0_0 i) (r : Fin 8) (j : Fin 1024) : sout0_B_1 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4 (ix2 (⟨r.val, by omega⟩ : Fin 136) j) = ((inOf x0 x1 x2 x3 x4 x5 x6 x7 x8 x9).next (stOf xs0 xs1 xs2 xs3 xs4)).kp r j := by
  unfold sout0_B_1
  rw [listB_k]
  refine (hit2 VS0_1 _ inb_S136x1024_S8x1024_0_0 _ _ r j _ j (Nat.zero_add _) (Nat.zero_add _)).trans ?_
  refine (pay14_at _ r j).trans ?_
  refine (at2 a14.view (a14.view.writes (Elt Ideal) a14.view.junk (kernelRun0_B.sl.HS1_1 c a3 h3 x1)) inb_S136x1024_S8x1024_128_0 r j).trans ((extkX (v := a14.view) (f := a14.view.junk) (x0 := x0) (x1 := x1) (x2 := x2) (x3 := x3) (x4 := x4) (x5 := x5) (x6 := x6) (x7 := x7) (x8 := x8) (x9 := x9) ..).trans ?_)
  refine (ext_past _ _ _ _ (⟨120 + r.val, by omega⟩ : Fin 128) (by show 8 + (120 + r.val) = 128 + r.val; omega)).trans ?_
  exact congrArg ((inOf x0 x1 x2 x3 x4 x5 x6 x7 x8 x9).x1 _) (Fin.ext (Nat.zero_add _))

/-- The state it leaves. -/
theorem nextB (hc0 : ¬cond0_0 i) : stOf (sout0_B_0 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4) (sout0_B_1 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4) (sout0_B_2 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4) (sout0_B_3 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4) (sout0_B_4 c i a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 xs0 xs1 xs2 xs3 xs4) = (inOf x0 x1 x2 x3 x4 x5 x6 x7 x8 x9).next (stOf xs0 xs1 xs2 xs3 xs4) :=
  stOf_eq _ _ _ _ _ _ (soutB_q c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 xs0 xs1 xs2 xs3 xs4 hc0) (soutB_k c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 xs0 xs1 xs2 xs3 xs4 hc0) (soutB_c c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 xs0 xs1 xs2 xs3 xs4 hc0) (soutB_n c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 xs0 xs1 xs2 xs3 xs4 hc0) (soutB_m c i a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 xs0 xs1 xs2 xs3 xs4 hc0)

end Cert.KernelIdeal.Own
-- ==== Proof.KernelValue.lean ====
module

public import proofs.«01_k».proof.Proof.KernelRead
public import proofs.«01_k».proof.Proof.KernelBlock
public import proofs.«01_k».proof.Proof.KernelStepA
public import proofs.«01_k».proof.Proof.KernelStepB

@[expose] public section

set_option maxRecDepth 16384

noncomputable section

/-! What the mLSTM kernel's result array holds. -/

namespace Cert.KernelIdeal.Own

open Cert Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

abbrev args (c : Dev nD) : Mlstm.Args := argsOf (a0 m c) (a1 m c) (a2 m c) (a3 m c) (a4 m c)

/-- The windows of a point. -/
abbrev wins (c : Dev nD) (t : Fin cfg0.N) : Mlstm.In :=
  inOf (X0_0 (F := Ideal) m c t) (X0_1 (F := Ideal) m c t) (X0_2 (F := Ideal) m c t) (X0_3 (F := Ideal) m c t) (iblk (F := Ideal) m c 4 t)
    (iblk (F := Ideal) m c 5 t) (iblk (F := Ideal) m c 6 t) (iblk (F := Ideal) m c 7 t) (iblk (F := Ideal) m c 8 t) (iblk (F := Ideal) m c 9 t)

theorem reads_of (A : Mlstm.Args) (b : Fin 4) (n : ℕ) (x0 : Vec Ideal S128x1024 .f32) (x1 : Vec Ideal S128x1024 .f32) (x2 : Vec Ideal S128x2048 .f32) (x3 : Vec Ideal S128x2048 .f32)
    (x4 : Vec Ideal S128x128 .f32) (x5 : Vec Ideal S4x2048 .f32) (x6 : Vec Ideal S1x2048 .f32) (x7 : Vec Ideal S1x128 .f32)
    (x8 : Vec Ideal S1x2048 .f32) (x9 : Vec Ideal S128x128 .bf16)
    (h0 : ∀ (p : Fin 128) (j : Fin 1024), x0 (ix2 p j) = A.z b (Mlstm.pos n p) (⟨j.val, by omega⟩ : Fin 6152))
    (h1 : ∀ (p : Fin 128) (j : Fin 1024), x1 (ix2 p j) = A.z b (Mlstm.pos n p) (⟨1024 + j.val, by omega⟩ : Fin 6152))
    (h2 : ∀ (p : Fin 128) (j : Fin 2048), x2 (ix2 p j) = A.z b (Mlstm.pos n p) (⟨2048 + j.val, by omega⟩ : Fin 6152))
    (h3 : ∀ (p : Fin 128) (j : Fin 2048), x3 (ix2 p j) = A.z b (Mlstm.pos n p) (⟨4096 + j.val, by omega⟩ : Fin 6152))
    (h4 : ∀ (p : Fin 128) (j : Fin 8), x4 (ix2 p (⟨j.val, by omega⟩ : Fin 128)) = A.z b (Mlstm.pos n p) (⟨6144 + j.val, by omega⟩ : Fin 6152))
    (h5 : ∀ (k : Fin 4) (j : Fin 2048), x5 (ix2 k j) = A.cw k j)
    (h6 : ∀ j : Fin 2048, x6 (ix2 (0 : Fin 1) j) = A.cb j)
    (h7 : ∀ j : Fin 8, x7 (ix2 (0 : Fin 1) (⟨j.val, by omega⟩ : Fin 128)) = A.gb j)
    (h8 : ∀ j : Fin 2048, x8 (ix2 (0 : Fin 1) j) = A.ng j)
    (h9 : ∀ p q : Fin 128, x9 (ix2 p q) = if q ≤ p then (1 : EReal) else 0) : A.Reads (inOf x0 x1 x2 x3 x4 x5 x6 x7 x8 x9) b n where
  x0 := h0
  x1 := h1
  x2 := h2
  x3 := h3
  g := fun p l => congrArg₂ (fun a b : EReal => a + b) (h4 p l) (h7 l)
  wq := fun k j => h5 k ⟨j.val, by omega⟩
  wk := fun k j => h5 k ⟨1024 + j.val, by omega⟩
  bq := fun j => h6 ⟨j.val, by omega⟩
  bk := fun j => h6 ⟨1024 + j.val, by omega⟩
  w := h8
  t := h9

theorem reads (c : Dev nD) (t : Fin cfg0.N) : (args m c).Reads (wins m c t) (sq t.val (lt_t t)) (t.val % 32) :=
  reads_of _ _ _ _ _ _ _ _ _ _ _ _ _ (win0 m c t) (win1 m c t) (win2 m c t) (win3 m c t) (win4 m c t) (win5 m c t) (win6 m c t) (win7 m c t)
    (win8 m c t) (win9 m c t)

/-- What a point's contents are. -/
structure Good (c : Dev nD) (t : Fin cfg0.N) (acc : Vec Ideal S128x2048 .bf16 × Vec Ideal S136x1024 .f32 × Vec Ideal S136x1024 .f32
    × Vec Ideal S4x256x512 .f32 × Vec Ideal S4x1x256 .f32 × Vec Ideal S4x1x1 .f32) : Prop where
  out : ∀ (h : Fin 4) (p : Fin 128) (e : Fin 512), acc.1 (ix2 p (⟨512 * h.val + e.val, by omega⟩ : Fin 2048))
    = (args m c).res (sq t.val (lt_t t)) h (t.val % 32) p e
  st : stOf acc.2.1 acc.2.2.1 acc.2.2.2.1 acc.2.2.2.2.1 acc.2.2.2.2.2 = (args m c).stt (sq t.val (lt_t t)) (t.val % 32 + 1)

/-- A point whose contents are a step from what is carried in is good. -/
theorem good_of (c : Dev nD) (t : Fin cfg0.N) (o : Vec Ideal S128x2048 .bf16) (q : Vec Ideal S136x1024 .f32) (k : Vec Ideal S136x1024 .f32)
    (s : Vec Ideal S4x256x512 .f32) (n : Vec Ideal S4x1x256 .f32) (e : Vec Ideal S4x1x1 .f32) (S : Mlstm.St)
    (hS : S = (args m c).stt (sq t.val (lt_t t)) (t.val % 32))
    (ho : ∀ (h : Fin 4) (p : Fin 128) (e : Fin 512), o (ix2 p (⟨512 * h.val + e.val, by omega⟩ : Fin 2048)) = (wins m c t).out S h p e)
    (hs : stOf q k s n e = (wins m c t).next S) : Good m c t (o, q, k, s, n, e) where
  out := fun h p e => (ho h p e).trans (by rw [hS]; exact Mlstm.Args.out_eq (reads m c t) h p e)
  st := hs.trans (by rw [hS]; exact Mlstm.Args.next_eq (reads m c t))

theorem good_A (c : Dev nD) (t : Fin cfg0.N) (h0 : t.val % 32 = 0) : Good m c t (outsAt0 (F := Ideal) m c t.val t.isLt) := by
  have hz : Mlstm.St.zero = (args m c).stt (sq t.val (lt_t t)) (t.val % 32) := by rw [h0]; rfl
  have ho := outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (X0_0 (F := Ideal) m c t) (X0_1 (F := Ideal) m c t) (X0_2 (F := Ideal) m c t) (X0_3 (F := Ideal) m c t) (iblk (F := Ideal) m c 4 t) (iblk (F := Ideal) m c 5 t) (iblk (F := Ideal) m c 6 t) (iblk (F := Ideal) m c 7 t) (iblk (F := Ideal) m c 8 t) (iblk (F := Ideal) m c 9 t) ((hcond0_0 t).mpr h0)
  have hs := nextA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (X0_0 (F := Ideal) m c t) (X0_1 (F := Ideal) m c t) (X0_2 (F := Ideal) m c t) (X0_3 (F := Ideal) m c t) (iblk (F := Ideal) m c 4 t) (iblk (F := Ideal) m c 5 t) (iblk (F := Ideal) m c 6 t) (iblk (F := Ideal) m c 7 t) (iblk (F := Ideal) m c 8 t) (iblk (F := Ideal) m c 9 t) ((hcond0_0 t).mpr h0)
  exact Eq.mpr (congrArg (Good m c t) (outsAt0_A (F := Ideal) m c t h0)) (good_of m c t _ _ _ _ _ _ _ hz ho hs)

theorem good_B0 (c : Dev nD) (t : Fin cfg0.N) (h0 : ¬ t.val % 32 = 0) (acc : Vec Ideal S128x2048 .bf16 × Vec Ideal S136x1024 .f32 × Vec Ideal S136x1024 .f32
    × Vec Ideal S4x256x512 .f32 × Vec Ideal S4x1x256 .f32 × Vec Ideal S4x1x1 .f32)
    (hz : stOf acc.2.1 acc.2.2.1 acc.2.2.2.1 acc.2.2.2.2.1 acc.2.2.2.2.2 = (args m c).stt (sq t.val (lt_t t)) (t.val % 32)) :
    Good m c t (Value.stAt0 (F := Ideal) m c t.val t.isLt acc) := by
  have ho := outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (X0_0 (F := Ideal) m c t) (X0_1 (F := Ideal) m c t) (X0_2 (F := Ideal) m c t) (X0_3 (F := Ideal) m c t) (iblk (F := Ideal) m c 4 t) (iblk (F := Ideal) m c 5 t) (iblk (F := Ideal) m c 6 t) (iblk (F := Ideal) m c 7 t) (iblk (F := Ideal) m c 8 t) (iblk (F := Ideal) m c 9 t) acc.2.1 acc.2.2.1 acc.2.2.2.1 acc.2.2.2.2.1 acc.2.2.2.2.2 (fun h => h0 ((hcond0_0 t).mp h))
  have hs := nextB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (X0_0 (F := Ideal) m c t) (X0_1 (F := Ideal) m c t) (X0_2 (F := Ideal) m c t) (X0_3 (F := Ideal) m c t) (iblk (F := Ideal) m c 4 t) (iblk (F := Ideal) m c 5 t) (iblk (F := Ideal) m c 6 t) (iblk (F := Ideal) m c 7 t) (iblk (F := Ideal) m c 8 t) (iblk (F := Ideal) m c 9 t) acc.2.1 acc.2.2.1 acc.2.2.2.1 acc.2.2.2.2.1 acc.2.2.2.2.2 (fun h => h0 ((hcond0_0 t).mp h))
  exact Eq.mpr (congrArg (Good m c t) (Value.stAt0_B (F := Ideal) m c t acc h0)) (good_of m c t _ _ _ _ _ _ _ hz ho hs)

theorem good_B (c : Dev nD) (n : ℕ) (hn : n + 1 < cfg0.N) (h0 : ¬ (n + 1) % 32 = 0)
    (ih : Good m c ⟨n, Nat.lt_of_succ_lt hn⟩ (outsAt0 (F := Ideal) m c n (Nat.lt_of_succ_lt hn))) :
    Good m c ⟨n + 1, hn⟩ (outsAt0 (F := Ideal) m c (n + 1) hn) := by
  have e1 : sq n (lt_t ⟨n, Nat.lt_of_succ_lt hn⟩) = sq (n + 1) (lt_t ⟨n + 1, hn⟩) := Fin.ext (by show n / 32 = (n + 1) / 32; omega)
  have e2 : n % 32 + 1 = (n + 1) % 32 := by omega
  refine good_B0 m c ⟨n + 1, hn⟩ h0 (outsAt0 (F := Ideal) m c n (Nat.lt_of_succ_lt hn)) (ih.st.trans ?_)
  show (args m c).stt (sq n _) (n % 32 + 1) = (args m c).stt (sq (n + 1) _) ((n + 1) % 32)
  rw [e1, e2]

theorem good (c : Dev nD) (n : ℕ) : ∀ hn : n < cfg0.N, Good m c ⟨n, hn⟩ (outsAt0 (F := Ideal) m c n hn) := by
  induction n with
  | zero => exact fun hn => good_A m c ⟨0, hn⟩ rfl
  | succ n ih =>
    intro hn
    by_cases h : (n + 1) % 32 = 0
    · exact good_A m c ⟨n + 1, hn⟩ h
    · exact good_B m c n hn h (ih _)

/-- The layer part's result as an array. -/
def res (z : FVec Ideal S4x4096x6152 .f32) (cw : FVec Ideal S1x4x2048 .f32) (cb : FVec Ideal S1x2048 .f32)
    (gb : FVec Ideal S1x8 .f32) (ng : FVec Ideal S1x2048 .f32) : FVec Ideal S16384x2048 .bf16 :=
  fun i => (argsOf z cw cb gb ng).out (i 0) (i 1)

theorem G10_eq (c : Dev nD) : Value.G10 m c = res (a0 m c) (a1 m c) (a2 m c) (a3 m c) (a4 m c) := by
  funext i
  obtain ⟨r, j, rfl⟩ : ∃ (r : Fin 16384) (j : Fin 2048), i = ix2 r j := ⟨i 0, i 1, ValueIdx.eq_ix2 i⟩
  have hp : Value.pt10Of (ix2 r j) = r.val / 128 := by
    show 1 * (r.val / 128 - 0) + 1 * (j.val / 2048 - 0) = _
    omega
  have hlt : Value.pt10Of (ix2 r j) < cfg0.N := by
    rw [hp]; exact lt_of_lt_of_eq (b := 128) (by omega) (show cfg0.N = 128 from N_0).symm
  unfold Value.G10
  rw [dif_pos hlt, ← Value.outsAt0_sweep m c _ hlt]
  have hl : Value.loc10Of (ix2 r j) = ix2 (⟨r.val % 128, by omega⟩ : Fin 128) (⟨512 * (j.val / 512) + j.val % 512, by omega⟩ : Fin 2048) := by
    funext a
    match a with
    | ⟨0, _⟩ => rfl
    | ⟨1, _⟩ => exact Fin.ext (by show j.val % 2048 = 512 * (j.val / 512) + j.val % 512; omega)
  rw [hl]
  refine ((good m c _ hlt).out (⟨j.val / 512, by omega⟩ : Fin 4) (⟨r.val % 128, by omega⟩ : Fin 128) (⟨j.val % 512, by omega⟩ : Fin 512)).trans ?_
  show (args m c).res (sq (Value.pt10Of (ix2 r j)) _) _ (Value.pt10Of (ix2 r j) % 32) _ _ = (args m c).res _ _ (r.val % 4096 / 128) _ _
  have e1 : sq (Value.pt10Of (ix2 r j)) (lt_t ⟨_, hlt⟩) = (⟨r.val / 4096, by omega⟩ : Fin 4) :=
    Fin.ext (by show Value.pt10Of (ix2 r j) / 32 = r.val / 4096; rw [hp]; omega)
  have e2 : Value.pt10Of (ix2 r j) % 32 = r.val % 4096 / 128 := by rw [hp]; omega
  rw [e1, e2]
  rfl

theorem run (ρ : Dev nD → PrngReg) : θ_run defs (onTc (τ := τ) (main (F := Ideal))) ⟨m, fun _ => 0, ρ⟩ fun r => ∀ c : Dev nD,
      r.2.mem ((c : Thread nD τ).loc main_v13) = res (a0 m c) (a1 m c) (a2 m c) (a3 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (G10_eq m c), (h c).2⟩) (Value.run m ρ)

end Cert.KernelIdeal.Own

end
-- ==== Proof.KernelClaim.lean ====
module

public import proofs.«01_k».proof.Proof.KernelEnter
public import proofs.«01_k».proof.Proof.KernelValue

@[expose] public section

set_option maxRecDepth 16384

noncomputable section

/-! The reference's result is the kernel's: both are the recurrence over blocks, normalised, scaled and gated. -/

namespace Cert.ReferenceIdeal.Own

open Idealize.ShloMosaic Idealize.ShloMosaic.StableHlo Idealize.SL.Sem Cert.ReferenceIdeal Cert.ReferenceIdeal.Gen Cert.ReferenceIdeal.Value Cert.Mlstm
open Cert.ReferenceIdeal.Step hiding State
open Idealize.ShloMosaic.TcCoe

section
variable (m : (ℓ : Loc nD τ sig) → Buf (Elt Ideal) ℓ) (c : Dev nD)

/-- The arguments read index by index. -/
abbrev own : Args := argsR (b0 m c) (b1 m c) (b2 m c) (b3 m c) (b4 m c)

theorem pos_eq (t : Fin 32) (p : Fin 128) : (⟨128 * t.val + p.val, by omega⟩ : Fin 4096) = pos t.val p := by
  apply Fin.ext
  show 128 * t.val + p.val = (128 * t.val + p.val) % 4096
  omega

theorem mask_at (p s : Fin 128) (x y : EReal) : Scalar.select (K_main_v66 (F := Ideal) (ix2 p s)) x y = if s ≤ p then x else y := by
  rw [← tri p s x y]
  unfold K_main_v66 K_main_v65 K_main_c_7 K_main_call5_v5 K_main_call5_c_0 K_main_call5_v4 K_main_call5_v3 K_main_call5_v2 K_main_call5_v1 K_main_call5_c K_main_call5_v0
  pointwise []
  rw [show IntOp.addi (BitVec.ofNat 32 p.val) 0#32 = BitVec.ofNat 32 p.val from BitVec.add_zero _]
  generalize IntOp.cmpi CmpIPredicate.sge (BitVec.ofNat 32 p.val) (BitVec.ofNat 32 s.val) = i
  rw [show Scalar.select i 1#1 0#1 = i by revert i; decide]

theorem part_at0 (x : FVec Ideal S4x4096x2048 .f32) (b : Fin 4) (s : Fin 4096) (j : Fin 1024) :
    extractStridedSlice S4x4096x1024 ![0, 0, 0] x slices_S4x4096x2048_S4x4096x1024_0_0_0 (ix3 b s j) = x (ix3 b s (⟨j.val, by omega⟩ : Fin 2048)) := by
  pointwise []
theorem part_at1 (x : FVec Ideal S4x4096x2048 .f32) (b : Fin 4) (s : Fin 4096) (j : Fin 1024) :
    extractStridedSlice S4x4096x1024 ![0, 0, 1024] x slices_S4x4096x2048_S4x4096x1024_0_0_1024 (ix3 b s j) = x (ix3 b s (⟨1024 + j.val, by omega⟩ : Fin 2048)) := by
  pointwise []
theorem part_at2 (x : FVec Ideal S4x4096x6152 .f32) (b : Fin 4) (s : Fin 4096) (j : Fin 2048) :
    extractStridedSlice S4x4096x2048 ![0, 0, 2048] x slices_S4x4096x6152_S4x4096x2048_0_0_2048 (ix3 b s j) = x (ix3 b s (⟨2048 + j.val, by omega⟩ : Fin 6152)) := by
  pointwise []
theorem scaled_at (x : FVec Ideal S4x4096x4x256 .f32) (b : Fin 4) (s : Fin 4096) (h : Fin 4) (d : Fin 256) :
    mulf x (broadcastInDim S4x4096x4x256 ![] bcast_S_S4x4096x4x256 (constant (F := Ideal) S_ .f32 0x3D800000#32)) (ix4 b s h d)
      = x (ix4 b s h d) * Ideal.ofBits FTy.f32 1031798784#32 := by
  pointwise []

section
variable (z : FVec Ideal S4x4096x6152 .f32) (cw : FVec Ideal S1x4x2048 .f32) (cb : FVec Ideal S1x2048 .f32)
  (gb : FVec Ideal S1x8 .f32) (ng : FVec Ideal S1x2048 .f32) (t : Fin 32) (b h : Fin 4) (p : Fin 128)

theorem q_at (d : Fin 256) : A_main_v72 (F := Ideal) z cw cb gb (ix5 t b h p d)
    = silu ((argsR z cw cb gb ng).cv b (128 * t.val + p.val) (⟨256 * h.val + d.val, by omega⟩ : Fin 2048)) := by
  unfold A_main_v72 A_main_v71 A_main_v70
  refine (blk_key _ t b h p d).trans ?_
  unfold A_main_v41
  refine (heads_key _ b _ h d).trans ?_
  unfold A_main_v39
  refine (part_at0 _ b _ _).trans ?_
  exact silu_at z cw cb gb ng b (⟨128 * t.val + p.val, by omega⟩ : Fin 4096) (⟨256 * h.val + d.val, by omega⟩ : Fin 2048)

theorem k_at (d : Fin 256) : A_main_v75 (F := Ideal) z cw cb gb (ix5 t b h p d)
    = silu ((argsR z cw cb gb ng).cv b (128 * t.val + p.val) (⟨1024 + (256 * h.val + d.val), by omega⟩ : Fin 2048)) * Ideal.ofBits FTy.f32 1031798784#32 := by
  unfold A_main_v75 A_main_v74 A_main_v73
  refine (blk_key _ t b h p d).trans ?_
  unfold A_main_v44 K_main_v43 K_main_cst_2
  refine (scaled_at _ b _ h d).trans ?_
  refine congrArg (· * Ideal.ofBits FTy.f32 1031798784#32) ?_
  unfold A_main_v42
  refine (heads_key _ b _ h d).trans ?_
  unfold A_main_v40
  refine (part_at1 _ b _ _).trans ?_
  exact silu_at z cw cb gb ng b (⟨128 * t.val + p.val, by omega⟩ : Fin 4096) (⟨1024 + (256 * h.val + d.val), by omega⟩ : Fin 2048)

theorem v_at (e : Fin 512) : A_main_v78 (F := Ideal) z cw cb gb (ix5 t b h p e)
    = (argsR z cw cb gb ng).z b (pos t.val p) (⟨2048 + (512 * h.val + e.val), by omega⟩ : Fin 6152) := by
  unfold A_main_v78 A_main_v77 A_main_v76
  refine (blk_val _ t b h p e).trans ?_
  unfold A_main_v45
  refine (heads_val _ b _ h e).trans ?_
  unfold A_main_v1
  rw [pos_eq]
  exact part_at2 z b (pos t.val p) _

theorem l_at : A_main_v81 (F := Ideal) z cw cb gb (ix4 t b h p) = cap ((argsR z cw cb gb ng).gi b h (pos t.val p)) := by
  unfold A_main_v81 A_main_v80 A_main_v79
  refine (blk_gate _ t b h p).trans ?_
  rw [pos_eq]
  exact gi_at z cw cb gb ng b _ h

theorem f_at : A_main_v84 (F := Ideal) z cw cb gb (ix4 t b h p) = lfg ((argsR z cw cb gb ng).gf b h (pos t.val p)) := by
  unfold A_main_v84 A_main_v83 A_main_v82
  refine (blk_gate _ t b h p).trans ?_
  rw [pos_eq]
  exact gf_at z cw cb gb ng b _ h
end

theorem c0_at (b h : Fin 4) (e : Fin 512) (d : Fin 256) : K_main_v67 (F := Ideal) (ix4 b h e d) = (0 : EReal) := by
  unfold K_main_v67 K_main_cst_8
  pointwise []
theorem n0_at (b h : Fin 4) (d : Fin 256) : K_main_v68 (F := Ideal) (ix3 b h d) = (0 : EReal) := by
  unfold K_main_v68 K_main_cst_9
  pointwise []
theorem m0_at (b h : Fin 4) : K_main_v69 (F := Ideal) (ix2 b h) = (0 : EReal) := by
  unfold K_main_v69 K_main_cst_10
  pointwise []

theorem start : Holds (own m c) (ent m c) 0 where
  q t b h p d := (congrFun (ent0 m c) (ix5 t b h p d)).trans (q_at _ _ _ _ (b4 m c) t b h p d)
  k t b h p d := (congrFun (ent1 m c) (ix5 t b h p d)).trans (k_at _ _ _ _ (b4 m c) t b h p d)
  v t b h p e := (congrFun (ent2 m c) (ix5 t b h p e)).trans (v_at _ _ _ _ (b4 m c) t b h p e)
  l t b h p := (congrFun (ent3 m c) (ix4 t b h p)).trans (l_at _ _ _ _ (b4 m c) t b h p)
  f t b h p := (congrFun (ent4 m c) (ix4 t b h p)).trans (f_at _ _ _ _ (b4 m c) t b h p)
  mask p s x y := (congrArg (fun i => Scalar.select i x y) (congrFun (ent5 m c) (ix2 p s))).trans (mask_at p s x y)
  cnt := ctr_entry m c
  mat b h e d := (congrFun (ent7 m c) (ix4 b h e d)).trans (c0_at b h e d)
  vec b h d := (congrFun (ent8 m c) (ix3 b h d)).trans (n0_at b h d)
  m b h := (congrFun (ent9 m c) (ix2 b h)).trans (m0_at b h)
  out t b h p e ht := absurd ht (Nat.not_lt_zero _)

theorem last_rows (V : Mem) (hV : Holds (own m c) V 32) (b : Fin 4) (s : Fin 4096) (h : Fin 4) (e : Fin 512) :
    w10 V (ix5 (⟨s.val / 128, by omega⟩ : Fin 32) b h (⟨s.val % 128, by omega⟩ : Fin 128) e)
      = ((own m c).hd b h (s.val / 128) ((own m c).st b h (s.val / 128))).h (⟨s.val % 128, by omega⟩ : Fin 128) e :=
  hV.out (⟨s.val / 128, by omega⟩ : Fin 32) b h (⟨s.val % 128, by omega⟩ : Fin 128) e (by show s.val / 128 < 32; omega)

theorem tail_out (z : FVec Ideal S4x4096x6152 .f32) (cw : FVec Ideal S1x4x2048 .f32) (cb : FVec Ideal S1x2048 .f32) (gb : FVec Ideal S1x8 .f32)
    (ng : FVec Ideal S1x2048 .f32) (X : FVec Ideal S4x4096x4x512 .f32)
    (hX : ∀ (b : Fin 4) (s : Fin 4096) (h : Fin 4) (e : Fin 512), X (ix4 b s h e)
      = ((argsR z cw cb gb ng).hd b h (s.val / 128) ((argsR z cw cb gb ng).st b h (s.val / 128))).h (⟨s.val % 128, by omega⟩ : Fin 128) e)
    (r : Fin 16384) (j : Fin 2048) : tailOf z ng X (ix2 r j) = (argsR z cw cb gb ng).out r j := by
  refine (tail_at _ _ _ r j).trans ?_
  simp only [hX]
  have hr : r.val % 4096 % 128 = r.val % 128 := by omega
  have hp : pos (r.val % 4096 / 128) (⟨r.val % 128, by omega⟩ : Fin 128) = (⟨r.val % 4096, by omega⟩ : Fin 4096) := by
    apply Fin.ext
    show (128 * (r.val % 4096 / 128) + r.val % 128) % 4096 = r.val % 4096
    omega
  have hj : (⟨512 * (j.val / 512) + j.val % 512, by omega⟩ : Fin 2048) = j := Fin.ext (by show 512 * (j.val / 512) + j.val % 512 = j.val; omega)
  have hj' : (⟨4096 + (512 * (j.val / 512) + j.val % 512), by omega⟩ : Fin 6152) = ⟨4096 + j.val, by omega⟩ := Fin.ext (by show 4096 + (512 * (j.val / 512) + j.val % 512) = 4096 + j.val; omega)
  unfold Args.out Args.res Hd.out
  dsimp only
  rw [hp]
  simp only [hr, hj, hj']
  rfl

theorem result_eq (V : Mem) (hV : Holds (own m c) V 32) (h0 : V (Proc.devRef .tc main_arg0) = b0 m c) (h4 : V (Proc.devRef .tc main_arg4) = b4 m c) :
    out_main_v115 V = KernelIdeal.Own.res (b0 m c) (b1 m c) (b2 m c) (b3 m c) (b4 m c) := by
  have e : out_main_v115 V = tailOf (V (Proc.devRef .tc main_arg0)) (V (Proc.devRef .tc main_arg4))
      (shapeCast S4x4096x4x512 (transpose S4x32x128x4x512 [1, 0, 2, 3, 4] (transpose S32x4x128x4x512 [0, 1, 3, 2, 4] (w10 V) transposes_S32x4x4x128x512_S32x4x128x4x512_0_1_3_2_4) transposes_S32x4x128x4x512_S4x32x128x4x512_1_0_2_3_4) shapeCasts_S4x32x128x4x512_S4x4096x4x512) := rfl
  rw [e, h0, h4]
  funext i
  obtain ⟨r, j, rfl⟩ : ∃ (r : Fin 16384) (j : Fin 2048), i = ix2 r j := ⟨i 0, i 1, ValueIdx.eq_ix2 i⟩
  exact tail_out (b0 m c) (b1 m c) (b2 m c) (b3 m c) (b4 m c) _ (fun b s h e => (unblk (w10 V) b s h e).trans (last_rows m c V hV b s h e)) r j

theorem ends : out_main_v115 (STEP^[32] (entryContents preI m c)) = KernelIdeal.Own.res (b0 m c) (b1 m c) (b2 m c) (b3 m c) (b4 m c) :=
  result_eq m c (STEP^[32] (ent m c)) ((start m c).all 32 (le_refl _)) (iter_main_arg0 m c 32) (iter_main_arg4 m c 32)
end

/-- The reference runs, leaves its arguments and counts nothing: it has no semaphore. -/
theorem quiet : Cert.quiescent_ReferenceIdeal := fun m ρ _ =>
  (θ_run _ _ _).mono (fun _ h => ⟨fun c => (h c).2, funext fun g => nomatch g.2⟩) (Value.run (F := Ideal) m ρ)

/-- The kernel and the reference end with the same rows. -/
theorem agree : Cert.algebraic_KernelIdeal_ReferenceIdeal := fun m ρ m' ρ' _ hag =>
  ⟨fun c => KernelIdeal.Own.res (KernelIdeal.Own.a0 m c) (KernelIdeal.Own.a1 m c) (KernelIdeal.Own.a2 m c) (KernelIdeal.Own.a3 m c) (KernelIdeal.Own.a4 m c),
    KernelIdeal.Own.run m ρ,
    (θ_run _ _ _).mono (fun _ h c => by
      obtain ⟨a0, a1, a2, a3, a4⟩ := hag c
      refine ⟨(h c).1.trans ((ends m' c).trans ?_), (h c).2⟩
      unfold b0 b1 b2 b3 b4
      rw [a0, a1, a2, a3, a4]) (Value.run (F := Ideal) m' ρ')⟩

end Cert.ReferenceIdeal.Own

end
-- ==== Proof.FfnUpValue.lean ====
module

public import proofs.«01_k».proof.Defs
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pipeline.Value
public import Idealize.ShloMosaic.Lib.Pointwise
public import Idealize.ShloMosaic.Lib.VecWindow
public import Idealize.ShloMosaic.Lib.WholeRead

@[expose] public section

set_option maxRecDepth 16384

noncomputable section

namespace Cert.FfnUpIdeal.Own

open Cert.FfnUpIdeal Cert.FfnUpIdeal.Gen Idealize.ShloMosaic Idealize.ShloMosaic.TcCoe Idealize.SL.Sem
open Idealize.ShloMosaic.Pipeline (Dat)

variable (c : Dev nD) (i : grid0.Coords) (a2 : Memref sig .tc .vmem S1024x2048 .f32) (h2 : a2.IsWhole) (a3 : Memref sig .tc .vmem S16x2048 .f32) (h3 : a3.IsWhole) (a4 : Memref sig .tc .vmem S1x2048 .f32) (h4 : a4.IsWhole) (a5 : Memref sig .tc .vmem S1x1x1x1x2048 .f32) (h5 : a5.IsWhole) (a6 : Memref sig .tc .vmem S1x1x1x1x2048 .f32) (h6 : a6.IsWhole) (a7 : Memref sig .tc .vmem S1x2048x512 .f32) (h7 : a7.IsWhole) (a8 : Memref sig .tc .vmem S1x2048x512 .f32) (h8 : a8.IsWhole) (a9 : Memref sig .tc .vmem S1x3x512 .f32) (h9 : a9.IsWhole) (a10 : Memref sig .tc .vmem S1x1x512 .f32) (h10 : a10.IsWhole) (a11 : Memref sig .tc .vmem S1024x512 .bf16) (h11 : a11.IsWhole) (a12 : Memref sig .tc .vmem S1040x2048 .bf16) (h12 : a12.IsWhole) (a13 : Memref sig .tc .vmem S1040x512 .f32) (h13 : a13.IsWhole)
  (x0 : Vec Ideal S1024x2048 .f32) (x1 : Vec Ideal S16x2048 .f32) (x2 : Vec Ideal S1x2048 .f32) (x3 : Vec Ideal S1x1x1x1x2048 .f32) (x4 : Vec Ideal S1x1x1x1x2048 .f32) (x5 : Vec Ideal S1x2048x512 .f32) (x6 : Vec Ideal S1x2048x512 .f32) (x7 : Vec Ideal S1x3x512 .f32) (x8 : Vec Ideal S1x1x512 .f32)

/-- One normalised and modulated entry of a row: `x · rsqrt(mean x² + ε) · g · (1 + sc) + sh`. -/
def nrm (x g sc sh : Fin 2048 → EReal) (k : Fin 2048) : EReal :=
  x k * Ideal.rsqrt (Ideal.div (∑ j, x j * x j) (Ideal.ofBits FTy.f32 1157627904#32) + Ideal.ofBits FTy.f32 897988541#32)
    * g k * (1 + sc k) + sh k

/-- A block's row `r`, the sixteen rows before the block in front. -/
def raw (r : Fin 1040) (k : Fin 2048) : EReal :=
  if h : r.val < 16 then x1 (ix2 (⟨r.val, h⟩ : Fin 16) k) else x0 (ix2 (⟨r.val - 16, by omega⟩ : Fin 1024) k)

/-- The normalised rows of a block, the sixteen before it in front. -/
def rows : Vec Ideal S1040x2048 .bf16 := fun y =>
  nrm (raw x0 x1 (y 0)) (fun k => x2 (ix2 0 k)) (fun k => x4 (ix5 0 0 0 0 k)) (fun k => x3 (ix5 0 0 0 0 k)) (y 1)

/-- A load of a whole buffer reads what the buffer was given. -/
theorem load_whole {s : Shape} {e : EltTy} {a : Memref sig .tc .vmem s e} (h : a.IsWhole) (X : s.Idx → Elt Ideal e)
    {off : Fin s.rank → ℕ} (inb : ∀ a, off a + s.size a ≤ s.size a) :
    View.readAt (Elt Ideal) a.view (Rect.unit off s.size inb).toLoadRect (h.unread X) = X :=
  (View.readAt_full _ _ inb).trans (h.read_unread X)

/-- A load of sixteen rows reads them. -/
theorem load_rows (o : ℕ) (inb : ∀ a, (![o, 0] : Fin 2 → ℕ) a + S16x2048.size a ≤ S1024x2048.size a) (ho : o + 16 ≤ 1024)
    (r : Fin 16) (k : Fin 2048) :
    View.readAt (Elt Ideal) a2.view (Rect.unit (s := S1024x2048) ![o, 0] S16x2048.size inb).toLoadRect (h2.unread x0) (ix2 r k)
      = x0 (ix2 (⟨o + r.val, by omega⟩ : Fin 1024) k) := by
  rw [h2.readAt_unread]
  congr 1; funext a; apply Fin.ext
  match a with
  | ⟨0, _⟩ => show o + 1 * r.val = o + r.val; omega
  | ⟨1, _⟩ => show 0 + 1 * k.val = k.val; omega

/-- Sixteen rows of the block, normalised, are those rows of the normalised block. -/
theorem rowPiece (o o' : ℕ) (inb : ∀ a, (![o, 0] : Fin 2 → ℕ) a + S16x2048.size a ≤ S1024x2048.size a)
    (inb' : ∀ a, (![o', 0] : Fin 2 → ℕ) a + S16x2048.size a ≤ S1040x2048.size a) (ho' : o' = o + 16) (x : S16x2048.Idx) :
    k0_pay103 (kernelRun0_A.sl.r c a4 h4 x2) (kernelRun0_A.sl.r_1 c a5 h5 x3) (kernelRun0_A.sl.r_2 c a6 h6 x4)
      (View.readAt (Elt Ideal) a2.view (Rect.unit (s := S1024x2048) ![o, 0] S16x2048.size inb).toLoadRect (h2.unread x0)) x
      = rows x0 x1 x2 x3 x4 ((Rect.unit (s := S1040x2048) ![o', 0] S16x2048.size inb').emb x) := by
  obtain ⟨r, k, rfl⟩ : ∃ (r : Fin 16) (k : Fin 2048), x = ix2 r k := ⟨x 0, x 1, ValueIdx.eq_ix2 x⟩
  have ho : o + 16 ≤ 1024 := inb 0
  have he : (Rect.unit (s := S1040x2048) ![o', 0] S16x2048.size inb').emb (ix2 r k)
      = ix2 (⟨o' + r.val, by omega⟩ : Fin 1040) k := by
    funext a; apply Fin.ext
    match a with
    | ⟨0, _⟩ => show o' + 1 * r.val = o' + r.val; omega
    | ⟨1, _⟩ => show 0 + 1 * k.val = k.val; omega
  rw [he]
  unfold kernelRun0_A.sl.r kernelRun0_A.sl.r_1 kernelRun0_A.sl.r_2
  rw [load_whole (s := S1x2048) h4, load_whole (s := S1x1x1x1x2048) h5, load_whole (s := S1x1x1x1x2048) h6]
  have hv := load_rows a2 h2 x0 o inb ho
  generalize View.readAt (Elt Ideal) a2.view (Rect.unit (s := S1024x2048) ![o, 0] S16x2048.size inb).toLoadRect (h2.unread x0) = v at hv
  have hr : raw x0 x1 (⟨o' + r.val, by omega⟩ : Fin 1040) = fun k => v (ix2 r k) := by
    funext k'
    unfold raw
    rw [dif_neg (by simp only; omega), hv]
    congr 2
    exact Fin.ext (by simp only; omega)
  show _ = nrm (raw x0 x1 (⟨o' + r.val, _⟩ : Fin 1040)) _ _ _ k
  rw [hr]
  unfold nrm
  pointwise [k0_pay103, k0_pay3, k0_pay4, k0_pay5]

/-- The sixteen rows before the block, normalised. -/
theorem haloPiece (inb : ∀ a, (![0, 0] : Fin 2 → ℕ) a + S16x2048.size a ≤ S1040x2048.size a) (v : Vec Ideal S16x2048 .f32) (hv : v = x1)
    (g : Vec Ideal S1x2048 .f32) (hg : g = x2) (u : Vec Ideal S1x1x1x1x2048 .f32) (hu : u = x3) (w : Vec Ideal S1x1x1x1x2048 .f32) (hw : w = x4)
    (x : S16x2048.Idx) :
    k0_pay2 g u w v x = rows x0 x1 x2 x3 x4 ((Rect.unit (s := S1040x2048) ![0, 0] S16x2048.size inb).emb x) := by
  subst hv hg hu hw
  obtain ⟨r, k, rfl⟩ : ∃ (r : Fin 16) (k : Fin 2048), x = ix2 r k := ⟨x 0, x 1, ValueIdx.eq_ix2 x⟩
  have he : (Rect.unit (s := S1040x2048) ![0, 0] S16x2048.size inb).emb (ix2 r k) = ix2 (⟨r.val, by omega⟩ : Fin 1040) k := by
    funext a; apply Fin.ext
    match a with
    | ⟨0, _⟩ => show 0 + 1 * r.val = r.val; omega
    | ⟨1, _⟩ => show 0 + 1 * k.val = k.val; omega
  rw [he]
  have hr : raw x0 v (⟨r.val, by omega⟩ : Fin 1040) = fun k => v (ix2 r k) := by
    funext k'
    unfold raw
    rw [dif_pos r.isLt]
  show _ = nrm (raw x0 v (⟨r.val, _⟩ : Fin 1040)) _ _ _ k
  rw [hr]
  unfold nrm
  pointwise [k0_pay2]

set_option pp.maxSteps 300 in
set_option maxHeartbeats 1000000 in
theorem rowPieces : ∀ pc ∈ kernelRun0_A.sl.HS0_65 (F := Ideal) c a2 h2 a3 h3 a4 h4 a5 h5 a6 h6 x0 x1 x2 x3 x4, ∀ x : pc.1.shape.Idx,
    pc.2 x = rows x0 x1 x2 x3 x4 (pc.1.emb x) := by
  unfold kernelRun0_A.sl.HS0_65
  have P := rowPiece c a2 h2 a4 h4 a5 h5 a6 h6 x0 x1 x2 x3 x4
  refine List.forall_mem_cons.2 ⟨P 1008 1024 inb_S1024x2048_S16x2048_1008_0 inb_S1040x2048_S16x2048_1024_0 rfl, ?_⟩
  refine List.forall_mem_cons.2 ⟨P 992 1008 inb_S1024x2048_S16x2048_992_0 inb_S1040x2048_S16x2048_1008_0 rfl, ?_⟩
  refine List.forall_mem_cons.2 ⟨P 976 992 inb_S1024x2048_S16x2048_976_0 inb_S1040x2048_S16x2048_992_0 rfl, ?_⟩
  refine List.forall_mem_cons.2 ⟨P 960 976 inb_S1024x2048_S16x2048_960_0 inb_S1040x2048_S16x2048_976_0 rfl, ?_⟩
  refine List.forall_mem_cons.2 ⟨P 944 960 inb_S1024x2048_S16x2048_944_0 inb_S1040x2048_S16x2048_960_0 rfl, ?_⟩
  refine List.forall_mem_cons.2 ⟨P 928 944 inb_S1024x2048_S16x2048_928_0 inb_S1040x2048_S16x2048_944_0 rfl, ?_⟩
  refine List.forall_mem_cons.2 ⟨P 912 928 inb_S1024x2048_S16x2048_912_0 inb_S1040x2048_S16x2048_928_0 rfl, ?_⟩
  refine List.forall_mem_cons.2 ⟨P 896 912 inb_S1024x2048_S16x2048_896_0 inb_S1040x2048_S16x2048_912_0 rfl, ?_⟩
  refine List.forall_mem_cons.2 ⟨P 880 896 inb_S1024x2048_S16x2048_880_0 inb_S1040x2048_S16x2048_896_0 rfl, ?_⟩
  refine List.forall_mem_cons.2 ⟨P 864 880 inb_S1024x2048_S16x2048_864_0 inb_S1040x2048_S16x2048_880_0 rfl, ?_⟩
  refine List.forall_mem_cons.2 ⟨P 848 864 inb_S1024x2048_S16x2048_848_0 inb_S1040x2048_S16x2048_864_0 rfl, ?_⟩
  refine List.forall_mem_cons.2 ⟨P 832 848 inb_S1024x2048_S16x2048_832_0 inb_S1040x2048_S16x2048_848_0 rfl, ?_⟩
  refine List.forall_mem_cons.2 ⟨P 816 832 inb_S1024x2048_S16x2048_816_0 inb_S1040x2048_S16x2048_832_0 rfl, ?_⟩
  refine List.forall_mem_cons.2 ⟨P 800 816 inb_S1024x2048_S16x2048_800_0 inb_S1040x2048_S16x2048_816_0 rfl, ?_⟩
  refine List.forall_mem_cons.2 ⟨P 784 800 inb_S1024x2048_S16x2048_784_0 inb_S1040x2048_S16x2048_800_0 rfl, ?_⟩
  refine List.forall_mem_cons.2 ⟨P 768 784 inb_S1024x2048_S16x2048_768_0 inb_S1040x2048_S16x2048_784_0 rfl, ?_⟩
  refine List.forall_mem_cons.2 ⟨P 752 768 inb_S1024x2048_S16x2048_752_0 inb_S1040x2048_S16x2048_768_0 rfl, ?_⟩
  refine List.forall_mem_cons.2 ⟨P 736 752 inb_S1024x2048_S16x2048_736_0 inb_S1040x2048_S16x2048_752_0 rfl, ?_⟩
  refine List.forall_mem_cons.2 ⟨P 720 736 inb_S1024x2048_S16x2048_720_0 inb_S1040x2048_S16x2048_736_0 rfl, ?_⟩
  refine List.forall_mem_cons.2 ⟨P 704 720 inb_S1024x2048_S16x2048_704_0 inb_S1040x2048_S16x2048_720_0 rfl, ?_⟩
  refine List.forall_mem_cons.2 ⟨P 688 704 inb_S1024x2048_S16x2048_688_0 inb_S1040x2048_S16x2048_704_0 rfl, ?_⟩
  refine List.forall_mem_cons.2 ⟨P 672 688 inb_S1024x2048_S16x2048_672_0 inb_S1040x2048_S16x2048_688_0 rfl, ?_⟩
  refine List.forall_mem_cons.2 ⟨P 656 672 inb_S1024x2048_S16x2048_656_0 inb_S1040x2048_S16x2048_672_0 rfl, ?_⟩
  refine List.forall_mem_cons.2 ⟨P 640 656 inb_S1024x2048_S16x2048_640_0 inb_S1040x2048_S16x2048_656_0 rfl, ?_⟩
  refine List.forall_mem_cons.2 ⟨P 624 640 inb_S1024x2048_S16x2048_624_0 inb_S1040x2048_S16x2048_640_0 rfl, ?_⟩
  refine List.forall_mem_cons.2 ⟨P 608 624 inb_S1024x2048_S16x2048_608_0 inb_S1040x2048_S16x2048_624_0 rfl, ?_⟩
  refine List.forall_mem_cons.2 ⟨P 592 608 inb_S1024x2048_S16x2048_592_0 inb_S1040x2048_S16x2048_608_0 rfl, ?_⟩
  refine List.forall_mem_cons.2 ⟨P 576 592 inb_S1024x2048_S16x2048_576_0 inb_S1040x2048_S16x2048_592_0 rfl, ?_⟩
  refine List.forall_mem_cons.2 ⟨P 560 576 inb_S1024x2048_S16x2048_560_0 inb_S1040x2048_S16x2048_576_0 rfl, ?_⟩
  refine List.forall_mem_cons.2 ⟨P 544 560 inb_S1024x2048_S16x2048_544_0 inb_S1040x2048_S16x2048_560_0 rfl, ?_⟩
  refine List.forall_mem_cons.2 ⟨P 528 544 inb_S1024x2048_S16x2048_528_0 inb_S1040x2048_S16x2048_544_0 rfl, ?_⟩
  refine List.forall_mem_cons.2 ⟨P 512 528 inb_S1024x2048_S16x2048_512_0 inb_S1040x2048_S16x2048_528_0 rfl, ?_⟩
  refine List.forall_mem_cons.2 ⟨P 496 512 inb_S1024x2048_S16x2048_496_0 inb_S1040x2048_S16x2048_512_0 rfl, ?_⟩
  refine List.forall_mem_cons.2 ⟨P 480 496 inb_S1024x2048_S16x2048_480_0 inb_S1040x2048_S16x2048_496_0 rfl, ?_⟩
  refine List.forall_mem_cons.2 ⟨P 464 480 inb_S1024x2048_S16x2048_464_0 inb_S1040x2048_S16x2048_480_0 rfl, ?_⟩
  refine List.forall_mem_cons.2 ⟨P 448 464 inb_S1024x2048_S16x2048_448_0 inb_S1040x2048_S16x2048_464_0 rfl, ?_⟩
  refine List.forall_mem_cons.2 ⟨P 432 448 inb_S1024x2048_S16x2048_432_0 inb_S1040x2048_S16x2048_448_0 rfl, ?_⟩
  refine List.forall_mem_cons.2 ⟨P 416 432 inb_S1024x2048_S16x2048_416_0 inb_S1040x2048_S16x2048_432_0 rfl, ?_⟩
  refine List.forall_mem_cons.2 ⟨P 400 416 inb_S1024x2048_S16x2048_400_0 inb_S1040x2048_S16x2048_416_0 rfl, ?_⟩
  refine List.forall_mem_cons.2 ⟨P 384 400 inb_S1024x2048_S16x2048_384_0 inb_S1040x2048_S16x2048_400_0 rfl, ?_⟩
  refine List.forall_mem_cons.2 ⟨P 368 384 inb_S1024x2048_S16x2048_368_0 inb_S1040x2048_S16x2048_384_0 rfl, ?_⟩
  refine List.forall_mem_cons.2 ⟨P 352 368 inb_S1024x2048_S16x2048_352_0 inb_S1040x2048_S16x2048_368_0 rfl, ?_⟩
  refine List.forall_mem_cons.2 ⟨P 336 352 inb_S1024x2048_S16x2048_336_0 inb_S1040x2048_S16x2048_352_0 rfl, ?_⟩
  refine List.forall_mem_cons.2 ⟨P 320 336 inb_S1024x2048_S16x2048_320_0 inb_S1040x2048_S16x2048_336_0 rfl, ?_⟩
  refine List.forall_mem_cons.2 ⟨P 304 320 inb_S1024x2048_S16x2048_304_0 inb_S1040x2048_S16x2048_320_0 rfl, ?_⟩
  refine List.forall_mem_cons.2 ⟨P 288 304 inb_S1024x2048_S16x2048_288_0 inb_S1040x2048_S16x2048_304_0 rfl, ?_⟩
  refine List.forall_mem_cons.2 ⟨P 272 288 inb_S1024x2048_S16x2048_272_0 inb_S1040x2048_S16x2048_288_0 rfl, ?_⟩
  refine List.forall_mem_cons.2 ⟨P 256 272 inb_S1024x2048_S16x2048_256_0 inb_S1040x2048_S16x2048_272_0 rfl, ?_⟩
  refine List.forall_mem_cons.2 ⟨P 240 256 inb_S1024x2048_S16x2048_240_0 inb_S1040x2048_S16x2048_256_0 rfl, ?_⟩
  refine List.forall_mem_cons.2 ⟨P 224 240 inb_S1024x2048_S16x2048_224_0 inb_S1040x2048_S16x2048_240_0 rfl, ?_⟩
  refine List.forall_mem_cons.2 ⟨P 208 224 inb_S1024x2048_S16x2048_208_0 inb_S1040x2048_S16x2048_224_0 rfl, ?_⟩
  refine List.forall_mem_cons.2 ⟨P 192 208 inb_S1024x2048_S16x2048_192_0 inb_S1040x2048_S16x2048_208_0 rfl, ?_⟩
  refine List.forall_mem_cons.2 ⟨P 176 192 inb_S1024x2048_S16x2048_176_0 inb_S1040x2048_S16x2048_192_0 rfl, ?_⟩
  refine List.forall_mem_cons.2 ⟨P 160 176 inb_S1024x2048_S16x2048_160_0 inb_S1040x2048_S16x2048_176_0 rfl, ?_⟩
  refine List.forall_mem_cons.2 ⟨P 144 160 inb_S1024x2048_S16x2048_144_0 inb_S1040x2048_S16x2048_160_0 rfl, ?_⟩
  refine List.forall_mem_cons.2 ⟨P 128 144 inb_S1024x2048_S16x2048_128_0 inb_S1040x2048_S16x2048_144_0 rfl, ?_⟩
  refine List.forall_mem_cons.2 ⟨P 112 128 inb_S1024x2048_S16x2048_112_0 inb_S1040x2048_S16x2048_128_0 rfl, ?_⟩
  refine List.forall_mem_cons.2 ⟨P 96 112 inb_S1024x2048_S16x2048_96_0 inb_S1040x2048_S16x2048_112_0 rfl, ?_⟩
  refine List.forall_mem_cons.2 ⟨P 80 96 inb_S1024x2048_S16x2048_80_0 inb_S1040x2048_S16x2048_96_0 rfl, ?_⟩
  refine List.forall_mem_cons.2 ⟨P 64 80 inb_S1024x2048_S16x2048_64_0 inb_S1040x2048_S16x2048_80_0 rfl, ?_⟩
  refine List.forall_mem_cons.2 ⟨P 48 64 inb_S1024x2048_S16x2048_48_0 inb_S1040x2048_S16x2048_64_0 rfl, ?_⟩
  refine List.forall_mem_cons.2 ⟨P 32 48 inb_S1024x2048_S16x2048_32_0 inb_S1040x2048_S16x2048_48_0 rfl, ?_⟩
  refine List.forall_mem_cons.2 ⟨P 16 32 inb_S1024x2048_S16x2048_16_0 inb_S1040x2048_S16x2048_32_0 rfl, ?_⟩
  refine List.forall_mem_cons.2 ⟨P 0 16 inb_S1024x2048_S16x2048_0_0 inb_S1040x2048_S16x2048_16_0 rfl, ?_⟩
  refine List.forall_mem_cons.2 ⟨?_, fun _ h => absurd h List.not_mem_nil⟩
  exact haloPiece x0 x1 x2 x3 x4 inb_S1040x2048_S16x2048_0_0 _ (load_whole (s := S16x2048) h3 x1 _) _ (load_whole (s := S1x2048) h4 x2 _)
    _ (load_whole (s := S1x1x1x1x2048) h5 x3 _) _ (load_whole (s := S1x1x1x1x2048) h6 x4 _)

theorem cover_rows (y : S1040x2048.Idx) : ∃ pc ∈ kernelRun0_A.sl.HS0_65 (F := Ideal) c a2 h2 a3 h3 a4 h4 a5 h5 a6 h6 x0 x1 x2 x3 x4, y ∈ pc.1.set :=
  View.cover_of_tiledL (s := S1040x2048) (kernelRun0_A.sl.HS0_65 (F := Ideal) c a2 h2 a3 h3 a4 h4 a5 h5 a6 h6 x0 x1 x2 x3 x4) S16x2048.size (by sl_kernel_rfl) y

theorem sout_A (hc : cond0_0 i) : sout0_A_0 (F := Ideal) c i a2 h2 a3 h3 a4 h4 a5 h5 a6 h6 a7 h7 a8 h8 a9 h9 a10 h10 a11 h11 a12 h12 a13 h13 hc x0 x1 x2 x3 x4 x5 x6 x7 x8 = rows x0 x1 x2 x3 x4 := by
  funext y
  exact View.read_writes_apply_of_pieces _ _ _ _ (rowPieces c a2 h2 a3 h3 a4 h4 a5 h5 a6 h6 x0 x1 x2 x3 x4) y
    (cover_rows c a2 h2 a3 h3 a4 h4 a5 h5 a6 h6 x0 x1 x2 x3 x4 y)

theorem v14_A : kernelRun0_A.sl.v14 (F := Ideal) c a2 h2 a3 h3 a4 h4 a5 h5 a6 h6 a12 x0 x1 x2 x3 x4 = rows x0 x1 x2 x3 x4 := by
  unfold kernelRun0_A.sl.v14
  refine (View.readAt_full (s := S1040x2048) _ _ _).trans ?_
  funext y
  exact View.read_writes_apply_of_pieces _ _ _ _ (rowPieces c a2 h2 a3 h3 a4 h4 a5 h5 a6 h6 x0 x1 x2 x3 x4) y
    (cover_rows c a2 h2 a3 h3 a4 h4 a5 h5 a6 h6 x0 x1 x2 x3 x4 y)

/-- The rows after the first sixteen. -/
def main (hh : Vec Ideal S1040x2048 .bf16) : Vec Ideal S1024x2048 .bf16 := fun y =>
  hh (ix2 (⟨16 + (y 0).val, by have : (y 0).val < 1024 := (y 0).isLt; omega⟩ : Fin 1040) (y 1))

theorem emb_main (inb : ∀ a, (![16, 0] : Fin 2 → ℕ) a + S1024x2048.size a ≤ S1040x2048.size a) (y : S1024x2048.Idx) :
    (Rect.unit (s := S1040x2048) ![16, 0] S1024x2048.size inb).emb y
      = ix2 (⟨16 + (y 0).val, by have : (y 0).val < 1024 := (y 0).isLt; omega⟩ : Fin 1040) (y 1) := by
  funext a; apply Fin.ext
  match a with
  | ⟨0, _⟩ => show 16 + 1 * (y 0).val = 16 + (y 0).val; omega
  | ⟨1, _⟩ => show 0 + 1 * (y 1).val = (y 1).val; omega

theorem v28_A : kernelRun0_A.sl.v28 (F := Ideal) c a2 h2 a3 h3 a4 h4 a5 h5 a6 h6 a12 x0 x1 x2 x3 x4 = main (rows x0 x1 x2 x3 x4) := by
  unfold kernelRun0_A.sl.v28
  funext y
  refine (View.read_writes_apply_of_pieces _ _ _ _ (rowPieces c a2 h2 a3 h3 a4 h4 a5 h5 a6 h6 x0 x1 x2 x3 x4) _
    (cover_rows c a2 h2 a3 h3 a4 h4 a5 h5 a6 h6 x0 x1 x2 x3 x4 _)).trans ?_
  exact congrArg _ (emb_main _ y)

theorem r_B (xs : Vec Ideal S1040x2048 .bf16) : kernelRun0_B.sl.r (F := Ideal) c a12 h12 xs = main xs := by
  unfold kernelRun0_B.sl.r
  funext y
  rw [h12.readAt_unread]
  exact congrArg _ (emb_main _ y)

/-- The gate's products: zero in the rows before the first block of a sequence. -/
def ext (hh : Vec Ideal S1040x2048 .bf16) (r : Fin 1040) (q : Fin 512) : EReal :=
  if (i 0).val % 4 = 0 ∧ r.val < 16 then 0 else ∑ k : Fin 2048, hh (ix2 r k) * x5 (ix3 (0 : Fin 1) k q)

theorem pay106_apply (hh : Vec Ideal S1040x2048 .bf16) (r : Fin 1040) (q : Fin 512) :
    k0_pay106 hh x5 (ix2 r q) = ∑ k : Fin 2048, hh (ix2 r k) * x5 (ix3 (0 : Fin 1) k q) := by
  pointwise [k0_pay106]

theorem pay107_eq (w : Vec Ideal S16x512 .f32) : k0_pay107 i w = if (i 0).val % 4 = 0 then (fun _ => (0 : EReal)) else w := by
  have hd : ∀ n : Fin 16, (Scalar.cmpi .eq (Scalar.select (Scalar.andi (Scalar.xori (Scalar.cmpi .slt (Scalar.remsi (BitVec.ofNat 32 n.val) 4#32) 0#32) (Scalar.cmpi .slt 4#32 0#32)) (Scalar.cmpi .ne (Scalar.remsi (BitVec.ofNat 32 n.val) 4#32) 0#32)) (Scalar.addi (Scalar.remsi (BitVec.ofNat 32 n.val) 4#32) 4#32) (Scalar.remsi (BitVec.ofNat 32 n.val) 4#32)) 0#32 : BitVec 1)
      = if n.val % 4 = 0 then 1#1 else 0#1 := by decide
  have hi := hd (i 0)
  have e : k0_pay107 i w = Scalar.select (if (i 0).val % 4 = 0 then 1#1 else 0#1) (fun _ => (0 : EReal)) w := by
    rw [← hi]
    funext y
    obtain ⟨r, q, rfl⟩ : ∃ (r : Fin 16) (q : Fin 512), y = ix2 r q := ⟨y 0, y 1, ValueIdx.eq_ix2 y⟩
    pointwise [k0_pay107]
    rfl
  rw [e]
  by_cases h : (i 0).val % 4 = 0
  · rw [if_pos h, if_pos h]; rfl
  · rw [if_neg h, if_neg h]; rfl

/-- What the gate's buffer holds, read at a window of its rows. -/
theorem load_ext (hh : Vec Ideal S1040x2048 .bf16) (w : Vec Ideal S16x512 .f32)
    (hw : ∀ (r : Fin 16) (q : Fin 512), w (ix2 r q) = ∑ k : Fin 2048, hh (ix2 (⟨r.val, by omega⟩ : Fin 1040) k) * x5 (ix3 (0 : Fin 1) k q))
    (o : ℕ) (inb : ∀ a, (![o, 0] : Fin 2 → ℕ) a + S256x512.size a ≤ S1040x512.size a) (ho : o + 256 ≤ 1040) (r : Fin 256) (q : Fin 512) :
    a13.view.readCov (Val := Elt Ideal) [⟨Rect.unit (s := S1040x512) ![0, 0] S16x512.size inb_S1040x512_S16x512_0_0, k0_pay107 i w⟩,
        ⟨Rect.unit (s := S1040x512) ![0, 0] S1040x512.size inb_S1040x512_S1040x512_0_0, k0_pay106 hh x5⟩]
      (Rect.unit (s := S1040x512) ![o, 0] S256x512.size inb).toLoadRect (ix2 r q) = ext i x5 hh (⟨o + r.val, by omega⟩ : Fin 1040) q := by
  have he : (Rect.unit (s := S1040x512) ![o, 0] S256x512.size inb).emb (ix2 r q) = ix2 (⟨o + r.val, by omega⟩ : Fin 1040) q := by
    funext a; apply Fin.ext
    match a with
    | ⟨0, _⟩ => show o + 1 * r.val = o + r.val; omega
    | ⟨1, _⟩ => show 0 + 1 * q.val = q.val; omega
  show View.read (Elt Ideal) a13.view (a13.view.writes (Elt Ideal) _ _) ((Rect.unit (s := S1040x512) ![o, 0] S256x512.size inb).emb (ix2 r q)) = _
  rw [he]
  unfold ext
  by_cases h : o + r.val < 16
  · have h0 : (Rect.unit (s := S1040x512) ![0, 0] S16x512.size inb_S1040x512_S16x512_0_0).emb (ix2 (⟨o + r.val, h⟩ : Fin 16) q)
        = ix2 (⟨o + r.val, by omega⟩ : Fin 1040) q := by
      funext a; apply Fin.ext
      match a with
      | ⟨0, _⟩ => show 0 + 1 * (o + r.val) = o + r.val; omega
      | ⟨1, _⟩ => show 0 + 1 * q.val = q.val; omega
    refine (View.read_writes_cons_hit _ _ _ _ _ _ _ h0).trans ?_
    rw [pay107_eq]
    by_cases hf : (i 0).val % 4 = 0
    · rw [if_pos hf, if_pos ⟨hf, h⟩]
    · rw [if_neg hf, if_neg (fun x => hf x.1), hw]
  · refine (View.read_writes_cons_miss_of_axis _ _ _ _ _ (0 : Fin 2) 0 16 rfl rfl rfl (.inr ?_)).trans ?_
    · show 16 ≤ o + r.val; omega
    · have h0 : (Rect.unit (s := S1040x512) ![0, 0] S1040x512.size inb_S1040x512_S1040x512_0_0).emb (ix2 (⟨o + r.val, by omega⟩ : Fin 1040) q)
          = ix2 (⟨o + r.val, by omega⟩ : Fin 1040) q := by
        funext a; apply Fin.ext
        match a with
        | ⟨0, _⟩ => show 0 + 1 * (o + r.val) = o + r.val; omega
        | ⟨1, _⟩ => show 0 + 1 * q.val = q.val; omega
      refine (View.read_writes_cons_hit _ _ _ _ _ _ _ h0).trans ?_
      rw [pay106_apply, if_neg (fun x => h x.2)]

theorem load_halo (hh : Vec Ideal S1040x2048 .bf16) (r : Fin 16) (q : Fin 512) :
    a13.view.readCov (Val := Elt Ideal) [⟨Rect.unit (s := S1040x512) ![0, 0] S1040x512.size inb_S1040x512_S1040x512_0_0, k0_pay106 hh x5⟩]
      (Rect.unit (s := S1040x512) ![0, 0] S16x512.size inb_S1040x512_S16x512_0_0).toLoadRect (ix2 r q)
      = ∑ k : Fin 2048, hh (ix2 (⟨r.val, by omega⟩ : Fin 1040) k) * x5 (ix3 (0 : Fin 1) k q) := by
  have he : (Rect.unit (s := S1040x512) ![0, 0] S16x512.size inb_S1040x512_S16x512_0_0).emb (ix2 r q) = ix2 (⟨r.val, by omega⟩ : Fin 1040) q := by
    funext a; apply Fin.ext
    match a with
    | ⟨0, _⟩ => show 0 + 1 * r.val = r.val; omega
    | ⟨1, _⟩ => show 0 + 1 * q.val = q.val; omega
  have h0 : (Rect.unit (s := S1040x512) ![0, 0] S1040x512.size inb_S1040x512_S1040x512_0_0).emb (ix2 (⟨r.val, by omega⟩ : Fin 1040) q)
      = ix2 (⟨r.val, by omega⟩ : Fin 1040) q := by
    funext a; apply Fin.ext
    match a with
    | ⟨0, _⟩ => show 0 + 1 * r.val = r.val; omega
    | ⟨1, _⟩ => show 0 + 1 * q.val = q.val; omega
  show View.read (Elt Ideal) a13.view (a13.view.writes (Elt Ideal) _ _)
    ((Rect.unit (s := S1040x512) ![0, 0] S16x512.size inb_S1040x512_S16x512_0_0).emb (ix2 r q)) = _
  rw [he]
  refine (View.read_writes_cons_hit _ _ _ _ _ _ _ h0).trans ?_
  rw [pay106_apply]

/-- A row of the convolution's weights. -/
theorem load_cw (o : ℕ) (inb : ∀ a, (![0, o, 0] : Fin 3 → ℕ) a + S1x1x512.size a ≤ S1x3x512.size a) (ho : o < 3) (q : Fin 512) :
    View.readAt (Elt Ideal) a9.view (Rect.unit (s := S1x3x512) ![0, o, 0] S1x1x512.size inb).toLoadRect (h9.unread x7)
      (ix3 (0 : Fin 1) (0 : Fin 1) q) = x7 (ix3 (0 : Fin 1) (⟨o, ho⟩ : Fin 3) q) := by
  rw [h9.readAt_unread]
  congr 1; funext a; apply Fin.ext
  match a with
  | ⟨0, _⟩ => rfl
  | ⟨1, _⟩ => show o + 1 * 0 = o; omega
  | ⟨2, _⟩ => show 0 + 1 * q.val = q.val; omega

/-- One output entry: the gate's convolution through `z · σ(z)`, times the value's product. -/
def act (c0 c1 c2 b e0 e1 e2 v : EReal) : EReal :=
  (c0 * e0 + c1 * e1 + c2 * e2 + b) * Ideal.logistic (c0 * e0 + c1 * e1 + c2 * e2 + b) * v

section Chunk
variable (vv : Vec Ideal S1024x2048 .bf16) (wv : Vec Ideal S1x2048x512 .f32) (c0 c1 c2 b : Vec Ideal S1x1x512 .f32)
  (e0 e1 e2 : Vec Ideal S256x512 .f32) (r : Fin 256) (q : Fin 512)

theorem chunk0 : k0_pay109 vv wv c0 e0 c1 e1 c2 e2 b (ix2 r q)
    = act (c0 (ix3 0 0 q)) (c1 (ix3 0 0 q)) (c2 (ix3 0 0 q)) (b (ix3 0 0 q)) (e0 (ix2 r q)) (e1 (ix2 r q)) (e2 (ix2 r q))
      (∑ k : Fin 2048, vv (ix2 (⟨0 + r.val, by omega⟩ : Fin 1024) k) * wv (ix3 (0 : Fin 1) k q)) := by
  unfold act; pointwise [k0_pay109, k0_pay108]
theorem chunk1 : k0_pay111 (k0_pay108 vv wv) (k0_pay110 c0) e0 c1 e1 c2 e2 b (ix2 r q)
    = act (c0 (ix3 0 0 q)) (c1 (ix3 0 0 q)) (c2 (ix3 0 0 q)) (b (ix3 0 0 q)) (e0 (ix2 r q)) (e1 (ix2 r q)) (e2 (ix2 r q))
      (∑ k : Fin 2048, vv (ix2 (⟨256 + r.val, by omega⟩ : Fin 1024) k) * wv (ix3 (0 : Fin 1) k q)) := by
  unfold act; pointwise [k0_pay111, k0_pay110, k0_pay108]
theorem chunk2 : k0_pay114 (k0_pay108 vv wv) (k0_pay112 c0 e0) (k0_pay113 c1) e1 c2 e2 b (ix2 r q)
    = act (c0 (ix3 0 0 q)) (c1 (ix3 0 0 q)) (c2 (ix3 0 0 q)) (b (ix3 0 0 q)) (e0 (ix2 r q)) (e1 (ix2 r q)) (e2 (ix2 r q))
      (∑ k : Fin 2048, vv (ix2 (⟨512 + r.val, by omega⟩ : Fin 1024) k) * wv (ix3 (0 : Fin 1) k q)) := by
  unfold act; pointwise [k0_pay114, k0_pay112, k0_pay113, k0_pay108]
theorem chunk3 : k0_pay1 (k0_pay108 vv wv) (k0_pay115 c0 e0 c1 e1) e2 (k0_pay116 c2) b (ix2 r q)
    = act (c0 (ix3 0 0 q)) (c1 (ix3 0 0 q)) (c2 (ix3 0 0 q)) (b (ix3 0 0 q)) (e0 (ix2 r q)) (e1 (ix2 r q)) (e2 (ix2 r q))
      (∑ k : Fin 2048, vv (ix2 (⟨768 + r.val, by omega⟩ : Fin 1024) k) * wv (ix3 (0 : Fin 1) k q)) := by
  unfold act; pointwise [k0_pay1, k0_pay115, k0_pay116, k0_pay108]
end Chunk

/-- A block of the result, from its rows. -/
def blockOut (hh : Vec Ideal S1040x2048 .bf16) : Vec Ideal S1024x512 .bf16 := fun y =>
  have hy : (y 0).val < 1024 := (y 0).isLt
  act (x7 (ix3 (0 : Fin 1) (0 : Fin 3) (y 1))) (x7 (ix3 (0 : Fin 1) (1 : Fin 3) (y 1))) (x7 (ix3 (0 : Fin 1) (2 : Fin 3) (y 1))) (x8 (ix3 (0 : Fin 1) (0 : Fin 1) (y 1)))
    (ext i x5 hh (⟨14 + (y 0).val, by omega⟩ : Fin 1040) (y 1)) (ext i x5 hh (⟨15 + (y 0).val, by omega⟩ : Fin 1040) (y 1))
    (ext i x5 hh (⟨16 + (y 0).val, by omega⟩ : Fin 1040) (y 1))
    (∑ k : Fin 2048, hh (ix2 (⟨16 + (y 0).val, by omega⟩ : Fin 1040) k) * x6 (ix3 (0 : Fin 1) k (y 1)))

/-- Two hundred and fifty-six rows of the result are those rows of the block. -/
theorem outPiece (hh : Vec Ideal S1040x2048 .bf16) (c0 c1 c2 b : Vec Ideal S1x1x512 .f32) (e0 e1 e2 : Vec Ideal S256x512 .f32) (o : ℕ) (ho : o + 256 ≤ 1024)
    (h0 : ∀ q : Fin 512, c0 (ix3 (0 : Fin 1) (0 : Fin 1) q) = x7 (ix3 (0 : Fin 1) (0 : Fin 3) q))
    (h1 : ∀ q : Fin 512, c1 (ix3 (0 : Fin 1) (0 : Fin 1) q) = x7 (ix3 (0 : Fin 1) (1 : Fin 3) q))
    (h2 : ∀ q : Fin 512, c2 (ix3 (0 : Fin 1) (0 : Fin 1) q) = x7 (ix3 (0 : Fin 1) (2 : Fin 3) q))
    (hb : b = x8)
    (g0 : ∀ (r : Fin 256) (q : Fin 512), e0 (ix2 r q) = ext i x5 hh (⟨(o + 14) + r.val, by omega⟩ : Fin 1040) q)
    (g1 : ∀ (r : Fin 256) (q : Fin 512), e1 (ix2 r q) = ext i x5 hh (⟨(o + 15) + r.val, by omega⟩ : Fin 1040) q)
    (g2 : ∀ (r : Fin 256) (q : Fin 512), e2 (ix2 r q) = ext i x5 hh (⟨(o + 16) + r.val, by omega⟩ : Fin 1040) q)
    (P : Vec Ideal S256x512 .bf16)
    (hP : ∀ (r : Fin 256) (q : Fin 512), P (ix2 r q) = act (c0 (ix3 0 0 q)) (c1 (ix3 0 0 q)) (c2 (ix3 0 0 q)) (b (ix3 0 0 q)) (e0 (ix2 r q)) (e1 (ix2 r q)) (e2 (ix2 r q))
      (∑ k : Fin 2048, main hh (ix2 (⟨o + r.val, by omega⟩ : Fin 1024) k) * x6 (ix3 (0 : Fin 1) k q)))
    (inb : ∀ a, (![o, 0] : Fin 2 → ℕ) a + S256x512.size a ≤ S1024x512.size a) (x : S256x512.Idx) :
    P x = blockOut i x5 x6 x7 x8 hh ((Rect.unit (s := S1024x512) ![o, 0] S256x512.size inb).emb x) := by
  subst hb
  obtain ⟨r, q, rfl⟩ : ∃ (r : Fin 256) (q : Fin 512), x = ix2 r q := ⟨x 0, x 1, ValueIdx.eq_ix2 x⟩
  have he : (Rect.unit (s := S1024x512) ![o, 0] S256x512.size inb).emb (ix2 r q) = ix2 (⟨o + r.val, by omega⟩ : Fin 1024) q := by
    funext a; apply Fin.ext
    match a with
    | ⟨0, _⟩ => show o + 1 * r.val = o + r.val; omega
    | ⟨1, _⟩ => show 0 + 1 * q.val = q.val; omega
  rw [he, hP, h0, h1, h2, g0, g1, g2]
  have t0 : (⟨(o + 14) + r.val, by omega⟩ : Fin 1040) = ⟨14 + (o + r.val), by omega⟩ := Fin.ext (by simp only; omega)
  have t1 : (⟨(o + 15) + r.val, by omega⟩ : Fin 1040) = ⟨15 + (o + r.val), by omega⟩ := Fin.ext (by simp only; omega)
  have t2 : (⟨(o + 16) + r.val, by omega⟩ : Fin 1040) = ⟨16 + (o + r.val), by omega⟩ := Fin.ext (by simp only; omega)
  rw [t0, t1, t2]
  rfl

theorem list_A : kernelRun0_A.sl.HS1_2 (F := Ideal) c i a2 h2 a3 h3 a4 h4 a5 h5 a6 h6 a7 h7 a12 a13 x0 x1 x2 x3 x4 x5 = [⟨Rect.unit (s := S1040x512) ![0, 0] S16x512.size inb_S1040x512_S16x512_0_0,
      k0_pay107 i (kernelRun0_A.sl.v22 c a2 h2 a3 h3 a4 h4 a5 h5 a6 h6 a7 h7 a12 a13 x0 x1 x2 x3 x4 x5)⟩,
    ⟨Rect.unit (s := S1040x512) ![0, 0] S1040x512.size inb_S1040x512_S1040x512_0_0, k0_pay106 (rows x0 x1 x2 x3 x4) x5⟩] := by
  unfold kernelRun0_A.sl.HS1_2 kernelRun0_A.sl.HS1_1
  rw [v14_A, load_whole (s := S1x2048x512) h7]

theorem v22_A (r : Fin 16) (q : Fin 512) : kernelRun0_A.sl.v22 (F := Ideal) c a2 h2 a3 h3 a4 h4 a5 h5 a6 h6 a7 h7 a12 a13 x0 x1 x2 x3 x4 x5 (ix2 r q)
    = ∑ k : Fin 2048, rows x0 x1 x2 x3 x4 (ix2 (⟨r.val, by omega⟩ : Fin 1040) k) * x5 (ix3 (0 : Fin 1) k q) := by
  unfold kernelRun0_A.sl.v22 kernelRun0_A.sl.HS1_1
  rw [v14_A, load_whole (s := S1x2048x512) h7]
  exact load_halo a13 x5 _ r q

theorem v35_A (r : Fin 256) (q : Fin 512) : kernelRun0_A.sl.v35 (F := Ideal) c i a2 h2 a3 h3 a4 h4 a5 h5 a6 h6 a7 h7 a12 a13 x0 x1 x2 x3 x4 x5 (ix2 r q)
    = ext i x5 (rows x0 x1 x2 x3 x4) (⟨14 + r.val, by omega⟩ : Fin 1040) q := by
  unfold kernelRun0_A.sl.v35
  rw [list_A]
  exact load_ext i a13 x5 _ _ (v22_A c a2 h2 a3 h3 a4 h4 a5 h5 a6 h6 a7 h7 a12 a13 x0 x1 x2 x3 x4 x5) 14 _ (by omega) r q

theorem v40_A (r : Fin 256) (q : Fin 512) : kernelRun0_A.sl.v40 (F := Ideal) c i a2 h2 a3 h3 a4 h4 a5 h5 a6 h6 a7 h7 a12 a13 x0 x1 x2 x3 x4 x5 (ix2 r q)
    = ext i x5 (rows x0 x1 x2 x3 x4) (⟨15 + r.val, by omega⟩ : Fin 1040) q := by
  unfold kernelRun0_A.sl.v40
  rw [list_A]
  exact load_ext i a13 x5 _ _ (v22_A c a2 h2 a3 h3 a4 h4 a5 h5 a6 h6 a7 h7 a12 a13 x0 x1 x2 x3 x4 x5) 15 _ (by omega) r q

theorem v46_A (r : Fin 256) (q : Fin 512) : kernelRun0_A.sl.v46 (F := Ideal) c i a2 h2 a3 h3 a4 h4 a5 h5 a6 h6 a7 h7 a12 a13 x0 x1 x2 x3 x4 x5 (ix2 r q)
    = ext i x5 (rows x0 x1 x2 x3 x4) (⟨16 + r.val, by omega⟩ : Fin 1040) q := by
  unfold kernelRun0_A.sl.v46
  rw [list_A]
  exact load_ext i a13 x5 _ _ (v22_A c a2 h2 a3 h3 a4 h4 a5 h5 a6 h6 a7 h7 a12 a13 x0 x1 x2 x3 x4 x5) 16 _ (by omega) r q

theorem v62_A (r : Fin 256) (q : Fin 512) : kernelRun0_A.sl.v62 (F := Ideal) c i a2 h2 a3 h3 a4 h4 a5 h5 a6 h6 a7 h7 a12 a13 x0 x1 x2 x3 x4 x5 (ix2 r q)
    = ext i x5 (rows x0 x1 x2 x3 x4) (⟨270 + r.val, by omega⟩ : Fin 1040) q := by
  unfold kernelRun0_A.sl.v62
  rw [list_A]
  exact load_ext i a13 x5 _ _ (v22_A c a2 h2 a3 h3 a4 h4 a5 h5 a6 h6 a7 h7 a12 a13 x0 x1 x2 x3 x4 x5) 270 _ (by omega) r q

theorem v67_A (r : Fin 256) (q : Fin 512) : kernelRun0_A.sl.v67 (F := Ideal) c i a2 h2 a3 h3 a4 h4 a5 h5 a6 h6 a7 h7 a12 a13 x0 x1 x2 x3 x4 x5 (ix2 r q)
    = ext i x5 (rows x0 x1 x2 x3 x4) (⟨271 + r.val, by omega⟩ : Fin 1040) q := by
  unfold kernelRun0_A.sl.v67
  rw [list_A]
  exact load_ext i a13 x5 _ _ (v22_A c a2 h2 a3 h3 a4 h4 a5 h5 a6 h6 a7 h7 a12 a13 x0 x1 x2 x3 x4 x5) 271 _ (by omega) r q

theorem v73_A (r : Fin 256) (q : Fin 512) : kernelRun0_A.sl.v73 (F := Ideal) c i a2 h2 a3 h3 a4 h4 a5 h5 a6 h6 a7 h7 a12 a13 x0 x1 x2 x3 x4 x5 (ix2 r q)
    = ext i x5 (rows x0 x1 x2 x3 x4) (⟨272 + r.val, by omega⟩ : Fin 1040) q := by
  unfold kernelRun0_A.sl.v73
  rw [list_A]
  exact load_ext i a13 x5 _ _ (v22_A c a2 h2 a3 h3 a4 h4 a5 h5 a6 h6 a7 h7 a12 a13 x0 x1 x2 x3 x4 x5) 272 _ (by omega) r q

theorem v89_A (r : Fin 256) (q : Fin 512) : kernelRun0_A.sl.v89 (F := Ideal) c i a2 h2 a3 h3 a4 h4 a5 h5 a6 h6 a7 h7 a12 a13 x0 x1 x2 x3 x4 x5 (ix2 r q)
    = ext i x5 (rows x0 x1 x2 x3 x4) (⟨526 + r.val, by omega⟩ : Fin 1040) q := by
  unfold kernelRun0_A.sl.v89
  rw [list_A]
  exact load_ext i a13 x5 _ _ (v22_A c a2 h2 a3 h3 a4 h4 a5 h5 a6 h6 a7 h7 a12 a13 x0 x1 x2 x3 x4 x5) 526 _ (by omega) r q

theorem v94_A (r : Fin 256) (q : Fin 512) : kernelRun0_A.sl.v94 (F := Ideal) c i a2 h2 a3 h3 a4 h4 a5 h5 a6 h6 a7 h7 a12 a13 x0 x1 x2 x3 x4 x5 (ix2 r q)
    = ext i x5 (rows x0 x1 x2 x3 x4) (⟨527 + r.val, by omega⟩ : Fin 1040) q := by
  unfold kernelRun0_A.sl.v94
  rw [list_A]
  exact load_ext i a13 x5 _ _ (v22_A c a2 h2 a3 h3 a4 h4 a5 h5 a6 h6 a7 h7 a12 a13 x0 x1 x2 x3 x4 x5) 527 _ (by omega) r q

theorem v100_A (r : Fin 256) (q : Fin 512) : kernelRun0_A.sl.v100 (F := Ideal) c i a2 h2 a3 h3 a4 h4 a5 h5 a6 h6 a7 h7 a12 a13 x0 x1 x2 x3 x4 x5 (ix2 r q)
    = ext i x5 (rows x0 x1 x2 x3 x4) (⟨528 + r.val, by omega⟩ : Fin 1040) q := by
  unfold kernelRun0_A.sl.v100
  rw [list_A]
  exact load_ext i a13 x5 _ _ (v22_A c a2 h2 a3 h3 a4 h4 a5 h5 a6 h6 a7 h7 a12 a13 x0 x1 x2 x3 x4 x5) 528 _ (by omega) r q

theorem v116_A (r : Fin 256) (q : Fin 512) : kernelRun0_A.sl.v116 (F := Ideal) c i a2 h2 a3 h3 a4 h4 a5 h5 a6 h6 a7 h7 a12 a13 x0 x1 x2 x3 x4 x5 (ix2 r q)
    = ext i x5 (rows x0 x1 x2 x3 x4) (⟨782 + r.val, by omega⟩ : Fin 1040) q := by
  unfold kernelRun0_A.sl.v116
  rw [list_A]
  exact load_ext i a13 x5 _ _ (v22_A c a2 h2 a3 h3 a4 h4 a5 h5 a6 h6 a7 h7 a12 a13 x0 x1 x2 x3 x4 x5) 782 _ (by omega) r q

theorem v121_A (r : Fin 256) (q : Fin 512) : kernelRun0_A.sl.v121 (F := Ideal) c i a2 h2 a3 h3 a4 h4 a5 h5 a6 h6 a7 h7 a12 a13 x0 x1 x2 x3 x4 x5 (ix2 r q)
    = ext i x5 (rows x0 x1 x2 x3 x4) (⟨783 + r.val, by omega⟩ : Fin 1040) q := by
  unfold kernelRun0_A.sl.v121
  rw [list_A]
  exact load_ext i a13 x5 _ _ (v22_A c a2 h2 a3 h3 a4 h4 a5 h5 a6 h6 a7 h7 a12 a13 x0 x1 x2 x3 x4 x5) 783 _ (by omega) r q

theorem v127_A (r : Fin 256) (q : Fin 512) : kernelRun0_A.sl.v127 (F := Ideal) c i a2 h2 a3 h3 a4 h4 a5 h5 a6 h6 a7 h7 a12 a13 x0 x1 x2 x3 x4 x5 (ix2 r q)
    = ext i x5 (rows x0 x1 x2 x3 x4) (⟨784 + r.val, by omega⟩ : Fin 1040) q := by
  unfold kernelRun0_A.sl.v127
  rw [list_A]
  exact load_ext i a13 x5 _ _ (v22_A c a2 h2 a3 h3 a4 h4 a5 h5 a6 h6 a7 h7 a12 a13 x0 x1 x2 x3 x4 x5) 784 _ (by omega) r q

theorem list_B (xs : Vec Ideal S1040x2048 .bf16) : kernelRun0_B.sl.HS1_2 (F := Ideal) c i a7 h7 a12 h12 a13 x5 xs = [⟨Rect.unit (s := S1040x512) ![0, 0] S16x512.size inb_S1040x512_S16x512_0_0,
      k0_pay107 i (kernelRun0_B.sl.v22 c a7 h7 a12 h12 a13 x5 xs)⟩,
    ⟨Rect.unit (s := S1040x512) ![0, 0] S1040x512.size inb_S1040x512_S1040x512_0_0, k0_pay106 xs x5⟩] := by
  unfold kernelRun0_B.sl.HS1_2 kernelRun0_B.sl.HS1_1
  rw [load_whole (s := S1040x2048) h12, load_whole (s := S1x2048x512) h7]

theorem v22_B (xs : Vec Ideal S1040x2048 .bf16) (r : Fin 16) (q : Fin 512) : kernelRun0_B.sl.v22 (F := Ideal) c a7 h7 a12 h12 a13 x5 xs (ix2 r q)
    = ∑ k : Fin 2048, xs (ix2 (⟨r.val, by omega⟩ : Fin 1040) k) * x5 (ix3 (0 : Fin 1) k q) := by
  unfold kernelRun0_B.sl.v22 kernelRun0_B.sl.HS1_1
  rw [load_whole (s := S1040x2048) h12, load_whole (s := S1x2048x512) h7]
  exact load_halo a13 x5 _ r q

theorem v35_B (xs : Vec Ideal S1040x2048 .bf16) (r : Fin 256) (q : Fin 512) : kernelRun0_B.sl.v35 (F := Ideal) c i a7 h7 a12 h12 a13 x5 xs (ix2 r q)
    = ext i x5 xs (⟨14 + r.val, by omega⟩ : Fin 1040) q := by
  unfold kernelRun0_B.sl.v35
  rw [list_B]
  exact load_ext i a13 x5 _ _ (v22_B c a7 h7 a12 h12 a13 x5 xs) 14 _ (by omega) r q

theorem v40_B (xs : Vec Ideal S1040x2048 .bf16) (r : Fin 256) (q : Fin 512) : kernelRun0_B.sl.v40 (F := Ideal) c i a7 h7 a12 h12 a13 x5 xs (ix2 r q)
    = ext i x5 xs (⟨15 + r.val, by omega⟩ : Fin 1040) q := by
  unfold kernelRun0_B.sl.v40
  rw [list_B]
  exact load_ext i a13 x5 _ _ (v22_B c a7 h7 a12 h12 a13 x5 xs) 15 _ (by omega) r q

theorem v46_B (xs : Vec Ideal S1040x2048 .bf16) (r : Fin 256) (q : Fin 512) : kernelRun0_B.sl.v46 (F := Ideal) c i a7 h7 a12 h12 a13 x5 xs (ix2 r q)
    = ext i x5 xs (⟨16 + r.val, by omega⟩ : Fin 1040) q := by
  unfold kernelRun0_B.sl.v46
  rw [list_B]
  exact load_ext i a13 x5 _ _ (v22_B c a7 h7 a12 h12 a13 x5 xs) 16 _ (by omega) r q

theorem v62_B (xs : Vec Ideal S1040x2048 .bf16) (r : Fin 256) (q : Fin 512) : kernelRun0_B.sl.v62 (F := Ideal) c i a7 h7 a12 h12 a13 x5 xs (ix2 r q)
    = ext i x5 xs (⟨270 + r.val, by omega⟩ : Fin 1040) q := by
  unfold kernelRun0_B.sl.v62
  rw [list_B]
  exact load_ext i a13 x5 _ _ (v22_B c a7 h7 a12 h12 a13 x5 xs) 270 _ (by omega) r q

theorem v67_B (xs : Vec Ideal S1040x2048 .bf16) (r : Fin 256) (q : Fin 512) : kernelRun0_B.sl.v67 (F := Ideal) c i a7 h7 a12 h12 a13 x5 xs (ix2 r q)
    = ext i x5 xs (⟨271 + r.val, by omega⟩ : Fin 1040) q := by
  unfold kernelRun0_B.sl.v67
  rw [list_B]
  exact load_ext i a13 x5 _ _ (v22_B c a7 h7 a12 h12 a13 x5 xs) 271 _ (by omega) r q

theorem v73_B (xs : Vec Ideal S1040x2048 .bf16) (r : Fin 256) (q : Fin 512) : kernelRun0_B.sl.v73 (F := Ideal) c i a7 h7 a12 h12 a13 x5 xs (ix2 r q)
    = ext i x5 xs (⟨272 + r.val, by omega⟩ : Fin 1040) q := by
  unfold kernelRun0_B.sl.v73
  rw [list_B]
  exact load_ext i a13 x5 _ _ (v22_B c a7 h7 a12 h12 a13 x5 xs) 272 _ (by omega) r q

theorem v89_B (xs : Vec Ideal S1040x2048 .bf16) (r : Fin 256) (q : Fin 512) : kernelRun0_B.sl.v89 (F := Ideal) c i a7 h7 a12 h12 a13 x5 xs (ix2 r q)
    = ext i x5 xs (⟨526 + r.val, by omega⟩ : Fin 1040) q := by
  unfold kernelRun0_B.sl.v89
  rw [list_B]
  exact load_ext i a13 x5 _ _ (v22_B c a7 h7 a12 h12 a13 x5 xs) 526 _ (by omega) r q

theorem v94_B (xs : Vec Ideal S1040x2048 .bf16) (r : Fin 256) (q : Fin 512) : kernelRun0_B.sl.v94 (F := Ideal) c i a7 h7 a12 h12 a13 x5 xs (ix2 r q)
    = ext i x5 xs (⟨527 + r.val, by omega⟩ : Fin 1040) q := by
  unfold kernelRun0_B.sl.v94
  rw [list_B]
  exact load_ext i a13 x5 _ _ (v22_B c a7 h7 a12 h12 a13 x5 xs) 527 _ (by omega) r q

theorem v100_B (xs : Vec Ideal S1040x2048 .bf16) (r : Fin 256) (q : Fin 512) : kernelRun0_B.sl.v100 (F := Ideal) c i a7 h7 a12 h12 a13 x5 xs (ix2 r q)
    = ext i x5 xs (⟨528 + r.val, by omega⟩ : Fin 1040) q := by
  unfold kernelRun0_B.sl.v100
  rw [list_B]
  exact load_ext i a13 x5 _ _ (v22_B c a7 h7 a12 h12 a13 x5 xs) 528 _ (by omega) r q

theorem v116_B (xs : Vec Ideal S1040x2048 .bf16) (r : Fin 256) (q : Fin 512) : kernelRun0_B.sl.v116 (F := Ideal) c i a7 h7 a12 h12 a13 x5 xs (ix2 r q)
    = ext i x5 xs (⟨782 + r.val, by omega⟩ : Fin 1040) q := by
  unfold kernelRun0_B.sl.v116
  rw [list_B]
  exact load_ext i a13 x5 _ _ (v22_B c a7 h7 a12 h12 a13 x5 xs) 782 _ (by omega) r q

theorem v121_B (xs : Vec Ideal S1040x2048 .bf16) (r : Fin 256) (q : Fin 512) : kernelRun0_B.sl.v121 (F := Ideal) c i a7 h7 a12 h12 a13 x5 xs (ix2 r q)
    = ext i x5 xs (⟨783 + r.val, by omega⟩ : Fin 1040) q := by
  unfold kernelRun0_B.sl.v121
  rw [list_B]
  exact load_ext i a13 x5 _ _ (v22_B c a7 h7 a12 h12 a13 x5 xs) 783 _ (by omega) r q

theorem v127_B (xs : Vec Ideal S1040x2048 .bf16) (r : Fin 256) (q : Fin 512) : kernelRun0_B.sl.v127 (F := Ideal) c i a7 h7 a12 h12 a13 x5 xs (ix2 r q)
    = ext i x5 xs (⟨784 + r.val, by omega⟩ : Fin 1040) q := by
  unfold kernelRun0_B.sl.v127
  rw [list_B]
  exact load_ext i a13 x5 _ _ (v22_B c a7 h7 a12 h12 a13 x5 xs) 784 _ (by omega) r q

set_option pp.maxSteps 300 in
theorem out_A (hc : cond0_0 i) : out0_A_9 (F := Ideal) c i a2 h2 a3 h3 a4 h4 a5 h5 a6 h6 a7 h7 a8 h8 a9 h9 a10 h10 a11 h11 a12 h12 a13 h13 hc x0 x1 x2 x3 x4 x5 x6 x7 x8
    = blockOut i x5 x6 x7 x8 (rows x0 x1 x2 x3 x4) := by
  funext y
  refine View.read_writes_apply_of_pieces _ _ _ _ ?_ y (cover0_A_9 c i a2 h2 a3 h3 a4 h4 a5 h5 a6 h6 a7 h7 a8 h8 a9 h9 a10 h10 a11 h11 a12 h12 a13 h13 hc x0 x1 x2 x3 x4 x5 x6 x7 x8 y)
  unfold kernelRun0_A
  dsimp only
  have W := load_whole (s := S1x2048x512) h8 x6 inb_S1x2048x512_S1x2048x512_0_0_0
  have V : kernelRun0_A.sl.v28 c a2 h2 a3 h3 a4 h4 a5 h5 a6 h6 a12 x0 x1 x2 x3 x4 = main (rows x0 x1 x2 x3 x4) := v28_A c a2 h2 a3 h3 a4 h4 a5 h5 a6 h6 a12 x0 x1 x2 x3 x4
  refine List.forall_mem_cons.2 ⟨outPiece i x5 x6 x7 x8 (rows x0 x1 x2 x3 x4) _ _ _ _ _ _ _ 768 (by omega) (load_cw a9 h9 x7 0 inb_S1x3x512_S1x1x512_0_0_0 (by omega)) (load_cw a9 h9 x7 1 inb_S1x3x512_S1x1x512_0_1_0 (by omega))
    (load_cw a9 h9 x7 2 inb_S1x3x512_S1x1x512_0_2_0 (by omega)) (load_whole (s := S1x1x512) h10 x8 inb_S1x1x512_S1x1x512_0_0_0)
    (v116_A c i a2 h2 a3 h3 a4 h4 a5 h5 a6 h6 a7 h7 a12 a13 x0 x1 x2 x3 x4 x5) (v121_A c i a2 h2 a3 h3 a4 h4 a5 h5 a6 h6 a7 h7 a12 a13 x0 x1 x2 x3 x4 x5) (v127_A c i a2 h2 a3 h3 a4 h4 a5 h5 a6 h6 a7 h7 a12 a13 x0 x1 x2 x3 x4 x5) _ (fun r q => by
      rw [← V]; conv_rhs => rw [← W]
      exact chunk3 _ _ _ _ _ _ _ _ _ r q) inb_S1024x512_S256x512_768_0, ?_⟩
  refine List.forall_mem_cons.2 ⟨outPiece i x5 x6 x7 x8 (rows x0 x1 x2 x3 x4) _ _ _ _ _ _ _ 512 (by omega) (load_cw a9 h9 x7 0 inb_S1x3x512_S1x1x512_0_0_0 (by omega)) (load_cw a9 h9 x7 1 inb_S1x3x512_S1x1x512_0_1_0 (by omega))
    (load_cw a9 h9 x7 2 inb_S1x3x512_S1x1x512_0_2_0 (by omega)) (load_whole (s := S1x1x512) h10 x8 inb_S1x1x512_S1x1x512_0_0_0)
    (v89_A c i a2 h2 a3 h3 a4 h4 a5 h5 a6 h6 a7 h7 a12 a13 x0 x1 x2 x3 x4 x5) (v94_A c i a2 h2 a3 h3 a4 h4 a5 h5 a6 h6 a7 h7 a12 a13 x0 x1 x2 x3 x4 x5) (v100_A c i a2 h2 a3 h3 a4 h4 a5 h5 a6 h6 a7 h7 a12 a13 x0 x1 x2 x3 x4 x5) _ (fun r q => by
      rw [← V]; conv_rhs => rw [← W]
      exact chunk2 _ _ _ _ _ _ _ _ _ r q) inb_S1024x512_S256x512_512_0, ?_⟩
  refine List.forall_mem_cons.2 ⟨outPiece i x5 x6 x7 x8 (rows x0 x1 x2 x3 x4) _ _ _ _ _ _ _ 256 (by omega) (load_cw a9 h9 x7 0 inb_S1x3x512_S1x1x512_0_0_0 (by omega)) (load_cw a9 h9 x7 1 inb_S1x3x512_S1x1x512_0_1_0 (by omega))
    (load_cw a9 h9 x7 2 inb_S1x3x512_S1x1x512_0_2_0 (by omega)) (load_whole (s := S1x1x512) h10 x8 inb_S1x1x512_S1x1x512_0_0_0)
    (v62_A c i a2 h2 a3 h3 a4 h4 a5 h5 a6 h6 a7 h7 a12 a13 x0 x1 x2 x3 x4 x5) (v67_A c i a2 h2 a3 h3 a4 h4 a5 h5 a6 h6 a7 h7 a12 a13 x0 x1 x2 x3 x4 x5) (v73_A c i a2 h2 a3 h3 a4 h4 a5 h5 a6 h6 a7 h7 a12 a13 x0 x1 x2 x3 x4 x5) _ (fun r q => by
      rw [← V]; conv_rhs => rw [← W]
      exact chunk1 _ _ _ _ _ _ _ _ _ r q) inb_S1024x512_S256x512_256_0, ?_⟩
  refine List.forall_mem_cons.2 ⟨outPiece i x5 x6 x7 x8 (rows x0 x1 x2 x3 x4) _ _ _ _ _ _ _ 0 (by omega) (load_cw a9 h9 x7 0 inb_S1x3x512_S1x1x512_0_0_0 (by omega)) (load_cw a9 h9 x7 1 inb_S1x3x512_S1x1x512_0_1_0 (by omega))
    (load_cw a9 h9 x7 2 inb_S1x3x512_S1x1x512_0_2_0 (by omega)) (load_whole (s := S1x1x512) h10 x8 inb_S1x1x512_S1x1x512_0_0_0)
    (v35_A c i a2 h2 a3 h3 a4 h4 a5 h5 a6 h6 a7 h7 a12 a13 x0 x1 x2 x3 x4 x5) (v40_A c i a2 h2 a3 h3 a4 h4 a5 h5 a6 h6 a7 h7 a12 a13 x0 x1 x2 x3 x4 x5) (v46_A c i a2 h2 a3 h3 a4 h4 a5 h5 a6 h6 a7 h7 a12 a13 x0 x1 x2 x3 x4 x5) _ (fun r q => by
      rw [← V]; conv_rhs => rw [← W]
      exact chunk0 _ _ _ _ _ _ _ _ _ r q) inb_S1024x512_S256x512_0_0, ?_⟩
  exact fun _ h => absurd h List.not_mem_nil

set_option pp.maxSteps 300 in
theorem out_B (hc : ¬ cond0_0 i) (xs : Vec Ideal S1040x2048 .bf16) : out0_B_9 (F := Ideal) c i a2 h2 a3 h3 a4 h4 a5 h5 a6 h6 a7 h7 a8 h8 a9 h9 a10 h10 a11 h11 a12 h12 a13 h13 hc x0 x1 x2 x3 x4 x5 x6 x7 x8 xs
    = blockOut i x5 x6 x7 x8 xs := by
  funext y
  refine View.read_writes_apply_of_pieces _ _ _ _ ?_ y (cover0_B_9 c i a2 h2 a3 h3 a4 h4 a5 h5 a6 h6 a7 h7 a8 h8 a9 h9 a10 h10 a11 h11 a12 h12 a13 h13 hc x0 x1 x2 x3 x4 x5 x6 x7 x8 xs y)
  unfold kernelRun0_B
  dsimp only
  have W := load_whole (s := S1x2048x512) h8 x6 inb_S1x2048x512_S1x2048x512_0_0_0
  have V : kernelRun0_B.sl.r c a12 h12 xs = main xs := r_B c a12 h12 xs
  refine List.forall_mem_cons.2 ⟨outPiece i x5 x6 x7 x8 xs _ _ _ _ _ _ _ 768 (by omega) (load_cw a9 h9 x7 0 inb_S1x3x512_S1x1x512_0_0_0 (by omega)) (load_cw a9 h9 x7 1 inb_S1x3x512_S1x1x512_0_1_0 (by omega))
    (load_cw a9 h9 x7 2 inb_S1x3x512_S1x1x512_0_2_0 (by omega)) (load_whole (s := S1x1x512) h10 x8 inb_S1x1x512_S1x1x512_0_0_0)
    (v116_B c i a7 h7 a12 h12 a13 x5 xs) (v121_B c i a7 h7 a12 h12 a13 x5 xs) (v127_B c i a7 h7 a12 h12 a13 x5 xs) _ (fun r q => by
      rw [← V]; conv_rhs => rw [← W]
      exact chunk3 _ _ _ _ _ _ _ _ _ r q) inb_S1024x512_S256x512_768_0, ?_⟩
  refine List.forall_mem_cons.2 ⟨outPiece i x5 x6 x7 x8 xs _ _ _ _ _ _ _ 512 (by omega) (load_cw a9 h9 x7 0 inb_S1x3x512_S1x1x512_0_0_0 (by omega)) (load_cw a9 h9 x7 1 inb_S1x3x512_S1x1x512_0_1_0 (by omega))
    (load_cw a9 h9 x7 2 inb_S1x3x512_S1x1x512_0_2_0 (by omega)) (load_whole (s := S1x1x512) h10 x8 inb_S1x1x512_S1x1x512_0_0_0)
    (v89_B c i a7 h7 a12 h12 a13 x5 xs) (v94_B c i a7 h7 a12 h12 a13 x5 xs) (v100_B c i a7 h7 a12 h12 a13 x5 xs) _ (fun r q => by
      rw [← V]; conv_rhs => rw [← W]
      exact chunk2 _ _ _ _ _ _ _ _ _ r q) inb_S1024x512_S256x512_512_0, ?_⟩
  refine List.forall_mem_cons.2 ⟨outPiece i x5 x6 x7 x8 xs _ _ _ _ _ _ _ 256 (by omega) (load_cw a9 h9 x7 0 inb_S1x3x512_S1x1x512_0_0_0 (by omega)) (load_cw a9 h9 x7 1 inb_S1x3x512_S1x1x512_0_1_0 (by omega))
    (load_cw a9 h9 x7 2 inb_S1x3x512_S1x1x512_0_2_0 (by omega)) (load_whole (s := S1x1x512) h10 x8 inb_S1x1x512_S1x1x512_0_0_0)
    (v62_B c i a7 h7 a12 h12 a13 x5 xs) (v67_B c i a7 h7 a12 h12 a13 x5 xs) (v73_B c i a7 h7 a12 h12 a13 x5 xs) _ (fun r q => by
      rw [← V]; conv_rhs => rw [← W]
      exact chunk1 _ _ _ _ _ _ _ _ _ r q) inb_S1024x512_S256x512_256_0, ?_⟩
  refine List.forall_mem_cons.2 ⟨outPiece i x5 x6 x7 x8 xs _ _ _ _ _ _ _ 0 (by omega) (load_cw a9 h9 x7 0 inb_S1x3x512_S1x1x512_0_0_0 (by omega)) (load_cw a9 h9 x7 1 inb_S1x3x512_S1x1x512_0_1_0 (by omega))
    (load_cw a9 h9 x7 2 inb_S1x3x512_S1x1x512_0_2_0 (by omega)) (load_whole (s := S1x1x512) h10 x8 inb_S1x1x512_S1x1x512_0_0_0)
    (v35_B c i a7 h7 a12 h12 a13 x5 xs) (v40_B c i a7 h7 a12 h12 a13 x5 xs) (v46_B c i a7 h7 a12 h12 a13 x5 xs) _ (fun r q => by
      rw [← V]; conv_rhs => rw [← W]
      exact chunk0 _ _ _ _ _ _ _ _ _ r q) inb_S1024x512_S256x512_0_0, ?_⟩
  exact fun _ h => absurd h List.not_mem_nil

section Fold

variable (m : (ℓ : Loc nD τ sig) → Buf (Elt Ideal) ℓ)

abbrev xin (c : Dev nD) : FVec Ideal S4x4096x2048 .f32 := m ((c : Thread nD τ).loc main_arg0)
abbrev gin (c : Dev nD) : FVec Ideal S4x2048 .f32 := m ((c : Thread nD τ).loc main_arg1)
abbrev mdl (c : Dev nD) : FVec Ideal S4x8x12288 .f32 := m ((c : Thread nD τ).loc main_arg2)
abbrev wts (c : Dev nD) : FVec Ideal S4x2048x11264 .f32 := m ((c : Thread nD τ).loc main_arg3)
abbrev cws (c : Dev nD) : FVec Ideal S4x3x5632 .f32 := m ((c : Thread nD τ).loc main_arg4)
abbrev cbs (c : Dev nD) : FVec Ideal S4x5632 .f32 := m ((c : Thread nD τ).loc main_arg5)

theorem idx_facts : ∀ t : Fin cfg0.N, (win0_0.index t 0 = t.val / 11 ∧ win0_0.index t 1 = 0)
    ∧ (win0_1.index t 0 = 64 * (t.val / 11) - 1 ∧ win0_1.index t 1 = 0)
    ∧ (win0_2.index t 0 = 0 ∧ win0_2.index t 1 = 0)
    ∧ (win0_3.index t 0 = 0 ∧ win0_3.index t 1 = t.val / 44 ∧ win0_3.index t 2 = 3 ∧ win0_3.index t 3 = 0 ∧ win0_3.index t 4 = 0)
    ∧ (win0_4.index t 0 = 0 ∧ win0_4.index t 1 = t.val / 44 ∧ win0_4.index t 2 = 4 ∧ win0_4.index t 3 = 0 ∧ win0_4.index t 4 = 0) :=
  (by decide +kernel : ∀ t : Fin grid0.N, _)

theorem col_facts : ∀ t : Fin cfg0.N, (win0_5.index t 0 = 0 ∧ win0_5.index t 1 = 0 ∧ win0_5.index t 2 = t.val % 11)
    ∧ (win0_6.index t 0 = 0 ∧ win0_6.index t 1 = 0 ∧ win0_6.index t 2 = 11 + t.val % 11)
    ∧ (win0_7.index t 0 = 0 ∧ win0_7.index t 1 = 0 ∧ win0_7.index t 2 = t.val % 11)
    ∧ (win0_8.index t 0 = 0 ∧ win0_8.index t 1 = 0 ∧ win0_8.index t 2 = t.val % 11)
    ∧ (grid0.coords t 0).val = t.val / 11 :=
  (by decide +kernel : ∀ t : Fin grid0.N, _)

theorem lt176 (t : Fin cfg0.N) : t.val < 176 := lt_of_lt_of_eq t.isLt (show cfg0.N = 176 from N_0)

/-- The block of rows a point works on. -/
def rb (t : Fin cfg0.N) : Fin 16 := ⟨t.val / 11, by have := lt176 t; omega⟩

/-- Row `r` of the layer's input, normalised and modulated by batch `b`'s shift and scale. -/
def nrmAt (x : FVec Ideal S4x4096x2048 .f32) (g : FVec Ideal S4x2048 .f32) (md : FVec Ideal S4x8x12288 .f32) (r : Fin 16384) (b : Fin 4)
    (k : Fin 2048) : EReal :=
  nrm (fun k => x (ix3 (⟨r.val / 4096, by omega⟩ : Fin 4) (⟨r.val % 4096, by omega⟩ : Fin 4096) k)) (fun k => g (ix2 (0 : Fin 4) k))
    (fun k => md (ix3 (0 : Fin 4) (⟨b.val, by omega⟩ : Fin 8) (⟨8192 + k.val, by omega⟩ : Fin 12288)))
    (fun k => md (ix3 (0 : Fin 4) (⟨b.val, by omega⟩ : Fin 8) (⟨6144 + k.val, by omega⟩ : Fin 12288))) k

/-- The gate's product `s` tokens before row `r`: zero before the sequence's first token. -/
def gateAt (x : FVec Ideal S4x4096x2048 .f32) (g : FVec Ideal S4x2048 .f32) (md : FVec Ideal S4x8x12288 .f32)
    (w : FVec Ideal S4x2048x11264 .f32) (s : ℕ) (r : Fin 16384) (j : Fin 5632) : EReal :=
  if r.val % 4096 < s then 0 else ∑ k : Fin 2048, nrmAt x g md (⟨r.val - s, by omega⟩ : Fin 16384) (⟨r.val / 4096, by omega⟩ : Fin 4) k
    * w (ix3 (0 : Fin 4) k (⟨j.val, by omega⟩ : Fin 11264))

/-- The layer's result at row `r`, column `j`. -/
def outAt (x : FVec Ideal S4x4096x2048 .f32) (g : FVec Ideal S4x2048 .f32) (md : FVec Ideal S4x8x12288 .f32)
    (w : FVec Ideal S4x2048x11264 .f32) (cw : FVec Ideal S4x3x5632 .f32) (cb : FVec Ideal S4x5632 .f32) (r : Fin 16384) (j : Fin 5632) : EReal :=
  act (cw (ix3 (0 : Fin 4) (0 : Fin 3) j)) (cw (ix3 (0 : Fin 4) (1 : Fin 3) j)) (cw (ix3 (0 : Fin 4) (2 : Fin 3) j)) (cb (ix2 (0 : Fin 4) j))
    (gateAt x g md w 2 r j) (gateAt x g md w 1 r j) (gateAt x g md w 0 r j)
    (∑ k : Fin 2048, nrmAt x g md r (⟨r.val / 4096, by omega⟩ : Fin 4) k * w (ix3 (0 : Fin 4) k (⟨5632 + j.val, by omega⟩ : Fin 11264)))

/-- … as an array. -/
def out (x : FVec Ideal S4x4096x2048 .f32) (g : FVec Ideal S4x2048 .f32) (md : FVec Ideal S4x8x12288 .f32)
    (w : FVec Ideal S4x2048x11264 .f32) (cw : FVec Ideal S4x3x5632 .f32) (cb : FVec Ideal S4x5632 .f32) : FVec Ideal S16384x5632 .bf16 :=
  fun i => outAt x g md w cw cb (i 0) (i 1)

theorem V_v0 (c : Dev nD) : V m c main_v0 = shapeCast S4x8x6x1x2048 (mdl m c) shapeCasts_S4x8x12288_S4x8x6x1x2048 := by
  show StableHlo.after hostOps0 _ (Proc.devRef .tc main_v0) = _
  after_results
  rfl
theorem V_v1 (c : Dev nD) : V m c main_v1 = shapeCast S16384x2048 (xin m c) shapeCasts_S4x4096x2048_S16384x2048 := by
  show StableHlo.after hostOps0 _ (Proc.devRef .tc main_v1) = _
  after_results
  rfl
theorem V_v4 (c : Dev nD) : V m c main_v4 = shapeCast S1x2048 (shapeCast S2048 (extractStridedSlice S1x2048 ![0, 0] (gin m c) slices_S4x2048_S1x2048_0_0)
    shapeCasts_S1x2048_S2048) shapeCasts_S2048_S1x2048 := by
  show StableHlo.after hostOps0 _ (Proc.devRef .tc main_v4) = _
  after_results
  rfl
theorem V_v5 (c : Dev nD) : V m c main_v5 = shapeCast S4x1x5632 (cbs m c) shapeCasts_S4x5632_S4x1x5632 := by
  show StableHlo.after hostOps0 _ (Proc.devRef .tc main_v5) = _
  after_results
  rfl

theorem blk0 (c : Dev nD) (t : Fin cfg0.N) (p : Fin 1024) (k : Fin 2048) :
    (iblk m c 0 t : FVec Ideal S1024x2048 .f32) (ix2 p k)
      = xin m c (ix3 (⟨((rb t).val * 1024 + p.val) / 4096, by omega⟩ : Fin 4) (⟨((rb t).val * 1024 + p.val) % 4096, by omega⟩ : Fin 4096) k) := by
  have hN := lt176 t
  obtain ⟨⟨e0, e1⟩, -⟩ := idx_facts t
  unfold iblk; rw [View.read_apply]
  show V m c main_v1 _ = _
  rw [V_v1]
  refine shapeCast_apply _ _ _ _ ?_
  rw [Shape.rowMajor_val_three, Shape.rowMajor_val_two]
  show ((t.val / 11 * 1024 + p.val) / 4096 * 4096 + (t.val / 11 * 1024 + p.val) % 4096) * 2048 + k.val
    = (win0_0.index t 0 * 1024 + 1 * p.val) * 2048 + (win0_0.index t 1 * 2048 + 1 * k.val)
  rw [e0, e1]; omega

theorem blk1 (c : Dev nD) (t : Fin cfg0.N) (p : Fin 16) (k : Fin 2048) :
    (iblk m c 1 t : FVec Ideal S16x2048 .f32) (ix2 p k)
      = xin m c (ix3 (⟨((64 * (rb t).val - 1) * 16 + p.val) / 4096, by omega⟩ : Fin 4) (⟨((64 * (rb t).val - 1) * 16 + p.val) % 4096, by omega⟩ : Fin 4096) k) := by
  have hN := lt176 t
  obtain ⟨-, ⟨e0, e1⟩, -⟩ := idx_facts t
  unfold iblk; rw [View.read_apply]
  show V m c main_v1 _ = _
  rw [V_v1]
  refine shapeCast_apply _ _ _ _ ?_
  rw [Shape.rowMajor_val_three, Shape.rowMajor_val_two]
  show (((64 * (t.val / 11) - 1) * 16 + p.val) / 4096 * 4096 + ((64 * (t.val / 11) - 1) * 16 + p.val) % 4096) * 2048 + k.val
    = (win0_1.index t 0 * 16 + 1 * p.val) * 2048 + (win0_1.index t 1 * 2048 + 1 * k.val)
  rw [e0, e1]; omega

theorem blk2 (c : Dev nD) (t : Fin cfg0.N) (k : Fin 2048) :
    (iblk m c 2 t : FVec Ideal S1x2048 .f32) (ix2 (0 : Fin 1) k) = gin m c (ix2 (0 : Fin 4) k) := by
  obtain ⟨-, -, ⟨e0, e1⟩, -⟩ := idx_facts t
  unfold iblk; rw [View.read_apply]
  show V m c main_v4 _ = _
  rw [V_v4]
  have hj : ((win0 2).blk t).view.emb (ix2 (0 : Fin 1) k) = ix2 (0 : Fin 1) k := by
    funext a; apply Fin.ext
    match a with
    | ⟨0, _⟩ => show win0_2.index t 0 * 1 + 1 * 0 = 0; rw [e0]
    | ⟨1, _⟩ => show win0_2.index t 1 * 2048 + 1 * k.val = k.val; rw [e1]; omega
  refine (congrArg _ hj).trans ?_
  pointwise

theorem blk3 (c : Dev nD) (t : Fin cfg0.N) (q : Fin 2048) :
    (iblk m c 3 t : FVec Ideal S1x1x1x1x2048 .f32) (ix5 (0 : Fin 1) (0 : Fin 1) (0 : Fin 1) (0 : Fin 1) q)
      = mdl m c (ix3 (0 : Fin 4) (⟨(rb t).val / 4, by omega⟩ : Fin 8) (⟨6144 + q.val, by omega⟩ : Fin 12288)) := by
  have hN := lt176 t
  obtain ⟨-, -, -, ⟨e0, e1, e2, e3, e4⟩, -⟩ := idx_facts t
  unfold iblk; rw [View.read_apply]
  show V m c main_v0 _ = _
  rw [V_v0]
  refine shapeCast_apply _ _ _ _ ?_
  rw [Shape.rowMajor_val_three, Shape.rowMajor_val_five]
  show (0 * 8 + t.val / 11 / 4) * 12288 + (6144 + q.val)
    = ((((win0_3.index t 0 * 1 + 1 * 0) * 8 + (win0_3.index t 1 * 1 + 1 * 0)) * 6 + (win0_3.index t 2 * 1 + 1 * 0)) * 1
        + (win0_3.index t 3 * 1 + 1 * 0)) * 2048 + (win0_3.index t 4 * 2048 + 1 * q.val)
  rw [e0, e1, e2, e3, e4]; omega

theorem blk4 (c : Dev nD) (t : Fin cfg0.N) (q : Fin 2048) :
    (iblk m c 4 t : FVec Ideal S1x1x1x1x2048 .f32) (ix5 (0 : Fin 1) (0 : Fin 1) (0 : Fin 1) (0 : Fin 1) q)
      = mdl m c (ix3 (0 : Fin 4) (⟨(rb t).val / 4, by omega⟩ : Fin 8) (⟨8192 + q.val, by omega⟩ : Fin 12288)) := by
  have hN := lt176 t
  obtain ⟨-, -, -, -, e0, e1, e2, e3, e4⟩ := idx_facts t
  unfold iblk; rw [View.read_apply]
  show V m c main_v0 _ = _
  rw [V_v0]
  refine shapeCast_apply _ _ _ _ ?_
  rw [Shape.rowMajor_val_three, Shape.rowMajor_val_five]
  show (0 * 8 + t.val / 11 / 4) * 12288 + (8192 + q.val)
    = ((((win0_4.index t 0 * 1 + 1 * 0) * 8 + (win0_4.index t 1 * 1 + 1 * 0)) * 6 + (win0_4.index t 2 * 1 + 1 * 0)) * 1
        + (win0_4.index t 3 * 1 + 1 * 0)) * 2048 + (win0_4.index t 4 * 2048 + 1 * q.val)
  rw [e0, e1, e2, e3, e4]; omega

theorem blk5 (c : Dev nD) (t : Fin cfg0.N) (k : Fin 2048) (q : Fin 512) :
    (iblk m c 5 t : FVec Ideal S1x2048x512 .f32) (ix3 (0 : Fin 1) k q)
      = wts m c (ix3 (0 : Fin 4) k (⟨t.val % 11 * 512 + q.val, by omega⟩ : Fin 11264)) := by
  obtain ⟨⟨e0, e1, e2⟩, -⟩ := col_facts t
  unfold iblk; rw [View.read_apply]
  show V m c main_arg3 _ = _
  rw [V_main_arg3]
  congr 1; funext a; apply Fin.ext
  match a with
  | ⟨0, _⟩ => show win0_5.index t 0 * 1 + 1 * 0 = 0; rw [e0]
  | ⟨1, _⟩ => show win0_5.index t 1 * 2048 + 1 * k.val = k.val; rw [e1]; omega
  | ⟨2, _⟩ => show win0_5.index t 2 * 512 + 1 * q.val = t.val % 11 * 512 + q.val; rw [e2]; omega

theorem blk6 (c : Dev nD) (t : Fin cfg0.N) (k : Fin 2048) (q : Fin 512) :
    (iblk m c 6 t : FVec Ideal S1x2048x512 .f32) (ix3 (0 : Fin 1) k q)
      = wts m c (ix3 (0 : Fin 4) k (⟨5632 + (t.val % 11 * 512 + q.val), by omega⟩ : Fin 11264)) := by
  obtain ⟨-, ⟨e0, e1, e2⟩, -⟩ := col_facts t
  unfold iblk; rw [View.read_apply]
  show V m c main_arg3 _ = _
  rw [V_main_arg3]
  congr 1; funext a; apply Fin.ext
  match a with
  | ⟨0, _⟩ => show win0_6.index t 0 * 1 + 1 * 0 = 0; rw [e0]
  | ⟨1, _⟩ => show win0_6.index t 1 * 2048 + 1 * k.val = k.val; rw [e1]; omega
  | ⟨2, _⟩ => show win0_6.index t 2 * 512 + 1 * q.val = 5632 + (t.val % 11 * 512 + q.val); rw [e2]; omega

theorem blk7 (c : Dev nD) (t : Fin cfg0.N) (k : Fin 3) (q : Fin 512) :
    (iblk m c 7 t : FVec Ideal S1x3x512 .f32) (ix3 (0 : Fin 1) k q)
      = cws m c (ix3 (0 : Fin 4) k (⟨t.val % 11 * 512 + q.val, by omega⟩ : Fin 5632)) := by
  obtain ⟨-, -, ⟨e0, e1, e2⟩, -⟩ := col_facts t
  unfold iblk; rw [View.read_apply]
  show V m c main_arg4 _ = _
  rw [V_main_arg4]
  congr 1; funext a; apply Fin.ext
  match a with
  | ⟨0, _⟩ => show win0_7.index t 0 * 1 + 1 * 0 = 0; rw [e0]
  | ⟨1, _⟩ => show win0_7.index t 1 * 3 + 1 * k.val = k.val; rw [e1]; omega
  | ⟨2, _⟩ => show win0_7.index t 2 * 512 + 1 * q.val = t.val % 11 * 512 + q.val; rw [e2]; omega

theorem blk8 (c : Dev nD) (t : Fin cfg0.N) (q : Fin 512) :
    (iblk m c 8 t : FVec Ideal S1x1x512 .f32) (ix3 (0 : Fin 1) (0 : Fin 1) q)
      = cbs m c (ix2 (0 : Fin 4) (⟨t.val % 11 * 512 + q.val, by omega⟩ : Fin 5632)) := by
  obtain ⟨-, -, -, ⟨e0, e1, e2⟩, -⟩ := col_facts t
  unfold iblk; rw [View.read_apply]
  show V m c main_v5 _ = _
  rw [V_v5]
  refine shapeCast_apply _ _ _ _ ?_
  rw [Shape.rowMajor_val_three, Shape.rowMajor_val_two]
  show 0 * 5632 + (t.val % 11 * 512 + q.val)
    = ((win0_8.index t 0 * 1 + 1 * 0) * 1 + (win0_8.index t 1 * 1 + 1 * 0)) * 5632 + (win0_8.index t 2 * 512 + 1 * q.val)
  rw [e0, e1, e2]; omega

/-- The input's row that a block's row `r` holds. -/
def hrow (b : Fin 16) (r : Fin 1040) : Fin 16384 :=
  ⟨if r.val < 16 then (64 * b.val - 1) * 16 + r.val else b.val * 1024 + (r.val - 16), by split <;> omega⟩

/-- The normalised rows of block `b`. -/
def hrows (c : Dev nD) (b : Fin 16) : Vec Ideal S1040x2048 .bf16 := fun y =>
  nrmAt (xin m c) (gin m c) (mdl m c) (hrow b (y 0)) (⟨b.val / 4, by omega⟩ : Fin 4) (y 1)

theorem rows_blk (c : Dev nD) (t : Fin cfg0.N) :
    rows (iblk m c 0 t) (iblk m c 1 t) (iblk m c 2 t) (iblk m c 3 t) (iblk m c 4 t) = hrows m c (rb t) := by
  funext y
  obtain ⟨p, q, rfl⟩ : ∃ (p : Fin 1040) (q : Fin 2048), y = ix2 p q := ⟨y 0, y 1, ValueIdx.eq_ix2 y⟩
  have hr : raw (iblk m c 0 t) (iblk m c 1 t) p
      = fun k => xin m c (ix3 (⟨(hrow (rb t) p).val / 4096, by omega⟩ : Fin 4) (⟨(hrow (rb t) p).val % 4096, by omega⟩ : Fin 4096) k) := by
    funext k
    unfold raw
    by_cases h : p.val < 16
    · rw [dif_pos h]
      have e : (hrow (rb t) p).val = (64 * (rb t).val - 1) * 16 + p.val := if_pos h
      simp only [e]
      exact blk1 m c t ⟨p.val, h⟩ k
    · rw [dif_neg h]
      have e : (hrow (rb t) p).val = (rb t).val * 1024 + (p.val - 16) := if_neg h
      simp only [e]
      exact blk0 m c t ⟨p.val - 16, by omega⟩ k
  show nrm (raw (iblk m c 0 t) (iblk m c 1 t) p) (fun k => (iblk m c 2 t : FVec Ideal S1x2048 .f32) (ix2 (0 : Fin 1) k))
    (fun k => (iblk m c 4 t : FVec Ideal S1x1x1x1x2048 .f32) (ix5 (0 : Fin 1) (0 : Fin 1) (0 : Fin 1) (0 : Fin 1) k))
    (fun k => (iblk m c 3 t : FVec Ideal S1x1x1x1x2048 .f32) (ix5 (0 : Fin 1) (0 : Fin 1) (0 : Fin 1) (0 : Fin 1) k)) q = _
  rw [hr]
  simp only [blk2, blk3, blk4]
  rfl

/-- What the run holds after a point: its block of the result, and the rows the block of points shares. -/
theorem state (c : Dev nD) : ∀ (n : ℕ) (hn : n < cfg0.N),
    outsAt0 m c n hn = (blockOut (grid0.coords ⟨n, hn⟩) (iblk m c 5 ⟨n, hn⟩) (iblk m c 6 ⟨n, hn⟩) (iblk m c 7 ⟨n, hn⟩) (iblk m c 8 ⟨n, hn⟩)
      (hrows m c (rb ⟨n, hn⟩)), hrows m c (rb ⟨n, hn⟩)) := by
  intro n
  induction n with
  | zero =>
    intro hn
    refine (outsAt0_A m c ⟨0, hn⟩ rfl).trans ?_
    rw [out_A, sout_A, rows_blk]
  | succ n ih =>
    intro hn
    by_cases h : (n + 1) % 11 = 0
    · refine (outsAt0_A m c ⟨n + 1, hn⟩ h).trans ?_
      rw [out_A, sout_A, rows_blk]
    · refine (outsAt0_B m c ⟨n + 1, hn⟩ h).trans ?_
      rw [out_B]
      show (blockOut _ _ _ _ _ (outsAt0 m c n _).2, (outsAt0 m c n _).2) = _
      rw [ih (Nat.lt_of_succ_lt hn)]
      have e : rb ⟨n, Nat.lt_of_succ_lt hn⟩ = rb ⟨n + 1, hn⟩ := Fin.ext (show n / 11 = (n + 1) / 11 by omega)
      simp only [e]

/-- The gate's products in a block are the layer's, as many tokens back as the row is shifted. -/
theorem ext_blk (c : Dev nD) (t : Fin cfg0.N) (s : ℕ) (hs : s ≤ 2) (p : Fin 1024) (q : Fin 512) (r : Fin 16384) (j : Fin 5632)
    (hr : r.val = t.val / 11 * 1024 + p.val) (hj : j.val = t.val % 11 * 512 + q.val) :
    ext (grid0.coords t) (iblk m c 5 t) (hrows m c (rb t)) (⟨(16 - s) + p.val, by omega⟩ : Fin 1040) q
      = gateAt (xin m c) (gin m c) (mdl m c) (wts m c) s r j := by
  have hN := lt176 t
  obtain ⟨-, -, -, -, ec⟩ := col_facts t
  unfold ext gateAt
  rw [ec]
  by_cases h : r.val % 4096 < s
  · rw [if_pos h, if_pos (show t.val / 11 % 4 = 0 ∧ (16 - s) + p.val < 16 by omega)]
  · rw [if_neg h, if_neg (show ¬ (t.val / 11 % 4 = 0 ∧ (16 - s) + p.val < 16) by omega)]
    refine Finset.sum_congr rfl fun k _ => ?_
    rw [blk5]
    have e1 : hrow (rb t) (⟨(16 - s) + p.val, by omega⟩ : Fin 1040) = (⟨r.val - s, by omega⟩ : Fin 16384) := by
      apply Fin.ext
      show (if (16 - s) + p.val < 16 then (64 * (t.val / 11) - 1) * 16 + ((16 - s) + p.val) else t.val / 11 * 1024 + ((16 - s) + p.val - 16)) = r.val - s
      split <;> omega
    have e2 : (⟨(rb t).val / 4, by omega⟩ : Fin 4) = ⟨r.val / 4096, by omega⟩ := Fin.ext (show t.val / 11 / 4 = r.val / 4096 by omega)
    show nrmAt _ _ _ (hrow (rb t) (⟨(16 - s) + p.val, _⟩ : Fin 1040)) (⟨(rb t).val / 4, _⟩ : Fin 4) k * _ = _
    rw [e1, e2]
    simp only [hj]

theorem G9_eq (c : Dev nD) : Value.G9 m c = out (xin m c) (gin m c) (mdl m c) (wts m c) (cws m c) (cbs m c) := by
  funext i
  obtain ⟨r, j, rfl⟩ : ∃ (r : Fin 16384) (j : Fin 5632), i = ix2 r j := ⟨i 0, i 1, ValueIdx.eq_ix2 i⟩
  have hp : Value.pt9Of (ix2 r j) = r.val / 1024 * 11 + j.val / 512 := by
    show 11 * (r.val / 1024 - 0) + 1 * (j.val / 512 - 0) = _
    omega
  have hlt : Value.pt9Of (ix2 r j) < cfg0.N := by
    rw [hp]; exact lt_of_lt_of_eq (b := 176) (by omega) (show cfg0.N = 176 from N_0).symm
  unfold Value.G9
  rw [dif_pos hlt, ← Value.outsAt0_sweep m c _ hlt, state]
  generalize ht : (⟨Value.pt9Of (ix2 r j), hlt⟩ : Fin cfg0.N) = t
  have ht' : t.val = r.val / 1024 * 11 + j.val / 512 := by rw [← ht]; exact hp
  have hN := lt176 t
  have hl : Value.loc9Of (ix2 r j) = ix2 (⟨r.val % 1024, by omega⟩ : Fin 1024) (⟨j.val % 512, by omega⟩ : Fin 512) := by
    funext a; match a with | ⟨0, _⟩ => rfl | ⟨1, _⟩ => rfl
  show (blockOut _ _ _ _ _ _ (Value.loc9Of (ix2 r j)) : EReal) = outAt _ _ _ _ _ _ r j
  rw [hl]
  have E := fun s hs => ext_blk m c t s hs (⟨r.val % 1024, by omega⟩ : Fin 1024) (⟨j.val % 512, by omega⟩ : Fin 512) r j
    (show r.val = t.val / 11 * 1024 + r.val % 1024 by omega) (show j.val = t.val % 11 * 512 + j.val % 512 by omega)
  have ej : (⟨t.val % 11 * 512 + j.val % 512, by omega⟩ : Fin 5632) = j := Fin.ext (show t.val % 11 * 512 + j.val % 512 = j.val by omega)
  unfold outAt
  rw [← E 2 (by omega), ← E 1 (by omega), ← E 0 (by omega)]
  show act ((iblk m c 7 t : FVec Ideal S1x3x512 .f32) (ix3 (0 : Fin 1) (0 : Fin 3) (⟨j.val % 512, _⟩ : Fin 512)))
    ((iblk m c 7 t : FVec Ideal S1x3x512 .f32) (ix3 (0 : Fin 1) (1 : Fin 3) (⟨j.val % 512, _⟩ : Fin 512)))
    ((iblk m c 7 t : FVec Ideal S1x3x512 .f32) (ix3 (0 : Fin 1) (2 : Fin 3) (⟨j.val % 512, _⟩ : Fin 512)))
    ((iblk m c 8 t : FVec Ideal S1x1x512 .f32) (ix3 (0 : Fin 1) (0 : Fin 1) (⟨j.val % 512, _⟩ : Fin 512)))
    (ext _ _ _ (⟨14 + r.val % 1024, _⟩ : Fin 1040) _) (ext _ _ _ (⟨15 + r.val % 1024, _⟩ : Fin 1040) _) (ext _ _ _ (⟨16 + r.val % 1024, _⟩ : Fin 1040) _)
    (∑ k : Fin 2048, hrows m c (rb t) (ix2 (⟨16 + r.val % 1024, _⟩ : Fin 1040) k)
      * (iblk m c 6 t : FVec Ideal S1x2048x512 .f32) (ix3 (0 : Fin 1) k (⟨j.val % 512, _⟩ : Fin 512))) = _
  rw [blk7, blk7, blk7, blk8, ej]
  congr 1
  refine Finset.sum_congr rfl fun k _ => ?_
  rw [blk6]
  have e1 : hrow (rb t) (⟨16 + r.val % 1024, by omega⟩ : Fin 1040) = r := by
    apply Fin.ext
    show (if 16 + r.val % 1024 < 16 then _ else t.val / 11 * 1024 + (16 + r.val % 1024 - 16)) = r.val
    rw [if_neg (by omega)]; omega
  have e2 : (⟨(rb t).val / 4, by omega⟩ : Fin 4) = ⟨r.val / 4096, by omega⟩ := Fin.ext (show t.val / 11 / 4 = r.val / 4096 by omega)
  have e3 : (⟨5632 + (t.val % 11 * 512 + j.val % 512), by omega⟩ : Fin 11264) = ⟨5632 + j.val, by omega⟩ :=
    Fin.ext (show 5632 + (t.val % 11 * 512 + j.val % 512) = 5632 + j.val by omega)
  show nrmAt _ _ _ (hrow (rb t) (⟨16 + r.val % 1024, _⟩ : Fin 1040)) (⟨(rb t).val / 4, _⟩ : Fin 4) k * wts m c (ix3 (0 : Fin 4) k (⟨5632 + (t.val % 11 * 512 + j.val % 512), _⟩ : Fin 11264)) = _
  rw [e1, e2, e3]

theorem run (ρ : Dev nD → PrngReg) : θ_run defs (onTc (τ := τ) (Cert.FfnUpIdeal.main (F := Ideal))) ⟨m, fun _ => 0, ρ⟩ fun r => ∀ c : Dev nD,
      r.2.mem ((c : Thread nD τ).loc main_v6) = out (xin m c) (gin m c) (mdl m c) (wts m c) (cws m c) (cbs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (G9_eq m c), (h c).2⟩) (Value.run m ρ)

end Fold

end Cert.FfnUpIdeal.Own

end
-- ==== Proof.FfnUpClaim.lean ====
module

public import proofs.«01_k».proof.Proof.FfnUpValue
public import Idealize.ShloMosaic.Lib.KernelVsHost

@[expose] public section
noncomputable section

namespace Cert.FfnUpRefIdeal.Own
open Cert.FfnUpRefIdeal Cert.FfnUpRefIdeal.Read Idealize.ShloMosaic Idealize.SL.Sem
open Cert.FfnUpIdeal.Own (nrm nrmAt gateAt outAt out act)

variable (x0 : FVec Ideal S4x4096x2048 .f32) (x1 : FVec Ideal S4x2048 .f32) (x2 : FVec Ideal S4x8x12288 .f32)
    (x3 : FVec Ideal S4x2048x11264 .f32) (x4 : FVec Ideal S4x3x5632 .f32) (x5 : FVec Ideal S4x5632 .f32)

/-- The reference's projection of row `r`, normalised and modulated. -/
theorem proj_eq (r : Fin 16384) (j : Fin 11264) :
    val_main_v33 (F := Ideal) x0 x1 x2 x3 (ix3 (⟨r.val / 4096, by omega⟩ : Fin 4) (⟨r.val % 4096, by omega⟩ : Fin 4096) j)
      = ∑ k : Fin 2048, nrmAt x0 x1 x2 r (⟨r.val / 4096, by omega⟩ : Fin 4) k * x3 (ix3 (0 : Fin 4) k j) := by
  unfold nrmAt nrm
  unfold val_main_v33 val_main_v32 val_main_v31 val_main_v30 val_main_v29 val_main_v28 val_main_v27 val_main_v26 val_main_v25 val_main_v24
    val_main_v23 val_main_v22 val_main_v21 val_main_v20 val_main_v19 val_main_v18 val_main_v17 val_main_v16 val_main_v15 val_main_v14
    val_main_v13 val_main_v12 val_main_v11 val_main_v10 val_main_v9 val_main_v8
    val_main_cst val_main_cst_0 val_main_cst_1 val_main_cst_2 val_main_v6 val_main_v5 val_main_v1 val_main_v0
  pointwise

theorem gate_eq (s : ℕ) (r : Fin 16384) (h : ¬ r.val % 4096 < s) (j : Fin 5632) :
    val_main_v34 (F := Ideal) x0 x1 x2 x3 (ix3 (⟨r.val / 4096, by omega⟩ : Fin 4) (⟨r.val % 4096 - s, by omega⟩ : Fin 4096) j)
      = gateAt x0 x1 x2 x3 s r j := by
  have e := proj_eq x0 x1 x2 x3 (⟨r.val - s, by omega⟩ : Fin 16384) (⟨j.val, by omega⟩ : Fin 11264)
  have d : (r.val - s) / 4096 = r.val / 4096 := by omega
  have d' : (r.val - s) % 4096 = r.val % 4096 - s := by omega
  simp only [d, d'] at e
  unfold gateAt
  rw [if_neg h, val_main_v34_apply]
  refine (congrArg _ ?_).trans e
  funext a; match a with | ⟨0, _⟩ => rfl | ⟨1, _⟩ => rfl | ⟨2, _⟩ => rfl

theorem zero_eq : val_main_call0_v0 (F := Ideal) (Shape.Idx.first Gen.h_S_) = (0 : EReal) := by
  show (((0#32 : BitVec 32).toInt : ℝ) : EReal) = 0
  simp

theorem zero_eq' : val_main_call1_v0 (F := Ideal) (Shape.Idx.first Gen.h_S_) = (0 : EReal) := by
  show (((0#32 : BitVec 32).toInt : ℝ) : EReal) = 0
  simp

/-- Two tokens back. -/
theorem back2_eq (r : Fin 16384) (j : Fin 5632) :
    val_main_v37 (F := Ideal) x0 x1 x2 x3 (ix3 (⟨r.val / 4096, by omega⟩ : Fin 4) (⟨r.val % 4096, by omega⟩ : Fin 4096) j)
      = gateAt x0 x1 x2 x3 2 r j := by
  unfold val_main_v37
  by_cases h : r.val % 4096 < 2
  · refine (pad_apply_of_not_inside _ _ _ _ _ _ _ _ (1 : Fin 3) (fun hh => ?_)).trans ?_
    · have : 2 ≤ r.val % 4096 := hh.1
      omega
    · unfold gateAt; rw [if_pos h]; exact zero_eq
  · rw [← gate_eq x0 x1 x2 x3 2 r h j]
    refine (pad_apply_of_inside _ _ _ _ _ _ _ _ (ix3 (⟨r.val / 4096, by omega⟩ : Fin 4) (⟨r.val % 4096 - 2, by omega⟩ : Fin 4094) j) (fun a => ?_)).trans ?_
    · match a with
      | ⟨0, _⟩ => show r.val / 4096 = 0 + r.val / 4096 * (0 + 1); omega
      | ⟨1, _⟩ => show r.val % 4096 = 2 + (r.val % 4096 - 2) * (0 + 1); omega
      | ⟨2, _⟩ => show j.val = 0 + j.val * (0 + 1); omega
    · rw [val_main_v36_apply]
      congr 1
      funext a; match a with | ⟨0, _⟩ => rfl | ⟨1, _⟩ => rfl | ⟨2, _⟩ => rfl

/-- One token back. -/
theorem back1_eq (r : Fin 16384) (j : Fin 5632) :
    val_main_v46 (F := Ideal) x0 x1 x2 x3 (ix3 (⟨r.val / 4096, by omega⟩ : Fin 4) (⟨r.val % 4096, by omega⟩ : Fin 4096) j)
      = gateAt x0 x1 x2 x3 1 r j := by
  unfold val_main_v46
  by_cases h : r.val % 4096 < 1
  · refine (pad_apply_of_not_inside _ _ _ _ _ _ _ _ (1 : Fin 3) (fun hh => ?_)).trans ?_
    · have : 1 ≤ r.val % 4096 := hh.1
      omega
    · unfold gateAt; rw [if_pos h]; exact zero_eq'
  · rw [← gate_eq x0 x1 x2 x3 1 r h j]
    refine (pad_apply_of_inside _ _ _ _ _ _ _ _ (ix3 (⟨r.val / 4096, by omega⟩ : Fin 4) (⟨r.val % 4096 - 1, by omega⟩ : Fin 4095) j) (fun a => ?_)).trans ?_
    · match a with
      | ⟨0, _⟩ => show r.val / 4096 = 0 + r.val / 4096 * (0 + 1); omega
      | ⟨1, _⟩ => show r.val % 4096 = 1 + (r.val % 4096 - 1) * (0 + 1); omega
      | ⟨2, _⟩ => show j.val = 0 + j.val * (0 + 1); omega
    · rw [val_main_v45_apply]
      congr 1
      funext a; match a with | ⟨0, _⟩ => rfl | ⟨1, _⟩ => rfl | ⟨2, _⟩ => rfl

theorem val_eq (r : Fin 16384) (j : Fin 5632) :
    val_main_v35 (F := Ideal) x0 x1 x2 x3 (ix3 (⟨r.val / 4096, by omega⟩ : Fin 4) (⟨r.val % 4096, by omega⟩ : Fin 4096) j)
      = ∑ k : Fin 2048, nrmAt x0 x1 x2 r (⟨r.val / 4096, by omega⟩ : Fin 4) k * x3 (ix3 (0 : Fin 4) k (⟨5632 + j.val, by omega⟩ : Fin 11264)) := by
  rw [val_main_v35_apply, ← proj_eq]
  congr 1
  funext a; match a with | ⟨0, _⟩ => rfl | ⟨1, _⟩ => rfl | ⟨2, _⟩ => rfl

theorem now_eq (r : Fin 16384) (j : Fin 5632) :
    val_main_v34 (F := Ideal) x0 x1 x2 x3 (ix3 (⟨r.val / 4096, by omega⟩ : Fin 4) (⟨r.val % 4096, by omega⟩ : Fin 4096) j)
      = gateAt x0 x1 x2 x3 0 r j := gate_eq x0 x1 x2 x3 0 r (by omega) j

/-- The reference's result is the layer's result. -/
theorem ref_eq : val_main_v67 (F := Ideal) x0 x1 x2 x3 x4 x5 = out x0 x1 x2 x3 x4 x5 := by
  funext i
  obtain ⟨r, j, rfl⟩ : ∃ (r : Fin 16384) (j : Fin 5632), i = ix2 r j := ⟨i 0, i 1, ValueIdx.eq_ix2 i⟩
  show _ = outAt x0 x1 x2 x3 x4 x5 r j
  unfold outAt act
  rw [← back2_eq, ← back1_eq, ← now_eq, ← val_eq]
  rw [mul_comm (x4 (ix3 (0 : Fin 4) (0 : Fin 3) j)), mul_comm (x4 (ix3 (0 : Fin 4) (1 : Fin 3) j)), mul_comm (x4 (ix3 (0 : Fin 4) (2 : Fin 3) j))]
  unfold Ideal.logistic
  unfold val_main_v67 val_main_v66 val_main_v65 val_main_v64 val_main_call2_v5 val_main_call2_v4 val_main_call2_v3 val_main_call2_v2
    val_main_call2_v1 val_main_call2_v0 val_main_call2_cst val_main_call2_cst_0 val_main_v63 val_main_v62 val_main_v61 val_main_v60 val_main_v59
    val_main_v58 val_main_v57 val_main_v56 val_main_v55 val_main_v54 val_main_v53 val_main_v52 val_main_v51 val_main_v50 val_main_v49
    val_main_v48 val_main_v47 val_main_v44 val_main_v43 val_main_cst_3 val_main_v42 val_main_v41 val_main_v40 val_main_v39 val_main_v38
  generalize val_main_v37 (F := Ideal) x0 x1 x2 x3 = b2
  generalize val_main_v46 (F := Ideal) x0 x1 x2 x3 = b1
  generalize val_main_v34 (F := Ideal) x0 x1 x2 x3 = b0
  generalize val_main_v35 (F := Ideal) x0 x1 x2 x3 = v
  pointwise

/-- The reference runs, leaves its arguments and counts nothing: it has no semaphore. -/
theorem quiet : Cert.quiescent_FfnUpRefIdeal := fun m ρ _ =>
  (θ_run _ _ _).mono (fun _ h => ⟨fun c => (h c).2, funext fun g => nomatch g.2⟩) (Value.run (F := Ideal) m ρ)

/-- The kernel and the reference end with the same rows. -/
theorem agree : Cert.algebraic_FfnUpIdeal_FfnUpRefIdeal := fun m ρ m' ρ' _ hag =>
  ⟨fun c => FfnUpIdeal.Own.out (FfnUpIdeal.Own.xin m c) (FfnUpIdeal.Own.gin m c) (FfnUpIdeal.Own.mdl m c)
      (FfnUpIdeal.Own.wts m c) (FfnUpIdeal.Own.cws m c) (FfnUpIdeal.Own.cbs m c),
    FfnUpIdeal.Own.run m ρ,
    (θ_run _ _ _).mono (fun _ h c => by
      obtain ⟨a0, a1, a2, a3, a4, a5⟩ := hag c
      refine ⟨((h c).1.trans (Read.val_main_v67_eq m' c)).trans ?_, (h c).2⟩
      rw [a0, a1, a2, a3, a4, a5]
      exact ref_eq _ _ _ _ _ _) (Value.run (F := Ideal) m' ρ')⟩

end Cert.FfnUpRefIdeal.Own

end
-- ==== Proof.FfnDownValue.lean ====
/-
  The down projection of a feed-forward layer: what the kernel's result array holds, read index by index, and that it is
  what the reference computes.
-/
module

public import proofs.«01_k».proof.Defs
public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pipeline.Value
public import Idealize.ShloMosaic.Lib.Pointwise

@[expose] public section

set_option maxRecDepth 16384

noncomputable section

namespace Cert.FfnDownIdeal.Own

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The activations, the weights, the residual and the modulation table as the run finds them. -/
abbrev act (c : Dev nD) : FVec Ideal S16384x5632 .bf16 := m ((c : Thread nD τ).loc main_arg0)
abbrev wts (c : Dev nD) : FVec Ideal S4x5632x2048 .f32 := m ((c : Thread nD τ).loc main_arg1)
abbrev res (c : Dev nD) : FVec Ideal S4x4096x2048 .f32 := m ((c : Thread nD τ).loc main_arg2)
abbrev mdl (c : Dev nD) : FVec Ideal S4x8x12288 .f32 := m ((c : Thread nD τ).loc main_arg3)

/-- The layer's result at row `r`, column `j`: the residual plus the gate times the row of activations against the column
    of weights. -/
def outAt (a : FVec Ideal S16384x5632 .bf16) (w : FVec Ideal S4x5632x2048 .f32) (x : FVec Ideal S4x4096x2048 .f32)
    (md : FVec Ideal S4x8x12288 .f32) (r : Fin 16384) (j : Fin 2048) : EReal :=
  x (ix3 (⟨r.val / 4096, by omega⟩ : Fin 4) (⟨r.val % 4096, by omega⟩ : Fin 4096) j)
    + md (ix3 (0 : Fin 4) (⟨r.val / 4096, by omega⟩ : Fin 8) (⟨10240 + j.val, by omega⟩ : Fin 12288))
      * ∑ k : Fin 5632, a (ix2 r k) * w (ix3 (0 : Fin 4) k j)

/-- … as an array. -/
def out (a : FVec Ideal S16384x5632 .bf16) (w : FVec Ideal S4x5632x2048 .f32) (x : FVec Ideal S4x4096x2048 .f32)
    (md : FVec Ideal S4x8x12288 .f32) : FVec Ideal S16384x2048 .f32 := fun i => outAt a w x md (i 0) (i 1)

theorem V_v0 (c : Dev nD) : V m c main_v0 = shapeCast S4x8x6x1x2048 (mdl m c) shapeCasts_S4x8x12288_S4x8x6x1x2048 := by
  show StableHlo.after hostOps0 _ (Proc.devRef .tc main_v0) = _
  after_results
  rfl
theorem V_v1 (c : Dev nD) : V m c main_v1 = wts m c := by
  show StableHlo.after hostOps0 _ (Proc.devRef .tc main_v1) = _
  after_results
  rfl
theorem V_v2 (c : Dev nD) : V m c main_v2 = shapeCast S16384x2048 (res m c) shapeCasts_S4x4096x2048_S16384x2048 := by
  show StableHlo.after hostOps0 _ (Proc.devRef .tc main_v2) = _
  after_results
  rfl

/-- The index maps over the grid. -/
theorem idx_facts : ∀ t : Fin cfg0.N, t.val < 64
    ∧ win0_0.index t 0 = t.val / 4 ∧ win0_0.index t 1 = 0
    ∧ win0_1.index t 0 = 0 ∧ win0_1.index t 1 = 0 ∧ win0_1.index t 2 = t.val % 4
    ∧ win0_2.index t 0 = t.val / 4 ∧ win0_2.index t 1 = t.val % 4
    ∧ win0_3.index t 0 = 0 ∧ win0_3.index t 1 = t.val / 16 ∧ win0_3.index t 2 = 5 ∧ win0_3.index t 3 = 0 ∧ win0_3.index t 4 = t.val % 4
    ∧ win0_4.index t 0 = t.val / 4 ∧ win0_4.index t 1 = t.val % 4 :=
  (by decide +kernel : ∀ t : Fin grid0.N, _)

theorem lt64 (t : Fin cfg0.N) : t.val < 64 := (idx_facts t).1

theorem blk0 (c : Dev nD) (t : Fin cfg0.N) (p : Fin 1024) (k : Fin 5632) :
    (iblk m c 0 t : FVec Ideal S1024x5632 .bf16) (ix2 p k)
      = act m c (ix2 (⟨t.val / 4 * 1024 + p.val, by have := lt64 t; omega⟩ : Fin 16384) k) := by
  obtain ⟨-, e0, e1, -⟩ := idx_facts t
  unfold iblk; rw [View.read_apply]
  show V m c main_arg0 _ = _
  rw [V_main_arg0]
  congr 1; funext a; apply Fin.ext
  match a with
  | ⟨0, _⟩ => show win0_0.index t 0 * 1024 + 1 * p.val = t.val / 4 * 1024 + p.val; rw [e0]; omega
  | ⟨1, _⟩ => show win0_0.index t 1 * 5632 + 1 * k.val = k.val; rw [e1]; omega

theorem blk1 (c : Dev nD) (t : Fin cfg0.N) (k : Fin 5632) (q : Fin 512) :
    (iblk m c 1 t : FVec Ideal S1x5632x512 .bf16) (ix3 (0 : Fin 1) k q)
      = wts m c (ix3 (0 : Fin 4) k (⟨t.val % 4 * 512 + q.val, by omega⟩ : Fin 2048)) := by
  obtain ⟨-, -, -, e0, e1, e2, -⟩ := idx_facts t
  unfold iblk; rw [View.read_apply]
  show V m c main_v1 _ = _
  rw [V_v1]
  congr 1; funext a; apply Fin.ext
  match a with
  | ⟨0, _⟩ => show win0_1.index t 0 * 1 + 1 * 0 = 0; rw [e0]
  | ⟨1, _⟩ => show win0_1.index t 1 * 5632 + 1 * k.val = k.val; rw [e1]; omega
  | ⟨2, _⟩ => show win0_1.index t 2 * 512 + 1 * q.val = t.val % 4 * 512 + q.val; rw [e2]; omega

theorem blk2 (c : Dev nD) (t : Fin cfg0.N) (p : Fin 1024) (q : Fin 512) :
    (iblk m c 2 t : FVec Ideal S1024x512 .f32) (ix2 p q)
      = res m c (ix3 (⟨t.val / 16, by have := lt64 t; omega⟩ : Fin 4) (⟨(t.val / 4 * 1024 + p.val) % 4096, by omega⟩ : Fin 4096)
          (⟨t.val % 4 * 512 + q.val, by omega⟩ : Fin 2048)) := by
  obtain ⟨hN, -, -, -, -, -, e0, e1, -⟩ := idx_facts t
  unfold iblk; rw [View.read_apply]
  show V m c main_v2 _ = _
  rw [V_v2]
  refine shapeCast_apply _ _ _ _ ?_
  rw [Shape.rowMajor_val_three, Shape.rowMajor_val_two]
  show (t.val / 16 * 4096 + (t.val / 4 * 1024 + p.val) % 4096) * 2048 + (t.val % 4 * 512 + q.val)
    = (win0_2.index t 0 * 1024 + 1 * p.val) * 2048 + (win0_2.index t 1 * 512 + 1 * q.val)
  rw [e0, e1]; omega

theorem blk3 (c : Dev nD) (t : Fin cfg0.N) (q : Fin 512) :
    (iblk m c 3 t : FVec Ideal S1x1x1x1x512 .f32) (ix5 (0 : Fin 1) (0 : Fin 1) (0 : Fin 1) (0 : Fin 1) q)
      = mdl m c (ix3 (0 : Fin 4) (⟨t.val / 16, by have := lt64 t; omega⟩ : Fin 8)
          (⟨10240 + (t.val % 4 * 512 + q.val), by omega⟩ : Fin 12288)) := by
  obtain ⟨hN, -, -, -, -, -, -, -, e0, e1, e2, e3, e4, -⟩ := idx_facts t
  unfold iblk; rw [View.read_apply]
  show V m c main_v0 _ = _
  rw [V_v0]
  refine shapeCast_apply _ _ _ _ ?_
  rw [Shape.rowMajor_val_three, Shape.rowMajor_val_five]
  show (0 * 8 + t.val / 16) * 12288 + (10240 + (t.val % 4 * 512 + q.val))
    = ((((win0_3.index t 0 * 1 + 1 * 0) * 8 + (win0_3.index t 1 * 1 + 1 * 0)) * 6 + (win0_3.index t 2 * 1 + 1 * 0)) * 1
        + (win0_3.index t 3 * 1 + 1 * 0)) * 2048 + (win0_3.index t 4 * 512 + 1 * q.val)
  rw [e0, e1, e2, e3, e4]; omega

/-- The body's arithmetic at an index. -/
theorem pay_apply (x0 : FVec Ideal S1024x5632 .bf16) (x1 : FVec Ideal S1x5632x512 .bf16) (x2 : FVec Ideal S1024x512 .f32)
    (x3 : FVec Ideal S1x1x1x1x512 .f32) (p : Fin 1024) (q : Fin 512) :
    k0_pay1 x0 x1 x2 x3 (ix2 p q) = x2 (ix2 p q) + x3 (ix5 (0 : Fin 1) (0 : Fin 1) (0 : Fin 1) (0 : Fin 1) q)
      * ∑ k : Fin 5632, x0 (ix2 p k) * x1 (ix3 (0 : Fin 1) k q) := by
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- What point `t` writes back is its block of the layer's result. -/
theorem flushed_eq (c : Dev nD) (t : Fin cfg0.N) :
    (dats m 0 c).flushed 4 t = (win0_4.blk t).view.read (Elt Ideal) (out (act m c) (wts m c) (res m c) (mdl m c)) := by
  obtain ⟨hN, -, -, -, -, -, -, -, -, -, -, -, -, e0, e1⟩ := idx_facts t
  rw [Value.flushed4]
  unfold out0_4
  rw [View.canon_unit_zero hz2, View.ld_unit_zero hz2, View.ld_unit_zero hz3, View.ld_unit_zero hz2, View.ld_unit_zero hz5]
  funext j
  obtain ⟨p, q, rfl⟩ : ∃ (p : Fin 1024) (q : Fin 512), j = ix2 p q := ⟨j 0, j 1, ValueIdx.eq_ix2 j⟩
  show k0_pay1 (F := Ideal) (iblk m c 0 t) (iblk m c 1 t) (iblk m c 2 t) (iblk m c 3 t) (ix2 p q) = _
  rw [pay_apply, blk2, blk3]
  simp only [blk0, blk1]
  show _ = out (act m c) (wts m c) (res m c) (mdl m c) ((win0_4.blk t).view.emb (ix2 p q))
  have hj : (win0_4.blk t).view.emb (ix2 p q) = ix2 (⟨t.val / 4 * 1024 + p.val, by omega⟩ : Fin 16384) (⟨t.val % 4 * 512 + q.val, by omega⟩ : Fin 2048) := by
    funext a; apply Fin.ext
    match a with
    | ⟨0, _⟩ => show win0_4.index t 0 * 1024 + 1 * p.val = t.val / 4 * 1024 + p.val; rw [e0]; omega
    | ⟨1, _⟩ => show win0_4.index t 1 * 512 + 1 * q.val = t.val % 4 * 512 + q.val; rw [e1]; omega
  rw [hj]
  have h4 : (t.val / 4 * 1024 + p.val) / 4096 = t.val / 16 := by omega
  show _ = outAt (act m c) (wts m c) (res m c) (mdl m c) ⟨t.val / 4 * 1024 + p.val, _⟩ ⟨t.val % 4 * 512 + q.val, _⟩
  unfold outAt
  simp only [h4]

theorem mem_blk (t : Fin cfg0.N) (i : S16384x2048.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v3).slice (win0_4.rect t)).set ↔ _
  rw [View.set_slice_whole, Rect.mem_set_unit]
  exact Iff.rfl

/-- Every index of the result lies in some point's block. -/
theorem cover (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  refine ⟨⟨(i 0).val / 1024 * 4 + (i 1).val / 512, lt_of_lt_of_eq (b := 64) (by omega) N_0.symm⟩, flush0_4 _, ?_⟩
  rw [mem_blk]
  obtain ⟨-, -, -, -, -, -, -, -, -, -, -, -, -, e0, e1⟩ :=
    idx_facts ⟨(i 0).val / 1024 * 4 + (i 1).val / 512, lt_of_lt_of_eq (b := 64) (by omega) N_0.symm⟩
  intro a
  match a with
  | ⟨0, _⟩ =>
    show win0_4.index _ 0 * 1024 ≤ (i 0).val ∧ (i 0).val < win0_4.index _ 0 * 1024 + 1024
    rw [e0]; dsimp only; omega
  | ⟨1, _⟩ =>
    show win0_4.index _ 1 * 512 ≤ (i 1).val ∧ (i 1).val < win0_4.index _ 1 * 512 + 512
    rw [e1]; dsimp only; omega

theorem final (c : Dev nD) : (dats m 0 c).arrAt 4 cfg0.N = out (act m c) (wts m c) (res m c) (mdl m c) :=
  (dats m 0 c).arrAt_eq_of_cover 4 _ (fun t _ => flushed_eq m c t) cover

theorem run : θ_run defs (onTc (τ := τ) (main (F := Ideal))) ⟨m, fun _ => 0, ρ⟩ fun r => ∀ c : Dev nD,
      r.2.mem ((c : Thread nD τ).loc main_v3) = out (act m c) (wts m c) (res m c) (mdl m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.FfnDownIdeal.Own

namespace Cert.FfnDownRefIdeal.Own

open Cert.FfnDownRefIdeal Idealize.ShloMosaic

/-- The reference's result is the layer's result. -/
theorem ref_eq (x0 : FVec Ideal S16384x5632 .bf16) (x1 : FVec Ideal S4x5632x2048 .f32) (x2 : FVec Ideal S4x4096x2048 .f32)
    (x3 : FVec Ideal S4x8x12288 .f32) : Read.val_main_v17 (F := Ideal) x0 x1 x2 x3 = Cert.FfnDownIdeal.Own.out x0 x1 x2 x3 := by
  funext i
  obtain ⟨r, j, rfl⟩ : ∃ (r : Fin 16384) (j : Fin 2048), i = ix2 r j := ⟨i 0, i 1, ValueIdx.eq_ix2 i⟩
  rw [← Read.val_main_v17_eq]
  unfold Cert.FfnDownIdeal.Own.out Cert.FfnDownIdeal.Own.outAt
  pointwise

end Cert.FfnDownRefIdeal.Own

end
-- ==== Proof.FfnDownClaim.lean ====
module

public import proofs.«01_k».proof.Proof.FfnDownValue

@[expose] public section

noncomputable section

namespace Cert.FfnDownRefIdeal.Own

open Idealize.ShloMosaic Idealize.SL.Sem Cert.FfnDownRefIdeal

/-- The reference runs, leaves its arguments and counts nothing: it has no semaphore. -/
theorem quiet : Cert.quiescent_FfnDownRefIdeal := fun m ρ _ =>
  (θ_run _ _ _).mono (fun _ h => ⟨fun c => (h c).2, funext fun g => nomatch g.2⟩) (Value.run (F := Ideal) m ρ)

/-- The kernel and the reference end with the same rows. -/
theorem agree : Cert.algebraic_FfnDownIdeal_FfnDownRefIdeal := fun m ρ m' ρ' _ hag =>
  ⟨fun c => FfnDownIdeal.Own.out (FfnDownIdeal.Own.act m c) (FfnDownIdeal.Own.wts m c) (FfnDownIdeal.Own.res m c)
      (FfnDownIdeal.Own.mdl m c),
    FfnDownIdeal.Own.run m ρ,
    (θ_run _ _ _).mono (fun _ h c => by
      obtain ⟨a0, a1, a2, a3⟩ := hag c
      refine ⟨(h c).1.trans ?_, (h c).2⟩
      rw [a0, a1, a2, a3]
      exact (Read.val_main_v17_eq _ _ _ _).trans (ref_eq _ _ _ _)) (Value.run (F := Ideal) m' ρ')⟩

end Cert.FfnDownRefIdeal.Own

end
-- ==== Proof.RetInValue.lean ====
module

public import proofs.«01_k».proof.Defs
public import proofs.«01_k».proof.Proof.Gen.RetInIdeal.Value
public import proofs.«01_k».proof.Proof.Gen.RetInRefIdeal.Run
public import proofs.«01_k».proof.Proof.Gen.RetInRefIdeal.Read
public import Idealize.ShloMosaic.Lib.Pipeline.Value
public import Idealize.ShloMosaic.Lib.Pointwise
public import Idealize.ShloMosaic.Lib.VecWindow
public import Idealize.ShloMosaic.Lib.WholeRead

@[expose] public section

set_option maxRecDepth 16384

noncomputable section

namespace Cert.RetInIdeal.Own

open Cert.RetInIdeal Cert.RetInIdeal.Gen Idealize.ShloMosaic Idealize.ShloMosaic.TcCoe Idealize.SL.Sem
open Idealize.ShloMosaic.Pipeline (Dat)

variable (c : Dev nD) (i : grid0.Coords) (a2 : Memref sig .tc .vmem S1024x2048 .f32) (h2 : a2.IsWhole) (a3 : Memref sig .tc .vmem S1x2048 .f32) (h3 : a3.IsWhole) (a4 : Memref sig .tc .vmem S1x1x1x1x2048 .f32) (h4 : a4.IsWhole) (a5 : Memref sig .tc .vmem S1x1x1x1x2048 .f32) (h5 : a5.IsWhole) (a6 : Memref sig .tc .vmem S1x2048x1024 .f32) (h6 : a6.IsWhole) (a7 : Memref sig .tc .vmem S1024x1024 .bf16) (h7 : a7.IsWhole) (a8 : Memref sig .tc .vmem S1024x2048 .bf16) (h8 : a8.IsWhole) (hc0 : cond0_0 i) (x0 : Vec Ideal S1024x2048 .f32) (x1 : Vec Ideal S1x2048 .f32) (x2 : Vec Ideal S1x1x1x1x2048 .f32) (x3 : Vec Ideal S1x1x1x1x2048 .f32) (x4 : Vec Ideal S1x2048x1024 .f32)

/-- One normalised and modulated entry of a row: `x · rsqrt(mean x² + ε) · g · (1 + sc) + sh`. -/
def nrm (x g sc sh : Fin 2048 → EReal) (k : Fin 2048) : EReal :=
  x k * Ideal.rsqrt (Ideal.div (∑ j, x j * x j) (Ideal.ofBits FTy.f32 1157627904#32) + Ideal.ofBits FTy.f32 897988541#32)
    * g k * (1 + sc k) + sh k

/-- The normalised rows of a block. -/
def rows : Vec Ideal S1024x2048 .bf16 := fun y =>
  nrm (fun k => x0 (ix2 (y 0) k)) (fun k => x1 (ix2 0 k)) (fun k => x3 (ix5 0 0 0 0 k)) (fun k => x2 (ix5 0 0 0 0 k)) (y 1)

/-- A load of a whole buffer reads what the buffer was given. -/
theorem load_whole {s : Shape} {e : EltTy} {a : Memref sig .tc .vmem s e} (h : a.IsWhole) (X : s.Idx → Elt Ideal e)
    {off : Fin s.rank → ℕ} (inb : ∀ a, off a + s.size a ≤ s.size a) :
    View.readAt (Elt Ideal) a.view (Rect.unit off s.size inb).toLoadRect (h.unread X) = X :=
  (View.readAt_full _ _ inb).trans (h.read_unread X)

/-- A load of sixteen rows reads them. -/
theorem load_rows (o : ℕ) (inb : ∀ a, (![o, 0] : Fin 2 → ℕ) a + S16x2048.size a ≤ S1024x2048.size a) (ho : o + 16 ≤ 1024)
    (r : Fin 16) (k : Fin 2048) :
    View.readAt (Elt Ideal) a2.view (Rect.unit (s := S1024x2048) ![o, 0] S16x2048.size inb).toLoadRect (h2.unread x0) (ix2 r k)
      = x0 (ix2 (⟨o + r.val, by omega⟩ : Fin 1024) k) := by
  rw [h2.readAt_unread]
  congr 1; funext a; apply Fin.ext
  match a with
  | ⟨0, _⟩ => show o + 1 * r.val = o + r.val; omega
  | ⟨1, _⟩ => show 0 + 1 * k.val = k.val; omega

/-- Sixteen rows of the block, normalised, are those rows of the normalised block. -/
theorem rowPiece (o : ℕ) (inb : ∀ a, (![o, 0] : Fin 2 → ℕ) a + S16x2048.size a ≤ S1024x2048.size a) (x : S16x2048.Idx) :
    k0_pay51 (kernelRun0_A.sl.r c a3 h3 x1) (kernelRun0_A.sl.r_1 c a4 h4 x2) (kernelRun0_A.sl.r_2 c a5 h5 x3)
      (View.readAt (Elt Ideal) a2.view (Rect.unit (s := S1024x2048) ![o, 0] S16x2048.size inb).toLoadRect (h2.unread x0)) x
      = rows x0 x1 x2 x3 ((Rect.unit (s := S1024x2048) ![o, 0] S16x2048.size inb).emb x) := by
  obtain ⟨r, k, rfl⟩ : ∃ (r : Fin 16) (k : Fin 2048), x = ix2 r k := ⟨x 0, x 1, ValueIdx.eq_ix2 x⟩
  have ho : o + 16 ≤ 1024 := inb 0
  have he : (Rect.unit (s := S1024x2048) ![o, 0] S16x2048.size inb).emb (ix2 r k)
      = ix2 (⟨o + r.val, by omega⟩ : Fin 1024) k := by
    funext a; apply Fin.ext
    match a with
    | ⟨0, _⟩ => show o + 1 * r.val = o + r.val; omega
    | ⟨1, _⟩ => show 0 + 1 * k.val = k.val; omega
  rw [he]
  unfold kernelRun0_A.sl.r kernelRun0_A.sl.r_1 kernelRun0_A.sl.r_2
  rw [load_whole (s := S1x2048) h3, load_whole (s := S1x1x1x1x2048) h4, load_whole (s := S1x1x1x1x2048) h5]
  have hv := load_rows a2 h2 x0 o inb ho
  generalize View.readAt (Elt Ideal) a2.view (Rect.unit (s := S1024x2048) ![o, 0] S16x2048.size inb).toLoadRect (h2.unread x0) = v at hv
  show _ = nrm (fun k => x0 (ix2 (⟨o + r.val, _⟩ : Fin 1024) k)) _ _ _ k
  unfold nrm
  simp only [← hv]
  pointwise [k0_pay51, k0_pay3, k0_pay4, k0_pay5]

theorem rowPieces : ∀ pc ∈ kernelRun0_A.sl.HS0_64 (F := Ideal) c a2 h2 a3 h3 a4 h4 a5 h5 x0 x1 x2 x3, ∀ x : pc.1.shape.Idx,
    pc.2 x = rows x0 x1 x2 x3 (pc.1.emb x) := by
  unfold kernelRun0_A.sl.HS0_64
  repeat' refine List.forall_mem_cons.2 ⟨?_, ?_⟩
  all_goals first
    | exact fun x => rowPiece c a2 h2 a3 h3 a4 h4 a5 h5 x0 x1 x2 x3 _ _ x
    | exact fun _ h => absurd h List.not_mem_nil
    | exact fun x => rowPiece c a2 h2 a3 h3 a4 h4 a5 h5 x0 x1 x2 x3 0 inb_S1024x2048_S16x2048_0_0 x

theorem sout_A : sout0_A_0 (F := Ideal) c i a2 h2 a3 h3 a4 h4 a5 h5 a6 h6 a7 h7 a8 h8 hc0 x0 x1 x2 x3 x4 = rows x0 x1 x2 x3 := by
  funext y
  exact View.read_writes_apply_of_pieces _ _ _ _ (rowPieces c a2 h2 a3 h3 a4 h4 a5 h5 x0 x1 x2 x3) y
    (scover0_A_0 c i a2 h2 a3 h3 a4 h4 a5 h5 a6 h6 a7 h7 a8 h8 hc0 x0 x1 x2 x3 x4 y)

theorem out_A : out0_A_5 (F := Ideal) c i a2 h2 a3 h3 a4 h4 a5 h5 a6 h6 a7 h7 a8 h8 hc0 x0 x1 x2 x3 x4
    = k0_pay2 (rows x0 x1 x2 x3) x4 := by
  unfold out0_A_5 kernelRun0_A
  dsimp only
  unfold kernelRun0_A.sl.v3
  refine (View.read_writes_full (s := S1024x1024) _ _ _ _ _).trans ?_
  refine congrArg₂ k0_pay2 ?_ (load_whole (s := S1x2048x1024) h6 x4 _)
  refine (View.readAt_full (s := S1024x2048) _ _ _).trans ?_
  funext y
  exact View.read_writes_apply_of_pieces _ _ _ _ (rowPieces c a2 h2 a3 h3 a4 h4 a5 h5 x0 x1 x2 x3) y
    (scover0_A_0 c i a2 h2 a3 h3 a4 h4 a5 h5 a6 h6 a7 h7 a8 h8 hc0 x0 x1 x2 x3 x4 y)

theorem out_B (hb : ¬ cond0_0 i) (xs : Vec Ideal S1024x2048 .bf16) :
    out0_B_5 (F := Ideal) c i a2 h2 a3 h3 a4 h4 a5 h5 a6 h6 a7 h7 a8 h8 hb x0 x1 x2 x3 x4 xs = k0_pay2 xs x4 := by
  unfold out0_B_5 kernelRun0_B
  dsimp only
  refine (View.read_writes_full (s := S1024x1024) _ _ _ _ _).trans ?_
  exact congrArg₂ k0_pay2 (load_whole (s := S1024x2048) h8 xs _) (load_whole (s := S1x2048x1024) h6 x4 _)

theorem sout_B (hb : ¬ cond0_0 i) (xs : Vec Ideal S1024x2048 .bf16) :
    sout0_B_0 (F := Ideal) c i a2 h2 a3 h3 a4 h4 a5 h5 a6 h6 a7 h7 a8 h8 hb x0 x1 x2 x3 x4 xs = xs := rfl

section Fold

variable (m : (ℓ : Loc nD τ sig) → Buf (Elt Ideal) ℓ)

abbrev xin (c : Dev nD) : FVec Ideal S4x4096x2048 .f32 := m ((c : Thread nD τ).loc main_arg0)
abbrev gin (c : Dev nD) : FVec Ideal S4x2048 .f32 := m ((c : Thread nD τ).loc main_arg1)
abbrev mdl (c : Dev nD) : FVec Ideal S4x8x12288 .f32 := m ((c : Thread nD τ).loc main_arg2)
abbrev wts (c : Dev nD) : FVec Ideal S2x2048x12288 .f32 := m ((c : Thread nD τ).loc main_arg3)

theorem idx_facts : ∀ t : Fin cfg0.N, (win0_0.index t 0 = t.val / 12 ∧ win0_0.index t 1 = 0)
    ∧ (win0_1.index t 0 = 0 ∧ win0_1.index t 1 = 0)
    ∧ (win0_2.index t 0 = 0 ∧ win0_2.index t 1 = t.val / 48 ∧ win0_2.index t 2 = 0 ∧ win0_2.index t 3 = 0 ∧ win0_2.index t 4 = 0)
    ∧ (win0_3.index t 0 = 0 ∧ win0_3.index t 1 = t.val / 48 ∧ win0_3.index t 2 = 1 ∧ win0_3.index t 3 = 0 ∧ win0_3.index t 4 = 0)
    ∧ (win0_4.index t 0 = 0 ∧ win0_4.index t 1 = 0 ∧ win0_4.index t 2 = t.val % 12) :=
  (by decide +kernel : ∀ t : Fin grid0.N, _)

theorem lt192 (t : Fin cfg0.N) : t.val < 192 := lt_of_lt_of_eq t.isLt (show cfg0.N = 192 from N_0)

/-- The block of rows a point works on. -/
def rb (t : Fin cfg0.N) : Fin 16 := ⟨t.val / 12, by have := lt192 t; omega⟩

/-- Row `r` of the layer's input, normalised and modulated. -/
def nrmAt (x : FVec Ideal S4x4096x2048 .f32) (g : FVec Ideal S4x2048 .f32) (md : FVec Ideal S4x8x12288 .f32) (r : Fin 16384)
    (k : Fin 2048) : EReal :=
  nrm (fun k => x (ix3 (⟨r.val / 4096, by omega⟩ : Fin 4) (⟨r.val % 4096, by omega⟩ : Fin 4096) k)) (fun k => g (ix2 (0 : Fin 4) k))
    (fun k => md (ix3 (0 : Fin 4) (⟨r.val / 4096, by omega⟩ : Fin 8) (⟨2048 + k.val, by omega⟩ : Fin 12288)))
    (fun k => md (ix3 (0 : Fin 4) (⟨r.val / 4096, by omega⟩ : Fin 8) (⟨k.val, by omega⟩ : Fin 12288))) k

/-- The layer's result at row `r`, column `j`. -/
def outAt (x : FVec Ideal S4x4096x2048 .f32) (g : FVec Ideal S4x2048 .f32) (md : FVec Ideal S4x8x12288 .f32)
    (w : FVec Ideal S2x2048x12288 .f32) (r : Fin 16384) (j : Fin 12288) : EReal :=
  ∑ k : Fin 2048, nrmAt x g md r k * w (ix3 (0 : Fin 2) k j)

/-- … as an array. -/
def out (x : FVec Ideal S4x4096x2048 .f32) (g : FVec Ideal S4x2048 .f32) (md : FVec Ideal S4x8x12288 .f32)
    (w : FVec Ideal S2x2048x12288 .f32) : FVec Ideal S16384x12288 .bf16 := fun i => outAt x g md w (i 0) (i 1)

theorem V_v0 (c : Dev nD) : V m c main_v0 = shapeCast S4x8x6x1x2048 (mdl m c) shapeCasts_S4x8x12288_S4x8x6x1x2048 := by
  show StableHlo.after hostOps0 _ (Proc.devRef .tc main_v0) = _
  after_results
  rfl
theorem V_v1 (c : Dev nD) : V m c main_v1 = shapeCast S16384x2048 (xin m c) shapeCasts_S4x4096x2048_S16384x2048 := by
  show StableHlo.after hostOps0 _ (Proc.devRef .tc main_v1) = _
  after_results
  rfl
theorem V_v4 (c : Dev nD) : V m c main_v4 = shapeCast S1x2048 (shapeCast S2048 (extractStridedSlice S1x2048 ![0, 0] (gin m c) slices_S4x2048_S1x2048_0_0)
    shapeCasts_S1x2048_S2048) shapeCasts_S2048_S1x2048 := by
  show StableHlo.after hostOps0 _ (Proc.devRef .tc main_v4) = _
  after_results
  rfl

theorem blk0 (c : Dev nD) (t : Fin cfg0.N) (p : Fin 1024) (k : Fin 2048) :
    (iblk m c 0 t : FVec Ideal S1024x2048 .f32) (ix2 p k)
      = xin m c (ix3 (⟨((rb t).val * 1024 + p.val) / 4096, by omega⟩ : Fin 4) (⟨((rb t).val * 1024 + p.val) % 4096, by omega⟩ : Fin 4096) k) := by
  have hN := lt192 t
  obtain ⟨⟨e0, e1⟩, -⟩ := idx_facts t
  unfold iblk; rw [View.read_apply]
  show V m c main_v1 _ = _
  rw [V_v1]
  refine shapeCast_apply _ _ _ _ ?_
  rw [Shape.rowMajor_val_three, Shape.rowMajor_val_two]
  show ((t.val / 12 * 1024 + p.val) / 4096 * 4096 + (t.val / 12 * 1024 + p.val) % 4096) * 2048 + k.val
    = (win0_0.index t 0 * 1024 + 1 * p.val) * 2048 + (win0_0.index t 1 * 2048 + 1 * k.val)
  rw [e0, e1]; omega

theorem blk1 (c : Dev nD) (t : Fin cfg0.N) (k : Fin 2048) :
    (iblk m c 1 t : FVec Ideal S1x2048 .f32) (ix2 (0 : Fin 1) k) = gin m c (ix2 (0 : Fin 4) k) := by
  obtain ⟨-, ⟨e0, e1⟩, -⟩ := idx_facts t
  unfold iblk; rw [View.read_apply]
  show V m c main_v4 _ = _
  rw [V_v4]
  have hj : ((win0 1).blk t).view.emb (ix2 (0 : Fin 1) k) = ix2 (0 : Fin 1) k := by
    funext a; apply Fin.ext
    match a with
    | ⟨0, _⟩ => show win0_1.index t 0 * 1 + 1 * 0 = 0; rw [e0]
    | ⟨1, _⟩ => show win0_1.index t 1 * 2048 + 1 * k.val = k.val; rw [e1]; omega
  refine (congrArg _ hj).trans ?_
  pointwise

theorem blk2 (c : Dev nD) (t : Fin cfg0.N) (p : Fin 1024) (q : Fin 2048) :
    (iblk m c 2 t : FVec Ideal S1x1x1x1x2048 .f32) (ix5 (0 : Fin 1) (0 : Fin 1) (0 : Fin 1) (0 : Fin 1) q)
      = mdl m c (ix3 (0 : Fin 4) (⟨((rb t).val * 1024 + p.val) / 4096, by omega⟩ : Fin 8) (⟨q.val, by omega⟩ : Fin 12288)) := by
  have hN := lt192 t
  obtain ⟨-, -, ⟨e0, e1, e2, e3, e4⟩, -⟩ := idx_facts t
  unfold iblk; rw [View.read_apply]
  show V m c main_v0 _ = _
  rw [V_v0]
  refine shapeCast_apply _ _ _ _ ?_
  rw [Shape.rowMajor_val_three, Shape.rowMajor_val_five]
  show (0 * 8 + (t.val / 12 * 1024 + p.val) / 4096) * 12288 + q.val
    = ((((win0_2.index t 0 * 1 + 1 * 0) * 8 + (win0_2.index t 1 * 1 + 1 * 0)) * 6 + (win0_2.index t 2 * 1 + 1 * 0)) * 1
        + (win0_2.index t 3 * 1 + 1 * 0)) * 2048 + (win0_2.index t 4 * 2048 + 1 * q.val)
  rw [e0, e1, e2, e3, e4]; omega

theorem blk3 (c : Dev nD) (t : Fin cfg0.N) (p : Fin 1024) (q : Fin 2048) :
    (iblk m c 3 t : FVec Ideal S1x1x1x1x2048 .f32) (ix5 (0 : Fin 1) (0 : Fin 1) (0 : Fin 1) (0 : Fin 1) q)
      = mdl m c (ix3 (0 : Fin 4) (⟨((rb t).val * 1024 + p.val) / 4096, by omega⟩ : Fin 8) (⟨2048 + q.val, by omega⟩ : Fin 12288)) := by
  have hN := lt192 t
  obtain ⟨-, -, -, ⟨e0, e1, e2, e3, e4⟩, -⟩ := idx_facts t
  unfold iblk; rw [View.read_apply]
  show V m c main_v0 _ = _
  rw [V_v0]
  refine shapeCast_apply _ _ _ _ ?_
  rw [Shape.rowMajor_val_three, Shape.rowMajor_val_five]
  show (0 * 8 + (t.val / 12 * 1024 + p.val) / 4096) * 12288 + (2048 + q.val)
    = ((((win0_3.index t 0 * 1 + 1 * 0) * 8 + (win0_3.index t 1 * 1 + 1 * 0)) * 6 + (win0_3.index t 2 * 1 + 1 * 0)) * 1
        + (win0_3.index t 3 * 1 + 1 * 0)) * 2048 + (win0_3.index t 4 * 2048 + 1 * q.val)
  rw [e0, e1, e2, e3, e4]; omega

theorem blk4 (c : Dev nD) (t : Fin cfg0.N) (k : Fin 2048) (q : Fin 1024) :
    (iblk m c 4 t : FVec Ideal S1x2048x1024 .f32) (ix3 (0 : Fin 1) k q)
      = wts m c (ix3 (0 : Fin 2) k (⟨t.val % 12 * 1024 + q.val, by omega⟩ : Fin 12288)) := by
  obtain ⟨-, -, -, -, e0, e1, e2⟩ := idx_facts t
  unfold iblk; rw [View.read_apply]
  show V m c main_arg3 _ = _
  rw [V_main_arg3]
  congr 1; funext a; apply Fin.ext
  match a with
  | ⟨0, _⟩ => show win0_4.index t 0 * 1 + 1 * 0 = 0; rw [e0]
  | ⟨1, _⟩ => show win0_4.index t 1 * 2048 + 1 * k.val = k.val; rw [e1]; omega
  | ⟨2, _⟩ => show win0_4.index t 2 * 1024 + 1 * q.val = t.val % 12 * 1024 + q.val; rw [e2]; omega

/-- The normalised rows of block `b`. -/
def hrows (c : Dev nD) (b : Fin 16) : Vec Ideal S1024x2048 .bf16 := fun y =>
  nrmAt (xin m c) (gin m c) (mdl m c) ⟨b.val * 1024 + (y 0).val, by have : (y 0).val < 1024 := (y 0).isLt; omega⟩ (y 1)

theorem rows_blk (c : Dev nD) (t : Fin cfg0.N) :
    rows (iblk m c 0 t) (iblk m c 1 t) (iblk m c 2 t) (iblk m c 3 t) = hrows m c (rb t) := by
  funext y
  obtain ⟨p, q, rfl⟩ : ∃ (p : Fin 1024) (q : Fin 2048), y = ix2 p q := ⟨y 0, y 1, ValueIdx.eq_ix2 y⟩
  show nrm (fun k => (iblk m c 0 t : FVec Ideal S1024x2048 .f32) (ix2 p k)) (fun k => (iblk m c 1 t : FVec Ideal S1x2048 .f32) (ix2 (0 : Fin 1) k))
    (fun k => (iblk m c 3 t : FVec Ideal S1x1x1x1x2048 .f32) (ix5 (0 : Fin 1) (0 : Fin 1) (0 : Fin 1) (0 : Fin 1) k))
    (fun k => (iblk m c 2 t : FVec Ideal S1x1x1x1x2048 .f32) (ix5 (0 : Fin 1) (0 : Fin 1) (0 : Fin 1) (0 : Fin 1) k)) q = _
  simp only [blk0, blk1, blk2 m c t p, blk3 m c t p]
  rfl

/-- What the run holds after a point: its block of the result, and the rows the block of points shares. -/
theorem state (c : Dev nD) : ∀ (n : ℕ) (hn : n < cfg0.N),
    outsAt0 m c n hn = (k0_pay2 (hrows m c (rb ⟨n, hn⟩)) (iblk m c 4 ⟨n, hn⟩), hrows m c (rb ⟨n, hn⟩)) := by
  intro n
  induction n with
  | zero =>
    intro hn
    refine (outsAt0_A m c ⟨0, hn⟩ rfl).trans ?_
    rw [out_A, sout_A, rows_blk]
  | succ n ih =>
    intro hn
    by_cases h : (n + 1) % 12 = 0
    · refine (outsAt0_A m c ⟨n + 1, hn⟩ h).trans ?_
      rw [out_A, sout_A, rows_blk]
    · refine (outsAt0_B m c ⟨n + 1, hn⟩ h).trans ?_
      rw [out_B, sout_B]
      show (k0_pay2 (outsAt0 m c n _).2 _, (outsAt0 m c n _).2) = _
      rw [ih (Nat.lt_of_succ_lt hn)]
      have e : rb ⟨n, Nat.lt_of_succ_lt hn⟩ = rb ⟨n + 1, hn⟩ := Fin.ext (show n / 12 = (n + 1) / 12 by omega)
      simp only [e]

theorem pay2_apply (x : Vec Ideal S1024x2048 .bf16) (w : Vec Ideal S1x2048x1024 .f32) (p : Fin 1024) (q : Fin 1024) :
    k0_pay2 x w (ix2 p q) = ∑ k : Fin 2048, x (ix2 p k) * w (ix3 (0 : Fin 1) k q) := by
  pointwise [k0_pay2]

theorem G5_eq (c : Dev nD) : Value.G5 m c = out (xin m c) (gin m c) (mdl m c) (wts m c) := by
  funext i
  obtain ⟨r, j, rfl⟩ : ∃ (r : Fin 16384) (j : Fin 12288), i = ix2 r j := ⟨i 0, i 1, ValueIdx.eq_ix2 i⟩
  have hp : Value.pt5Of (ix2 r j) = r.val / 1024 * 12 + j.val / 1024 := by
    show 12 * (r.val / 1024 - 0) + 1 * (j.val / 1024 - 0) = _
    omega
  have hlt : Value.pt5Of (ix2 r j) < cfg0.N := by
    rw [hp]; exact lt_of_lt_of_eq (b := 192) (by omega) (show cfg0.N = 192 from N_0).symm
  unfold Value.G5
  rw [dif_pos hlt, ← Value.outsAt0_sweep m c _ hlt, state]
  have hl : Value.loc5Of (ix2 r j) = ix2 (⟨r.val % 1024, by omega⟩ : Fin 1024) (⟨j.val % 1024, by omega⟩ : Fin 1024) := by
    funext a; match a with | ⟨0, _⟩ => rfl | ⟨1, _⟩ => rfl
  show (k0_pay2 (F := Ideal) _ _ (Value.loc5Of (ix2 r j)) : EReal) = outAt _ _ _ _ r j
  rw [hl, pay2_apply]
  unfold outAt
  refine Finset.sum_congr rfl fun k _ => ?_
  rw [blk4]
  have e1 : (⟨(rb ⟨Value.pt5Of (ix2 r j), hlt⟩).val * 1024 + r.val % 1024, by omega⟩ : Fin 16384) = r :=
    Fin.ext (show Value.pt5Of (ix2 r j) / 12 * 1024 + r.val % 1024 = r.val by rw [hp]; omega)
  have e2 : (⟨Value.pt5Of (ix2 r j) % 12 * 1024 + j.val % 1024, by omega⟩ : Fin 12288) = j :=
    Fin.ext (show Value.pt5Of (ix2 r j) % 12 * 1024 + j.val % 1024 = j.val by rw [hp]; omega)
  show nrmAt _ _ _ ⟨(rb ⟨Value.pt5Of (ix2 r j), hlt⟩).val * 1024 + r.val % 1024, _⟩ k
    * wts m c (ix3 (0 : Fin 2) k ⟨Value.pt5Of (ix2 r j) % 12 * 1024 + j.val % 1024, _⟩) = _
  rw [e1, e2]

theorem run (ρ : Dev nD → PrngReg) : θ_run defs (onTc (τ := τ) (main (F := Ideal))) ⟨m, fun _ => 0, ρ⟩ fun r => ∀ c : Dev nD,
      r.2.mem ((c : Thread nD τ).loc main_v5) = out (xin m c) (gin m c) (mdl m c) (wts m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (G5_eq m c), (h c).2⟩) (Value.run m ρ)

end Fold

end Cert.RetInIdeal.Own

namespace Cert.RetInRefIdeal.Own

open Cert.RetInRefIdeal Idealize.ShloMosaic

/-- The reference's result is the layer's result. -/
theorem ref_eq (x0 : FVec Ideal S4x4096x2048 .f32) (x1 : FVec Ideal S4x2048 .f32) (x2 : FVec Ideal S4x8x12288 .f32)
    (x3 : FVec Ideal S2x2048x12288 .f32) : Read.val_main_v35 (F := Ideal) x0 x1 x2 x3 = Cert.RetInIdeal.Own.out x0 x1 x2 x3 := by
  funext i
  obtain ⟨r, j, rfl⟩ : ∃ (r : Fin 16384) (j : Fin 12288), i = ix2 r j := ⟨i 0, i 1, ValueIdx.eq_ix2 i⟩
  rw [← Read.val_main_v35_eq]
  unfold Cert.RetInIdeal.Own.out Cert.RetInIdeal.Own.outAt Cert.RetInIdeal.Own.nrmAt Cert.RetInIdeal.Own.nrm
  pointwise

end Cert.RetInRefIdeal.Own

end
-- ==== Proof.RetInClaim.lean ====
module

public import proofs.«01_k».proof.Proof.RetInValue

@[expose] public section

noncomputable section

namespace Cert.RetInRefIdeal.Own

open Idealize.ShloMosaic Idealize.SL.Sem Cert.RetInRefIdeal

/-- The reference runs, leaves its arguments and counts nothing: it has no semaphore. -/
theorem quiet : Cert.quiescent_RetInRefIdeal := fun m ρ _ =>
  (θ_run _ _ _).mono (fun _ h => ⟨fun c => (h c).2, funext fun g => nomatch g.2⟩) (Value.run (F := Ideal) m ρ)

/-- The kernel and the reference end with the same rows. -/
theorem agree : Cert.algebraic_RetInIdeal_RetInRefIdeal := fun m ρ m' ρ' _ hag =>
  ⟨fun c => RetInIdeal.Own.out (RetInIdeal.Own.xin m c) (RetInIdeal.Own.gin m c) (RetInIdeal.Own.mdl m c)
      (RetInIdeal.Own.wts m c),
    RetInIdeal.Own.run m ρ,
    (θ_run _ _ _).mono (fun _ h c => by
      obtain ⟨a0, a1, a2, a3⟩ := hag c
      refine ⟨(h c).1.trans ?_, (h c).2⟩
      rw [a0, a1, a2, a3]
      exact (Read.val_main_v35_eq _ _ _ _).trans (ref_eq _ _ _ _)) (Value.run (F := Ideal) m' ρ')⟩

end Cert.RetInRefIdeal.Own

end
-- ==== Proof.RetOutValue.lean ====
/-
  The output projection of a retention layer: what the kernel's result array holds, read index by index, and that it is
  what the reference computes.
-/
module

public import proofs.«01_k».proof.Defs
public import proofs.«01_k».proof.Proof.Gen.RetOutIdeal.Value
public import proofs.«01_k».proof.Proof.Gen.RetOutRefIdeal.Run
public import proofs.«01_k».proof.Proof.Gen.RetOutRefIdeal.Read
public import Idealize.ShloMosaic.Lib.Pipeline.Value
public import Idealize.ShloMosaic.Lib.Pointwise

@[expose] public section

set_option maxRecDepth 16384

noncomputable section

namespace Cert.RetOutIdeal.Own

open Cert.RetOutIdeal Cert.RetOutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The activations, the weights, the residual and the modulation table as the run finds them. -/
abbrev act (c : Dev nD) : FVec Ideal S16384x4096 .bf16 := m ((c : Thread nD τ).loc main_arg0)
abbrev wts (c : Dev nD) : FVec Ideal S2x4096x2048 .f32 := m ((c : Thread nD τ).loc main_arg1)
abbrev res (c : Dev nD) : FVec Ideal S4x4096x2048 .f32 := m ((c : Thread nD τ).loc main_arg2)
abbrev mdl (c : Dev nD) : FVec Ideal S4x8x12288 .f32 := m ((c : Thread nD τ).loc main_arg3)

/-- The layer's result at row `r`, column `j`: the residual plus the gate times the row of activations against the column
    of weights. -/
def outAt (a : FVec Ideal S16384x4096 .bf16) (w : FVec Ideal S2x4096x2048 .f32) (x : FVec Ideal S4x4096x2048 .f32)
    (md : FVec Ideal S4x8x12288 .f32) (r : Fin 16384) (j : Fin 2048) : EReal :=
  x (ix3 (⟨r.val / 4096, by omega⟩ : Fin 4) (⟨r.val % 4096, by omega⟩ : Fin 4096) j)
    + md (ix3 (0 : Fin 4) (⟨r.val / 4096, by omega⟩ : Fin 8) (⟨4096 + j.val, by omega⟩ : Fin 12288))
      * ∑ k : Fin 4096, a (ix2 r k) * w (ix3 (0 : Fin 2) k j)

/-- … as an array. -/
def out (a : FVec Ideal S16384x4096 .bf16) (w : FVec Ideal S2x4096x2048 .f32) (x : FVec Ideal S4x4096x2048 .f32)
    (md : FVec Ideal S4x8x12288 .f32) : FVec Ideal S16384x2048 .f32 := fun i => outAt a w x md (i 0) (i 1)

theorem V_v0 (c : Dev nD) : V m c main_v0 = shapeCast S4x8x6x1x2048 (mdl m c) shapeCasts_S4x8x12288_S4x8x6x1x2048 := by
  show StableHlo.after hostOps0 _ (Proc.devRef .tc main_v0) = _
  after_results
  rfl
theorem V_v1 (c : Dev nD) : V m c main_v1 = wts m c := by
  show StableHlo.after hostOps0 _ (Proc.devRef .tc main_v1) = _
  after_results
  rfl
theorem V_v2 (c : Dev nD) : V m c main_v2 = shapeCast S16384x2048 (res m c) shapeCasts_S4x4096x2048_S16384x2048 := by
  show StableHlo.after hostOps0 _ (Proc.devRef .tc main_v2) = _
  after_results
  rfl

/-- The index maps over the grid. -/
theorem idx_facts : ∀ t : Fin cfg0.N, t.val < 64
    ∧ win0_0.index t 0 = t.val / 4 ∧ win0_0.index t 1 = 0
    ∧ win0_1.index t 0 = 0 ∧ win0_1.index t 1 = 0 ∧ win0_1.index t 2 = t.val % 4
    ∧ win0_2.index t 0 = t.val / 4 ∧ win0_2.index t 1 = t.val % 4
    ∧ win0_3.index t 0 = 0 ∧ win0_3.index t 1 = t.val / 16 ∧ win0_3.index t 2 = 2 ∧ win0_3.index t 3 = 0 ∧ win0_3.index t 4 = t.val % 4
    ∧ win0_4.index t 0 = t.val / 4 ∧ win0_4.index t 1 = t.val % 4 :=
  (by decide +kernel : ∀ t : Fin grid0.N, _)

theorem lt64 (t : Fin cfg0.N) : t.val < 64 := (idx_facts t).1

theorem blk0 (c : Dev nD) (t : Fin cfg0.N) (p : Fin 1024) (k : Fin 4096) :
    (iblk m c 0 t : FVec Ideal S1024x4096 .bf16) (ix2 p k)
      = act m c (ix2 (⟨t.val / 4 * 1024 + p.val, by have := lt64 t; omega⟩ : Fin 16384) k) := by
  obtain ⟨-, e0, e1, -⟩ := idx_facts t
  unfold iblk; rw [View.read_apply]
  show V m c main_arg0 _ = _
  rw [V_main_arg0]
  congr 1; funext a; apply Fin.ext
  match a with
  | ⟨0, _⟩ => show win0_0.index t 0 * 1024 + 1 * p.val = t.val / 4 * 1024 + p.val; rw [e0]; omega
  | ⟨1, _⟩ => show win0_0.index t 1 * 4096 + 1 * k.val = k.val; rw [e1]; omega

theorem blk1 (c : Dev nD) (t : Fin cfg0.N) (k : Fin 4096) (q : Fin 512) :
    (iblk m c 1 t : FVec Ideal S1x4096x512 .bf16) (ix3 (0 : Fin 1) k q)
      = wts m c (ix3 (0 : Fin 2) k (⟨t.val % 4 * 512 + q.val, by omega⟩ : Fin 2048)) := by
  obtain ⟨-, -, -, e0, e1, e2, -⟩ := idx_facts t
  unfold iblk; rw [View.read_apply]
  show V m c main_v1 _ = _
  rw [V_v1]
  congr 1; funext a; apply Fin.ext
  match a with
  | ⟨0, _⟩ => show win0_1.index t 0 * 1 + 1 * 0 = 0; rw [e0]
  | ⟨1, _⟩ => show win0_1.index t 1 * 4096 + 1 * k.val = k.val; rw [e1]; omega
  | ⟨2, _⟩ => show win0_1.index t 2 * 512 + 1 * q.val = t.val % 4 * 512 + q.val; rw [e2]; omega

theorem blk2 (c : Dev nD) (t : Fin cfg0.N) (p : Fin 1024) (q : Fin 512) :
    (iblk m c 2 t : FVec Ideal S1024x512 .f32) (ix2 p q)
      = res m c (ix3 (⟨t.val / 16, by have := lt64 t; omega⟩ : Fin 4) (⟨(t.val / 4 * 1024 + p.val) % 4096, by omega⟩ : Fin 4096)
          (⟨t.val % 4 * 512 + q.val, by omega⟩ : Fin 2048)) := by
  obtain ⟨hN, -, -, -, -, -, e0, e1, -⟩ := idx_facts t
  unfold iblk; rw [View.read_apply]
  show V m c main_v2 _ = _
  rw [V_v2]
  refine shapeCast_apply _ _ _ _ ?_
  rw [Shape.rowMajor_val_three, Shape.rowMajor_val_two]
  show (t.val / 16 * 4096 + (t.val / 4 * 1024 + p.val) % 4096) * 2048 + (t.val % 4 * 512 + q.val)
    = (win0_2.index t 0 * 1024 + 1 * p.val) * 2048 + (win0_2.index t 1 * 512 + 1 * q.val)
  rw [e0, e1]; omega

theorem blk3 (c : Dev nD) (t : Fin cfg0.N) (q : Fin 512) :
    (iblk m c 3 t : FVec Ideal S1x1x1x1x512 .f32) (ix5 (0 : Fin 1) (0 : Fin 1) (0 : Fin 1) (0 : Fin 1) q)
      = mdl m c (ix3 (0 : Fin 4) (⟨t.val / 16, by have := lt64 t; omega⟩ : Fin 8)
          (⟨4096 + (t.val % 4 * 512 + q.val), by omega⟩ : Fin 12288)) := by
  obtain ⟨hN, -, -, -, -, -, -, -, e0, e1, e2, e3, e4, -⟩ := idx_facts t
  unfold iblk; rw [View.read_apply]
  show V m c main_v0 _ = _
  rw [V_v0]
  refine shapeCast_apply _ _ _ _ ?_
  rw [Shape.rowMajor_val_three, Shape.rowMajor_val_five]
  show (0 * 8 + t.val / 16) * 12288 + (4096 + (t.val % 4 * 512 + q.val))
    = ((((win0_3.index t 0 * 1 + 1 * 0) * 8 + (win0_3.index t 1 * 1 + 1 * 0)) * 6 + (win0_3.index t 2 * 1 + 1 * 0)) * 1
        + (win0_3.index t 3 * 1 + 1 * 0)) * 2048 + (win0_3.index t 4 * 512 + 1 * q.val)
  rw [e0, e1, e2, e3, e4]; omega

/-- The body's arithmetic at an index. -/
theorem pay_apply (x0 : FVec Ideal S1024x4096 .bf16) (x1 : FVec Ideal S1x4096x512 .bf16) (x2 : FVec Ideal S1024x512 .f32)
    (x3 : FVec Ideal S1x1x1x1x512 .f32) (p : Fin 1024) (q : Fin 512) :
    k0_pay1 x0 x1 x2 x3 (ix2 p q) = x2 (ix2 p q) + x3 (ix5 (0 : Fin 1) (0 : Fin 1) (0 : Fin 1) (0 : Fin 1) q)
      * ∑ k : Fin 4096, x0 (ix2 p k) * x1 (ix3 (0 : Fin 1) k q) := by
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- What point `t` writes back is its block of the layer's result. -/
theorem flushed_eq (c : Dev nD) (t : Fin cfg0.N) :
    (dats m 0 c).flushed 4 t = (win0_4.blk t).view.read (Elt Ideal) (out (act m c) (wts m c) (res m c) (mdl m c)) := by
  obtain ⟨hN, -, -, -, -, -, -, -, -, -, -, -, -, e0, e1⟩ := idx_facts t
  rw [Value.flushed4]
  unfold out0_4
  rw [View.canon_unit_zero hz2, View.ld_unit_zero hz2, View.ld_unit_zero hz3, View.ld_unit_zero hz2, View.ld_unit_zero hz5]
  funext j
  obtain ⟨p, q, rfl⟩ : ∃ (p : Fin 1024) (q : Fin 512), j = ix2 p q := ⟨j 0, j 1, ValueIdx.eq_ix2 j⟩
  show k0_pay1 (F := Ideal) (iblk m c 0 t) (iblk m c 1 t) (iblk m c 2 t) (iblk m c 3 t) (ix2 p q) = _
  rw [pay_apply, blk2, blk3]
  simp only [blk0, blk1]
  show _ = out (act m c) (wts m c) (res m c) (mdl m c) ((win0_4.blk t).view.emb (ix2 p q))
  have hj : (win0_4.blk t).view.emb (ix2 p q) = ix2 (⟨t.val / 4 * 1024 + p.val, by omega⟩ : Fin 16384) (⟨t.val % 4 * 512 + q.val, by omega⟩ : Fin 2048) := by
    funext a; apply Fin.ext
    match a with
    | ⟨0, _⟩ => show win0_4.index t 0 * 1024 + 1 * p.val = t.val / 4 * 1024 + p.val; rw [e0]; omega
    | ⟨1, _⟩ => show win0_4.index t 1 * 512 + 1 * q.val = t.val % 4 * 512 + q.val; rw [e1]; omega
  rw [hj]
  have h4 : (t.val / 4 * 1024 + p.val) / 4096 = t.val / 16 := by omega
  show _ = outAt (act m c) (wts m c) (res m c) (mdl m c) ⟨t.val / 4 * 1024 + p.val, _⟩ ⟨t.val % 4 * 512 + q.val, _⟩
  unfold outAt
  simp only [h4]

theorem mem_blk (t : Fin cfg0.N) (i : S16384x2048.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v3).slice (win0_4.rect t)).set ↔ _
  rw [View.set_slice_whole, Rect.mem_set_unit]
  exact Iff.rfl

/-- Every index of the result lies in some point's block. -/
theorem cover (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  refine ⟨⟨(i 0).val / 1024 * 4 + (i 1).val / 512, lt_of_lt_of_eq (b := 64) (by omega) N_0.symm⟩, flush0_4 _, ?_⟩
  rw [mem_blk]
  obtain ⟨-, -, -, -, -, -, -, -, -, -, -, -, -, e0, e1⟩ :=
    idx_facts ⟨(i 0).val / 1024 * 4 + (i 1).val / 512, lt_of_lt_of_eq (b := 64) (by omega) N_0.symm⟩
  intro a
  match a with
  | ⟨0, _⟩ =>
    show win0_4.index _ 0 * 1024 ≤ (i 0).val ∧ (i 0).val < win0_4.index _ 0 * 1024 + 1024
    rw [e0]; dsimp only; omega
  | ⟨1, _⟩ =>
    show win0_4.index _ 1 * 512 ≤ (i 1).val ∧ (i 1).val < win0_4.index _ 1 * 512 + 512
    rw [e1]; dsimp only; omega

theorem final (c : Dev nD) : (dats m 0 c).arrAt 4 cfg0.N = out (act m c) (wts m c) (res m c) (mdl m c) :=
  (dats m 0 c).arrAt_eq_of_cover 4 _ (fun t _ => flushed_eq m c t) cover

theorem run : θ_run defs (onTc (τ := τ) (main (F := Ideal))) ⟨m, fun _ => 0, ρ⟩ fun r => ∀ c : Dev nD,
      r.2.mem ((c : Thread nD τ).loc main_v3) = out (act m c) (wts m c) (res m c) (mdl m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.RetOutIdeal.Own

namespace Cert.RetOutRefIdeal.Own

open Cert.RetOutRefIdeal Idealize.ShloMosaic

/-- The reference's result is the layer's result. -/
theorem ref_eq (x0 : FVec Ideal S16384x4096 .bf16) (x1 : FVec Ideal S2x4096x2048 .f32) (x2 : FVec Ideal S4x4096x2048 .f32)
    (x3 : FVec Ideal S4x8x12288 .f32) : Read.val_main_v17 (F := Ideal) x0 x1 x2 x3 = Cert.RetOutIdeal.Own.out x0 x1 x2 x3 := by
  funext i
  obtain ⟨r, j, rfl⟩ : ∃ (r : Fin 16384) (j : Fin 2048), i = ix2 r j := ⟨i 0, i 1, ValueIdx.eq_ix2 i⟩
  rw [← Read.val_main_v17_eq]
  unfold Cert.RetOutIdeal.Own.out Cert.RetOutIdeal.Own.outAt
  pointwise

end Cert.RetOutRefIdeal.Own

end
-- ==== Proof.RetOutClaim.lean ====
module

public import proofs.«01_k».proof.Proof.RetOutValue

@[expose] public section

noncomputable section

namespace Cert.RetOutRefIdeal.Own

open Idealize.ShloMosaic Idealize.SL.Sem Cert.RetOutRefIdeal

/-- The reference runs, leaves its arguments and counts nothing: it has no semaphore. -/
theorem quiet : Cert.quiescent_RetOutRefIdeal := fun m ρ _ =>
  (θ_run _ _ _).mono (fun _ h => ⟨fun c => (h c).2, funext fun g => nomatch g.2⟩) (Value.run (F := Ideal) m ρ)

/-- The kernel and the reference end with the same rows. -/
theorem agree : Cert.algebraic_RetOutIdeal_RetOutRefIdeal := fun m ρ m' ρ' _ hag =>
  ⟨fun c => RetOutIdeal.Own.out (RetOutIdeal.Own.act m c) (RetOutIdeal.Own.wts m c) (RetOutIdeal.Own.res m c)
      (RetOutIdeal.Own.mdl m c),
    RetOutIdeal.Own.run m ρ,
    (θ_run _ _ _).mono (fun _ h c => by
      obtain ⟨a0, a1, a2, a3⟩ := hag c
      refine ⟨(h c).1.trans ?_, (h c).2⟩
      rw [a0, a1, a2, a3]
      exact (Read.val_main_v17_eq _ _ _ _).trans (ref_eq _ _ _ _)) (Value.run (F := Ideal) m' ρ')⟩

end Cert.RetOutRefIdeal.Own

end
-- ==== Proof.MlstmInValue.lean ====
module

public import proofs.«01_k».proof.Defs
public import proofs.«01_k».proof.Proof.Gen.MlstmInIdeal.Value
public import proofs.«01_k».proof.Proof.Gen.MlstmInRefIdeal.Run
public import proofs.«01_k».proof.Proof.Gen.MlstmInRefIdeal.Read
public import Idealize.ShloMosaic.Lib.Pipeline.Value
public import Idealize.ShloMosaic.Lib.Pointwise
public import Idealize.ShloMosaic.Lib.VecWindow
public import Idealize.ShloMosaic.Lib.WholeRead

@[expose] public section

set_option maxRecDepth 16384

noncomputable section

namespace Cert.MlstmInIdeal.Own

open Cert.MlstmInIdeal Cert.MlstmInIdeal.Gen Idealize.ShloMosaic Idealize.ShloMosaic.TcCoe Idealize.SL.Sem
open Idealize.ShloMosaic.Pipeline (Dat)

variable (c : Dev nD) (i : grid0.Coords) (a2 : Memref sig .tc .vmem S1024x2048 .f32) (h2 : a2.IsWhole) (a3 : Memref sig .tc .vmem S1x2048 .f32) (h3 : a3.IsWhole) (a4 : Memref sig .tc .vmem S1x1x1x1x2048 .f32) (h4 : a4.IsWhole) (a5 : Memref sig .tc .vmem S1x1x1x1x2048 .f32) (h5 : a5.IsWhole) (a6 : Memref sig .tc .vmem S1x2048x512 .bf16) (h6 : a6.IsWhole) (a7 : Memref sig .tc .vmem S2048x512 .bf16) (h7 : a7.IsWhole) (a8 : Memref sig .tc .vmem S1024x512 .f32) (h8 : a8.IsWhole) (a9 : Memref sig .tc .vmem S1024x2048 .bf16) (h9 : a9.IsWhole) (x0 : Vec Ideal S1024x2048 .f32) (x1 : Vec Ideal S1x2048 .f32) (x2 : Vec Ideal S1x1x1x1x2048 .f32) (x3 : Vec Ideal S1x1x1x1x2048 .f32) (x4 : Vec Ideal S1x2048x512 .bf16) (x5 : Vec Ideal S2048x512 .bf16)

/-- One normalised and modulated entry of a row: `x · rsqrt(mean x² + ε) · g · (1 + sc) + sh`. -/
def nrm (x g sc sh : Fin 2048 → EReal) (k : Fin 2048) : EReal :=
  x k * Ideal.rsqrt (Ideal.div (∑ j, x j * x j) (Ideal.ofBits FTy.f32 1157627904#32) + Ideal.ofBits FTy.f32 897988541#32)
    * g k * (1 + sc k) + sh k

/-- The normalised rows of a block. -/
def rows : Vec Ideal S1024x2048 .bf16 := fun y =>
  nrm (fun k => x0 (ix2 (y 0) k)) (fun k => x1 (ix2 0 k)) (fun k => x3 (ix5 0 0 0 0 k)) (fun k => x2 (ix5 0 0 0 0 k)) (y 1)

/-- A load of a whole buffer reads what the buffer was given. -/
theorem load_whole {s : Shape} {e : EltTy} {a : Memref sig .tc .vmem s e} (h : a.IsWhole) (X : s.Idx → Elt Ideal e)
    {off : Fin s.rank → ℕ} (inb : ∀ a, off a + s.size a ≤ s.size a) :
    View.readAt (Elt Ideal) a.view (Rect.unit off s.size inb).toLoadRect (h.unread X) = X :=
  (View.readAt_full _ _ inb).trans (h.read_unread X)

/-- A load of sixteen rows reads them. -/
theorem load_rows (o : ℕ) (inb : ∀ a, (![o, 0] : Fin 2 → ℕ) a + S16x2048.size a ≤ S1024x2048.size a) (ho : o + 16 ≤ 1024)
    (r : Fin 16) (k : Fin 2048) :
    View.readAt (Elt Ideal) a2.view (Rect.unit (s := S1024x2048) ![o, 0] S16x2048.size inb).toLoadRect (h2.unread x0) (ix2 r k)
      = x0 (ix2 (⟨o + r.val, by omega⟩ : Fin 1024) k) := by
  rw [h2.readAt_unread]
  congr 1; funext a; apply Fin.ext
  match a with
  | ⟨0, _⟩ => show o + 1 * r.val = o + r.val; omega
  | ⟨1, _⟩ => show 0 + 1 * k.val = k.val; omega

/-- Sixteen rows of the block, normalised, are those rows of the normalised block. -/
theorem rowPiece (o : ℕ) (inb : ∀ a, (![o, 0] : Fin 2 → ℕ) a + S16x2048.size a ≤ S1024x2048.size a) (x : S16x2048.Idx) :
    k0_pay52 (kernelRun0_A.sl.r c a3 h3 x1) (kernelRun0_A.sl.r_1 c a4 h4 x2) (kernelRun0_A.sl.r_2 c a5 h5 x3)
      (View.readAt (Elt Ideal) a2.view (Rect.unit (s := S1024x2048) ![o, 0] S16x2048.size inb).toLoadRect (h2.unread x0)) x
      = rows x0 x1 x2 x3 ((Rect.unit (s := S1024x2048) ![o, 0] S16x2048.size inb).emb x) := by
  obtain ⟨r, k, rfl⟩ : ∃ (r : Fin 16) (k : Fin 2048), x = ix2 r k := ⟨x 0, x 1, ValueIdx.eq_ix2 x⟩
  have ho : o + 16 ≤ 1024 := inb 0
  have he : (Rect.unit (s := S1024x2048) ![o, 0] S16x2048.size inb).emb (ix2 r k)
      = ix2 (⟨o + r.val, by omega⟩ : Fin 1024) k := by
    funext a; apply Fin.ext
    match a with
    | ⟨0, _⟩ => show o + 1 * r.val = o + r.val; omega
    | ⟨1, _⟩ => show 0 + 1 * k.val = k.val; omega
  rw [he]
  unfold kernelRun0_A.sl.r kernelRun0_A.sl.r_1 kernelRun0_A.sl.r_2
  rw [load_whole (s := S1x2048) h3, load_whole (s := S1x1x1x1x2048) h4, load_whole (s := S1x1x1x1x2048) h5]
  have hv := load_rows a2 h2 x0 o inb ho
  generalize View.readAt (Elt Ideal) a2.view (Rect.unit (s := S1024x2048) ![o, 0] S16x2048.size inb).toLoadRect (h2.unread x0) = v at hv
  show _ = nrm (fun k => x0 (ix2 (⟨o + r.val, _⟩ : Fin 1024) k)) _ _ _ k
  unfold nrm
  simp only [← hv]
  pointwise [k0_pay52, k0_pay4, k0_pay5, k0_pay6]

theorem rowPieces : ∀ pc ∈ kernelRun0_A.sl.HS0_64 (F := Ideal) c a2 h2 a3 h3 a4 h4 a5 h5 x0 x1 x2 x3, ∀ x : pc.1.shape.Idx,
    pc.2 x = rows x0 x1 x2 x3 (pc.1.emb x) := by
  unfold kernelRun0_A.sl.HS0_64
  repeat' refine List.forall_mem_cons.2 ⟨?_, ?_⟩
  all_goals first
    | exact fun x => rowPiece c a2 h2 a3 h3 a4 h4 a5 h5 x0 x1 x2 x3 _ _ x
    | exact fun _ h => absurd h List.not_mem_nil
    | exact fun x => rowPiece c a2 h2 a3 h3 a4 h4 a5 h5 x0 x1 x2 x3 0 inb_S1024x2048_S16x2048_0_0 x

theorem sout_A (hc0 : cond0_0 i) (hc1 : cond0_1 i) (hc2 : ¬ cond0_2 i) : sout0_A_0 (F := Ideal) c i a2 h2 a3 h3 a4 h4 a5 h5 a6 h6 a7 h7 a8 h8 a9 h9 hc0 hc1 hc2 x0 x1 x2 x3 x4 x5 = rows x0 x1 x2 x3 := by
  funext y
  exact View.read_writes_apply_of_pieces _ _ _ _ (rowPieces c a2 h2 a3 h3 a4 h4 a5 h5 x0 x1 x2 x3) y
    (scover0_A_0 c i a2 h2 a3 h3 a4 h4 a5 h5 a6 h6 a7 h7 a8 h8 a9 h9 hc0 hc1 hc2 x0 x1 x2 x3 x4 x5 y)

theorem out_A (hc0 : cond0_0 i) (hc1 : cond0_1 i) (hc2 : ¬ cond0_2 i) : out0_A_6 (F := Ideal) c i a2 h2 a3 h3 a4 h4 a5 h5 a6 h6 a7 h7 a8 h8 a9 h9 hc0 hc1 hc2 x0 x1 x2 x3 x4 x5
    = k0_pay2 (rows x0 x1 x2 x3) x4 := by
  unfold out0_A_6 kernelRun0_A
  dsimp only
  refine (View.read_writes_full (s := S1024x512) _ _ _ _ _).trans ?_
  refine congrArg₂ k0_pay2 ?_ (load_whole (s := S1x2048x512) h6 x4 _)
  refine (View.readAt_full (s := S1024x2048) _ _ _).trans ?_
  funext y
  exact View.read_writes_apply_of_pieces _ _ _ _ (rowPieces c a2 h2 a3 h3 a4 h4 a5 h5 x0 x1 x2 x3) y
    (scover0_A_0 c i a2 h2 a3 h3 a4 h4 a5 h5 a6 h6 a7 h7 a8 h8 a9 h9 hc0 hc1 hc2 x0 x1 x2 x3 x4 x5 y)

theorem out_B (hc0 : ¬ cond0_0 i) (hc1 : cond0_1 i) (hc2 : ¬ cond0_2 i) (xs : Vec Ideal S1024x2048 .bf16) :
    out0_B_6 (F := Ideal) c i a2 h2 a3 h3 a4 h4 a5 h5 a6 h6 a7 h7 a8 h8 a9 h9 hc0 hc1 hc2 x0 x1 x2 x3 x4 x5 xs = k0_pay2 xs x4 := by
  unfold out0_B_6 kernelRun0_B
  dsimp only
  refine (View.read_writes_full (s := S1024x512) _ _ _ _ _).trans ?_
  exact congrArg₂ k0_pay2 (load_whole (s := S1024x2048) h9 xs _) (load_whole (s := S1x2048x512) h6 x4 _)

theorem out_C (hc0 : ¬ cond0_0 i) (hc1 : ¬ cond0_1 i) (hc2 : cond0_2 i) (xs : Vec Ideal S1024x2048 .bf16) :
    out0_C_6 (F := Ideal) c i a2 h2 a3 h3 a4 h4 a5 h5 a6 h6 a7 h7 a8 h8 a9 h9 hc0 hc1 hc2 x0 x1 x2 x3 x4 x5 xs = k0_pay3 xs x5 := by
  unfold out0_C_6 kernelRun0_C
  dsimp only
  refine (View.read_writes_full (s := S1024x512) _ _ _ _ _).trans ?_
  exact congrArg₂ k0_pay3 (load_whole (s := S1024x2048) h9 xs _) (load_whole (s := S2048x512) h7 x5 _)

theorem sout_B (hc0 : ¬ cond0_0 i) (hc1 : cond0_1 i) (hc2 : ¬ cond0_2 i) (xs : Vec Ideal S1024x2048 .bf16) :
    sout0_B_0 (F := Ideal) c i a2 h2 a3 h3 a4 h4 a5 h5 a6 h6 a7 h7 a8 h8 a9 h9 hc0 hc1 hc2 x0 x1 x2 x3 x4 x5 xs = xs := rfl

theorem sout_C (hc0 : ¬ cond0_0 i) (hc1 : ¬ cond0_1 i) (hc2 : cond0_2 i) (xs : Vec Ideal S1024x2048 .bf16) :
    sout0_C_0 (F := Ideal) c i a2 h2 a3 h3 a4 h4 a5 h5 a6 h6 a7 h7 a8 h8 a9 h9 hc0 hc1 hc2 x0 x1 x2 x3 x4 x5 xs = xs := rfl

section Fold

variable (m : (ℓ : Loc nD τ sig) → Buf (Elt Ideal) ℓ)

abbrev xin (c : Dev nD) : FVec Ideal S4x4096x2048 .f32 := m ((c : Thread nD τ).loc main_arg0)
abbrev gin (c : Dev nD) : FVec Ideal S4x2048 .f32 := m ((c : Thread nD τ).loc main_arg1)
abbrev mdl (c : Dev nD) : FVec Ideal S4x8x12288 .f32 := m ((c : Thread nD τ).loc main_arg2)
abbrev wts (c : Dev nD) : FVec Ideal S1x2048x6152 .f32 := m ((c : Thread nD τ).loc main_arg3)

theorem idx_facts : ∀ t : Fin cfg0.N, (win0_0.index t 0 = t.val / 13 ∧ win0_0.index t 1 = 0)
    ∧ (win0_1.index t 0 = 0 ∧ win0_1.index t 1 = 0)
    ∧ (win0_2.index t 0 = 2 ∧ win0_2.index t 1 = t.val / 52 ∧ win0_2.index t 2 = 0 ∧ win0_2.index t 3 = 0 ∧ win0_2.index t 4 = 0)
    ∧ (win0_3.index t 0 = 2 ∧ win0_3.index t 1 = t.val / 52 ∧ win0_3.index t 2 = 1 ∧ win0_3.index t 3 = 0 ∧ win0_3.index t 4 = 0)
    ∧ (win0_4.index t 0 = 0 ∧ win0_4.index t 1 = 0 ∧ win0_4.index t 2 = min (t.val % 13) 11)
    ∧ (win0_5.index t 0 = 0 ∧ win0_5.index t 1 = 0) :=
  (by decide +kernel : ∀ t : Fin grid0.N, _)

theorem lt208 (t : Fin cfg0.N) : t.val < 208 := lt_of_lt_of_eq t.isLt (show cfg0.N = 208 from N_0)

/-- The block of rows a point works on. -/
def rb (t : Fin cfg0.N) : Fin 16 := ⟨t.val / 13, by have := lt208 t; omega⟩

/-- Row `r` of the layer's input, normalised and modulated. -/
def nrmAt (x : FVec Ideal S4x4096x2048 .f32) (g : FVec Ideal S4x2048 .f32) (md : FVec Ideal S4x8x12288 .f32) (r : Fin 16384)
    (k : Fin 2048) : EReal :=
  nrm (fun k => x (ix3 (⟨r.val / 4096, by omega⟩ : Fin 4) (⟨r.val % 4096, by omega⟩ : Fin 4096) k)) (fun k => g (ix2 (2 : Fin 4) k))
    (fun k => md (ix3 (2 : Fin 4) (⟨r.val / 4096, by omega⟩ : Fin 8) (⟨2048 + k.val, by omega⟩ : Fin 12288)))
    (fun k => md (ix3 (2 : Fin 4) (⟨r.val / 4096, by omega⟩ : Fin 8) (⟨k.val, by omega⟩ : Fin 12288))) k

/-- The word zero as a number. -/
theorem fill_zero : (((0#32 : BitVec 32).toInt : ℝ) : EReal) = 0 := by simp

/-- The weights of column `j`: the layer's columns, then zeros. -/
def col (w : FVec Ideal S1x2048x6152 .f32) (k : Fin 2048) (j : Fin 6656) : EReal :=
  if h : j.val < 6152 then w (ix3 (0 : Fin 1) k ⟨j.val, h⟩) else 0

theorem col_main (w : FVec Ideal S1x2048x6152 .f32) (k : Fin 2048) (j : Fin 6656) (h : j.val < 6144) :
    col w k j = w (ix3 (0 : Fin 1) k ⟨j.val, by omega⟩) := dif_pos (by omega)

/-- The layer's result at row `r`, column `j`. -/
def outAt (x : FVec Ideal S4x4096x2048 .f32) (g : FVec Ideal S4x2048 .f32) (md : FVec Ideal S4x8x12288 .f32)
    (w : FVec Ideal S1x2048x6152 .f32) (r : Fin 16384) (j : Fin 6656) : EReal :=
  ∑ k : Fin 2048, nrmAt x g md r k * col w k j

/-- … as an array. -/
def out (x : FVec Ideal S4x4096x2048 .f32) (g : FVec Ideal S4x2048 .f32) (md : FVec Ideal S4x8x12288 .f32)
    (w : FVec Ideal S1x2048x6152 .f32) : FVec Ideal S16384x6656 .f32 := fun i => outAt x g md w (i 0) (i 1)

theorem V_v0 (c : Dev nD) : V m c main_v0 = shapeCast S4x8x6x1x2048 (mdl m c) shapeCasts_S4x8x12288_S4x8x6x1x2048 := by
  show StableHlo.after (List.flatten [hostOps0 (F := Ideal), hostOps0_1, hostOps0_2]) _ (Proc.devRef .tc main_v0) = _
  simp only [hostOps0, hostOps0_1, hostOps0_2, List.flatten_cons, List.flatten_nil, List.append_nil, List.cons_append, List.nil_append]
  after_results
  rfl
theorem V_v5 (c : Dev nD) : V m c main_v5 = shapeCast S16384x2048 (xin m c) shapeCasts_S4x4096x2048_S16384x2048 := by
  show StableHlo.after (List.flatten [hostOps0 (F := Ideal), hostOps0_1, hostOps0_2]) _ (Proc.devRef .tc main_v5) = _
  simp only [hostOps0, hostOps0_1, hostOps0_2, List.flatten_cons, List.flatten_nil, List.append_nil, List.cons_append, List.nil_append]
  after_results
  rfl
theorem V_v8 (c : Dev nD) : V m c main_v8 = shapeCast S1x2048 (shapeCast S2048 (extractStridedSlice S1x2048 ![2, 0] (gin m c) slices_S4x2048_S1x2048_2_0)
    shapeCasts_S1x2048_S2048) shapeCasts_S2048_S1x2048 := by
  show StableHlo.after (List.flatten [hostOps0 (F := Ideal), hostOps0_1, hostOps0_2]) _ (Proc.devRef .tc main_v8) = _
  simp only [hostOps0, hostOps0_1, hostOps0_2, List.flatten_cons, List.flatten_nil, List.append_nil, List.cons_append, List.nil_append]
  after_results
  rfl

theorem V_v1 (c : Dev nD) : V (F := Ideal) m c main_v1 = wts m c := by
  show StableHlo.after (List.flatten [hostOps0 (F := Ideal), hostOps0_1, hostOps0_2]) _ (Proc.devRef .tc main_v1) = _
  simp only [hostOps0, hostOps0_1, hostOps0_2, List.flatten_cons, List.flatten_nil, List.append_nil, List.cons_append, List.nil_append]
  after_results
  rfl
theorem V_v4 (c : Dev nD) : V (F := Ideal) m c main_v4 = pad S2048x512 ![0, 0] ![0, 504] ![0, 0]
    (shapeCast S2048x8 (extractStridedSlice S1x2048x8 ![0, 0, 6144] (wts m c : FVec Ideal S1x2048x6152 .bf16) slices_S1x2048x6152_S1x2048x8_0_0_6144)
      shapeCasts_S1x2048x8_S2048x8)
    (sitofp (F := Ideal) .bf16 (constantI S_ 32 0#32)) pads_S2048x8_S2048x512_000_05040 h_S_ := by
  show StableHlo.after (List.flatten [hostOps0 (F := Ideal), hostOps0_1, hostOps0_2]) _ (Proc.devRef .tc main_v4) = _
  simp only [hostOps0, hostOps0_1, hostOps0_2, List.flatten_cons, List.flatten_nil, List.append_nil, List.cons_append, List.nil_append]
  after_results
  rfl

theorem blk0 (c : Dev nD) (t : Fin cfg0.N) (p : Fin 1024) (k : Fin 2048) :
    (iblk m c 0 t : FVec Ideal S1024x2048 .f32) (ix2 p k)
      = xin m c (ix3 (⟨((rb t).val * 1024 + p.val) / 4096, by omega⟩ : Fin 4) (⟨((rb t).val * 1024 + p.val) % 4096, by omega⟩ : Fin 4096) k) := by
  have hN := lt208 t
  obtain ⟨⟨e0, e1⟩, -⟩ := idx_facts t
  unfold iblk; rw [View.read_apply]
  show V m c main_v5 _ = _
  rw [V_v5]
  refine shapeCast_apply _ _ _ _ ?_
  rw [Shape.rowMajor_val_three, Shape.rowMajor_val_two]
  show ((t.val / 13 * 1024 + p.val) / 4096 * 4096 + (t.val / 13 * 1024 + p.val) % 4096) * 2048 + k.val
    = (win0_0.index t 0 * 1024 + 1 * p.val) * 2048 + (win0_0.index t 1 * 2048 + 1 * k.val)
  rw [e0, e1]; omega

theorem blk1 (c : Dev nD) (t : Fin cfg0.N) (k : Fin 2048) :
    (iblk m c 1 t : FVec Ideal S1x2048 .f32) (ix2 (0 : Fin 1) k) = gin m c (ix2 (2 : Fin 4) k) := by
  obtain ⟨-, ⟨e0, e1⟩, -⟩ := idx_facts t
  unfold iblk; rw [View.read_apply]
  show V m c main_v8 _ = _
  rw [V_v8]
  have hj : ((win0 1).blk t).view.emb (ix2 (0 : Fin 1) k) = ix2 (0 : Fin 1) k := by
    funext a; apply Fin.ext
    match a with
    | ⟨0, _⟩ => show win0_1.index t 0 * 1 + 1 * 0 = 0; rw [e0]
    | ⟨1, _⟩ => show win0_1.index t 1 * 2048 + 1 * k.val = k.val; rw [e1]; omega
  refine (congrArg _ hj).trans ?_
  pointwise

theorem blk2 (c : Dev nD) (t : Fin cfg0.N) (p : Fin 1024) (q : Fin 2048) :
    (iblk m c 2 t : FVec Ideal S1x1x1x1x2048 .f32) (ix5 (0 : Fin 1) (0 : Fin 1) (0 : Fin 1) (0 : Fin 1) q)
      = mdl m c (ix3 (2 : Fin 4) (⟨((rb t).val * 1024 + p.val) / 4096, by omega⟩ : Fin 8) (⟨q.val, by omega⟩ : Fin 12288)) := by
  have hN := lt208 t
  obtain ⟨-, -, ⟨e0, e1, e2, e3, e4⟩, -⟩ := idx_facts t
  unfold iblk; rw [View.read_apply]
  show V m c main_v0 _ = _
  rw [V_v0]
  refine shapeCast_apply _ _ _ _ ?_
  rw [Shape.rowMajor_val_three, Shape.rowMajor_val_five]
  show (2 * 8 + (t.val / 13 * 1024 + p.val) / 4096) * 12288 + q.val
    = ((((win0_2.index t 0 * 1 + 1 * 0) * 8 + (win0_2.index t 1 * 1 + 1 * 0)) * 6 + (win0_2.index t 2 * 1 + 1 * 0)) * 1
        + (win0_2.index t 3 * 1 + 1 * 0)) * 2048 + (win0_2.index t 4 * 2048 + 1 * q.val)
  rw [e0, e1, e2, e3, e4]; omega

theorem blk3 (c : Dev nD) (t : Fin cfg0.N) (p : Fin 1024) (q : Fin 2048) :
    (iblk m c 3 t : FVec Ideal S1x1x1x1x2048 .f32) (ix5 (0 : Fin 1) (0 : Fin 1) (0 : Fin 1) (0 : Fin 1) q)
      = mdl m c (ix3 (2 : Fin 4) (⟨((rb t).val * 1024 + p.val) / 4096, by omega⟩ : Fin 8) (⟨2048 + q.val, by omega⟩ : Fin 12288)) := by
  have hN := lt208 t
  obtain ⟨-, -, -, ⟨e0, e1, e2, e3, e4⟩, -⟩ := idx_facts t
  unfold iblk; rw [View.read_apply]
  show V m c main_v0 _ = _
  rw [V_v0]
  refine shapeCast_apply _ _ _ _ ?_
  rw [Shape.rowMajor_val_three, Shape.rowMajor_val_five]
  show (2 * 8 + (t.val / 13 * 1024 + p.val) / 4096) * 12288 + (2048 + q.val)
    = ((((win0_3.index t 0 * 1 + 1 * 0) * 8 + (win0_3.index t 1 * 1 + 1 * 0)) * 6 + (win0_3.index t 2 * 1 + 1 * 0)) * 1
        + (win0_3.index t 3 * 1 + 1 * 0)) * 2048 + (win0_3.index t 4 * 2048 + 1 * q.val)
  rw [e0, e1, e2, e3, e4]; omega

theorem blk4 (c : Dev nD) (t : Fin cfg0.N) (k : Fin 2048) (q : Fin 512) :
    (X0_4 m c t : FVec Ideal S1x2048x512 .bf16) (ix3 (0 : Fin 1) k q)
      = wts m c (ix3 (0 : Fin 1) k (⟨min (t.val % 13) 11 * 512 + q.val, by omega⟩ : Fin 6152)) := by
  obtain ⟨-, -, -, -, ⟨e0, e1, e2⟩, -⟩ := idx_facts t
  refine (dif_pos (moved0_4 t (ix3 (0 : Fin 1) k q))).trans ?_
  unfold iblk; rw [View.read_apply]
  show V m c main_v1 _ = _
  rw [V_v1]
  congr 1; funext a; apply Fin.ext
  match a with
  | ⟨0, _⟩ => show win0_4.index t 0 * 1 + 1 * 0 = 0; rw [e0]
  | ⟨1, _⟩ => show win0_4.index t 1 * 2048 + 1 * k.val = k.val; rw [e1]; omega
  | ⟨2, _⟩ => show win0_4.index t 2 * 512 + 1 * q.val = min (t.val % 13) 11 * 512 + q.val; rw [e2]; omega

/-- The tail's weights are the layer's last columns. -/
theorem tail_at (w : FVec Ideal S1x2048x6152 .f32) (k : Fin 2048) (q : Fin 512) :
    ((pad S2048x512 ![0, 0] ![0, 504] ![0, 0]
    (shapeCast S2048x8 (extractStridedSlice S1x2048x8 ![0, 0, 6144] (w : FVec Ideal S1x2048x6152 .bf16) slices_S1x2048x6152_S1x2048x8_0_0_6144)
      shapeCasts_S1x2048x8_S2048x8)
    (sitofp (F := Ideal) .bf16 (constantI S_ 32 0#32)) pads_S2048x8_S2048x512_000_05040 h_S_) : FVec Ideal S2048x512 .bf16) (ix2 k q) = col w k ⟨6144 + q.val, by omega⟩ := by
  unfold col
  pointwise
  by_cases h : q.val < 8
  · simp only [dif_pos h, dif_pos (show 6144 + q.val < 6152 by omega)]
  · simp only [dif_neg h, dif_neg (show ¬ 6144 + q.val < 6152 by omega)]
    exact fill_zero

theorem blk5 (c : Dev nD) (t : Fin cfg0.N) (k : Fin 2048) (q : Fin 512) :
    (iblk m c 5 t : FVec Ideal S2048x512 .bf16) (ix2 k q) = col (wts m c) k ⟨6144 + q.val, by omega⟩ := by
  obtain ⟨-, -, -, -, -, ⟨e0, e1⟩⟩ := idx_facts t
  unfold iblk; rw [View.read_apply]
  show V m c main_v4 _ = _
  rw [V_v4]
  have hj : ((win0 5).blk t).view.emb (ix2 k q) = ix2 k q := by
    funext a; apply Fin.ext
    match a with
    | ⟨0, _⟩ => show win0_5.index t 0 * 2048 + 1 * k.val = k.val; rw [e0]; omega
    | ⟨1, _⟩ => show win0_5.index t 1 * 512 + 1 * q.val = q.val; rw [e1]; omega
  exact (congrArg _ hj).trans (tail_at (wts m c) k q)

/-- The normalised rows of block `b`. -/
def hrows (c : Dev nD) (b : Fin 16) : Vec Ideal S1024x2048 .bf16 := fun y =>
  nrmAt (xin m c) (gin m c) (mdl m c) ⟨b.val * 1024 + (y 0).val, by have : (y 0).val < 1024 := (y 0).isLt; omega⟩ (y 1)

theorem rows_blk (c : Dev nD) (t : Fin cfg0.N) :
    rows (iblk m c 0 t) (iblk m c 1 t) (iblk m c 2 t) (iblk m c 3 t) = hrows m c (rb t) := by
  funext y
  obtain ⟨p, q, rfl⟩ : ∃ (p : Fin 1024) (q : Fin 2048), y = ix2 p q := ⟨y 0, y 1, ValueIdx.eq_ix2 y⟩
  show nrm (fun k => (iblk m c 0 t : FVec Ideal S1024x2048 .f32) (ix2 p k)) (fun k => (iblk m c 1 t : FVec Ideal S1x2048 .f32) (ix2 (0 : Fin 1) k))
    (fun k => (iblk m c 3 t : FVec Ideal S1x1x1x1x2048 .f32) (ix5 (0 : Fin 1) (0 : Fin 1) (0 : Fin 1) (0 : Fin 1) k))
    (fun k => (iblk m c 2 t : FVec Ideal S1x1x1x1x2048 .f32) (ix5 (0 : Fin 1) (0 : Fin 1) (0 : Fin 1) (0 : Fin 1) k)) q = _
  simp only [blk0, blk1, blk2 m c t p, blk3 m c t p]
  rfl

/-- What the run holds after a point: its block of the result, and the rows the block of points shares. -/
theorem state (c : Dev nD) : ∀ (n : ℕ) (hn : n < cfg0.N),
    outsAt0 m c n hn = (if n % 13 = 12 then k0_pay3 (hrows m c (rb ⟨n, hn⟩)) (iblk m c 5 ⟨n, hn⟩)
      else k0_pay2 (hrows m c (rb ⟨n, hn⟩)) (X0_4 m c ⟨n, hn⟩), hrows m c (rb ⟨n, hn⟩)) := by
  intro n
  induction n with
  | zero =>
    intro hn
    refine (outsAt0_A m c ⟨0, hn⟩ rfl (by show 0 % 13 ≤ 11; omega) (by show ¬ 0 % 13 = 12; omega)).trans ?_
    rw [out_A, sout_A, rows_blk, if_neg (by omega)]
  | succ n ih =>
    intro hn
    by_cases h : (n + 1) % 13 = 0
    · refine (outsAt0_A m c ⟨n + 1, hn⟩ h (by show (n + 1) % 13 ≤ 11; omega) (by show ¬ (n + 1) % 13 = 12; omega)).trans ?_
      rw [out_A, sout_A, rows_blk, if_neg (by omega)]
    · have e : rb ⟨n, Nat.lt_of_succ_lt hn⟩ = rb ⟨n + 1, hn⟩ := Fin.ext (show n / 13 = (n + 1) / 13 by omega)
      by_cases h' : (n + 1) % 13 = 12
      · refine (outsAt0_C m c ⟨n + 1, hn⟩ h (by show ¬ (n + 1) % 13 ≤ 11; omega) h').trans ?_
        rw [out_C, sout_C, if_pos h']
        show (k0_pay3 (outsAt0 m c n _).2 _, (outsAt0 m c n _).2) = _
        rw [ih (Nat.lt_of_succ_lt hn)]
        simp only [e]
      · refine (outsAt0_B m c ⟨n + 1, hn⟩ h (by show (n + 1) % 13 ≤ 11; omega) h').trans ?_
        rw [out_B, sout_B, if_neg h']
        show (k0_pay2 (outsAt0 m c n _).2 _, (outsAt0 m c n _).2) = _
        rw [ih (Nat.lt_of_succ_lt hn)]
        simp only [e]

theorem pay2_apply (x : Vec Ideal S1024x2048 .bf16) (w : Vec Ideal S1x2048x512 .bf16) (p : Fin 1024) (q : Fin 512) :
    k0_pay2 x w (ix2 p q) = ∑ k : Fin 2048, x (ix2 p k) * w (ix3 (0 : Fin 1) k q) := by
  pointwise [k0_pay2]

theorem pay3_apply (x : Vec Ideal S1024x2048 .bf16) (w : Vec Ideal S2048x512 .bf16) (p : Fin 1024) (q : Fin 512) :
    k0_pay3 x w (ix2 p q) = ∑ k : Fin 2048, x (ix2 p k) * w (ix2 k q) := by
  pointwise [k0_pay3]

theorem G6_eq (c : Dev nD) : Value.G6 m c = out (xin m c) (gin m c) (mdl m c) (wts m c) := by
  funext i
  obtain ⟨r, j, rfl⟩ : ∃ (r : Fin 16384) (j : Fin 6656), i = ix2 r j := ⟨i 0, i 1, ValueIdx.eq_ix2 i⟩
  have hp : Value.pt6Of (ix2 r j) = r.val / 1024 * 13 + j.val / 512 := by
    show 13 * (r.val / 1024 - 0) + 1 * (j.val / 512 - 0) = _
    omega
  have hlt : Value.pt6Of (ix2 r j) < cfg0.N := by
    rw [hp]; exact lt_of_lt_of_eq (b := 208) (by omega) (show cfg0.N = 208 from N_0).symm
  unfold Value.G6
  rw [dif_pos hlt, ← Value.outsAt0_sweep m c _ hlt, state]
  have hl : Value.loc6Of (ix2 r j) = ix2 (⟨r.val % 1024, by omega⟩ : Fin 1024) (⟨j.val % 512, by omega⟩ : Fin 512) := by
    funext a; match a with | ⟨0, _⟩ => rfl | ⟨1, _⟩ => rfl
  have e1 : (⟨(rb ⟨Value.pt6Of (ix2 r j), hlt⟩).val * 1024 + r.val % 1024, by omega⟩ : Fin 16384) = r :=
    Fin.ext (show Value.pt6Of (ix2 r j) / 13 * 1024 + r.val % 1024 = r.val by rw [hp]; omega)
  have hm : Value.pt6Of (ix2 r j) % 13 = j.val / 512 := by rw [hp]; omega
  rw [hl]
  unfold out
  show _ = outAt _ _ _ _ r j
  unfold outAt
  by_cases h : Value.pt6Of (ix2 r j) % 13 = 12
  · rw [if_pos h]
    refine (pay3_apply _ _ _ _).trans (Finset.sum_congr rfl fun k _ => ?_)
    rw [blk5]
    have e2 : (⟨6144 + j.val % 512, by omega⟩ : Fin 6656) = j := Fin.ext (show 6144 + j.val % 512 = j.val by omega)
    show nrmAt _ _ _ ⟨(rb ⟨Value.pt6Of (ix2 r j), hlt⟩).val * 1024 + r.val % 1024, _⟩ k * col _ k ⟨6144 + j.val % 512, _⟩ = _
    rw [e1, e2]
  · rw [if_neg h]
    refine (pay2_apply _ _ _ _).trans (Finset.sum_congr rfl fun k _ => ?_)
    rw [blk4]
    show nrmAt _ _ _ ⟨(rb ⟨Value.pt6Of (ix2 r j), hlt⟩).val * 1024 + r.val % 1024, _⟩ k
      * wts m c (ix3 (0 : Fin 1) k ⟨min (Value.pt6Of (ix2 r j) % 13) 11 * 512 + j.val % 512, _⟩) = _
    rw [e1]
    have hj : j.val < 6144 := by omega
    have e2 : (⟨min (Value.pt6Of (ix2 r j) % 13) 11 * 512 + j.val % 512, by omega⟩ : Fin 6152) = ⟨j.val, by omega⟩ :=
      Fin.ext (show min (Value.pt6Of (ix2 r j) % 13) 11 * 512 + j.val % 512 = j.val by rw [hm]; omega)
    rw [e2, col_main _ _ _ hj]

theorem run (ρ : Dev nD → PrngReg) : θ_run defs (onTc (τ := τ) (main (F := Ideal))) ⟨m, fun _ => 0, ρ⟩ fun r => ∀ c : Dev nD,
      r.2.mem ((c : Thread nD τ).loc main_v9) = out (xin m c) (gin m c) (mdl m c) (wts m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (G6_eq m c), (h c).2⟩) (Value.run m ρ)

end Fold

end Cert.MlstmInIdeal.Own

namespace Cert.MlstmInRefIdeal.Own

open Cert.MlstmInRefIdeal Idealize.ShloMosaic

/-- The reference's result is the layer's result. -/
theorem ref_eq (x0 : FVec Ideal S4x4096x2048 .f32) (x1 : FVec Ideal S4x2048 .f32) (x2 : FVec Ideal S4x8x12288 .f32)
    (x3 : FVec Ideal S1x2048x6152 .f32) : Read.val_main_v34 (F := Ideal) x0 x1 x2 x3 = Cert.MlstmInIdeal.Own.out x0 x1 x2 x3 := by
  funext i
  obtain ⟨r, j, rfl⟩ : ∃ (r : Fin 16384) (j : Fin 6656), i = ix2 r j := ⟨i 0, i 1, ValueIdx.eq_ix2 i⟩
  rw [← Read.val_main_v34_eq]
  unfold Cert.MlstmInIdeal.Own.out Cert.MlstmInIdeal.Own.outAt Cert.MlstmInIdeal.Own.nrmAt Cert.MlstmInIdeal.Own.nrm Cert.MlstmInIdeal.Own.col
  pointwise
  by_cases h : j.val < 6152
  · simp only [dif_pos h]
  · simp only [dif_neg h, mul_zero, Finset.sum_const_zero]
    exact Cert.MlstmInIdeal.Own.fill_zero

end Cert.MlstmInRefIdeal.Own

end
-- ==== Proof.MlstmInClaim.lean ====
module

public import proofs.«01_k».proof.Proof.MlstmInValue

@[expose] public section

noncomputable section

namespace Cert.MlstmInRefIdeal.Own

open Idealize.ShloMosaic Idealize.SL.Sem Cert.MlstmInRefIdeal

/-- The reference runs, leaves its arguments and counts nothing: it has no semaphore. -/
theorem quiet : Cert.quiescent_MlstmInRefIdeal := fun m ρ _ =>
  (θ_run _ _ _).mono (fun _ h => ⟨fun c => (h c).2, funext fun g => nomatch g.2⟩) (Value.run (F := Ideal) m ρ)

/-- The kernel and the reference end with the same rows. -/
theorem agree : Cert.algebraic_MlstmInIdeal_MlstmInRefIdeal := fun m ρ m' ρ' _ hag =>
  ⟨fun c => MlstmInIdeal.Own.out (MlstmInIdeal.Own.xin m c) (MlstmInIdeal.Own.gin m c) (MlstmInIdeal.Own.mdl m c)
      (MlstmInIdeal.Own.wts m c),
    MlstmInIdeal.Own.run m ρ,
    (θ_run _ _ _).mono (fun _ h c => by
      obtain ⟨a0, a1, a2, a3⟩ := hag c
      refine ⟨(h c).1.trans ?_, (h c).2⟩
      rw [a0, a1, a2, a3]
      exact (Read.val_main_v34_eq _ _ _ _).trans (ref_eq _ _ _ _)) (Value.run (F := Ideal) m' ρ')⟩

end Cert.MlstmInRefIdeal.Own

end
-- ==== Proof.RwkvInValue.lean ====
module

public import proofs.«01_k».proof.Defs
public import proofs.«01_k».proof.Proof.Gen.RwkvInIdeal.Value
public import proofs.«01_k».proof.Proof.Gen.RwkvInRefIdeal.Run
public import proofs.«01_k».proof.Proof.Gen.RwkvInRefIdeal.Read
public import Idealize.ShloMosaic.Lib.Pipeline.Value
public import Idealize.ShloMosaic.Lib.Pointwise
public import Idealize.ShloMosaic.Lib.VecWindow
public import Idealize.ShloMosaic.Lib.WholeRead

@[expose] public section

set_option maxRecDepth 16384

noncomputable section

namespace Cert.RwkvInIdeal.Own

open Cert.RwkvInIdeal Cert.RwkvInIdeal.Gen Idealize.ShloMosaic Idealize.ShloMosaic.TcCoe Idealize.SL.Sem
open Idealize.ShloMosaic.Pipeline (Dat)

variable (c : Dev nD) (i : grid0.Coords) (a2 : Memref sig .tc .vmem S1024x2048 .f32) (h2 : a2.IsWhole) (a3 : Memref sig .tc .vmem S1x2048 .f32) (h3 : a3.IsWhole) (a4 : Memref sig .tc .vmem S1x1x1x1x2048 .f32) (h4 : a4.IsWhole) (a5 : Memref sig .tc .vmem S1x1x1x1x2048 .f32) (h5 : a5.IsWhole) (a6 : Memref sig .tc .vmem S1x2048x512 .bf16) (h6 : a6.IsWhole) (a7 : Memref sig .tc .vmem S2048x512 .bf16) (h7 : a7.IsWhole) (a8 : Memref sig .tc .vmem S1024x512 .f32) (h8 : a8.IsWhole) (a9 : Memref sig .tc .vmem S1024x2048 .bf16) (h9 : a9.IsWhole) (x0 : Vec Ideal S1024x2048 .f32) (x1 : Vec Ideal S1x2048 .f32) (x2 : Vec Ideal S1x1x1x1x2048 .f32) (x3 : Vec Ideal S1x1x1x1x2048 .f32) (x4 : Vec Ideal S1x2048x512 .bf16) (x5 : Vec Ideal S2048x512 .bf16)

/-- One normalised and modulated entry of a row: `x · rsqrt(mean x² + ε) · g · (1 + sc) + sh`. -/
def nrm (x g sc sh : Fin 2048 → EReal) (k : Fin 2048) : EReal :=
  x k * Ideal.rsqrt (Ideal.div (∑ j, x j * x j) (Ideal.ofBits FTy.f32 1157627904#32) + Ideal.ofBits FTy.f32 897988541#32)
    * g k * (1 + sc k) + sh k

/-- The normalised rows of a block. -/
def rows : Vec Ideal S1024x2048 .bf16 := fun y =>
  nrm (fun k => x0 (ix2 (y 0) k)) (fun k => x1 (ix2 0 k)) (fun k => x3 (ix5 0 0 0 0 k)) (fun k => x2 (ix5 0 0 0 0 k)) (y 1)

/-- A load of a whole buffer reads what the buffer was given. -/
theorem load_whole {s : Shape} {e : EltTy} {a : Memref sig .tc .vmem s e} (h : a.IsWhole) (X : s.Idx → Elt Ideal e)
    {off : Fin s.rank → ℕ} (inb : ∀ a, off a + s.size a ≤ s.size a) :
    View.readAt (Elt Ideal) a.view (Rect.unit off s.size inb).toLoadRect (h.unread X) = X :=
  (View.readAt_full _ _ inb).trans (h.read_unread X)

/-- A load of sixteen rows reads them. -/
theorem load_rows (o : ℕ) (inb : ∀ a, (![o, 0] : Fin 2 → ℕ) a + S16x2048.size a ≤ S1024x2048.size a) (ho : o + 16 ≤ 1024)
    (r : Fin 16) (k : Fin 2048) :
    View.readAt (Elt Ideal) a2.view (Rect.unit (s := S1024x2048) ![o, 0] S16x2048.size inb).toLoadRect (h2.unread x0) (ix2 r k)
      = x0 (ix2 (⟨o + r.val, by omega⟩ : Fin 1024) k) := by
  rw [h2.readAt_unread]
  congr 1; funext a; apply Fin.ext
  match a with
  | ⟨0, _⟩ => show o + 1 * r.val = o + r.val; omega
  | ⟨1, _⟩ => show 0 + 1 * k.val = k.val; omega

/-- Sixteen rows of the block, normalised, are those rows of the normalised block. -/
theorem rowPiece (o : ℕ) (inb : ∀ a, (![o, 0] : Fin 2 → ℕ) a + S16x2048.size a ≤ S1024x2048.size a) (x : S16x2048.Idx) :
    k0_pay52 (kernelRun0_A.sl.r c a3 h3 x1) (kernelRun0_A.sl.r_1 c a4 h4 x2) (kernelRun0_A.sl.r_2 c a5 h5 x3)
      (View.readAt (Elt Ideal) a2.view (Rect.unit (s := S1024x2048) ![o, 0] S16x2048.size inb).toLoadRect (h2.unread x0)) x
      = rows x0 x1 x2 x3 ((Rect.unit (s := S1024x2048) ![o, 0] S16x2048.size inb).emb x) := by
  obtain ⟨r, k, rfl⟩ : ∃ (r : Fin 16) (k : Fin 2048), x = ix2 r k := ⟨x 0, x 1, ValueIdx.eq_ix2 x⟩
  have ho : o + 16 ≤ 1024 := inb 0
  have he : (Rect.unit (s := S1024x2048) ![o, 0] S16x2048.size inb).emb (ix2 r k)
      = ix2 (⟨o + r.val, by omega⟩ : Fin 1024) k := by
    funext a; apply Fin.ext
    match a with
    | ⟨0, _⟩ => show o + 1 * r.val = o + r.val; omega
    | ⟨1, _⟩ => show 0 + 1 * k.val = k.val; omega
  rw [he]
  unfold kernelRun0_A.sl.r kernelRun0_A.sl.r_1 kernelRun0_A.sl.r_2
  rw [load_whole (s := S1x2048) h3, load_whole (s := S1x1x1x1x2048) h4, load_whole (s := S1x1x1x1x2048) h5]
  have hv := load_rows a2 h2 x0 o inb ho
  generalize View.readAt (Elt Ideal) a2.view (Rect.unit (s := S1024x2048) ![o, 0] S16x2048.size inb).toLoadRect (h2.unread x0) = v at hv
  show _ = nrm (fun k => x0 (ix2 (⟨o + r.val, _⟩ : Fin 1024) k)) _ _ _ k
  unfold nrm
  simp only [← hv]
  pointwise [k0_pay52, k0_pay4, k0_pay5, k0_pay6]

theorem rowPieces : ∀ pc ∈ kernelRun0_A.sl.HS0_64 (F := Ideal) c a2 h2 a3 h3 a4 h4 a5 h5 x0 x1 x2 x3, ∀ x : pc.1.shape.Idx,
    pc.2 x = rows x0 x1 x2 x3 (pc.1.emb x) := by
  unfold kernelRun0_A.sl.HS0_64
  repeat' refine List.forall_mem_cons.2 ⟨?_, ?_⟩
  all_goals first
    | exact fun x => rowPiece c a2 h2 a3 h3 a4 h4 a5 h5 x0 x1 x2 x3 _ _ x
    | exact fun _ h => absurd h List.not_mem_nil
    | exact fun x => rowPiece c a2 h2 a3 h3 a4 h4 a5 h5 x0 x1 x2 x3 0 inb_S1024x2048_S16x2048_0_0 x

theorem sout_A (hc0 : cond0_0 i) (hc1 : cond0_1 i) (hc2 : ¬ cond0_2 i) : sout0_A_0 (F := Ideal) c i a2 h2 a3 h3 a4 h4 a5 h5 a6 h6 a7 h7 a8 h8 a9 h9 hc0 hc1 hc2 x0 x1 x2 x3 x4 x5 = rows x0 x1 x2 x3 := by
  funext y
  exact View.read_writes_apply_of_pieces _ _ _ _ (rowPieces c a2 h2 a3 h3 a4 h4 a5 h5 x0 x1 x2 x3) y
    (scover0_A_0 c i a2 h2 a3 h3 a4 h4 a5 h5 a6 h6 a7 h7 a8 h8 a9 h9 hc0 hc1 hc2 x0 x1 x2 x3 x4 x5 y)

theorem out_A (hc0 : cond0_0 i) (hc1 : cond0_1 i) (hc2 : ¬ cond0_2 i) : out0_A_6 (F := Ideal) c i a2 h2 a3 h3 a4 h4 a5 h5 a6 h6 a7 h7 a8 h8 a9 h9 hc0 hc1 hc2 x0 x1 x2 x3 x4 x5
    = k0_pay2 (rows x0 x1 x2 x3) x4 := by
  unfold out0_A_6 kernelRun0_A
  dsimp only
  refine (View.read_writes_full (s := S1024x512) _ _ _ _ _).trans ?_
  refine congrArg₂ k0_pay2 ?_ (load_whole (s := S1x2048x512) h6 x4 _)
  refine (View.readAt_full (s := S1024x2048) _ _ _).trans ?_
  funext y
  exact View.read_writes_apply_of_pieces _ _ _ _ (rowPieces c a2 h2 a3 h3 a4 h4 a5 h5 x0 x1 x2 x3) y
    (scover0_A_0 c i a2 h2 a3 h3 a4 h4 a5 h5 a6 h6 a7 h7 a8 h8 a9 h9 hc0 hc1 hc2 x0 x1 x2 x3 x4 x5 y)

theorem out_B (hc0 : ¬ cond0_0 i) (hc1 : cond0_1 i) (hc2 : ¬ cond0_2 i) (xs : Vec Ideal S1024x2048 .bf16) :
    out0_B_6 (F := Ideal) c i a2 h2 a3 h3 a4 h4 a5 h5 a6 h6 a7 h7 a8 h8 a9 h9 hc0 hc1 hc2 x0 x1 x2 x3 x4 x5 xs = k0_pay2 xs x4 := by
  unfold out0_B_6 kernelRun0_B
  dsimp only
  refine (View.read_writes_full (s := S1024x512) _ _ _ _ _).trans ?_
  exact congrArg₂ k0_pay2 (load_whole (s := S1024x2048) h9 xs _) (load_whole (s := S1x2048x512) h6 x4 _)

theorem out_C (hc0 : ¬ cond0_0 i) (hc1 : ¬ cond0_1 i) (hc2 : cond0_2 i) (xs : Vec Ideal S1024x2048 .bf16) :
    out0_C_6 (F := Ideal) c i a2 h2 a3 h3 a4 h4 a5 h5 a6 h6 a7 h7 a8 h8 a9 h9 hc0 hc1 hc2 x0 x1 x2 x3 x4 x5 xs = k0_pay3 xs x5 := by
  unfold out0_C_6 kernelRun0_C
  dsimp only
  refine (View.read_writes_full (s := S1024x512) _ _ _ _ _).trans ?_
  exact congrArg₂ k0_pay3 (load_whole (s := S1024x2048) h9 xs _) (load_whole (s := S2048x512) h7 x5 _)

theorem sout_B (hc0 : ¬ cond0_0 i) (hc1 : cond0_1 i) (hc2 : ¬ cond0_2 i) (xs : Vec Ideal S1024x2048 .bf16) :
    sout0_B_0 (F := Ideal) c i a2 h2 a3 h3 a4 h4 a5 h5 a6 h6 a7 h7 a8 h8 a9 h9 hc0 hc1 hc2 x0 x1 x2 x3 x4 x5 xs = xs := rfl

theorem sout_C (hc0 : ¬ cond0_0 i) (hc1 : ¬ cond0_1 i) (hc2 : cond0_2 i) (xs : Vec Ideal S1024x2048 .bf16) :
    sout0_C_0 (F := Ideal) c i a2 h2 a3 h3 a4 h4 a5 h5 a6 h6 a7 h7 a8 h8 a9 h9 hc0 hc1 hc2 x0 x1 x2 x3 x4 x5 xs = xs := rfl

section Fold

variable (m : (ℓ : Loc nD τ sig) → Buf (Elt Ideal) ℓ)

abbrev xin (c : Dev nD) : FVec Ideal S4x4096x2048 .f32 := m ((c : Thread nD τ).loc main_arg0)
abbrev gin (c : Dev nD) : FVec Ideal S4x2048 .f32 := m ((c : Thread nD τ).loc main_arg1)
abbrev mdl (c : Dev nD) : FVec Ideal S4x8x12288 .f32 := m ((c : Thread nD τ).loc main_arg2)
abbrev wts (c : Dev nD) : FVec Ideal S1x2048x6592 .f32 := m ((c : Thread nD τ).loc main_arg3)

theorem idx_facts : ∀ t : Fin cfg0.N, (win0_0.index t 0 = t.val / 13 ∧ win0_0.index t 1 = 0)
    ∧ (win0_1.index t 0 = 0 ∧ win0_1.index t 1 = 0)
    ∧ (win0_2.index t 0 = 1 ∧ win0_2.index t 1 = t.val / 52 ∧ win0_2.index t 2 = 0 ∧ win0_2.index t 3 = 0 ∧ win0_2.index t 4 = 0)
    ∧ (win0_3.index t 0 = 1 ∧ win0_3.index t 1 = t.val / 52 ∧ win0_3.index t 2 = 1 ∧ win0_3.index t 3 = 0 ∧ win0_3.index t 4 = 0)
    ∧ (win0_4.index t 0 = 0 ∧ win0_4.index t 1 = 0 ∧ win0_4.index t 2 = min (t.val % 13) 11)
    ∧ (win0_5.index t 0 = 0 ∧ win0_5.index t 1 = 0) :=
  (by decide +kernel : ∀ t : Fin grid0.N, _)

theorem lt208 (t : Fin cfg0.N) : t.val < 208 := lt_of_lt_of_eq t.isLt (show cfg0.N = 208 from N_0)

/-- The block of rows a point works on. -/
def rb (t : Fin cfg0.N) : Fin 16 := ⟨t.val / 13, by have := lt208 t; omega⟩

/-- Row `r` of the layer's input, normalised and modulated. -/
def nrmAt (x : FVec Ideal S4x4096x2048 .f32) (g : FVec Ideal S4x2048 .f32) (md : FVec Ideal S4x8x12288 .f32) (r : Fin 16384)
    (k : Fin 2048) : EReal :=
  nrm (fun k => x (ix3 (⟨r.val / 4096, by omega⟩ : Fin 4) (⟨r.val % 4096, by omega⟩ : Fin 4096) k)) (fun k => g (ix2 (1 : Fin 4) k))
    (fun k => md (ix3 (1 : Fin 4) (⟨r.val / 4096, by omega⟩ : Fin 8) (⟨2048 + k.val, by omega⟩ : Fin 12288)))
    (fun k => md (ix3 (1 : Fin 4) (⟨r.val / 4096, by omega⟩ : Fin 8) (⟨k.val, by omega⟩ : Fin 12288))) k

/-- The word zero as a number. -/
theorem fill_zero : (((0#32 : BitVec 32).toInt : ℝ) : EReal) = 0 := by simp

/-- The weights of column `j`: the layer's columns, with 32 zero columns after each of the two low-rank inputs of 96. -/
def col (w : FVec Ideal S1x2048x6592 .f32) (k : Fin 2048) (j : Fin 6656) : EReal :=
  if h0 : j.val < 6240 then w (ix3 (0 : Fin 1) k ⟨j.val, by omega⟩)
  else if h1 : j.val < 6272 then 0
  else if h2 : j.val < 6368 then w (ix3 (0 : Fin 1) k ⟨j.val - 32, by omega⟩)
  else if h3 : j.val < 6400 then 0
  else w (ix3 (0 : Fin 1) k ⟨j.val - 64, by omega⟩)

theorem col_main (w : FVec Ideal S1x2048x6592 .f32) (k : Fin 2048) (j : Fin 6656) (h : j.val < 6144) :
    col w k j = w (ix3 (0 : Fin 1) k ⟨j.val, by omega⟩) := dif_pos (by omega)

/-- The low-rank columns of the weights. -/
abbrev low (w : FVec Ideal S1x2048x6592 .f32) : FVec Ideal S2048x448 .bf16 :=
  shapeCast S2048x448 (extractStridedSlice S1x2048x448 ![0, 0, 6144] (w : FVec Ideal S1x2048x6592 .bf16) slices_S1x2048x6592_S1x2048x448_0_0_6144)
    shapeCasts_S1x2048x448_S2048x448

/-- The layer's result at row `r`, column `j`. -/
def outAt (x : FVec Ideal S4x4096x2048 .f32) (g : FVec Ideal S4x2048 .f32) (md : FVec Ideal S4x8x12288 .f32)
    (w : FVec Ideal S1x2048x6592 .f32) (r : Fin 16384) (j : Fin 6656) : EReal :=
  ∑ k : Fin 2048, nrmAt x g md r k * col w k j

/-- … as an array. -/
def out (x : FVec Ideal S4x4096x2048 .f32) (g : FVec Ideal S4x2048 .f32) (md : FVec Ideal S4x8x12288 .f32)
    (w : FVec Ideal S1x2048x6592 .f32) : FVec Ideal S16384x6656 .f32 := fun i => outAt x g md w (i 0) (i 1)

theorem V_v0 (c : Dev nD) : V m c main_v0 = shapeCast S4x8x6x1x2048 (mdl m c) shapeCasts_S4x8x12288_S4x8x6x1x2048 := by
  show StableHlo.after (List.flatten [hostOps0 (F := Ideal), hostOps0_1, hostOps0_2, hostOps0_3, hostOps0_4]) _ (Proc.devRef .tc main_v0) = _
  simp only [hostOps0, hostOps0_1, hostOps0_2, hostOps0_3, hostOps0_4, List.flatten_cons, List.flatten_nil, List.append_nil, List.cons_append, List.nil_append]
  after_results
  rfl
theorem V_v10 (c : Dev nD) : V m c main_v10 = shapeCast S16384x2048 (xin m c) shapeCasts_S4x4096x2048_S16384x2048 := by
  show StableHlo.after (List.flatten [hostOps0 (F := Ideal), hostOps0_1, hostOps0_2, hostOps0_3, hostOps0_4]) _ (Proc.devRef .tc main_v10) = _
  simp only [hostOps0, hostOps0_1, hostOps0_2, hostOps0_3, hostOps0_4, List.flatten_cons, List.flatten_nil, List.append_nil, List.cons_append, List.nil_append]
  after_results
  rfl
theorem V_v13 (c : Dev nD) : V m c main_v13 = shapeCast S1x2048 (shapeCast S2048 (extractStridedSlice S1x2048 ![1, 0] (gin m c) slices_S4x2048_S1x2048_1_0)
    shapeCasts_S1x2048_S2048) shapeCasts_S2048_S1x2048 := by
  show StableHlo.after (List.flatten [hostOps0 (F := Ideal), hostOps0_1, hostOps0_2, hostOps0_3, hostOps0_4]) _ (Proc.devRef .tc main_v13) = _
  simp only [hostOps0, hostOps0_1, hostOps0_2, hostOps0_3, hostOps0_4, List.flatten_cons, List.flatten_nil, List.append_nil, List.cons_append, List.nil_append]
  after_results
  rfl

theorem V_v1 (c : Dev nD) : V (F := Ideal) m c main_v1 = wts m c := by
  show StableHlo.after (List.flatten [hostOps0 (F := Ideal), hostOps0_1, hostOps0_2, hostOps0_3, hostOps0_4]) _ (Proc.devRef .tc main_v1) = _
  simp only [hostOps0, hostOps0_1, hostOps0_2, hostOps0_3, hostOps0_4, List.flatten_cons, List.flatten_nil, List.append_nil, List.cons_append, List.nil_append]
  after_results
  rfl
theorem V_v9 (c : Dev nD) : V (F := Ideal) m c main_v9 = concatenate S2048x512 1
    [⟨S2048x128, pad S2048x128 ![0, 0] ![0, 32] ![0, 0] (extractStridedSlice S2048x96 ![0, 0] (low (wts m c)) slices_S2048x448_S2048x96_0_0)
      (sitofp (F := Ideal) .bf16 (constantI S_ 32 0#32)) pads_S2048x96_S2048x128_000_0320 h_S_⟩,
    ⟨S2048x128, pad S2048x128 ![0, 0] ![0, 32] ![0, 0] (extractStridedSlice S2048x96 ![0, 96] (low (wts m c)) slices_S2048x448_S2048x96_0_96)
      (sitofp (F := Ideal) .bf16 (constantI S_ 32 0#32)) pads_S2048x96_S2048x128_000_0320 h_S_⟩,
    ⟨S2048x256, extractStridedSlice S2048x256 ![0, 192] (low (wts m c)) slices_S2048x448_S2048x256_0_192⟩]
    concatenates_S2048x128_S2048x128_S2048x256_S2048x512_d1 := by
  show StableHlo.after (List.flatten [hostOps0 (F := Ideal), hostOps0_1, hostOps0_2, hostOps0_3, hostOps0_4]) _ (Proc.devRef .tc main_v9) = _
  simp only [hostOps0, hostOps0_1, hostOps0_2, hostOps0_3, hostOps0_4, List.flatten_cons, List.flatten_nil, List.append_nil, List.cons_append, List.nil_append]
  after_results
  rfl

theorem blk0 (c : Dev nD) (t : Fin cfg0.N) (p : Fin 1024) (k : Fin 2048) :
    (iblk m c 0 t : FVec Ideal S1024x2048 .f32) (ix2 p k)
      = xin m c (ix3 (⟨((rb t).val * 1024 + p.val) / 4096, by omega⟩ : Fin 4) (⟨((rb t).val * 1024 + p.val) % 4096, by omega⟩ : Fin 4096) k) := by
  have hN := lt208 t
  obtain ⟨⟨e0, e1⟩, -⟩ := idx_facts t
  unfold iblk; rw [View.read_apply]
  show V m c main_v10 _ = _
  rw [V_v10]
  refine shapeCast_apply _ _ _ _ ?_
  rw [Shape.rowMajor_val_three, Shape.rowMajor_val_two]
  show ((t.val / 13 * 1024 + p.val) / 4096 * 4096 + (t.val / 13 * 1024 + p.val) % 4096) * 2048 + k.val
    = (win0_0.index t 0 * 1024 + 1 * p.val) * 2048 + (win0_0.index t 1 * 2048 + 1 * k.val)
  rw [e0, e1]; omega

theorem blk1 (c : Dev nD) (t : Fin cfg0.N) (k : Fin 2048) :
    (iblk m c 1 t : FVec Ideal S1x2048 .f32) (ix2 (0 : Fin 1) k) = gin m c (ix2 (1 : Fin 4) k) := by
  obtain ⟨-, ⟨e0, e1⟩, -⟩ := idx_facts t
  unfold iblk; rw [View.read_apply]
  show V m c main_v13 _ = _
  rw [V_v13]
  have hj : ((win0 1).blk t).view.emb (ix2 (0 : Fin 1) k) = ix2 (0 : Fin 1) k := by
    funext a; apply Fin.ext
    match a with
    | ⟨0, _⟩ => show win0_1.index t 0 * 1 + 1 * 0 = 0; rw [e0]
    | ⟨1, _⟩ => show win0_1.index t 1 * 2048 + 1 * k.val = k.val; rw [e1]; omega
  refine (congrArg _ hj).trans ?_
  pointwise

theorem blk2 (c : Dev nD) (t : Fin cfg0.N) (p : Fin 1024) (q : Fin 2048) :
    (iblk m c 2 t : FVec Ideal S1x1x1x1x2048 .f32) (ix5 (0 : Fin 1) (0 : Fin 1) (0 : Fin 1) (0 : Fin 1) q)
      = mdl m c (ix3 (1 : Fin 4) (⟨((rb t).val * 1024 + p.val) / 4096, by omega⟩ : Fin 8) (⟨q.val, by omega⟩ : Fin 12288)) := by
  have hN := lt208 t
  obtain ⟨-, -, ⟨e0, e1, e2, e3, e4⟩, -⟩ := idx_facts t
  unfold iblk; rw [View.read_apply]
  show V m c main_v0 _ = _
  rw [V_v0]
  refine shapeCast_apply _ _ _ _ ?_
  rw [Shape.rowMajor_val_three, Shape.rowMajor_val_five]
  show (1 * 8 + (t.val / 13 * 1024 + p.val) / 4096) * 12288 + q.val
    = ((((win0_2.index t 0 * 1 + 1 * 0) * 8 + (win0_2.index t 1 * 1 + 1 * 0)) * 6 + (win0_2.index t 2 * 1 + 1 * 0)) * 1
        + (win0_2.index t 3 * 1 + 1 * 0)) * 2048 + (win0_2.index t 4 * 2048 + 1 * q.val)
  rw [e0, e1, e2, e3, e4]; omega

theorem blk3 (c : Dev nD) (t : Fin cfg0.N) (p : Fin 1024) (q : Fin 2048) :
    (iblk m c 3 t : FVec Ideal S1x1x1x1x2048 .f32) (ix5 (0 : Fin 1) (0 : Fin 1) (0 : Fin 1) (0 : Fin 1) q)
      = mdl m c (ix3 (1 : Fin 4) (⟨((rb t).val * 1024 + p.val) / 4096, by omega⟩ : Fin 8) (⟨2048 + q.val, by omega⟩ : Fin 12288)) := by
  have hN := lt208 t
  obtain ⟨-, -, -, ⟨e0, e1, e2, e3, e4⟩, -⟩ := idx_facts t
  unfold iblk; rw [View.read_apply]
  show V m c main_v0 _ = _
  rw [V_v0]
  refine shapeCast_apply _ _ _ _ ?_
  rw [Shape.rowMajor_val_three, Shape.rowMajor_val_five]
  show (1 * 8 + (t.val / 13 * 1024 + p.val) / 4096) * 12288 + (2048 + q.val)
    = ((((win0_3.index t 0 * 1 + 1 * 0) * 8 + (win0_3.index t 1 * 1 + 1 * 0)) * 6 + (win0_3.index t 2 * 1 + 1 * 0)) * 1
        + (win0_3.index t 3 * 1 + 1 * 0)) * 2048 + (win0_3.index t 4 * 2048 + 1 * q.val)
  rw [e0, e1, e2, e3, e4]; omega

theorem blk4 (c : Dev nD) (t : Fin cfg0.N) (k : Fin 2048) (q : Fin 512) :
    (X0_4 m c t : FVec Ideal S1x2048x512 .bf16) (ix3 (0 : Fin 1) k q)
      = wts m c (ix3 (0 : Fin 1) k (⟨min (t.val % 13) 11 * 512 + q.val, by omega⟩ : Fin 6592)) := by
  obtain ⟨-, -, -, -, ⟨e0, e1, e2⟩, -⟩ := idx_facts t
  refine (dif_pos (moved0_4 t (ix3 (0 : Fin 1) k q))).trans ?_
  unfold iblk; rw [View.read_apply]
  show V m c main_v1 _ = _
  rw [V_v1]
  congr 1; funext a; apply Fin.ext
  match a with
  | ⟨0, _⟩ => show win0_4.index t 0 * 1 + 1 * 0 = 0; rw [e0]
  | ⟨1, _⟩ => show win0_4.index t 1 * 2048 + 1 * k.val = k.val; rw [e1]; omega
  | ⟨2, _⟩ => show win0_4.index t 2 * 512 + 1 * q.val = min (t.val % 13) 11 * 512 + q.val; rw [e2]; omega

/-- The tail's weights are the layer's last columns. -/
theorem tail_at (w : FVec Ideal S1x2048x6592 .f32) (k : Fin 2048) (q : Fin 512) :
    ((concatenate S2048x512 1
    [⟨S2048x128, pad S2048x128 ![0, 0] ![0, 32] ![0, 0] (extractStridedSlice S2048x96 ![0, 0] (low (w)) slices_S2048x448_S2048x96_0_0)
      (sitofp (F := Ideal) .bf16 (constantI S_ 32 0#32)) pads_S2048x96_S2048x128_000_0320 h_S_⟩,
    ⟨S2048x128, pad S2048x128 ![0, 0] ![0, 32] ![0, 0] (extractStridedSlice S2048x96 ![0, 96] (low (w)) slices_S2048x448_S2048x96_0_96)
      (sitofp (F := Ideal) .bf16 (constantI S_ 32 0#32)) pads_S2048x96_S2048x128_000_0320 h_S_⟩,
    ⟨S2048x256, extractStridedSlice S2048x256 ![0, 192] (low (w)) slices_S2048x448_S2048x256_0_192⟩]
    concatenates_S2048x128_S2048x128_S2048x256_S2048x512_d1) : FVec Ideal S2048x512 .bf16) (ix2 k q) = col w k ⟨6144 + q.val, by omega⟩ := by
  unfold col low
  pointwise
  by_cases h0 : q.val < 96
  · simp only [dif_pos h0, dif_pos (show q.val < 128 by omega), dif_pos (show 6144 + q.val < 6240 by omega)]
  by_cases h1 : q.val < 128
  · simp only [dif_neg h0, dif_pos h1, dif_neg (show ¬ 6144 + q.val < 6240 by omega), dif_pos (show 6144 + q.val < 6272 by omega)]
    exact fill_zero
  have n0 : ¬ 6144 + q.val < 6240 := by omega
  have n1 : ¬ 6144 + q.val < 6272 := by omega
  by_cases h2 : q.val < 224
  · simp only [dif_neg h1, dif_pos (show q.val - 128 < 128 by omega), dif_pos (show q.val - 128 < 96 by omega), dif_neg n0, dif_neg n1,
      dif_pos (show 6144 + q.val < 6368 by omega)]
    congr 2; apply Fin.ext; show 6144 + (96 + (q.val - 128)) = 6144 + q.val - 32; omega
  have n2 : ¬ 6144 + q.val < 6368 := by omega
  by_cases h3 : q.val < 256
  · simp only [dif_neg h1, dif_pos (show q.val - 128 < 128 by omega), dif_neg (show ¬ q.val - 128 < 96 by omega), dif_neg n0, dif_neg n1,
      dif_neg n2, dif_pos (show 6144 + q.val < 6400 by omega)]
    exact fill_zero
  · simp only [dif_neg h1, dif_neg (show ¬ q.val - 128 < 128 by omega), dif_neg n0, dif_neg n1, dif_neg n2,
      dif_neg (show ¬ 6144 + q.val < 6400 by omega)]
    congr 2; apply Fin.ext; show 6144 + (192 + (q.val - 128 - 128)) = 6144 + q.val - 64; omega

theorem blk5 (c : Dev nD) (t : Fin cfg0.N) (k : Fin 2048) (q : Fin 512) :
    (iblk m c 5 t : FVec Ideal S2048x512 .bf16) (ix2 k q) = col (wts m c) k ⟨6144 + q.val, by omega⟩ := by
  obtain ⟨-, -, -, -, -, ⟨e0, e1⟩⟩ := idx_facts t
  unfold iblk; rw [View.read_apply]
  show V m c main_v9 _ = _
  rw [V_v9]
  have hj : ((win0 5).blk t).view.emb (ix2 k q) = ix2 k q := by
    funext a; apply Fin.ext
    match a with
    | ⟨0, _⟩ => show win0_5.index t 0 * 2048 + 1 * k.val = k.val; rw [e0]; omega
    | ⟨1, _⟩ => show win0_5.index t 1 * 512 + 1 * q.val = q.val; rw [e1]; omega
  exact (congrArg _ hj).trans (tail_at (wts m c) k q)

/-- The normalised rows of block `b`. -/
def hrows (c : Dev nD) (b : Fin 16) : Vec Ideal S1024x2048 .bf16 := fun y =>
  nrmAt (xin m c) (gin m c) (mdl m c) ⟨b.val * 1024 + (y 0).val, by have : (y 0).val < 1024 := (y 0).isLt; omega⟩ (y 1)

theorem rows_blk (c : Dev nD) (t : Fin cfg0.N) :
    rows (iblk m c 0 t) (iblk m c 1 t) (iblk m c 2 t) (iblk m c 3 t) = hrows m c (rb t) := by
  funext y
  obtain ⟨p, q, rfl⟩ : ∃ (p : Fin 1024) (q : Fin 2048), y = ix2 p q := ⟨y 0, y 1, ValueIdx.eq_ix2 y⟩
  show nrm (fun k => (iblk m c 0 t : FVec Ideal S1024x2048 .f32) (ix2 p k)) (fun k => (iblk m c 1 t : FVec Ideal S1x2048 .f32) (ix2 (0 : Fin 1) k))
    (fun k => (iblk m c 3 t : FVec Ideal S1x1x1x1x2048 .f32) (ix5 (0 : Fin 1) (0 : Fin 1) (0 : Fin 1) (0 : Fin 1) k))
    (fun k => (iblk m c 2 t : FVec Ideal S1x1x1x1x2048 .f32) (ix5 (0 : Fin 1) (0 : Fin 1) (0 : Fin 1) (0 : Fin 1) k)) q = _
  simp only [blk0, blk1, blk2 m c t p, blk3 m c t p]
  rfl

/-- What the run holds after a point: its block of the result, and the rows the block of points shares. -/
theorem state (c : Dev nD) : ∀ (n : ℕ) (hn : n < cfg0.N),
    outsAt0 m c n hn = (if n % 13 = 12 then k0_pay3 (hrows m c (rb ⟨n, hn⟩)) (iblk m c 5 ⟨n, hn⟩)
      else k0_pay2 (hrows m c (rb ⟨n, hn⟩)) (X0_4 m c ⟨n, hn⟩), hrows m c (rb ⟨n, hn⟩)) := by
  intro n
  induction n with
  | zero =>
    intro hn
    refine (outsAt0_A m c ⟨0, hn⟩ rfl (by show 0 % 13 ≤ 11; omega) (by show ¬ 0 % 13 = 12; omega)).trans ?_
    rw [out_A, sout_A, rows_blk, if_neg (by omega)]
  | succ n ih =>
    intro hn
    by_cases h : (n + 1) % 13 = 0
    · refine (outsAt0_A m c ⟨n + 1, hn⟩ h (by show (n + 1) % 13 ≤ 11; omega) (by show ¬ (n + 1) % 13 = 12; omega)).trans ?_
      rw [out_A, sout_A, rows_blk, if_neg (by omega)]
    · have e : rb ⟨n, Nat.lt_of_succ_lt hn⟩ = rb ⟨n + 1, hn⟩ := Fin.ext (show n / 13 = (n + 1) / 13 by omega)
      by_cases h' : (n + 1) % 13 = 12
      · refine (outsAt0_C m c ⟨n + 1, hn⟩ h (by show ¬ (n + 1) % 13 ≤ 11; omega) h').trans ?_
        rw [out_C, sout_C, if_pos h']
        show (k0_pay3 (outsAt0 m c n _).2 _, (outsAt0 m c n _).2) = _
        rw [ih (Nat.lt_of_succ_lt hn)]
        simp only [e]
      · refine (outsAt0_B m c ⟨n + 1, hn⟩ h (by show (n + 1) % 13 ≤ 11; omega) h').trans ?_
        rw [out_B, sout_B, if_neg h']
        show (k0_pay2 (outsAt0 m c n _).2 _, (outsAt0 m c n _).2) = _
        rw [ih (Nat.lt_of_succ_lt hn)]
        simp only [e]

theorem pay2_apply (x : Vec Ideal S1024x2048 .bf16) (w : Vec Ideal S1x2048x512 .bf16) (p : Fin 1024) (q : Fin 512) :
    k0_pay2 x w (ix2 p q) = ∑ k : Fin 2048, x (ix2 p k) * w (ix3 (0 : Fin 1) k q) := by
  pointwise [k0_pay2]

theorem pay3_apply (x : Vec Ideal S1024x2048 .bf16) (w : Vec Ideal S2048x512 .bf16) (p : Fin 1024) (q : Fin 512) :
    k0_pay3 x w (ix2 p q) = ∑ k : Fin 2048, x (ix2 p k) * w (ix2 k q) := by
  pointwise [k0_pay3]

theorem G6_eq (c : Dev nD) : Value.G6 m c = out (xin m c) (gin m c) (mdl m c) (wts m c) := by
  funext i
  obtain ⟨r, j, rfl⟩ : ∃ (r : Fin 16384) (j : Fin 6656), i = ix2 r j := ⟨i 0, i 1, ValueIdx.eq_ix2 i⟩
  have hp : Value.pt6Of (ix2 r j) = r.val / 1024 * 13 + j.val / 512 := by
    show 13 * (r.val / 1024 - 0) + 1 * (j.val / 512 - 0) = _
    omega
  have hlt : Value.pt6Of (ix2 r j) < cfg0.N := by
    rw [hp]; exact lt_of_lt_of_eq (b := 208) (by omega) (show cfg0.N = 208 from N_0).symm
  unfold Value.G6
  rw [dif_pos hlt, ← Value.outsAt0_sweep m c _ hlt, state]
  have hl : Value.loc6Of (ix2 r j) = ix2 (⟨r.val % 1024, by omega⟩ : Fin 1024) (⟨j.val % 512, by omega⟩ : Fin 512) := by
    funext a; match a with | ⟨0, _⟩ => rfl | ⟨1, _⟩ => rfl
  have e1 : (⟨(rb ⟨Value.pt6Of (ix2 r j), hlt⟩).val * 1024 + r.val % 1024, by omega⟩ : Fin 16384) = r :=
    Fin.ext (show Value.pt6Of (ix2 r j) / 13 * 1024 + r.val % 1024 = r.val by rw [hp]; omega)
  have hm : Value.pt6Of (ix2 r j) % 13 = j.val / 512 := by rw [hp]; omega
  rw [hl]
  unfold out
  show _ = outAt _ _ _ _ r j
  unfold outAt
  by_cases h : Value.pt6Of (ix2 r j) % 13 = 12
  · rw [if_pos h]
    refine (pay3_apply _ _ _ _).trans (Finset.sum_congr rfl fun k _ => ?_)
    rw [blk5]
    have e2 : (⟨6144 + j.val % 512, by omega⟩ : Fin 6656) = j := Fin.ext (show 6144 + j.val % 512 = j.val by omega)
    show nrmAt _ _ _ ⟨(rb ⟨Value.pt6Of (ix2 r j), hlt⟩).val * 1024 + r.val % 1024, _⟩ k * col _ k ⟨6144 + j.val % 512, _⟩ = _
    rw [e1, e2]
  · rw [if_neg h]
    refine (pay2_apply _ _ _ _).trans (Finset.sum_congr rfl fun k _ => ?_)
    rw [blk4]
    show nrmAt _ _ _ ⟨(rb ⟨Value.pt6Of (ix2 r j), hlt⟩).val * 1024 + r.val % 1024, _⟩ k
      * wts m c (ix3 (0 : Fin 1) k ⟨min (Value.pt6Of (ix2 r j) % 13) 11 * 512 + j.val % 512, _⟩) = _
    rw [e1]
    have hj : j.val < 6144 := by omega
    have e2 : (⟨min (Value.pt6Of (ix2 r j) % 13) 11 * 512 + j.val % 512, by omega⟩ : Fin 6592) = ⟨j.val, by omega⟩ :=
      Fin.ext (show min (Value.pt6Of (ix2 r j) % 13) 11 * 512 + j.val % 512 = j.val by rw [hm]; omega)
    rw [e2, col_main _ _ _ hj]

theorem run (ρ : Dev nD → PrngReg) : θ_run defs (onTc (τ := τ) (main (F := Ideal))) ⟨m, fun _ => 0, ρ⟩ fun r => ∀ c : Dev nD,
      r.2.mem ((c : Thread nD τ).loc main_v14) = out (xin m c) (gin m c) (mdl m c) (wts m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (G6_eq m c), (h c).2⟩) (Value.run m ρ)

end Fold

end Cert.RwkvInIdeal.Own

namespace Cert.RwkvInRefIdeal.Own

open Cert.RwkvInRefIdeal Idealize.ShloMosaic

/-- The reference's projection at an index. -/
theorem proj_at (x0 : FVec Ideal S4x4096x2048 .f32) (x1 : FVec Ideal S4x2048 .f32) (x2 : FVec Ideal S4x8x12288 .f32)
    (x3 : FVec Ideal S1x2048x6592 .f32) (r : Fin 16384) (j : Fin 6592) : Read.val_main_v33 (F := Ideal) x0 x1 x2 x3 (ix2 r j)
      = ∑ k : Fin 2048, Cert.RwkvInIdeal.Own.nrmAt x0 x1 x2 r k * x3 (ix3 (0 : Fin 1) k j) := by
  unfold Cert.RwkvInIdeal.Own.nrmAt Cert.RwkvInIdeal.Own.nrm
  pointwise [Read.val_main_v0, Read.val_main_v1, Read.val_main_v2, Read.val_main_v3, Read.val_main_v4, Read.val_main_v5, Read.val_main_v6, Read.val_main_v7, Read.val_main_v8, Read.val_main_v9, Read.val_main_v10, Read.val_main_cst, Read.val_main_v11, Read.val_main_v12, Read.val_main_cst_0, Read.val_main_v13, Read.val_main_v14, Read.val_main_cst_1, Read.val_main_v15, Read.val_main_v16, Read.val_main_v17, Read.val_main_v18, Read.val_main_v19, Read.val_main_v20, Read.val_main_v21, Read.val_main_v22, Read.val_main_v23, Read.val_main_cst_2, Read.val_main_v24, Read.val_main_v25, Read.val_main_v26, Read.val_main_v27, Read.val_main_v28, Read.val_main_v29, Read.val_main_v30, Read.val_main_v31, Read.val_main_v32, Read.val_main_v33]

/-- The reference's result is the layer's result. -/
theorem ref_eq (x0 : FVec Ideal S4x4096x2048 .f32) (x1 : FVec Ideal S4x2048 .f32) (x2 : FVec Ideal S4x8x12288 .f32)
    (x3 : FVec Ideal S1x2048x6592 .f32) : Read.val_main_v40 (F := Ideal) x0 x1 x2 x3 = Cert.RwkvInIdeal.Own.out x0 x1 x2 x3 := by
  funext i
  obtain ⟨r, j, rfl⟩ : ∃ (r : Fin 16384) (j : Fin 6656), i = ix2 r j := ⟨i 0, i 1, ValueIdx.eq_ix2 i⟩
  unfold Cert.RwkvInIdeal.Own.out Cert.RwkvInIdeal.Own.outAt Cert.RwkvInIdeal.Own.col
  have hy := proj_at x0 x1 x2 x3 r
  unfold Read.val_main_v40 Read.val_main_v39 Read.val_main_v38 Read.val_main_v37 Read.val_main_v36 Read.val_main_v35 Read.val_main_v34
  generalize Read.val_main_v33 (F := Ideal) x0 x1 x2 x3 = y at hy
  pointwise [Read.val_main_call0_v0, Read.val_main_call1_v0, Read.val_main_c, Read.val_main_c_3]
  simp only [hy]
  by_cases a : j.val < 6144
  · simp only [dif_pos a, dif_pos (show j.val < 6240 by omega)]
  by_cases h0 : j.val < 6240
  · simp only [dif_neg a, dif_pos h0, dif_pos (show j.val - 6144 < 128 by omega), dif_pos (show j.val - 6144 < 96 by omega)]
    have e : (⟨6144 + (j.val - 6144), by omega⟩ : Fin 6592) = ⟨j.val, by omega⟩ := Fin.ext (show 6144 + (j.val - 6144) = j.val by omega)
    rw [e]
  by_cases h1 : j.val < 6272
  · simp only [dif_neg a, dif_neg h0, dif_pos h1, dif_pos (show j.val - 6144 < 128 by omega), dif_neg (show ¬ j.val - 6144 < 96 by omega),
      mul_zero, Finset.sum_const_zero]
    exact Cert.RwkvInIdeal.Own.fill_zero
  have n1 : ¬ j.val - 6144 < 128 := by omega
  by_cases h2 : j.val < 6368
  · simp only [dif_neg a, dif_neg h0, dif_neg h1, dif_neg n1, dif_pos h2, dif_pos (show j.val - 6144 - 128 < 128 by omega),
      dif_pos (show j.val - 6144 - 128 < 96 by omega)]
    have e : (⟨6240 + (j.val - 6144 - 128), by omega⟩ : Fin 6592) = ⟨j.val - 32, by omega⟩ :=
      Fin.ext (show 6240 + (j.val - 6144 - 128) = j.val - 32 by omega)
    rw [e]
  by_cases h3 : j.val < 6400
  · simp only [dif_neg a, dif_neg h0, dif_neg h1, dif_neg n1, dif_neg h2, dif_pos h3, dif_pos (show j.val - 6144 - 128 < 128 by omega),
      dif_neg (show ¬ j.val - 6144 - 128 < 96 by omega), mul_zero, Finset.sum_const_zero]
    exact Cert.RwkvInIdeal.Own.fill_zero
  · simp only [dif_neg a, dif_neg h0, dif_neg h1, dif_neg n1, dif_neg h2, dif_neg h3, dif_neg (show ¬ j.val - 6144 - 128 < 128 by omega)]
    have e : (⟨6336 + (j.val - 6144 - 128 - 128), by omega⟩ : Fin 6592) = ⟨j.val - 64, by omega⟩ :=
      Fin.ext (show 6336 + (j.val - 6144 - 128 - 128) = j.val - 64 by omega)
    rw [e]

end Cert.RwkvInRefIdeal.Own

end
-- ==== Proof.RwkvInClaim.lean ====
module

public import proofs.«01_k».proof.Proof.RwkvInValue

@[expose] public section

noncomputable section

namespace Cert.RwkvInRefIdeal.Own

open Idealize.ShloMosaic Idealize.SL.Sem Cert.RwkvInRefIdeal

/-- The reference runs, leaves its arguments and counts nothing: it has no semaphore. -/
theorem quiet : Cert.quiescent_RwkvInRefIdeal := fun m ρ _ =>
  (θ_run _ _ _).mono (fun _ h => ⟨fun c => (h c).2, funext fun g => nomatch g.2⟩) (Value.run (F := Ideal) m ρ)

/-- The kernel and the reference end with the same rows. -/
theorem agree : Cert.algebraic_RwkvInIdeal_RwkvInRefIdeal := fun m ρ m' ρ' _ hag =>
  ⟨fun c => RwkvInIdeal.Own.out (RwkvInIdeal.Own.xin m c) (RwkvInIdeal.Own.gin m c) (RwkvInIdeal.Own.mdl m c)
      (RwkvInIdeal.Own.wts m c),
    RwkvInIdeal.Own.run m ρ,
    (θ_run _ _ _).mono (fun _ h c => by
      obtain ⟨a0, a1, a2, a3⟩ := hag c
      refine ⟨((h c).1.trans (Read.val_main_v40_eq m' c)).trans ?_, (h c).2⟩
      rw [a0, a1, a2, a3]
      exact ref_eq _ _ _ _) (Value.run (F := Ideal) m' ρ')⟩

end Cert.RwkvInRefIdeal.Own

end
-- ==== Proof.MlstmOutValue.lean ====
/-
  The output projection of an mLSTM layer: what the kernel's result array holds, read index by index, and that it is
  what the reference computes.
-/
module

public import proofs.«01_k».proof.Defs
public import proofs.«01_k».proof.Proof.Gen.MlstmOutIdeal.Value
public import proofs.«01_k».proof.Proof.Gen.MlstmOutRefIdeal.Run
public import proofs.«01_k».proof.Proof.Gen.MlstmOutRefIdeal.Read
public import Idealize.ShloMosaic.Lib.Pipeline.Value
public import Idealize.ShloMosaic.Lib.Pointwise

@[expose] public section

set_option maxRecDepth 16384

noncomputable section

namespace Cert.MlstmOutIdeal.Own

open Cert.MlstmOutIdeal Cert.MlstmOutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The activations, the weights, the residual and the modulation table as the run finds them. -/
abbrev act (c : Dev nD) : FVec Ideal S16384x2048 .bf16 := m ((c : Thread nD τ).loc main_arg0)
abbrev wts (c : Dev nD) : FVec Ideal S1x2048x2048 .f32 := m ((c : Thread nD τ).loc main_arg1)
abbrev res (c : Dev nD) : FVec Ideal S4x4096x2048 .f32 := m ((c : Thread nD τ).loc main_arg2)
abbrev mdl (c : Dev nD) : FVec Ideal S4x8x12288 .f32 := m ((c : Thread nD τ).loc main_arg3)

/-- The layer's result at row `r`, column `j`: the residual plus the gate times the row of activations against the column
    of weights. -/
def outAt (a : FVec Ideal S16384x2048 .bf16) (w : FVec Ideal S1x2048x2048 .f32) (x : FVec Ideal S4x4096x2048 .f32)
    (md : FVec Ideal S4x8x12288 .f32) (r : Fin 16384) (j : Fin 2048) : EReal :=
  x (ix3 (⟨r.val / 4096, by omega⟩ : Fin 4) (⟨r.val % 4096, by omega⟩ : Fin 4096) j)
    + md (ix3 (2 : Fin 4) (⟨r.val / 4096, by omega⟩ : Fin 8) (⟨4096 + j.val, by omega⟩ : Fin 12288))
      * ∑ k : Fin 2048, a (ix2 r k) * w (ix3 (0 : Fin 1) k j)

/-- … as an array. -/
def out (a : FVec Ideal S16384x2048 .bf16) (w : FVec Ideal S1x2048x2048 .f32) (x : FVec Ideal S4x4096x2048 .f32)
    (md : FVec Ideal S4x8x12288 .f32) : FVec Ideal S16384x2048 .f32 := fun i => outAt a w x md (i 0) (i 1)

theorem V_v0 (c : Dev nD) : V m c main_v0 = shapeCast S4x8x6x1x2048 (mdl m c) shapeCasts_S4x8x12288_S4x8x6x1x2048 := by
  show StableHlo.after hostOps0 _ (Proc.devRef .tc main_v0) = _
  after_results
  rfl
theorem V_v1 (c : Dev nD) : V m c main_v1 = wts m c := by
  show StableHlo.after hostOps0 _ (Proc.devRef .tc main_v1) = _
  after_results
  rfl
theorem V_v2 (c : Dev nD) : V m c main_v2 = shapeCast S16384x2048 (res m c) shapeCasts_S4x4096x2048_S16384x2048 := by
  show StableHlo.after hostOps0 _ (Proc.devRef .tc main_v2) = _
  after_results
  rfl

/-- The index maps over the grid. -/
theorem idx_facts : ∀ t : Fin cfg0.N, t.val < 32
    ∧ win0_0.index t 0 = t.val / 2 ∧ win0_0.index t 1 = 0
    ∧ win0_1.index t 0 = 0 ∧ win0_1.index t 1 = 0 ∧ win0_1.index t 2 = t.val % 2
    ∧ win0_2.index t 0 = t.val / 2 ∧ win0_2.index t 1 = t.val % 2
    ∧ win0_3.index t 0 = 2 ∧ win0_3.index t 1 = t.val / 8 ∧ win0_3.index t 2 = 2 ∧ win0_3.index t 3 = 0 ∧ win0_3.index t 4 = t.val % 2
    ∧ win0_4.index t 0 = t.val / 2 ∧ win0_4.index t 1 = t.val % 2 :=
  (by decide +kernel : ∀ t : Fin grid0.N, _)

theorem lt32 (t : Fin cfg0.N) : t.val < 32 := (idx_facts t).1

theorem blk0 (c : Dev nD) (t : Fin cfg0.N) (p : Fin 1024) (k : Fin 2048) :
    (iblk m c 0 t : FVec Ideal S1024x2048 .bf16) (ix2 p k)
      = act m c (ix2 (⟨t.val / 2 * 1024 + p.val, by have := lt32 t; omega⟩ : Fin 16384) k) := by
  obtain ⟨-, e0, e1, -⟩ := idx_facts t
  unfold iblk; rw [View.read_apply]
  show V m c main_arg0 _ = _
  rw [V_main_arg0]
  congr 1; funext a; apply Fin.ext
  match a with
  | ⟨0, _⟩ => show win0_0.index t 0 * 1024 + 1 * p.val = t.val / 2 * 1024 + p.val; rw [e0]; omega
  | ⟨1, _⟩ => show win0_0.index t 1 * 2048 + 1 * k.val = k.val; rw [e1]; omega

theorem blk1 (c : Dev nD) (t : Fin cfg0.N) (k : Fin 2048) (q : Fin 1024) :
    (iblk m c 1 t : FVec Ideal S1x2048x1024 .bf16) (ix3 (0 : Fin 1) k q)
      = wts m c (ix3 (0 : Fin 1) k (⟨t.val % 2 * 1024 + q.val, by omega⟩ : Fin 2048)) := by
  obtain ⟨-, -, -, e0, e1, e2, -⟩ := idx_facts t
  unfold iblk; rw [View.read_apply]
  show V m c main_v1 _ = _
  rw [V_v1]
  congr 1; funext a; apply Fin.ext
  match a with
  | ⟨0, _⟩ => show win0_1.index t 0 * 1 + 1 * 0 = 0; rw [e0]
  | ⟨1, _⟩ => show win0_1.index t 1 * 2048 + 1 * k.val = k.val; rw [e1]; omega
  | ⟨2, _⟩ => show win0_1.index t 2 * 1024 + 1 * q.val = t.val % 2 * 1024 + q.val; rw [e2]; omega

theorem blk2 (c : Dev nD) (t : Fin cfg0.N) (p : Fin 1024) (q : Fin 1024) :
    (iblk m c 2 t : FVec Ideal S1024x1024 .f32) (ix2 p q)
      = res m c (ix3 (⟨t.val / 8, by have := lt32 t; omega⟩ : Fin 4) (⟨(t.val / 2 * 1024 + p.val) % 4096, by omega⟩ : Fin 4096)
          (⟨t.val % 2 * 1024 + q.val, by omega⟩ : Fin 2048)) := by
  obtain ⟨hN, -, -, -, -, -, e0, e1, -⟩ := idx_facts t
  unfold iblk; rw [View.read_apply]
  show V m c main_v2 _ = _
  rw [V_v2]
  refine shapeCast_apply _ _ _ _ ?_
  rw [Shape.rowMajor_val_three, Shape.rowMajor_val_two]
  show (t.val / 8 * 4096 + (t.val / 2 * 1024 + p.val) % 4096) * 2048 + (t.val % 2 * 1024 + q.val)
    = (win0_2.index t 0 * 1024 + 1 * p.val) * 2048 + (win0_2.index t 1 * 1024 + 1 * q.val)
  rw [e0, e1]; omega

theorem blk3 (c : Dev nD) (t : Fin cfg0.N) (q : Fin 1024) :
    (iblk m c 3 t : FVec Ideal S1x1x1x1x1024 .f32) (ix5 (0 : Fin 1) (0 : Fin 1) (0 : Fin 1) (0 : Fin 1) q)
      = mdl m c (ix3 (2 : Fin 4) (⟨t.val / 8, by have := lt32 t; omega⟩ : Fin 8)
          (⟨4096 + (t.val % 2 * 1024 + q.val), by omega⟩ : Fin 12288)) := by
  obtain ⟨hN, -, -, -, -, -, -, -, e0, e1, e2, e3, e4, -⟩ := idx_facts t
  unfold iblk; rw [View.read_apply]
  show V m c main_v0 _ = _
  rw [V_v0]
  refine shapeCast_apply _ _ _ _ ?_
  rw [Shape.rowMajor_val_three, Shape.rowMajor_val_five]
  show (2 * 8 + t.val / 8) * 12288 + (4096 + (t.val % 2 * 1024 + q.val))
    = ((((win0_3.index t 0 * 1 + 1 * 0) * 8 + (win0_3.index t 1 * 1 + 1 * 0)) * 6 + (win0_3.index t 2 * 1 + 1 * 0)) * 1
        + (win0_3.index t 3 * 1 + 1 * 0)) * 2048 + (win0_3.index t 4 * 1024 + 1 * q.val)
  rw [e0, e1, e2, e3, e4]; omega

/-- The body's arithmetic at an index. -/
theorem pay_apply (x0 : FVec Ideal S1024x2048 .bf16) (x1 : FVec Ideal S1x2048x1024 .bf16) (x2 : FVec Ideal S1024x1024 .f32)
    (x3 : FVec Ideal S1x1x1x1x1024 .f32) (p : Fin 1024) (q : Fin 1024) :
    k0_pay1 x0 x1 x2 x3 (ix2 p q) = x2 (ix2 p q) + x3 (ix5 (0 : Fin 1) (0 : Fin 1) (0 : Fin 1) (0 : Fin 1) q)
      * ∑ k : Fin 2048, x0 (ix2 p k) * x1 (ix3 (0 : Fin 1) k q) := by
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- What point `t` writes back is its block of the layer's result. -/
theorem flushed_eq (c : Dev nD) (t : Fin cfg0.N) :
    (dats m 0 c).flushed 4 t = (win0_4.blk t).view.read (Elt Ideal) (out (act m c) (wts m c) (res m c) (mdl m c)) := by
  obtain ⟨hN, -, -, -, -, -, -, -, -, -, -, -, -, e0, e1⟩ := idx_facts t
  rw [Value.flushed4]
  unfold out0_4
  rw [View.canon_unit_zero hz2, View.ld_unit_zero hz2, View.ld_unit_zero hz3, View.ld_unit_zero hz2, View.ld_unit_zero hz5]
  funext j
  obtain ⟨p, q, rfl⟩ : ∃ (p : Fin 1024) (q : Fin 1024), j = ix2 p q := ⟨j 0, j 1, ValueIdx.eq_ix2 j⟩
  show k0_pay1 (F := Ideal) (iblk m c 0 t) (iblk m c 1 t) (iblk m c 2 t) (iblk m c 3 t) (ix2 p q) = _
  rw [pay_apply, blk2, blk3]
  simp only [blk0, blk1]
  show _ = out (act m c) (wts m c) (res m c) (mdl m c) ((win0_4.blk t).view.emb (ix2 p q))
  have hj : (win0_4.blk t).view.emb (ix2 p q) = ix2 (⟨t.val / 2 * 1024 + p.val, by omega⟩ : Fin 16384) (⟨t.val % 2 * 1024 + q.val, by omega⟩ : Fin 2048) := by
    funext a; apply Fin.ext
    match a with
    | ⟨0, _⟩ => show win0_4.index t 0 * 1024 + 1 * p.val = t.val / 2 * 1024 + p.val; rw [e0]; omega
    | ⟨1, _⟩ => show win0_4.index t 1 * 1024 + 1 * q.val = t.val % 2 * 1024 + q.val; rw [e1]; omega
  rw [hj]
  have h4 : (t.val / 2 * 1024 + p.val) / 4096 = t.val / 8 := by omega
  show _ = outAt (act m c) (wts m c) (res m c) (mdl m c) ⟨t.val / 2 * 1024 + p.val, _⟩ ⟨t.val % 2 * 1024 + q.val, _⟩
  unfold outAt
  simp only [h4]

theorem mem_blk (t : Fin cfg0.N) (i : S16384x2048.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3).slice (win0_4.rect t)).set ↔ _
  rw [View.set_slice_whole, Rect.mem_set_unit]
  exact Iff.rfl

/-- Every index of the result lies in some point's block. -/
theorem cover (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  refine ⟨⟨(i 0).val / 1024 * 2 + (i 1).val / 1024, lt_of_lt_of_eq (b := 32) (by omega) N_0.symm⟩, flush0_4 _, ?_⟩
  rw [mem_blk]
  obtain ⟨-, -, -, -, -, -, -, -, -, -, -, -, -, e0, e1⟩ :=
    idx_facts ⟨(i 0).val / 1024 * 2 + (i 1).val / 1024, lt_of_lt_of_eq (b := 32) (by omega) N_0.symm⟩
  intro a
  match a with
  | ⟨0, _⟩ =>
    show win0_4.index _ 0 * 1024 ≤ (i 0).val ∧ (i 0).val < win0_4.index _ 0 * 1024 + 1024
    rw [e0]; dsimp only; omega
  | ⟨1, _⟩ =>
    show win0_4.index _ 1 * 1024 ≤ (i 1).val ∧ (i 1).val < win0_4.index _ 1 * 1024 + 1024
    rw [e1]; dsimp only; omega

theorem final (c : Dev nD) : (dats m 0 c).arrAt 4 cfg0.N = out (act m c) (wts m c) (res m c) (mdl m c) :=
  (dats m 0 c).arrAt_eq_of_cover 4 _ (fun t _ => flushed_eq m c t) cover

theorem run : θ_run defs (onTc (τ := τ) (main (F := Ideal))) ⟨m, fun _ => 0, ρ⟩ fun r => ∀ c : Dev nD,
      r.2.mem ((c : Thread nD τ).loc main_v3) = out (act m c) (wts m c) (res m c) (mdl m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.MlstmOutIdeal.Own

namespace Cert.MlstmOutRefIdeal.Own

open Cert.MlstmOutRefIdeal Idealize.ShloMosaic

/-- The reference's result is the layer's result. -/
theorem ref_eq (x0 : FVec Ideal S16384x2048 .bf16) (x1 : FVec Ideal S1x2048x2048 .f32) (x2 : FVec Ideal S4x4096x2048 .f32)
    (x3 : FVec Ideal S4x8x12288 .f32) : Read.val_main_v16 (F := Ideal) x0 x1 x2 x3 = Cert.MlstmOutIdeal.Own.out x0 x1 x2 x3 := by
  funext i
  obtain ⟨r, j, rfl⟩ : ∃ (r : Fin 16384) (j : Fin 2048), i = ix2 r j := ⟨i 0, i 1, ValueIdx.eq_ix2 i⟩
  rw [← Read.val_main_v16_eq]
  unfold Cert.MlstmOutIdeal.Own.out Cert.MlstmOutIdeal.Own.outAt
  pointwise

end Cert.MlstmOutRefIdeal.Own

end
-- ==== Proof.MlstmOutClaim.lean ====
module

public import proofs.«01_k».proof.Proof.MlstmOutValue

@[expose] public section

noncomputable section

namespace Cert.MlstmOutRefIdeal.Own

open Idealize.ShloMosaic Idealize.SL.Sem Cert.MlstmOutRefIdeal

/-- The reference runs, leaves its arguments and counts nothing: it has no semaphore. -/
theorem quiet : Cert.quiescent_MlstmOutRefIdeal := fun m ρ _ =>
  (θ_run _ _ _).mono (fun _ h => ⟨fun c => (h c).2, funext fun g => nomatch g.2⟩) (Value.run (F := Ideal) m ρ)

/-- The kernel and the reference end with the same rows. -/
theorem agree : Cert.algebraic_MlstmOutIdeal_MlstmOutRefIdeal := fun m ρ m' ρ' _ hag =>
  ⟨fun c => MlstmOutIdeal.Own.out (MlstmOutIdeal.Own.act m c) (MlstmOutIdeal.Own.wts m c) (MlstmOutIdeal.Own.res m c)
      (MlstmOutIdeal.Own.mdl m c),
    MlstmOutIdeal.Own.run m ρ,
    (θ_run _ _ _).mono (fun _ h c => by
      obtain ⟨a0, a1, a2, a3⟩ := hag c
      refine ⟨(h c).1.trans ?_, (h c).2⟩
      rw [a0, a1, a2, a3]
      exact (Read.val_main_v16_eq _ _ _ _).trans (ref_eq _ _ _ _)) (Value.run (F := Ideal) m' ρ')⟩

end Cert.MlstmOutRefIdeal.Own

end
-- ==== Proof.RwkvOutValue.lean ====
/-
  The output projection of an RWKV layer: what the kernel's result array holds, read index by index, and that it is
  what the reference computes.
-/
module

public import proofs.«01_k».proof.Defs
public import proofs.«01_k».proof.Proof.Gen.RwkvOutIdeal.Value
public import proofs.«01_k».proof.Proof.Gen.RwkvOutRefIdeal.Run
public import proofs.«01_k».proof.Proof.Gen.RwkvOutRefIdeal.Read
public import Idealize.ShloMosaic.Lib.Pipeline.Value
public import Idealize.ShloMosaic.Lib.Pointwise

@[expose] public section

set_option maxRecDepth 16384

noncomputable section

namespace Cert.RwkvOutIdeal.Own

open Cert.RwkvOutIdeal Cert.RwkvOutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The activations, the weights, the residual and the modulation table as the run finds them. -/
abbrev act (c : Dev nD) : FVec Ideal S16384x2048 .bf16 := m ((c : Thread nD τ).loc main_arg0)
abbrev wts (c : Dev nD) : FVec Ideal S1x2048x2048 .f32 := m ((c : Thread nD τ).loc main_arg1)
abbrev res (c : Dev nD) : FVec Ideal S4x4096x2048 .f32 := m ((c : Thread nD τ).loc main_arg2)
abbrev mdl (c : Dev nD) : FVec Ideal S4x8x12288 .f32 := m ((c : Thread nD τ).loc main_arg3)

/-- The layer's result at row `r`, column `j`: the residual plus the gate times the row of activations against the column
    of weights. -/
def outAt (a : FVec Ideal S16384x2048 .bf16) (w : FVec Ideal S1x2048x2048 .f32) (x : FVec Ideal S4x4096x2048 .f32)
    (md : FVec Ideal S4x8x12288 .f32) (r : Fin 16384) (j : Fin 2048) : EReal :=
  x (ix3 (⟨r.val / 4096, by omega⟩ : Fin 4) (⟨r.val % 4096, by omega⟩ : Fin 4096) j)
    + md (ix3 (1 : Fin 4) (⟨r.val / 4096, by omega⟩ : Fin 8) (⟨4096 + j.val, by omega⟩ : Fin 12288))
      * ∑ k : Fin 2048, a (ix2 r k) * w (ix3 (0 : Fin 1) k j)

/-- … as an array. -/
def out (a : FVec Ideal S16384x2048 .bf16) (w : FVec Ideal S1x2048x2048 .f32) (x : FVec Ideal S4x4096x2048 .f32)
    (md : FVec Ideal S4x8x12288 .f32) : FVec Ideal S16384x2048 .f32 := fun i => outAt a w x md (i 0) (i 1)

theorem V_v0 (c : Dev nD) : V m c main_v0 = shapeCast S4x8x6x1x2048 (mdl m c) shapeCasts_S4x8x12288_S4x8x6x1x2048 := by
  show StableHlo.after hostOps0 _ (Proc.devRef .tc main_v0) = _
  after_results
  rfl
theorem V_v1 (c : Dev nD) : V m c main_v1 = wts m c := by
  show StableHlo.after hostOps0 _ (Proc.devRef .tc main_v1) = _
  after_results
  rfl
theorem V_v2 (c : Dev nD) : V m c main_v2 = shapeCast S16384x2048 (res m c) shapeCasts_S4x4096x2048_S16384x2048 := by
  show StableHlo.after hostOps0 _ (Proc.devRef .tc main_v2) = _
  after_results
  rfl

/-- The index maps over the grid. -/
theorem idx_facts : ∀ t : Fin cfg0.N, t.val < 32
    ∧ win0_0.index t 0 = t.val / 2 ∧ win0_0.index t 1 = 0
    ∧ win0_1.index t 0 = 0 ∧ win0_1.index t 1 = 0 ∧ win0_1.index t 2 = t.val % 2
    ∧ win0_2.index t 0 = t.val / 2 ∧ win0_2.index t 1 = t.val % 2
    ∧ win0_3.index t 0 = 1 ∧ win0_3.index t 1 = t.val / 8 ∧ win0_3.index t 2 = 2 ∧ win0_3.index t 3 = 0 ∧ win0_3.index t 4 = t.val % 2
    ∧ win0_4.index t 0 = t.val / 2 ∧ win0_4.index t 1 = t.val % 2 :=
  (by decide +kernel : ∀ t : Fin grid0.N, _)

theorem lt32 (t : Fin cfg0.N) : t.val < 32 := (idx_facts t).1

theorem blk0 (c : Dev nD) (t : Fin cfg0.N) (p : Fin 1024) (k : Fin 2048) :
    (iblk m c 0 t : FVec Ideal S1024x2048 .bf16) (ix2 p k)
      = act m c (ix2 (⟨t.val / 2 * 1024 + p.val, by have := lt32 t; omega⟩ : Fin 16384) k) := by
  obtain ⟨-, e0, e1, -⟩ := idx_facts t
  unfold iblk; rw [View.read_apply]
  show V m c main_arg0 _ = _
  rw [V_main_arg0]
  congr 1; funext a; apply Fin.ext
  match a with
  | ⟨0, _⟩ => show win0_0.index t 0 * 1024 + 1 * p.val = t.val / 2 * 1024 + p.val; rw [e0]; omega
  | ⟨1, _⟩ => show win0_0.index t 1 * 2048 + 1 * k.val = k.val; rw [e1]; omega

theorem blk1 (c : Dev nD) (t : Fin cfg0.N) (k : Fin 2048) (q : Fin 1024) :
    (iblk m c 1 t : FVec Ideal S1x2048x1024 .bf16) (ix3 (0 : Fin 1) k q)
      = wts m c (ix3 (0 : Fin 1) k (⟨t.val % 2 * 1024 + q.val, by omega⟩ : Fin 2048)) := by
  obtain ⟨-, -, -, e0, e1, e2, -⟩ := idx_facts t
  unfold iblk; rw [View.read_apply]
  show V m c main_v1 _ = _
  rw [V_v1]
  congr 1; funext a; apply Fin.ext
  match a with
  | ⟨0, _⟩ => show win0_1.index t 0 * 1 + 1 * 0 = 0; rw [e0]
  | ⟨1, _⟩ => show win0_1.index t 1 * 2048 + 1 * k.val = k.val; rw [e1]; omega
  | ⟨2, _⟩ => show win0_1.index t 2 * 1024 + 1 * q.val = t.val % 2 * 1024 + q.val; rw [e2]; omega

theorem blk2 (c : Dev nD) (t : Fin cfg0.N) (p : Fin 1024) (q : Fin 1024) :
    (iblk m c 2 t : FVec Ideal S1024x1024 .f32) (ix2 p q)
      = res m c (ix3 (⟨t.val / 8, by have := lt32 t; omega⟩ : Fin 4) (⟨(t.val / 2 * 1024 + p.val) % 4096, by omega⟩ : Fin 4096)
          (⟨t.val % 2 * 1024 + q.val, by omega⟩ : Fin 2048)) := by
  obtain ⟨hN, -, -, -, -, -, e0, e1, -⟩ := idx_facts t
  unfold iblk; rw [View.read_apply]
  show V m c main_v2 _ = _
  rw [V_v2]
  refine shapeCast_apply _ _ _ _ ?_
  rw [Shape.rowMajor_val_three, Shape.rowMajor_val_two]
  show (t.val / 8 * 4096 + (t.val / 2 * 1024 + p.val) % 4096) * 2048 + (t.val % 2 * 1024 + q.val)
    = (win0_2.index t 0 * 1024 + 1 * p.val) * 2048 + (win0_2.index t 1 * 1024 + 1 * q.val)
  rw [e0, e1]; omega

theorem blk3 (c : Dev nD) (t : Fin cfg0.N) (q : Fin 1024) :
    (iblk m c 3 t : FVec Ideal S1x1x1x1x1024 .f32) (ix5 (0 : Fin 1) (0 : Fin 1) (0 : Fin 1) (0 : Fin 1) q)
      = mdl m c (ix3 (1 : Fin 4) (⟨t.val / 8, by have := lt32 t; omega⟩ : Fin 8)
          (⟨4096 + (t.val % 2 * 1024 + q.val), by omega⟩ : Fin 12288)) := by
  obtain ⟨hN, -, -, -, -, -, -, -, e0, e1, e2, e3, e4, -⟩ := idx_facts t
  unfold iblk; rw [View.read_apply]
  show V m c main_v0 _ = _
  rw [V_v0]
  refine shapeCast_apply _ _ _ _ ?_
  rw [Shape.rowMajor_val_three, Shape.rowMajor_val_five]
  show (1 * 8 + t.val / 8) * 12288 + (4096 + (t.val % 2 * 1024 + q.val))
    = ((((win0_3.index t 0 * 1 + 1 * 0) * 8 + (win0_3.index t 1 * 1 + 1 * 0)) * 6 + (win0_3.index t 2 * 1 + 1 * 0)) * 1
        + (win0_3.index t 3 * 1 + 1 * 0)) * 2048 + (win0_3.index t 4 * 1024 + 1 * q.val)
  rw [e0, e1, e2, e3, e4]; omega

/-- The body's arithmetic at an index. -/
theorem pay_apply (x0 : FVec Ideal S1024x2048 .bf16) (x1 : FVec Ideal S1x2048x1024 .bf16) (x2 : FVec Ideal S1024x1024 .f32)
    (x3 : FVec Ideal S1x1x1x1x1024 .f32) (p : Fin 1024) (q : Fin 1024) :
    k0_pay1 x0 x1 x2 x3 (ix2 p q) = x2 (ix2 p q) + x3 (ix5 (0 : Fin 1) (0 : Fin 1) (0 : Fin 1) (0 : Fin 1) q)
      * ∑ k : Fin 2048, x0 (ix2 p k) * x1 (ix3 (0 : Fin 1) k q) := by
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- What point `t` writes back is its block of the layer's result. -/
theorem flushed_eq (c : Dev nD) (t : Fin cfg0.N) :
    (dats m 0 c).flushed 4 t = (win0_4.blk t).view.read (Elt Ideal) (out (act m c) (wts m c) (res m c) (mdl m c)) := by
  obtain ⟨hN, -, -, -, -, -, -, -, -, -, -, -, -, e0, e1⟩ := idx_facts t
  rw [Value.flushed4]
  unfold out0_4
  rw [View.canon_unit_zero hz2, View.ld_unit_zero hz2, View.ld_unit_zero hz3, View.ld_unit_zero hz2, View.ld_unit_zero hz5]
  funext j
  obtain ⟨p, q, rfl⟩ : ∃ (p : Fin 1024) (q : Fin 1024), j = ix2 p q := ⟨j 0, j 1, ValueIdx.eq_ix2 j⟩
  show k0_pay1 (F := Ideal) (iblk m c 0 t) (iblk m c 1 t) (iblk m c 2 t) (iblk m c 3 t) (ix2 p q) = _
  rw [pay_apply, blk2, blk3]
  simp only [blk0, blk1]
  show _ = out (act m c) (wts m c) (res m c) (mdl m c) ((win0_4.blk t).view.emb (ix2 p q))
  have hj : (win0_4.blk t).view.emb (ix2 p q) = ix2 (⟨t.val / 2 * 1024 + p.val, by omega⟩ : Fin 16384) (⟨t.val % 2 * 1024 + q.val, by omega⟩ : Fin 2048) := by
    funext a; apply Fin.ext
    match a with
    | ⟨0, _⟩ => show win0_4.index t 0 * 1024 + 1 * p.val = t.val / 2 * 1024 + p.val; rw [e0]; omega
    | ⟨1, _⟩ => show win0_4.index t 1 * 1024 + 1 * q.val = t.val % 2 * 1024 + q.val; rw [e1]; omega
  rw [hj]
  have h4 : (t.val / 2 * 1024 + p.val) / 4096 = t.val / 8 := by omega
  show _ = outAt (act m c) (wts m c) (res m c) (mdl m c) ⟨t.val / 2 * 1024 + p.val, _⟩ ⟨t.val % 2 * 1024 + q.val, _⟩
  unfold outAt
  simp only [h4]

theorem mem_blk (t : Fin cfg0.N) (i : S16384x2048.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3).slice (win0_4.rect t)).set ↔ _
  rw [View.set_slice_whole, Rect.mem_set_unit]
  exact Iff.rfl

/-- Every index of the result lies in some point's block. -/
theorem cover (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  refine ⟨⟨(i 0).val / 1024 * 2 + (i 1).val / 1024, lt_of_lt_of_eq (b := 32) (by omega) N_0.symm⟩, flush0_4 _, ?_⟩
  rw [mem_blk]
  obtain ⟨-, -, -, -, -, -, -, -, -, -, -, -, -, e0, e1⟩ :=
    idx_facts ⟨(i 0).val / 1024 * 2 + (i 1).val / 1024, lt_of_lt_of_eq (b := 32) (by omega) N_0.symm⟩
  intro a
  match a with
  | ⟨0, _⟩ =>
    show win0_4.index _ 0 * 1024 ≤ (i 0).val ∧ (i 0).val < win0_4.index _ 0 * 1024 + 1024
    rw [e0]; dsimp only; omega
  | ⟨1, _⟩ =>
    show win0_4.index _ 1 * 1024 ≤ (i 1).val ∧ (i 1).val < win0_4.index _ 1 * 1024 + 1024
    rw [e1]; dsimp only; omega

theorem final (c : Dev nD) : (dats m 0 c).arrAt 4 cfg0.N = out (act m c) (wts m c) (res m c) (mdl m c) :=
  (dats m 0 c).arrAt_eq_of_cover 4 _ (fun t _ => flushed_eq m c t) cover

theorem run : θ_run defs (onTc (τ := τ) (main (F := Ideal))) ⟨m, fun _ => 0, ρ⟩ fun r => ∀ c : Dev nD,
      r.2.mem ((c : Thread nD τ).loc main_v3) = out (act m c) (wts m c) (res m c) (mdl m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.RwkvOutIdeal.Own

namespace Cert.RwkvOutRefIdeal.Own

open Cert.RwkvOutRefIdeal Idealize.ShloMosaic

/-- The reference's result is the layer's result. -/
theorem ref_eq (x0 : FVec Ideal S16384x2048 .bf16) (x1 : FVec Ideal S1x2048x2048 .f32) (x2 : FVec Ideal S4x4096x2048 .f32)
    (x3 : FVec Ideal S4x8x12288 .f32) : Read.val_main_v16 (F := Ideal) x0 x1 x2 x3 = Cert.RwkvOutIdeal.Own.out x0 x1 x2 x3 := by
  funext i
  obtain ⟨r, j, rfl⟩ : ∃ (r : Fin 16384) (j : Fin 2048), i = ix2 r j := ⟨i 0, i 1, ValueIdx.eq_ix2 i⟩
  rw [← Read.val_main_v16_eq]
  unfold Cert.RwkvOutIdeal.Own.out Cert.RwkvOutIdeal.Own.outAt
  pointwise

end Cert.RwkvOutRefIdeal.Own

end
-- ==== Proof.RwkvOutClaim.lean ====
module

public import proofs.«01_k».proof.Proof.RwkvOutValue

@[expose] public section

noncomputable section

namespace Cert.RwkvOutRefIdeal.Own

open Idealize.ShloMosaic Idealize.SL.Sem Cert.RwkvOutRefIdeal

/-- The reference runs, leaves its arguments and counts nothing: it has no semaphore. -/
theorem quiet : Cert.quiescent_RwkvOutRefIdeal := fun m ρ _ =>
  (θ_run _ _ _).mono (fun _ h => ⟨fun c => (h c).2, funext fun g => nomatch g.2⟩) (Value.run (F := Ideal) m ρ)

/-- The kernel and the reference end with the same rows. -/
theorem agree : Cert.algebraic_RwkvOutIdeal_RwkvOutRefIdeal := fun m ρ m' ρ' _ hag =>
  ⟨fun c => RwkvOutIdeal.Own.out (RwkvOutIdeal.Own.act m c) (RwkvOutIdeal.Own.wts m c) (RwkvOutIdeal.Own.res m c)
      (RwkvOutIdeal.Own.mdl m c),
    RwkvOutIdeal.Own.run m ρ,
    (θ_run _ _ _).mono (fun _ h c => by
      obtain ⟨a0, a1, a2, a3⟩ := hag c
      refine ⟨(h c).1.trans ?_, (h c).2⟩
      rw [a0, a1, a2, a3]
      exact (Read.val_main_v16_eq _ _ _ _).trans (ref_eq _ _ _ _)) (Value.run (F := Ideal) m' ρ')⟩

end Cert.RwkvOutRefIdeal.Own

end
-- ==== Proof.FinalValue.lean ====
/-
  The final normalisation: what the kernel's result array holds, read index by index, and that it is what the reference computes.
-/
module

public import proofs.«01_k».proof.Defs
public import proofs.«01_k».proof.Proof.Gen.FinalIdeal.Value
public import proofs.«01_k».proof.Proof.Gen.FinalRefIdeal.Run
public import proofs.«01_k».proof.Proof.Gen.FinalRefIdeal.Read
public import Idealize.ShloMosaic.Lib.Pipeline.Value
public import Idealize.ShloMosaic.Lib.Pointwise

@[expose] public section

set_option maxRecDepth 16384

noncomputable section

namespace Cert.FinalIdeal.Own

open Cert.FinalIdeal Cert.FinalIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

abbrev xin (c : Dev nD) : FVec Ideal S4x4096x2048 .f32 := m ((c : Thread nD τ).loc main_arg0)
abbrev gin (c : Dev nD) : FVec Ideal S2048 .f32 := m ((c : Thread nD τ).loc main_arg1)
abbrev mdl (c : Dev nD) : FVec Ideal S1x8x4096 .f32 := m ((c : Thread nD τ).loc main_arg2)

/-- One normalised and modulated entry of a row: `x · rsqrt(mean x² + ε) · g · (1 + sc) + sh`. -/
def nrm (x g sc sh : Fin 2048 → EReal) (k : Fin 2048) : EReal :=
  x k * Ideal.rsqrt (Ideal.div (∑ j, x j * x j) (Ideal.ofBits FTy.f32 1157627904#32) + Ideal.ofBits FTy.f32 897988541#32)
    * g k * (1 + sc k) + sh k

/-- The result at row `r`, column `j`. -/
def outAt (x : FVec Ideal S4x4096x2048 .f32) (g : FVec Ideal S2048 .f32) (md : FVec Ideal S1x8x4096 .f32) (r : Fin 16384)
    (j : Fin 2048) : EReal :=
  nrm (fun k => x (ix3 (⟨r.val / 4096, by omega⟩ : Fin 4) (⟨r.val % 4096, by omega⟩ : Fin 4096) k)) (fun k => g (ix1 k))
    (fun k => md (ix3 (0 : Fin 1) (⟨r.val / 4096, by omega⟩ : Fin 8) (⟨2048 + k.val, by omega⟩ : Fin 4096)))
    (fun k => md (ix3 (0 : Fin 1) (⟨r.val / 4096, by omega⟩ : Fin 8) (⟨k.val, by omega⟩ : Fin 4096))) j

/-- … as an array. -/
def out (x : FVec Ideal S4x4096x2048 .f32) (g : FVec Ideal S2048 .f32) (md : FVec Ideal S1x8x4096 .f32) :
    FVec Ideal S16384x2048 .f32 := fun i => outAt x g md (i 0) (i 1)

theorem V_v0 (c : Dev nD) : V m c main_v0 = shapeCast S1x8x2x1x2048 (mdl m c) shapeCasts_S1x8x4096_S1x8x2x1x2048 := by
  show StableHlo.after hostOps0 _ (Proc.devRef .tc main_v0) = _
  after_results
  rfl
theorem V_v1 (c : Dev nD) : V m c main_v1 = shapeCast S16384x2048 (xin m c) shapeCasts_S4x4096x2048_S16384x2048 := by
  show StableHlo.after hostOps0 _ (Proc.devRef .tc main_v1) = _
  after_results
  rfl
theorem V_v2 (c : Dev nD) : V m c main_v2 = shapeCast S1x2048 (gin m c) shapeCasts_S2048_S1x2048 := by
  show StableHlo.after hostOps0 _ (Proc.devRef .tc main_v2) = _
  after_results
  rfl

/-- The index maps over the grid. -/
theorem idx_facts : ∀ t : Fin cfg0.N, t.val < 64
    ∧ win0_0.index t 0 = t.val ∧ win0_0.index t 1 = 0 ∧ win0_1.index t 0 = 0 ∧ win0_1.index t 1 = 0
    ∧ win0_2.index t 0 = 0 ∧ win0_2.index t 1 = t.val / 16 ∧ win0_2.index t 2 = 0 ∧ win0_2.index t 3 = 0 ∧ win0_2.index t 4 = 0
    ∧ win0_3.index t 0 = 0 ∧ win0_3.index t 1 = t.val / 16 ∧ win0_3.index t 2 = 1 ∧ win0_3.index t 3 = 0 ∧ win0_3.index t 4 = 0
    ∧ win0_4.index t 0 = t.val ∧ win0_4.index t 1 = 0 :=
  (by decide +kernel : ∀ t : Fin grid0.N, _)

theorem lt64 (t : Fin cfg0.N) : t.val < 64 := (idx_facts t).1

theorem blk0 (c : Dev nD) (t : Fin cfg0.N) (p : Fin 256) (k : Fin 2048) :
    (iblk m c 0 t : FVec Ideal S256x2048 .f32) (ix2 p k) = xin m c (ix3 (⟨t.val / 16, by have := lt64 t; omega⟩ : Fin 4)
      (⟨(t.val * 256 + p.val) % 4096, by omega⟩ : Fin 4096) k) := by
  obtain ⟨hN, e0, e1, -⟩ := idx_facts t
  unfold iblk; rw [View.read_apply]
  show V m c main_v1 _ = _
  rw [V_v1]
  refine shapeCast_apply _ _ _ _ ?_
  rw [Shape.rowMajor_val_three, Shape.rowMajor_val_two]
  show (t.val / 16 * 4096 + (t.val * 256 + p.val) % 4096) * 2048 + k.val
    = (win0_0.index t 0 * 256 + 1 * p.val) * 2048 + (win0_0.index t 1 * 2048 + 1 * k.val)
  rw [e0, e1]; omega

theorem blk1 (c : Dev nD) (t : Fin cfg0.N) (k : Fin 2048) :
    (iblk m c 1 t : FVec Ideal S1x2048 .f32) (ix2 (0 : Fin 1) k) = gin m c (ix1 k) := by
  obtain ⟨-, -, -, e0, e1, -⟩ := idx_facts t
  unfold iblk; rw [View.read_apply]
  show V m c main_v2 _ = _
  rw [V_v2]
  refine shapeCast_apply _ _ _ _ ?_
  rw [Shape.rowMajor_val_two, Shape.rowMajor_val_one]
  show k.val = (win0_1.index t 0 * 1 + 1 * 0) * 2048 + (win0_1.index t 1 * 2048 + 1 * k.val)
  rw [e0, e1]; omega

theorem blk2 (c : Dev nD) (t : Fin cfg0.N) (q : Fin 2048) :
    (iblk m c 2 t : FVec Ideal S1x1x1x1x2048 .f32) (ix5 (0 : Fin 1) (0 : Fin 1) (0 : Fin 1) (0 : Fin 1) q)
      = mdl m c (ix3 (0 : Fin 1) (⟨t.val / 16, by have := lt64 t; omega⟩ : Fin 8) (⟨q.val, by omega⟩ : Fin 4096)) := by
  obtain ⟨-, -, -, -, -, e0, e1, e2, e3, e4, -⟩ := idx_facts t
  unfold iblk; rw [View.read_apply]
  show V m c main_v0 _ = _
  rw [V_v0]
  refine shapeCast_apply _ _ _ _ ?_
  rw [Shape.rowMajor_val_three, Shape.rowMajor_val_five]
  show (0 * 8 + t.val / 16) * 4096 + q.val
    = ((((win0_2.index t 0 * 1 + 1 * 0) * 8 + (win0_2.index t 1 * 1 + 1 * 0)) * 2 + (win0_2.index t 2 * 1 + 1 * 0)) * 1
        + (win0_2.index t 3 * 1 + 1 * 0)) * 2048 + (win0_2.index t 4 * 2048 + 1 * q.val)
  rw [e0, e1, e2, e3, e4]; omega

theorem blk3 (c : Dev nD) (t : Fin cfg0.N) (q : Fin 2048) :
    (iblk m c 3 t : FVec Ideal S1x1x1x1x2048 .f32) (ix5 (0 : Fin 1) (0 : Fin 1) (0 : Fin 1) (0 : Fin 1) q)
      = mdl m c (ix3 (0 : Fin 1) (⟨t.val / 16, by have := lt64 t; omega⟩ : Fin 8) (⟨2048 + q.val, by omega⟩ : Fin 4096)) := by
  obtain ⟨-, -, -, -, -, -, -, -, -, -, e0, e1, e2, e3, e4, -⟩ := idx_facts t
  unfold iblk; rw [View.read_apply]
  show V m c main_v0 _ = _
  rw [V_v0]
  refine shapeCast_apply _ _ _ _ ?_
  rw [Shape.rowMajor_val_three, Shape.rowMajor_val_five]
  show (0 * 8 + t.val / 16) * 4096 + (2048 + q.val)
    = ((((win0_3.index t 0 * 1 + 1 * 0) * 8 + (win0_3.index t 1 * 1 + 1 * 0)) * 2 + (win0_3.index t 2 * 1 + 1 * 0)) * 1
        + (win0_3.index t 3 * 1 + 1 * 0)) * 2048 + (win0_3.index t 4 * 2048 + 1 * q.val)
  rw [e0, e1, e2, e3, e4]; omega

/-- The body's arithmetic at an index. -/
theorem pay_apply (x0 : FVec Ideal S256x2048 .f32) (x1 : FVec Ideal S1x2048 .f32) (x2 x3 : FVec Ideal S1x1x1x1x2048 .f32)
    (p : Fin 256) (q : Fin 2048) : k0_pay1 (F := Ideal) x0 x1 x2 x3 (ix2 p q)
      = nrm (fun k => x0 (ix2 p k)) (fun k => x1 (ix2 0 k)) (fun k => x3 (ix5 0 0 0 0 k)) (fun k => x2 (ix5 0 0 0 0 k)) q := by
  unfold nrm
  pointwise [k0_pay1]

theorem hz2 : (![0, 0] : Fin 2 → Nat) = fun _ => 0 := funext fun a => by fin_cases a <;> rfl
theorem hz5 : (![0, 0, 0, 0, 0] : Fin 5 → Nat) = fun _ => 0 := funext fun a => by fin_cases a <;> rfl

/-- What point `t` writes back is its block of the result. -/
theorem flushed_eq (c : Dev nD) (t : Fin cfg0.N) :
    (dats m 0 c).flushed 4 t = (win0_4.blk t).view.read (Elt Ideal) (out (xin m c) (gin m c) (mdl m c)) := by
  obtain ⟨hN, -, -, -, -, -, -, -, -, -, -, -, -, -, -, e0, e1⟩ := idx_facts t
  rw [Value.flushed4]
  unfold out0_4
  rw [View.canon_unit_zero hz2, View.ld_unit_zero hz2, View.ld_unit_zero hz2, View.ld_unit_zero hz5, View.ld_unit_zero hz5]
  funext j
  obtain ⟨p, q, rfl⟩ : ∃ (p : Fin 256) (q : Fin 2048), j = ix2 p q := ⟨j 0, j 1, ValueIdx.eq_ix2 j⟩
  show k0_pay1 (F := Ideal) (iblk m c 0 t) (iblk m c 1 t) (iblk m c 2 t) (iblk m c 3 t) (ix2 p q) = _
  rw [pay_apply]
  simp only [blk0, blk1, blk2, blk3]
  show _ = out (xin m c) (gin m c) (mdl m c) ((win0_4.blk t).view.emb (ix2 p q))
  have hj : (win0_4.blk t).view.emb (ix2 p q) = ix2 (⟨t.val * 256 + p.val, by omega⟩ : Fin 16384) q := by
    funext a; apply Fin.ext
    match a with
    | ⟨0, _⟩ => show win0_4.index t 0 * 256 + 1 * p.val = t.val * 256 + p.val; rw [e0]; omega
    | ⟨1, _⟩ => show win0_4.index t 1 * 2048 + 1 * q.val = q.val; rw [e1]; omega
  rw [hj]
  have h4 : (t.val * 256 + p.val) / 4096 = t.val / 16 := by omega
  show _ = outAt (xin m c) (gin m c) (mdl m c) ⟨t.val * 256 + p.val, _⟩ q
  unfold outAt
  simp only [h4]

theorem mem_blk (t : Fin cfg0.N) (i : S16384x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v3).slice (win0_4.rect t)).set ↔ _
  rw [View.set_slice_whole, Rect.mem_set_unit]
  exact Iff.rfl

/-- Every index of the result lies in some point's block. -/
theorem cover (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  refine ⟨⟨(i 0).val / 256, lt_of_lt_of_eq (b := 64) (by omega) N_0.symm⟩, flush0_4 _, ?_⟩
  rw [mem_blk]
  obtain ⟨-, -, -, -, -, -, -, -, -, -, -, -, -, -, -, e0, e1⟩ := idx_facts ⟨(i 0).val / 256, lt_of_lt_of_eq (b := 64) (by omega) N_0.symm⟩
  intro a
  match a with
  | ⟨0, _⟩ =>
    show win0_4.index _ 0 * 256 ≤ (i 0).val ∧ (i 0).val < win0_4.index _ 0 * 256 + 256
    rw [e0]; dsimp only; omega
  | ⟨1, _⟩ =>
    show win0_4.index _ 1 * 2048 ≤ (i 1).val ∧ (i 1).val < win0_4.index _ 1 * 2048 + 2048
    rw [e1]; omega

theorem run : θ_run defs (onTc (τ := τ) (main (F := Ideal))) ⟨m, fun _ => 0, ρ⟩ fun r => ∀ c : Dev nD,
      r.2.mem ((c : Thread nD τ).loc main_v3) = out (xin m c) (gin m c) (mdl m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 4 _ (fun t _ => flushed_eq m c t) cover),
    (h c).2⟩) (Value.run_blocks m ρ)

end Cert.FinalIdeal.Own

namespace Cert.FinalRefIdeal.Own

open Cert.FinalRefIdeal Idealize.ShloMosaic

/-- The reference's result is the kernel's. -/
theorem ref_eq (x0 : FVec Ideal S4x4096x2048 .f32) (x1 : FVec Ideal S2048 .f32) (x2 : FVec Ideal S1x8x4096 .f32) :
    Read.val_main_v25 (F := Ideal) x0 x1 x2 = Cert.FinalIdeal.Own.out x0 x1 x2 := by
  funext i
  obtain ⟨r, j, rfl⟩ : ∃ (r : Fin 16384) (j : Fin 2048), i = ix2 r j := ⟨i 0, i 1, ValueIdx.eq_ix2 i⟩
  rw [← Read.val_main_v25_eq]
  unfold Cert.FinalIdeal.Own.out Cert.FinalIdeal.Own.outAt Cert.FinalIdeal.Own.nrm
  pointwise

end Cert.FinalRefIdeal.Own

end
-- ==== Proof.FinalClaim.lean ====
module

public import proofs.«01_k».proof.Proof.FinalValue

@[expose] public section

noncomputable section

namespace Cert.FinalRefIdeal.Own

open Idealize.ShloMosaic Idealize.SL.Sem Cert.FinalRefIdeal

/-- The reference runs, leaves its arguments and counts nothing: it has no semaphore. -/
theorem quiet : Cert.quiescent_FinalRefIdeal := fun m ρ _ =>
  (θ_run _ _ _).mono (fun _ h => ⟨fun c => (h c).2, funext fun g => nomatch g.2⟩) (Value.run (F := Ideal) m ρ)

/-- The kernel and the reference end with the same rows. -/
theorem agree : Cert.algebraic_FinalIdeal_FinalRefIdeal := fun m ρ m' ρ' _ hag =>
  ⟨fun c => FinalIdeal.Own.out (FinalIdeal.Own.xin m c) (FinalIdeal.Own.gin m c) (FinalIdeal.Own.mdl m c),
    FinalIdeal.Own.run m ρ,
    (θ_run _ _ _).mono (fun _ h c => by
      obtain ⟨a0, a1, a2⟩ := hag c
      refine ⟨(h c).1.trans ?_, (h c).2⟩
      rw [a0, a1, a2]
      exact (Read.val_main_v25_eq _ _ _).trans (ref_eq _ _ _)) (Value.run (F := Ideal) m' ρ')⟩

end Cert.FinalRefIdeal.Own

end
-- ==== Proof.ModVecValue.lean ====
/-
  The modulation vectors of the layers: what the kernel's result array holds, read index by index, and that it is what the
  reference computes.
-/
module

public import proofs.«01_k».proof.Defs
public import proofs.«01_k».proof.Proof.Gen.ModVecIdeal.Value
public import proofs.«01_k».proof.Proof.Gen.ModVecRefIdeal.Run
public import proofs.«01_k».proof.Proof.Gen.ModVecRefIdeal.Read
public import proofs.«01_k».proof.Proof.Gen.Pre_below_infinity
public import Idealize.ShloMosaic.Lib.Pipeline.Value
public import Idealize.ShloMosaic.Lib.Pointwise
public import Idealize.ShloMosaic.Lib.KernelVsHost

@[expose] public section

set_option maxRecDepth 16384

noncomputable section

namespace Cert.ModVecIdeal.Own

open Cert.ModVecIdeal Cert.ModVecIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

abbrev cin (c : Dev nD) : FVec Ideal S4x2048 .f32 := m ((c : Thread nD τ).loc main_arg0)
abbrev wts (c : Dev nD) : FVec Ideal S4x2048x12288 .f32 := m ((c : Thread nD τ).loc main_arg1)
abbrev bias (c : Dev nD) : FVec Ideal S4x12288 .f32 := m ((c : Thread nD τ).loc main_arg2)

/-- `x · logistic x`. -/
def silu (x : EReal) : EReal := x * Ideal.logistic x

/-- Below infinity the product is a real number, or `⊥ · 0`. -/
theorem silu_sub {x : EReal} (h : x ≠ ⊤) : silu x - silu x = 0 := by
  unfold silu
  induction x using EReal.rec with
  | bot => rw [Ideal.logistic_bot, mul_zero, sub_zero]
  | coe r => rw [Ideal.logistic_coe, ← EReal.coe_mul, ← EReal.coe_sub, sub_self, EReal.coe_zero]
  | top => exact absurd rfl h

/-- The conditioning vectors with four rows of zeros behind. -/
def cpad (x : FVec Ideal S4x2048 .f32) : FVec Ideal S8x2048 .f32 :=
  pad S8x2048 ![0, 0] ![4, 0] ![0, 0] x (sitofp (F := Ideal) .f32 (constantI S_ 32 0#32)) pads_S4x2048_S8x2048_040_000 h_S_

theorem cpad_ne_top (x : FVec Ideal S4x2048 .f32) (h : ∀ i, x i ≠ ⊤) (i : S8x2048.Idx) : cpad x i ≠ ⊤ := by
  unfold cpad pad
  split
  · exact h _
  · show ((((0#32 : BitVec 32).toInt : ℝ)) : EReal) ≠ ⊤
    exact EReal.coe_ne_top _

/-- The result at layer `l`, row `r`, column `j`. -/
def outAt (x : FVec Ideal S4x2048 .f32) (w : FVec Ideal S4x2048x12288 .f32) (b : FVec Ideal S4x12288 .f32) (l : Fin 4)
    (r : Fin 8) (j : Fin 12288) : EReal :=
  (∑ k : Fin 2048, silu (cpad x (ix2 r k)) * w (ix3 l k j)) + b (ix2 l j)

/-- … as an array. -/
def out (x : FVec Ideal S4x2048 .f32) (w : FVec Ideal S4x2048x12288 .f32) (b : FVec Ideal S4x12288 .f32) :
    FVec Ideal S4x8x12288 .f32 := fun i => outAt x w b (i 0) (i 1) (i 2)

theorem V_v0 (c : Dev nD) : V m c main_v0 = cpad (cin m c) := by
  show StableHlo.after (List.flatten [hostOps0 (F := Ideal), hostOps0_1, hostOps0_2]) _ (Proc.devRef .tc main_v0) = _
  simp only [hostOps0, hostOps0_1, hostOps0_2, List.flatten_cons, List.flatten_nil, List.append_nil, List.cons_append, List.nil_append]
  after_results
  rfl
theorem V_v1 (c : Dev nD) : V m c main_v1 = shapeCast S4x1x12288 (bias m c) shapeCasts_S4x12288_S4x1x12288 := by
  show StableHlo.after (List.flatten [hostOps0 (F := Ideal), hostOps0_1, hostOps0_2]) _ (Proc.devRef .tc main_v1) = _
  simp only [hostOps0, hostOps0_1, hostOps0_2, List.flatten_cons, List.flatten_nil, List.append_nil, List.cons_append, List.nil_append]
  after_results
  rfl

/-- The index maps over the grid. -/
theorem idx_facts : ∀ t : Fin cfg0.N, t.val < 24
    ∧ win0_0.index t 0 = 0 ∧ win0_0.index t 1 = 0
    ∧ win0_1.index t 0 = t.val / 6 ∧ win0_1.index t 1 = 0 ∧ win0_1.index t 2 = t.val % 6
    ∧ win0_2.index t 0 = t.val / 6 ∧ win0_2.index t 1 = 0 ∧ win0_2.index t 2 = t.val % 6
    ∧ win0_3.index t 0 = t.val / 6 ∧ win0_3.index t 1 = 0 ∧ win0_3.index t 2 = t.val % 6 :=
  (by decide +kernel : ∀ t : Fin grid0.N, _)

theorem lt24 (t : Fin cfg0.N) : t.val < 24 := (idx_facts t).1

theorem blk0 (c : Dev nD) (t : Fin cfg0.N) (p : Fin 8) (k : Fin 2048) :
    (iblk m c 0 t : FVec Ideal S8x2048 .f32) (ix2 p k) = cpad (cin m c) (ix2 p k) := by
  obtain ⟨-, e0, e1, -⟩ := idx_facts t
  unfold iblk; rw [View.read_apply]
  show V m c main_v0 _ = _
  rw [V_v0]
  congr 1; funext a; apply Fin.ext
  match a with
  | ⟨0, _⟩ => show win0_0.index t 0 * 8 + 1 * p.val = p.val; rw [e0]; omega
  | ⟨1, _⟩ => show win0_0.index t 1 * 2048 + 1 * k.val = k.val; rw [e1]; omega

theorem blk1 (c : Dev nD) (t : Fin cfg0.N) (k : Fin 2048) (q : Fin 2048) :
    (iblk m c 1 t : FVec Ideal S1x2048x2048 .f32) (ix3 (0 : Fin 1) k q)
      = wts m c (ix3 (⟨t.val / 6, by have := lt24 t; omega⟩ : Fin 4) k (⟨t.val % 6 * 2048 + q.val, by omega⟩ : Fin 12288)) := by
  obtain ⟨-, -, -, e0, e1, e2, -⟩ := idx_facts t
  unfold iblk; rw [View.read_apply]
  show V m c main_arg1 _ = _
  rw [V_main_arg1]
  congr 1; funext a; apply Fin.ext
  match a with
  | ⟨0, _⟩ => show win0_1.index t 0 * 1 + 1 * 0 = t.val / 6; rw [e0]; omega
  | ⟨1, _⟩ => show win0_1.index t 1 * 2048 + 1 * k.val = k.val; rw [e1]; omega
  | ⟨2, _⟩ => show win0_1.index t 2 * 2048 + 1 * q.val = t.val % 6 * 2048 + q.val; rw [e2]; omega

theorem blk2 (c : Dev nD) (t : Fin cfg0.N) (q : Fin 2048) :
    (iblk m c 2 t : FVec Ideal S1x1x2048 .f32) (ix3 (0 : Fin 1) (0 : Fin 1) q)
      = bias m c (ix2 (⟨t.val / 6, by have := lt24 t; omega⟩ : Fin 4) (⟨t.val % 6 * 2048 + q.val, by omega⟩ : Fin 12288)) := by
  obtain ⟨-, -, -, -, -, -, e0, e1, e2, -⟩ := idx_facts t
  unfold iblk; rw [View.read_apply]
  show V m c main_v1 _ = _
  rw [V_v1]
  refine shapeCast_apply _ _ _ _ ?_
  rw [Shape.rowMajor_val_two, Shape.rowMajor_val_three]
  show t.val / 6 * 12288 + (t.val % 6 * 2048 + q.val)
    = ((win0_2.index t 0 * 1 + 1 * 0) * 1 + (win0_2.index t 1 * 1 + 1 * 0)) * 12288 + (win0_2.index t 2 * 2048 + 1 * q.val)
  rw [e0, e1, e2]; omega

/-- The body's arithmetic at an index: the product with the remainder of the split is zero. -/
theorem pay_apply (x0 : FVec Ideal S8x2048 .f32) (x1 : FVec Ideal S1x2048x2048 .f32) (x2 : FVec Ideal S1x1x2048 .f32)
    (p : Fin 8) (q : Fin 2048) (h : ∀ k, x0 (ix2 p k) ≠ ⊤) : k0_pay1 (F := Ideal) x0 x1 x2 (ix3 (0 : Fin 1) p q)
      = (∑ k : Fin 2048, silu (x0 (ix2 p k)) * x1 (ix3 (0 : Fin 1) k q)) + x2 (ix3 (0 : Fin 1) (0 : Fin 1) q) := by
  have e : k0_pay1 (F := Ideal) x0 x1 x2 (ix3 (0 : Fin 1) p q)
      = ((∑ k : Fin 2048, silu (x0 (ix2 p k)) * x1 (ix3 (0 : Fin 1) k q))
        + ∑ k : Fin 2048, (silu (x0 (ix2 p k)) - silu (x0 (ix2 p k))) * x1 (ix3 (0 : Fin 1) k q))
        + x2 (ix3 (0 : Fin 1) (0 : Fin 1) q) := by
    unfold silu
    pointwise [k0_pay1]
  rw [e]
  simp only [silu_sub (h _), zero_mul, Finset.sum_const_zero, add_zero]

theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` writes back is its block of the result. -/
theorem flushed_eq (c : Dev nD) (hc : ∀ i, cin m c i ≠ ⊤) (t : Fin cfg0.N) :
    (dats m 0 c).flushed 3 t = (win0_3.blk t).view.read (Elt Ideal) (out (cin m c) (wts m c) (bias m c)) := by
  obtain ⟨hN, -, -, -, -, -, -, -, -, e0, e1, e2⟩ := idx_facts t
  rw [Value.flushed3]
  unfold out0_3
  rw [View.canon_unit_zero hz3, View.ld_unit_zero hz2, View.ld_unit_zero hz3, View.ld_unit_zero hz3]
  funext j
  obtain ⟨z, p, q, rfl⟩ : ∃ (z : Fin 1) (p : Fin 8) (q : Fin 2048), j = ix3 z p q := ⟨j 0, j 1, j 2, ValueIdx.eq_ix3 j⟩
  obtain rfl : z = 0 := Subsingleton.elim _ _
  show k0_pay1 (F := Ideal) (iblk m c 0 t) (iblk m c 1 t) (iblk m c 2 t) (ix3 (0 : Fin 1) p q) = _
  rw [pay_apply _ _ _ _ _ fun k => by rw [blk0]; exact cpad_ne_top _ hc _]
  simp only [blk0, blk1, blk2]
  show _ = out (cin m c) (wts m c) (bias m c) ((win0_3.blk t).view.emb (ix3 (0 : Fin 1) p q))
  have hj : (win0_3.blk t).view.emb (ix3 (0 : Fin 1) p q)
      = ix3 (⟨t.val / 6, by omega⟩ : Fin 4) p (⟨t.val % 6 * 2048 + q.val, by omega⟩ : Fin 12288) := by
    funext a; apply Fin.ext
    match a with
    | ⟨0, _⟩ => show win0_3.index t 0 * 1 + 1 * 0 = t.val / 6; rw [e0]; omega
    | ⟨1, _⟩ => show win0_3.index t 1 * 8 + 1 * p.val = p.val; rw [e1]; omega
    | ⟨2, _⟩ => show win0_3.index t 2 * 2048 + 1 * q.val = t.val % 6 * 2048 + q.val; rw [e2]; omega
  rw [hj]
  rfl

theorem mem_blk (t : Fin cfg0.N) (i : S4x8x12288.Idx) :
    i ∈ ((cfg0.win 3).blk t).view.set ↔ ∀ a : Fin 3, win0_3.index t a * S1x8x2048.size a ≤ (i a).val
      ∧ (i a).val < win0_3.index t a * S1x8x2048.size a + S1x8x2048.size a := by
  show i ∈ ((View.whole main_v2).slice (win0_3.rect t)).set ↔ _
  rw [View.set_slice_whole, Rect.mem_set_unit]
  exact Iff.rfl

/-- Every index of the result lies in some point's block. -/
theorem cover (i : S4x8x12288.Idx) : ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 12288 := (i 2).isLt
  refine ⟨⟨(i 0).val * 6 + (i 2).val / 2048, lt_of_lt_of_eq (b := 24) (by omega) N_0.symm⟩, flush0_3 _, ?_⟩
  rw [mem_blk]
  obtain ⟨-, -, -, -, -, -, -, -, -, e0, e1, e2⟩ :=
    idx_facts ⟨(i 0).val * 6 + (i 2).val / 2048, lt_of_lt_of_eq (b := 24) (by omega) N_0.symm⟩
  intro a
  match a with
  | ⟨0, _⟩ =>
    show win0_3.index _ 0 * 1 ≤ (i 0).val ∧ (i 0).val < win0_3.index _ 0 * 1 + 1
    rw [e0]; dsimp only; omega
  | ⟨1, _⟩ =>
    show win0_3.index _ 1 * 8 ≤ (i 1).val ∧ (i 1).val < win0_3.index _ 1 * 8 + 8
    rw [e1]; omega
  | ⟨2, _⟩ =>
    show win0_3.index _ 2 * 2048 ≤ (i 2).val ∧ (i 2).val < win0_3.index _ 2 * 2048 + 2048
    rw [e2]; dsimp only; omega

theorem run (hc : ∀ c i, cin m c i ≠ ⊤) : θ_run defs (onTc (τ := τ) (main (F := Ideal))) ⟨m, fun _ => 0, ρ⟩ fun r => ∀ c : Dev nD,
      r.2.mem ((c : Thread nD τ).loc main_v2) = out (cin m c) (wts m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed_eq m c (hc c) t) cover),
    (h c).2⟩) (Value.run_blocks m ρ)

/-- The precondition read: no conditioning entry is `⊤`. -/
theorem ne_top (h : Cert.Pre_ModVecIdeal_below_infinity m) (c : Dev nD) (i : S4x2048.Idx) : cin m c i ≠ ⊤ := by
  have e := congrFun (h c) i
  intro ht
  simp only [Cert.Pre_below_infinity.fn, cmpf] at e
  revert e
  show ¬ Ideal.cmp .olt (cin m c i) _ = 1#1
  rw [ht]
  simp [Ideal.cmp]

end Cert.ModVecIdeal.Own

namespace Cert.ModVecRefIdeal.Own

open Cert.ModVecRefIdeal Cert.ModVecRefIdeal.Read Idealize.ShloMosaic

/-- The reference's result is the kernel's. -/
theorem ref_eq (x0 : FVec Ideal S4x2048 .f32) (x1 : FVec Ideal S4x2048x12288 .f32) (x2 : FVec Ideal S4x12288 .f32) :
    val_main_v6 (F := Ideal) x0 x1 x2 = Cert.ModVecIdeal.Own.out x0 x1 x2 := by
  funext i
  obtain ⟨l, r, j, rfl⟩ : ∃ (l : Fin 4) (r : Fin 8) (j : Fin 12288), i = ix3 l r j := ⟨i 0, i 1, i 2, ValueIdx.eq_ix3 i⟩
  show _ = Cert.ModVecIdeal.Own.outAt x0 x1 x2 l r j
  unfold Cert.ModVecIdeal.Own.outAt Cert.ModVecIdeal.Own.silu Ideal.logistic
  have hp : val_main_v0 (F := Ideal) x0 = Cert.ModVecIdeal.Own.cpad x0 := rfl
  rw [← hp]
  simp only [mul_comm _ (x1 _)]
  unfold val_main_v6 val_main_v5 val_main_v4 val_main_v3 val_main_v2 val_main_v1 val_main_call1_v5 val_main_call1_v4
    val_main_call1_v3 val_main_call1_v2 val_main_call1_v1 val_main_call1_v0 val_main_call1_cst val_main_call1_cst_0
  generalize val_main_v0 (F := Ideal) x0 = y
  pointwise

end Cert.ModVecRefIdeal.Own

end
-- ==== Proof.ModVecClaim.lean ====
module

public import proofs.«01_k».proof.Proof.ModVecValue

@[expose] public section

noncomputable section

namespace Cert.ModVecRefIdeal.Own

open Idealize.ShloMosaic Idealize.SL.Sem Cert.ModVecRefIdeal

/-- The reference runs, leaves its arguments and counts nothing: it has no semaphore. -/
theorem quiet : Cert.quiescent_ModVecRefIdeal := fun m ρ _ =>
  (θ_run _ _ _).mono (fun _ h => ⟨fun c => (h c).2, funext fun g => nomatch g.2⟩) (Value.run (F := Ideal) m ρ)

/-- The kernel and the reference end with the same vectors. -/
theorem agree : Cert.algebraic_ModVecIdeal_ModVecRefIdeal_pre_below_infinity := fun m ρ m' ρ' hp hag =>
  ⟨fun c => ModVecIdeal.Own.out (ModVecIdeal.Own.cin m c) (ModVecIdeal.Own.wts m c) (ModVecIdeal.Own.bias m c),
    ModVecIdeal.Own.run m ρ (ModVecIdeal.Own.ne_top m hp),
    (θ_run _ _ _).mono (fun _ h c => by
      obtain ⟨a0, a1, a2⟩ := hag c
      refine ⟨(h c).1.trans ?_, (h c).2⟩
      rw [a0, a1, a2]
      exact (Read.val_main_v6_eq _ _ _).trans (ref_eq _ _ _)) (Value.run (F := Ideal) m' ρ')⟩

end Cert.ModVecRefIdeal.Own

end
-- ==== Proof.FinModValue.lean ====
/-
  The modulation vectors of the final normalisation: what the kernel's result array holds, read index by index, and that it is what the
  reference computes.
-/
module

public import proofs.«01_k».proof.Defs
public import proofs.«01_k».proof.Proof.Gen.FinModIdeal.Value
public import proofs.«01_k».proof.Proof.Gen.FinModRefIdeal.Run
public import proofs.«01_k».proof.Proof.Gen.FinModRefIdeal.Read
public import proofs.«01_k».proof.Proof.Gen.Pre_below_infinity_final
public import proofs.«01_k».proof.Proof.ModVecValue

@[expose] public section

set_option maxRecDepth 16384

noncomputable section

namespace Cert.FinModIdeal.Own

open Cert.FinModIdeal Cert.FinModIdeal.Gen Idealize.ShloMosaic Idealize.ShloMosaic.TcCoe Idealize.SL.Sem
open Idealize.ShloMosaic.Pipeline (Dat)
open Cert.ModVecIdeal.Own (silu cpad cpad_ne_top hz2 hz3)

variable (m : (ℓ : Loc nD τ sig) → Buf (Elt Ideal) ℓ) (ρ : Dev nD → PrngReg)

abbrev cin (c : Dev nD) : FVec Ideal S4x2048 .f32 := m ((c : Thread nD τ).loc main_arg0)
abbrev wts (c : Dev nD) : FVec Ideal S2048x4096 .f32 := m ((c : Thread nD τ).loc main_arg1)
abbrev bias (c : Dev nD) : FVec Ideal S4096 .f32 := m ((c : Thread nD τ).loc main_arg2)

/-- The result at row `r`, column `j`. -/
def outAt (x : FVec Ideal S4x2048 .f32) (w : FVec Ideal S2048x4096 .f32) (b : FVec Ideal S4096 .f32)
    (r : Fin 8) (j : Fin 4096) : EReal :=
  (∑ k : Fin 2048, silu (cpad x (ix2 r k)) * w (ix2 k j)) + b (ix1 j)

/-- … as an array. -/
def out (x : FVec Ideal S4x2048 .f32) (w : FVec Ideal S2048x4096 .f32) (b : FVec Ideal S4096 .f32) :
    FVec Ideal S1x8x4096 .f32 := fun i => outAt x w b (i 1) (i 2)

theorem V_v0 (c : Dev nD) : V m c main_v0 = cpad (cin m c) := by
  show StableHlo.after (List.flatten [hostOps0 (F := Ideal), hostOps0_1, hostOps0_2]) _ (Proc.devRef .tc main_v0) = _
  simp only [hostOps0, hostOps0_1, hostOps0_2, List.flatten_cons, List.flatten_nil, List.append_nil, List.cons_append, List.nil_append]
  after_results
  rfl
theorem V_v1 (c : Dev nD) : V m c main_v1 = broadcastInDim S1x2048x4096 ![1, 2] bcast_S2048x4096_S1x2048x4096_1_2 (wts m c) := by
  show StableHlo.after (List.flatten [hostOps0 (F := Ideal), hostOps0_1, hostOps0_2]) _ (Proc.devRef .tc main_v1) = _
  simp only [hostOps0, hostOps0_1, hostOps0_2, List.flatten_cons, List.flatten_nil, List.append_nil, List.cons_append, List.nil_append]
  after_results
theorem V_v3 (c : Dev nD) : V m c main_v3
    = shapeCast S1x1x4096 (broadcastInDim S1x4096 ![1] bcast_S4096_S1x4096_1 (bias m c)) shapeCasts_S1x4096_S1x1x4096 := by
  show StableHlo.after (List.flatten [hostOps0 (F := Ideal), hostOps0_1, hostOps0_2]) _ (Proc.devRef .tc main_v3) = _
  simp only [hostOps0, hostOps0_1, hostOps0_2, List.flatten_cons, List.flatten_nil, List.append_nil, List.cons_append, List.nil_append]
  after_results
  rfl

/-- The index maps over the grid. -/
theorem idx_facts : ∀ t : Fin cfg0.N, t.val < 2
    ∧ win0_0.index t 0 = 0 ∧ win0_0.index t 1 = 0
    ∧ win0_1.index t 0 = 0 ∧ win0_1.index t 1 = 0 ∧ win0_1.index t 2 = t.val
    ∧ win0_2.index t 0 = 0 ∧ win0_2.index t 1 = 0 ∧ win0_2.index t 2 = t.val
    ∧ win0_3.index t 0 = 0 ∧ win0_3.index t 1 = 0 ∧ win0_3.index t 2 = t.val :=
  (by decide +kernel : ∀ t : Fin grid0.N, _)

theorem lt2 (t : Fin cfg0.N) : t.val < 2 := (idx_facts t).1

theorem blk0 (c : Dev nD) (t : Fin cfg0.N) (p : Fin 8) (k : Fin 2048) :
    (iblk m c 0 t : FVec Ideal S8x2048 .f32) (ix2 p k) = cpad (cin m c) (ix2 p k) := by
  obtain ⟨-, e0, e1, -⟩ := idx_facts t
  unfold iblk; rw [View.read_apply]
  show V m c main_v0 _ = _
  rw [V_v0]
  congr 1; funext a; apply Fin.ext
  match a with
  | ⟨0, _⟩ => show win0_0.index t 0 * 8 + 1 * p.val = p.val; rw [e0]; omega
  | ⟨1, _⟩ => show win0_0.index t 1 * 2048 + 1 * k.val = k.val; rw [e1]; omega

theorem blk1 (c : Dev nD) (t : Fin cfg0.N) (k : Fin 2048) (q : Fin 2048) :
    (iblk m c 1 t : FVec Ideal S1x2048x2048 .f32) (ix3 (0 : Fin 1) k q)
      = wts m c (ix2 k (⟨t.val * 2048 + q.val, by have := lt2 t; omega⟩ : Fin 4096)) := by
  obtain ⟨-, -, -, e0, e1, e2, -⟩ := idx_facts t
  unfold iblk; rw [View.read_apply]
  show V m c main_v1 _ = _
  rw [V_v1]
  refine broadcastInDim_apply _ _ _ _ _ fun a => ?_
  match a with
  | ⟨0, _⟩ => show k.val = if (2048 : Nat) = 1 then 0 else win0_1.index t 1 * 2048 + 1 * k.val; rw [e1, if_neg (by decide)]; omega
  | ⟨1, _⟩ => show t.val * 2048 + q.val = if (4096 : Nat) = 1 then 0 else win0_1.index t 2 * 2048 + 1 * q.val; rw [e2, if_neg (by decide)]; omega

theorem blk2 (c : Dev nD) (t : Fin cfg0.N) (q : Fin 2048) :
    (iblk m c 2 t : FVec Ideal S1x1x2048 .f32) (ix3 (0 : Fin 1) (0 : Fin 1) q)
      = bias m c (ix1 (⟨t.val * 2048 + q.val, by have := lt2 t; omega⟩ : Fin 4096)) := by
  obtain ⟨hN, -, -, -, -, -, e0, e1, e2, -⟩ := idx_facts t
  unfold iblk; rw [View.read_apply]
  show V m c main_v3 _ = _
  rw [V_v3]
  refine (shapeCast_apply _ _ _ (ix2 (0 : Fin 1) (⟨t.val * 2048 + q.val, by omega⟩ : Fin 4096)) ?_).trans ?_
  · rw [Shape.rowMajor_val_two, Shape.rowMajor_val_three]
    show 0 * 4096 + (t.val * 2048 + q.val)
      = ((win0_2.index t 0 * 1 + 1 * 0) * 1 + (win0_2.index t 1 * 1 + 1 * 0)) * 4096 + (win0_2.index t 2 * 2048 + 1 * q.val)
    rw [e0, e1, e2]; omega
  · refine broadcastInDim_apply _ _ _ _ _ fun a => ?_
    match a with
    | ⟨0, _⟩ => show t.val * 2048 + q.val = if (4096 : Nat) = 1 then 0 else t.val * 2048 + q.val; rw [if_neg (by decide)]

/-- The body's arithmetic at an index, as for the layers' vectors. -/
theorem pay_apply (x0 : FVec Ideal S8x2048 .f32) (x1 : FVec Ideal S1x2048x2048 .f32) (x2 : FVec Ideal S1x1x2048 .f32)
    (p : Fin 8) (q : Fin 2048) (h : ∀ k, x0 (ix2 p k) ≠ ⊤) : k0_pay1 (F := Ideal) x0 x1 x2 (ix3 (0 : Fin 1) p q)
      = (∑ k : Fin 2048, silu (x0 (ix2 p k)) * x1 (ix3 (0 : Fin 1) k q)) + x2 (ix3 (0 : Fin 1) (0 : Fin 1) q) :=
  Cert.ModVecIdeal.Own.pay_apply x0 x1 x2 p q h

/-- What point `t` writes back is its block of the result. -/
theorem flushed_eq (c : Dev nD) (hc : ∀ i, cin m c i ≠ ⊤) (t : Fin cfg0.N) :
    (dats m 0 c).flushed 3 t = (win0_3.blk t).view.read (Elt Ideal) (out (cin m c) (wts m c) (bias m c)) := by
  obtain ⟨hN, -, -, -, -, -, -, -, -, e0, e1, e2⟩ := idx_facts t
  rw [Value.flushed3]
  unfold out0_3
  rw [View.canon_unit_zero hz3, View.ld_unit_zero hz2, View.ld_unit_zero hz3, View.ld_unit_zero hz3]
  funext j
  obtain ⟨z, p, q, rfl⟩ : ∃ (z : Fin 1) (p : Fin 8) (q : Fin 2048), j = ix3 z p q := ⟨j 0, j 1, j 2, ValueIdx.eq_ix3 j⟩
  obtain rfl : z = 0 := Subsingleton.elim _ _
  show k0_pay1 (F := Ideal) (iblk m c 0 t) (iblk m c 1 t) (iblk m c 2 t) (ix3 (0 : Fin 1) p q) = _
  rw [pay_apply _ _ _ _ _ fun k => by rw [blk0]; exact cpad_ne_top _ hc _]
  simp only [blk0, blk1, blk2]
  show _ = out (cin m c) (wts m c) (bias m c) ((win0_3.blk t).view.emb (ix3 (0 : Fin 1) p q))
  have hj : (win0_3.blk t).view.emb (ix3 (0 : Fin 1) p q)
      = ix3 (0 : Fin 1) p (⟨t.val * 2048 + q.val, by omega⟩ : Fin 4096) := by
    funext a; apply Fin.ext
    match a with
    | ⟨0, _⟩ => show win0_3.index t 0 * 1 + 1 * 0 = 0; rw [e0]
    | ⟨1, _⟩ => show win0_3.index t 1 * 8 + 1 * p.val = p.val; rw [e1]; omega
    | ⟨2, _⟩ => show win0_3.index t 2 * 2048 + 1 * q.val = t.val * 2048 + q.val; rw [e2]; omega
  rw [hj]
  rfl

theorem mem_blk (t : Fin cfg0.N) (i : S1x8x4096.Idx) :
    i ∈ ((cfg0.win 3).blk t).view.set ↔ ∀ a : Fin 3, win0_3.index t a * S1x8x2048.size a ≤ (i a).val
      ∧ (i a).val < win0_3.index t a * S1x8x2048.size a + S1x8x2048.size a := by
  show i ∈ ((View.whole main_v4).slice (win0_3.rect t)).set ↔ _
  rw [View.set_slice_whole, Rect.mem_set_unit]
  exact Iff.rfl

/-- Every index of the result lies in some point's block. -/
theorem cover (i : S1x8x4096.Idx) : ∃ t : Fin cfg0.N, (cfg0.win 3).flush t = true ∧ i ∈ ((cfg0.win 3).blk t).view.set := by
  have h0 : (i 0).val < 1 := (i 0).isLt
  have h1 : (i 1).val < 8 := (i 1).isLt
  have h2 : (i 2).val < 4096 := (i 2).isLt
  refine ⟨⟨(i 2).val / 2048, lt_of_lt_of_eq (b := 2) (by omega) N_0.symm⟩, flush0_3 _, ?_⟩
  rw [mem_blk]
  obtain ⟨-, -, -, -, -, -, -, -, -, e0, e1, e2⟩ :=
    idx_facts ⟨(i 2).val / 2048, lt_of_lt_of_eq (b := 2) (by omega) N_0.symm⟩
  intro a
  match a with
  | ⟨0, _⟩ =>
    show win0_3.index _ 0 * 1 ≤ (i 0).val ∧ (i 0).val < win0_3.index _ 0 * 1 + 1
    rw [e0]; dsimp only; omega
  | ⟨1, _⟩ =>
    show win0_3.index _ 1 * 8 ≤ (i 1).val ∧ (i 1).val < win0_3.index _ 1 * 8 + 8
    rw [e1]; omega
  | ⟨2, _⟩ =>
    show win0_3.index _ 2 * 2048 ≤ (i 2).val ∧ (i 2).val < win0_3.index _ 2 * 2048 + 2048
    rw [e2]; dsimp only; omega

theorem run (hc : ∀ c i, cin m c i ≠ ⊤) : θ_run defs (onTc (τ := τ) (main (F := Ideal))) ⟨m, fun _ => 0, ρ⟩ fun r => ∀ c : Dev nD,
      r.2.mem ((c : Thread nD τ).loc main_v4) = out (cin m c) (wts m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed_eq m c (hc c) t) cover),
    (h c).2⟩) (Value.run_blocks m ρ)

/-- The precondition read: no conditioning entry is `⊤`. -/
theorem ne_top (h : Cert.Pre_FinModIdeal_below_infinity_final m) (c : Dev nD) (i : S4x2048.Idx) : cin m c i ≠ ⊤ := by
  have e := congrFun (h c) i
  intro ht
  simp only [Cert.Pre_below_infinity_final.fn, cmpf] at e
  revert e
  show ¬ Ideal.cmp .olt (cin m c i) _ = 1#1
  rw [ht]
  simp [Ideal.cmp]

end Cert.FinModIdeal.Own

namespace Cert.FinModRefIdeal.Own

open Cert.FinModRefIdeal Cert.FinModRefIdeal.Read Idealize.ShloMosaic

/-- The reference's result is the kernel's. -/
theorem ref_eq (x0 : FVec Ideal S4x2048 .f32) (x1 : FVec Ideal S2048x4096 .f32) (x2 : FVec Ideal S4096 .f32) :
    val_main_v6 (F := Ideal) x0 x1 x2 = Cert.FinModIdeal.Own.out x0 x1 x2 := by
  funext i
  obtain ⟨l, r, j, rfl⟩ : ∃ (l : Fin 1) (r : Fin 8) (j : Fin 4096), i = ix3 l r j := ⟨i 0, i 1, i 2, ValueIdx.eq_ix3 i⟩
  show _ = Cert.FinModIdeal.Own.outAt x0 x1 x2 r j
  unfold Cert.FinModIdeal.Own.outAt Cert.ModVecIdeal.Own.silu Ideal.logistic
  have hp : val_main_v0 (F := Ideal) x0 = Cert.ModVecIdeal.Own.cpad x0 := rfl
  rw [← hp]
  unfold val_main_v6 val_main_v5 val_main_v4 val_main_v3 val_main_v2 val_main_v1 val_main_call1_v5 val_main_call1_v4
    val_main_call1_v3 val_main_call1_v2 val_main_call1_v1 val_main_call1_v0 val_main_call1_cst val_main_call1_cst_0
  generalize val_main_v0 (F := Ideal) x0 = y
  pointwise

end Cert.FinModRefIdeal.Own

end
-- ==== Proof.FinModClaim.lean ====
module

public import proofs.«01_k».proof.Proof.FinModValue

@[expose] public section

noncomputable section

namespace Cert.FinModRefIdeal.Own

open Idealize.ShloMosaic Idealize.SL.Sem Cert.FinModRefIdeal

/-- The reference runs, leaves its arguments and counts nothing: it has no semaphore. -/
theorem quiet : Cert.quiescent_FinModRefIdeal := fun m ρ _ =>
  (θ_run _ _ _).mono (fun _ h => ⟨fun c => (h c).2, funext fun g => nomatch g.2⟩) (Value.run (F := Ideal) m ρ)

/-- The kernel and the reference end with the same vectors. -/
theorem agree : Cert.algebraic_FinModIdeal_FinModRefIdeal_pre_below_infinity_final := fun m ρ m' ρ' hp hag =>
  ⟨fun c => FinModIdeal.Own.out (FinModIdeal.Own.cin m c) (FinModIdeal.Own.wts m c) (FinModIdeal.Own.bias m c),
    FinModIdeal.Own.run m ρ (FinModIdeal.Own.ne_top m hp),
    (θ_run _ _ _).mono (fun _ h c => by
      obtain ⟨a0, a1, a2⟩ := hag c
      refine ⟨(h c).1.trans ?_, (h c).2⟩
      rw [a0, a1, a2]
      exact (Read.val_main_v6_eq _ _ _).trans (ref_eq _ _ _)) (Value.run (F := Ideal) m' ρ')⟩

end Cert.FinModRefIdeal.Own

end
-- ==== Proof.lean ====
module

public import proofs.«01_k».proof.Defs
public import proofs.«01_k».proof.Proof.Gen.Kernel.Frame
public import proofs.«01_k».proof.Proof.Gen.KernelIdeal.Frame
public import proofs.«01_k».proof.Proof.KernelClaim
public import proofs.«01_k».proof.Proof.Gen.FfnUp.Frame
public import proofs.«01_k».proof.Proof.Gen.FfnUpIdeal.Frame
public import proofs.«01_k».proof.Proof.FfnUpClaim
public import proofs.«01_k».proof.Proof.Gen.FfnDown.Frame
public import proofs.«01_k».proof.Proof.Gen.FfnDownIdeal.Frame
public import proofs.«01_k».proof.Proof.FfnDownClaim
public import proofs.«01_k».proof.Proof.Gen.RetIn.Frame
public import proofs.«01_k».proof.Proof.Gen.RetInIdeal.Frame
public import proofs.«01_k».proof.Proof.RetInClaim
public import proofs.«01_k».proof.Proof.Gen.RetOut.Frame
public import proofs.«01_k».proof.Proof.Gen.RetOutIdeal.Frame
public import proofs.«01_k».proof.Proof.RetOutClaim
public import proofs.«01_k».proof.Proof.Gen.MlstmIn.Frame
public import proofs.«01_k».proof.Proof.Gen.MlstmInIdeal.Frame
public import proofs.«01_k».proof.Proof.MlstmInClaim
public import proofs.«01_k».proof.Proof.Gen.RwkvIn.Frame
public import proofs.«01_k».proof.Proof.Gen.RwkvInIdeal.Frame
public import proofs.«01_k».proof.Proof.RwkvInClaim
public import proofs.«01_k».proof.Proof.Gen.MlstmOut.Frame
public import proofs.«01_k».proof.Proof.Gen.MlstmOutIdeal.Frame
public import proofs.«01_k».proof.Proof.MlstmOutClaim
public import proofs.«01_k».proof.Proof.Gen.RwkvOut.Frame
public import proofs.«01_k».proof.Proof.Gen.RwkvOutIdeal.Frame
public import proofs.«01_k».proof.Proof.RwkvOutClaim
public import proofs.«01_k».proof.Proof.Gen.Final.Frame
public import proofs.«01_k».proof.Proof.Gen.FinalIdeal.Frame
public import proofs.«01_k».proof.Proof.FinalClaim
public import proofs.«01_k».proof.Proof.Gen.ModVec.Frame
public import proofs.«01_k».proof.Proof.Gen.ModVecIdeal.Frame
public import proofs.«01_k».proof.Proof.ModVecClaim
public import proofs.«01_k».proof.Proof.Gen.FinMod.Frame
public import proofs.«01_k».proof.Proof.Gen.FinModIdeal.Frame
public import proofs.«01_k».proof.Proof.FinModClaim

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.RetIn.Gen.facts,
    Cert.RetInIdeal.Gen.facts,
    Cert.RetInRefIdeal.Gen.facts,
    Cert.RetOut.Gen.facts,
    Cert.RetOutIdeal.Gen.facts,
    Cert.RetOutRefIdeal.Gen.facts,
    Cert.MlstmIn.Gen.facts,
    Cert.MlstmInIdeal.Gen.facts,
    Cert.MlstmInRefIdeal.Gen.facts,
    Cert.RwkvIn.Gen.facts,
    Cert.RwkvInIdeal.Gen.facts,
    Cert.RwkvInRefIdeal.Gen.facts,
    Cert.MlstmOut.Gen.facts,
    Cert.MlstmOutIdeal.Gen.facts,
    Cert.MlstmOutRefIdeal.Gen.facts,
    Cert.RwkvOut.Gen.facts,
    Cert.RwkvOutIdeal.Gen.facts,
    Cert.RwkvOutRefIdeal.Gen.facts,
    Cert.Final.Gen.facts,
    Cert.FinalIdeal.Gen.facts,
    Cert.FinalRefIdeal.Gen.facts,
    Cert.ModVec.Gen.facts,
    Cert.ModVecIdeal.Gen.facts,
    Cert.ModVecRefIdeal.Gen.facts,
    Cert.FinMod.Gen.facts,
    Cert.FinModIdeal.Gen.facts,
    Cert.FinModRefIdeal.Gen.facts,
    Cert.Pre_below_infinity.Gen.facts,
    Cert.Pre_below_infinity_final.Gen.facts,
    fun m ρ _ => Cert.Kernel.Gen.frame m ρ,
    fun m ρ _ => Cert.KernelIdeal.Gen.frame m ρ,
    Cert.ReferenceIdeal.Own.quiet,
    fun m ρ _ => Cert.FfnUp.Gen.frame m ρ,
    fun m ρ _ => Cert.FfnUpIdeal.Gen.frame m ρ,
    Cert.FfnUpRefIdeal.Own.quiet,
    fun m ρ _ => Cert.FfnDown.Gen.frame m ρ,
    fun m ρ _ => Cert.FfnDownIdeal.Gen.frame m ρ,
    Cert.FfnDownRefIdeal.Own.quiet,
    fun m ρ _ => Cert.RetIn.Gen.frame m ρ,
    fun m ρ _ => Cert.RetInIdeal.Gen.frame m ρ,
    Cert.RetInRefIdeal.Own.quiet,
    fun m ρ _ => Cert.RetOut.Gen.frame m ρ,
    fun m ρ _ => Cert.RetOutIdeal.Gen.frame m ρ,
    Cert.RetOutRefIdeal.Own.quiet,
    fun m ρ _ => Cert.MlstmIn.Gen.frame m ρ,
    fun m ρ _ => Cert.MlstmInIdeal.Gen.frame m ρ,
    Cert.MlstmInRefIdeal.Own.quiet,
    fun m ρ _ => Cert.RwkvIn.Gen.frame m ρ,
    fun m ρ _ => Cert.RwkvInIdeal.Gen.frame m ρ,
    Cert.RwkvInRefIdeal.Own.quiet,
    fun m ρ _ => Cert.MlstmOut.Gen.frame m ρ,
    fun m ρ _ => Cert.MlstmOutIdeal.Gen.frame m ρ,
    Cert.MlstmOutRefIdeal.Own.quiet,
    fun m ρ _ => Cert.RwkvOut.Gen.frame m ρ,
    fun m ρ _ => Cert.RwkvOutIdeal.Gen.frame m ρ,
    Cert.RwkvOutRefIdeal.Own.quiet,
    fun m ρ _ => Cert.Final.Gen.frame m ρ,
    fun m ρ _ => Cert.FinalIdeal.Gen.frame m ρ,
    Cert.FinalRefIdeal.Own.quiet,
    fun m ρ _ => Cert.ModVec.Gen.frame m ρ,
    fun m ρ _ => Cert.ModVecIdeal.Gen.frame m ρ,
    fun m ρ _ => Cert.ModVecIdeal.Gen.frame m ρ,
    Cert.ModVecRefIdeal.Own.quiet,
    fun m ρ _ => Cert.ModVecRefIdeal.Own.quiet m ρ trivial,
    fun m ρ _ => Cert.FinMod.Gen.frame m ρ,
    fun m ρ _ => Cert.FinModIdeal.Gen.frame m ρ,
    fun m ρ _ => Cert.FinModIdeal.Gen.frame m ρ,
    Cert.FinModRefIdeal.Own.quiet,
    fun m ρ _ => Cert.FinModRefIdeal.Own.quiet m ρ trivial,
    IdealRules.named_const.statement Cert.KernelIdeal.κ "mask" .f32 0xF149F2CA#32 ⊥ rfl,
    Cert.ReferenceIdeal.Own.agree,
    trivial,
    Cert.FfnUpRefIdeal.Own.agree,
    trivial,
    Cert.FfnDownRefIdeal.Own.agree,
    trivial,
    Cert.RetInRefIdeal.Own.agree,
    trivial,
    Cert.RetOutRefIdeal.Own.agree,
    trivial,
    Cert.MlstmInRefIdeal.Own.agree,
    trivial,
    Cert.RwkvInRefIdeal.Own.agree,
    trivial,
    Cert.MlstmOutRefIdeal.Own.agree,
    trivial,
    Cert.RwkvOutRefIdeal.Own.agree,
    trivial,
    Cert.FinalRefIdeal.Own.agree,
    trivial,
    Cert.ModVecRefIdeal.Own.agree,
    trivial,
    Cert.FinModRefIdeal.Own.agree⟩

end Cert.Proof

end
